-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_front [hPre_finite_front : Cert.Pre_finite_front.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.2.1 = (fun _ => 1#1)
    ∧ (Cert.Pre_finite_front.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_front [hPre_finite_front : Cert.Pre_finite_front.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.2.1 = (fun _ => 1#1)
    ∧ (Cert.Pre_finite_front.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_front [hKernel2Ideal : Cert.Kernel2Ideal.Facts] [hPre_finite_front : Cert.Pre_finite_front.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_front m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_front [hReference2Ideal : Cert.Reference2Ideal.Facts] [hPre_finite_front : Cert.Pre_finite_front.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_front m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)) (v8 : (c : Dev Cert.KernelIdeal.nD) → Buf (Elt Ideal) ((c.tc : Thread Cert.KernelIdeal.nD Cert.KernelIdeal.τ).loc Cert.KernelIdeal.main_v13_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_v13_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_v138) = v4 c
          ∧ r.2.mem ((c.tc : Thread Cert.ReferenceIdeal.nD Cert.ReferenceIdeal.τ).loc Cert.ReferenceIdeal.main_v124) = v5 c
          ∧ r.2.mem ((c.tc : Thread Cert.ReferenceIdeal.nD Cert.ReferenceIdeal.τ).loc Cert.ReferenceIdeal.main_v123) = v6 c
          ∧ r.2.mem ((c.tc : Thread Cert.ReferenceIdeal.nD Cert.ReferenceIdeal.τ).loc Cert.ReferenceIdeal.main_v82) = v7 c
          ∧ r.2.mem ((c.tc : Thread Cert.ReferenceIdeal.nD Cert.ReferenceIdeal.τ).loc Cert.ReferenceIdeal.main_v66) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite_front [hKernel2Ideal : Cert.Kernel2Ideal.Facts] [hReference2Ideal : Cert.Reference2Ideal.Facts] [hPre_finite_front : Cert.Pre_finite_front.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_front m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v192_0)) (v1 : (c : Dev Cert.Kernel2Ideal.nD) → Buf (Elt Ideal) ((c.tc : Thread Cert.Kernel2Ideal.nD Cert.Kernel2Ideal.τ).loc Cert.Kernel2Ideal.main_v192_1)) (v2 : (c : Dev Cert.Kernel2Ideal.nD) → Buf (Elt Ideal) ((c.tc : Thread Cert.Kernel2Ideal.nD Cert.Kernel2Ideal.τ).loc Cert.Kernel2Ideal.main_v192_2)) (v3 : (c : Dev Cert.Kernel2Ideal.nD) → Buf (Elt Ideal) ((c.tc : Thread Cert.Kernel2Ideal.nD Cert.Kernel2Ideal.τ).loc Cert.Kernel2Ideal.main_v192_3)) (v4 : (c : Dev Cert.Kernel2Ideal.nD) → Buf (Elt Ideal) ((c.tc : Thread Cert.Kernel2Ideal.nD Cert.Kernel2Ideal.τ).loc Cert.Kernel2Ideal.main_v192_4)) (v5 : (c : Dev Cert.Kernel2Ideal.nD) → Buf (Elt Ideal) ((c.tc : Thread Cert.Kernel2Ideal.nD Cert.Kernel2Ideal.τ).loc Cert.Kernel2Ideal.main_v192_5)) (v6 : (c : Dev Cert.Kernel2Ideal.nD) → Buf (Elt Ideal) ((c.tc : Thread Cert.Kernel2Ideal.nD Cert.Kernel2Ideal.τ).loc Cert.Kernel2Ideal.main_v194)) (v7 : (c : Dev Cert.Kernel2Ideal.nD) → Buf (Elt Ideal) ((c.tc : Thread Cert.Kernel2Ideal.nD Cert.Kernel2Ideal.τ).loc Cert.Kernel2Ideal.main_v192_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v192_0) = v0 c
          ∧ r.2.mem ((c.tc : Thread Cert.Kernel2Ideal.nD Cert.Kernel2Ideal.τ).loc Cert.Kernel2Ideal.main_v192_1) = v1 c
          ∧ r.2.mem ((c.tc : Thread Cert.Kernel2Ideal.nD Cert.Kernel2Ideal.τ).loc Cert.Kernel2Ideal.main_v192_2) = v2 c
          ∧ r.2.mem ((c.tc : Thread Cert.Kernel2Ideal.nD Cert.Kernel2Ideal.τ).loc Cert.Kernel2Ideal.main_v192_3) = v3 c
          ∧ r.2.mem ((c.tc : Thread Cert.Kernel2Ideal.nD Cert.Kernel2Ideal.τ).loc Cert.Kernel2Ideal.main_v192_4) = v4 c
          ∧ r.2.mem ((c.tc : Thread Cert.Kernel2Ideal.nD Cert.Kernel2Ideal.τ).loc Cert.Kernel2Ideal.main_v192_5) = v5 c
          ∧ r.2.mem ((c.tc : Thread Cert.Kernel2Ideal.nD Cert.Kernel2Ideal.τ).loc Cert.Kernel2Ideal.main_v194) = v6 c
          ∧ r.2.mem ((c.tc : Thread Cert.Kernel2Ideal.nD Cert.Kernel2Ideal.τ).loc Cert.Kernel2Ideal.main_v192_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v335) = v0 c
          ∧ r.2.mem ((c.tc : Thread Cert.Reference2Ideal.nD Cert.Reference2Ideal.τ).loc Cert.Reference2Ideal.main_v336) = v1 c
          ∧ r.2.mem ((c.tc : Thread Cert.Reference2Ideal.nD Cert.Reference2Ideal.τ).loc Cert.Reference2Ideal.main_v337) = v2 c
          ∧ r.2.mem ((c.tc : Thread Cert.Reference2Ideal.nD Cert.Reference2Ideal.τ).loc Cert.Reference2Ideal.main_v329) = v3 c
          ∧ r.2.mem ((c.tc : Thread Cert.Reference2Ideal.nD Cert.Reference2Ideal.τ).loc Cert.Reference2Ideal.main_v265) = v4 c
          ∧ r.2.mem ((c.tc : Thread Cert.Reference2Ideal.nD Cert.Reference2Ideal.τ).loc Cert.Reference2Ideal.main_v264) = v5 c
          ∧ r.2.mem ((c.tc : Thread Cert.Reference2Ideal.nD Cert.Reference2Ideal.τ).loc Cert.Reference2Ideal.main_v338) = v6 c
          ∧ r.2.mem ((c.tc : Thread Cert.Reference2Ideal.nD Cert.Reference2Ideal.τ).loc Cert.Reference2Ideal.main_v340) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite_front : Cert.Pre_finite_front.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_front (hKernel2Ideal := hKernel2Ideal) (hPre_finite_front := hPre_finite_front)
    ∧ quiescent_Reference2Ideal (hReference2Ideal := hReference2Ideal)
    ∧ quiescent_Reference2Ideal_pre_finite_front (hReference2Ideal := hReference2Ideal) (hPre_finite_front := hPre_finite_front)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_front (hKernel2Ideal := hKernel2Ideal) (hReference2Ideal := hReference2Ideal) (hPre_finite_front := hPre_finite_front)
-- ==== Pre_finite.lean ====
abbrev S1x8192x2048 : Shape := ⟨3, ![1, 8192, 2048]⟩
abbrev S1x8192x1024 : Shape := ⟨3, ![1, 8192, 1024]⟩
abbrev S1x1x8192x256 : Shape := ⟨4, ![1, 1, 8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S_ : Shape := ⟨0, ![]⟩

class Facts : Prop where
  bcast_S_S1x8192x2048 : S_.BroadcastsInDim S1x8192x2048 (![] : Fin 0 → Fin S1x8192x2048.rank)
  bcast_S_S1x8192x1024 : S_.BroadcastsInDim S1x8192x1024 (![] : Fin 0 → Fin S1x8192x1024.rank)
  bcast_S_S1x1x8192x256 : S_.BroadcastsInDim S1x1x8192x256 (![] : Fin 0 → Fin S1x1x8192x256.rank)
  bcast_S_S1x2048x1024 : S_.BroadcastsInDim S1x2048x1024 (![] : Fin 0 → Fin S1x2048x1024.rank)
  bcast_S_S1x1024x1024 : S_.BroadcastsInDim S1x1024x1024 (![] : Fin 0 → Fin S1x1024x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)

variable [Facts]

def fn_part1 {F : FTy → Type} [FloatOps F] (main_arg6 : FVec F S1x256x1024 .f32) (main_arg7 : FVec F S1x1024 .f32) (main_arg8 : FVec F S1x1024 .f32) (main_v2 : IVec S1x8192x2048 1) (main_v5 : IVec S1x8192x1024 1) (main_v8 : IVec S1x1x8192x256 1) (main_v11 : IVec S1x8192x1024 1) (main_v14 : IVec S1x2048x1024 1) (main_v17 : IVec S1x1024x1024 1) : IVec S1x8192x2048 1 × IVec S1x8192x1024 1 × IVec S1x1x8192x256 1 × IVec S1x8192x1024 1 × IVec S1x2048x1024 1 × IVec S1x1024x1024 1 × IVec S1x256x1024 1 × IVec S1x1024 1 × IVec S1x1024 1 :=
  let main_v18 : FVec F S1x256x1024 .f32 := Host.absf main_arg6
  let main_cst_5 : FVec F S_ .f32 := constant S_ .f32 0x7F800000#32
  let main_v19 : FVec F S1x256x1024 .f32 := broadcastInDim S1x256x1024 ![] bcast_S_S1x256x1024 main_cst_5
  let main_v20 : IVec S1x256x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S1x8192x2048 .f32) (main_arg1 : FVec F S1x8192x1024 .f32) (main_arg2 : FVec F S1x1x8192x256 .f32) (main_arg3 : FVec F S1x8192x1024 .f32) (main_arg4 : FVec F S1x2048x1024 .f32) (main_arg5 : FVec F S1x1024x1024 .f32) (main_arg6 : FVec F S1x256x1024 .f32) (main_arg7 : FVec F S1x1024 .f32) (main_arg8 : FVec F S1x1024 .f32) (main_arg9 : FVec F S1x1024 .f32) : IVec S1x8192x2048 1 × IVec S1x8192x1024 1 × IVec S1x1x8192x256 1 × IVec S1x8192x1024 1 × IVec S1x2048x1024 1 × IVec S1x1024x1024 1 × IVec S1x256x1024 1 × IVec S1x1024 1 × IVec S1x1024 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x1x8192x256 .f32 := Host.absf main_arg2
  let main_cst_1 : FVec F S_ .f32 := constant S_ .f32 0x7F800000#32
  let main_v7 : FVec F S1x1x8192x256 .f32 := broadcastInDim S1x1x8192x256 ![] bcast_S_S1x1x8192x256 main_cst_1
  let main_v8 : IVec S1x1x8192x256 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  let main_v15 : FVec F S1x1024x1024 .f32 := Host.absf main_arg5
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg6 main_arg7 main_arg8 main_v2 main_v5 main_v8 main_v11 main_v14 main_v17
-- ==== Pre_finite_front.lean ====
abbrev S1x8192x1024 : Shape := ⟨3, ![1, 8192, 1024]⟩
abbrev S1x8192x2048 : Shape := ⟨3, ![1, 8192, 2048]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S1x8192x1024 : S_.BroadcastsInDim S1x8192x1024 (![] : Fin 0 → Fin S1x8192x1024.rank)
  bcast_S_S1x8192x2048 : S_.BroadcastsInDim S1x8192x2048 (![] : Fin 0 → Fin S1x8192x2048.rank)
  bcast_S_S1x1024x5120 : S_.BroadcastsInDim S1x1024x5120 (![] : Fin 0 → Fin S1x1024x5120.rank)
  bcast_S_S1x4x256x256 : S_.BroadcastsInDim S1x4x256x256 (![] : Fin 0 → Fin S1x4x256x256.rank)
  bcast_S_S1x1024 : S_.BroadcastsInDim S1x1024 (![] : Fin 0 → Fin S1x1024.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)

variable [Facts]

def fn_part1 {F : FTy → Type} [FloatOps F] (main_arg7 : FVec F S1x1024 .f32) (main_arg8 : FVec F S1x4x128x128 .f32) (main_arg9 : FVec F S1x4x128 .f32) (main_v2 : IVec S1x8192x1024 1) (main_v5 : IVec S1x8192x2048 1) (main_v8 : IVec S1x1024x5120 1) (main_v11 : IVec S1x4x256x256 1) (main_v14 : IVec S1x1024 1) (main_v17 : IVec S1x1024 1) : IVec S1x8192x1024 1 × IVec S1x8192x2048 1 × IVec S1x1024x5120 1 × IVec S1x4x256x256 1 × IVec S1x1024 1 × IVec S1x1024 1 × IVec S1x1024 1 × IVec S1x4x128x128 1 × IVec S1x4x128 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x4x128x128 .f32 := Host.absf main_arg8
  let main_cst_6 : FVec F S_ .f32 := constant S_ .f32 0x7F800000#32
  let main_v22 : FVec F S1x4x128x128 .f32 := broadcastInDim S1x4x128x128 ![] bcast_S_S1x4x128x128 main_cst_6
  let main_v23 : IVec S1x4x128x128 1 := cmpf .olt main_v21 main_v22
  let main_v24 : FVec F S1x4x128 .f32 := Host.absf main_arg9
  let main_cst_7 : FVec F S_ .f32 := constant S_ .f32 0x7F800000#32
  let main_v25 : FVec F S1x4x128 .f32 := broadcastInDim S1x4x128 ![] bcast_S_S1x4x128 main_cst_7
  let main_v26 : IVec S1x4x128 1 := cmpf .olt main_v24 main_v25
  (main_v2, main_v5, main_v8, main_v11, main_v14, main_v17, main_v20, main_v23, main_v26)

def fn {F : FTy → Type} [FloatOps F] (main_arg0 : FVec F S1x8192x1024 .f32) (main_arg1 : FVec F S1x8192x2048 .f32) (main_arg2 : FVec F S1x8192x1024 .f32) (main_arg3 : FVec F S1x1024x5120 .f32) (main_arg4 : FVec F S1x4x256x256 .f32) (main_arg5 : FVec F S1x1024 .f32) (main_arg6 : FVec F S1x1024 .f32) (main_arg7 : FVec F S1x1024 .f32) (main_arg8 : FVec F S1x4x128x128 .f32) (main_arg9 : FVec F S1x4x128 .f32) : IVec S1x8192x1024 1 × IVec S1x8192x2048 1 × IVec S1x1024x5120 1 × IVec S1x4x256x256 1 × IVec S1x1024 1 × IVec S1x1024 1 × IVec S1x1024 1 × IVec S1x4x128x128 1 × IVec S1x4x128 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x2048 .f32 := Host.absf main_arg1
  let main_cst_0 : FVec F S_ .f32 := constant S_ .f32 0x7F800000#32
  let main_v4 : FVec F S1x8192x2048 .f32 := broadcastInDim S1x8192x2048 ![] bcast_S_S1x8192x2048 main_cst_0
  let main_v5 : IVec S1x8192x2048 1 := cmpf .olt main_v3 main_v4
  let main_v6 : FVec F S1x1024x5120 .f32 := Host.absf main_arg3
  let main_cst_1 : FVec F S_ .f32 := constant S_ .f32 0x7F800000#32
  let main_v7 : FVec F S1x1024x5120 .f32 := broadcastInDim S1x1024x5120 ![] bcast_S_S1x1024x5120 main_cst_1
  let main_v8 : IVec S1x1024x5120 1 := cmpf .olt main_v6 main_v7
  let main_v9 : FVec F S1x4x256x256 .f32 := Host.absf main_arg4
  let main_cst_2 : FVec F S_ .f32 := constant S_ .f32 0x7F800000#32
  let main_v10 : FVec F S1x4x256x256 .f32 := broadcastInDim S1x4x256x256 ![] bcast_S_S1x4x256x256 main_cst_2
  let main_v11 : IVec S1x4x256x256 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg7 main_arg8 main_arg9 main_v2 main_v5 main_v8 main_v11 main_v14 main_v17
-- ==== Kernel.lean ====
abbrev S1x8192x2048 : Shape := ⟨3, ![1, 8192, 2048]⟩
abbrev S1x8192x1024 : Shape := ⟨3, ![1, 8192, 1024]⟩
abbrev S1x1x8192x256 : Shape := ⟨4, ![1, 1, 8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S256x1024 : Shape := ⟨2, ![256, 1024]⟩
abbrev S256x4x256 : Shape := ⟨3, ![256, 4, 256]⟩
abbrev S4x256x256 : Shape := ⟨3, ![4, 256, 256]⟩
abbrev S8192x2048 : Shape := ⟨2, ![8192, 2048]⟩
abbrev S8192x1024 : Shape := ⟨2, ![8192, 1024]⟩
abbrev S8192x256 : Shape := ⟨2, ![8192, 256]⟩
abbrev S2048x1024 : Shape := ⟨2, ![2048, 1024]⟩
abbrev S1024x1024 : Shape := ⟨2, ![1024, 1024]⟩
abbrev S512x2048 : Shape := ⟨2, ![512, 2048]⟩
abbrev S512x1024 : Shape := ⟨2, ![512, 1024]⟩
abbrev S512x256 : Shape := ⟨2, ![512, 256]⟩
abbrev S3 : Shape := ⟨1, ![3]⟩
abbrev S1 : Shape := ⟨1, ![1]⟩
abbrev S_ : Shape := ⟨0, ![]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S1024 : Shape := ⟨1, ![1024]⟩
abbrev S1024x256 : Shape := ⟨2, ![1024, 256]⟩
abbrev S256x512 : Shape := ⟨2, ![256, 512]⟩
abbrev S2048x256 : Shape := ⟨2, ![2048, 256]⟩

abbrev nBuf : Space → Nat
  | .hbm => 32
  | .vmem => 25
  | .smem => 0
  | _ => 0

abbrev bufTy : (tb : Table) → Fin (tcTables nBuf tb) → BufTy
  | .hbm, ⟨0, _⟩ => ⟨S1x8192x2048, .f32⟩
  | .hbm, ⟨1, _⟩ => ⟨S1x8192x1024, .f32⟩
  | .hbm, ⟨2, _⟩ => ⟨S1x1x8192x256, .f32⟩
  | .hbm, ⟨3, _⟩ => ⟨S1x8192x1024, .f32⟩
  | .hbm, ⟨4, _⟩ => ⟨S1x2048x1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S256x1024, .f32⟩
  | .hbm, ⟨11, _⟩ => ⟨S256x1024, .bf16⟩
  | .hbm, ⟨12, _⟩ => ⟨S256x4x256, .bf16⟩
  | .hbm, ⟨13, _⟩ => ⟨S4x256x256, .bf16⟩
  | .hbm, ⟨14, _⟩ => ⟨S8192x2048, .f32⟩
  | .hbm, ⟨15, _⟩ => ⟨S8192x2048, .bf16⟩
  | .hbm, ⟨16, _⟩ => ⟨S8192x1024, .f32⟩
  | .hbm, ⟨17, _⟩ => ⟨S8192x256, .f32⟩
  | .hbm, ⟨18, _⟩ => ⟨S8192x1024, .f32⟩
  | .hbm, ⟨19, _⟩ => ⟨S2048x1024, .f32⟩
  | .hbm, ⟨20, _⟩ => ⟨S2048x1024, .bf16⟩
  | .hbm, ⟨21, _⟩ => ⟨S1024x1024, .f32⟩
  | .hbm, ⟨22, _⟩ => ⟨S1024x1024, .bf16⟩
  | .hbm, ⟨23, _⟩ => ⟨S8192x1024, .f32⟩
  | .hbm, ⟨24, _⟩ => ⟨S8192x2048, .bf16⟩
  | .hbm, ⟨25, _⟩ => ⟨S2048x1024, .f32⟩
  | .hbm, ⟨26, _⟩ => ⟨S1024x1024, .f32⟩
  | .hbm, ⟨27, _⟩ => ⟨S4x256x256, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | .local _ .vmem, ⟨14, _⟩ => ⟨S512x2048, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S2048x1024, .bf16⟩
  | .local _ .vmem, ⟨20, _⟩ => ⟨S1024x1024, .bf16⟩
  | .local _ .vmem, ⟨21, _⟩ => ⟨S4x256x256, .bf16⟩
  | .local _ .vmem, ⟨22, _⟩ => ⟨S2048x1024, .f32⟩
  | .local _ .vmem, ⟨23, _⟩ => ⟨S1024x1024, .f32⟩
  | .local _ .vmem, ⟨24, _⟩ => ⟨S4x256x256, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x8192x2048 : Shape := ⟨3, ![1, 8192, 2048]⟩
abbrev S1x8192x1024 : Shape := ⟨3, ![1, 8192, 1024]⟩
abbrev S1x1x8192x256 : Shape := ⟨4, ![1, 1, 8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S2048x1024 : Shape := ⟨2, ![2048, 1024]⟩
abbrev S_ : Shape := ⟨0, ![]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x1024 : Shape := ⟨2, ![1024, 1024]⟩
abbrev S1x8192x256 : Shape := ⟨3, ![1, 8192, 256]⟩
abbrev S256x1024 : Shape := ⟨2, ![256, 1024]⟩
abbrev S1024x256 : Shape := ⟨2, ![1024, 256]⟩
abbrev S8192 : Shape := ⟨1, ![8192]⟩
abbrev S1024x2048 : Shape := ⟨2, ![1024, 2048]⟩
abbrev S8192x1024 : Shape := ⟨2, ![8192, 1024]⟩
abbrev S8192x2048 : Shape := ⟨2, ![8192, 2048]⟩
abbrev S256x4x256 : Shape := ⟨3, ![256, 4, 256]⟩
abbrev S4x256x256 : Shape := ⟨3, ![4, 256, 256]⟩

abbrev nBuf : Space → Nat
  | .hbm => 183
  | .vmem => 0
  | .smem => 0
  | _ => 0

abbrev hbmTy0_0 (i : Nat) : BufTy := match i % 128 with
  | 0 => ⟨S1x8192x2048, .f32⟩
  | 1 => ⟨S1x8192x1024, .f32⟩
  | 2 => ⟨S1x1x8192x256, .f32⟩
  | 3 => ⟨S1x8192x1024, .f32⟩
  | 4 => ⟨S1x2048x1024, .f32⟩
  | 5 => ⟨S1x1024x1024, .f32⟩
  | 6 => ⟨S1x256x1024, .f32⟩
  | 7 => ⟨S1x1024, .f32⟩
  | 8 => ⟨S1x1024, .f32⟩
  | 9 => ⟨S1x1024, .f32⟩
  | 10 => ⟨S2048x1024, .f32⟩
  | 11 => ⟨S1x8192x1024, .f32⟩
  | 12 => ⟨S_, .f32⟩
  | 13 => ⟨S1x8192x1024, .f32⟩
  | 14 => ⟨S1x8192x1024, .f32⟩
  | 15 => ⟨S1x8192x1024, .f32⟩
  | 16 => ⟨S1024, .f32⟩
  | 17 => ⟨S1024, .f32⟩
  | 18 => ⟨S_, .f32⟩
  | 19 => ⟨S1x8192, .f32⟩
  | 20 => ⟨S1x8192x1, .f32⟩
  | 21 => ⟨S_, .f32⟩
  | 22 => ⟨S1x8192x1, .f32⟩
  | 23 => ⟨S1x8192x1, .f32⟩
  | 24 => ⟨S1x8192x1024, .f32⟩
  | 25 => ⟨S1x8192x1024, .f32⟩
  | 26 => ⟨S1x8192x1024, .f32⟩
  | 27 => ⟨S_, .f32⟩
  | 28 => ⟨S1x8192x1024, .f32⟩
  | 29 => ⟨S1x8192x1024, .f32⟩
  | 30 => ⟨S_, .f32⟩
  | 31 => ⟨S1x8192, .f32⟩
  | 32 => ⟨S1x8192x1, .f32⟩
  | 33 => ⟨S_, .f32⟩
  | 34 => ⟨S1x8192x1, .f32⟩
  | 35 => ⟨S1x8192x1, .f32⟩
  | 36 => ⟨S1x8192x1024, .f32⟩
  | 37 => ⟨S1x8192x1024, .f32⟩
  | 38 => ⟨S_, .f32⟩
  | 39 => ⟨S1x8192x1, .f32⟩
  | 40 => ⟨S1x8192x1, .f32⟩
  | 41 => ⟨S1x8192x1, .f32⟩
  | 42 => ⟨S1x8192x1, .f32⟩
  | 43 => ⟨S_, .f32⟩
  | 44 => ⟨S1x8192x1, .f32⟩
  | 45 => ⟨S1x8192x1, .f32⟩
  | 46 => ⟨S1x8192x1024, .f32⟩
  | 47 => ⟨S1x8192x1024, .f32⟩
  | 48 => ⟨S1x1x1024, .f32⟩
  | 49 => ⟨S1x8192x1024, .f32⟩
  | 50 => ⟨S1x8192x1024, .f32⟩
  | 51 => ⟨S1x1x1024, .f32⟩
  | 52 => ⟨S1x8192x1024, .f32⟩
  | 53 => ⟨S1x8192x1024, .f32⟩
  | 54 => ⟨S1024x1024, .f32⟩
  | 55 => ⟨S1x8192x1024, .f32⟩
  | 56 => ⟨S1024, .f32⟩
  | 57 => ⟨S1x1x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S_, .f32⟩
  | 63 => ⟨S1x8192x1024, .f32⟩
  | 64 => ⟨S1x8192x1024, .f32⟩
  | 65 => ⟨S_, .f32⟩
  | 66 => ⟨S1x8192x1024, .f32⟩
  | 67 => ⟨S1x8192x1024, .f32⟩
  | 68 => ⟨S_, .f32⟩
  | 69 => ⟨S1x8192x1024, .f32⟩
  | 70 => ⟨S1x8192x1024, .f32⟩
  | 71 => ⟨S1x8192x1024, .f32⟩
  | 72 => ⟨S1x8192x256, .f32⟩
  | 73 => ⟨S256x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S_, .f32⟩
  | 83 => ⟨S1x8192, .f32⟩
  | 84 => ⟨S_, .f32⟩
  | 85 => ⟨S1x8192, .f32⟩
  | 86 => ⟨S1x8192, .f32⟩
  | 87 => ⟨S_, .f32⟩
  | 88 => ⟨S_, .f32⟩
  | 89 => ⟨S_, .f32⟩
  | 90 => ⟨S_, .f32⟩
  | 91 => ⟨S_, .f32⟩
  | 92 => ⟨S1024, .f32⟩
  | 93 => ⟨S1x1024, .f32⟩
  | 94 => ⟨S_, .f32⟩
  | 95 => ⟨S_, .f32⟩
  | 96 => ⟨S_, .f32⟩
  | 97 => ⟨S1x8192, .f32⟩
  | 98 => ⟨S_, .f32⟩
  | 99 => ⟨S1x8192, .f32⟩
  | 100 => ⟨S1x8192, .f32⟩
  | 101 => ⟨S1x8192x1024, .f32⟩
  | 102 => ⟨S1x8192x1024, .f32⟩
  | 103 => ⟨S1x8192x1024, .f32⟩
  | 104 => ⟨S1x8192x1024, .f32⟩
  | 105 => ⟨S1024x256, .f32⟩
  | 106 => ⟨S256x1024, .f32⟩
  | 107 => ⟨S1x256x1024, .f32⟩
  | 108 => ⟨S1x8192x1024, .f32⟩
  | 109 => ⟨S_, .f32⟩
  | 110 => ⟨S1x1024, .f32⟩
  | 111 => ⟨S1x1x1024, .f32⟩
  | 112 => ⟨S_, .f32⟩
  | 113 => ⟨S1024, .f32⟩
  | 114 => ⟨S1x1024, .f32⟩
  | 115 => ⟨S1024x1024, .f32⟩
  | 116 => ⟨S1024x1024, .f32⟩
  | 117 => ⟨S1x8192x1024, .f32⟩
  | 118 => ⟨S1x8192x1024, .f32⟩
  | 119 => ⟨S1x1024x1024, .f32⟩
  | 120 => ⟨S_, .f32⟩
  | 121 => ⟨S1x1024, .f32⟩
  | 122 => ⟨S1x1x1024, .f32⟩
  | 123 => ⟨S_, .f32⟩
  | 124 => ⟨S1024, .f32⟩
  | 125 => ⟨S1x8192x1024, .f32⟩
  | 126 => ⟨S_, .f32⟩
  | 127 => ⟨S1x1024, .f32⟩
  | _ => ⟨S1x8192x2048, .f32⟩

abbrev hbmTy0_1 (i : Nat) : BufTy := match i % 128 with
  | 0 => ⟨S1x1x1024, .f32⟩
  | 1 => ⟨S1x8192x1024, .f32⟩
  | 2 => ⟨S1x8192x1024, .f32⟩
  | 3 => ⟨S_, .f32⟩
  | 4 => ⟨S1024, .f32⟩
  | 5 => ⟨S1x8192x1024, .f32⟩
  | 6 => ⟨S_, .f32⟩
  | 7 => ⟨S1x8192, .f32⟩
  | 8 => ⟨S1x8192x1, .f32⟩
  | 9 => ⟨S1x8192x1024, .f32⟩
  | 10 => ⟨S1x8192x1024, .f32⟩
  | 11 => ⟨S1x8192x1, .f32⟩
  | 12 => ⟨S1x8192x1024, .f32⟩
  | 13 => ⟨S_, .f32⟩
  | 14 => ⟨S1x8192, .f32⟩
  | 15 => ⟨S1x8192x1, .f32⟩
  | 16 => ⟨S_, .f32⟩
  | 17 => ⟨S1x8192x1, .f32⟩
  | 18 => ⟨S1x8192x1, .f32⟩
  | 19 => ⟨S_, .f32⟩
  | 20 => ⟨S8192, .f32⟩
  | 21 => ⟨S1x8192, .f32⟩
  | 22 => ⟨S1x8192x1024, .f32⟩
  | 23 => ⟨S1x8192x1024, .f32⟩
  | 24 => ⟨S1x8192x1024, .f32⟩
  | 25 => ⟨S_, .f32⟩
  | 26 => ⟨S1x8192, .f32⟩
  | 27 => ⟨S1x8192x1, .f32⟩
  | 28 => ⟨S1x8192x1024, .f32⟩
  | 29 => ⟨S1x8192x1, .f32⟩
  | 30 => ⟨S_, .f32⟩
  | 31 => ⟨S1x8192x1, .f32⟩
  | 32 => ⟨S1x8192x1, .f32⟩
  | 33 => ⟨S_, .f32⟩
  | 34 => ⟨S8192, .f32⟩
  | 35 => ⟨S1x8192, .f32⟩
  | 36 => ⟨S1x8192x1024, .f32⟩
  | 37 => ⟨S1x8192x1024, .f32⟩
  | 38 => ⟨S1x1024, .f32⟩
  | 39 => ⟨S1x1024, .f32⟩
  | 40 => ⟨S_, .f32⟩
  | 41 => ⟨S1x8192x1024, .f32⟩
  | 42 => ⟨S1x8192x1024, .f32⟩
  | 43 => ⟨S1024x2048, .f32⟩
  | 44 => ⟨S2048x1024, .f32⟩
  | 45 => ⟨S1x8192x2048, .f32⟩
  | 46 => ⟨S1x2048x1024, .f32⟩
  | 47 => ⟨S8192x1024, .f32⟩
  | 48 => ⟨S8192x2048, .f32⟩
  | 49 => ⟨S8192x2048, .bf16⟩
  | 50 => ⟨S2048x1024, .f32⟩
  | 51 => ⟨S1024x1024, .f32⟩
  | 52 => ⟨S256x1024, .f32⟩
  | 53 => ⟨S256x4x256, .f32⟩
  | 54 => ⟨S4x256x256, .f32⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_24 : Ref sig .tc := ⟨.hbm, 131, rfl⟩
abbrev main_v96 : Ref sig .tc := ⟨.hbm, 132, rfl⟩
abbrev main_v97 : Ref sig .tc := ⟨.hbm, 133, rfl⟩
abbrev main_cst_25 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_cst_27 : Ref sig .tc := ⟨.hbm, 144, rfl⟩
abbrev main_v106 : Ref sig .tc := ⟨.hbm, 145, rfl⟩
abbrev main_v107 : Ref sig .tc := ⟨.hbm, 146, rfl⟩
abbrev main_cst_28 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_29 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_30 : Ref sig .tc := ⟨.hbm, 158, rfl⟩
abbrev main_v117 : Ref sig .tc := ⟨.hbm, 159, rfl⟩
abbrev main_v118 : Ref sig .tc := ⟨.hbm, 160, rfl⟩
abbrev main_cst_31 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_32 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x8192x2048 : Shape := ⟨3, ![1, 8192, 2048]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S8192x1024 : Shape := ⟨2, ![8192, 1024]⟩
abbrev S1024x5120 : Shape := ⟨2, ![1024, 5120]⟩
abbrev S4x256x256 : Shape := ⟨3, ![4, 256, 256]⟩
abbrev S8192x5120 : Shape := ⟨2, ![8192, 5120]⟩
abbrev S8192x2048 : Shape := ⟨2, ![8192, 2048]⟩
abbrev S_ : Shape := ⟨0, ![]⟩
abbrev S16x1024 : Shape := ⟨2, ![16, 1024]⟩
abbrev S8208x1024 : Shape := ⟨2, ![8208, 1024]⟩
abbrev S8207x1024 : Shape := ⟨2, ![8207, 1024]⟩
abbrev S8192x256 : Shape := ⟨2, ![8192, 256]⟩
abbrev S8192x1 : Shape := ⟨2, ![8192, 1]⟩
abbrev S2x1024 : Shape := ⟨2, ![2, 1024]⟩
abbrev S8206x1024 : Shape := ⟨2, ![8206, 1024]⟩
abbrev S4x1024 : Shape := ⟨2, ![4, 1024]⟩
abbrev S8204x1024 : Shape := ⟨2, ![8204, 1024]⟩
abbrev S8x1024 : Shape := ⟨2, ![8, 1024]⟩
abbrev S8200x1024 : Shape := ⟨2, ![8200, 1024]⟩
abbrev S8192x4x256 : Shape := ⟨3, ![8192, 4, 256]⟩
abbrev S8192x4 : Shape := ⟨2, ![8192, 4]⟩
abbrev S8192x4x1 : Shape := ⟨3, ![8192, 4, 1]⟩
abbrev S8192x9216 : Shape := ⟨2, ![8192, 9216]⟩
abbrev S1024x4x1280 : Shape := ⟨3, ![1024, 4, 1280]⟩
abbrev S4x1024x1280 : Shape := ⟨3, ![4, 1024, 1280]⟩
abbrev S128x128 : Shape := ⟨2, ![128, 128]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S256x9216 : Shape := ⟨2, ![256, 9216]⟩
abbrev S256x2048 : Shape := ⟨2, ![256, 2048]⟩
abbrev S256x1024 : Shape := ⟨2, ![256, 1024]⟩
abbrev S256x5120 : Shape := ⟨2, ![256, 5120]⟩
abbrev S2x256x5120 : Shape := ⟨3, ![2, 256, 5120]⟩
abbrev S1 : Shape := ⟨1, ![1]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S256x1 : Shape := ⟨2, ![256, 1]⟩
abbrev S16x256 : Shape := ⟨2, ![16, 256]⟩
abbrev S272x256 : Shape := ⟨2, ![272, 256]⟩
abbrev S128x256 : Shape := ⟨2, ![128, 256]⟩
abbrev S128x512 : Shape := ⟨2, ![128, 512]⟩
abbrev S128x1 : Shape := ⟨2, ![128, 1]⟩
abbrev S128 : Shape := ⟨1, ![128]⟩
abbrev S1x256x5120 : Shape := ⟨3, ![1, 256, 5120]⟩
abbrev S1x256x1280 : Shape := ⟨3, ![1, 256, 1280]⟩
abbrev S256x1280 : Shape := ⟨2, ![256, 1280]⟩

abbrev nBuf : Space → Nat
  | .hbm => 282
  | .vmem => 25
  | .smem => 0
  | _ => 0

abbrev hbmTy0_0 (i : Nat) : BufTy := match i % 128 with
  | 0 => ⟨S1x8192x1024, .f32⟩
  | 1 => ⟨S1x8192x2048, .f32⟩
  | 2 => ⟨S1x8192x1024, .f32⟩
  | 3 => ⟨S1x1024x5120, .f32⟩
  | 4 => ⟨S1x4x256x256, .f32⟩
  | 5 => ⟨S1x1024, .f32⟩
  | 6 => ⟨S1x1024, .f32⟩
  | 7 => ⟨S1x1024, .f32⟩
  | 8 => ⟨S1x4x128x128, .f32⟩
  | 9 => ⟨S1x4x128, .f32⟩
  | 10 => ⟨S8192x1024, .f32⟩
  | 11 => ⟨S1024x5120, .f32⟩
  | 12 => ⟨S4x256x256, .f32⟩
  | 13 => ⟨S8192x1024, .bf16⟩
  | 14 => ⟨S1024x5120, .bf16⟩
  | 15 => ⟨S8192x5120, .f32⟩
  | 16 => ⟨S8192x1024, .f32⟩
  | 17 => ⟨S8192x1024, .f32⟩
  | 18 => ⟨S8192x1024, .f32⟩
  | 19 => ⟨S8192x2048, .f32⟩
  | 20 => ⟨S_, .f32⟩
  | 21 => ⟨S16x1024, .f32⟩
  | 22 => ⟨S8208x1024, .f32⟩
  | 23 => ⟨S1x1024, .f32⟩
  | 24 => ⟨S8207x1024, .f32⟩
  | 25 => ⟨S8208x1024, .f32⟩
  | 26 => ⟨S8208x1024, .f32⟩
  | 27 => ⟨S8192x256, .f32⟩
  | 28 => ⟨S8192x1, .i32⟩
  | 29 => ⟨S_, .i32⟩
  | 30 => ⟨S8192x1, .i32⟩
  | 31 => ⟨S8192x1, .i32⟩
  | 32 => ⟨S_, .i32⟩
  | 33 => ⟨S8192x1, .i32⟩
  | 34 => ⟨S8192x1, .i32⟩
  | 35 => ⟨S_, .i32⟩
  | 36 => ⟨S8192x1, .i32⟩
  | 37 => ⟨S8192x1, .i32⟩
  | 38 => ⟨S8192x1, .f32⟩
  | 39 => ⟨S_, .f32⟩
  | 40 => ⟨S8192x1, .f32⟩
  | 41 => ⟨S8192x1, .f32⟩
  | 42 => ⟨S8192x256, .f32⟩
  | 43 => ⟨S8192x256, .f32⟩
  | 44 => ⟨S8192x256, .f32⟩
  | 45 => ⟨S8192x256, .f32⟩
  | 46 => ⟨S2x1024, .f32⟩
  | 47 => ⟨S8206x1024, .f32⟩
  | 48 => ⟨S8208x1024, .f32⟩
  | 49 => ⟨S8208x1024, .f32⟩
  | 50 => ⟨S8192x256, .f32⟩
  | 51 => ⟨S8192x1, .i32⟩
  | 52 => ⟨S_, .i32⟩
  | 53 => ⟨S8192x1, .i32⟩
  | 54 => ⟨S8192x1, .i32⟩
  | 55 => ⟨S_, .i32⟩
  | 56 => ⟨S8192x1, .i32⟩
  | 57 => ⟨S8192x1, .i32⟩
  | 58 => ⟨S_, .i32⟩
  | 59 => ⟨S8192x1, .i32⟩
  | 60 => ⟨S8192x1, .i32⟩
  | 61 => ⟨S8192x1, .f32⟩
  | 62 => ⟨S_, .f32⟩
  | 63 => ⟨S8192x1, .f32⟩
  | 64 => ⟨S8192x1, .f32⟩
  | 65 => ⟨S8192x256, .f32⟩
  | 66 => ⟨S8192x256, .f32⟩
  | 67 => ⟨S8192x256, .f32⟩
  | 68 => ⟨S8192x256, .f32⟩
  | 69 => ⟨S4x1024, .f32⟩
  | 70 => ⟨S8204x1024, .f32⟩
  | 71 => ⟨S8208x1024, .f32⟩
  | 72 => ⟨S8208x1024, .f32⟩
  | 73 => ⟨S8192x256, .f32⟩
  | 74 => ⟨S8192x1, .i32⟩
  | 75 => ⟨S_, .i32⟩
  | 76 => ⟨S8192x1, .i32⟩
  | 77 => ⟨S8192x1, .i32⟩
  | 78 => ⟨S_, .i32⟩
  | 79 => ⟨S8192x1, .i32⟩
  | 80 => ⟨S8192x1, .i32⟩
  | 81 => ⟨S_, .i32⟩
  | 82 => ⟨S8192x1, .i32⟩
  | 83 => ⟨S8192x1, .i32⟩
  | 84 => ⟨S8192x1, .f32⟩
  | 85 => ⟨S_, .f32⟩
  | 86 => ⟨S8192x1, .f32⟩
  | 87 => ⟨S8192x1, .f32⟩
  | 88 => ⟨S8192x256, .f32⟩
  | 89 => ⟨S8192x256, .f32⟩
  | 90 => ⟨S8192x256, .f32⟩
  | 91 => ⟨S8192x256, .f32⟩
  | 92 => ⟨S8x1024, .f32⟩
  | 93 => ⟨S8200x1024, .f32⟩
  | 94 => ⟨S8208x1024, .f32⟩
  | 95 => ⟨S8208x1024, .f32⟩
  | 96 => ⟨S8192x256, .f32⟩
  | 97 => ⟨S8192x1, .i32⟩
  | 98 => ⟨S_, .i32⟩
  | 99 => ⟨S8192x1, .i32⟩
  | 100 => ⟨S8192x1, .i32⟩
  | 101 => ⟨S_, .i32⟩
  | 102 => ⟨S8192x1, .i32⟩
  | 103 => ⟨S8192x1, .i32⟩
  | 104 => ⟨S_, .i32⟩
  | 105 => ⟨S8192x1, .i32⟩
  | 106 => ⟨S8192x1, .i32⟩
  | 107 => ⟨S8192x1, .f32⟩
  | 108 => ⟨S_, .f32⟩
  | 109 => ⟨S8192x1, .f32⟩
  | 110 => ⟨S8192x1, .f32⟩
  | 111 => ⟨S8192x256, .f32⟩
  | 112 => ⟨S8192x256, .f32⟩
  | 113 => ⟨S8192x256, .f32⟩
  | 114 => ⟨S8192x256, .f32⟩
  | 115 => ⟨S8192x1024, .f32⟩
  | 116 => ⟨S_, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S8192x1024, .f32⟩
  | 127 => ⟨S_, .f32⟩
  | _ => ⟨S1x8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x4x256, .f32⟩
  | 68 => ⟨S_, .f32⟩
  | 69 => ⟨S8192x4, .f32⟩
  | 70 => ⟨S8192x4x1, .f32⟩
  | 71 => ⟨S_, .f32⟩
  | 72 => ⟨S8192x4x1, .f32⟩
  | 73 => ⟨S8192x4x1, .f32⟩
  | 74 => ⟨S8192x4x256, .f32⟩
  | 75 => ⟨S8192x4x256, .f32⟩
  | 76 => ⟨S8192x4x256, .f32⟩
  | 77 => ⟨S_, .f32⟩
  | 78 => ⟨S8192x4, .f32⟩
  | 79 => ⟨S8192x4x1, .f32⟩
  | 80 => ⟨S_, .f32⟩
  | 81 => ⟨S8192x4x1, .f32⟩
  | 82 => ⟨S8192x4x1, .f32⟩
  | 83 => ⟨S_, .f32⟩
  | 84 => ⟨S8192x4x1, .f32⟩
  | 85 => ⟨S8192x4x1, .f32⟩
  | 86 => ⟨S8192x4x1, .f32⟩
  | 87 => ⟨S8192x4x256, .f32⟩
  | 88 => ⟨S8192x4x256, .f32⟩
  | 89 => ⟨S8192x2048, .f32⟩
  | 90 => ⟨S8192x2048, .f32⟩
  | 91 => ⟨S_, .f32⟩
  | 92 => ⟨S8192x2048, .f32⟩
  | 93 => ⟨S8192x2048, .f32⟩
  | 94 => ⟨S_, .f32⟩
  | 95 => ⟨S8192x2048, .f32⟩
  | 96 => ⟨S8192x2048, .f32⟩
  | 97 => ⟨S8192x2048, .f32⟩
  | 98 => ⟨S_, .f32⟩
  | 99 => ⟨S8192x2048, .f32⟩
  | 100 => ⟨S8192x2048, .f32⟩
  | 101 => ⟨S8192x2048, .f32⟩
  | 102 => ⟨S8192x2048, .f32⟩
  | 103 => ⟨S8192x4x256, .f32⟩
  | 104 => ⟨S8192x4x256, .f32⟩
  | 105 => ⟨S8192x4x256, .f32⟩
  | 106 => ⟨S8192x1024, .f32⟩
  | 107 => ⟨S8192x1024, .f32⟩
  | 108 => ⟨S8192x9216, .f32⟩
  | 109 => ⟨S8192x9216, .bf16⟩
  | 110 => ⟨S1024x5120, .f32⟩
  | 111 => ⟨S1024x5120, .bf16⟩
  | 112 => ⟨S1024x4x1280, .bf16⟩
  | 113 => ⟨S4x1024x1280, .bf16⟩
  | 114 => ⟨S_, .i1⟩
  | 115 => ⟨S128x128, .i1⟩
  | 116 => ⟨S128x128, .i32⟩
  | 117 => ⟨S_, .i32⟩
  | 118 => ⟨S128x128, .i32⟩
  | 119 => ⟨S128x128, .i32⟩
  | 120 => ⟨S128x128, .i32⟩
  | 121 => ⟨S128x128, .i1⟩
  | 122 => ⟨S_, .i1⟩
  | 123 => ⟨S128x128, .i1⟩
  | 124 => ⟨S128x128, .i1⟩
  | 125 => ⟨S1x128x128, .i1⟩
  | 126 => ⟨S4x128x128, .f32⟩
  | 127 => ⟨S_, .f32⟩
  | _ => ⟨S1x8192x1024, .f32⟩

abbrev hbmTy0_2 (i : Nat) : BufTy := match i % 128 with
  | 0 => ⟨S_, .f32⟩
  | 1 => ⟨S4x128x128, .i1⟩
  | 2 => ⟨S4x128x128, .f32⟩
  | 3 => ⟨S4x128x128, .f32⟩
  | 4 => ⟨S4x128x128, .bf16⟩
  | 5 => ⟨S4x128, .f32⟩
  | 6 => ⟨S128x4, .f32⟩
  | 7 => ⟨S8192x2048, .f32⟩
  | 8 => ⟨S8192x2048, .bf16⟩
  | 9 => ⟨S8192x1024, .f32⟩
  | 10 => ⟨S4x256x256, .f32⟩
  | 11 => ⟨S4x256x256, .bf16⟩
  | 12 => ⟨S8192x5120, .bf16⟩
  | 13 => ⟨S8192x1024, .f32⟩
  | 14 => ⟨S4x256x256, .f32⟩
  | 15 => ⟨S1x1024, .f32⟩
  | 16 => ⟨S1x1024, .f32⟩
  | 17 => ⟨S1x1024, .f32⟩
  | 18 => ⟨S4x128x128, .f32⟩
  | 19 => ⟨S128x4, .f32⟩
  | 20 => ⟨S1x128x128, .i1⟩
  | 21 => ⟨S_, .f32⟩
  | 22 => ⟨S_, .f32⟩
  | 23 => ⟨S4x128x128, .i1⟩
  | 24 => ⟨S4x128x128, .f32⟩
  | 25 => ⟨S4x128x128, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | .local _ .vmem, ⟨0, _⟩ => ⟨S256x9216, .bf16⟩
  | .local _ .vmem, ⟨1, _⟩ => ⟨S256x9216, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S4x128x128, .bf16⟩
  | .local _ .vmem, ⟨11, _⟩ => ⟨S128x4, .f32⟩
  | .local _ .vmem, ⟨12, _⟩ => ⟨S256x5120, .bf16⟩
  | .local _ .vmem, ⟨13, _⟩ => ⟨S256x5120, .bf16⟩
  | .local _ .vmem, ⟨14, _⟩ => ⟨S256x1024, .f32⟩
  | .local _ .vmem, ⟨15, _⟩ => ⟨S256x1024, .f32⟩
  | .local _ .vmem, ⟨16, _⟩ => ⟨S4x256x256, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S4x128x128, .f32⟩
  | .local _ .vmem, ⟨21, _⟩ => ⟨S128x4, .f32⟩
  | .local _ .vmem, ⟨22, _⟩ => ⟨S4x1024x1280, .bf16⟩
  | .local _ .vmem, ⟨23, _⟩ => ⟨S2x256x5120, .bf16⟩
  | .local _ .vmem, ⟨24, _⟩ => ⟨S16x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_0 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_v0 : Ref sig .tc := ⟨.hbm, 46, rfl⟩
abbrev main_call1_v1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call2_v0 : Ref sig .tc := ⟨.hbm, 69, rfl⟩
abbrev main_call2_v1 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_7 : Ref sig .tc := ⟨.hbm, 75, rfl⟩
abbrev main_v50 : Ref sig .tc := ⟨.hbm, 76, rfl⟩
abbrev main_v51 : Ref sig .tc := ⟨.hbm, 77, rfl⟩
abbrev main_c_8 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call3_v0 : Ref sig .tc := ⟨.hbm, 92, rfl⟩
abbrev main_call3_v1 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_cst_22 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_cst_24 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_25 : Ref sig .tc := ⟨.hbm, 156, rfl⟩
abbrev main_v111 : Ref sig .tc := ⟨.hbm, 157, rfl⟩
abbrev main_v112 : Ref sig .tc := ⟨.hbm, 158, rfl⟩
abbrev main_cst_26 : Ref sig .tc := ⟨.hbm, 159, rfl⟩
abbrev main_v113 : Ref sig .tc := ⟨.hbm, 160, rfl⟩
abbrev main_v114 : Ref sig .tc := ⟨.hbm, 161, rfl⟩
abbrev main_cst_27 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_28 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_29 : Ref sig .tc := ⟨.hbm, 172, rfl⟩
abbrev main_v123 : Ref sig .tc := ⟨.hbm, 173, rfl⟩
abbrev main_v124 : Ref sig .tc := ⟨.hbm, 174, rfl⟩
abbrev main_cst_30 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_31 : Ref sig .tc := ⟨.hbm, 181, rfl⟩
abbrev main_v130 : Ref sig .tc := ⟨.hbm, 182, rfl⟩
abbrev main_v131 : Ref sig .tc := ⟨.hbm, 183, rfl⟩
abbrev main_cst_32 : Ref sig .tc := ⟨.hbm, 184, rfl⟩
abbrev main_v132 : Ref sig .tc := ⟨.hbm, 185, rfl⟩
abbrev main_v133 : Ref sig .tc := ⟨.hbm, 186, rfl⟩
abbrev main_cst_33 : Ref sig .tc := ⟨.hbm, 187, rfl⟩
abbrev main_v134 : Ref sig .tc := ⟨.hbm, 188, rfl⟩
abbrev main_v135 : Ref sig .tc := ⟨.hbm, 189, rfl⟩
abbrev main_cst_34 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_35 : Ref sig .tc := ⟨.hbm, 196, rfl⟩
abbrev main_v141 : Ref sig .tc := ⟨.hbm, 197, rfl⟩
abbrev main_v142 : Ref sig .tc := ⟨.hbm, 198, rfl⟩
abbrev main_cst_36 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_37 : Ref sig .tc := ⟨.hbm, 205, rfl⟩
abbrev main_v148 : Ref sig .tc := ⟨.hbm, 206, rfl⟩
abbrev main_v149 : Ref sig .tc := ⟨.hbm, 207, rfl⟩
abbrev main_cst_38 : Ref sig .tc := ⟨.hbm, 208, rfl⟩
abbrev main_v150 : Ref sig .tc := ⟨.hbm, 209, rfl⟩
abbrev main_v151 : Ref sig .tc := ⟨.hbm, 210, rfl⟩
abbrev main_cst_39 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_40 : Ref sig .tc := ⟨.hbm, 219, rfl⟩
abbrev main_v159 : Ref sig .tc := ⟨.hbm, 220, rfl⟩
abbrev main_v160 : Ref sig .tc := ⟨.hbm, 221, rfl⟩
abbrev main_cst_41 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_42 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_c_43 : Ref sig .tc := ⟨.hbm, 242, rfl⟩
abbrev main_v179 : Ref sig .tc := ⟨.hbm, 243, rfl⟩
abbrev main_call4_v0 : Ref sig .tc := ⟨.hbm, 244, rfl⟩
abbrev main_call4_c : Ref sig .tc := ⟨.hbm, 245, rfl⟩
abbrev main_call4_v1 : Ref sig .tc := ⟨.hbm, 246, rfl⟩
abbrev main_call4_v2 : Ref sig .tc := ⟨.hbm, 247, rfl⟩
abbrev main_call4_v3 : Ref sig .tc := ⟨.hbm, 248, rfl⟩
abbrev main_call4_v4 : Ref sig .tc := ⟨.hbm, 249, rfl⟩
abbrev main_call4_c_0 : Ref sig .tc := ⟨.hbm, 250, rfl⟩
abbrev main_call4_v5 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_cst_44 : Ref sig .tc := ⟨.hbm, 255, rfl⟩
abbrev main_call5_v0 : Ref sig .tc := ⟨.hbm, 256, rfl⟩
abbrev main_call5_v1 : Ref sig .tc := ⟨.hbm, 257, rfl⟩
abbrev main_call5_v2 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192_0 : Ref sig .tc := ⟨.hbm, 268, rfl⟩
abbrev main_v192_1 : Ref sig .tc := ⟨.hbm, 269, rfl⟩
abbrev main_v192_2 : Ref sig .tc := ⟨.hbm, 270, rfl⟩
abbrev main_v192_3 : Ref sig .tc := ⟨.hbm, 271, rfl⟩
abbrev main_v192_4 : Ref sig .tc := ⟨.hbm, 272, rfl⟩
abbrev main_v192_5 : Ref sig .tc := ⟨.hbm, 273, rfl⟩
abbrev main_v192_6 : Ref sig .tc := ⟨.hbm, 274, rfl⟩
abbrev main_v192_7 : Ref sig .tc := ⟨.hbm, 275, rfl⟩
abbrev main_v193 : Ref sig .tc := ⟨.hbm, 276, rfl⟩
abbrev main_cst_45 : Ref sig .tc := ⟨.hbm, 277, rfl⟩
abbrev main_call6_v0 : Ref sig .tc := ⟨.hbm, 278, rfl⟩
abbrev main_call6_v1 : Ref sig .tc := ⟨.hbm, 279, rfl⟩
abbrev main_call6_v2 : Ref sig .tc := ⟨.hbm, 280, rfl⟩
abbrev main_v194 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg0 : BitVec 32 := BitVec.ofNat 32 (i 0).val
  let c2_i32_449 : BitVec 32 := 2#32
  let c0_i32_450 : BitVec 32 := 0#32
  let v826 : BitVec 1 := Scalar.cmpi .eq c2_i32_449 c0_i32_450
  let c1_i32_451 : BitVec 32 := 1#32
  let v827 : BitVec 32 := Scalar.select v826 c1_i32_451 c2_i32_449
  let v828 : BitVec 32 := Scalar.remsi arg0 v827
  let c0_i32_453 : BitVec 32 := 0#32
  let v830 : BitVec 1 := Scalar.cmpi .slt v828 c0_i32_453
  let c0_i32_454 : BitVec 32 := 0#32
  let v831 : BitVec 1 := Scalar.cmpi .slt v827 c0_i32_454
  let v832 : BitVec 1 := Scalar.xori v830 v831
  let c0_i32_452 : BitVec 32 := 0#32
  let v829 : BitVec 1 := Scalar.cmpi .ne v828 c0_i32_452
  let v833 : BitVec 1 := Scalar.andi v832 v829
  let v834 : BitVec 32 := Scalar.addi v828 v827
  let v835 : BitVec 32 := Scalar.select v833 v834 v828
  let v836 : Index := Scalar.indexCast v835
  let c0_455 : Index := 0#32
  let c0_456 : Index := 0#32
  ![v836.toNat, 0, 0]
def k0_cond3 (i : grid0.Coords) : BitVec 1 :=
  let arg0 : BitVec 32 := BitVec.ofNat 32 (i 0).val
  let c0_i32_4 : BitVec 32 := 0#32
  let v8 : BitVec 1 := Scalar.cmpi .sgt arg0 c0_i32_4
  let c32_i32 : BitVec 32 := 32#32
  let v9 : BitVec 1 := Scalar.cmpi .slt arg0 c32_i32
  let v10 : BitVec 1 := Scalar.andi v8 v9
  let v11 : BitVec 32 := Scalar.extui v10
  let c0_i32_5 : BitVec 32 := 0#32
  let v12 : BitVec 1 := Scalar.cmpi .ne v11 c0_i32_5
  v12

def k0_off2 (i : grid0.Coords) : Fin 3 → Nat :=
  let arg0 : BitVec 32 := BitVec.ofNat 32 (i 0).val
  let c1_i32_46 : BitVec 32 := 1#32
  let v86 : BitVec 32 := Scalar.addi arg0 c1_i32_46
  let c2_i32_47 : BitVec 32 := 2#32
  let c0_i32_48 : BitVec 32 := 0#32
  let v87 : BitVec 1 := Scalar.cmpi .eq c2_i32_47 c0_i32_48
  let c1_i32_49 : BitVec 32 := 1#32
  let v88 : BitVec 32 := Scalar.select v87 c1_i32_49 c2_i32_47
  let v89 : BitVec 32 := Scalar.remsi v86 v88
  let c0_i32_51 : BitVec 32 := 0#32
  let v91 : BitVec 1 := Scalar.cmpi .slt v89 c0_i32_51
  let c0_i32_52 : BitVec 32 := 0#32
  let v92 : BitVec 1 := Scalar.cmpi .slt v88 c0_i32_52
  let v93 : BitVec 1 := Scalar.xori v91 v92
  let c0_i32_50 : BitVec 32 := 0#32
  let v90 : BitVec 1 := Scalar.cmpi .ne v89 c0_i32_50
  let v94 : BitVec 1 := Scalar.andi v93 v90
  let v95 : BitVec 32 := Scalar.addi v89 v88
  let v96 : BitVec 32 := Scalar.select v94 v95 v89
  let v97 : Index := Scalar.indexCast v96
  let c0_53 : Index := 0#32
  let c0_54 : Index := 0#32
  ![v97.toNat, 0, 0]
def k0_off3 (i : grid0.Coords) : Fin 3 → Nat :=
  let arg0 : BitVec 32 := BitVec.ofNat 32 (i 0).val
  let c1_i32_59 : BitVec 32 := 1#32
  let v104 : BitVec 32 := Scalar.addi arg0 c1_i32_59
  let c2_i32_60 : BitVec 32 := 2#32
  let c0_i32_61 : BitVec 32 := 0#32
  let v105 : BitVec 1 := Scalar.cmpi .eq c2_i32_60 c0_i32_61
  let c1_i32_62 : BitVec 32 := 1#32
  let v106 : BitVec 32 := Scalar.select v105 c1_i32_62 c2_i32_60
  let v107 : BitVec 32 := Scalar.remsi v104 v106
  let c0_i32_64 : BitVec 32 := 0#32
  let v109 : BitVec 1 := Scalar.cmpi .slt v107 c0_i32_64
  let c0_i32_65 : BitVec 32 := 0#32
  let v110 : BitVec 1 := Scalar.cmpi .slt v106 c0_i32_65
  let v111 : BitVec 1 := Scalar.xori v109 v110
  let c0_i32_63 : BitVec 32 := 0#32
  let v108 : BitVec 1 := Scalar.cmpi .ne v107 c0_i32_63
  let v112 : BitVec 1 := Scalar.andi v111 v108
  let v113 : BitVec 32 := Scalar.addi v107 v106
  let v114 : BitVec 32 := Scalar.select v112 v113 v107
  let v115 : Index := Scalar.indexCast v114
  let c0_66 : Index := 0#32
  let c1280 : Index := 1280#32
  ![v115.toNat, 0, 1280]
def k0_off4 (i : grid0.Coords) : Fin 3 → Nat :=
  let arg0 : BitVec 32 := BitVec.ofNat 32 (i 0).val
  let c1_i32_70 : BitVec 32 := 1#32
  let v122 : BitVec 32 := Scalar.addi arg0 c1_i32_70
  let c2_i32_71 : BitVec 32 := 2#32
  let c0_i32_72 : BitVec 32 := 0#32
  let v123 : BitVec 1 := Scalar.cmpi .eq c2_i32_71 c0_i32_72
  let c1_i32_73 : BitVec 32 := 1#32
  let v124 : BitVec 32 := Scalar.select v123 c1_i32_73 c2_i32_71
  let v125 : BitVec 32 := Scalar.remsi v122 v124
  let c0_i32_75 : BitVec 32 := 0#32
  let v127 : BitVec 1 := Scalar.cmpi .slt v125 c0_i32_75
  let c0_i32_76 : BitVec 32 := 0#32
  let v128 : BitVec 1 := Scalar.cmpi .slt v124 c0_i32_76
  let v129 : BitVec 1 := Scalar.xori v127 v128
  let c0_i32_74 : BitVec 32 := 0#32
  let v126 : BitVec 1 := Scalar.cmpi .ne v125 c0_i32_74
  let v130 : BitVec 1 := Scalar.andi v129 v126
  let v131 : BitVec 32 := Scalar.addi v125 v124
  let v132 : BitVec 32 := Scalar.select v130 v131 v125
  let v133 : Index := Scalar.indexCast v132
  let c0_77 : Index := 0#32
  let c2560 : Index := 2560#32
  ![v133.toNat, 0, 2560]
def k0_off5 (i : grid0.Coords) : Fin 3 → Nat :=
  let arg0 : BitVec 32 := BitVec.ofNat 32 (i 0).val
  let c1_i32_81 : BitVec 32 := 1#32
  let v140 : BitVec 32 := Scalar.addi arg0 c1_i32_81
  let c2_i32_82 : BitVec 32 := 2#32
  let c0_i32_83 : BitVec 32 := 0#32
  let v141 : BitVec 1 := Scalar.cmpi .eq c2_i32_82 c0_i32_83
  let c1_i32_84 : BitVec 32 := 1#32
  let v142 : BitVec 32 := Scalar.select v141 c1_i32_84 c2_i32_82
  let v143 : BitVec 32 := Scalar.remsi v140 v142
  let c0_i32_86 : BitVec 32 := 0#32
  let v145 : BitVec 1 := Scalar.cmpi .slt v143 c0_i32_86
  let c0_i32_87 : BitVec 32 := 0#32
  let v146 : BitVec 1 := Scalar.cmpi .slt v142 c0_i32_87
  let v147 : BitVec 1 := Scalar.xori v145 v146
  let c0_i32_85 : BitVec 32 := 0#32
  let v144 : BitVec 1 := Scalar.cmpi .ne v143 c0_i32_85
  let v148 : BitVec 1 := Scalar.andi v147 v144
  let v149 : BitVec 32 := Scalar.addi v143 v142
  let v150 : BitVec 32 := Scalar.select v148 v149 v143
  let v151 : Index := Scalar.indexCast v150
  let c0_88 : Index := 0#32
  let c3840 : Index := 3840#32
  ![v151.toNat, 0, 3840]
def k0_off6 (i : grid0.Coords) : Fin 3 → Nat :=
  let arg0 : BitVec 32 := BitVec.ofNat 32 (i 0).val
  let c2_i32_673 : BitVec 32 := 2#32
  let c0_i32_674 : BitVec 32 := 0#32
  let v1126 : BitVec 1 := Scalar.cmpi .eq c2_i32_673 c0_i32_674
  let c1_i32_675 : BitVec 32 := 1#32
  let v1127 : BitVec 32 := Scalar.select v1126 c1_i32_675 c2_i32_673
  let v1128 : BitVec 32 := Scalar.remsi arg0 v1127
  let c0_i32_677 : BitVec 32 := 0#32
  let v1130 : BitVec 1 := Scalar.cmpi .slt v1128 c0_i32_677
  let c0_i32_678 : BitVec 32 := 0#32
  let v1131 : BitVec 1 := Scalar.cmpi .slt v1127 c0_i32_678
  let v1132 : BitVec 1 := Scalar.xori v1130 v1131
  let c0_i32_676 : BitVec 32 := 0#32
  let v1129 : BitVec 1 := Scalar.cmpi .ne v1128 c0_i32_676
  let v1133 : BitVec 1 := Scalar.andi v1132 v1129
  let v1134 : BitVec 32 := Scalar.addi v1128 v1127
  let v1135 : BitVec 32 := Scalar.select v1133 v1134 v1128
  let v1136 : Index := Scalar.indexCast v1135
  let c0_679 : Index := 0#32
  let c0_680 : Index := 0#32
  ![v1136.toNat, 0, 0]
def k0_cond4 (i : grid0.Coords) : BitVec 1 :=
  let arg0 : BitVec 32 := BitVec.ofNat 32 (i 0).val
  let c32_i32_6 : BitVec 32 := 32#32
  let v13 : BitVec 1 := Scalar.cmpi .eq arg0 c32_i32_6
  let v14 : BitVec 32 := Scalar.extui v13
  let c0_i32_7 : BitVec 32 := 0#32
  let v15 : BitVec 1 := Scalar.cmpi .ne v14 c0_i32_7
  v15

def k0_off7 (i : grid0.Coords) : Fin 3 → Nat :=
  let arg0 : BitVec 32 := BitVec.ofNat 32 (i 0).val
  let c1_i32 : BitVec 32 := 1#32
  let v18 : BitVec 32 := Scalar.addi arg0 c1_i32
  let c2_i32 : BitVec 32 := 2#32
  let c0_i32_9 : BitVec 32 := 0#32
  let v19 : BitVec 1 := Scalar.cmpi .eq c2_i32 c0_i32_9
  let c1_i32_10 : BitVec 32 := 1#32
  let v20 : BitVec 32 := Scalar.select v19 c1_i32_10 c2_i32
  let v21 : BitVec 32 := Scalar.remsi v18 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let v29 : Index := Scalar.indexCast v28
  let c0_14 : Index := 0#32
  let c0_15 : Index := 0#32
  ![v29.toNat, 0, 0]
def k0_off8 (i : grid0.Coords) : Fin 3 → Nat :=
  let arg0 : BitVec 32 := BitVec.ofNat 32 (i 0).val
  let c1_i32_19 : BitVec 32 := 1#32
  let v36 : BitVec 32 := Scalar.addi arg0 c1_i32_19
  let c2_i32_20 : BitVec 32 := 2#32
  let c0_i32_21 : BitVec 32 := 0#32
  let v37 : BitVec 1 := Scalar.cmpi .eq c2_i32_20 c0_i32_21
  let c1_i32_22 : BitVec 32 := 1#32
  let v38 : BitVec 32 := Scalar.select v37 c1_i32_22 c2_i32_20
  let v39 : BitVec 32 := Scalar.remsi v36 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let v47 : Index := Scalar.indexCast v46
  let c0_26 : Index := 0#32
  let c1280 : Index := 1280#32
  ![v47.toNat, 0, 1280]
def k0_off9 (i : grid0.Coords) : Fin 3 → Nat :=
  let arg0 : BitVec 32 := BitVec.ofNat 32 (i 0).val
  let c1_i32_30 : BitVec 32 := 1#32
  let v54 : BitVec 32 := Scalar.addi arg0 c1_i32_30
  let c2_i32_31 : BitVec 32 := 2#32
  let c0_i32_32 : BitVec 32 := 0#32
  let v55 : BitVec 1 := Scalar.cmpi .eq c2_i32_31 c0_i32_32
  let c1_i32_33 : BitVec 32 := 1#32
  let v56 : BitVec 32 := Scalar.select v55 c1_i32_33 c2_i32_31
  let v57 : BitVec 32 := Scalar.remsi v54 v56
  let c0_i32_35 : BitVec 32 := 0#32
  let v59 : BitVec 1 := Scalar.cmpi .slt v57 c0_i32_35
  let c0_i32_36 : BitVec 32 := 0#32
  let v60 : BitVec 1 := Scalar.cmpi .slt v56 c0_i32_36
  let v61 : BitVec 1 := Scalar.xori v59 v60
  let c0_i32_34 : BitVec 32 := 0#32
  let v58 : BitVec 1 := Scalar.cmpi .ne v57 c0_i32_34
  let v62 : BitVec 1 := Scalar.andi v61 v58
  let v63 : BitVec 32 := Scalar.addi v57 v56
  let v64 : BitVec 32 := Scalar.select v62 v63 v57
  let v65 : Index := Scalar.indexCast v64
  let c0_37 : Index := 0#32
  let c2560 : Index := 2560#32
  ![v65.toNat, 0, 2560]
def k0_off10 (i : grid0.Coords) : Fin 3 → Nat :=
  let arg0 : BitVec 32 := BitVec.ofNat 32 (i 0).val
  let c1_i32_41 : BitVec 32 := 1#32
  let v72 : BitVec 32 := Scalar.addi arg0 c1_i32_41
  let c2_i32_42 : BitVec 32 := 2#32
  let c0_i32_43 : BitVec 32 := 0#32
  let v73 : BitVec 1 := Scalar.cmpi .eq c2_i32_42 c0_i32_43
  let c1_i32_44 : BitVec 32 := 1#32
  let v74 : BitVec 32 := Scalar.select v73 c1_i32_44 c2_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let v83 : Index := Scalar.indexCast v82
  let c0_48 : Index := 0#32
  let c3840 : Index := 3840#32
  ![v83.toNat, 0, 3840]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c31_i32_0 : BitVec 32 := 31#32
  let v1 : BitVec 32 := Scalar.subi c31_i32_0 v0
  let c0_i32 : BitVec 32 := 0#32
  let c0_i32_1 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c31_i32_0 : BitVec 32 := 31#32
  let v1 : BitVec 32 := Scalar.subi c31_i32_0 v0
  let c0_i32 : BitVec 32 := 0#32
  let c0_i32_1 : BitVec 32 := 0#32
  ![v1.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c31_i32_0 : BitVec 32 := 31#32
  let v1 : BitVec 32 := Scalar.subi c31_i32_0 v0
  let c0_i32 : BitVec 32 := 0#32
  let c0_i32_1 : BitVec 32 := 0#32
  ![v1.toNat, c0_i32.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S1x8192x1024 : Shape := ⟨3, ![1, 8192, 1024]⟩
abbrev S1x8192x2048 : Shape := ⟨3, ![1, 8192, 2048]⟩
abbrev S1x1024x5120 : Shape := ⟨3, ![1, 1024, 5120]⟩
abbrev S1x4x256x256 : Shape := ⟨4, ![1, 4, 256, 256]⟩
abbrev S1x1024 : Shape := ⟨2, ![1, 1024]⟩
abbrev S1x4x128x128 : Shape := ⟨4, ![1, 4, 128, 128]⟩
abbrev S1x4x128 : Shape := ⟨3, ![1, 4, 128]⟩
abbrev S1024x5120 : Shape := ⟨2, ![1024, 5120]⟩
abbrev S1x8192x5120 : Shape := ⟨3, ![1, 8192, 5120]⟩
abbrev S4x256x256 : Shape := ⟨3, ![4, 256, 256]⟩
abbrev S1024 : Shape := ⟨1, ![1024]⟩
abbrev S1x8192x4x256 : Shape := ⟨4, ![1, 8192, 4, 256]⟩
abbrev S_ : Shape := ⟨0, ![]⟩
abbrev S8192 : Shape := ⟨1, ![8192]⟩
abbrev S1x8192x1x256 : Shape := ⟨4, ![1, 8192, 1, 256]⟩
abbrev S1x8192x256 : Shape := ⟨3, ![1, 8192, 256]⟩
abbrev S1x2x256 : Shape := ⟨3, ![1, 2, 256]⟩
abbrev S1x8190x256 : Shape := ⟨3, ![1, 8190, 256]⟩
abbrev S1x8192x1 : Shape := ⟨3, ![1, 8192, 1]⟩
abbrev S1x4x256 : Shape := ⟨3, ![1, 4, 256]⟩
abbrev S1x8188x256 : Shape := ⟨3, ![1, 8188, 256]⟩
abbrev S1x8x256 : Shape := ⟨3, ![1, 8, 256]⟩
abbrev S1x8184x256 : Shape := ⟨3, ![1, 8184, 256]⟩
abbrev S1x16x256 : Shape := ⟨3, ![1, 16, 256]⟩
abbrev S1x8176x256 : Shape := ⟨3, ![1, 8176, 256]⟩
abbrev S4x256x1x8192 : Shape := ⟨4, ![4, 256, 1, 8192]⟩
abbrev S1x1x1024 : Shape := ⟨3, ![1, 1, 1024]⟩
abbrev S4x128x128 : Shape := ⟨3, ![4, 128, 128]⟩
abbrev S4x128 : Shape := ⟨2, ![4, 128]⟩
abbrev S4x256 : Shape := ⟨2, ![4, 256]⟩
abbrev S1x8192x4 : Shape := ⟨3, ![1, 8192, 4]⟩
abbrev S1x8192x4x1 : Shape := ⟨4, ![1, 8192, 4, 1]⟩
abbrev S1x1x4x256 : Shape := ⟨4, ![1, 1, 4, 256]⟩
abbrev S1x64x128x4x256 : Shape := ⟨5, ![1, 64, 128, 4, 256]⟩
abbrev S128x128 : Shape := ⟨2, ![128, 128]⟩
abbrev S1x128x128 : Shape := ⟨3, ![1, 128, 128]⟩
abbrev S4x1x64x256x128 : Shape := ⟨5, ![4, 1, 64, 256, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S8192x4 : Shape := ⟨2, ![8192, 4]⟩
abbrev S4x1x8192x256 : Shape := ⟨4, ![4, 1, 8192, 256]⟩
abbrev S8192x5120 : Shape := ⟨2, ![8192, 5120]⟩
abbrev S8192x1024 : Shape := ⟨2, ![8192, 1024]⟩

abbrev nBuf : Space → Nat
  | .hbm => 451
  | .vmem => 0
  | .smem => 0
  | _ => 0

abbrev hbmTy0_0 (i : Nat) : BufTy := match i % 128 with
  | 0 => ⟨S1x8192x1024, .f32⟩
  | 1 => ⟨S1x8192x2048, .f32⟩
  | 2 => ⟨S1x8192x1024, .f32⟩
  | 3 => ⟨S1x1024x5120, .f32⟩
  | 4 => ⟨S1x4x256x256, .f32⟩
  | 5 => ⟨S1x1024, .f32⟩
  | 6 => ⟨S1x1024, .f32⟩
  | 7 => ⟨S1x1024, .f32⟩
  | 8 => ⟨S1x4x128x128, .f32⟩
  | 9 => ⟨S1x4x128, .f32⟩
  | 10 => ⟨S1024x5120, .f32⟩
  | 11 => ⟨S1x8192x5120, .f32⟩
  | 12 => ⟨S1x8192x1024, .f32⟩
  | 13 => ⟨S1x8192x1024, .f32⟩
  | 14 => ⟨S1x8192x1024, .f32⟩
  | 15 => ⟨S1x8192x2048, .f32⟩
  | 16 => ⟨S4x256x256, .f32⟩
  | 17 => ⟨S1024, .f32⟩
  | 18 => ⟨S1x8192x4x256, .f32⟩
  | 19 => ⟨S_, .f32⟩
  | 20 => ⟨S_, .f32⟩
  | 21 => ⟨S1x8192x4x256, .f32⟩
  | 22 => ⟨S8192, .i32⟩
  | 23 => ⟨S1x8192x1x256, .f32⟩
  | 24 => ⟨S1x8192x256, .f32⟩
  | 25 => ⟨S1x2x256, .f32⟩
  | 26 => ⟨S_, .f32⟩
  | 27 => ⟨S1x2x256, .f32⟩
  | 28 => ⟨S1x8190x256, .f32⟩
  | 29 => ⟨S1x8192x256, .f32⟩
  | 30 => ⟨S_, .f32⟩
  | 31 => ⟨S1x2x256, .f32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .f32⟩
  | 39 => ⟨S1x8192x1, .f32⟩
  | 40 => ⟨S1x8192x256, .f32⟩
  | 41 => ⟨S1x8192x256, .f32⟩
  | 42 => ⟨S1x8192x256, .f32⟩
  | 43 => ⟨S1x8192x1x256, .f32⟩
  | 44 => ⟨S1x8192x256, .f32⟩
  | 45 => ⟨S1x4x256, .f32⟩
  | 46 => ⟨S_, .f32⟩
  | 47 => ⟨S1x4x256, .f32⟩
  | 48 => ⟨S1x8188x256, .f32⟩
  | 49 => ⟨S1x8192x256, .f32⟩
  | 50 => ⟨S_, .f32⟩
  | 51 => ⟨S1x4x256, .f32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192, .f32⟩
  | 59 => ⟨S1x8192x1, .f32⟩
  | 60 => ⟨S1x8192x256, .f32⟩
  | 61 => ⟨S1x8192x256, .f32⟩
  | 62 => ⟨S1x8192x256, .f32⟩
  | 63 => ⟨S1x8192x1x256, .f32⟩
  | 64 => ⟨S1x8192x256, .f32⟩
  | 65 => ⟨S1x8x256, .f32⟩
  | 66 => ⟨S_, .f32⟩
  | 67 => ⟨S1x8x256, .f32⟩
  | 68 => ⟨S1x8184x256, .f32⟩
  | 69 => ⟨S1x8192x256, .f32⟩
  | 70 => ⟨S_, .f32⟩
  | 71 => ⟨S1x8x256, .f32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .f32⟩
  | 79 => ⟨S1x8192x1, .f32⟩
  | 80 => ⟨S1x8192x256, .f32⟩
  | 81 => ⟨S1x8192x256, .f32⟩
  | 82 => ⟨S1x8192x256, .f32⟩
  | 83 => ⟨S1x8192x1x256, .f32⟩
  | 84 => ⟨S1x8192x256, .f32⟩
  | 85 => ⟨S1x16x256, .f32⟩
  | 86 => ⟨S_, .f32⟩
  | 87 => ⟨S1x16x256, .f32⟩
  | 88 => ⟨S1x8176x256, .f32⟩
  | 89 => ⟨S1x8192x256, .f32⟩
  | 90 => ⟨S_, .f32⟩
  | 91 => ⟨S1x16x256, .f32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S1x8192x1, .f32⟩
  | 100 => ⟨S1x8192x256, .f32⟩
  | 101 => ⟨S1x8192x256, .f32⟩
  | 102 => ⟨S1x8192x256, .f32⟩
  | 103 => ⟨S1x8192x1x256, .f32⟩
  | 104 => ⟨S1x8192x1x256, .f32⟩
  | 105 => ⟨S1x8192x1x256, .f32⟩
  | 106 => ⟨S1x8192x1x256, .f32⟩
  | 107 => ⟨S1x8192x4x256, .f32⟩
  | 108 => ⟨S1x8192x4x256, .f32⟩
  | 109 => ⟨S4x256x1x8192, .f32⟩
  | 110 => ⟨S1x8192x4x256, .f32⟩
  | 111 => ⟨S1x8192x1024, .f32⟩
  | 112 => ⟨S1x1x1024, .f32⟩
  | 113 => ⟨S1x8192x1024, .f32⟩
  | 114 => ⟨S1x8192x1024, .f32⟩
  | 115 => ⟨S1024, .f32⟩
  | 116 => ⟨S1024, .f32⟩
  | 117 => ⟨S4x128x128, .f32⟩
  | 118 => ⟨S4x128, .f32⟩
  | 119 => ⟨S1x8192x1024, .f32⟩
  | 120 => ⟨S1x8192x1024, .f32⟩
  | 121 => ⟨S1x8192x1024, .f32⟩
  | 122 => ⟨S_, .f32⟩
  | 123 => ⟨S1x8192x1024, .f32⟩
  | 124 => ⟨S1x8192x1024, .f32⟩
  | 125 => ⟨S_, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S_, .f32⟩
  | 2 => ⟨S1x8192x1024, .f32⟩
  | 3 => ⟨S1x8192x1024, .f32⟩
  | 4 => ⟨S1x8192x1024, .f32⟩
  | 5 => ⟨S_, .f32⟩
  | 6 => ⟨S1x8192x1024, .f32⟩
  | 7 => ⟨S1x8192x1024, .f32⟩
  | 8 => ⟨S_, .f32⟩
  | 9 => ⟨S1x8192x1024, .f32⟩
  | 10 => ⟨S1x8192x1024, .f32⟩
  | 11 => ⟨S1x8192x1024, .f32⟩
  | 12 => ⟨S_, .f32⟩
  | 13 => ⟨S1x8192x1024, .f32⟩
  | 14 => ⟨S1x8192x1024, .f32⟩
  | 15 => ⟨S_, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x1024, .f32⟩
  | 21 => ⟨S1x8192x1024, .f32⟩
  | 22 => ⟨S_, .f32⟩
  | 23 => ⟨S1x8192x1024, .f32⟩
  | 24 => ⟨S1x8192x1024, .f32⟩
  | 25 => ⟨S_, .f32⟩
  | 26 => ⟨S1x8192x1024, .f32⟩
  | 27 => ⟨S1x8192x1024, .f32⟩
  | 28 => ⟨S1x8192x1024, .f32⟩
  | 29 => ⟨S_, .f32⟩
  | 30 => ⟨S1x8192x1024, .f32⟩
  | 31 => ⟨S1x8192x1024, .f32⟩
  | 32 => ⟨S1x8192x1024, .f32⟩
  | 33 => ⟨S_, .f32⟩
  | 34 => ⟨S1x8192x1024, .f32⟩
  | 35 => ⟨S1x8192x1024, .f32⟩
  | 36 => ⟨S_, .f32⟩
  | 37 => ⟨S1x8192x1024, .f32⟩
  | 38 => ⟨S1x8192x1024, .f32⟩
  | 39 => ⟨S1x8192x1024, .f32⟩
  | 40 => ⟨S_, .f32⟩
  | 41 => ⟨S1x8192x1024, .f32⟩
  | 42 => ⟨S1x8192x1024, .f32⟩
  | 43 => ⟨S_, .f32⟩
  | 44 => ⟨S1x8192x1024, .f32⟩
  | 45 => ⟨S1x8192x1024, .f32⟩
  | 46 => ⟨S1x8192x1024, .f32⟩
  | 47 => ⟨S1x8192x4x256, .f32⟩
  | 48 => ⟨S4x256, .f32⟩
  | 49 => ⟨S4x256, .f32⟩
  | 50 => ⟨S_, .f32⟩
  | 51 => ⟨S1x8192x4, .f32⟩
  | 52 => ⟨S1x8192x4x1, .f32⟩
  | 53 => ⟨S_, .f32⟩
  | 54 => ⟨S1x8192x4x1, .f32⟩
  | 55 => ⟨S1x8192x4x1, .f32⟩
  | 56 => ⟨S1x8192x4x256, .f32⟩
  | 57 => ⟨S1x8192x4x256, .f32⟩
  | 58 => ⟨S1x8192x4x256, .f32⟩
  | 59 => ⟨S_, .f32⟩
  | 60 => ⟨S1x8192x4x256, .f32⟩
  | 61 => ⟨S1x8192x4x256, .f32⟩
  | 62 => ⟨S_, .f32⟩
  | 63 => ⟨S1x8192x4, .f32⟩
  | 64 => ⟨S1x8192x4x1, .f32⟩
  | 65 => ⟨S_, .f32⟩
  | 66 => ⟨S1x8192x4x1, .f32⟩
  | 67 => ⟨S1x8192x4x1, .f32⟩
  | 68 => ⟨S1x8192x4x256, .f32⟩
  | 69 => ⟨S1x8192x4x256, .f32⟩
  | 70 => ⟨S_, .f32⟩
  | 71 => ⟨S1x8192x4x1, .f32⟩
  | 72 => ⟨S1x8192x4x1, .f32⟩
  | 73 => ⟨S1x8192x4x1, .f32⟩
  | 74 => ⟨S1x8192x4x1, .f32⟩
  | 75 => ⟨S_, .f32⟩
  | 76 => ⟨S1x8192x4x1, .f32⟩
  | 77 => ⟨S1x8192x4x1, .f32⟩
  | 78 => ⟨S1x8192x4x256, .f32⟩
  | 79 => ⟨S1x8192x4x256, .f32⟩
  | 80 => ⟨S1x1x4x256, .f32⟩
  | 81 => ⟨S1x8192x4x256, .f32⟩
  | 82 => ⟨S1x8192x4x256, .f32⟩
  | 83 => ⟨S1x1x4x256, .f32⟩
  | 84 => ⟨S1x8192x4x256, .f32⟩
  | 85 => ⟨S1x8192x4x256, .f32⟩
  | 86 => ⟨S1x64x128x4x256, .f32⟩
  | 87 => ⟨S_, .i1⟩
  | 88 => ⟨S128x128, .i1⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i1⟩
  | 95 => ⟨S_, .i1⟩
  | 96 => ⟨S128x128, .i1⟩
  | 97 => ⟨S128x128, .i1⟩
  | 98 => ⟨S1x128x128, .i1⟩
  | 99 => ⟨S_, .f32⟩
  | 100 => ⟨S4x128x128, .f32⟩
  | 101 => ⟨S4x128x128, .i1⟩
  | 102 => ⟨S4x128x128, .f32⟩
  | 103 => ⟨S_, .f32⟩
  | 104 => ⟨S4x128x128, .f32⟩
  | 105 => ⟨S4x1x64x256x128, .f32⟩
  | 106 => ⟨S1x64x128x4x256, .f32⟩
  | 107 => ⟨S128x4, .f32⟩
  | 108 => ⟨S1x1x128x4x1, .f32⟩
  | 109 => ⟨S1x64x128x4x256, .f32⟩
  | 110 => ⟨S1x64x128x4x256, .f32⟩
  | 111 => ⟨S1x8192x1024, .f32⟩
  | 112 => ⟨S1x8192x1024, .f32⟩
  | 113 => ⟨S1x8192x2048, .f32⟩
  | 114 => ⟨S1x8192x2048, .f32⟩
  | 115 => ⟨S1x8192x2048, .f32⟩
  | 116 => ⟨S_, .f32⟩
  | 117 => ⟨S1x8192x2048, .f32⟩
  | 118 => ⟨S1x8192x2048, .f32⟩
  | 119 => ⟨S_, .f32⟩
  | 120 => ⟨S1x8192x2048, .f32⟩
  | 121 => ⟨S1x8192x2048, .f32⟩
  | 122 => ⟨S_, .f32⟩
  | 123 => ⟨S1x8192x2048, .f32⟩
  | 124 => ⟨S1x8192x2048, .f32⟩
  | 125 => ⟨S1x8192x2048, .f32⟩
  | 126 => ⟨S1x8192x2048, .f32⟩
  | 127 => ⟨S1x8192x2048, .f32⟩
  | _ => ⟨S1x8192x1024, .f32⟩

abbrev hbmTy0_2 (i : Nat) : BufTy := match i % 128 with
  | 0 => ⟨S1x8192x2048, .f32⟩
  | 1 => ⟨S1x8192x2048, .f32⟩
  | 2 => ⟨S1x8192x2048, .f32⟩
  | 3 => ⟨S1x8192x2048, .f32⟩
  | 4 => ⟨S1x8192x2048, .f32⟩
  | 5 => ⟨S1x8192x2048, .f32⟩
  | 6 => ⟨S1x8192x1024, .f32⟩
  | 7 => ⟨S1x8192x1024, .f32⟩
  | 8 => ⟨S1x8192x1024, .f32⟩
  | 9 => ⟨S1x8192x1024, .f32⟩
  | 10 => ⟨S1x64x128x4x256, .f32⟩
  | 11 => ⟨S_, .f32⟩
  | 12 => ⟨S1x128x4, .f32⟩
  | 13 => ⟨S1x1x128x4x1, .f32⟩
  | 14 => ⟨S_, .f32⟩
  | 15 => ⟨S128x4, .f32⟩
  | 16 => ⟨S4x128, .f32⟩
  | 17 => ⟨S4x1x64x256x128, .f32⟩
  | 18 => ⟨S4x128x128, .f32⟩
  | 19 => ⟨S4x1x64x256x128, .f32⟩
  | 20 => ⟨S1x64x128x4x256, .f32⟩
  | 21 => ⟨S_, .f32⟩
  | 22 => ⟨S4x128x128, .f32⟩
  | 23 => ⟨S4x128x128, .f32⟩
  | 24 => ⟨S1x8192x4x256, .f32⟩
  | 25 => ⟨S_, .f32⟩
  | 26 => ⟨S1x4x256, .f32⟩
  | 27 => ⟨S1x1x4x256, .f32⟩
  | 28 => ⟨S_, .f32⟩
  | 29 => ⟨S4x256, .f32⟩
  | 30 => ⟨S1x8192x4x256, .f32⟩
  | 31 => ⟨S_, .f32⟩
  | 32 => ⟨S1x4x256, .f32⟩
  | 33 => ⟨S1x1x4x256, .f32⟩
  | 34 => ⟨S1x8192x4x256, .f32⟩
  | 35 => ⟨S1x8192x4x256, .f32⟩
  | 36 => ⟨S_, .f32⟩
  | 37 => ⟨S4x256, .f32⟩
  | 38 => ⟨S1x8192x4x256, .f32⟩
  | 39 => ⟨S_, .f32⟩
  | 40 => ⟨S1x8192x4, .f32⟩
  | 41 => ⟨S1x8192x4x1, .f32⟩
  | 42 => ⟨S1x8192x4x256, .f32⟩
  | 43 => ⟨S1x8192x4x256, .f32⟩
  | 44 => ⟨S1x8192x4x1, .f32⟩
  | 45 => ⟨S1x8192x4x256, .f32⟩
  | 46 => ⟨S_, .f32⟩
  | 47 => ⟨S1x8192x4, .f32⟩
  | 48 => ⟨S1x8192x4x1, .f32⟩
  | 49 => ⟨S_, .f32⟩
  | 50 => ⟨S1x8192x4x1, .f32⟩
  | 51 => ⟨S1x8192x4x1, .f32⟩
  | 52 => ⟨S_, .f32⟩
  | 53 => ⟨S8192x4, .f32⟩
  | 54 => ⟨S1x8192x4, .f32⟩
  | 55 => ⟨S1x8192x4x256, .f32⟩
  | 56 => ⟨S1x8192x4x256, .f32⟩
  | 57 => ⟨S1x8192x4x256, .f32⟩
  | 58 => ⟨S_, .f32⟩
  | 59 => ⟨S1x8192x4, .f32⟩
  | 60 => ⟨S1x8192x4x1, .f32⟩
  | 61 => ⟨S1x8192x4x256, .f32⟩
  | 62 => ⟨S1x8192x4x1, .f32⟩
  | 63 => ⟨S_, .f32⟩
  | 64 => ⟨S1x8192x4x1, .f32⟩
  | 65 => ⟨S1x8192x4x1, .f32⟩
  | 66 => ⟨S_, .f32⟩
  | 67 => ⟨S8192x4, .f32⟩
  | 68 => ⟨S1x8192x4, .f32⟩
  | 69 => ⟨S1x8192x4x256, .f32⟩
  | 70 => ⟨S1x8192x4x256, .f32⟩
  | 71 => ⟨S1024, .f32⟩
  | 72 => ⟨S1024, .f32⟩
  | 73 => ⟨S1x8192x1024, .f32⟩
  | 74 => ⟨S1x8192x1024, .f32⟩
  | 75 => ⟨S1x8192x1024, .f32⟩
  | 76 => ⟨S_, .f32⟩
  | 77 => ⟨S1x8192x1024, .f32⟩
  | 78 => ⟨S1x8192x1024, .f32⟩
  | 79 => ⟨S1x8192x1024, .f32⟩
  | 80 => ⟨S_, .f32⟩
  | 81 => ⟨S1x8192x1024, .f32⟩
  | 82 => ⟨S1x8192x1024, .f32⟩
  | 83 => ⟨S1x8192x1024, .f32⟩
  | 84 => ⟨S_, .f32⟩
  | 85 => ⟨S1x8192x1024, .f32⟩
  | 86 => ⟨S1x8192x1024, .f32⟩
  | 87 => ⟨S1x8192x1024, .f32⟩
  | 88 => ⟨S1x8192x1024, .f32⟩
  | 89 => ⟨S1x8192x1024, .f32⟩
  | 90 => ⟨S1x8192x1024, .f32⟩
  | 91 => ⟨S_, .f32⟩
  | 92 => ⟨S1x8192x1024, .f32⟩
  | 93 => ⟨S1x8192x1024, .f32⟩
  | 94 => ⟨S1x8192x1024, .f32⟩
  | 95 => ⟨S_, .f32⟩
  | 96 => ⟨S1x8192x1024, .f32⟩
  | 97 => ⟨S1x8192x1024, .f32⟩
  | 98 => ⟨S1x8192x1024, .f32⟩
  | 99 => ⟨S_, .f32⟩
  | 100 => ⟨S1x8192x1024, .f32⟩
  | 101 => ⟨S1x8192x1024, .f32⟩
  | 102 => ⟨S1x8192x1024, .f32⟩
  | 103 => ⟨S1x8192x1024, .f32⟩
  | 104 => ⟨S1x4x128, .f32⟩
  | 105 => ⟨S1x4x128x128, .f32⟩
  | 106 => ⟨S1x1024, .f32⟩
  | 107 => ⟨S1x1024, .f32⟩
  | 108 => ⟨S1x8192x1024, .f32⟩
  | 109 => ⟨S_, .f32⟩
  | 110 => ⟨S1x1024, .f32⟩
  | 111 => ⟨S1x1x1024, .f32⟩
  | 112 => ⟨S1x8192x1024, .f32⟩
  | 113 => ⟨S1x8192x1024, .f32⟩
  | 114 => ⟨S_, .f32⟩
  | 115 => ⟨S1024, .f32⟩
  | 116 => ⟨S1x8192x4x256, .f32⟩
  | 117 => ⟨S4x256x1x8192, .f32⟩
  | 118 => ⟨S4x1x8192x256, .f32⟩
  | 119 => ⟨S1x8192x4x256, .f32⟩
  | 120 => ⟨S4x256x256, .f32⟩
  | 121 => ⟨S4x256x256, .f32⟩
  | 122 => ⟨S1x8192x4x256, .f32⟩
  | 123 => ⟨S1x8192x1x256, .f32⟩
  | 124 => ⟨S1x8192x256, .f32⟩
  | 125 => ⟨S1x8192x1x256, .f32⟩
  | 126 => ⟨S1x8192x256, .f32⟩
  | 127 => ⟨S1x8192x1x256, .f32⟩
  | _ => ⟨S1x8192x1024, .f32⟩

abbrev hbmTy0_3 (i : Nat) : BufTy := match i % 128 with
  | 0 => ⟨S1x8192x256, .f32⟩
  | 1 => ⟨S1x8192x1x256, .f32⟩
  | 2 => ⟨S1x8192x256, .f32⟩
  | 3 => ⟨S1x8192x256, .f32⟩
  | 4 => ⟨S1x8192x256, .f32⟩
  | 5 => ⟨S1x8192x256, .f32⟩
  | 6 => ⟨S1x16x256, .f32⟩
  | 7 => ⟨S1x8176x256, .f32⟩
  | 8 => ⟨S_, .f32⟩
  | 9 => ⟨S1x8192x256, .f32⟩
  | 10 => ⟨S1x8192x256, .f32⟩
  | 11 => ⟨S1x8192x1x256, .f32⟩
  | 12 => ⟨S_, .f32⟩
  | 13 => ⟨S1x8192x4x256, .f32⟩
  | 14 => ⟨S1x8192x256, .f32⟩
  | 15 => ⟨S1x8192x256, .f32⟩
  | 16 => ⟨S1x8192x256, .f32⟩
  | 17 => ⟨S1x8x256, .f32⟩
  | 18 => ⟨S1x8184x256, .f32⟩
  | 19 => ⟨S_, .f32⟩
  | 20 => ⟨S1x8192x256, .f32⟩
  | 21 => ⟨S1x8192x256, .f32⟩
  | 22 => ⟨S1x8192x1x256, .f32⟩
  | 23 => ⟨S_, .f32⟩
  | 24 => ⟨S1x8192x4x256, .f32⟩
  | 25 => ⟨S1x8192x4x256, .f32⟩
  | 26 => ⟨S1x8192x256, .f32⟩
  | 27 => ⟨S1x8192x256, .f32⟩
  | 28 => ⟨S1x8192x256, .f32⟩
  | 29 => ⟨S1x4x256, .f32⟩
  | 30 => ⟨S1x8188x256, .f32⟩
  | 31 => ⟨S_, .f32⟩
  | 32 => ⟨S1x8192x256, .f32⟩
  | 33 => ⟨S1x8192x256, .f32⟩
  | 34 => ⟨S1x8192x1x256, .f32⟩
  | 35 => ⟨S_, .f32⟩
  | 36 => ⟨S1x8192x4x256, .f32⟩
  | 37 => ⟨S1x8192x4x256, .f32⟩
  | 38 => ⟨S1x8192x256, .f32⟩
  | 39 => ⟨S1x8192x256, .f32⟩
  | 40 => ⟨S1x8192x256, .f32⟩
  | 41 => ⟨S1x2x256, .f32⟩
  | 42 => ⟨S1x8190x256, .f32⟩
  | 43 => ⟨S_, .f32⟩
  | 44 => ⟨S1x8192x256, .f32⟩
  | 45 => ⟨S1x8192x256, .f32⟩
  | 46 => ⟨S1x8192x1x256, .f32⟩
  | 47 => ⟨S_, .f32⟩
  | 48 => ⟨S1x8192x4x256, .f32⟩
  | 49 => ⟨S1x8192x4x256, .f32⟩
  | 50 => ⟨S_, .f32⟩
  | 51 => ⟨S_, .f32⟩
  | 52 => ⟨S1x8192x4x256, .f32⟩
  | 53 => ⟨S1x8192x4x256, .f32⟩
  | 54 => ⟨S1x8192x1024, .f32⟩
  | 55 => ⟨S1x1024, .f32⟩
  | 56 => ⟨S1x4x256x256, .f32⟩
  | 57 => ⟨S1x8192x5120, .f32⟩
  | 58 => ⟨S1x8192x1024, .f32⟩
  | 59 => ⟨S1x8192x1024, .f32⟩
  | 60 => ⟨S8192x5120, .f32⟩
  | 61 => ⟨S8192x5120, .bf16⟩
  | 62 => ⟨S8192x1024, .f32⟩
  | 63 => ⟨S4x256x256, .f32⟩
  | 64 => ⟨S4x128x128, .f32⟩
  | 65 => ⟨S4x128, .f32⟩
  | 66 => ⟨S128x4, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_call0_cst : Ref sig .tc := ⟨.hbm, 19, rfl⟩
abbrev main_call0_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_14 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_16 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_17 : Ref sig .tc := ⟨.hbm, 133, rfl⟩
abbrev main_v102 : Ref sig .tc := ⟨.hbm, 134, rfl⟩
abbrev main_v103 : Ref sig .tc := ⟨.hbm, 135, rfl⟩
abbrev main_cst_18 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_19 : Ref sig .tc := ⟨.hbm, 140, rfl⟩
abbrev main_v107 : Ref sig .tc := ⟨.hbm, 141, rfl⟩
abbrev main_v108 : Ref sig .tc := ⟨.hbm, 142, rfl⟩
abbrev main_cst_20 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_21 : Ref sig .tc := ⟨.hbm, 150, rfl⟩
abbrev main_v115 : Ref sig .tc := ⟨.hbm, 151, rfl⟩
abbrev main_v116 : Ref sig .tc := ⟨.hbm, 152, rfl⟩
abbrev main_cst_22 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_23 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_24 : Ref sig .tc := ⟨.hbm, 161, rfl⟩
abbrev main_v123 : Ref sig .tc := ⟨.hbm, 162, rfl⟩
abbrev main_v124 : Ref sig .tc := ⟨.hbm, 163, rfl⟩
abbrev main_cst_25 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_26 : Ref sig .tc := ⟨.hbm, 168, rfl⟩
abbrev main_v128 : Ref sig .tc := ⟨.hbm, 169, rfl⟩
abbrev main_v129 : Ref sig .tc := ⟨.hbm, 170, rfl⟩
abbrev main_cst_27 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_28 : Ref sig .tc := ⟨.hbm, 178, rfl⟩
abbrev main_v136 : Ref sig .tc := ⟨.hbm, 179, rfl⟩
abbrev main_v137 : Ref sig .tc := ⟨.hbm, 180, rfl⟩
abbrev main_cst_29 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_30 : Ref sig .tc := ⟨.hbm, 187, rfl⟩
abbrev main_v143 : Ref sig .tc := ⟨.hbm, 188, rfl⟩
abbrev main_v144 : Ref sig .tc := ⟨.hbm, 189, rfl⟩
abbrev main_cst_31 : Ref sig .tc := ⟨.hbm, 190, rfl⟩
abbrev main_v145 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_33 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_34 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_c_35 : Ref sig .tc := ⟨.hbm, 215, rfl⟩
abbrev main_v166 : Ref sig .tc := ⟨.hbm, 216, rfl⟩
abbrev main_call1_v0 : Ref sig .tc := ⟨.hbm, 217, rfl⟩
abbrev main_call1_c : Ref sig .tc := ⟨.hbm, 218, rfl⟩
abbrev main_call1_v1 : Ref sig .tc := ⟨.hbm, 219, rfl⟩
abbrev main_call1_v2 : Ref sig .tc := ⟨.hbm, 220, rfl⟩
abbrev main_call1_v3 : Ref sig .tc := ⟨.hbm, 221, rfl⟩
abbrev main_call1_v4 : Ref sig .tc := ⟨.hbm, 222, rfl⟩
abbrev main_call1_c_0 : Ref sig .tc := ⟨.hbm, 223, rfl⟩
abbrev main_call1_v5 : Ref sig .tc := ⟨.hbm, 224, rfl⟩
abbrev main_v167 : Ref sig .tc := ⟨.hbm, 225, rfl⟩
abbrev main_v168 : Ref sig .tc := ⟨.hbm, 226, rfl⟩
abbrev main_cst_36 : Ref sig .tc := ⟨.hbm, 227, rfl⟩
abbrev main_v169 : Ref sig .tc := ⟨.hbm, 228, rfl⟩
abbrev main_v170_1 : Ref sig .tc := ⟨.hbm, 229, rfl⟩
abbrev main_v170_0 : Ref sig .tc := ⟨.hbm, 230, rfl⟩
abbrev main_call2_cst : Ref sig .tc := ⟨.hbm, 231, rfl⟩
abbrev main_v170_2 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_call3_v0 : Ref sig .tc := ⟨.hbm, 242, rfl⟩
abbrev main_call3_v1 : Ref sig .tc := ⟨.hbm, 243, rfl⟩
abbrev main_call3_cst : Ref sig .tc := ⟨.hbm, 244, rfl⟩
abbrev main_call3_v2 : Ref sig .tc := ⟨.hbm, 245, rfl⟩
abbrev main_call3_v3 : Ref sig .tc := ⟨.hbm, 246, rfl⟩
abbrev main_call3_cst_0 : Ref sig .tc := ⟨.hbm, 247, rfl⟩
abbrev main_call3_v4 : Ref sig .tc := ⟨.hbm, 248, rfl⟩
abbrev main_v180_2 : Ref sig .tc := ⟨.hbm, 249, rfl⟩
abbrev main_call3_cst_1 : Ref sig .tc := ⟨.hbm, 250, rfl⟩
abbrev main_call3_v6 : Ref sig .tc := ⟨.hbm, 251, rfl⟩
abbrev main_call3_v7 : Ref sig .tc := ⟨.hbm, 252, rfl⟩
abbrev main_v180_1 : Ref sig .tc := ⟨.hbm, 253, rfl⟩
abbrev main_v180_0 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_call4_v0 : Ref sig .tc := ⟨.hbm, 258, rfl⟩
abbrev main_call4_v1 : Ref sig .tc := ⟨.hbm, 259, rfl⟩
abbrev main_call4_v2 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_cst_37 : Ref sig .tc := ⟨.hbm, 267, rfl⟩
abbrev main_v190 : Ref sig .tc := ⟨.hbm, 268, rfl⟩
abbrev main_v191 : Ref sig .tc := ⟨.hbm, 269, rfl⟩
abbrev main_cst_38 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_call5_cst : Ref sig .tc := ⟨.hbm, 277, rfl⟩
abbrev main_call5_v0 : Ref sig .tc := ⟨.hbm, 278, rfl⟩
abbrev main_v198 : Ref sig .tc := ⟨.hbm, 279, rfl⟩
abbrev main_v199 : Ref sig .tc := ⟨.hbm, 280, rfl⟩
abbrev main_cst_39 : Ref sig .tc := ⟨.hbm, 281, rfl⟩
abbrev main_v200 : Ref sig .tc := ⟨.hbm, 282, rfl⟩
abbrev main_v201 : Ref sig .tc := ⟨.hbm, 283, rfl⟩
abbrev main_cst_40 : Ref sig .tc := ⟨.hbm, 284, rfl⟩
abbrev main_v202 : Ref sig .tc := ⟨.hbm, 285, rfl⟩
abbrev main_v203 : Ref sig .tc := ⟨.hbm, 286, rfl⟩
abbrev main_cst_41 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_cst_42 : Ref sig .tc := ⟨.hbm, 292, rfl⟩
abbrev main_v208 : Ref sig .tc := ⟨.hbm, 293, rfl⟩
abbrev main_v209 : Ref sig .tc := ⟨.hbm, 294, rfl⟩
abbrev main_cst_43 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_cst_44 : Ref sig .tc := ⟨.hbm, 302, rfl⟩
abbrev main_v216 : Ref sig .tc := ⟨.hbm, 303, rfl⟩
abbrev main_v217 : Ref sig .tc := ⟨.hbm, 304, rfl⟩
abbrev main_cst_45 : Ref sig .tc := ⟨.hbm, 305, rfl⟩
abbrev main_v218 : Ref sig .tc := ⟨.hbm, 306, rfl⟩
abbrev main_v219 : Ref sig .tc := ⟨.hbm, 307, rfl⟩
abbrev main_cst_46 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_cst_47 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_cst_48 : Ref sig .tc := ⟨.hbm, 319, rfl⟩
abbrev main_v229 : Ref sig .tc := ⟨.hbm, 320, rfl⟩
abbrev main_v230 : Ref sig .tc := ⟨.hbm, 321, rfl⟩
abbrev main_cst_49 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_v239 : Ref sig .tc := ⟨.hbm, 331, rfl⟩
abbrev main_cst_50 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_cst_51 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_cst_52 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_cst_53 : Ref sig .tc := ⟨.hbm, 347, rfl⟩
abbrev main_v252 : Ref sig .tc := ⟨.hbm, 348, rfl⟩
abbrev main_v253 : Ref sig .tc := ⟨.hbm, 349, rfl⟩
abbrev main_v254 : Ref sig .tc := ⟨.hbm, 350, rfl⟩
abbrev main_cst_54 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_cst_55 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_cst_56 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_cst_57 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_cst_58 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_cst_59 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_cst_60 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_cst_61 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_v310 : Ref sig .tc := ⟨.hbm, 414, rfl⟩
abbrev main_cst_62 : Ref sig .tc := ⟨.hbm, 415, rfl⟩
abbrev main_v311 : Ref sig .tc := ⟨.hbm, 416, rfl⟩
abbrev main_v312 : Ref sig .tc := ⟨.hbm, 417, rfl⟩
abbrev main_v313 : Ref sig .tc := ⟨.hbm, 418, rfl⟩
abbrev main_cst_63 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_cst_64 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_cst_65 : Ref sig .tc := ⟨.hbm, 431, rfl⟩
abbrev main_v324 : Ref sig .tc := ⟨.hbm, 432, rfl⟩
abbrev main_v325 : Ref sig .tc := ⟨.hbm, 433, rfl⟩
abbrev main_call6_call0_cst : Ref sig .tc := ⟨.hbm, 434, rfl⟩
abbrev main_call6_call0_v0 : Ref sig .tc := ⟨.hbm, 435, rfl⟩
abbrev main_v326 : Ref sig .tc := ⟨.hbm, 436, rfl⟩
abbrev main_v327 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_v336 : Ref sig .tc := ⟨.hbm, 446, rfl⟩
abbrev main_v337 : Ref sig .tc := ⟨.hbm, 447, rfl⟩
abbrev main_v338 : Ref sig .tc := ⟨.hbm, 448, rfl⟩
abbrev main_v339 : Ref sig .tc := ⟨.hbm, 449, rfl⟩
abbrev main_v340 : Ref sig .tc := ⟨.hbm, 450, rfl⟩

abbrev nD : Nat := 1
abbrev τ : Topo := Topo.v7x

variable {F : FTy → Type} [FloatOps F]
-- ==== Proof.Tail.Spec.lean ====
/-
What the layer's tail computes, row by row, over the extended reals.

A token has a row of each of the four token arrays (the SGU output `y`, the layer's input `x`, the per-layer embedding `p`
and the loss target). The stages below are the tail's forward pass (residual, layer norm, gate, embedding, difference to
the target) and its backward pass up to the gradient before the layer norm. The arrays' gradients are read off them:
a token's gradients are a stage or one product of a stage, and the weights' gradients are sums over all tokens.
-/
module

public import Idealize.ShloMosaic.Lib.Pointwise
public import Idealize.ShloMosaic.Lib.ValueIdx

@[expose] public section

noncomputable section

namespace Cert.Tail

open Idealize.ShloMosaic

/-- The argument arrays, as the launch memory holds them. -/
structure Inputs where
  y : (⟨3, ![1, 8192, 2048]⟩ : Shape).Idx → EReal
  x : (⟨3, ![1, 8192, 1024]⟩ : Shape).Idx → EReal
  p : (⟨4, ![1, 1, 8192, 256]⟩ : Shape).Idx → EReal
  target : (⟨3, ![1, 8192, 1024]⟩ : Shape).Idx → EReal
  wOut : (⟨3, ![1, 2048, 1024]⟩ : Shape).Idx → EReal
  wGate : (⟨3, ![1, 1024, 1024]⟩ : Shape).Idx → EReal
  wPle : (⟨3, ![1, 256, 1024]⟩ : Shape).Idx → EReal
  lnG : (⟨2, ![1, 1024]⟩ : Shape).Idx → EReal
  lnB : (⟨2, ![1, 1024]⟩ : Shape).Idx → EReal
  gateB : (⟨2, ![1, 1024]⟩ : Shape).Idx → EReal

/-- The weights, by coordinates. -/
structure Weights where
  out : Fin 2048 → Fin 1024 → EReal
  gate : Fin 1024 → Fin 1024 → EReal
  ple : Fin 256 → Fin 1024 → EReal
  lnG : Fin 1024 → EReal
  lnB : Fin 1024 → EReal
  gateB : Fin 1024 → EReal

/-- One token's rows. -/
structure Token where
  y : Fin 2048 → EReal
  x : Fin 1024 → EReal
  p : Fin 256 → EReal
  target : Fin 1024 → EReal

/-- The weights the arrays hold. -/
def Inputs.weights (A : Inputs) : Weights where
  out k j := A.wOut (ix3 0 k j)
  gate k j := A.wGate (ix3 0 k j)
  ple k j := A.wPle (ix3 0 k j)
  lnG j := A.lnG (ix2 0 j)
  lnB j := A.lnB (ix2 0 j)
  gateB j := A.gateB (ix2 0 j)

/-- Token `r` of the arrays. -/
def Inputs.token (A : Inputs) (r : Fin 8192) : Token where
  y k := A.y (ix3 0 r k)
  x j := A.x (ix3 0 r j)
  p k := A.p (ix4 0 0 r k)
  target j := A.target (ix3 0 r j)

/-- The mean over a row of 1024 entries. -/
def mean (v : Fin 1024 → EReal) : EReal := Ideal.div (∑ j, v j) (Ideal.ofBits .f32 0x44800000#32)

section Stages

variable (W : Weights) (T : Token) (j : Fin 1024)

/-- The residual plus the output projection. -/
def pre : EReal := Ideal.ofBits .f32 0x3F9837F0#32 * T.x j + ∑ k, T.y k * W.out k j

def ctr : EReal := pre W T j - mean (pre W T)

/-- The variance, with the layer norm's offset. -/
def vare : EReal := mean (fun i => ctr W T i * ctr W T i) + Ideal.ofBits .f32 0x3727C5AC#32

def rstd : EReal := Ideal.rsqrt (vare W T)

def xhat : EReal := ctr W T j * rstd W T

def x1 : EReal := xhat W T j * W.lnG j + W.lnB j

def gate : EReal := Ideal.logistic ((∑ k, x1 W T k * W.gate k j) + W.gateB j)

def ple : EReal := ∑ k, T.p k * W.ple k j

/-- What the forward pass leaves, less the target. -/
def diff : EReal := x1 W T j + gate W T j * ple W T j - T.target j

/-- The loss's gradient at the layer's output. -/
def dOut : EReal := diff W T j * Ideal.ofBits .f32 0x3A800000#32

/-- The gradient at the embedding's product. -/
def dPle : EReal := dOut W T j * gate W T j

/-- The gradient at the gate's argument. -/
def dGate : EReal := dOut W T j * ple W T j * gate W T j * (1 - gate W T j)

/-- The gradient at the layer norm's result. -/
def dX1 : EReal := dOut W T j + ∑ k, dGate W T k * W.gate j k

def dXhat : EReal := dX1 W T j * W.lnG j

/-- The gradient before the layer norm. -/
def dPre : EReal :=
  rstd W T * (dXhat W T j - mean (dXhat W T) - xhat W T j * mean (fun i => dXhat W T i * xhat W T i))

end Stages

section Results

variable (A : Inputs)

abbrev Inputs.dX (r : Fin 8192) (j : Fin 1024) : EReal :=
  Ideal.ofBits .f32 0x3F9837F0#32 * dPre A.weights (A.token r) j

abbrev Inputs.dY (r : Fin 8192) (k : Fin 2048) : EReal :=
  ∑ j, dPre A.weights (A.token r) j * A.weights.out k j

abbrev Inputs.dWOut (k : Fin 2048) (j : Fin 1024) : EReal :=
  ∑ r, (A.token r).y k * dPre A.weights (A.token r) j

abbrev Inputs.dWGate (k j : Fin 1024) : EReal :=
  ∑ r, x1 A.weights (A.token r) k * dGate A.weights (A.token r) j

abbrev Inputs.dWPle (k : Fin 256) (j : Fin 1024) : EReal :=
  ∑ r, (A.token r).p k * dPle A.weights (A.token r) j

theorem slab_lt (q : Fin 4) (j : Fin 256) : q.val * 256 + j.val < 1024 := by omega

/-- The embedding weight's gradient, in four slabs of columns. -/
abbrev Inputs.dWPleSlab (q : Fin 4) (k j : Fin 256) : EReal := A.dWPle k ⟨q.val * 256 + j.val, slab_lt q j⟩

abbrev Inputs.dLnG (j : Fin 1024) : EReal :=
  ∑ r, dX1 A.weights (A.token r) j * xhat A.weights (A.token r) j

abbrev Inputs.dLnB (j : Fin 1024) : EReal := ∑ r, dX1 A.weights (A.token r) j

abbrev Inputs.dGateB (j : Fin 1024) : EReal := ∑ r, dGate A.weights (A.token r) j

abbrev Inputs.squares (j : Fin 1024) : EReal :=
  ∑ r, diff A.weights (A.token r) j * diff A.weights (A.token r) j

end Results

end Cert.Tail

end
-- ==== Proof.Tail.Law.lean ====
/-
The arithmetic that ties the two spellings of the tail's backward pass: the loss's scale, and the layer norm's derivative.

The derivative the reference states carries the variance's and the mean's contributions one by one. Where the rows are real
they collapse to the closed form the kernel computes: the centred row sums to zero, and `rsqrt v / v` is the cube of the
reciprocal deviation.
-/
module

public import proofs.«01_k».proof.Proof.Tail.Spec

@[expose] public section

noncomputable section

namespace Cert.Tail

open Idealize.ShloMosaic

/-! ### The literals -/

theorem lit_1024 : Ideal.ofBits .f32 0x44800000#32 = ((1024 : ℝ) : EReal) := by
  simp [Ideal.ofBits, Ideal.ieee, -EReal.coe_mul]; norm_num

theorem lit_inv_1024 : Ideal.ofBits .f32 0x3A800000#32 = ((1 / 1024 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-1 / 2 : ℝ) : EReal) := by
  simp [Ideal.ofBits, Ideal.ieee, -EReal.coe_mul, -EReal.coe_neg]; norm_num

theorem lit_two : Ideal.ofBits .f32 0x40000000#32 = ((2 : ℝ) : EReal) := by
  simp [Ideal.ofBits, Ideal.ieee, -EReal.coe_mul]; norm_num

/-- The layer norm's offset is a positive real. -/
theorem lit_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- The residual's factor is a real. -/
theorem lit_alpha : ∃ e : ℝ, Ideal.ofBits .f32 0x3F9837F0#32 = (e : EReal) := by
  refine ⟨9975792 / 2 ^ 23, ?_⟩
  simp [Ideal.ofBits, Ideal.ieee, -EReal.coe_mul]; norm_num

theorem coe_sum {ι : Type} (s : Finset ι) (f : ι → ℝ) : ((∑ i ∈ s, f i : ℝ) : EReal) = ∑ i ∈ s, (f i : EReal) := by
  classical
  induction s using Finset.induction_on with
  | empty => simp
  | insert i s h ih => rw [Finset.sum_insert h, Finset.sum_insert h, EReal.coe_add, ih]

theorem div_coe (x y : ℝ) (h : y ≠ 0) : Ideal.div (x : EReal) y = ((x / y : ℝ) : EReal) := by
  rw [Ideal.div, if_neg (by exact_mod_cast h), div_eq_mul_inv, EReal.coe_mul, EReal.coe_inv]

/-- The loss's scale: half of twice, over the row's length. -/
theorem scale (d : EReal) :
    Ideal.div (Ideal.ofBits .f32 0x3F000000#32 * 1) (Ideal.ofBits .f32 0x44800000#32) * (Ideal.ofBits .f32 0x40000000#32 * d)
      = d * Ideal.ofBits .f32 0x3A800000#32 := by
  rw [mul_one, lit_half, lit_1024, lit_two, lit_inv_1024, div_coe _ _ (by norm_num), ← mul_assoc, ← EReal.coe_mul, mul_comm]
  norm_num

/-! ### The layer norm's derivative -/

section Norm

variable (W : Weights) (T : Token) (j : Fin 1024)

/-- The variance's share of the derivative, per entry: half the reciprocal deviation's derivative. -/
def varShare : EReal :=
  Ideal.div ((∑ i, ctr W T i * dXhat W T i) * (Ideal.ofBits .f32 0xBF000000#32 * Ideal.div (rstd W T) (vare W T)))
    (Ideal.ofBits .f32 0x44800000#32)

/-- The mean's share of the derivative. -/
def meanShare : EReal :=
  Ideal.div ((∑ i, -(dXhat W T i * rstd W T)) + ∑ i, -(varShare W T * (Ideal.ofBits .f32 0x40000000#32 * ctr W T i)))
    (Ideal.ofBits .f32 0x44800000#32)

/-- The gradient before the layer norm, each of the norm's three uses of the row on its own. -/
def dPreChain : EReal :=
  dXhat W T j * rstd W T + varShare W T * (Ideal.ofBits .f32 0x40000000#32 * ctr W T j) + meanShare W T

end Norm

/-- The same derivative over the reals. -/
theorem norm_real (n : ℝ) (hn : n ≠ 0) {ι : Type} [Fintype ι] (c a : ι → ℝ) (hc : ∑ i, c i = 0) (v : ℝ) (hv : 0 < v) (j : ι) :
    a j * (√v)⁻¹ + ((∑ i, c i * a i) * (-1 / 2 * ((√v)⁻¹ / v))) / n * (2 * c j)
        + ((∑ i, -(a i * (√v)⁻¹)) + ∑ i, -(((∑ i, c i * a i) * (-1 / 2 * ((√v)⁻¹ / v))) / n * (2 * c i))) / n
      = (√v)⁻¹ * (a j - (∑ i, a i) / n - c j * (√v)⁻¹ * ((∑ i, a i * (c i * (√v)⁻¹)) / n)) := by
  have hs : (√v)⁻¹ / v = (√v)⁻¹ ^ 3 := by
    have h : √v ≠ 0 := (Real.sqrt_pos.mpr hv).ne'
    have h2 : v = √v * √v := (Real.mul_self_sqrt hv.le).symm
    rw [div_eq_mul_inv]
    nth_rewrite 2 [h2]
    rw [mul_inv]; ring
  have h1 : ∑ i, -(a i * (√v)⁻¹) = -((∑ i, a i) * (√v)⁻¹) := by
    rw [Finset.sum_neg_distrib, Finset.sum_mul]
  have h2 (D : ℝ) : ∑ i, -(D * (2 * c i)) = 0 := by
    rw [Finset.sum_neg_distrib, ← Finset.mul_sum, ← Finset.mul_sum, hc]; simp
  have h3 : ∑ i, a i * (c i * (√v)⁻¹) = (∑ i, c i * a i) * (√v)⁻¹ := by
    rw [Finset.sum_mul]; exact Finset.sum_congr rfl fun i _ => by ring
  rw [h1, h2, h3, hs]
  field_simp
  ring

theorem mean_coe (v : Fin 1024 → ℝ) : mean (fun j => (v j : EReal)) = (((∑ j, v j) / 1024 : ℝ) : EReal) := by
  rw [mean, lit_1024, ← coe_sum, div_coe _ _ (by norm_num)]

/-- A centred real row is a real row that sums to zero. -/
theorem ctr_real (W : Weights) (T : Token) (h : ∀ j, ∃ x : ℝ, pre W T j = x) :
    ∃ c : Fin 1024 → ℝ, (∀ j, ctr W T j = c j) ∧ ∑ j, c j = 0 := by
  choose x hx using h
  refine ⟨fun j => x j - (∑ i, x i) / 1024, fun j => ?_, ?_⟩
  · rw [ctr, funext hx, mean_coe, ← EReal.coe_sub]
  · rw [Finset.sum_sub_distrib, Finset.sum_const, Finset.card_univ, Fintype.card_fin]; simp; ring

/-- Where the row before the layer norm and the gradient after it are real, the reciprocal deviation is that of a positive
    variance. -/
theorem vare_real (W : Weights) (T : Token) (c : Fin 1024 → ℝ) (h : ∀ j, ctr W T j = c j) : ∃ v : ℝ, 0 < v ∧ vare W T = v := by
  obtain ⟨e, he, hl⟩ := lit_eps
  refine ⟨(∑ j, c j * c j) / 1024 + e, ?_, ?_⟩
  · have : 0 ≤ ∑ j, c j * c j := Finset.sum_nonneg fun j _ => mul_self_nonneg _
    positivity
  · rw [vare, hl, EReal.coe_add, ← mean_coe]
    simp only [h, EReal.coe_mul]

theorem rstd_real (W : Weights) (T : Token) (v : ℝ) (hv : 0 < v) (h : vare W T = v) : rstd W T = (((√v)⁻¹ : ℝ) : EReal) := by
  rw [rstd, h]
  show (if v < 0 then (⊥ : EReal) else if v = 0 then ⊤ else (((√v)⁻¹ : ℝ) : EReal)) = _
  rw [if_neg hv.le.not_gt, if_neg hv.ne']

theorem dPreChain_eq (W : Weights) (T : Token) (hp : ∀ j, ∃ x : ℝ, pre W T j = x) (hd : ∀ j, ∃ x : ℝ, dXhat W T j = x)
    (j : Fin 1024) : dPreChain W T j = dPre W T j := by
  obtain ⟨c, hc, hc0⟩ := ctr_real W T hp
  obtain ⟨v, hv, hve⟩ := vare_real W T c hc
  have hs := rstd_real W T v hv hve
  choose a ha using hd
  have hx : ∀ j, xhat W T j = ((c j * (√v)⁻¹ : ℝ) : EReal) := fun j => by rw [xhat, hc, hs, EReal.coe_mul]
  have key := congrArg (fun r : ℝ => (r : EReal)) (norm_real 1024 (by norm_num) c a hc0 v hv j)
  have h1 : varShare W T = (((∑ i, c i * a i) * (-1 / 2 * ((√v)⁻¹ / v)) / 1024 : ℝ) : EReal) := by
    simp only [varShare, hc, ha, hs, hve, lit_neg_half, lit_1024, ← EReal.coe_mul, ← coe_sum, div_coe _ _ hv.ne',
      div_coe _ (1024 : ℝ) (by norm_num)]
  have h2 : meanShare W T = ((((∑ i, -(a i * (√v)⁻¹))
      + ∑ i, -(((∑ i, c i * a i) * (-1 / 2 * ((√v)⁻¹ / v))) / 1024 * (2 * c i))) / 1024 : ℝ) : EReal) := by
    simp only [meanShare, hc, ha, hs, h1, lit_two, lit_1024, ← EReal.coe_mul, ← EReal.coe_neg, ← coe_sum, ← EReal.coe_add,
      div_coe _ (1024 : ℝ) (by norm_num)]
  refine Eq.trans ?_ (key.trans ?_)
  · rw [dPreChain, h1, h2, ha, hs, hc, lit_two]
    simp only [EReal.coe_mul, EReal.coe_add]
  · rw [dPre, funext ha, mean_coe, show (fun i => (a i : EReal) * xhat W T i) = fun i => ((a i * (c i * (√v)⁻¹) : ℝ) : EReal) from
      funext fun i => by rw [hx, EReal.coe_mul (a i)], mean_coe, hx, hs, ← EReal.coe_mul, ← EReal.coe_sub, ← EReal.coe_sub, ← EReal.coe_mul]

/-! ### The tail's stages are real -/

theorem real_mul {x y : EReal} (hx : ∃ a : ℝ, x = a) (hy : ∃ b : ℝ, y = b) : ∃ c : ℝ, x * y = c := by
  obtain ⟨a, rfl⟩ := hx; obtain ⟨b, rfl⟩ := hy; exact ⟨a * b, by rw [EReal.coe_mul]⟩

theorem real_add {x y : EReal} (hx : ∃ a : ℝ, x = a) (hy : ∃ b : ℝ, y = b) : ∃ c : ℝ, x + y = c := by
  obtain ⟨a, rfl⟩ := hx; obtain ⟨b, rfl⟩ := hy; exact ⟨a + b, by rw [EReal.coe_add]⟩

theorem real_sub {x y : EReal} (hx : ∃ a : ℝ, x = a) (hy : ∃ b : ℝ, y = b) : ∃ c : ℝ, x - y = c := by
  obtain ⟨a, rfl⟩ := hx; obtain ⟨b, rfl⟩ := hy; exact ⟨a - b, by rw [EReal.coe_sub]⟩

theorem real_sum {n : ℕ} {f : Fin n → EReal} (h : ∀ i, ∃ a : ℝ, f i = a) : ∃ c : ℝ, ∑ i, f i = c := by
  choose a ha using h
  exact ⟨∑ i, a i, by rw [coe_sum]; exact Finset.sum_congr rfl fun i _ => ha i⟩

/-- A sigmoid is a real, whatever its argument is. -/
theorem real_logistic (x : EReal) : ∃ a : ℝ, Ideal.logistic x = a := by
  unfold Ideal.logistic
  induction x with
  | bot => exact ⟨0, by
      rw [EReal.neg_bot, show Ideal.exp ⊤ = ⊤ from rfl, EReal.add_top_of_ne_bot (by decide), Ideal.div, if_neg (by decide)]; simp⟩
  | top => exact ⟨1, by
      rw [EReal.neg_top, show Ideal.exp ⊥ = 0 from rfl, add_zero, Ideal.div, if_neg one_ne_zero]; simp⟩
  | coe r =>
    refine ⟨1 / (1 + Real.exp (-r)), ?_⟩
    rw [← EReal.coe_neg, show Ideal.exp ((-r : ℝ) : EReal) = (Real.exp (-r) : EReal) from rfl, ← EReal.coe_one, ← EReal.coe_add,
      div_coe _ _ (by positivity)]

/-- The arguments of one token are real, but for the gate's bias. -/
structure RealArgs (W : Weights) (T : Token) : Prop where
  out : ∀ k j, ∃ a : ℝ, W.out k j = a
  gate : ∀ k j, ∃ a : ℝ, W.gate k j = a
  ple : ∀ k j, ∃ a : ℝ, W.ple k j = a
  lnG : ∀ j, ∃ a : ℝ, W.lnG j = a
  lnB : ∀ j, ∃ a : ℝ, W.lnB j = a
  y : ∀ k, ∃ a : ℝ, T.y k = a
  x : ∀ j, ∃ a : ℝ, T.x j = a
  p : ∀ k, ∃ a : ℝ, T.p k = a
  target : ∀ j, ∃ a : ℝ, T.target j = a

section Stages

variable {W : Weights} {T : Token} (H : RealArgs W T)
include H

theorem real_pre (j : Fin 1024) : ∃ a : ℝ, pre W T j = a :=
  real_add (real_mul lit_alpha (H.x j)) (real_sum fun k => real_mul (H.y k) (H.out k j))

theorem real_xhat (j : Fin 1024) : ∃ a : ℝ, xhat W T j = a := by
  obtain ⟨c, hc, -⟩ := ctr_real W T (real_pre H)
  obtain ⟨v, hv, hve⟩ := vare_real W T c hc
  exact real_mul ⟨_, hc j⟩ ⟨_, rstd_real W T v hv hve⟩

theorem real_x1 (j : Fin 1024) : ∃ a : ℝ, x1 W T j = a :=
  real_add (real_mul (real_xhat H j) (H.lnG j)) (H.lnB j)

theorem real_ple (j : Fin 1024) : ∃ a : ℝ, ple W T j = a := real_sum fun k => real_mul (H.p k) (H.ple k j)

theorem real_gate (j : Fin 1024) : ∃ a : ℝ, gate W T j = a := real_logistic _

theorem real_dOut (j : Fin 1024) : ∃ a : ℝ, dOut W T j = a :=
  real_mul (real_sub (real_add (real_x1 H j) (real_mul (real_gate H j) (real_ple H j))) (H.target j)) ⟨_, lit_inv_1024⟩

theorem real_dXhat (j : Fin 1024) : ∃ a : ℝ, dXhat W T j = a :=
  real_mul (real_add (real_dOut H j) (real_sum fun k => real_mul
    (real_mul (real_mul (real_mul (real_dOut H k) (real_ple H k)) (real_gate H k)) (real_sub ⟨1, EReal.coe_one.symm⟩ (real_gate H k)))
    (H.gate j k))) (H.lnG j)

/-- The two spellings of the gradient before the layer norm are equal on real arguments. -/
theorem chain_eq (j : Fin 1024) : dPreChain W T j = dPre W T j := dPreChain_eq W T (real_pre H) (real_dXhat H) j

end Stages

end Cert.Tail

end
-- ==== Proof.Tail.Rows.lean ====
/-
The values the tail kernel computes at a grid point, one half (256 tokens) at a time: each at an index is a stage of the
token and column it stands for.
-/
module

public import proofs.«01_k».proof.Proof.Tail.Law
public import proofs.«01_k».proof.Proof.Gen.KernelIdeal.Skeleton

@[expose] public section

set_option maxRecDepth 16384

noncomputable section

namespace Cert.Tail.Rows

open Idealize.ShloMosaic Cert.KernelIdeal Cert.KernelIdeal.Gen

/-- Two halves' tokens as one block of 512. -/
def both (T T' : Fin 256 → Token) (i : Fin 512) : Token :=
  if h : i.val < 256 then T ⟨i.val, h⟩ else T' ⟨i.val - 256, by omega⟩

theorem sum_both (T T' : Fin 256 → Token) (f : Token → EReal) : ∑ i, f (both T T' i) = ∑ i, f (T i) + ∑ i, f (T' i) := by
  rw [Fin.sum_univ_two_halves 256 256 (show 256 + 256 = 512 from rfl)]
  refine congrArg₂ (· + ·) rfl (Finset.sum_congr rfl fun i _ => ?_)
  unfold both; rw [dif_neg (by simp)]; congr 3; exact Nat.add_sub_cancel_left ..

/-! Columns of the four slices. -/

theorem lt0 (c : Fin 256) : c.val < 1024 := by omega
theorem lt00 (c : Fin 256) : 0 + c.val < 1024 := by omega
theorem lt256 (c : Fin 256) : 256 + c.val < 1024 := by omega
theorem lt512 (c : Fin 256) : 512 + c.val < 1024 := by omega
theorem lt768 (c : Fin 256) : 768 + c.val < 1024 := by omega

theorem lt_row {o : ℕ} (ho : o + 512 ≤ 2048) (k : Fin 512) : o + k.val < 2048 := by omega

variable {W : Weights} {T T' : Fin 256 → Token} (i : Fin 256) (j : Fin 1024)

/-! ## The residual and the layer norm -/

section Norm

variable {y : Vec Ideal S256x2048 .bf16} {w : Vec Ideal S2048x1024 .bf16} {x : Vec Ideal S256x1024 .f32} {g b : Vec Ideal S1x1024 .f32}
  (hy : ∀ i k, y (ix2 i k) = (T i).y k) (hw : ∀ k j, w (ix2 k j) = W.out k j) (hx : ∀ i j, x (ix2 i j) = (T i).x j)
  (hg : ∀ j, g (ix2 0 j) = W.lnG j) (hb : ∀ j, b (ix2 0 j) = W.lnB j)

include hy hw hx in
theorem ctr_low : k0_pay11 y w x (ix2 i j) = ctr W (T i) j := by
  unfold k0_pay11; pointwise [hy, hw, hx]; rfl

include hy hw hx in
theorem var_low : k0_pay12 y w x (ix2 i 0) = mean (fun j => ctr W (T i) j * ctr W (T i) j) := by
  unfold k0_pay12; pointwise [ctr_low _ _ hy hw hx]; rfl

include hy hw hx in
theorem rstd_low : k0_pay14 (k0_pay12 y w x) k0_pay13 (ix2 i 0) = rstd W (T i) := by
  unfold k0_pay14 k0_pay13; pointwise [var_low _ hy hw hx]; rfl

include hy hw hx in
theorem xhat_low : k0_pay15 (k0_pay11 y w x) (k0_pay12 y w x) k0_pay13 (ix2 i j) = xhat W (T i) j := by
  unfold k0_pay15; pointwise [ctr_low _ _ hy hw hx, rstd_low _ hy hw hx]; rfl

include hy hw hx hg hb in
theorem x1_low : k0_pay19 (k0_pay11 y w x) (k0_pay12 y w x) k0_pay13 g b (ix2 i j) = x1 W (T i) j := by
  unfold k0_pay19; pointwise [xhat_low _ _ hy hw hx, hg, hb]; rfl

include hy hw hx hg hb in
theorem x1_low' : k0_pay21 (k0_pay11 y w x) (k0_pay12 y w x) k0_pay13 g b (ix2 i j) = x1 W (T i) j := by
  unfold k0_pay21; pointwise [x1_low _ _ hy hw hx hg hb]

include hy hw in
theorem mix_high : k0_pay10 y w (ix2 i j) = ∑ k, (T i).y k * W.out k j := by
  unfold k0_pay10; pointwise [hy, hw]

include hy hw hx in
theorem ctr_high : k0_pay16 (k0_pay10 y w) x (ix2 i j) = ctr W (T i) j := by
  unfold k0_pay16; pointwise [mix_high _ _ hy hw, hx]; rfl

include hy hw hx in
theorem rstd_high : k0_pay17 (k0_pay10 y w) x (ix2 i 0) = rstd W (T i) := by
  unfold k0_pay17; pointwise [ctr_high _ _ hy hw hx]; rfl

include hy hw hx in
theorem xhat_high : k0_pay18 (k0_pay10 y w) x (ix2 i j) = xhat W (T i) j := by
  unfold k0_pay18; pointwise [ctr_high _ _ hy hw hx, rstd_high _ hy hw hx]; rfl

include hy hw hx hg hb in
theorem x1_high : k0_pay20 (k0_pay10 y w) x g b (ix2 i j) = x1 W (T i) j := by
  unfold k0_pay20; pointwise [xhat_high _ _ hy hw hx, hg, hb]; rfl

include hy hw hx hg hb in
theorem x1_high' : k0_pay22 (k0_pay10 y w) x g b (ix2 i j) = x1 W (T i) j := by
  unfold k0_pay22; pointwise [x1_high _ _ hy hw hx hg hb]

end Norm

/-! ## The gate and the embedding -/

section Gate

variable {y : Vec Ideal S256x2048 .bf16} {w : Vec Ideal S2048x1024 .bf16} {x : Vec Ideal S256x1024 .f32} {g b : Vec Ideal S1x1024 .f32}
  (hy : ∀ i k, y (ix2 i k) = (T i).y k) (hw : ∀ k j, w (ix2 k j) = W.out k j) (hx : ∀ i j, x (ix2 i j) = (T i).x j)
  (hg : ∀ j, g (ix2 0 j) = W.lnG j) (hb : ∀ j, b (ix2 0 j) = W.lnB j)
  {wg : Vec Ideal S1024x1024 .bf16} {c : Vec Ideal S1x1024 .f32}
  (hwg : ∀ k j, wg (ix2 k j) = W.gate k j) (hc : ∀ j, c (ix2 0 j) = W.gateB j)

include hy hw hx hg hb hwg hc in
theorem gate_low : k0_pay24 (k0_pay23 (k0_pay11 y w x) (k0_pay12 y w x) k0_pay13 g b wg) c (ix2 i j) = gate W (T i) j := by
  unfold k0_pay24 k0_pay23; pointwise [x1_low' _ _ hy hw hx hg hb, hwg, hc]; rfl

theorem gate_high {v : FVec Ideal S256x1024 .bf16} (hv : ∀ i j, v (ix2 i j) = x1 W (T i) j)
    (hwg : ∀ k j, wg (ix2 k j) = W.gate k j) (hc : ∀ j, c (ix2 0 j) = W.gateB j) :
    k0_pay25 v wg c (ix2 i j) = gate W (T i) j := by
  unfold k0_pay25; pointwise [hv, hwg, hc]; rfl

end Gate

theorem p_low {v : Vec Ideal S256x256 .f32} (hv : ∀ i k, v (ix2 i k) = (T i).p k) (k : Fin 256) : k0_pay8 v (ix2 i k) = (T i).p k := by
  unfold k0_pay8; pointwise [hv]

theorem p_high {v : Vec Ideal S256x256 .f32} (hv : ∀ i k, v (ix2 i k) = (T i).p k) (k : Fin 256) : k0_pay9 v (ix2 i k) = (T i).p k := by
  unfold k0_pay9; pointwise [hv]

/-- Four products over 256 columns each, side by side. -/
theorem ple_columns (W : Weights) (T : Token) (j : Fin 1024) :
    (if h : j.val < 256 then ∑ x, T.p x * W.ple x ⟨j.val, j.isLt⟩
    else if h : j.val - 256 < 256 then ∑ x, T.p x * W.ple x ⟨256 + (j.val - 256), by omega⟩
    else if h : j.val - 256 - 256 < 256 then ∑ x, T.p x * W.ple x ⟨512 + (j.val - 256 - 256), by omega⟩
    else ∑ x, T.p x * W.ple x ⟨768 + (j.val - 256 - 256 - 256), by omega⟩) = ple W T j := by
  unfold ple
  split_ifs <;> refine Finset.sum_congr rfl fun k _ => congrArg (fun c => T.p k * W.ple k c) (Fin.ext ?_) <;> dsimp only <;> omega

section Ple

variable {v0 v1 v2 v3 : Vec Ideal S1x256x256 .bf16}
  (h0 : ∀ k (j : Fin 256), v0 (ix3 0 k j) = W.ple k ⟨0 + j, lt00 j⟩)
  (h1 : ∀ k (j : Fin 256), v1 (ix3 0 k j) = W.ple k ⟨256 + j, lt256 j⟩)
  (h2 : ∀ k (j : Fin 256), v2 (ix3 0 k j) = W.ple k ⟨512 + j, lt512 j⟩)
  (h3 : ∀ k (j : Fin 256), v3 (ix3 0 k j) = W.ple k ⟨768 + j, lt768 j⟩)
  {v : FVec Ideal S256x256 .bf16} (hv : ∀ i k, v (ix2 i k) = (T i).p k)

include h0 h1 h2 h3 hv

theorem ple_low : k0_pay26 v v0 v1 v2 v3 (ix2 i j) = ple W (T i) j := by
  unfold k0_pay26; pointwise [hv, h0, h1, h2, h3]; exact ple_columns W (T i) j

theorem ple_high : k0_pay29 v (k0_pay27 v v0) (k0_pay28 v v1) v2 v3 (ix2 i j) = ple W (T i) j := by
  unfold k0_pay29 k0_pay28 k0_pay27; pointwise [hv, h0, h1, h2, h3]; exact ple_columns W (T i) j

end Ple

/-! ## The loss's gradient, as far as the gate -/

section Loss

variable {a e q t : FVec Ideal S256x1024 .f32}
  (ha : ∀ i j, a (ix2 i j) = x1 W (T i) j) (he : ∀ i j, e (ix2 i j) = gate W (T i) j)
  (hq : ∀ i j, q (ix2 i j) = ple W (T i) j) (ht : ∀ i j, t (ix2 i j) = (T i).target j)

include ha he hq ht in
theorem diff_low : k0_pay30 a e q t (ix2 i j) = diff W (T i) j := by
  unfold k0_pay30; pointwise [ha, he, hq, ht]; rfl

include ha he hq ht in
theorem dOut_low : k0_pay33 a e q t (ix2 i j) = dOut W (T i) j := by
  unfold k0_pay33; pointwise [diff_low _ _ ha he hq ht]; rfl

include ha he hq ht in
theorem dPle_low : k0_pay35 a e q t (ix2 i j) = dPle W (T i) j := by
  unfold k0_pay35; pointwise [dOut_low _ _ ha he hq ht, he]; rfl

variable {v : FVec Ideal S256x256 .bf16} {q0 q1 : FVec Ideal S256x256 .f32} {v2 v3 : Vec Ideal S1x256x256 .bf16}
  (hq' : ∀ i j, k0_pay29 v q0 q1 v2 v3 (ix2 i j) = ple W (T i) j)

include ha he hq' ht in
theorem diff_high : k0_pay31 v a e q0 q1 v2 v3 t (ix2 i j) = diff W (T i) j := by
  unfold k0_pay31; pointwise [ha, he, hq', ht]; rfl

include ha he hq' ht in
theorem dOut_high : k0_pay34 v a e q0 q1 v2 v3 t (ix2 i j) = dOut W (T i) j := by
  unfold k0_pay34; pointwise [diff_high _ _ ha he ht hq']; rfl

include ha he hq' ht in
theorem dPle_high : k0_pay36 v a e q0 q1 v2 v3 t (ix2 i j) = dPle W (T i) j := by
  unfold k0_pay36; pointwise [dOut_high _ _ ha he ht hq', he]; rfl

variable {a' e' q' t' : FVec Ideal S256x1024 .f32}
  (ha' : ∀ i j, a' (ix2 i j) = x1 W (T' i) j) (he' : ∀ i j, e' (ix2 i j) = gate W (T' i) j)
  (hq'' : ∀ i j, k0_pay29 v q0 q1 v2 v3 (ix2 i j) = ple W (T' i) j) (ht' : ∀ i j, t' (ix2 i j) = (T' i).target j)

include ha he hq ht ha' he' hq'' ht' in
theorem squares_step (s : FVec Ideal S1x1024 .f32) :
    k0_pay32 v a a' e e' q q0 q1 v2 v3 t t' s (ix2 0 j) = s (ix2 0 j) + ∑ i, diff W (both T T' i) j * diff W (both T T' i) j := by
  unfold k0_pay32
  pointwise [diff_low _ _ ha he hq ht, diff_high _ _ ha' he' ht' hq'']
  rw [sum_both T T' fun t => diff W t j * diff W t j]

end Loss

section Sigmoid

variable {d e q d' e' q' : FVec Ideal S256x1024 .f32}
  (hd : ∀ i j, d (ix2 i j) = dOut W (T i) j) (he : ∀ i j, e (ix2 i j) = gate W (T i) j) (hq : ∀ i j, q (ix2 i j) = ple W (T i) j)
  (hd' : ∀ i j, d' (ix2 i j) = dOut W (T' i) j) (he' : ∀ i j, e' (ix2 i j) = gate W (T' i) j) (hq' : ∀ i j, q' (ix2 i j) = ple W (T' i) j)

include hd he hq in
theorem dGate_low : k0_pay37 e q d (ix2 i j) = dGate W (T i) j := by
  unfold k0_pay37; pointwise [hd, he, hq]; rfl

include hd he hq in
theorem dGate_low' : k0_pay39 e q d (ix2 i j) = dGate W (T i) j := by
  unfold k0_pay39; pointwise [dGate_low _ _ hd he hq]

include hd he hq in
theorem dGate_high : k0_pay38 e q d (ix2 i j) = dGate W (T i) j := by
  unfold k0_pay38; pointwise [hd, he, hq]; rfl

include hd he hq in
theorem dGate_high' : k0_pay40 e q d (ix2 i j) = dGate W (T i) j := by
  unfold k0_pay40; pointwise [dGate_high _ _ hd he hq]

include hd he hq hd' he' hq' in
theorem gateB_step (s : FVec Ideal S1x1024 .f32) :
    k0_pay41 e e' q q' d d' s (ix2 0 j) = s (ix2 0 j) + ∑ i, dGate W (both T T' i) j := by
  unfold k0_pay41
  pointwise [dGate_low _ _ hd he hq, dGate_high _ _ hd' he' hq']
  rw [sum_both T T' fun t => dGate W t j]

include hd he hq hd' he' hq' in
theorem dGate_both (i : Fin 512) : k0_pay45 e e' q q' d d' (ix2 i j) = dGate W (both T T' i) j := by
  unfold k0_pay45
  pointwise [dGate_low' _ _ hd he hq, dGate_high' _ _ hd' he' hq']
  unfold both; split_ifs <;> rfl

end Sigmoid

/-! ## The two halves side by side, and the weights' products over them -/

theorem p_both {v v' : FVec Ideal S256x256 .bf16} (h : ∀ i k, v (ix2 i k) = (T i).p k) (h' : ∀ i k, v' (ix2 i k) = (T' i).p k)
    (i : Fin 512) (k : Fin 256) : k0_pay42 v v' (ix2 i k) = (both T T' i).p k := by
  unfold k0_pay42; pointwise [h, h']; unfold both; split_ifs <;> rfl

theorem dPle_both {v v' : FVec Ideal S256x1024 .bf16} (h : ∀ i j, v (ix2 i j) = dPle W (T i) j) (h' : ∀ i j, v' (ix2 i j) = dPle W (T' i) j)
    (i : Fin 512) : k0_pay43 v v' (ix2 i j) = dPle W (both T T' i) j := by
  unfold k0_pay43; pointwise [h, h']; unfold both; split_ifs <;> rfl

theorem x1_both {v v' : FVec Ideal S256x1024 .bf16} (h : ∀ i j, v (ix2 i j) = x1 W (T i) j) (h' : ∀ i j, v' (ix2 i j) = x1 W (T' i) j)
    (i : Fin 512) : k0_pay44 v v' (ix2 i j) = x1 W (both T T' i) j := by
  unfold k0_pay44; pointwise [h, h']; unfold both; split_ifs <;> rfl

theorem dPre_both {v v' : FVec Ideal S256x1024 .bf16} (h : ∀ i j, v (ix2 i j) = dPre W (T i) j) (h' : ∀ i j, v' (ix2 i j) = dPre W (T' i) j)
    (i : Fin 512) : k0_pay81 v v' (ix2 i j) = dPre W (both T T' i) j := by
  unfold k0_pay81; pointwise [h, h']; unfold both; split_ifs <;> rfl

section PleProduct

variable {B : Fin 512 → Token} {a : FVec Ideal S512x256 .bf16} {b : FVec Ideal S512x1024 .bf16}
  (ha : ∀ i k, a (ix2 i k) = (B i).p k) (hb : ∀ i j, b (ix2 i j) = dPle W (B i) j) (s : FVec Ideal S1x256x256 .f32) (k c : Fin 256)

theorem ple_step0 {v v' : FVec Ideal S256x256 .bf16} {u u' : FVec Ideal S256x1024 .bf16}
    (ha : ∀ i k, k0_pay42 v v' (ix2 i k) = (B i).p k) (hb : ∀ i j, k0_pay43 u u' (ix2 i j) = dPle W (B i) j) :
    k0_pay46 v v' u u' s (ix3 0 k c) = s (ix3 0 k c) + ∑ i, (B i).p k * dPle W (B i) ⟨c.val, lt0 c⟩ := by
  unfold k0_pay46; pointwise [ha, hb]

theorem ple_step1 {u u' : FVec Ideal S256x1024 .bf16} (ha : ∀ i k, a (ix2 i k) = (B i).p k)
    (hb : ∀ i j, k0_pay43 u u' (ix2 i j) = dPle W (B i) j) :
    k0_pay49 a (k0_pay47 s) (k0_pay48 u u') (constant S256x256 .f32 0#32) (ix3 0 k c) = s (ix3 0 k c) + ∑ i, (B i).p k * dPle W (B i) ⟨256 + c.val, lt256 c⟩ := by
  unfold k0_pay49 k0_pay47 k0_pay48; pointwise [ha, hb]

include ha hb

theorem ple_step2 : k0_pay50 a b s (ix3 0 k c) = s (ix3 0 k c) + ∑ i, (B i).p k * dPle W (B i) ⟨512 + c.val, lt512 c⟩ := by
  unfold k0_pay50; pointwise [ha, hb]

theorem ple_step3 : k0_pay51 a b s (ix3 0 k c) = s (ix3 0 k c) + ∑ i, (B i).p k * dPle W (B i) ⟨768 + c.val, lt768 c⟩ := by
  unfold k0_pay51; pointwise [ha, hb]

end PleProduct

section GateProduct

variable {B : Fin 512 → Token} {a b : FVec Ideal S512x1024 .bf16}
  (ha : ∀ i k, a (ix2 i k) = x1 W (B i) k) (hb : ∀ i j, b (ix2 i j) = dGate W (B i) j) (s : FVec Ideal S1024x256 .f32) (k : Fin 1024) (c : Fin 256)

include ha hb

theorem gate_step0 : k0_pay52 a b s (ix2 k c) = s (ix2 k c) + ∑ i, x1 W (B i) k * dGate W (B i) ⟨c.val, lt0 c⟩ := by
  unfold k0_pay52; pointwise [ha, hb]

theorem gate_step1 : k0_pay54 s (k0_pay53 a b) (ix2 k c) = s (ix2 k c) + ∑ i, x1 W (B i) k * dGate W (B i) ⟨256 + c.val, lt256 c⟩ := by
  unfold k0_pay54 k0_pay53; pointwise [ha, hb]

theorem gate_step2 : k0_pay55 a b s (ix2 k c) = s (ix2 k c) + ∑ i, x1 W (B i) k * dGate W (B i) ⟨512 + c.val, lt512 c⟩ := by
  unfold k0_pay55; pointwise [ha, hb]

theorem gate_step3 : k0_pay56 a b s (ix2 k c) = s (ix2 k c) + ∑ i, x1 W (B i) k * dGate W (B i) ⟨768 + c.val, lt768 c⟩ := by
  unfold k0_pay56; pointwise [ha, hb]

end GateProduct

section OutProduct

variable {B : Fin 512 → Token} {y : Vec Ideal S512x2048 .bf16} {b : FVec Ideal S512x1024 .bf16}
  (hy : ∀ i k, y (ix2 i k) = (B i).y k) (hb : ∀ i j, b (ix2 i j) = dPre W (B i) j) (s : Vec Ideal S2048x256 .f32) (k : Fin 2048) (c : Fin 256)

include hy

theorem out_step0 {v v' : FVec Ideal S256x1024 .bf16} (hb : ∀ i j, k0_pay81 v v' (ix2 i j) = dPre W (B i) j) :
    k0_pay84 s (k0_pay82 y) (k0_pay83 v v') (ix2 k c) = s (ix2 k c) + ∑ i, (B i).y k * dPre W (B i) ⟨c.val, lt0 c⟩ := by
  unfold k0_pay84 k0_pay82 k0_pay83; pointwise [hy, hb]

include hb

theorem out_step1 : k0_pay85 b s y (ix2 k c) = s (ix2 k c) + ∑ i, (B i).y k * dPre W (B i) ⟨256 + c.val, lt256 c⟩ := by
  unfold k0_pay85; pointwise [hy, hb]

theorem out_step2 : k0_pay86 b s y (ix2 k c) = s (ix2 k c) + ∑ i, (B i).y k * dPre W (B i) ⟨512 + c.val, lt512 c⟩ := by
  unfold k0_pay86; pointwise [hy, hb]

theorem out_step3 : k0_pay87 b s y (ix2 k c) = s (ix2 k c) + ∑ i, (B i).y k * dPre W (B i) ⟨768 + c.val, lt768 c⟩ := by
  unfold k0_pay87; pointwise [hy, hb]

end OutProduct

/-! ## Back through the layer norm -/

section Back

variable {d : FVec Ideal S256x1024 .f32} {e : FVec Ideal S256x1024 .bf16} {wg : Vec Ideal S1024x1024 .bf16}
  (hd : ∀ i j, d (ix2 i j) = dOut W (T i) j) (he : ∀ i j, e (ix2 i j) = dGate W (T i) j) (hwg : ∀ k j, wg (ix2 k j) = W.gate k j)

include hd he hwg in
theorem dX1_low : k0_pay57 d e wg (ix2 i j) = dX1 W (T i) j := by
  unfold k0_pay57; pointwise [hd, he, hwg]; rfl

include hd he hwg in
theorem dX1_high : k0_pay58 d e wg (ix2 i j) = dX1 W (T i) j := by
  unfold k0_pay58; pointwise [hd, he, hwg]; rfl

variable {h h' : FVec Ideal S256x1024 .f32} (hh : ∀ i j, h (ix2 i j) = xhat W (T i) j) (hh' : ∀ i j, h' (ix2 i j) = xhat W (T' i) j)
  {d' : FVec Ideal S256x1024 .f32} {e' : FVec Ideal S256x1024 .bf16}
  (hd' : ∀ i j, d' (ix2 i j) = dOut W (T' i) j) (he' : ∀ i j, e' (ix2 i j) = dGate W (T' i) j)

include hd he hwg hd' he' hh hh' in
theorem lnG_step (s : FVec Ideal S1x1024 .f32) :
    k0_pay62 (k0_pay59 s) (k0_pay60 h d e wg) (k0_pay61 h' d' e' wg) (ix2 0 j)
      = s (ix2 0 j) + ∑ i, dX1 W (both T T' i) j * xhat W (both T T' i) j := by
  unfold k0_pay62 k0_pay59 k0_pay60 k0_pay61
  pointwise [dX1_low _ _ hd he hwg, dX1_high _ _ hd' he' hwg, hh, hh']
  rw [sum_both T T' fun t => dX1 W t j * xhat W t j]

theorem lnB_step {v v' : FVec Ideal S256x1024 .f32} (hv : ∀ i j, v (ix2 i j) = dX1 W (T i) j) (hv' : ∀ i j, v' (ix2 i j) = dX1 W (T' i) j)
    (s : FVec Ideal S1x1024 .f32) : k0_pay63 v v' s (ix2 0 j) = s (ix2 0 j) + ∑ i, dX1 W (both T T' i) j := by
  unfold k0_pay63; pointwise [hv, hv']; rw [sum_both T T' fun t => dX1 W t j]

variable {v : FVec Ideal S256x1024 .f32} {r : FVec Ideal S256x1 .f32} {g : Vec Ideal S1x1024 .f32}
  (hv : ∀ i j, v (ix2 i j) = dX1 W (T i) j) (hr : ∀ i, r (ix2 i 0) = rstd W (T i)) (hg : ∀ j, g (ix2 0 j) = W.lnG j)

include hv hr hg hh

theorem dPre_low : k0_pay64 r h v g (ix2 i j) = dPre W (T i) j := by
  unfold k0_pay64; pointwise [hv, hr, hg, hh]; rfl

theorem dPre_low' : k0_pay69 (k0_pay64 r h v g) (ix2 i j) = dPre W (T i) j := by
  unfold k0_pay69; pointwise [dPre_low _ _ hh hv hr hg]

theorem dX_low : k0_pay71 (k0_pay64 r h v g) (ix2 i j) = Ideal.ofBits .f32 0x3F9837F0#32 * dPre W (T i) j := by
  unfold k0_pay71; pointwise [dPre_low _ _ hh hv hr hg]

theorem dPre_high : k0_pay68 r h (k0_pay65 v g) (k0_pay66 v g) k0_pay67 (ix2 i j) = dPre W (T i) j := by
  unfold k0_pay68 k0_pay67 k0_pay66 k0_pay65; pointwise [hv, hr, hg, hh]; rfl

theorem dPre_high' : k0_pay70 r h (k0_pay65 v g) (k0_pay66 v g) k0_pay67 (ix2 i j) = dPre W (T i) j := by
  unfold k0_pay70; pointwise [dPre_high _ _ hh hv hr hg]

theorem dX_high : k0_pay72 r h (k0_pay65 v g) (k0_pay66 v g) k0_pay67 (ix2 i j) = Ideal.ofBits .f32 0x3F9837F0#32 * dPre W (T i) j := by
  unfold k0_pay72; pointwise [dPre_high _ _ hh hv hr hg]

end Back

/-! ## The gradient at the output projection's operand, 512 columns at a time -/

section DY

variable {w : Vec Ideal S512x1024 .bf16} (o : ℕ) (ho : o + 512 ≤ 2048) (hw : ∀ (k : Fin 512) j, w (ix2 k j) = W.out ⟨o + k, lt_row ho k⟩ j) (k : Fin 512)

variable {v : FVec Ideal S256x1024 .bf16} (hv : ∀ i j, v (ix2 i j) = dPre W (T i) j)

include hw

theorem dY_low {v : FVec Ideal S256x1024 .f32} (hv : ∀ i j, k0_pay69 v (ix2 i j) = dPre W (T i) j) :
    k0_pay73 v w (ix2 i k) = ∑ j, dPre W (T i) j * W.out ⟨o + k, lt_row ho k⟩ j := by
  unfold k0_pay73; pointwise [hv, hw]

theorem dY_high {r : FVec Ideal S256x1 .f32} {h u : FVec Ideal S256x1024 .f32} {a b : FVec Ideal S256x1 .f32}
    (hv : ∀ i j, k0_pay70 r h u a b (ix2 i j) = dPre W (T i) j) :
    k0_pay74 r h u a b w (ix2 i k) = ∑ j, dPre W (T i) j * W.out ⟨o + k, lt_row ho k⟩ j := by
  unfold k0_pay74; pointwise [hv, hw]

include hv

theorem dY_step : k0_pay76 v w (ix2 i k) = ∑ j, dPre W (T i) j * W.out ⟨o + k, lt_row ho k⟩ j := by
  unfold k0_pay76; pointwise [hv, hw]

theorem dY_step' : k0_pay77 v w (ix2 i k) = ∑ j, dPre W (T i) j * W.out ⟨o + k, lt_row ho k⟩ j ∧ k0_pay78 v w (ix2 i k) = ∑ j, dPre W (T i) j * W.out ⟨o + k, lt_row ho k⟩ j
    ∧ k0_pay79 v w (ix2 i k) = ∑ j, dPre W (T i) j * W.out ⟨o + k, lt_row ho k⟩ j ∧ k0_pay80 v w (ix2 i k) = ∑ j, dPre W (T i) j * W.out ⟨o + k, lt_row ho k⟩ j :=
  ⟨dY_step i o ho hw k hv, dY_step i o ho hw k hv, dY_step i o ho hw k hv, dY_step i o ho hw k hv⟩

end DY

end Cert.Tail.Rows

end
-- ==== Proof.Tail.Step.lean ====
/-
What the tail kernel's body stores at a grid point, over what it loads there: the values of `Rows`, composed as the body
composes them, and the list of stores of each buffer it writes.
-/
module

public import proofs.«01_k».proof.Proof.Tail.Rows
public import Idealize.ShloMosaic.Lib.Pipeline.Value

@[expose] public section

set_option maxRecDepth 16384

noncomputable section

namespace Cert.KernelIdeal.Tail

open Cert.KernelIdeal Cert.KernelIdeal.Gen
open Idealize.ShloMosaic Idealize.ShloMosaic.Tactic

/-- The loads of the body at a grid point: the blocks' halves, the weights (whole, or by the slices it loads), and the running
    sums (by the slices it adds to). -/
structure Reads (F : FTy → Type) [FloatOps F] where
  yLow : Vec F S256x2048 .bf16
  yHigh : Vec F S256x2048 .bf16
  yAll : Vec F S512x2048 .bf16
  xLow : Vec F S256x1024 .f32
  xHigh : Vec F S256x1024 .f32
  pLow : Vec F S256x256 .f32
  pHigh : Vec F S256x256 .f32
  tLow : Vec F S256x1024 .f32
  tHigh : Vec F S256x1024 .f32
  g : Vec F S1x1024 .f32
  b : Vec F S1x1024 .f32
  c : Vec F S1x1024 .f32
  wOut : Vec F S2048x1024 .bf16
  wOut0 : Vec F S512x1024 .bf16
  wOut1 : Vec F S512x1024 .bf16
  wOut2 : Vec F S512x1024 .bf16
  wOut3 : Vec F S512x1024 .bf16
  wGate : Vec F S1024x1024 .bf16
  wPle0 : Vec F S1x256x256 .bf16
  wPle1 : Vec F S1x256x256 .bf16
  wPle2 : Vec F S1x256x256 .bf16
  wPle3 : Vec F S1x256x256 .bf16
  lnG : Vec F S1x1024 .f32
  lnB : Vec F S1x1024 .f32
  gateB : Vec F S1x1024 .f32
  squares : Vec F S1x1024 .f32
  out0 : Vec F S2048x256 .f32
  out1 : Vec F S2048x256 .f32
  out2 : Vec F S2048x256 .f32
  out3 : Vec F S2048x256 .f32
  gate0 : Vec F S1024x256 .f32
  gate1 : Vec F S1024x256 .f32
  gate2 : Vec F S1024x256 .f32
  gate3 : Vec F S1024x256 .f32
  ple0 : Vec F S1x256x256 .f32
  ple1 : Vec F S1x256x256 .f32
  ple2 : Vec F S1x256x256 .f32
  ple3 : Vec F S1x256x256 .f32

namespace Reads

variable {F : FTy → Type} [FloatOps F] (R : Reads F)

def p0 := k0_pay8 R.pLow
def p1 := k0_pay9 R.pHigh
def mix := k0_pay10 R.yHigh R.wOut
def ctr := k0_pay11 R.yLow R.wOut R.xLow
def var := k0_pay12 R.yLow R.wOut R.xLow
def rstdLow := k0_pay14 R.var k0_pay13
def xhatLow := k0_pay15 R.ctr R.var k0_pay13
def rstdHigh := k0_pay17 R.mix R.xHigh
def xhatHigh := k0_pay18 R.mix R.xHigh
def x1Low := k0_pay19 R.ctr R.var k0_pay13 R.g R.b
def x1High := k0_pay20 R.mix R.xHigh R.g R.b
def x1LowB := k0_pay21 R.ctr R.var k0_pay13 R.g R.b
def x1HighB := k0_pay22 R.mix R.xHigh R.g R.b
def gateArg := k0_pay23 R.ctr R.var k0_pay13 R.g R.b R.wGate
def gateLow := k0_pay24 R.gateArg R.c
def gateHigh := k0_pay25 R.x1HighB R.wGate R.c
def pleLow := k0_pay26 R.p0 R.wPle0 R.wPle1 R.wPle2 R.wPle3
def pleA := k0_pay27 R.p1 R.wPle0
def pleB := k0_pay28 R.p1 R.wPle1
def pleHigh := k0_pay29 R.p1 R.pleA R.pleB R.wPle2 R.wPle3
def dOutLow := k0_pay33 R.x1Low R.gateLow R.pleLow R.tLow
def dOutHigh := k0_pay34 R.p1 R.x1High R.gateHigh R.pleA R.pleB R.wPle2 R.wPle3 R.tHigh
def dPleLow := k0_pay35 R.x1Low R.gateLow R.pleLow R.tLow
def dPleHigh := k0_pay36 R.p1 R.x1High R.gateHigh R.pleA R.pleB R.wPle2 R.wPle3 R.tHigh
def dGateLow := k0_pay39 R.gateLow R.pleLow R.dOutLow
def dGateHigh := k0_pay40 R.gateHigh R.pleHigh R.dOutHigh
def pBoth := k0_pay42 R.p0 R.p1
def dPleBoth := k0_pay43 R.dPleLow R.dPleHigh
def x1Both := k0_pay44 R.x1LowB R.x1HighB
def dGateBoth := k0_pay45 R.gateLow R.gateHigh R.pleLow R.pleHigh R.dOutLow R.dOutHigh
def ple1Sum := k0_pay47 R.ple1
def dPle1 := k0_pay48 R.dPleLow R.dPleHigh
def gate1Step := k0_pay53 R.x1Both R.dGateBoth
def dX1Low := k0_pay57 R.dOutLow R.dGateLow R.wGate
def dX1High := k0_pay58 R.dOutHigh R.dGateHigh R.wGate
def lnGSum := k0_pay59 R.lnG
def lnGLow := k0_pay60 R.xhatLow R.dOutLow R.dGateLow R.wGate
def lnGHigh := k0_pay61 R.xhatHigh R.dOutHigh R.dGateHigh R.wGate
def dPreLow := k0_pay64 R.rstdLow R.xhatLow R.dX1Low R.g
def dXhatHigh := k0_pay65 R.dX1High R.g
def dXhatSum := k0_pay66 R.dX1High R.g
def dPreLowB := k0_pay69 R.dPreLow
def dPreHighB := k0_pay70 R.rstdHigh R.xhatHigh R.dXhatHigh R.dXhatSum k0_pay67
def dy1Low := k0_pay75 R.dPreLow R.wOut1
def dPreBoth := k0_pay81 R.dPreLowB R.dPreHighB
def yB := k0_pay82 R.yAll
def dPre0 := k0_pay83 R.dPreLowB R.dPreHighB

/-! The stores of each buffer, last first. -/

def dxStores : List (View.Piece (Elt F) S512x1024 .f32) :=
  [⟨Rect.unit ![256, 0] ![256, 1024] inb_S512x1024_S256x1024_256_0, k0_pay72 R.rstdHigh R.xhatHigh R.dXhatHigh R.dXhatSum k0_pay67⟩,
    ⟨Rect.unit ![0, 0] ![256, 1024] inb_S512x1024_S256x1024_0_0, k0_pay71 R.dPreLow⟩]

def dyStores : List (View.Piece (Elt F) S512x2048 .bf16) :=
  [⟨Rect.unit ![256, 1536] ![256, 512] inb_S512x2048_S256x512_256_1536, k0_pay80 R.dPreHighB R.wOut3⟩,
    ⟨Rect.unit ![0, 1536] ![256, 512] inb_S512x2048_S256x512_0_1536, k0_pay79 R.dPreLowB R.wOut3⟩,
    ⟨Rect.unit ![256, 1024] ![256, 512] inb_S512x2048_S256x512_256_1024, k0_pay78 R.dPreHighB R.wOut2⟩,
    ⟨Rect.unit ![0, 1024] ![256, 512] inb_S512x2048_S256x512_0_1024, k0_pay77 R.dPreLowB R.wOut2⟩,
    ⟨Rect.unit ![256, 512] ![256, 512] inb_S512x2048_S256x512_256_512, k0_pay76 R.dPreHighB R.wOut1⟩,
    ⟨Rect.unit ![0, 512] ![256, 512] inb_S512x2048_S256x512_0_512, R.dy1Low⟩,
    ⟨Rect.unit ![256, 0] ![256, 512] inb_S512x2048_S256x512_256_0, k0_pay74 R.rstdHigh R.xhatHigh R.dXhatHigh R.dXhatSum k0_pay67 R.wOut0⟩,
    ⟨Rect.unit ![0, 0] ![256, 512] inb_S512x2048_S256x512_0_0, k0_pay73 R.dPreLow R.wOut0⟩]

def lnGStore : View.Piece (Elt F) S1x1024 .f32 :=
  ⟨Rect.unit ![0, 0] ![1, 1024] inb_S1x1024_S1x1024_0_0, k0_pay62 R.lnGSum R.lnGLow R.lnGHigh⟩

def lnBStore : View.Piece (Elt F) S1x1024 .f32 :=
  ⟨Rect.unit ![0, 0] ![1, 1024] inb_S1x1024_S1x1024_0_0, k0_pay63 R.dX1Low R.dX1High R.lnB⟩

def gateBStore : View.Piece (Elt F) S1x1024 .f32 :=
  ⟨Rect.unit ![0, 0] ![1, 1024] inb_S1x1024_S1x1024_0_0,
    k0_pay41 R.gateLow R.gateHigh R.pleLow R.pleHigh R.dOutLow R.dOutHigh R.gateB⟩

def squaresStore : View.Piece (Elt F) S1x1024 .f32 :=
  ⟨Rect.unit ![0, 0] ![1, 1024] inb_S1x1024_S1x1024_0_0,
    k0_pay32 R.p1 R.x1Low R.x1High R.gateLow R.gateHigh R.pleLow R.pleA R.pleB R.wPle2 R.wPle3 R.tLow R.tHigh R.squares⟩

def outStores : List (View.Piece (Elt F) S2048x1024 .f32) :=
  [⟨Rect.unit ![0, 768] ![2048, 256] inb_S2048x1024_S2048x256_0_768, k0_pay87 R.dPreBoth R.out3 R.yAll⟩,
    ⟨Rect.unit ![0, 512] ![2048, 256] inb_S2048x1024_S2048x256_0_512, k0_pay86 R.dPreBoth R.out2 R.yAll⟩,
    ⟨Rect.unit ![0, 256] ![2048, 256] inb_S2048x1024_S2048x256_0_256, k0_pay85 R.dPreBoth R.out1 R.yAll⟩,
    ⟨Rect.unit ![0, 0] ![2048, 256] inb_S2048x1024_S2048x256_0_0, k0_pay84 R.out0 R.yB R.dPre0⟩]

def gateStores : List (View.Piece (Elt F) S1024x1024 .f32) :=
  [⟨Rect.unit ![0, 768] ![1024, 256] inb_S1024x1024_S1024x256_0_768, k0_pay56 R.x1Both R.dGateBoth R.gate3⟩,
    ⟨Rect.unit ![0, 512] ![1024, 256] inb_S1024x1024_S1024x256_0_512, k0_pay55 R.x1Both R.dGateBoth R.gate2⟩,
    ⟨Rect.unit ![0, 256] ![1024, 256] inb_S1024x1024_S1024x256_0_256, k0_pay54 R.gate1 R.gate1Step⟩,
    ⟨Rect.unit ![0, 0] ![1024, 256] inb_S1024x1024_S1024x256_0_0, k0_pay52 R.x1Both R.dGateBoth R.gate0⟩]

def pleStores : List (View.Piece (Elt F) S4x256x256 .f32) :=
  [⟨Rect.unit ![3, 0, 0] ![1, 256, 256] inb_S4x256x256_S1x256x256_3_0_0, k0_pay51 R.pBoth R.dPleBoth R.ple3⟩,
    ⟨Rect.unit ![2, 0, 0] ![1, 256, 256] inb_S4x256x256_S1x256x256_2_0_0, k0_pay50 R.pBoth R.dPleBoth R.ple2⟩,
    ⟨Rect.unit ![1, 0, 0] ![1, 256, 256] inb_S4x256x256_S1x256x256_1_0_0,
      k0_pay49 R.pBoth R.ple1Sum R.dPle1 (constant S256x256 .f32 0#32)⟩,
    ⟨Rect.unit ![0, 0, 0] ![1, 256, 256] inb_S4x256x256_S1x256x256_0_0_0, k0_pay46 R.p0 R.p1 R.dPleLow R.dPleHigh R.ple0⟩]

end Reads

end Cert.KernelIdeal.Tail

end
-- ==== Proof.Tail.Frame.lean ====
/- The run of the tail kernel with what it computes: the frame of `KernelIdeal`, by hand over the generated runs of its three
   cases. A grid point's contents are one structure (`Left`); the contents after every point are one recursion (`leftAt`). -/
module

public import proofs.«01_k».proof.Proof.Gen.KernelIdeal.Frame.RunC
public import Idealize.ShloMosaic.Lib.Claim
public import Idealize.ShloMosaic.Lib.Pipeline.Value

@[expose] public section

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What a grid point leaves behind on core `c`: the staging buffers of the six windows it writes, the six scratch buffers
    (the weights, and the three running sums), and the three results left in HBM. -/
structure Left (F : FTy → Type) [FloatOps F] (c : Dev nD) where
  dx : Vec F S512x1024 .f32
  dy : Vec F S512x2048 .bf16
  lnG : Vec F S1x1024 .f32
  lnB : Vec F S1x1024 .f32
  gateB : Vec F S1x1024 .f32
  squares : Vec F S1x1024 .f32
  wOut : Vec F S2048x1024 .bf16
  wGate : Vec F S1024x1024 .bf16
  wPle : Vec F S4x256x256 .bf16
  sumOut : Vec F S2048x1024 .f32
  sumGate : Vec F S1024x1024 .f32
  sumPle : Vec F S4x256x256 .f32
  hbmOut : HbBuf0 (F := F) c hbM0_3
  hbmGate : HbBuf0 (F := F) c hbM0_4
  hbmPle : HbBuf0 (F := F) c hbM0_5

/-- The first branch is taken at the first point alone, -/
theorem first_iff (t : Fin cfg0.N) : cond0_0 (grid0.coords t) ↔ t.val = 0 := by
  have hN : t.val < 16 := lt_of_lt_of_eq t.isLt (show cfg0.N = 16 from N_0)
  rw [hcond0_0]; omega

/-- and the second at the last alone. -/
theorem last_iff (t : Fin cfg0.N) : cond0_1 (grid0.coords t) ↔ t.val = 15 := by
  have hN : t.val < 16 := lt_of_lt_of_eq t.isLt (show cfg0.N = 16 from N_0)
  rw [hcond0_1]; omega

/-- The run of the body at the first point, on that point's buffers. -/
def runFirst (c : Dev nD) (t : Fin cfg0.N) (h : t.val = 0)  :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((first_iff t).mpr h) (fun hl => absurd ((last_iff t).mp hl) (by omega)) (iblk m c 0 t) (iblk m c 1 t) (iblk m c 2 t) (iblk m c 3 t) (iblk m c 4 t) (iblk m c 5 t) (iblk m c 6 t) (V m c main_v10) (V m c main_v12) (V m c main_v3) (V m c main_v13_2) (V m c main_v13_3) (V m c main_v13_4)

/-- The run of the body at a point between, over what the point before left (`p`). -/
def runMiddle (c : Dev nD) (t : Fin cfg0.N) (h : t.val ≠ 0) (hl : t.val ≠ 15) (p : Left F c) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun e => h ((first_iff t).mp e)) (fun e => hl ((last_iff t).mp e)) (iblk m c 0 t) (iblk m c 1 t) (iblk m c 2 t) (iblk m c 3 t) (iblk m c 4 t) (iblk m c 5 t) (iblk m c 6 t) p.lnG p.lnB p.gateB p.squares p.wOut p.wGate p.wPle p.sumOut p.sumGate p.sumPle (V m c main_v10) (V m c main_v12) (V m c main_v3) p.hbmOut p.hbmGate p.hbmPle

/-- The run of the body at the last point, over what the point before left (`p`). -/
def runLast (c : Dev nD) (t : Fin cfg0.N) (h : t.val = 15) (p : Left F c) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun e => absurd ((first_iff t).mp e) (by omega)) ((last_iff t).mpr h) (iblk m c 0 t) (iblk m c 1 t) (iblk m c 2 t) (iblk m c 3 t) (iblk m c 4 t) (iblk m c 5 t) (iblk m c 6 t) p.lnG p.lnB p.gateB p.squares p.wOut p.wGate p.wPle p.sumOut p.sumGate p.sumPle (V m c main_v10) (V m c main_v12) (V m c main_v3) p.hbmOut p.hbmGate p.hbmPle

/-- What the first point leaves: each buffer's stores, and the results in HBM as its copies leave them. -/
def leftFirst (c : Dev nD) (t : Fin cfg0.N) (h : t.val = 0)  : Left F c where
  dx := View.canon (runFirst m c t h).1
  dy := View.canon (runFirst m c t h).2.1
  lnG := View.canon (runFirst m c t h).2.2.1
  lnB := View.canon (runFirst m c t h).2.2.2.1
  gateB := View.canon (runFirst m c t h).2.2.2.2.1
  squares := View.canon (runFirst m c t h).2.2.2.2.2.1
  wOut := View.canon (runFirst m c t h).2.2.2.2.2.2.1
  wGate := View.canon (runFirst m c t h).2.2.2.2.2.2.2.1
  wPle := View.canon (runFirst m c t h).2.2.2.2.2.2.2.2.1
  sumOut := View.canon (runFirst m c t h).2.2.2.2.2.2.2.2.2.1
  sumGate := View.canon (runFirst m c t h).2.2.2.2.2.2.2.2.2.2.1
  sumPle := View.canon (runFirst m c t h).2.2.2.2.2.2.2.2.2.2.2.1
  hbmOut := (runFirst m c t h).2.2.2.2.2.2.2.2.2.2.2.2.1
  hbmGate := (runFirst m c t h).2.2.2.2.2.2.2.2.2.2.2.2.2.1
  hbmPle := (runFirst m c t h).2.2.2.2.2.2.2.2.2.2.2.2.2.2.1

/-- What the middle point leaves: each buffer's stores, and the results in HBM as its copies leave them. -/
def leftMiddle (c : Dev nD) (t : Fin cfg0.N) (h : t.val ≠ 0) (hl : t.val ≠ 15) (p : Left F c) : Left F c where
  dx := View.canon (runMiddle m c t h hl p).1
  dy := View.canon (runMiddle m c t h hl p).2.1
  lnG := View.canon (runMiddle m c t h hl p).2.2.1
  lnB := View.canon (runMiddle m c t h hl p).2.2.2.1
  gateB := View.canon (runMiddle m c t h hl p).2.2.2.2.1
  squares := View.canon (runMiddle m c t h hl p).2.2.2.2.2.1
  wOut := p.wOut
  wGate := p.wGate
  wPle := p.wPle
  sumOut := View.canon (runMiddle m c t h hl p).2.2.2.2.2.2.2.2.2.1
  sumGate := View.canon (runMiddle m c t h hl p).2.2.2.2.2.2.2.2.2.2.1
  sumPle := View.canon (runMiddle m c t h hl p).2.2.2.2.2.2.2.2.2.2.2.1
  hbmOut := (runMiddle m c t h hl p).2.2.2.2.2.2.2.2.2.2.2.2.1
  hbmGate := (runMiddle m c t h hl p).2.2.2.2.2.2.2.2.2.2.2.2.2.1
  hbmPle := (runMiddle m c t h hl p).2.2.2.2.2.2.2.2.2.2.2.2.2.2.1

/-- What the last point leaves: each buffer's stores, and the results in HBM as its copies leave them. -/
def leftLast (c : Dev nD) (t : Fin cfg0.N) (h : t.val = 15) (p : Left F c) : Left F c where
  dx := View.canon (runLast m c t h p).1
  dy := View.canon (runLast m c t h p).2.1
  lnG := View.canon (runLast m c t h p).2.2.1
  lnB := View.canon (runLast m c t h p).2.2.2.1
  gateB := View.canon (runLast m c t h p).2.2.2.2.1
  squares := View.canon (runLast m c t h p).2.2.2.2.2.1
  wOut := p.wOut
  wGate := p.wGate
  wPle := p.wPle
  sumOut := View.canon (runLast m c t h p).2.2.2.2.2.2.2.2.2.1
  sumGate := View.canon (runLast m c t h p).2.2.2.2.2.2.2.2.2.2.1
  sumPle := View.canon (runLast m c t h p).2.2.2.2.2.2.2.2.2.2.2.1
  hbmOut := (runLast m c t h p).2.2.2.2.2.2.2.2.2.2.2.2.1
  hbmGate := (runLast m c t h p).2.2.2.2.2.2.2.2.2.2.2.2.2.1
  hbmPle := (runLast m c t h p).2.2.2.2.2.2.2.2.2.2.2.2.2.2.1

/-- What each point leaves, by recursion on the point. -/
def leftAt (c : Dev nD) : (n : ℕ) → n < cfg0.N → Left F c
  | 0, hn => leftFirst m c ⟨0, hn⟩ rfl
  | n + 1, hn =>
    if h : n + 1 = 15 then leftLast m c ⟨n + 1, hn⟩ h (leftAt c n (Nat.lt_of_succ_lt hn))
    else leftMiddle m c ⟨n + 1, hn⟩ (Nat.succ_ne_zero n) h (leftAt c n (Nat.lt_of_succ_lt hn))

/-- What the point before `t` left. -/
abbrev before (c : Dev nD) (t : Fin cfg0.N) : Left F c := leftAt m c (t.val - 1) (Nat.lt_of_le_of_lt (Nat.sub_le _ _) t.isLt)

theorem leftAt_first (c : Dev nD) (t : Fin cfg0.N) (h : t.val = 0) : leftAt m c t.val t.isLt = leftFirst m c t h := by
  obtain ⟨n, hn⟩ := t
  cases n with
  | zero => rfl
  | succ n => exact absurd h (Nat.succ_ne_zero n)

theorem leftAt_middle (c : Dev nD) (t : Fin cfg0.N) (h : t.val ≠ 0) (hl : t.val ≠ 15) :
    leftAt m c t.val t.isLt = leftMiddle m c t h hl (before m c t) := by
  obtain ⟨n, hn⟩ := t
  cases n with
  | zero => exact absurd rfl h
  | succ n => exact dif_neg hl

theorem leftAt_last (c : Dev nD) (t : Fin cfg0.N) (h : t.val = 15) :
    leftAt m c t.val t.isLt = leftLast m c t h (before m c t) := by
  obtain ⟨n, hn⟩ := t
  cases n with
  | zero => exact absurd (show (0 : ℕ) = 15 from h) (by decide)
  | succ n => exact dif_pos h

/-! ## The invariant between points and the pipeline's proof data -/

/-- Between two points: the scratch at what the point before left, the transfer cells at zero, the weights in HBM as they were,
    the results in HBM at what the point before left. -/
def held (c : Dev nD) (p : Left F c) : sProp 𝕄 :=
  iprop(iprop(owns (c : Thread nD τ) scM0_0 fullShare p.wOut ∗ owns (c : Thread nD τ) scM0_1 fullShare p.wGate ∗ owns (c : Thread nD τ) scM0_2 fullShare p.wPle
      ∗ owns (c : Thread nD τ) scM0_3 fullShare p.sumOut ∗ owns (c : Thread nD τ) scM0_4 fullShare p.sumGate ∗ owns (c : Thread nD τ) scM0_5 fullShare p.sumPle)
    ∗ (∃ r, prngReg c r)
    ∗ iprop(semVal ((c : Thread nD τ), SemLoc.dma 19) 0 ∗ semVal ((c : Thread nD τ), SemLoc.dma 20) 0 ∗ semVal ((c : Thread nD τ), SemLoc.dma 21) 0)
    ∗ iprop(hbPt0 c hbM0_0 (V m c main_v10) ∗ hbPt0 c hbM0_1 (V m c main_v12) ∗ hbPt0 c hbM0_2 (V m c main_v3))
    ∗ iprop(hbPt0 c hbM0_3 p.hbmOut ∗ hbPt0 c hbM0_4 p.hbmGate ∗ hbPt0 c hbM0_5 p.hbmPle))

/-- The invariant before position `n`: at the start what the launch hands over, then `held` at the point before. -/
def invariant (c : Dev nD) : (n : ℕ) → n ≤ cfg0.N → sProp 𝕄
  | 0, _ => Pipeline.ΦDRG osem0 spec0 H0 R0 (V m) (V m) c
  | n + 1, hn => held m c (leftAt m c n hn)

theorem invariant_zero (c : Dev nD) (n : ℕ) (h : n ≤ cfg0.N) (hz : n = 0) :
    invariant m c n h = Pipeline.ΦDRG osem0 spec0 H0 R0 (V m) (V m) c := by
  subst hz; rfl

theorem invariant_pos (c : Dev nD) (n : ℕ) (h : n ≤ cfg0.N) (hz : n ≠ 0) :
    invariant m c n h = held m c (leftAt m c (n - 1) (by omega)) := by
  cases n with
  | zero => exact absurd rfl hz
  | succ n => rfl

/-- The pipeline's proof data on core `c`: an input's buffer holds its block, an output's what the point left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leftAt m c t.val t.isLt).dx
    | ⟨8, _⟩ => (leftAt m c t.val t.isLt).dy
    | ⟨9, _⟩ => (leftAt m c t.val t.isLt).lnG
    | ⟨10, _⟩ => (leftAt m c t.val t.isLt).lnB
    | ⟨11, _⟩ => (leftAt m c t.val t.isLt).gateB
    | ⟨12, _⟩ => (leftAt m c t.val t.isLt).squares
  Φ t := invariant m c t.val (Nat.le_of_lt_succ t.isLt)
  q _ := fullShare
  owed _ := 0

theorem A_eq (c : Dev nD) (w : Fin cfg0.W) : (dats m 0 c).A w = V m c (Pipeline.arrRef spec0 w) := by
  dsimp only [dats]

theorem invariant_castSucc (c : Dev nD) (t : Fin cfg0.N) :
    (dats m 0 c).Φ t.castSucc = invariant m c t.val (Nat.le_of_lt t.isLt) := by
  dsimp only [dats]; exact Pipeline.Dat.Φ_castSucc (invariant m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (leftAt m c t.val t.isLt).dx := by dsimp only [dats]
theorem after_8 (c : Dev nD) (t : Fin cfg0.N) : (dats m 0 c).after 8 t = (leftAt m c t.val t.isLt).dy := by dsimp only [dats]
theorem after_9 (c : Dev nD) (t : Fin cfg0.N) : (dats m 0 c).after 9 t = (leftAt m c t.val t.isLt).lnG := by dsimp only [dats]
theorem after_10 (c : Dev nD) (t : Fin cfg0.N) : (dats m 0 c).after 10 t = (leftAt m c t.val t.isLt).lnB := by dsimp only [dats]
theorem after_11 (c : Dev nD) (t : Fin cfg0.N) : (dats m 0 c).after 11 t = (leftAt m c t.val t.isLt).gateB := by dsimp only [dats]
theorem after_12 (c : Dev nD) (t : Fin cfg0.N) : (dats m 0 c).after 12 t = (leftAt m c t.val t.isLt).squares := by dsimp only [dats]

/-- An input's buffer holds its block before every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- After the first point a running sum's buffer holds what the point before left: nothing was written back between. -/
theorem before_9 (c : Dev nD) (t : Fin cfg0.N) (h : t.val ≠ 0) (d) : (dats m 0 c).before 9 t d = (before m c t).lnG := by
  have hN : t.val < 16 := lt_of_lt_of_eq t.isLt (show cfg0.N = 16 from N_0)
  rw [Dat.before_out_kept _ 9 rfl t h (Bool.eq_false_iff.mpr fun e => by have := (flush0_9 _).mp e; dsimp only at this; omega)
    (fun _ => rfl) (fun _ _ => rfl)]
  dsimp only [dats]
theorem before_10 (c : Dev nD) (t : Fin cfg0.N) (h : t.val ≠ 0) (d) : (dats m 0 c).before 10 t d = (before m c t).lnB := by
  have hN : t.val < 16 := lt_of_lt_of_eq t.isLt (show cfg0.N = 16 from N_0)
  rw [Dat.before_out_kept _ 10 rfl t h (Bool.eq_false_iff.mpr fun e => by have := (flush0_10 _).mp e; dsimp only at this; omega)
    (fun _ => rfl) (fun _ _ => rfl)]
  dsimp only [dats]
theorem before_11 (c : Dev nD) (t : Fin cfg0.N) (h : t.val ≠ 0) (d) : (dats m 0 c).before 11 t d = (before m c t).gateB := by
  have hN : t.val < 16 := lt_of_lt_of_eq t.isLt (show cfg0.N = 16 from N_0)
  rw [Dat.before_out_kept _ 11 rfl t h (Bool.eq_false_iff.mpr fun e => by have := (flush0_11 _).mp e; dsimp only at this; omega)
    (fun _ => rfl) (fun _ _ => rfl)]
  dsimp only [dats]
theorem before_12 (c : Dev nD) (t : Fin cfg0.N) (h : t.val ≠ 0) (d) : (dats m 0 c).before 12 t d = (before m c t).squares := by
  have hN : t.val < 16 := lt_of_lt_of_eq t.isLt (show cfg0.N = 16 from N_0)
  rw [Dat.before_out_kept _ 12 rfl t h (Bool.eq_false_iff.mpr fun e => by have := (flush0_12 _).mp e; dsimp only at this; omega)
    (fun _ => rfl) (fun _ _ => rfl)]
  dsimp only [dats]

/-! ## The body at a point -/

/-- What the body is called with at point `t`, and what it must return. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

omit [FloatOps F] in
/-- A buffer holding a covering list of stores is owned at their canonical contents. -/
theorem owns_canon [∀ e, Nonempty (Elt F e)] {c : Dev nD} {sp : Space} {s : Shape} {e : EltTy} {M : Memref sig .tc sp s e}
    {L : List (View.Piece (Elt F) s e)} (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩; unfold owns; iexists M.view.writes (Elt F) f L; isplitr
  · ipureintro; exact View.read_writes_eq_canon _ _ _ h
  · iexact H

set_option maxHeartbeats 6400000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = held m c (leftAt m c t.val t.isLt) from rfl, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl, invariant_castSucc m c t]
  rw [invariant_zero m c _ _ h, PhiDRG0_in_eq, leftAt_first m c t h]
  unfold held
  iintro ⟨⟨⟨HS0, HS1, HS2, HS3, HS4, HS5⟩, Hg, ⟨Hq0, Hq1, Hq2⟩, ⟨Hh0, Hh1, Hh2⟩, ⟨Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runFirst m c t h).2.2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, H2, H3, H4, H5, H6, H7, H8, H9, H10, H11, H12, HS0, HS1, HS2, HS3, HS4, HS5, Hq0, Hq1, Hq2, Hh0, Hh1, Hh2, Hh3, Hh4, Hh5, HW⟩
  isplitl [HS0 HS1 HS2 HS3 HS4 HS5 Hg Hq0 Hq1 Hq2 Hh0 Hh1 Hh2 Hh3 Hh4 Hh5]
  · isplitl [HS0 HS1 HS2 HS3 HS4 HS5]
    · isplitl [HS0]; · iapply (owns_canon (View.cover_of_tiledL (runFirst m c t h).2.2.2.2.2.2.1 S2048x1024.size (by sl_kernel_rfl))) $$ HS0
      isplitl [HS1]; · iapply (owns_canon (View.cover_of_tiledL (runFirst m c t h).2.2.2.2.2.2.2.1 S1024x1024.size (by sl_kernel_rfl))) $$ HS1
      isplitl [HS2]; · iapply (owns_canon (View.cover_of_tiledL (runFirst m c t h).2.2.2.2.2.2.2.2.1 S4x256x256.size (by sl_kernel_rfl))) $$ HS2
      isplitl [HS3]; · iapply (owns_canon (View.cover_of_wholeMem (runFirst m c t h).2.2.2.2.2.2.2.2.2.1 (by sl_whole_mem))) $$ HS3
      isplitl [HS4]; · iapply (owns_canon (View.cover_of_wholeMem (runFirst m c t h).2.2.2.2.2.2.2.2.2.2.1 (by sl_whole_mem))) $$ HS4
      iapply (owns_canon (View.cover_of_wholeMem (runFirst m c t h).2.2.2.2.2.2.2.2.2.2.2.1 (by sl_whole_mem))) $$ HS5
    isplitl [Hg]; · iexact Hg
    isplitl [Hq0 Hq1 Hq2]
    · isplitl [Hq0]; · iexact Hq0
      isplitl [Hq1]; · iexact Hq1
      iexact Hq2
    isplitl [Hh0 Hh1 Hh2]
    · isplitl [Hh0]; · iexact Hh0
      isplitl [Hh1]; · iexact Hh1
      iexact Hh2
    isplitl [Hh3]; · iexact Hh3
    isplitl [Hh4]; · iexact Hh4
    iexact Hh5
  isplitl [HW]
  · icases HW with ⟨%W', HW⟩
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (owns_canon (View.cover_of_tiledL (runFirst m c t h).1 S256x1024.size (by sl_kernel_rfl))) $$ H7
  isplitl [H8]; · iapply (owns_canon (View.cover_of_tiledL (runFirst m c t h).2.1 S256x512.size (by sl_kernel_rfl))) $$ H8
  isplitl [H9]; · iapply (owns_canon (View.cover_of_tiledL (runFirst m c t h).2.2.1 S1x1024.size (by sl_kernel_rfl))) $$ H9
  isplitl [H10]; · iapply (owns_canon (View.cover_of_tiledL (runFirst m c t h).2.2.2.1 S1x1024.size (by sl_kernel_rfl))) $$ H10
  isplitl [H11]; · iapply (owns_canon (View.cover_of_tiledL (runFirst m c t h).2.2.2.2.1 S1x1024.size (by sl_kernel_rfl))) $$ H11
  iapply (owns_canon (View.cover_of_tiledL (runFirst m c t h).2.2.2.2.2.1 S1x1024.size (by sl_kernel_rfl))) $$ H12

set_option maxHeartbeats 6400000 in
/-- The body at the points between. -/
theorem sound_middle (c : Dev nD) (t : Fin cfg0.N) (h : t.val ≠ 0) (hl : t.val ≠ 15) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_9 m c t h, before_10 m c t h, before_11 m c t h, before_12 m c t h]
  rw [show (dats m 0 c).Φ t.succ = held m c (leftAt m c t.val t.isLt) from rfl, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl, invariant_castSucc m c t]
  rw [invariant_pos m c _ _ h, leftAt_middle m c t h hl]
  unfold held
  iintro ⟨⟨⟨HS0, HS1, HS2, HS3, HS4, HS5⟩, Hg, ⟨Hq0, Hq1, Hq2⟩, ⟨Hh0, Hh1, Hh2⟩, ⟨Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runMiddle m c t h hl (before m c t)).2.2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, H2, H3, H4, H5, H6, H7, H8, H9, H10, H11, H12, HS0, HS1, HS2, HS3, HS4, HS5, Hq0, Hq1, Hq2, Hh0, Hh1, Hh2, Hh3, Hh4, Hh5, HW⟩
  isplitl [HS0 HS1 HS2 HS3 HS4 HS5 Hg Hq0 Hq1 Hq2 Hh0 Hh1 Hh2 Hh3 Hh4 Hh5]
  · isplitl [HS0 HS1 HS2 HS3 HS4 HS5]
    · isplitl [HS0]; · iexact HS0
      isplitl [HS1]; · iexact HS1
      isplitl [HS2]; · iexact HS2
      isplitl [HS3]; · iapply (owns_canon (View.cover_of_tiledL (runMiddle m c t h hl (before m c t)).2.2.2.2.2.2.2.2.2.1 S2048x256.size (by sl_kernel_rfl))) $$ HS3
      isplitl [HS4]; · iapply (owns_canon (View.cover_of_tiledL (runMiddle m c t h hl (before m c t)).2.2.2.2.2.2.2.2.2.2.1 S1024x256.size (by sl_kernel_rfl))) $$ HS4
      iapply (owns_canon (View.cover_of_tiledL (runMiddle m c t h hl (before m c t)).2.2.2.2.2.2.2.2.2.2.2.1 S1x256x256.size (by sl_kernel_rfl))) $$ HS5
    isplitl [Hg]; · iexact Hg
    isplitl [Hq0 Hq1 Hq2]
    · isplitl [Hq0]; · iexact Hq0
      isplitl [Hq1]; · iexact Hq1
      iexact Hq2
    isplitl [Hh0 Hh1 Hh2]
    · isplitl [Hh0]; · iexact Hh0
      isplitl [Hh1]; · iexact Hh1
      iexact Hh2
    isplitl [Hh3]; · iexact Hh3
    isplitl [Hh4]; · iexact Hh4
    iexact Hh5
  isplitl [HW]
  · icases HW with ⟨%W', HW⟩
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (owns_canon (View.cover_of_tiledL (runMiddle m c t h hl (before m c t)).1 S256x1024.size (by sl_kernel_rfl))) $$ H7
  isplitl [H8]; · iapply (owns_canon (View.cover_of_tiledL (runMiddle m c t h hl (before m c t)).2.1 S256x512.size (by sl_kernel_rfl))) $$ H8
  isplitl [H9]; · iapply (owns_canon (View.cover_of_tiledL (runMiddle m c t h hl (before m c t)).2.2.1 S1x1024.size (by sl_kernel_rfl))) $$ H9
  isplitl [H10]; · iapply (owns_canon (View.cover_of_tiledL (runMiddle m c t h hl (before m c t)).2.2.2.1 S1x1024.size (by sl_kernel_rfl))) $$ H10
  isplitl [H11]; · iapply (owns_canon (View.cover_of_tiledL (runMiddle m c t h hl (before m c t)).2.2.2.2.1 S1x1024.size (by sl_kernel_rfl))) $$ H11
  iapply (owns_canon (View.cover_of_tiledL (runMiddle m c t h hl (before m c t)).2.2.2.2.2.1 S1x1024.size (by sl_kernel_rfl))) $$ H12

set_option maxHeartbeats 6400000 in
/-- The body at the last point. -/
theorem sound_last (c : Dev nD) (t : Fin cfg0.N) (h : t.val = 15) :
    bodyPre m c t ⊢ wp frame (wpE (defs₀ (F := F)) Variants.none c none) Set.univ (bodyAt0 t) (fun _ => bodyPost m c t) := by
  unfold bodyPre bodyPost bodyAt0
  have hz : t.val ≠ 0 := by omega
  simp only [before_0, before_1, before_2, before_3, before_4, before_5, before_6, before_9 m c t hz, before_10 m c t hz, before_11 m c t hz, before_12 m c t hz]
  rw [show (dats m 0 c).Φ t.succ = held m c (leftAt m c t.val t.isLt) from rfl, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl, invariant_castSucc m c t]
  rw [invariant_pos m c _ _ hz, leftAt_last m c t h]
  unfold held
  iintro ⟨⟨⟨HS0, HS1, HS2, HS3, HS4, HS5⟩, Hg, ⟨Hq0, Hq1, Hq2⟩, ⟨Hh0, Hh1, Hh2⟩, ⟨Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runLast m c t h (before m c t)).2.2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [HW]; · iexact HW
  iintro ⟨H0, H1, H2, H3, H4, H5, H6, H7, H8, H9, H10, H11, H12, HS0, HS1, HS2, HS3, HS4, HS5, Hq0, Hq1, Hq2, Hh0, Hh1, Hh2, Hh3, Hh4, Hh5, HW⟩
  isplitl [HS0 HS1 HS2 HS3 HS4 HS5 Hg Hq0 Hq1 Hq2 Hh0 Hh1 Hh2 Hh3 Hh4 Hh5]
  · isplitl [HS0 HS1 HS2 HS3 HS4 HS5]
    · isplitl [HS0]; · iexact HS0
      isplitl [HS1]; · iexact HS1
      isplitl [HS2]; · iexact HS2
      isplitl [HS3]; · iapply (owns_canon (View.cover_of_tiledL (runLast m c t h (before m c t)).2.2.2.2.2.2.2.2.2.1 S2048x256.size (by sl_kernel_rfl))) $$ HS3
      isplitl [HS4]; · iapply (owns_canon (View.cover_of_tiledL (runLast m c t h (before m c t)).2.2.2.2.2.2.2.2.2.2.1 S1024x256.size (by sl_kernel_rfl))) $$ HS4
      iapply (owns_canon (View.cover_of_tiledL (runLast m c t h (before m c t)).2.2.2.2.2.2.2.2.2.2.2.1 S1x256x256.size (by sl_kernel_rfl))) $$ HS5
    isplitl [Hg]; · iexact Hg
    isplitl [Hq0 Hq1 Hq2]
    · isplitl [Hq0]; · iexact Hq0
      isplitl [Hq1]; · iexact Hq1
      iexact Hq2
    isplitl [Hh0 Hh1 Hh2]
    · isplitl [Hh0]; · iexact Hh0
      isplitl [Hh1]; · iexact Hh1
      iexact Hh2
    isplitl [Hh3]; · iexact Hh3
    isplitl [Hh4]; · iexact Hh4
    iexact Hh5
  isplitl [HW]
  · icases HW with ⟨%W', HW⟩
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (owns_canon (View.cover_of_tiledL (runLast m c t h (before m c t)).1 S256x1024.size (by sl_kernel_rfl))) $$ H7
  isplitl [H8]; · iapply (owns_canon (View.cover_of_tiledL (runLast m c t h (before m c t)).2.1 S256x512.size (by sl_kernel_rfl))) $$ H8
  isplitl [H9]; · iapply (owns_canon (View.cover_of_tiledL (runLast m c t h (before m c t)).2.2.1 S1x1024.size (by sl_kernel_rfl))) $$ H9
  isplitl [H10]; · iapply (owns_canon (View.cover_of_tiledL (runLast m c t h (before m c t)).2.2.2.1 S1x1024.size (by sl_kernel_rfl))) $$ H10
  isplitl [H11]; · iapply (owns_canon (View.cover_of_tiledL (runLast m c t h (before m c t)).2.2.2.2.1 S1x1024.size (by sl_kernel_rfl))) $$ H11
  iapply (owns_canon (View.cover_of_tiledL (runLast m c t h (before m c t)).2.2.2.2.2.1 S1x1024.size (by sl_kernel_rfl))) $$ H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_first m c t h
  · by_cases hl : t.val = 15
    · exact sound_last m c t hl
    · exact sound_middle m c t h hl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What the last point leaves. -/
abbrev final (c : Dev nD) : Left F c := leftAt m c ((Fin.last cfg0.N).val - 1) (by rw [Fin.val_last]; have : cfg0.N = 16 := N_0; omega)

/-- The buffers after the launch: the three results in HBM at what the last point leaves. -/
def after (c : Dev nD) : (b : Ref sig .tc) → Buf (Elt F) ((c : Thread nD τ).loc b) :=
  Function.update (Function.update (Function.update ((V m) c) main_v13_2 (final m c).hbmOut) main_v13_3 (final m c).hbmGate) main_v13_4 (final m c).hbmPle

theorem after_out (c : Dev nD) : after m c main_v13_2 = (final m c).hbmOut := by
  unfold after
  rw [Function.update_of_ne (show (main_v13_2 : Ref sig .tc) ≠ main_v13_4 by decide),
    Function.update_of_ne (show (main_v13_2 : Ref sig .tc) ≠ main_v13_3 by decide), Function.update_self]

theorem after_gate (c : Dev nD) : after m c main_v13_3 = (final m c).hbmGate := by
  unfold after
  rw [Function.update_of_ne (show (main_v13_3 : Ref sig .tc) ≠ main_v13_4 by decide), Function.update_self]

theorem after_ple (c : Dev nD) : after m c main_v13_4 = (final m c).hbmPle := by
  unfold after; rw [Function.update_self]

/-- What the launch takes back: scratch at anything, the results in HBM at `after`. -/
theorem taken_eq (c : Dev nD) :
    (Pipeline.ΦDRG osem0 spec0 H0 R0 (V m) (after m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d))
        ∗ (∃ r, prngReg c r)
        ∗ iprop(semVal ((c : Thread nD τ), SemLoc.dma 19) 0 ∗ semVal ((c : Thread nD τ), SemLoc.dma 20) 0 ∗ semVal ((c : Thread nD τ), SemLoc.dma 21) 0)
        ∗ iprop(hbPt0 c hbM0_0 (V m c main_v10) ∗ hbPt0 c hbM0_1 (V m c main_v12) ∗ hbPt0 c hbM0_2 (V m c main_v3))
        ∗ iprop(hbPt0 c hbM0_3 (final m c).hbmOut ∗ hbPt0 c hbM0_4 (final m c).hbmGate ∗ hbPt0 c hbM0_5 (final m c).hbmPle)) := by
  have hr : (Pipeline.routed R0 c (after m c) : sProp 𝕄)
      = iprop(hbPt0 c hbM0_3 (final m c).hbmOut ∗ hbPt0 c hbM0_4 (final m c).hbmGate ∗ hbPt0 c hbM0_5 (final m c).hbmPle) := by
    unfold Pipeline.routed; rw [BI.bigSep_eq_bigSepL_of_eq [main_v13_2, main_v13_3, main_v13_4] (by decide) (by decide)]
    simp only [BI.bigSepL_cons_cons, BI.bigSepL_singleton, after_out, after_gate, after_ple]; try rfl
  rw [Pipeline.ΦDRG_eq, scopedRest0_eq, ownSems00_eq, hbmPts0_eq, hr]
  simp only [scM0_0, scM0_1, scM0_2, scM0_3, scM0_4, scM0_5, owns_whole]; try rfl

theorem given (c : Dev nD) : Pipeline.ΦDRG osem0 spec0 H0 R0 (V m) (V m) c ⊢ (dats m 0 c).Φ 0 := by
  rw [show (dats m 0 c).Φ 0 = invariant m c 0 (Nat.zero_le _) from rfl, invariant_zero m c 0 _ rfl]
  try exact Idealize.SL.BI.Entails.refl _

theorem taken (c : Dev nD) : (dats m 0 c).Φ (Fin.last cfg0.N) ⊢ Pipeline.ΦDRG osem0 spec0 H0 R0 (V m) (after m) c := by
  rw [show (dats m 0 c).Φ (Fin.last cfg0.N) = invariant m c (Fin.last cfg0.N).val (Nat.le_of_lt_succ (Fin.last cfg0.N).isLt) from rfl,
    invariant_pos m c _ _ (by rw [Fin.val_last]; have : cfg0.N = 16 := N_0; omega), taken_eq]
  unfold held
  iintro ⟨⟨HS0, HS1, HS2, HS3, HS4, HS5⟩, Hrest⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hrest

-- the launch theorem's implicit arguments are found by unifying its conclusion with this one, which unfolds plain definitions
set_option backward.isDefEq.respectTransparency.types false in
/-- The launch: every array at what the proof data computes, the results in HBM at `after`, every counter at zero. -/
theorem run_main_quiescent : θ_run defs (onTc (τ := τ) (main (F := F))) (s₀ m ρ)
    (fun r => (Pipeline.FramePostRG cfgs (dats m) 0 R0 (V m) (after m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := after m)
    (hin := given m) (hout := taken m)

theorem run_main : θ_run defs (onTc (τ := τ) (main (F := F))) (s₀ m ρ) (Pipeline.FramePostRG cfgs (dats m) 0 R0 (V m) (after m)) :=
  (θ_run defs _ _).mono (fun _ h => h.1) (run_main_quiescent m ρ)

end Cert.KernelIdeal.Tail

end
-- ==== Proof.Tail.Loads.lean ====
/-
The loads of the tail kernel's body at each grid point, and its stores there as `Step`'s lists over them.
-/
module

public import proofs.«01_k».proof.Proof.Tail.Step
public import proofs.«01_k».proof.Proof.Tail.Frame

@[expose] public section

set_option maxRecDepth 16384

noncomputable section

namespace Cert.KernelIdeal.Tail

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F] (m : (ℓ : Loc nD τ sig) → Buf (Elt F) ℓ) (c : Dev nD) (t : Fin cfg0.N)

/-- The loads over what the point before left (`p`). -/
def readsOver (p : Left F c) : Reads F where
  yLow := View.readAt (Elt F) (ms0_0 t).view (Rect.unit (s := S512x2048) ![0, 0] S256x2048.size inb_S512x2048_S256x2048_0_0).toLoadRect ((hs0_0 t).unread (iblk m c 0 t))
  yHigh := View.readAt (Elt F) (ms0_0 t).view (Rect.unit (s := S512x2048) ![256, 0] S256x2048.size inb_S512x2048_S256x2048_256_0).toLoadRect ((hs0_0 t).unread (iblk m c 0 t))
  xLow := View.readAt (Elt F) (ms0_1 t).view (Rect.unit (s := S512x1024) ![0, 0] S256x1024.size inb_S512x1024_S256x1024_0_0).toLoadRect ((hs0_1 t).unread (iblk m c 1 t))
  xHigh := View.readAt (Elt F) (ms0_1 t).view (Rect.unit (s := S512x1024) ![256, 0] S256x1024.size inb_S512x1024_S256x1024_256_0).toLoadRect ((hs0_1 t).unread (iblk m c 1 t))
  pLow := View.readAt (Elt F) (ms0_2 t).view (Rect.unit (s := S512x256) ![0, 0] S256x256.size inb_S512x256_S256x256_0_0).toLoadRect ((hs0_2 t).unread (iblk m c 2 t))
  pHigh := View.readAt (Elt F) (ms0_2 t).view (Rect.unit (s := S512x256) ![256, 0] S256x256.size inb_S512x256_S256x256_256_0).toLoadRect ((hs0_2 t).unread (iblk m c 2 t))
  tLow := View.readAt (Elt F) (ms0_3 t).view (Rect.unit (s := S512x1024) ![0, 0] S256x1024.size inb_S512x1024_S256x1024_0_0).toLoadRect ((hs0_3 t).unread (iblk m c 3 t))
  tHigh := View.readAt (Elt F) (ms0_3 t).view (Rect.unit (s := S512x1024) ![256, 0] S256x1024.size inb_S512x1024_S256x1024_256_0).toLoadRect ((hs0_3 t).unread (iblk m c 3 t))
  yAll := View.readAt (Elt F) (ms0_0 t).view (Rect.unit (s := S512x2048) ![0, 0] S512x2048.size inb_S512x2048_S512x2048_0_0).toLoadRect ((hs0_0 t).unread (iblk m c 0 t))
  g := View.readAt (Elt F) (ms0_4 t).view (Rect.unit (s := S1x1024) ![0, 0] S1x1024.size inb_S1x1024_S1x1024_0_0).toLoadRect ((hs0_4 t).unread (iblk m c 4 t))
  b := View.readAt (Elt F) (ms0_5 t).view (Rect.unit (s := S1x1024) ![0, 0] S1x1024.size inb_S1x1024_S1x1024_0_0).toLoadRect ((hs0_5 t).unread (iblk m c 5 t))
  c := View.readAt (Elt F) (ms0_6 t).view (Rect.unit (s := S1x1024) ![0, 0] S1x1024.size inb_S1x1024_S1x1024_0_0).toLoadRect ((hs0_6 t).unread (iblk m c 6 t))
  wOut := View.readAt (Elt F) scM0_0.view (Rect.unit (s := S2048x1024) ![0, 0] S2048x1024.size inb_S2048x1024_S2048x1024_0_0).toLoadRect ((Memref.isWhole_whole _).unread p.wOut)
  wOut0 := View.readAt (Elt F) scM0_0.view (Rect.unit (s := S2048x1024) ![0, 0] S512x1024.size inb_S2048x1024_S512x1024_0_0).toLoadRect ((Memref.isWhole_whole _).unread p.wOut)
  wOut1 := View.readAt (Elt F) scM0_0.view (Rect.unit (s := S2048x1024) ![512, 0] S512x1024.size inb_S2048x1024_S512x1024_512_0).toLoadRect ((Memref.isWhole_whole _).unread p.wOut)
  wOut2 := View.readAt (Elt F) scM0_0.view (Rect.unit (s := S2048x1024) ![1024, 0] S512x1024.size inb_S2048x1024_S512x1024_1024_0).toLoadRect ((Memref.isWhole_whole _).unread p.wOut)
  wOut3 := View.readAt (Elt F) scM0_0.view (Rect.unit (s := S2048x1024) ![1536, 0] S512x1024.size inb_S2048x1024_S512x1024_1536_0).toLoadRect ((Memref.isWhole_whole _).unread p.wOut)
  wGate := View.readAt (Elt F) scM0_1.view (Rect.unit (s := S1024x1024) ![0, 0] S1024x1024.size inb_S1024x1024_S1024x1024_0_0).toLoadRect ((Memref.isWhole_whole _).unread p.wGate)
  wPle0 := View.readAt (Elt F) scM0_2.view (Rect.unit (s := S4x256x256) ![0, 0, 0] S1x256x256.size inb_S4x256x256_S1x256x256_0_0_0).toLoadRect ((Memref.isWhole_whole _).unread p.wPle)
  wPle1 := View.readAt (Elt F) scM0_2.view (Rect.unit (s := S4x256x256) ![1, 0, 0] S1x256x256.size inb_S4x256x256_S1x256x256_1_0_0).toLoadRect ((Memref.isWhole_whole _).unread p.wPle)
  wPle2 := View.readAt (Elt F) scM0_2.view (Rect.unit (s := S4x256x256) ![2, 0, 0] S1x256x256.size inb_S4x256x256_S1x256x256_2_0_0).toLoadRect ((Memref.isWhole_whole _).unread p.wPle)
  wPle3 := View.readAt (Elt F) scM0_2.view (Rect.unit (s := S4x256x256) ![3, 0, 0] S1x256x256.size inb_S4x256x256_S1x256x256_3_0_0).toLoadRect ((Memref.isWhole_whole _).unread p.wPle)
  lnG := View.readAt (Elt F) (ms0_9 t).view (Rect.unit (s := S1x1024) ![0, 0] S1x1024.size inb_S1x1024_S1x1024_0_0).toLoadRect ((hs0_9 t).unread p.lnG)
  lnB := View.readAt (Elt F) (ms0_10 t).view (Rect.unit (s := S1x1024) ![0, 0] S1x1024.size inb_S1x1024_S1x1024_0_0).toLoadRect ((hs0_10 t).unread p.lnB)
  gateB := View.readAt (Elt F) (ms0_11 t).view (Rect.unit (s := S1x1024) ![0, 0] S1x1024.size inb_S1x1024_S1x1024_0_0).toLoadRect ((hs0_11 t).unread p.gateB)
  squares := View.readAt (Elt F) (ms0_12 t).view (Rect.unit (s := S1x1024) ![0, 0] S1x1024.size inb_S1x1024_S1x1024_0_0).toLoadRect ((hs0_12 t).unread p.squares)
  out0 := View.readAt (Elt F) scM0_3.view (Rect.unit (s := S2048x1024) ![0, 0] S2048x256.size inb_S2048x1024_S2048x256_0_0).toLoadRect ((Memref.isWhole_whole _).unread p.sumOut)
  out1 := View.readAt (Elt F) scM0_3.view (Rect.unit (s := S2048x1024) ![0, 256] S2048x256.size inb_S2048x1024_S2048x256_0_256).toLoadRect ((Memref.isWhole_whole _).unread p.sumOut)
  out2 := View.readAt (Elt F) scM0_3.view (Rect.unit (s := S2048x1024) ![0, 512] S2048x256.size inb_S2048x1024_S2048x256_0_512).toLoadRect ((Memref.isWhole_whole _).unread p.sumOut)
  out3 := View.readAt (Elt F) scM0_3.view (Rect.unit (s := S2048x1024) ![0, 768] S2048x256.size inb_S2048x1024_S2048x256_0_768).toLoadRect ((Memref.isWhole_whole _).unread p.sumOut)
  gate0 := View.readAt (Elt F) scM0_4.view (Rect.unit (s := S1024x1024) ![0, 0] S1024x256.size inb_S1024x1024_S1024x256_0_0).toLoadRect ((Memref.isWhole_whole _).unread p.sumGate)
  gate1 := View.readAt (Elt F) scM0_4.view (Rect.unit (s := S1024x1024) ![0, 256] S1024x256.size inb_S1024x1024_S1024x256_0_256).toLoadRect ((Memref.isWhole_whole _).unread p.sumGate)
  gate2 := View.readAt (Elt F) scM0_4.view (Rect.unit (s := S1024x1024) ![0, 512] S1024x256.size inb_S1024x1024_S1024x256_0_512).toLoadRect ((Memref.isWhole_whole _).unread p.sumGate)
  gate3 := View.readAt (Elt F) scM0_4.view (Rect.unit (s := S1024x1024) ![0, 768] S1024x256.size inb_S1024x1024_S1024x256_0_768).toLoadRect ((Memref.isWhole_whole _).unread p.sumGate)
  ple0 := View.readAt (Elt F) scM0_5.view (Rect.unit (s := S4x256x256) ![0, 0, 0] S1x256x256.size inb_S4x256x256_S1x256x256_0_0_0).toLoadRect ((Memref.isWhole_whole _).unread p.sumPle)
  ple1 := View.readAt (Elt F) scM0_5.view (Rect.unit (s := S4x256x256) ![1, 0, 0] S1x256x256.size inb_S4x256x256_S1x256x256_1_0_0).toLoadRect ((Memref.isWhole_whole _).unread p.sumPle)
  ple2 := View.readAt (Elt F) scM0_5.view (Rect.unit (s := S4x256x256) ![2, 0, 0] S1x256x256.size inb_S4x256x256_S1x256x256_2_0_0).toLoadRect ((Memref.isWhole_whole _).unread p.sumPle)
  ple3 := View.readAt (Elt F) scM0_5.view (Rect.unit (s := S4x256x256) ![3, 0, 0] S1x256x256.size inb_S4x256x256_S1x256x256_3_0_0).toLoadRect ((Memref.isWhole_whole _).unread p.sumPle)

/-! The first point fetches the weights whole and zeroes the running sums. -/

def fetchOut : List (View.Piece (Elt F) S2048x1024 .bf16) :=
  [⟨Rect.whole S2048x1024, ReadAs.same.apply (View.read (Elt F) (Memref.whole main_v10).view (V m c main_v10))⟩]

def fetchGate : List (View.Piece (Elt F) S1024x1024 .bf16) :=
  [⟨Rect.whole S1024x1024, ReadAs.same.apply (View.read (Elt F) (Memref.whole main_v12).view (V m c main_v12))⟩]

def fetchPle : List (View.Piece (Elt F) S4x256x256 .bf16) :=
  [⟨Rect.whole S4x256x256, ReadAs.same.apply (View.read (Elt F) (Memref.whole main_v3).view (V m c main_v3))⟩]

def zeroRow (z : FVec F S1x1024 .f32) : View.Piece (Elt F) S1x1024 .f32 := ⟨Rect.unit ![0, 0] S1x1024.size inb_S1x1024_S1x1024_0_0, z⟩

def zeroOut : View.Piece (Elt F) S2048x1024 .f32 := ⟨Rect.unit ![0, 0] S2048x1024.size inb_S2048x1024_S2048x1024_0_0, k0_pay1⟩

def zeroGate : View.Piece (Elt F) S1024x1024 .f32 := ⟨Rect.unit ![0, 0] S1024x1024.size inb_S1024x1024_S1024x1024_0_0, k0_pay2⟩

def zeroPle : View.Piece (Elt F) S4x256x256 .f32 := ⟨Rect.unit ![0, 0, 0] S4x256x256.size inb_S4x256x256_S4x256x256_0_0_0, k0_pay3⟩

/-- The first point's loads, but for the running sums' later slices, -/
def readsStart : Reads F where
  yLow := View.readAt (Elt F) (ms0_0 t).view (Rect.unit (s := S512x2048) ![0, 0] S256x2048.size inb_S512x2048_S256x2048_0_0).toLoadRect ((hs0_0 t).unread (iblk m c 0 t))
  yHigh := View.readAt (Elt F) (ms0_0 t).view (Rect.unit (s := S512x2048) ![256, 0] S256x2048.size inb_S512x2048_S256x2048_256_0).toLoadRect ((hs0_0 t).unread (iblk m c 0 t))
  xLow := View.readAt (Elt F) (ms0_1 t).view (Rect.unit (s := S512x1024) ![0, 0] S256x1024.size inb_S512x1024_S256x1024_0_0).toLoadRect ((hs0_1 t).unread (iblk m c 1 t))
  xHigh := View.readAt (Elt F) (ms0_1 t).view (Rect.unit (s := S512x1024) ![256, 0] S256x1024.size inb_S512x1024_S256x1024_256_0).toLoadRect ((hs0_1 t).unread (iblk m c 1 t))
  pLow := View.readAt (Elt F) (ms0_2 t).view (Rect.unit (s := S512x256) ![0, 0] S256x256.size inb_S512x256_S256x256_0_0).toLoadRect ((hs0_2 t).unread (iblk m c 2 t))
  pHigh := View.readAt (Elt F) (ms0_2 t).view (Rect.unit (s := S512x256) ![256, 0] S256x256.size inb_S512x256_S256x256_256_0).toLoadRect ((hs0_2 t).unread (iblk m c 2 t))
  tLow := View.readAt (Elt F) (ms0_3 t).view (Rect.unit (s := S512x1024) ![0, 0] S256x1024.size inb_S512x1024_S256x1024_0_0).toLoadRect ((hs0_3 t).unread (iblk m c 3 t))
  tHigh := View.readAt (Elt F) (ms0_3 t).view (Rect.unit (s := S512x1024) ![256, 0] S256x1024.size inb_S512x1024_S256x1024_256_0).toLoadRect ((hs0_3 t).unread (iblk m c 3 t))
  yAll := View.readAt (Elt F) (ms0_0 t).view (Rect.unit (s := S512x2048) ![0, 0] S512x2048.size inb_S512x2048_S512x2048_0_0).toLoadRect ((hs0_0 t).unread (iblk m c 0 t))
  g := View.readAt (Elt F) (ms0_4 t).view (Rect.unit (s := S1x1024) ![0, 0] S1x1024.size inb_S1x1024_S1x1024_0_0).toLoadRect ((hs0_4 t).unread (iblk m c 4 t))
  b := View.readAt (Elt F) (ms0_5 t).view (Rect.unit (s := S1x1024) ![0, 0] S1x1024.size inb_S1x1024_S1x1024_0_0).toLoadRect ((hs0_5 t).unread (iblk m c 5 t))
  c := View.readAt (Elt F) (ms0_6 t).view (Rect.unit (s := S1x1024) ![0, 0] S1x1024.size inb_S1x1024_S1x1024_0_0).toLoadRect ((hs0_6 t).unread (iblk m c 6 t))
  wOut := View.readCov scM0_0.view (fetchOut m c) (Rect.unit (s := S2048x1024) ![0, 0] S2048x1024.size inb_S2048x1024_S2048x1024_0_0).toLoadRect
  wOut0 := View.readCov scM0_0.view (fetchOut m c) (Rect.unit (s := S2048x1024) ![0, 0] S512x1024.size inb_S2048x1024_S512x1024_0_0).toLoadRect
  wOut1 := View.readCov scM0_0.view (fetchOut m c) (Rect.unit (s := S2048x1024) ![512, 0] S512x1024.size inb_S2048x1024_S512x1024_512_0).toLoadRect
  wOut2 := View.readCov scM0_0.view (fetchOut m c) (Rect.unit (s := S2048x1024) ![1024, 0] S512x1024.size inb_S2048x1024_S512x1024_1024_0).toLoadRect
  wOut3 := View.readCov scM0_0.view (fetchOut m c) (Rect.unit (s := S2048x1024) ![1536, 0] S512x1024.size inb_S2048x1024_S512x1024_1536_0).toLoadRect
  wGate := View.readCov scM0_1.view (fetchGate m c) (Rect.unit (s := S1024x1024) ![0, 0] S1024x1024.size inb_S1024x1024_S1024x1024_0_0).toLoadRect
  wPle0 := View.readCov scM0_2.view (fetchPle m c) (Rect.unit (s := S4x256x256) ![0, 0, 0] S1x256x256.size inb_S4x256x256_S1x256x256_0_0_0).toLoadRect
  wPle1 := View.readCov scM0_2.view (fetchPle m c) (Rect.unit (s := S4x256x256) ![1, 0, 0] S1x256x256.size inb_S4x256x256_S1x256x256_1_0_0).toLoadRect
  wPle2 := View.readCov scM0_2.view (fetchPle m c) (Rect.unit (s := S4x256x256) ![2, 0, 0] S1x256x256.size inb_S4x256x256_S1x256x256_2_0_0).toLoadRect
  wPle3 := View.readCov scM0_2.view (fetchPle m c) (Rect.unit (s := S4x256x256) ![3, 0, 0] S1x256x256.size inb_S4x256x256_S1x256x256_3_0_0).toLoadRect
  lnG := View.readCov (ms0_9 t).view [zeroRow k0_pay4] (Rect.unit (s := S1x1024) ![0, 0] S1x1024.size inb_S1x1024_S1x1024_0_0).toLoadRect
  lnB := View.readCov (ms0_10 t).view [zeroRow k0_pay5] (Rect.unit (s := S1x1024) ![0, 0] S1x1024.size inb_S1x1024_S1x1024_0_0).toLoadRect
  gateB := View.readCov (ms0_11 t).view [zeroRow k0_pay6] (Rect.unit (s := S1x1024) ![0, 0] S1x1024.size inb_S1x1024_S1x1024_0_0).toLoadRect
  squares := View.readCov (ms0_12 t).view [zeroRow k0_pay7] (Rect.unit (s := S1x1024) ![0, 0] S1x1024.size inb_S1x1024_S1x1024_0_0).toLoadRect
  out0 := View.readCov scM0_3.view [zeroOut] (Rect.unit (s := S2048x1024) ![0, 0] S2048x256.size inb_S2048x1024_S2048x256_0_0).toLoadRect
  gate0 := View.readCov scM0_4.view [zeroGate] (Rect.unit (s := S1024x1024) ![0, 0] S1024x256.size inb_S1024x1024_S1024x256_0_0).toLoadRect
  ple0 := View.readCov scM0_5.view [zeroPle] (Rect.unit (s := S4x256x256) ![0, 0, 0] S1x256x256.size inb_S4x256x256_S1x256x256_0_0_0).toLoadRect
  out1 := fun _ => FloatOps.ofBits .f32 0#32
  gate1 := fun _ => FloatOps.ofBits .f32 0#32
  ple1 := fun _ => FloatOps.ofBits .f32 0#32
  out2 := fun _ => FloatOps.ofBits .f32 0#32
  gate2 := fun _ => FloatOps.ofBits .f32 0#32
  ple2 := fun _ => FloatOps.ofBits .f32 0#32
  out3 := fun _ => FloatOps.ofBits .f32 0#32
  gate3 := fun _ => FloatOps.ofBits .f32 0#32
  ple3 := fun _ => FloatOps.ofBits .f32 0#32

/-- each of which is loaded after the stores to the slices before it. -/
def readsStart1 : Reads F :=
  let R := readsStart m c t
  { R with
    out1 := View.readCov scM0_3.view (R.outStores.drop 3 ++ [zeroOut]) (Rect.unit (s := S2048x1024) ![0, 256] S2048x256.size inb_S2048x1024_S2048x256_0_256).toLoadRect
    gate1 := View.readCov scM0_4.view (R.gateStores.drop 3 ++ [zeroGate]) (Rect.unit (s := S1024x1024) ![0, 256] S1024x256.size inb_S1024x1024_S1024x256_0_256).toLoadRect
    ple1 := View.readCov scM0_5.view (R.pleStores.drop 3 ++ [zeroPle]) (Rect.unit (s := S4x256x256) ![1, 0, 0] S1x256x256.size inb_S4x256x256_S1x256x256_1_0_0).toLoadRect }

def readsStart2 : Reads F :=
  let R := readsStart1 m c t
  { R with
    out2 := View.readCov scM0_3.view (R.outStores.drop 2 ++ [zeroOut]) (Rect.unit (s := S2048x1024) ![0, 512] S2048x256.size inb_S2048x1024_S2048x256_0_512).toLoadRect
    gate2 := View.readCov scM0_4.view (R.gateStores.drop 2 ++ [zeroGate]) (Rect.unit (s := S1024x1024) ![0, 512] S1024x256.size inb_S1024x1024_S1024x256_0_512).toLoadRect
    ple2 := View.readCov scM0_5.view (R.pleStores.drop 2 ++ [zeroPle]) (Rect.unit (s := S4x256x256) ![2, 0, 0] S1x256x256.size inb_S4x256x256_S1x256x256_2_0_0).toLoadRect }

def readsStart3 : Reads F :=
  let R := readsStart2 m c t
  { R with
    out3 := View.readCov scM0_3.view (R.outStores.drop 1 ++ [zeroOut]) (Rect.unit (s := S2048x1024) ![0, 768] S2048x256.size inb_S2048x1024_S2048x256_0_768).toLoadRect
    gate3 := View.readCov scM0_4.view (R.gateStores.drop 1 ++ [zeroGate]) (Rect.unit (s := S1024x1024) ![0, 768] S1024x256.size inb_S1024x1024_S1024x256_0_768).toLoadRect
    ple3 := View.readCov scM0_5.view (R.pleStores.drop 1 ++ [zeroPle]) (Rect.unit (s := S4x256x256) ![3, 0, 0] S1x256x256.size inb_S4x256x256_S1x256x256_3_0_0).toLoadRect }

/-- The first point's loads. -/
abbrev readsFirst : Reads F := readsStart3 m c t

/-! ## The stores of each point are `Step`'s, over its loads -/

section Middle

variable (h : t.val ≠ 0) (hl : t.val ≠ 15) (p : Left F c)

theorem dx_middle : (runMiddle m c t h hl p).1 = (readsOver m c t p).dxStores := by sl_kernel_rfl

theorem dy_middle : (runMiddle m c t h hl p).2.1 = (readsOver m c t p).dyStores := by sl_kernel_rfl

theorem lnG_middle : (runMiddle m c t h hl p).2.2.1 = [(readsOver m c t p).lnGStore] := by sl_kernel_rfl

theorem lnB_middle : (runMiddle m c t h hl p).2.2.2.1 = [(readsOver m c t p).lnBStore] := by sl_kernel_rfl

theorem gateB_middle : (runMiddle m c t h hl p).2.2.2.2.1 = [(readsOver m c t p).gateBStore] := by sl_kernel_rfl

theorem squares_middle : (runMiddle m c t h hl p).2.2.2.2.2.1 = [(readsOver m c t p).squaresStore] := by sl_kernel_rfl

theorem out_middle : (runMiddle m c t h hl p).2.2.2.2.2.2.2.2.2.1 = (readsOver m c t p).outStores := by sl_kernel_rfl

theorem gate_middle : (runMiddle m c t h hl p).2.2.2.2.2.2.2.2.2.2.1 = (readsOver m c t p).gateStores := by sl_kernel_rfl

theorem ple_middle : (runMiddle m c t h hl p).2.2.2.2.2.2.2.2.2.2.2.1 = (readsOver m c t p).pleStores := by sl_kernel_rfl

end Middle

section Last

variable (h : t.val = 15) (p : Left F c)

theorem dx_last : (runLast m c t h p).1 = (readsOver m c t p).dxStores := by sl_kernel_rfl

theorem dy_last : (runLast m c t h p).2.1 = (readsOver m c t p).dyStores := by sl_kernel_rfl

theorem lnG_last : (runLast m c t h p).2.2.1 = [(readsOver m c t p).lnGStore] := by sl_kernel_rfl

theorem lnB_last : (runLast m c t h p).2.2.2.1 = [(readsOver m c t p).lnBStore] := by sl_kernel_rfl

theorem gateB_last : (runLast m c t h p).2.2.2.2.1 = [(readsOver m c t p).gateBStore] := by sl_kernel_rfl

theorem squares_last : (runLast m c t h p).2.2.2.2.2.1 = [(readsOver m c t p).squaresStore] := by sl_kernel_rfl

theorem out_last : (runLast m c t h p).2.2.2.2.2.2.2.2.2.1 = (readsOver m c t p).outStores := by sl_kernel_rfl

theorem gate_last : (runLast m c t h p).2.2.2.2.2.2.2.2.2.2.1 = (readsOver m c t p).gateStores := by sl_kernel_rfl

theorem ple_last : (runLast m c t h p).2.2.2.2.2.2.2.2.2.2.2.1 = (readsOver m c t p).pleStores := by sl_kernel_rfl

end Last

section First

variable (h : t.val = 0)

theorem dx_first : (runFirst m c t h).1 = (readsFirst m c t).dxStores := by sl_kernel_rfl

theorem dy_first : (runFirst m c t h).2.1 = (readsFirst m c t).dyStores := by sl_kernel_rfl

theorem lnG_first : (runFirst m c t h).2.2.1 = [(readsFirst m c t).lnGStore, zeroRow k0_pay4] := by sl_kernel_rfl

theorem lnB_first : (runFirst m c t h).2.2.2.1 = [(readsFirst m c t).lnBStore, zeroRow k0_pay5] := by sl_kernel_rfl

theorem gateB_first : (runFirst m c t h).2.2.2.2.1 = [(readsFirst m c t).gateBStore, zeroRow k0_pay6] := by sl_kernel_rfl

theorem squares_first : (runFirst m c t h).2.2.2.2.2.1 = [(readsFirst m c t).squaresStore, zeroRow k0_pay7] := by sl_kernel_rfl

theorem out_first : (runFirst m c t h).2.2.2.2.2.2.2.2.2.1 = (readsFirst m c t).outStores ++ [zeroOut] := by sl_kernel_rfl

theorem gate_first : (runFirst m c t h).2.2.2.2.2.2.2.2.2.2.1 = (readsFirst m c t).gateStores ++ [zeroGate] := by sl_kernel_rfl

theorem ple_first : (runFirst m c t h).2.2.2.2.2.2.2.2.2.2.2.1 = (readsFirst m c t).pleStores ++ [zeroPle] := by sl_kernel_rfl

theorem fetchOut_first : (runFirst m c t h).2.2.2.2.2.2.1 = fetchOut m c := by sl_kernel_rfl

theorem fetchGate_first : (runFirst m c t h).2.2.2.2.2.2.2.1 = fetchGate m c := by sl_kernel_rfl

theorem fetchPle_first : (runFirst m c t h).2.2.2.2.2.2.2.2.1 = fetchPle m c := by sl_kernel_rfl

end First

end Cert.KernelIdeal.Tail

end
-- ==== Proof.Tail.Blocks.lean ====
/-
Where a block's entry sits in its buffer, and a buffer's contents from blocks of one function.
-/
module

public import Idealize.ShloMosaic.Lib.Pipeline.ReadBack
public import Idealize.ShloMosaic.Lib.Pointwise
public import Idealize.ShloMosaic.Lib.ValueIdx

@[expose] public section

noncomputable section

namespace Cert.Blocks

open Idealize.ShloMosaic Idealize.ShloMosaic.Tactic

variable {α : Type} {n0 n1 n2 m0 m1 m2 o0 o1 o2 : ℕ}

theorem emb2 (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (h0 : a'.val = o0 + a.val) (h1 : b'.val = o1 + b.val) :
    (Rect.unit (s := ⟨2, ![n0, n1]⟩) ![o0, o1] ![m0, m1] inb).emb (ix2 a b) = ix2 a' b' := by
  funext k; apply Fin.ext
  match k with
  | ⟨0, _⟩ => exact (congrArg (o0 + ·) (Nat.one_mul _)).trans h0.symm
  | ⟨1, _⟩ => exact (congrArg (o1 + ·) (Nat.one_mul _)).trans h1.symm

theorem emb3 (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2)
    (h0 : a'.val = o0 + a.val) (h1 : b'.val = o1 + b.val) (h2 : c'.val = o2 + c.val) :
    (Rect.unit (s := ⟨3, ![n0, n1, n2]⟩) ![o0, o1, o2] ![m0, m1, m2] inb).emb (ix3 a b c) = ix3 a' b' c' := by
  funext k; apply Fin.ext
  match k with
  | ⟨0, _⟩ => exact (congrArg (o0 + ·) (Nat.one_mul _)).trans h0.symm
  | ⟨1, _⟩ => exact (congrArg (o1 + ·) (Nat.one_mul _)).trans h1.symm
  | ⟨2, _⟩ => exact (congrArg (o2 + ·) (Nat.one_mul _)).trans h2.symm

/-- A block whose entries are `g`'s, each at its place in the buffer. -/
theorem piece2 (inb : ∀ a, (![o0, o1] : Fin 2 → ℕ) a + (![m0, m1] : Fin 2 → ℕ) a ≤ (⟨2, ![n0, n1]⟩ : Shape).size a)
    (g : (⟨2, ![n0, n1]⟩ : Shape).Idx → α) (v : (⟨2, ![m0, m1]⟩ : Shape).Idx → α)
    (h : ∀ (a : Fin m0) (b : Fin m1) (a' : Fin n0) (b' : Fin n1), a'.val = o0 + a.val → b'.val = o1 + b.val → v (ix2 a b) = g (ix2 a' b'))
    (x : (⟨2, ![m0, m1]⟩ : Shape).Idx) : v x = g ((Rect.unit (s := ⟨2, ![n0, n1]⟩) ![o0, o1] ![m0, m1] inb).emb x) := by
  have ha : o0 + (x 0).val < n0 := lt_of_lt_of_le (Nat.add_lt_add_left (x 0).isLt o0) (inb 0)
  have hb : o1 + (x 1).val < n1 := lt_of_lt_of_le (Nat.add_lt_add_left (x 1).isLt o1) (inb 1)
  rw [eq_ix2 x, emb2 inb (x 0) (x 1) ⟨_, ha⟩ ⟨_, hb⟩ rfl rfl]
  exact h _ _ _ _ rfl rfl

theorem piece3 (inb : ∀ a, (![o0, o1, o2] : Fin 3 → ℕ) a + (![m0, m1, m2] : Fin 3 → ℕ) a ≤ (⟨3, ![n0, n1, n2]⟩ : Shape).size a)
    (g : (⟨3, ![n0, n1, n2]⟩ : Shape).Idx → α) (v : (⟨3, ![m0, m1, m2]⟩ : Shape).Idx → α)
    (h : ∀ (a : Fin m0) (b : Fin m1) (c : Fin m2) (a' : Fin n0) (b' : Fin n1) (c' : Fin n2),
      a'.val = o0 + a.val → b'.val = o1 + b.val → c'.val = o2 + c.val → v (ix3 a b c) = g (ix3 a' b' c'))
    (x : (⟨3, ![m0, m1, m2]⟩ : Shape).Idx) : v x = g ((Rect.unit (s := ⟨3, ![n0, n1, n2]⟩) ![o0, o1, o2] ![m0, m1, m2] inb).emb x) := by
  have ha : o0 + (x 0).val < n0 := lt_of_lt_of_le (Nat.add_lt_add_left (x 0).isLt o0) (inb 0)
  have hb : o1 + (x 1).val < n1 := lt_of_lt_of_le (Nat.add_lt_add_left (x 1).isLt o1) (inb 1)
  have hc : o2 + (x 2).val < n2 := lt_of_lt_of_le (Nat.add_lt_add_left (x 2).isLt o2) (inb 2)
  rw [eq_ix3 x, emb3 inb (x 0) (x 1) (x 2) ⟨_, ha⟩ ⟨_, hb⟩ ⟨_, hc⟩ rfl rfl rfl]
  exact h _ _ _ _ _ _ rfl rfl rfl

variable {Val : EltTy → Type} {s : Shape} {e : EltTy}

/-- One store more that is a block of `g`. -/
theorem cons2 {inb : ∀ a, (![o0, o1] : Fin 2 → ℕ) a + (![m0, m1] : Fin 2 → ℕ) a ≤ (⟨2, ![n0, n1]⟩ : Shape).size a}
    {g : (⟨2, ![n0, n1]⟩ : Shape).Idx → Val e} {v : (⟨2, ![m0, m1]⟩ : Shape).Idx → Val e} {L : List (View.Piece Val ⟨2, ![n0, n1]⟩ e)}
    (h : ∀ (a : Fin m0) (b : Fin m1) (a' : Fin n0) (b' : Fin n1), a'.val = o0 + a.val → b'.val = o1 + b.val → v (ix2 a b) = g (ix2 a' b'))
    (hL : View.PiecesOf g L) :
    View.PiecesOf g (⟨Rect.unit (s := ⟨2, ![n0, n1]⟩) ![o0, o1] ![m0, m1] inb, v⟩ :: L) :=
  ⟨piece2 inb g v h, hL⟩

theorem cons3 {inb : ∀ a, (![o0, o1, o2] : Fin 3 → ℕ) a + (![m0, m1, m2] : Fin 3 → ℕ) a ≤ (⟨3, ![n0, n1, n2]⟩ : Shape).size a}
    {g : (⟨3, ![n0, n1, n2]⟩ : Shape).Idx → Val e} {v : (⟨3, ![m0, m1, m2]⟩ : Shape).Idx → Val e}
    {L : List (View.Piece Val ⟨3, ![n0, n1, n2]⟩ e)}
    (h : ∀ (a : Fin m0) (b : Fin m1) (c : Fin m2) (a' : Fin n0) (b' : Fin n1) (c' : Fin n2),
      a'.val = o0 + a.val → b'.val = o1 + b.val → c'.val = o2 + c.val → v (ix3 a b c) = g (ix3 a' b' c'))
    (hL : View.PiecesOf g L) :
    View.PiecesOf g (⟨Rect.unit (s := ⟨3, ![n0, n1, n2]⟩) ![o0, o1, o2] ![m0, m1, m2] inb, v⟩ :: L) :=
  ⟨piece3 inb g v h, hL⟩

/-- Stores that are blocks of `G` and cover the buffer leave `G`, whatever was stored before. -/
theorem canon_eq [∀ e, Nonempty (Val e)] (G : s.Idx → Val e) (L L' : List (View.Piece Val s e)) (h : View.PiecesOf G L)
    (hc : ∀ y, ∃ p ∈ L, y ∈ p.1.set) : View.canon (L ++ L') = G :=
  funext fun y => View.canon_append_of_piecesOf G L' L h y (hc y)

end Cert.Blocks

end
-- ==== Proof.Tail.Holds.lean ====
/-
What a grid point's stores leave, when its loads hold two halves' tokens (256 each), the weights, and the sums so far.
-/
module

public import proofs.«01_k».proof.Proof.Tail.Step
public import proofs.«01_k».proof.Proof.Tail.Blocks
public import Idealize.ShloMosaic.Lib.Ring

@[expose] public section

set_option maxRecDepth 16384

noncomputable section

namespace Cert.Tail

open Idealize.ShloMosaic

/-- The running sums over the tokens met so far. -/
structure Sums where
  out : Fin 2048 → Fin 1024 → EReal
  gate : Fin 1024 → Fin 1024 → EReal
  ple : Fin 256 → Fin 1024 → EReal
  lnG : Fin 1024 → EReal
  lnB : Fin 1024 → EReal
  gateB : Fin 1024 → EReal
  squares : Fin 1024 → EReal

def Sums.zero : Sums := ⟨fun _ _ => 0, fun _ _ => 0, fun _ _ => 0, fun _ => 0, fun _ => 0, fun _ => 0, fun _ => 0⟩

/-- The sums with a block's 512 tokens added. -/
def Sums.add (S : Sums) (W : Weights) (B : Fin 512 → Token) : Sums where
  out k j := S.out k j + ∑ i, (B i).y k * dPre W (B i) j
  gate k j := S.gate k j + ∑ i, x1 W (B i) k * dGate W (B i) j
  ple k j := S.ple k j + ∑ i, (B i).p k * dPle W (B i) j
  lnG j := S.lnG j + ∑ i, dX1 W (B i) j * xhat W (B i) j
  lnB j := S.lnB j + ∑ i, dX1 W (B i) j
  gateB j := S.gateB j + ∑ i, dGate W (B i) j
  squares j := S.squares j + ∑ i, diff W (B i) j * diff W (B i) j

namespace Rows

variable {T T' : Fin 256 → Token} {i : Fin 256} {r : Fin 512}

theorem both_low (h : r.val = 0 + i.val) : both T T' r = T i := by
  unfold both; rw [dif_pos (by omega)]; congr 1; exact Fin.ext (by simpa using h)

theorem both_high (h : r.val = 256 + i.val) : both T T' r = T' i := by
  unfold both; rw [dif_neg (by omega)]; congr 1; exact Fin.ext (by simp only; omega)

end Rows

end Cert.Tail

namespace Cert.KernelIdeal.Tail

open Cert.Tail Cert.Blocks Cert.KernelIdeal Cert.KernelIdeal.Gen
open Idealize.ShloMosaic Idealize.ShloMosaic.Tactic

theorem column (y : S4x256x256.Idx) : 256 * (y 0).val + (y 2).val < 1024 := by
  have h0 : (y 0).val < 4 := (y 0).isLt
  have h2 : (y 2).val < 256 := (y 2).isLt
  omega

/-- The loads hold the tokens of two halves and the weights. -/
structure Reads.Holds (R : Reads Ideal) (W : Weights) (T T' : Fin 256 → Token) : Prop where
  yLow : ∀ i k, R.yLow (ix2 i k) = (T i).y k
  yHigh : ∀ i k, R.yHigh (ix2 i k) = (T' i).y k
  yAll : ∀ i k, R.yAll (ix2 i k) = (Rows.both T T' i).y k
  xLow : ∀ i j, R.xLow (ix2 i j) = (T i).x j
  xHigh : ∀ i j, R.xHigh (ix2 i j) = (T' i).x j
  pLow : ∀ i k, R.pLow (ix2 i k) = (T i).p k
  pHigh : ∀ i k, R.pHigh (ix2 i k) = (T' i).p k
  tLow : ∀ i j, R.tLow (ix2 i j) = (T i).target j
  tHigh : ∀ i j, R.tHigh (ix2 i j) = (T' i).target j
  g : ∀ j, R.g (ix2 0 j) = W.lnG j
  b : ∀ j, R.b (ix2 0 j) = W.lnB j
  c : ∀ j, R.c (ix2 0 j) = W.gateB j
  wOut : ∀ k j, R.wOut (ix2 k j) = W.out k j
  wOut0 : ∀ (k : Fin 512) j, R.wOut0 (ix2 k j) = W.out ⟨0 + k.val, Rows.lt_row (by decide) k⟩ j
  wOut1 : ∀ (k : Fin 512) j, R.wOut1 (ix2 k j) = W.out ⟨512 + k.val, Rows.lt_row (by decide) k⟩ j
  wOut2 : ∀ (k : Fin 512) j, R.wOut2 (ix2 k j) = W.out ⟨1024 + k.val, Rows.lt_row (by decide) k⟩ j
  wOut3 : ∀ (k : Fin 512) j, R.wOut3 (ix2 k j) = W.out ⟨1536 + k.val, Rows.lt_row (by decide) k⟩ j
  wGate : ∀ k j, R.wGate (ix2 k j) = W.gate k j
  wPle0 : ∀ k (j : Fin 256), R.wPle0 (ix3 0 k j) = W.ple k ⟨0 + j.val, Rows.lt00 j⟩
  wPle1 : ∀ k (j : Fin 256), R.wPle1 (ix3 0 k j) = W.ple k ⟨256 + j.val, Rows.lt256 j⟩
  wPle2 : ∀ k (j : Fin 256), R.wPle2 (ix3 0 k j) = W.ple k ⟨512 + j.val, Rows.lt512 j⟩
  wPle3 : ∀ k (j : Fin 256), R.wPle3 (ix3 0 k j) = W.ple k ⟨768 + j.val, Rows.lt768 j⟩

/-- The loads of the running sums hold `S`. -/
structure Reads.HoldsSums (R : Reads Ideal) (S : Sums) : Prop where
  lnG : ∀ j, R.lnG (ix2 0 j) = S.lnG j
  lnB : ∀ j, R.lnB (ix2 0 j) = S.lnB j
  gateB : ∀ j, R.gateB (ix2 0 j) = S.gateB j
  squares : ∀ j, R.squares (ix2 0 j) = S.squares j
  out0 : ∀ k (c : Fin 256), R.out0 (ix2 k c) = S.out k ⟨c.val, Rows.lt0 c⟩
  out1 : ∀ k (c : Fin 256), R.out1 (ix2 k c) = S.out k ⟨256 + c.val, Rows.lt256 c⟩
  out2 : ∀ k (c : Fin 256), R.out2 (ix2 k c) = S.out k ⟨512 + c.val, Rows.lt512 c⟩
  out3 : ∀ k (c : Fin 256), R.out3 (ix2 k c) = S.out k ⟨768 + c.val, Rows.lt768 c⟩
  gate0 : ∀ k (c : Fin 256), R.gate0 (ix2 k c) = S.gate k ⟨c.val, Rows.lt0 c⟩
  gate1 : ∀ k (c : Fin 256), R.gate1 (ix2 k c) = S.gate k ⟨256 + c.val, Rows.lt256 c⟩
  gate2 : ∀ k (c : Fin 256), R.gate2 (ix2 k c) = S.gate k ⟨512 + c.val, Rows.lt512 c⟩
  gate3 : ∀ k (c : Fin 256), R.gate3 (ix2 k c) = S.gate k ⟨768 + c.val, Rows.lt768 c⟩
  ple0 : ∀ k (c : Fin 256), R.ple0 (ix3 0 k c) = S.ple k ⟨c.val, Rows.lt0 c⟩
  ple1 : ∀ k (c : Fin 256), R.ple1 (ix3 0 k c) = S.ple k ⟨256 + c.val, Rows.lt256 c⟩
  ple2 : ∀ k (c : Fin 256), R.ple2 (ix3 0 k c) = S.ple k ⟨512 + c.val, Rows.lt512 c⟩
  ple3 : ∀ k (c : Fin 256), R.ple3 (ix3 0 k c) = S.ple k ⟨768 + c.val, Rows.lt768 c⟩

namespace Reads.Holds

variable {R : Reads Ideal} {W : Weights} {T T' : Fin 256 → Token} (H : R.Holds W T T')

include H

/-! ## The body's values -/

theorem p0 : ∀ i j, R.p0 (ix2 i j) = (T i).p j := fun i j => Rows.p_low i H.pLow j

theorem p1 : ∀ i j, R.p1 (ix2 i j) = (T' i).p j := fun i j => Rows.p_high i H.pHigh j

theorem xhatLow : ∀ i j, R.xhatLow (ix2 i j) = xhat W (T i) j := fun i j => Rows.xhat_low i j H.yLow H.wOut H.xLow

theorem xhatHigh : ∀ i j, R.xhatHigh (ix2 i j) = xhat W (T' i) j := fun i j => Rows.xhat_high i j H.yHigh H.wOut H.xHigh

theorem rstdLow : ∀ i, R.rstdLow (ix2 i 0) = rstd W (T i) := fun i => Rows.rstd_low i H.yLow H.wOut H.xLow

theorem rstdHigh : ∀ i, R.rstdHigh (ix2 i 0) = rstd W (T' i) := fun i => Rows.rstd_high i H.yHigh H.wOut H.xHigh

theorem x1Low : ∀ i j, R.x1Low (ix2 i j) = x1 W (T i) j := fun i j => Rows.x1_low i j H.yLow H.wOut H.xLow H.g H.b

theorem x1High : ∀ i j, R.x1High (ix2 i j) = x1 W (T' i) j := fun i j => Rows.x1_high i j H.yHigh H.wOut H.xHigh H.g H.b

theorem x1LowB : ∀ i j, R.x1LowB (ix2 i j) = x1 W (T i) j := fun i j => Rows.x1_low' i j H.yLow H.wOut H.xLow H.g H.b

theorem x1HighB : ∀ i j, R.x1HighB (ix2 i j) = x1 W (T' i) j := fun i j => Rows.x1_high' i j H.yHigh H.wOut H.xHigh H.g H.b

theorem gateLow : ∀ i j, R.gateLow (ix2 i j) = gate W (T i) j := fun i j => Rows.gate_low i j H.yLow H.wOut H.xLow H.g H.b H.wGate H.c

theorem gateHigh : ∀ i j, R.gateHigh (ix2 i j) = gate W (T' i) j := fun i j => Rows.gate_high i j H.x1HighB H.wGate H.c

theorem pleLow : ∀ i j, R.pleLow (ix2 i j) = ple W (T i) j := fun i j => Rows.ple_low i j H.wPle0 H.wPle1 H.wPle2 H.wPle3 H.p0

theorem pleHigh : ∀ i j, R.pleHigh (ix2 i j) = ple W (T' i) j := fun i j => Rows.ple_high i j H.wPle0 H.wPle1 H.wPle2 H.wPle3 H.p1

theorem dOutLow : ∀ i j, R.dOutLow (ix2 i j) = dOut W (T i) j := fun i j => Rows.dOut_low i j H.x1Low H.gateLow H.pleLow H.tLow

theorem dOutHigh : ∀ i j, R.dOutHigh (ix2 i j) = dOut W (T' i) j := fun i j => Rows.dOut_high i j H.x1High H.gateHigh H.tHigh H.pleHigh

theorem dPleLow : ∀ i j, R.dPleLow (ix2 i j) = dPle W (T i) j := fun i j => Rows.dPle_low i j H.x1Low H.gateLow H.pleLow H.tLow

theorem dPleHigh : ∀ i j, R.dPleHigh (ix2 i j) = dPle W (T' i) j := fun i j => Rows.dPle_high i j H.x1High H.gateHigh H.tHigh H.pleHigh

theorem dGateLow : ∀ i j, R.dGateLow (ix2 i j) = dGate W (T i) j := fun i j => Rows.dGate_low' i j H.dOutLow H.gateLow H.pleLow

theorem dGateHigh : ∀ i j, R.dGateHigh (ix2 i j) = dGate W (T' i) j := fun i j => Rows.dGate_high' i j H.dOutHigh H.gateHigh H.pleHigh

theorem pBoth : ∀ i j, R.pBoth (ix2 i j) = (Rows.both T T' i).p j := fun i j => Rows.p_both H.p0 H.p1 i j

theorem dPleBoth : ∀ i j, R.dPleBoth (ix2 i j) = dPle W (Rows.both T T' i) j := fun i j => Rows.dPle_both j H.dPleLow H.dPleHigh i

theorem x1Both : ∀ i j, R.x1Both (ix2 i j) = x1 W (Rows.both T T' i) j := fun i j => Rows.x1_both j H.x1LowB H.x1HighB i

theorem dGateBoth : ∀ i j, R.dGateBoth (ix2 i j) = dGate W (Rows.both T T' i) j := fun i j => Rows.dGate_both j H.dOutLow H.gateLow H.pleLow H.dOutHigh H.gateHigh H.pleHigh i

theorem dX1Low : ∀ i j, R.dX1Low (ix2 i j) = dX1 W (T i) j := fun i j => Rows.dX1_low i j H.dOutLow H.dGateLow H.wGate

theorem dX1High : ∀ i j, R.dX1High (ix2 i j) = dX1 W (T' i) j := fun i j => Rows.dX1_high i j H.dOutHigh H.dGateHigh H.wGate

theorem dPreLowB : ∀ i j, R.dPreLowB (ix2 i j) = dPre W (T i) j := fun i j => Rows.dPre_low' i j H.xhatLow H.dX1Low H.rstdLow H.g

theorem dPreHighB : ∀ i j, R.dPreHighB (ix2 i j) = dPre W (T' i) j := fun i j => Rows.dPre_high' i j H.xhatHigh H.dX1High H.rstdHigh H.g

theorem dPreBoth : ∀ i j, R.dPreBoth (ix2 i j) = dPre W (Rows.both T T' i) j := fun i j => Rows.dPre_both j H.dPreLowB H.dPreHighB i

/-! ## The two token arrays' blocks -/

theorem dx : View.canon R.dxStores = fun y => Ideal.ofBits .f32 0x3F9837F0#32 * dPre W (Rows.both T T' (y 0)) (y 1) := by
  refine (congrArg View.canon (List.append_nil _).symm).trans
    (canon_eq _ R.dxStores [] (cons2 ?_ (cons2 ?_ trivial)) (View.cover_of_tiledL R.dxStores ![256, 1024] (by sl_kernel_rfl)))
  · intro i j r j' hr hj
    obtain rfl : j' = j := Fin.ext (by omega)
    exact (Rows.dX_high i j' H.xhatHigh H.dX1High H.rstdHigh H.g).trans
      (congrArg (fun t => Ideal.ofBits .f32 0x3F9837F0#32 * dPre W t j') (Rows.both_high hr).symm)
  · intro i j r j' hr hj
    obtain rfl : j' = j := Fin.ext (by omega)
    exact (Rows.dX_low i j' H.xhatLow H.dX1Low H.rstdLow H.g).trans
      (congrArg (fun t => Ideal.ofBits .f32 0x3F9837F0#32 * dPre W t j') (Rows.both_low hr).symm)

theorem dy : View.canon R.dyStores = fun y => ∑ j, dPre W (Rows.both T T' (y 0)) j * W.out (y 1) j := by
  refine (congrArg View.canon (List.append_nil _).symm).trans
    (canon_eq _ R.dyStores [] (cons2 ?_ (cons2 ?_ (cons2 ?_ (cons2 ?_ (cons2 ?_ (cons2 ?_ (cons2 ?_ (cons2 ?_ trivial)))))))) (View.cover_of_tiledL R.dyStores ![256, 512] (by sl_kernel_rfl)))
  · intro i k r k' hr hk
    obtain ⟨k', hk'⟩ := k'
    obtain rfl : k' = 1536 + k.val := hk
    exact (Rows.dY_step i 1536 (by decide) H.wOut3 k H.dPreHighB).trans
      (congrArg (fun t => ∑ j, dPre W t j * W.out ⟨1536 + k.val, hk'⟩ j) (Rows.both_high hr).symm)
  · intro i k r k' hr hk
    obtain ⟨k', hk'⟩ := k'
    obtain rfl : k' = 1536 + k.val := hk
    exact (Rows.dY_step i 1536 (by decide) H.wOut3 k H.dPreLowB).trans
      (congrArg (fun t => ∑ j, dPre W t j * W.out ⟨1536 + k.val, hk'⟩ j) (Rows.both_low hr).symm)
  · intro i k r k' hr hk
    obtain ⟨k', hk'⟩ := k'
    obtain rfl : k' = 1024 + k.val := hk
    exact (Rows.dY_step i 1024 (by decide) H.wOut2 k H.dPreHighB).trans
      (congrArg (fun t => ∑ j, dPre W t j * W.out ⟨1024 + k.val, hk'⟩ j) (Rows.both_high hr).symm)
  · intro i k r k' hr hk
    obtain ⟨k', hk'⟩ := k'
    obtain rfl : k' = 1024 + k.val := hk
    exact (Rows.dY_step i 1024 (by decide) H.wOut2 k H.dPreLowB).trans
      (congrArg (fun t => ∑ j, dPre W t j * W.out ⟨1024 + k.val, hk'⟩ j) (Rows.both_low hr).symm)
  · intro i k r k' hr hk
    obtain ⟨k', hk'⟩ := k'
    obtain rfl : k' = 512 + k.val := hk
    exact (Rows.dY_step i 512 (by decide) H.wOut1 k H.dPreHighB).trans
      (congrArg (fun t => ∑ j, dPre W t j * W.out ⟨512 + k.val, hk'⟩ j) (Rows.both_high hr).symm)
  · intro i k r k' hr hk
    obtain ⟨k', hk'⟩ := k'
    obtain rfl : k' = 512 + k.val := hk
    exact (Rows.dY_low i 512 (by decide) H.wOut1 k H.dPreLowB).trans
      (congrArg (fun t => ∑ j, dPre W t j * W.out ⟨512 + k.val, hk'⟩ j) (Rows.both_low hr).symm)
  · intro i k r k' hr hk
    obtain ⟨k', hk'⟩ := k'
    obtain rfl : k' = 0 + k.val := hk
    exact (Rows.dY_high i 0 (by decide) H.wOut0 k H.dPreHighB).trans
      (congrArg (fun t => ∑ j, dPre W t j * W.out ⟨0 + k.val, hk'⟩ j) (Rows.both_high hr).symm)
  · intro i k r k' hr hk
    obtain ⟨k', hk'⟩ := k'
    obtain rfl : k' = 0 + k.val := hk
    exact (Rows.dY_low i 0 (by decide) H.wOut0 k H.dPreLowB).trans
      (congrArg (fun t => ∑ j, dPre W t j * W.out ⟨0 + k.val, hk'⟩ j) (Rows.both_low hr).symm)

/-! ## The running sums -/

variable {S : Sums} (hS : R.HoldsSums S)

include hS

theorem lnG (L : List (View.Piece (Elt Ideal) S1x1024 .f32)) :
    View.canon (R.lnGStore :: L) = fun y => (S.add W (Rows.both T T')).lnG (y 1) := by
  refine canon_eq _ [R.lnGStore] L (cons2 ?_ trivial) (View.cover_of_tiledL [R.lnGStore] ![1, 1024] (by sl_kernel_rfl))
  intro i j i' j' _ hj
  obtain rfl : j' = j := Fin.ext (by omega)
  obtain rfl : i = 0 := Subsingleton.elim _ _
  exact (Rows.lnG_step _ H.dOutLow H.dGateLow H.wGate H.xhatLow H.xhatHigh H.dOutHigh H.dGateHigh _).trans (congrArg (· + _) (hS.lnG _))

theorem lnB (L : List (View.Piece (Elt Ideal) S1x1024 .f32)) :
    View.canon (R.lnBStore :: L) = fun y => (S.add W (Rows.both T T')).lnB (y 1) := by
  refine canon_eq _ [R.lnBStore] L (cons2 ?_ trivial) (View.cover_of_tiledL [R.lnBStore] ![1, 1024] (by sl_kernel_rfl))
  intro i j i' j' _ hj
  obtain rfl : j' = j := Fin.ext (by omega)
  obtain rfl : i = 0 := Subsingleton.elim _ _
  exact (Rows.lnB_step _ H.dX1Low H.dX1High _).trans (congrArg (· + _) (hS.lnB _))

theorem gateB (L : List (View.Piece (Elt Ideal) S1x1024 .f32)) :
    View.canon (R.gateBStore :: L) = fun y => (S.add W (Rows.both T T')).gateB (y 1) := by
  refine canon_eq _ [R.gateBStore] L (cons2 ?_ trivial) (View.cover_of_tiledL [R.gateBStore] ![1, 1024] (by sl_kernel_rfl))
  intro i j i' j' _ hj
  obtain rfl : j' = j := Fin.ext (by omega)
  obtain rfl : i = 0 := Subsingleton.elim _ _
  exact (Rows.gateB_step _ H.dOutLow H.gateLow H.pleLow H.dOutHigh H.gateHigh H.pleHigh _).trans (congrArg (· + _) (hS.gateB _))

theorem squares (L : List (View.Piece (Elt Ideal) S1x1024 .f32)) :
    View.canon (R.squaresStore :: L) = fun y => (S.add W (Rows.both T T')).squares (y 1) := by
  refine canon_eq _ [R.squaresStore] L (cons2 ?_ trivial) (View.cover_of_tiledL [R.squaresStore] ![1, 1024] (by sl_kernel_rfl))
  intro i j i' j' _ hj
  obtain rfl : j' = j := Fin.ext (by omega)
  obtain rfl : i = 0 := Subsingleton.elim _ _
  exact (Rows.squares_step _ H.x1Low H.gateLow H.pleLow H.tLow H.x1High H.gateHigh H.pleHigh H.tHigh _).trans (congrArg (· + _) (hS.squares _))

theorem out (L : List (View.Piece (Elt Ideal) S2048x1024 .f32)) :
    View.canon (R.outStores ++ L) = fun y => (S.add W (Rows.both T T')).out (y 0) (y 1) := by
  refine canon_eq _ R.outStores L (cons2 ?_ (cons2 ?_ (cons2 ?_ (cons2 ?_ trivial))))
    (View.cover_of_tiledL R.outStores ![2048, 256] (by sl_kernel_rfl))
  · intro k c k' j hk hj
    obtain rfl : k' = k := Fin.ext (by omega)
    obtain ⟨j, hj'⟩ := j
    obtain rfl : j = 768 + c.val := hj
    exact (Rows.out_step3 H.yAll H.dPreBoth _ k' c).trans (congrArg (· + _) (hS.out3 k' c))
  · intro k c k' j hk hj
    obtain rfl : k' = k := Fin.ext (by omega)
    obtain ⟨j, hj'⟩ := j
    obtain rfl : j = 512 + c.val := hj
    exact (Rows.out_step2 H.yAll H.dPreBoth _ k' c).trans (congrArg (· + _) (hS.out2 k' c))
  · intro k c k' j hk hj
    obtain rfl : k' = k := Fin.ext (by omega)
    obtain ⟨j, hj'⟩ := j
    obtain rfl : j = 256 + c.val := hj
    exact (Rows.out_step1 H.yAll H.dPreBoth _ k' c).trans (congrArg (· + _) (hS.out1 k' c))
  · intro k c k' j hk hj
    obtain rfl : k' = k := Fin.ext (by omega)
    obtain ⟨j, hj'⟩ := j
    obtain rfl : j = c.val := hj.trans (Nat.zero_add _)
    exact (Rows.out_step0 H.yAll _ k' c H.dPreBoth).trans (congrArg (· + _) (hS.out0 k' c))

theorem gate (L : List (View.Piece (Elt Ideal) S1024x1024 .f32)) :
    View.canon (R.gateStores ++ L) = fun y => (S.add W (Rows.both T T')).gate (y 0) (y 1) := by
  refine canon_eq _ R.gateStores L (cons2 ?_ (cons2 ?_ (cons2 ?_ (cons2 ?_ trivial))))
    (View.cover_of_tiledL R.gateStores ![1024, 256] (by sl_kernel_rfl))
  · intro k c k' j hk hj
    obtain rfl : k' = k := Fin.ext (by omega)
    obtain ⟨j, hj'⟩ := j
    obtain rfl : j = 768 + c.val := hj
    exact (Rows.gate_step3 H.x1Both H.dGateBoth _ k' c).trans (congrArg (· + _) (hS.gate3 k' c))
  · intro k c k' j hk hj
    obtain rfl : k' = k := Fin.ext (by omega)
    obtain ⟨j, hj'⟩ := j
    obtain rfl : j = 512 + c.val := hj
    exact (Rows.gate_step2 H.x1Both H.dGateBoth _ k' c).trans (congrArg (· + _) (hS.gate2 k' c))
  · intro k c k' j hk hj
    obtain rfl : k' = k := Fin.ext (by omega)
    obtain ⟨j, hj'⟩ := j
    obtain rfl : j = 256 + c.val := hj
    exact (Rows.gate_step1 H.x1Both H.dGateBoth _ k' c).trans (congrArg (· + _) (hS.gate1 k' c))
  · intro k c k' j hk hj
    obtain rfl : k' = k := Fin.ext (by omega)
    obtain ⟨j, hj'⟩ := j
    obtain rfl : j = c.val := hj.trans (Nat.zero_add _)
    exact (Rows.gate_step0 H.x1Both H.dGateBoth _ k' c).trans (congrArg (· + _) (hS.gate0 k' c))

theorem ple (L : List (View.Piece (Elt Ideal) S4x256x256 .f32)) :
    View.canon (R.pleStores ++ L) = fun y => (S.add W (Rows.both T T')).ple (y 1) ⟨256 * (y 0).val + (y 2).val, column y⟩ := by
  refine canon_eq _ R.pleStores L (cons3 ?_ (cons3 ?_ (cons3 ?_ (cons3 ?_ trivial))))
    (View.cover_of_tiledL R.pleStores ![1, 256, 256] (by sl_kernel_rfl))
  · intro a k c a' k' c' ha hk hc
    obtain rfl : k' = k := Fin.ext (by omega)
    obtain rfl : c' = c := Fin.ext (by omega)
    obtain rfl : a' = 3 := Fin.ext (by omega)
    obtain rfl : a = 0 := Subsingleton.elim _ _
    exact (Rows.ple_step3 H.pBoth H.dPleBoth _ k' c').trans ((congrArg (· + _) (hS.ple3 k' c')).trans
      (congrArg (fun j => (S.add W (Rows.both T T')).ple k' j) (Fin.ext (by rfl))))
  · intro a k c a' k' c' ha hk hc
    obtain rfl : k' = k := Fin.ext (by omega)
    obtain rfl : c' = c := Fin.ext (by omega)
    obtain rfl : a' = 2 := Fin.ext (by omega)
    obtain rfl : a = 0 := Subsingleton.elim _ _
    exact (Rows.ple_step2 H.pBoth H.dPleBoth _ k' c').trans ((congrArg (· + _) (hS.ple2 k' c')).trans
      (congrArg (fun j => (S.add W (Rows.both T T')).ple k' j) (Fin.ext (by rfl))))
  · intro a k c a' k' c' ha hk hc
    obtain rfl : k' = k := Fin.ext (by omega)
    obtain rfl : c' = c := Fin.ext (by omega)
    obtain rfl : a' = 1 := Fin.ext (by omega)
    obtain rfl : a = 0 := Subsingleton.elim _ _
    exact (Rows.ple_step1 _ k' c' H.pBoth H.dPleBoth).trans ((congrArg (· + _) (hS.ple1 k' c')).trans
      (congrArg (fun j => (S.add W (Rows.both T T')).ple k' j) (Fin.ext (by rfl))))
  · intro a k c a' k' c' ha hk hc
    obtain rfl : k' = k := Fin.ext (by omega)
    obtain rfl : c' = c := Fin.ext (by omega)
    obtain rfl : a' = 0 := Fin.ext (by omega)
    obtain rfl : a = 0 := Subsingleton.elim _ _
    exact (Rows.ple_step0 _ k' c' H.pBoth H.dPleBoth).trans ((congrArg (· + _) (hS.ple0 k' c')).trans
      (congrArg (fun j => (S.add W (Rows.both T T')).ple k' j) (Fin.ext (by simp))))

end Reads.Holds

end Cert.KernelIdeal.Tail

end
-- ==== Proof.Tail.Memory.lean ====
/-
The kernel's blocks and weights, as entries of the argument arrays.
-/
module

public import proofs.«01_k».proof.Proof.Tail.Loads
public import proofs.«01_k».proof.Proof.Tail.Holds
public import Idealize.ShloMosaic.Lib.Pipeline.ValueKit

@[expose] public section
set_option maxRecDepth 16384

noncomputable section

namespace Cert.KernelIdeal.Tail

open Cert.Tail Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD) (t : Fin cfg0.N)

/-- The argument arrays in the launch memory. -/
def inputs : Inputs where
  y := m (c, main_arg0)
  x := m (c, main_arg1)
  p := m (c, main_arg2)
  target := m (c, main_arg3)
  wOut := m (c, main_arg4)
  wGate := m (c, main_arg5)
  wPle := m (c, main_arg6)
  lnG := m (c, main_arg7)
  lnB := m (c, main_arg8)
  gateB := m (c, main_arg9)

theorem index : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] := by decide +kernel

theorem row_lt (r : Fin 512) : 512 * t.val + r.val < 8192 := by
  have : t.val < 16 := lt_of_lt_of_eq t.isLt (show cfg0.N = 16 from N_0)
  omega

def row (r : Fin 512) : Fin 8192 := ⟨512 * t.val + r.val, row_lt t r⟩

theorem block_y (r : Fin 512) (k : Fin 2048) : iblk m c 0 t (ix2 r k) = ((inputs m c).token (row t r)).y k := by
  unfold iblk; blk_simp; entry_read; pointwise
  show m (c, main_arg0) _ = m (c, main_arg0) (ix3 0 (row t r) k)
  blk_ext [row, (index t).1]

theorem block_x (r : Fin 512) (k : Fin 1024) : iblk m c 1 t (ix2 r k) = ((inputs m c).token (row t r)).x k := by
  unfold iblk; blk_simp; entry_read; pointwise
  show m (c, main_arg1) _ = m (c, main_arg1) (ix3 0 (row t r) k)
  blk_ext [row, (index t).2.1]

theorem block_p (r : Fin 512) (k : Fin 256) : iblk m c 2 t (ix2 r k) = ((inputs m c).token (row t r)).p k := by
  unfold iblk; blk_simp; entry_read; pointwise
  show m (c, main_arg2) _ = m (c, main_arg2) (ix4 0 0 (row t r) k)
  blk_ext [row, (index t).2.2.1]

theorem block_target (r : Fin 512) (k : Fin 1024) : iblk m c 3 t (ix2 r k) = ((inputs m c).token (row t r)).target k := by
  unfold iblk; blk_simp; entry_read; pointwise
  show m (c, main_arg3) _ = m (c, main_arg3) (ix3 0 (row t r) k)
  blk_ext [row, (index t).2.2.2.1]

theorem block_g (j : Fin 1024) : iblk m c 4 t (ix2 0 j) = (inputs m c).weights.lnG j := by
  unfold iblk; blk_simp; entry_read
  show m (c, main_arg7) _ = m (c, main_arg7) (ix2 0 j)
  blk_ext [(index t).2.2.2.2.1]

theorem block_b (j : Fin 1024) : iblk m c 5 t (ix2 0 j) = (inputs m c).weights.lnB j := by
  unfold iblk; blk_simp; entry_read
  show m (c, main_arg8) _ = m (c, main_arg8) (ix2 0 j)
  blk_ext [(index t).2.2.2.2.2.1]

theorem block_c (j : Fin 1024) : iblk m c 6 t (ix2 0 j) = (inputs m c).weights.gateB j := by
  unfold iblk; blk_simp; entry_read
  show m (c, main_arg9) _ = m (c, main_arg9) (ix2 0 j)
  blk_ext [(index t).2.2.2.2.2.2]

theorem weights_out (k : Fin 2048) (j : Fin 1024) : V m c main_v10 (ix2 k j) = (inputs m c).weights.out k j := by
  entry_read; pointwise; rfl

theorem weights_gate (k j : Fin 1024) : V m c main_v12 (ix2 k j) = (inputs m c).weights.gate k j := by
  entry_read; pointwise; rfl

theorem weights_ple (q : Fin 4) (k j : Fin 256) (j' : Fin 1024) (h : j'.val = 256 * q.val + j.val) :
    V m c main_v3 (ix3 q k j) = (inputs m c).weights.ple k j' := by
  entry_read; pointwise
  exact congrArg (fun j => m (c, main_arg6) (ix3 0 k j)) (Fin.ext (by simp only [h]; omega))

end Cert.KernelIdeal.Tail

end
-- ==== Proof.Tail.Points.lean ====
/-
What each grid point leaves, at the ideal: the weights in scratch, the running sums over the tokens met so far, and the
point's blocks of the two token arrays.
-/
module

public import proofs.«01_k».proof.Proof.Tail.Memory
public import Idealize.ShloMosaic.Lib.WholeRead

@[expose] public section

set_option maxRecDepth 16384
set_option maxHeartbeats 2000000

noncomputable section

namespace Cert.Blocks

open Idealize.ShloMosaic Idealize.ShloMosaic.Tactic

variable {sig : RefSig} {Val : EltTy → Type} {κ : Kind} {sp : Space} {e : EltTy} {n0 n1 n2 m0 m1 m2 o0 o1 o2 : ℕ}

/-- A load of a block of a whole buffer. -/
theorem load2 {mr : Memref sig κ sp ⟨2, ![n0, n1]⟩ e} (h : mr.IsWhole) (X : (⟨2, ![n0, n1]⟩ : Shape).Idx → Val e)
    (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (h0 : a'.val = o0 + a.val) (h1 : b'.val = o1 + b.val) :
    View.readAt Val mr.view (Rect.unit (s := ⟨2, ![n0, n1]⟩) ![o0, o1] ![m0, m1] inb).toLoadRect (h.unread X) (ix2 a b) = X (ix2 a' b') :=
  (h.readAt_unread X _ _).trans (congrArg X (emb2 inb a b a' b' h0 h1))

theorem load3 {mr : Memref sig κ sp ⟨3, ![n0, n1, n2]⟩ e} (h : mr.IsWhole) (X : (⟨3, ![n0, n1, n2]⟩ : Shape).Idx → Val e)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2)
    (h0 : a'.val = o0 + a.val) (h1 : b'.val = o1 + b.val) (h2 : c'.val = o2 + c.val) :
    View.readAt Val mr.view (Rect.unit (s := ⟨3, ![n0, n1, n2]⟩) ![o0, o1, o2] ![m0, m1, m2] inb).toLoadRect (h.unread X) (ix3 a b c)
      = X (ix3 a' b' c') :=
  (h.readAt_unread X _ _).trans (congrArg X (emb3 inb a b c a' b' c' h0 h1 h2))

theorem canon_whole [∀ e, Nonempty (Val e)] {s : Shape} (w : s.Idx → Val e) : View.canon [(⟨Rect.whole s, w⟩ : View.Piece Val s e)] = w :=
  funext fun y => (congrArg (View.canon _) (Rect.emb_whole_apply s y).symm).trans (View.canon_cons_emb (Rect.whole s) w [] y)

/-- A load of a block of a buffer written whole. -/
theorem cov2 [∀ e, Nonempty (Val e)] (v : View sig κ sp ⟨2, ![n0, n1]⟩ e) (w : (⟨2, ![n0, n1]⟩ : Shape).Idx → Val e)
    (inb : ∀ a, (![o0, o1] : Fin 2 → ℕ) a + (![m0, m1] : Fin 2 → ℕ) a ≤ (⟨2, ![n0, n1]⟩ : Shape).size a)
    (a : Fin m0) (b : Fin m1) (a' : Fin n0) (b' : Fin n1) (h0 : a'.val = o0 + a.val) (h1 : b'.val = o1 + b.val) :
    v.readCov [⟨Rect.whole ⟨2, ![n0, n1]⟩, w⟩] (Rect.unit (s := ⟨2, ![n0, n1]⟩) ![o0, o1] ![m0, m1] inb).toLoadRect (ix2 a b) = w (ix2 a' b') :=
  (congrFun (View.readCov_eq_canon' v _ _) _).trans ((congrFun (canon_whole w) _).trans (congrArg w (emb2 inb a b a' b' h0 h1)))

theorem cov3 [∀ e, Nonempty (Val e)] (v : View sig κ sp ⟨3, ![n0, n1, n2]⟩ e) (w : (⟨3, ![n0, n1, n2]⟩ : Shape).Idx → Val e)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) (a' : Fin n0) (b' : Fin n1) (c' : Fin n2)
    (h0 : a'.val = o0 + a.val) (h1 : b'.val = o1 + b.val) (h2 : c'.val = o2 + c.val) :
    v.readCov [⟨Rect.whole ⟨3, ![n0, n1, n2]⟩, w⟩] (Rect.unit (s := ⟨3, ![n0, n1, n2]⟩) ![o0, o1, o2] ![m0, m1, m2] inb).toLoadRect (ix3 a b c)
      = w (ix3 a' b' c') :=
  (congrFun (View.readCov_eq_canon' v _ _) _).trans ((congrFun (canon_whole w) _).trans (congrArg w (emb3 inb a b c a' b' c' h0 h1 h2)))

/-- A load after a fill of the whole buffer. -/
theorem fill_at [∀ e, Nonempty (Val e)] {s : Shape} (v : View sig κ sp s e) {off : Fin s.rank → ℕ} (inb : ∀ a, off a + s.size a ≤ s.size a)
    (Z : s.Idx → Val e) (z : Val e) (hZ : ∀ x, Z x = z) (r : Rect s) (h : ∀ a, off a = 0) (x : r.shape.Idx) :
    v.readCov [⟨Rect.unit off s.size inb, Z⟩] r.toLoadRect x = z :=
  (congrFun (View.readCov_fill v inb Z [] r h) x).trans (hZ _)

/-- A load that meets none of the last stores reads what was there before them. -/
theorem cov_skip [∀ e, Nonempty (Val e)] {s : Shape} (v : View sig κ sp s e) (L' : List (View.Piece Val s e)) (B : LoadRect s) :
    ∀ L : List (View.Piece Val s e), L.all (fun p => LoadRect.disj p.1 B) = true → v.readCov (L ++ L') B = v.readCov L' B
  | [], _ => rfl
  | ⟨r, w⟩ :: L, h => by
    have h := (Bool.and_eq_true _ _).mp (by simpa only [List.all_cons] using h)
    exact (View.readCov_skip v r w (L ++ L') B h.1).trans (cov_skip v L' B L h.2)

end Cert.Blocks

namespace Cert.KernelIdeal.Tail

open Cert.Tail Cert.Blocks Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD) (t : Fin cfg0.N)

/-- The tokens of a point's block, -/
def tokens (i : Fin 512) : Token := (inputs m c).token (row t i)

/-- its first half's -/
def low (i : Fin 256) : Token := tokens m c t ⟨0 + i.val, by omega⟩

/-- and its second's. -/
def high (i : Fin 256) : Token := tokens m c t ⟨256 + i.val, by omega⟩

theorem both_tokens : Rows.both (low m c t) (high m c t) = tokens m c t := by
  funext i
  by_cases h : i.val < 256
  · exact (Rows.both_low (i := ⟨i.val, h⟩) (by simp)).trans (congrArg (tokens m c t) (Fin.ext (by simp)))
  · exact (Rows.both_high (i := ⟨i.val - 256, by omega⟩) (by simp only; omega)).trans (congrArg (tokens m c t) (Fin.ext (by simp only; omega)))

/-- Scratch and the running sums' buffers hold the weights and the sums `S`. -/
structure Left.Holds {c : Dev nD} (p : Left Ideal c) (W : Weights) (S : Sums) : Prop where
  wOut : ∀ k j, p.wOut (ix2 k j) = W.out k j
  wGate : ∀ k j, p.wGate (ix2 k j) = W.gate k j
  wPle : ∀ (q : Fin 4) k (j : Fin 256) (j' : Fin 1024), j'.val = 256 * q.val + j.val → p.wPle (ix3 q k j) = W.ple k j'
  sumOut : ∀ k j, p.sumOut (ix2 k j) = S.out k j
  sumGate : ∀ k j, p.sumGate (ix2 k j) = S.gate k j
  sumPle : ∀ (q : Fin 4) k (j : Fin 256) (j' : Fin 1024), j'.val = 256 * q.val + j.val → p.sumPle (ix3 q k j) = S.ple k j'
  lnG : ∀ j, p.lnG (ix2 0 j) = S.lnG j
  lnB : ∀ j, p.lnB (ix2 0 j) = S.lnB j
  gateB : ∀ j, p.gateB (ix2 0 j) = S.gateB j
  squares : ∀ j, p.squares (ix2 0 j) = S.squares j

/-- The loads over what the point before left hold the point's tokens and the weights, -/
theorem readsOver_holds {p : Left Ideal c} {S : Sums} (h : p.Holds (inputs m c).weights S) :
    (readsOver m c t p).Holds (inputs m c).weights (low m c t) (high m c t) where
  yLow := fun i k => (load2 (hs0_0 t) _ _ i k ⟨0 + i.val, by omega⟩ k rfl (Nat.zero_add _).symm).trans (block_y m c t _ k)
  yHigh := fun i k => (load2 (hs0_0 t) _ _ i k ⟨256 + i.val, by omega⟩ k rfl (Nat.zero_add _).symm).trans (block_y m c t _ k)
  xLow := fun i k => (load2 (hs0_1 t) _ _ i k ⟨0 + i.val, by omega⟩ k rfl (Nat.zero_add _).symm).trans (block_x m c t _ k)
  xHigh := fun i k => (load2 (hs0_1 t) _ _ i k ⟨256 + i.val, by omega⟩ k rfl (Nat.zero_add _).symm).trans (block_x m c t _ k)
  pLow := fun i k => (load2 (hs0_2 t) _ _ i k ⟨0 + i.val, by omega⟩ k rfl (Nat.zero_add _).symm).trans (block_p m c t _ k)
  pHigh := fun i k => (load2 (hs0_2 t) _ _ i k ⟨256 + i.val, by omega⟩ k rfl (Nat.zero_add _).symm).trans (block_p m c t _ k)
  tLow := fun i k => (load2 (hs0_3 t) _ _ i k ⟨0 + i.val, by omega⟩ k rfl (Nat.zero_add _).symm).trans (block_target m c t _ k)
  tHigh := fun i k => (load2 (hs0_3 t) _ _ i k ⟨256 + i.val, by omega⟩ k rfl (Nat.zero_add _).symm).trans (block_target m c t _ k)
  yAll := fun i k => (load2 (hs0_0 t) _ _ i k i k (Nat.zero_add _).symm (Nat.zero_add _).symm).trans ((block_y m c t i k).trans (congrArg (fun B => Token.y (B i) k) (both_tokens m c t).symm))
  g := fun j => (load2 (hs0_4 t) _ _ 0 j 0 j rfl (Nat.zero_add _).symm).trans (block_g m c t j)
  b := fun j => (load2 (hs0_5 t) _ _ 0 j 0 j rfl (Nat.zero_add _).symm).trans (block_b m c t j)
  c := fun j => (load2 (hs0_6 t) _ _ 0 j 0 j rfl (Nat.zero_add _).symm).trans (block_c m c t j)
  wOut := fun k j => (load2 (mr := scM0_0) (Memref.isWhole_whole _) _ _ k j k j (Nat.zero_add _).symm (Nat.zero_add _).symm).trans (h.wOut k j)
  wOut0 := fun k j => (load2 (mr := scM0_0) (Memref.isWhole_whole _) _ _ k j ⟨0 + k.val, Rows.lt_row (by decide) k⟩ j rfl (Nat.zero_add _).symm).trans (h.wOut _ j)
  wOut1 := fun k j => (load2 (mr := scM0_0) (Memref.isWhole_whole _) _ _ k j ⟨512 + k.val, Rows.lt_row (by decide) k⟩ j rfl (Nat.zero_add _).symm).trans (h.wOut _ j)
  wOut2 := fun k j => (load2 (mr := scM0_0) (Memref.isWhole_whole _) _ _ k j ⟨1024 + k.val, Rows.lt_row (by decide) k⟩ j rfl (Nat.zero_add _).symm).trans (h.wOut _ j)
  wOut3 := fun k j => (load2 (mr := scM0_0) (Memref.isWhole_whole _) _ _ k j ⟨1536 + k.val, Rows.lt_row (by decide) k⟩ j rfl (Nat.zero_add _).symm).trans (h.wOut _ j)
  wGate := fun k j => (load2 (mr := scM0_1) (Memref.isWhole_whole _) _ _ k j k j (Nat.zero_add _).symm (Nat.zero_add _).symm).trans (h.wGate k j)
  wPle0 := fun k j => (load3 (mr := scM0_2) (Memref.isWhole_whole _) _ _ 0 k j 0 k j rfl (Nat.zero_add _).symm (Nat.zero_add _).symm).trans (h.wPle 0 k j ⟨0 + j.val, Rows.lt00 j⟩ rfl)
  wPle1 := fun k j => (load3 (mr := scM0_2) (Memref.isWhole_whole _) _ _ 0 k j 1 k j rfl (Nat.zero_add _).symm (Nat.zero_add _).symm).trans (h.wPle 1 k j ⟨256 + j.val, Rows.lt256 j⟩ rfl)
  wPle2 := fun k j => (load3 (mr := scM0_2) (Memref.isWhole_whole _) _ _ 0 k j 2 k j rfl (Nat.zero_add _).symm (Nat.zero_add _).symm).trans (h.wPle 2 k j ⟨512 + j.val, Rows.lt512 j⟩ rfl)
  wPle3 := fun k j => (load3 (mr := scM0_2) (Memref.isWhole_whole _) _ _ 0 k j 3 k j rfl (Nat.zero_add _).symm (Nat.zero_add _).symm).trans (h.wPle 3 k j ⟨768 + j.val, Rows.lt768 j⟩ rfl)

/-- and the sums. -/
theorem readsOver_sums {p : Left Ideal c} {S : Sums} (h : p.Holds (inputs m c).weights S) : (readsOver m c t p).HoldsSums S where
  lnG := fun j => (load2 (hs0_9 t) _ _ 0 j 0 j rfl (Nat.zero_add _).symm).trans (h.lnG j)
  lnB := fun j => (load2 (hs0_10 t) _ _ 0 j 0 j rfl (Nat.zero_add _).symm).trans (h.lnB j)
  gateB := fun j => (load2 (hs0_11 t) _ _ 0 j 0 j rfl (Nat.zero_add _).symm).trans (h.gateB j)
  squares := fun j => (load2 (hs0_12 t) _ _ 0 j 0 j rfl (Nat.zero_add _).symm).trans (h.squares j)
  out0 := fun k c => (load2 (mr := scM0_3) (Memref.isWhole_whole _) _ _ k c k ⟨c.val, Rows.lt0 c⟩ (Nat.zero_add _).symm (Nat.zero_add _).symm).trans (h.sumOut _ _)
  out1 := fun k c => (load2 (mr := scM0_3) (Memref.isWhole_whole _) _ _ k c k ⟨256 + c.val, Rows.lt256 c⟩ (Nat.zero_add _).symm rfl).trans (h.sumOut _ _)
  out2 := fun k c => (load2 (mr := scM0_3) (Memref.isWhole_whole _) _ _ k c k ⟨512 + c.val, Rows.lt512 c⟩ (Nat.zero_add _).symm rfl).trans (h.sumOut _ _)
  out3 := fun k c => (load2 (mr := scM0_3) (Memref.isWhole_whole _) _ _ k c k ⟨768 + c.val, Rows.lt768 c⟩ (Nat.zero_add _).symm rfl).trans (h.sumOut _ _)
  gate0 := fun k c => (load2 (mr := scM0_4) (Memref.isWhole_whole _) _ _ k c k ⟨c.val, Rows.lt0 c⟩ (Nat.zero_add _).symm (Nat.zero_add _).symm).trans (h.sumGate _ _)
  gate1 := fun k c => (load2 (mr := scM0_4) (Memref.isWhole_whole _) _ _ k c k ⟨256 + c.val, Rows.lt256 c⟩ (Nat.zero_add _).symm rfl).trans (h.sumGate _ _)
  gate2 := fun k c => (load2 (mr := scM0_4) (Memref.isWhole_whole _) _ _ k c k ⟨512 + c.val, Rows.lt512 c⟩ (Nat.zero_add _).symm rfl).trans (h.sumGate _ _)
  gate3 := fun k c => (load2 (mr := scM0_4) (Memref.isWhole_whole _) _ _ k c k ⟨768 + c.val, Rows.lt768 c⟩ (Nat.zero_add _).symm rfl).trans (h.sumGate _ _)
  ple0 := fun k c => (load3 (mr := scM0_5) (Memref.isWhole_whole _) _ _ 0 k c 0 k c rfl (Nat.zero_add _).symm (Nat.zero_add _).symm).trans (h.sumPle 0 k c ⟨c.val, Rows.lt0 c⟩ (Nat.zero_add _).symm)
  ple1 := fun k c => (load3 (mr := scM0_5) (Memref.isWhole_whole _) _ _ 0 k c 1 k c rfl (Nat.zero_add _).symm (Nat.zero_add _).symm).trans (h.sumPle 1 k c ⟨256 + c.val, Rows.lt256 c⟩ rfl)
  ple2 := fun k c => (load3 (mr := scM0_5) (Memref.isWhole_whole _) _ _ 0 k c 2 k c rfl (Nat.zero_add _).symm (Nat.zero_add _).symm).trans (h.sumPle 2 k c ⟨512 + c.val, Rows.lt512 c⟩ rfl)
  ple3 := fun k c => (load3 (mr := scM0_5) (Memref.isWhole_whole _) _ _ 0 k c 3 k c rfl (Nat.zero_add _).symm (Nat.zero_add _).symm).trans (h.sumPle 3 k c ⟨768 + c.val, Rows.lt768 c⟩ rfl)

/-! The first point. -/

theorem zero1 (x) : k0_pay1 (F := Ideal) x = 0 := by unfold k0_pay1; pointwise
theorem zero2 (x) : k0_pay2 (F := Ideal) x = 0 := by unfold k0_pay2; pointwise
theorem zero3 (x) : k0_pay3 (F := Ideal) x = 0 := by unfold k0_pay3; pointwise
theorem zero4 (x) : k0_pay4 (F := Ideal) x = 0 := by unfold k0_pay4; pointwise
theorem zero5 (x) : k0_pay5 (F := Ideal) x = 0 := by unfold k0_pay5; pointwise
theorem zero6 (x) : k0_pay6 (F := Ideal) x = 0 := by unfold k0_pay6; pointwise
theorem zero7 (x) : k0_pay7 (F := Ideal) x = 0 := by unfold k0_pay7; pointwise

theorem fetchOut_eq : fetchOut m c = [⟨Rect.whole S2048x1024, V m c main_v10⟩] := rfl

theorem fetchGate_eq : fetchGate m c = [⟨Rect.whole S1024x1024, V m c main_v12⟩] := rfl

theorem fetchPle_eq : fetchPle m c = [⟨Rect.whole S4x256x256, V m c main_v3⟩] := rfl

theorem wOut_start : (readsFirst m c t).wOut = View.readCov scM0_0.view [⟨Rect.whole S2048x1024, V m c main_v10⟩] (Rect.unit (s := S2048x1024) ![0, 0] S2048x1024.size inb_S2048x1024_S2048x1024_0_0).toLoadRect := by sl_kernel_rfl

theorem wOut0_start : (readsFirst m c t).wOut0 = View.readCov scM0_0.view [⟨Rect.whole S2048x1024, V m c main_v10⟩] (Rect.unit (s := S2048x1024) ![0, 0] S512x1024.size inb_S2048x1024_S512x1024_0_0).toLoadRect := by sl_kernel_rfl

theorem wOut1_start : (readsFirst m c t).wOut1 = View.readCov scM0_0.view [⟨Rect.whole S2048x1024, V m c main_v10⟩] (Rect.unit (s := S2048x1024) ![512, 0] S512x1024.size inb_S2048x1024_S512x1024_512_0).toLoadRect := by sl_kernel_rfl

theorem wOut2_start : (readsFirst m c t).wOut2 = View.readCov scM0_0.view [⟨Rect.whole S2048x1024, V m c main_v10⟩] (Rect.unit (s := S2048x1024) ![1024, 0] S512x1024.size inb_S2048x1024_S512x1024_1024_0).toLoadRect := by sl_kernel_rfl

theorem wOut3_start : (readsFirst m c t).wOut3 = View.readCov scM0_0.view [⟨Rect.whole S2048x1024, V m c main_v10⟩] (Rect.unit (s := S2048x1024) ![1536, 0] S512x1024.size inb_S2048x1024_S512x1024_1536_0).toLoadRect := by sl_kernel_rfl

theorem wGate_start : (readsFirst m c t).wGate = View.readCov scM0_1.view [⟨Rect.whole S1024x1024, V m c main_v12⟩] (Rect.unit (s := S1024x1024) ![0, 0] S1024x1024.size inb_S1024x1024_S1024x1024_0_0).toLoadRect := by sl_kernel_rfl

theorem wPle0_start : (readsFirst m c t).wPle0 = View.readCov scM0_2.view [⟨Rect.whole S4x256x256, V m c main_v3⟩] (Rect.unit (s := S4x256x256) ![0, 0, 0] S1x256x256.size inb_S4x256x256_S1x256x256_0_0_0).toLoadRect := by sl_kernel_rfl

theorem wPle1_start : (readsFirst m c t).wPle1 = View.readCov scM0_2.view [⟨Rect.whole S4x256x256, V m c main_v3⟩] (Rect.unit (s := S4x256x256) ![1, 0, 0] S1x256x256.size inb_S4x256x256_S1x256x256_1_0_0).toLoadRect := by sl_kernel_rfl

theorem wPle2_start : (readsFirst m c t).wPle2 = View.readCov scM0_2.view [⟨Rect.whole S4x256x256, V m c main_v3⟩] (Rect.unit (s := S4x256x256) ![2, 0, 0] S1x256x256.size inb_S4x256x256_S1x256x256_2_0_0).toLoadRect := by sl_kernel_rfl

theorem wPle3_start : (readsFirst m c t).wPle3 = View.readCov scM0_2.view [⟨Rect.whole S4x256x256, V m c main_v3⟩] (Rect.unit (s := S4x256x256) ![3, 0, 0] S1x256x256.size inb_S4x256x256_S1x256x256_3_0_0).toLoadRect := by sl_kernel_rfl

theorem lnG_start : (readsFirst m c t).lnG = View.readCov (ms0_9 t).view [zeroRow k0_pay4] (Rect.unit (s := S1x1024) ![0, 0] S1x1024.size inb_S1x1024_S1x1024_0_0).toLoadRect := by sl_kernel_rfl

theorem lnB_start : (readsFirst m c t).lnB = View.readCov (ms0_10 t).view [zeroRow k0_pay5] (Rect.unit (s := S1x1024) ![0, 0] S1x1024.size inb_S1x1024_S1x1024_0_0).toLoadRect := by sl_kernel_rfl

theorem gateB_start : (readsFirst m c t).gateB = View.readCov (ms0_11 t).view [zeroRow k0_pay6] (Rect.unit (s := S1x1024) ![0, 0] S1x1024.size inb_S1x1024_S1x1024_0_0).toLoadRect := by sl_kernel_rfl

theorem squares_start : (readsFirst m c t).squares = View.readCov (ms0_12 t).view [zeroRow k0_pay7] (Rect.unit (s := S1x1024) ![0, 0] S1x1024.size inb_S1x1024_S1x1024_0_0).toLoadRect := by sl_kernel_rfl

theorem out0_start : (readsFirst m c t).out0 = View.readCov scM0_3.view [zeroOut] (Rect.unit (s := S2048x1024) ![0, 0] S2048x256.size inb_S2048x1024_S2048x256_0_0).toLoadRect := by sl_kernel_rfl

theorem out1_start : (readsFirst m c t).out1 = View.readCov scM0_3.view ((readsStart m c t).outStores.drop 3 ++ [zeroOut]) (Rect.unit (s := S2048x1024) ![0, 256] S2048x256.size inb_S2048x1024_S2048x256_0_256).toLoadRect := by sl_kernel_rfl

theorem out2_start : (readsFirst m c t).out2 = View.readCov scM0_3.view ((readsStart1 m c t).outStores.drop 2 ++ [zeroOut]) (Rect.unit (s := S2048x1024) ![0, 512] S2048x256.size inb_S2048x1024_S2048x256_0_512).toLoadRect := by sl_kernel_rfl

theorem out3_start : (readsFirst m c t).out3 = View.readCov scM0_3.view ((readsStart2 m c t).outStores.drop 1 ++ [zeroOut]) (Rect.unit (s := S2048x1024) ![0, 768] S2048x256.size inb_S2048x1024_S2048x256_0_768).toLoadRect := by sl_kernel_rfl

theorem gate0_start : (readsFirst m c t).gate0 = View.readCov scM0_4.view [zeroGate] (Rect.unit (s := S1024x1024) ![0, 0] S1024x256.size inb_S1024x1024_S1024x256_0_0).toLoadRect := by sl_kernel_rfl

theorem gate1_start : (readsFirst m c t).gate1 = View.readCov scM0_4.view ((readsStart m c t).gateStores.drop 3 ++ [zeroGate]) (Rect.unit (s := S1024x1024) ![0, 256] S1024x256.size inb_S1024x1024_S1024x256_0_256).toLoadRect := by sl_kernel_rfl

theorem gate2_start : (readsFirst m c t).gate2 = View.readCov scM0_4.view ((readsStart1 m c t).gateStores.drop 2 ++ [zeroGate]) (Rect.unit (s := S1024x1024) ![0, 512] S1024x256.size inb_S1024x1024_S1024x256_0_512).toLoadRect := by sl_kernel_rfl

theorem gate3_start : (readsFirst m c t).gate3 = View.readCov scM0_4.view ((readsStart2 m c t).gateStores.drop 1 ++ [zeroGate]) (Rect.unit (s := S1024x1024) ![0, 768] S1024x256.size inb_S1024x1024_S1024x256_0_768).toLoadRect := by sl_kernel_rfl

theorem ple0_start : (readsFirst m c t).ple0 = View.readCov scM0_5.view [zeroPle] (Rect.unit (s := S4x256x256) ![0, 0, 0] S1x256x256.size inb_S4x256x256_S1x256x256_0_0_0).toLoadRect := by sl_kernel_rfl

theorem ple1_start : (readsFirst m c t).ple1 = View.readCov scM0_5.view ((readsStart m c t).pleStores.drop 3 ++ [zeroPle]) (Rect.unit (s := S4x256x256) ![1, 0, 0] S1x256x256.size inb_S4x256x256_S1x256x256_1_0_0).toLoadRect := by sl_kernel_rfl

theorem ple2_start : (readsFirst m c t).ple2 = View.readCov scM0_5.view ((readsStart1 m c t).pleStores.drop 2 ++ [zeroPle]) (Rect.unit (s := S4x256x256) ![2, 0, 0] S1x256x256.size inb_S4x256x256_S1x256x256_2_0_0).toLoadRect := by sl_kernel_rfl

theorem ple3_start : (readsFirst m c t).ple3 = View.readCov scM0_5.view ((readsStart2 m c t).pleStores.drop 1 ++ [zeroPle]) (Rect.unit (s := S4x256x256) ![3, 0, 0] S1x256x256.size inb_S4x256x256_S1x256x256_3_0_0).toLoadRect := by sl_kernel_rfl

theorem readsFirst_holds : (readsFirst m c t).Holds (inputs m c).weights (low m c t) (high m c t) where
  yLow := fun i k => (load2 (hs0_0 t) _ _ i k ⟨0 + i.val, by omega⟩ k rfl (Nat.zero_add _).symm).trans (block_y m c t _ k)
  yHigh := fun i k => (load2 (hs0_0 t) _ _ i k ⟨256 + i.val, by omega⟩ k rfl (Nat.zero_add _).symm).trans (block_y m c t _ k)
  xLow := fun i k => (load2 (hs0_1 t) _ _ i k ⟨0 + i.val, by omega⟩ k rfl (Nat.zero_add _).symm).trans (block_x m c t _ k)
  xHigh := fun i k => (load2 (hs0_1 t) _ _ i k ⟨256 + i.val, by omega⟩ k rfl (Nat.zero_add _).symm).trans (block_x m c t _ k)
  pLow := fun i k => (load2 (hs0_2 t) _ _ i k ⟨0 + i.val, by omega⟩ k rfl (Nat.zero_add _).symm).trans (block_p m c t _ k)
  pHigh := fun i k => (load2 (hs0_2 t) _ _ i k ⟨256 + i.val, by omega⟩ k rfl (Nat.zero_add _).symm).trans (block_p m c t _ k)
  tLow := fun i k => (load2 (hs0_3 t) _ _ i k ⟨0 + i.val, by omega⟩ k rfl (Nat.zero_add _).symm).trans (block_target m c t _ k)
  tHigh := fun i k => (load2 (hs0_3 t) _ _ i k ⟨256 + i.val, by omega⟩ k rfl (Nat.zero_add _).symm).trans (block_target m c t _ k)
  yAll := fun i k => (load2 (hs0_0 t) _ _ i k i k (Nat.zero_add _).symm (Nat.zero_add _).symm).trans ((block_y m c t i k).trans (congrArg (fun B => Token.y (B i) k) (both_tokens m c t).symm))
  g := fun j => (load2 (hs0_4 t) _ _ 0 j 0 j rfl (Nat.zero_add _).symm).trans (block_g m c t j)
  b := fun j => (load2 (hs0_5 t) _ _ 0 j 0 j rfl (Nat.zero_add _).symm).trans (block_b m c t j)
  c := fun j => (load2 (hs0_6 t) _ _ 0 j 0 j rfl (Nat.zero_add _).symm).trans (block_c m c t j)
  wOut := fun k j => (congrFun (wOut_start m c t) _).trans ((cov2 scM0_0.view _ _ k j k j (Nat.zero_add _).symm (Nat.zero_add _).symm).trans (weights_out m c k j))
  wOut0 := fun k j => (congrFun (wOut0_start m c t) _).trans ((cov2 scM0_0.view _ _ k j ⟨0 + k.val, Rows.lt_row (by decide) k⟩ j rfl (Nat.zero_add _).symm).trans (weights_out m c _ j))
  wOut1 := fun k j => (congrFun (wOut1_start m c t) _).trans ((cov2 scM0_0.view _ _ k j ⟨512 + k.val, Rows.lt_row (by decide) k⟩ j rfl (Nat.zero_add _).symm).trans (weights_out m c _ j))
  wOut2 := fun k j => (congrFun (wOut2_start m c t) _).trans ((cov2 scM0_0.view _ _ k j ⟨1024 + k.val, Rows.lt_row (by decide) k⟩ j rfl (Nat.zero_add _).symm).trans (weights_out m c _ j))
  wOut3 := fun k j => (congrFun (wOut3_start m c t) _).trans ((cov2 scM0_0.view _ _ k j ⟨1536 + k.val, Rows.lt_row (by decide) k⟩ j rfl (Nat.zero_add _).symm).trans (weights_out m c _ j))
  wGate := fun k j => (congrFun (wGate_start m c t) _).trans ((cov2 scM0_1.view _ _ k j k j (Nat.zero_add _).symm (Nat.zero_add _).symm).trans (weights_gate m c k j))
  wPle0 := fun k j => (congrFun (wPle0_start m c t) _).trans ((cov3 scM0_2.view _ _ 0 k j 0 k j rfl (Nat.zero_add _).symm (Nat.zero_add _).symm).trans (weights_ple m c 0 k j ⟨0 + j.val, Rows.lt00 j⟩ rfl))
  wPle1 := fun k j => (congrFun (wPle1_start m c t) _).trans ((cov3 scM0_2.view _ _ 0 k j 1 k j rfl (Nat.zero_add _).symm (Nat.zero_add _).symm).trans (weights_ple m c 1 k j ⟨256 + j.val, Rows.lt256 j⟩ rfl))
  wPle2 := fun k j => (congrFun (wPle2_start m c t) _).trans ((cov3 scM0_2.view _ _ 0 k j 2 k j rfl (Nat.zero_add _).symm (Nat.zero_add _).symm).trans (weights_ple m c 2 k j ⟨512 + j.val, Rows.lt512 j⟩ rfl))
  wPle3 := fun k j => (congrFun (wPle3_start m c t) _).trans ((cov3 scM0_2.view _ _ 0 k j 3 k j rfl (Nat.zero_add _).symm (Nat.zero_add _).symm).trans (weights_ple m c 3 k j ⟨768 + j.val, Rows.lt768 j⟩ rfl))
end Cert.KernelIdeal.Tail

end
-- ==== Proof.Tail.Left.lean ====
/-
What each grid point leaves, at the ideal: the weights in scratch, the running sums with the point's tokens added, and the
point's blocks of the two token arrays.
-/
module

public import proofs.«01_k».proof.Proof.Tail.Points

@[expose] public section

set_option maxRecDepth 16384
set_option maxHeartbeats 400000

noncomputable section

namespace Cert.KernelIdeal.Tail

open Cert.Tail Cert.Blocks Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD) (t : Fin cfg0.N)

theorem lnG_zero (x) : (readsFirst m c t).lnG x = 0 :=
  (congrFun (lnG_start m c t) x).trans (fill_at (Val := Elt Ideal) (s := S1x1024) (e := .f32) (ms0_9 t).view inb_S1x1024_S1x1024_0_0 (k0_pay4 (F := Ideal)) 0 zero4 (Rect.unit (s := S1x1024) ![0, 0] S1x1024.size inb_S1x1024_S1x1024_0_0) (by decide) x)

theorem lnB_zero (x) : (readsFirst m c t).lnB x = 0 :=
  (congrFun (lnB_start m c t) x).trans (fill_at (Val := Elt Ideal) (s := S1x1024) (e := .f32) (ms0_10 t).view inb_S1x1024_S1x1024_0_0 (k0_pay5 (F := Ideal)) 0 zero5 (Rect.unit (s := S1x1024) ![0, 0] S1x1024.size inb_S1x1024_S1x1024_0_0) (by decide) x)

theorem gateB_zero (x) : (readsFirst m c t).gateB x = 0 :=
  (congrFun (gateB_start m c t) x).trans (fill_at (Val := Elt Ideal) (s := S1x1024) (e := .f32) (ms0_11 t).view inb_S1x1024_S1x1024_0_0 (k0_pay6 (F := Ideal)) 0 zero6 (Rect.unit (s := S1x1024) ![0, 0] S1x1024.size inb_S1x1024_S1x1024_0_0) (by decide) x)

theorem squares_zero (x) : (readsFirst m c t).squares x = 0 :=
  (congrFun (squares_start m c t) x).trans (fill_at (Val := Elt Ideal) (s := S1x1024) (e := .f32) (ms0_12 t).view inb_S1x1024_S1x1024_0_0 (k0_pay7 (F := Ideal)) 0 zero7 (Rect.unit (s := S1x1024) ![0, 0] S1x1024.size inb_S1x1024_S1x1024_0_0) (by decide) x)

theorem out0_zero (x) : (readsFirst m c t).out0 x = 0 :=
  (congrFun (out0_start m c t) x).trans (fill_at (Val := Elt Ideal) (s := S2048x1024) (e := .f32) scM0_3.view inb_S2048x1024_S2048x1024_0_0 (k0_pay1 (F := Ideal)) 0 zero1 (Rect.unit (s := S2048x1024) ![0, 0] S2048x256.size inb_S2048x1024_S2048x256_0_0) (by decide) x)

theorem out1_zero (x) : (readsFirst m c t).out1 x = 0 :=
  (congrFun (out1_start m c t) x).trans ((congrFun (cov_skip scM0_3.view [zeroOut] (Rect.unit (s := S2048x1024) ![0, 256] S2048x256.size inb_S2048x1024_S2048x256_0_256).toLoadRect ((readsStart m c t).outStores.drop 3) (by sl_kernel_rfl)) x).trans (fill_at (Val := Elt Ideal) (s := S2048x1024) (e := .f32) scM0_3.view inb_S2048x1024_S2048x1024_0_0 (k0_pay1 (F := Ideal)) 0 zero1 (Rect.unit (s := S2048x1024) ![0, 256] S2048x256.size inb_S2048x1024_S2048x256_0_256) (by decide) x))

theorem out2_zero (x) : (readsFirst m c t).out2 x = 0 :=
  (congrFun (out2_start m c t) x).trans ((congrFun (cov_skip scM0_3.view [zeroOut] (Rect.unit (s := S2048x1024) ![0, 512] S2048x256.size inb_S2048x1024_S2048x256_0_512).toLoadRect ((readsStart1 m c t).outStores.drop 2) (by sl_kernel_rfl)) x).trans (fill_at (Val := Elt Ideal) (s := S2048x1024) (e := .f32) scM0_3.view inb_S2048x1024_S2048x1024_0_0 (k0_pay1 (F := Ideal)) 0 zero1 (Rect.unit (s := S2048x1024) ![0, 512] S2048x256.size inb_S2048x1024_S2048x256_0_512) (by decide) x))

theorem out3_zero (x) : (readsFirst m c t).out3 x = 0 :=
  (congrFun (out3_start m c t) x).trans ((congrFun (cov_skip scM0_3.view [zeroOut] (Rect.unit (s := S2048x1024) ![0, 768] S2048x256.size inb_S2048x1024_S2048x256_0_768).toLoadRect ((readsStart2 m c t).outStores.drop 1) (by sl_kernel_rfl)) x).trans (fill_at (Val := Elt Ideal) (s := S2048x1024) (e := .f32) scM0_3.view inb_S2048x1024_S2048x1024_0_0 (k0_pay1 (F := Ideal)) 0 zero1 (Rect.unit (s := S2048x1024) ![0, 768] S2048x256.size inb_S2048x1024_S2048x256_0_768) (by decide) x))

theorem gate0_zero (x) : (readsFirst m c t).gate0 x = 0 :=
  (congrFun (gate0_start m c t) x).trans (fill_at (Val := Elt Ideal) (s := S1024x1024) (e := .f32) scM0_4.view inb_S1024x1024_S1024x1024_0_0 (k0_pay2 (F := Ideal)) 0 zero2 (Rect.unit (s := S1024x1024) ![0, 0] S1024x256.size inb_S1024x1024_S1024x256_0_0) (by decide) x)

theorem gate1_zero (x) : (readsFirst m c t).gate1 x = 0 :=
  (congrFun (gate1_start m c t) x).trans ((congrFun (cov_skip scM0_4.view [zeroGate] (Rect.unit (s := S1024x1024) ![0, 256] S1024x256.size inb_S1024x1024_S1024x256_0_256).toLoadRect ((readsStart m c t).gateStores.drop 3) (by sl_kernel_rfl)) x).trans (fill_at (Val := Elt Ideal) (s := S1024x1024) (e := .f32) scM0_4.view inb_S1024x1024_S1024x1024_0_0 (k0_pay2 (F := Ideal)) 0 zero2 (Rect.unit (s := S1024x1024) ![0, 256] S1024x256.size inb_S1024x1024_S1024x256_0_256) (by decide) x))

theorem gate2_zero (x) : (readsFirst m c t).gate2 x = 0 :=
  (congrFun (gate2_start m c t) x).trans ((congrFun (cov_skip scM0_4.view [zeroGate] (Rect.unit (s := S1024x1024) ![0, 512] S1024x256.size inb_S1024x1024_S1024x256_0_512).toLoadRect ((readsStart1 m c t).gateStores.drop 2) (by sl_kernel_rfl)) x).trans (fill_at (Val := Elt Ideal) (s := S1024x1024) (e := .f32) scM0_4.view inb_S1024x1024_S1024x1024_0_0 (k0_pay2 (F := Ideal)) 0 zero2 (Rect.unit (s := S1024x1024) ![0, 512] S1024x256.size inb_S1024x1024_S1024x256_0_512) (by decide) x))

theorem gate3_zero (x) : (readsFirst m c t).gate3 x = 0 :=
  (congrFun (gate3_start m c t) x).trans ((congrFun (cov_skip scM0_4.view [zeroGate] (Rect.unit (s := S1024x1024) ![0, 768] S1024x256.size inb_S1024x1024_S1024x256_0_768).toLoadRect ((readsStart2 m c t).gateStores.drop 1) (by sl_kernel_rfl)) x).trans (fill_at (Val := Elt Ideal) (s := S1024x1024) (e := .f32) scM0_4.view inb_S1024x1024_S1024x1024_0_0 (k0_pay2 (F := Ideal)) 0 zero2 (Rect.unit (s := S1024x1024) ![0, 768] S1024x256.size inb_S1024x1024_S1024x256_0_768) (by decide) x))

theorem ple0_zero (x) : (readsFirst m c t).ple0 x = 0 :=
  (congrFun (ple0_start m c t) x).trans (fill_at (Val := Elt Ideal) (s := S4x256x256) (e := .f32) scM0_5.view inb_S4x256x256_S4x256x256_0_0_0 (k0_pay3 (F := Ideal)) 0 zero3 (Rect.unit (s := S4x256x256) ![0, 0, 0] S1x256x256.size inb_S4x256x256_S1x256x256_0_0_0) (by decide) x)

theorem ple1_zero (x) : (readsFirst m c t).ple1 x = 0 :=
  (congrFun (ple1_start m c t) x).trans ((congrFun (cov_skip scM0_5.view [zeroPle] (Rect.unit (s := S4x256x256) ![1, 0, 0] S1x256x256.size inb_S4x256x256_S1x256x256_1_0_0).toLoadRect ((readsStart m c t).pleStores.drop 3) (by sl_kernel_rfl)) x).trans (fill_at (Val := Elt Ideal) (s := S4x256x256) (e := .f32) scM0_5.view inb_S4x256x256_S4x256x256_0_0_0 (k0_pay3 (F := Ideal)) 0 zero3 (Rect.unit (s := S4x256x256) ![1, 0, 0] S1x256x256.size inb_S4x256x256_S1x256x256_1_0_0) (by decide) x))

theorem ple2_zero (x) : (readsFirst m c t).ple2 x = 0 :=
  (congrFun (ple2_start m c t) x).trans ((congrFun (cov_skip scM0_5.view [zeroPle] (Rect.unit (s := S4x256x256) ![2, 0, 0] S1x256x256.size inb_S4x256x256_S1x256x256_2_0_0).toLoadRect ((readsStart1 m c t).pleStores.drop 2) (by sl_kernel_rfl)) x).trans (fill_at (Val := Elt Ideal) (s := S4x256x256) (e := .f32) scM0_5.view inb_S4x256x256_S4x256x256_0_0_0 (k0_pay3 (F := Ideal)) 0 zero3 (Rect.unit (s := S4x256x256) ![2, 0, 0] S1x256x256.size inb_S4x256x256_S1x256x256_2_0_0) (by decide) x))

theorem ple3_zero (x) : (readsFirst m c t).ple3 x = 0 :=
  (congrFun (ple3_start m c t) x).trans ((congrFun (cov_skip scM0_5.view [zeroPle] (Rect.unit (s := S4x256x256) ![3, 0, 0] S1x256x256.size inb_S4x256x256_S1x256x256_3_0_0).toLoadRect ((readsStart2 m c t).pleStores.drop 1) (by sl_kernel_rfl)) x).trans (fill_at (Val := Elt Ideal) (s := S4x256x256) (e := .f32) scM0_5.view inb_S4x256x256_S4x256x256_0_0_0 (k0_pay3 (F := Ideal)) 0 zero3 (Rect.unit (s := S4x256x256) ![3, 0, 0] S1x256x256.size inb_S4x256x256_S1x256x256_3_0_0) (by decide) x))

theorem readsFirst_sums : (readsFirst m c t).HoldsSums Sums.zero where
  lnG := fun j => lnG_zero m c t _
  lnB := fun j => lnB_zero m c t _
  gateB := fun j => gateB_zero m c t _
  squares := fun j => squares_zero m c t _
  out0 := fun _ _ => out0_zero m c t _
  out1 := fun _ _ => out1_zero m c t _
  out2 := fun _ _ => out2_zero m c t _
  out3 := fun _ _ => out3_zero m c t _
  gate0 := fun _ _ => gate0_zero m c t _
  gate1 := fun _ _ => gate1_zero m c t _
  gate2 := fun _ _ => gate2_zero m c t _
  gate3 := fun _ _ => gate3_zero m c t _
  ple0 := fun _ _ => ple0_zero m c t _
  ple1 := fun _ _ => ple1_zero m c t _
  ple2 := fun _ _ => ple2_zero m c t _
  ple3 := fun _ _ => ple3_zero m c t _

/-! What each kind of point leaves. -/

theorem ple_at {f : Vec Ideal S4x256x256 .f32} {g : Fin 256 → Fin 1024 → EReal}
    (e : f = fun y => g (y 1) ⟨256 * (y 0).val + (y 2).val, column y⟩)
    (q : Fin 4) (k j : Fin 256) (j' : Fin 1024) (hj : j'.val = 256 * q.val + j.val) : f (ix3 q k j) = g k j' := by
  obtain ⟨j', h⟩ := j'
  subst hj
  exact congrFun e (ix3 q k j)

theorem first_dx_eq (h : t.val = 0) : (leftFirst m c t h).dx = View.canon (readsFirst m c t).dxStores := by sl_kernel_rfl

theorem first_dy_eq (h : t.val = 0) : (leftFirst m c t h).dy = View.canon (readsFirst m c t).dyStores := by sl_kernel_rfl

theorem first_lnG_eq (h : t.val = 0) : (leftFirst m c t h).lnG = View.canon [(readsFirst m c t).lnGStore, zeroRow k0_pay4] := by sl_kernel_rfl

theorem first_lnB_eq (h : t.val = 0) : (leftFirst m c t h).lnB = View.canon [(readsFirst m c t).lnBStore, zeroRow k0_pay5] := by sl_kernel_rfl

theorem first_gateB_eq (h : t.val = 0) : (leftFirst m c t h).gateB = View.canon [(readsFirst m c t).gateBStore, zeroRow k0_pay6] := by sl_kernel_rfl

theorem first_squares_eq (h : t.val = 0) : (leftFirst m c t h).squares = View.canon [(readsFirst m c t).squaresStore, zeroRow k0_pay7] := by sl_kernel_rfl

theorem first_sumOut_eq (h : t.val = 0) : (leftFirst m c t h).sumOut = View.canon ((readsFirst m c t).outStores ++ [zeroOut]) := by sl_kernel_rfl

theorem first_sumGate_eq (h : t.val = 0) : (leftFirst m c t h).sumGate = View.canon ((readsFirst m c t).gateStores ++ [zeroGate]) := by sl_kernel_rfl

theorem first_sumPle_eq (h : t.val = 0) : (leftFirst m c t h).sumPle = View.canon ((readsFirst m c t).pleStores ++ [zeroPle]) := by sl_kernel_rfl

theorem middle_dx_eq (h : t.val ≠ 0) (hl : t.val ≠ 15) (p : Left Ideal c) : (leftMiddle m c t h hl p).dx = View.canon (readsOver m c t p).dxStores := by sl_kernel_rfl

theorem middle_dy_eq (h : t.val ≠ 0) (hl : t.val ≠ 15) (p : Left Ideal c) : (leftMiddle m c t h hl p).dy = View.canon (readsOver m c t p).dyStores := by sl_kernel_rfl

theorem middle_lnG_eq (h : t.val ≠ 0) (hl : t.val ≠ 15) (p : Left Ideal c) : (leftMiddle m c t h hl p).lnG = View.canon [(readsOver m c t p).lnGStore] := by sl_kernel_rfl

theorem middle_lnB_eq (h : t.val ≠ 0) (hl : t.val ≠ 15) (p : Left Ideal c) : (leftMiddle m c t h hl p).lnB = View.canon [(readsOver m c t p).lnBStore] := by sl_kernel_rfl

theorem middle_gateB_eq (h : t.val ≠ 0) (hl : t.val ≠ 15) (p : Left Ideal c) : (leftMiddle m c t h hl p).gateB = View.canon [(readsOver m c t p).gateBStore] := by sl_kernel_rfl

theorem middle_squares_eq (h : t.val ≠ 0) (hl : t.val ≠ 15) (p : Left Ideal c) : (leftMiddle m c t h hl p).squares = View.canon [(readsOver m c t p).squaresStore] := by sl_kernel_rfl

theorem middle_sumOut_eq (h : t.val ≠ 0) (hl : t.val ≠ 15) (p : Left Ideal c) : (leftMiddle m c t h hl p).sumOut = View.canon ((readsOver m c t p).outStores ++ []) := by sl_kernel_rfl

theorem middle_sumGate_eq (h : t.val ≠ 0) (hl : t.val ≠ 15) (p : Left Ideal c) : (leftMiddle m c t h hl p).sumGate = View.canon ((readsOver m c t p).gateStores ++ []) := by sl_kernel_rfl

theorem middle_sumPle_eq (h : t.val ≠ 0) (hl : t.val ≠ 15) (p : Left Ideal c) : (leftMiddle m c t h hl p).sumPle = View.canon ((readsOver m c t p).pleStores ++ []) := by sl_kernel_rfl

theorem last_dx_eq (h : t.val = 15) (p : Left Ideal c) : (leftLast m c t h p).dx = View.canon (readsOver m c t p).dxStores := by sl_kernel_rfl

theorem last_dy_eq (h : t.val = 15) (p : Left Ideal c) : (leftLast m c t h p).dy = View.canon (readsOver m c t p).dyStores := by sl_kernel_rfl

theorem last_lnG_eq (h : t.val = 15) (p : Left Ideal c) : (leftLast m c t h p).lnG = View.canon [(readsOver m c t p).lnGStore] := by sl_kernel_rfl

theorem last_lnB_eq (h : t.val = 15) (p : Left Ideal c) : (leftLast m c t h p).lnB = View.canon [(readsOver m c t p).lnBStore] := by sl_kernel_rfl

theorem last_gateB_eq (h : t.val = 15) (p : Left Ideal c) : (leftLast m c t h p).gateB = View.canon [(readsOver m c t p).gateBStore] := by sl_kernel_rfl

theorem last_squares_eq (h : t.val = 15) (p : Left Ideal c) : (leftLast m c t h p).squares = View.canon [(readsOver m c t p).squaresStore] := by sl_kernel_rfl

theorem last_sumOut_eq (h : t.val = 15) (p : Left Ideal c) : (leftLast m c t h p).sumOut = View.canon ((readsOver m c t p).outStores ++ []) := by sl_kernel_rfl

theorem last_sumGate_eq (h : t.val = 15) (p : Left Ideal c) : (leftLast m c t h p).sumGate = View.canon ((readsOver m c t p).gateStores ++ []) := by sl_kernel_rfl

theorem last_sumPle_eq (h : t.val = 15) (p : Left Ideal c) : (leftLast m c t h p).sumPle = View.canon ((readsOver m c t p).pleStores ++ []) := by sl_kernel_rfl

theorem first_wOut (h : t.val = 0) : (leftFirst m c t h).wOut = V m c main_v10 :=
  (show (leftFirst m c t h).wOut = View.canon [⟨Rect.whole S2048x1024, V m c main_v10⟩] by sl_kernel_rfl).trans
    (canon_whole (Val := Elt Ideal) (e := .bf16) (V m c main_v10))

theorem first_wGate (h : t.val = 0) : (leftFirst m c t h).wGate = V m c main_v12 :=
  (show (leftFirst m c t h).wGate = View.canon [⟨Rect.whole S1024x1024, V m c main_v12⟩] by sl_kernel_rfl).trans
    (canon_whole (Val := Elt Ideal) (e := .bf16) (V m c main_v12))

theorem first_wPle (h : t.val = 0) : (leftFirst m c t h).wPle = V m c main_v3 :=
  (show (leftFirst m c t h).wPle = View.canon [⟨Rect.whole S4x256x256, V m c main_v3⟩] by sl_kernel_rfl).trans
    (canon_whole (Val := Elt Ideal) (e := .bf16) (V m c main_v3))

theorem first_ple (h : t.val = 0) : (leftFirst m c t h).sumPle
    = fun y => (Sums.add Sums.zero (inputs m c).weights (Rows.both (low m c t) (high m c t))).ple (y 1) ⟨256 * (y 0).val + (y 2).val, column y⟩ :=
  (first_sumPle_eq m c t h).trans ((readsFirst_holds m c t).ple (readsFirst_sums m c t) [zeroPle])

theorem first_holds (h : t.val = 0) :
    (leftFirst m c t h).Holds (inputs m c).weights (Sums.zero.add (inputs m c).weights (tokens m c t)) := by
  rw [← both_tokens]
  exact
  { wOut := fun k j => (congrFun (first_wOut m c t h) (ix2 k j)).trans (weights_out m c k j)
    wGate := fun k j => (congrFun (first_wGate m c t h) (ix2 k j)).trans (weights_gate m c k j)
    wPle := fun q k j j' hj => (congrFun (first_wPle m c t h) (ix3 q k j)).trans (weights_ple m c q k j j' hj)
    lnG := fun j => congrFun ((first_lnG_eq m c t h).trans ((readsFirst_holds m c t).lnG (readsFirst_sums m c t) [zeroRow k0_pay4])) (ix2 0 j)
    lnB := fun j => congrFun ((first_lnB_eq m c t h).trans ((readsFirst_holds m c t).lnB (readsFirst_sums m c t) [zeroRow k0_pay5])) (ix2 0 j)
    gateB := fun j => congrFun ((first_gateB_eq m c t h).trans ((readsFirst_holds m c t).gateB (readsFirst_sums m c t) [zeroRow k0_pay6])) (ix2 0 j)
    squares := fun j => congrFun ((first_squares_eq m c t h).trans ((readsFirst_holds m c t).squares (readsFirst_sums m c t) [zeroRow k0_pay7])) (ix2 0 j)
    sumOut := fun k j => congrFun ((first_sumOut_eq m c t h).trans ((readsFirst_holds m c t).out (readsFirst_sums m c t) [zeroOut])) (ix2 k j)
    sumGate := fun k j => congrFun ((first_sumGate_eq m c t h).trans ((readsFirst_holds m c t).gate (readsFirst_sums m c t) [zeroGate])) (ix2 k j)
    sumPle := ple_at (first_ple m c t h)
  }

theorem first_holds_dx (h : t.val = 0) : (leftFirst m c t h).dx
    = fun y => Ideal.ofBits .f32 0x3F9837F0#32 * dPre (inputs m c).weights (tokens m c t (y 0)) (y 1) := by
  rw [← both_tokens]; exact (first_dx_eq m c t h).trans (readsFirst_holds m c t).dx

theorem first_holds_dy (h : t.val = 0) : (leftFirst m c t h).dy
    = fun y => ∑ j, dPre (inputs m c).weights (tokens m c t (y 0)) j * (inputs m c).weights.out (y 1) j := by
  rw [← both_tokens]; exact (first_dy_eq m c t h).trans (readsFirst_holds m c t).dy

theorem middle_ple (h : t.val ≠ 0) (hl : t.val ≠ 15) {p : Left Ideal c} {S : Sums} (H : p.Holds (inputs m c).weights S) : (leftMiddle m c t h hl p).sumPle
    = fun y => (Sums.add S (inputs m c).weights (Rows.both (low m c t) (high m c t))).ple (y 1) ⟨256 * (y 0).val + (y 2).val, column y⟩ :=
  (middle_sumPle_eq m c t h hl p).trans ((readsOver_holds m c t H).ple (readsOver_sums m c t H) [])

theorem middle_holds (h : t.val ≠ 0) (hl : t.val ≠ 15) {p : Left Ideal c} {S : Sums} (H : p.Holds (inputs m c).weights S) :
    (leftMiddle m c t h hl p).Holds (inputs m c).weights (S.add (inputs m c).weights (tokens m c t)) := by
  rw [← both_tokens]
  exact
  { wOut := H.wOut
    wGate := H.wGate
    wPle := H.wPle
    lnG := fun j => congrFun ((middle_lnG_eq m c t h hl p).trans ((readsOver_holds m c t H).lnG (readsOver_sums m c t H) [])) (ix2 0 j)
    lnB := fun j => congrFun ((middle_lnB_eq m c t h hl p).trans ((readsOver_holds m c t H).lnB (readsOver_sums m c t H) [])) (ix2 0 j)
    gateB := fun j => congrFun ((middle_gateB_eq m c t h hl p).trans ((readsOver_holds m c t H).gateB (readsOver_sums m c t H) [])) (ix2 0 j)
    squares := fun j => congrFun ((middle_squares_eq m c t h hl p).trans ((readsOver_holds m c t H).squares (readsOver_sums m c t H) [])) (ix2 0 j)
    sumOut := fun k j => congrFun ((middle_sumOut_eq m c t h hl p).trans ((readsOver_holds m c t H).out (readsOver_sums m c t H) [])) (ix2 k j)
    sumGate := fun k j => congrFun ((middle_sumGate_eq m c t h hl p).trans ((readsOver_holds m c t H).gate (readsOver_sums m c t H) [])) (ix2 k j)
    sumPle := ple_at (middle_ple m c t h hl H)
  }

theorem middle_holds_dx (h : t.val ≠ 0) (hl : t.val ≠ 15) {p : Left Ideal c} {S : Sums} (H : p.Holds (inputs m c).weights S) : (leftMiddle m c t h hl p).dx
    = fun y => Ideal.ofBits .f32 0x3F9837F0#32 * dPre (inputs m c).weights (tokens m c t (y 0)) (y 1) := by
  rw [← both_tokens]; exact (middle_dx_eq m c t h hl p).trans (readsOver_holds m c t H).dx

theorem middle_holds_dy (h : t.val ≠ 0) (hl : t.val ≠ 15) {p : Left Ideal c} {S : Sums} (H : p.Holds (inputs m c).weights S) : (leftMiddle m c t h hl p).dy
    = fun y => ∑ j, dPre (inputs m c).weights (tokens m c t (y 0)) j * (inputs m c).weights.out (y 1) j := by
  rw [← both_tokens]; exact (middle_dy_eq m c t h hl p).trans (readsOver_holds m c t H).dy

theorem last_ple (h : t.val = 15) {p : Left Ideal c} {S : Sums} (H : p.Holds (inputs m c).weights S) : (leftLast m c t h p).sumPle
    = fun y => (Sums.add S (inputs m c).weights (Rows.both (low m c t) (high m c t))).ple (y 1) ⟨256 * (y 0).val + (y 2).val, column y⟩ :=
  (last_sumPle_eq m c t h p).trans ((readsOver_holds m c t H).ple (readsOver_sums m c t H) [])

theorem last_holds (h : t.val = 15) {p : Left Ideal c} {S : Sums} (H : p.Holds (inputs m c).weights S) :
    (leftLast m c t h p).Holds (inputs m c).weights (S.add (inputs m c).weights (tokens m c t)) := by
  rw [← both_tokens]
  exact
  { wOut := H.wOut
    wGate := H.wGate
    wPle := H.wPle
    lnG := fun j => congrFun ((last_lnG_eq m c t h p).trans ((readsOver_holds m c t H).lnG (readsOver_sums m c t H) [])) (ix2 0 j)
    lnB := fun j => congrFun ((last_lnB_eq m c t h p).trans ((readsOver_holds m c t H).lnB (readsOver_sums m c t H) [])) (ix2 0 j)
    gateB := fun j => congrFun ((last_gateB_eq m c t h p).trans ((readsOver_holds m c t H).gateB (readsOver_sums m c t H) [])) (ix2 0 j)
    squares := fun j => congrFun ((last_squares_eq m c t h p).trans ((readsOver_holds m c t H).squares (readsOver_sums m c t H) [])) (ix2 0 j)
    sumOut := fun k j => congrFun ((last_sumOut_eq m c t h p).trans ((readsOver_holds m c t H).out (readsOver_sums m c t H) [])) (ix2 k j)
    sumGate := fun k j => congrFun ((last_sumGate_eq m c t h p).trans ((readsOver_holds m c t H).gate (readsOver_sums m c t H) [])) (ix2 k j)
    sumPle := ple_at (last_ple m c t h H)
  }

theorem last_holds_dx (h : t.val = 15) {p : Left Ideal c} {S : Sums} (H : p.Holds (inputs m c).weights S) : (leftLast m c t h p).dx
    = fun y => Ideal.ofBits .f32 0x3F9837F0#32 * dPre (inputs m c).weights (tokens m c t (y 0)) (y 1) := by
  rw [← both_tokens]; exact (last_dx_eq m c t h p).trans (readsOver_holds m c t H).dx

theorem last_holds_dy (h : t.val = 15) {p : Left Ideal c} {S : Sums} (H : p.Holds (inputs m c).weights S) : (leftLast m c t h p).dy
    = fun y => ∑ j, dPre (inputs m c).weights (tokens m c t (y 0)) j * (inputs m c).weights.out (y 1) j := by
  rw [← both_tokens]; exact (last_dy_eq m c t h p).trans (readsOver_holds m c t H).dy

end Cert.KernelIdeal.Tail

end
-- ==== Proof.Tail.Total.lean ====
/-
What the kernel has accumulated after the last grid point, and what every point stores of the two token arrays.
-/
module

public import proofs.«01_k».proof.Proof.Tail.Left

@[expose] public section

set_option maxRecDepth 16384

noncomputable section

namespace Cert.KernelIdeal.Tail

open Cert.Tail Cert.Blocks Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD) (t : Fin cfg0.N)

/-- The sums over the points up to `n`. -/
def through : (n : ℕ) → n < cfg0.N → Sums
  | 0, hn => Sums.zero.add (inputs m c).weights (tokens m c ⟨0, hn⟩)
  | n + 1, hn => (through n (Nat.lt_of_succ_lt hn)).add (inputs m c).weights (tokens m c ⟨n + 1, hn⟩)

theorem holds_at : ∀ (n : ℕ) (hn : n < cfg0.N), (leftAt m c n hn).Holds (inputs m c).weights (through m c n hn)
  | 0, hn => first_holds m c ⟨0, hn⟩ rfl
  | n + 1, hn => by
    have H := holds_at n (Nat.lt_of_succ_lt hn)
    by_cases h : n + 1 = 15
    · rw [leftAt_last m c ⟨n + 1, hn⟩ h]; exact last_holds m c ⟨n + 1, hn⟩ h H
    · rw [leftAt_middle m c ⟨n + 1, hn⟩ (Nat.succ_ne_zero n) h]; exact middle_holds m c ⟨n + 1, hn⟩ (Nat.succ_ne_zero n) h H

theorem dx_at : (leftAt m c t.val t.isLt).dx
    = fun y => Ideal.ofBits .f32 0x3F9837F0#32 * dPre (inputs m c).weights (tokens m c t (y 0)) (y 1) := by
  by_cases h : t.val = 0
  · rw [leftAt_first m c t h]; exact first_holds_dx m c t h
  · by_cases hl : t.val = 15
    · rw [leftAt_last m c t hl]; exact last_holds_dx m c t hl (holds_at m c _ _)
    · rw [leftAt_middle m c t h hl]; exact middle_holds_dx m c t h hl (holds_at m c _ _)

theorem dy_at : (leftAt m c t.val t.isLt).dy
    = fun y => ∑ j, dPre (inputs m c).weights (tokens m c t (y 0)) j * (inputs m c).weights.out (y 1) j := by
  by_cases h : t.val = 0
  · rw [leftAt_first m c t h]; exact first_holds_dy m c t h
  · by_cases hl : t.val = 15
    · rw [leftAt_last m c t hl]; exact last_holds_dy m c t hl (holds_at m c _ _)
    · rw [leftAt_middle m c t h hl]; exact middle_holds_dy m c t h hl (holds_at m c _ _)

/-! ## The sums after the last point are over every token -/

theorem lt_last : 15 < cfg0.N := lt_of_lt_of_eq (by decide : 15 < 16) (show cfg0.N = 16 from N_0).symm

theorem sum_through (g : Fin cfg0.N → EReal) (S : (n : ℕ) → n < cfg0.N → EReal) (h0 : ∀ h, S 0 h = 0 + g ⟨0, h⟩)
    (hs : ∀ n h, S (n + 1) h = S n (Nat.lt_of_succ_lt h) + g ⟨n + 1, h⟩) :
    ∀ n hn, S n hn = ∑ s : Fin (n + 1), g ⟨s.val, lt_of_le_of_lt (Nat.le_of_lt_succ s.isLt) hn⟩
  | 0, hn => by rw [h0, zero_add]; exact (Fin.sum_univ_one (fun s : Fin 1 => g ⟨s.val, lt_of_le_of_lt (Nat.le_of_lt_succ s.isLt) hn⟩)).symm
  | n + 1, hn => by rw [hs, sum_through g S h0 hs n, Fin.sum_univ_castSucc (n := n + 1)]; rfl

/-- A sum kept point by point is, after the last, the sum over all tokens. -/
theorem sum_all (f : Token → EReal) (S : (n : ℕ) → n < cfg0.N → EReal) (h0 : ∀ h, S 0 h = 0 + ∑ i, f (tokens m c ⟨0, h⟩ i))
    (hs : ∀ n h, S (n + 1) h = S n (Nat.lt_of_succ_lt h) + ∑ i, f (tokens m c ⟨n + 1, h⟩ i)) :
    S 15 lt_last = ∑ r, f ((inputs m c).token r) := by
  refine (sum_through (fun t => ∑ i, f (tokens m c t i)) S h0 hs 15 lt_last).trans
    (Eq.trans ?_ (Fin.sum_univ_tiles 16 512 (show 16 * 512 = 8192 from rfl) (fun r => f ((inputs m c).token r))).symm)
  refine Finset.sum_congr rfl fun s _ => Finset.sum_congr rfl fun i _ => ?_
  exact congrArg (fun r => f ((inputs m c).token r)) (Fin.ext (congrArg (· + i.val) (Nat.mul_comm 512 s.val)))

theorem out_all (k : Fin 2048) (j : Fin 1024) : (through m c 15 lt_last).out k j = (inputs m c).dWOut k j :=
  sum_all m c (fun T => T.y k * dPre (inputs m c).weights T j) (fun n h => (through m c n h).out k j) (fun _ => rfl) (fun _ _ => rfl)

theorem gate_all (k j : Fin 1024) : (through m c 15 lt_last).gate k j = (inputs m c).dWGate k j :=
  sum_all m c (fun T => x1 (inputs m c).weights T k * dGate (inputs m c).weights T j) (fun n h => (through m c n h).gate k j)
    (fun _ => rfl) (fun _ _ => rfl)

theorem ple_all (k : Fin 256) (j : Fin 1024) : (through m c 15 lt_last).ple k j = (inputs m c).dWPle k j :=
  sum_all m c (fun T => T.p k * dPle (inputs m c).weights T j) (fun n h => (through m c n h).ple k j) (fun _ => rfl) (fun _ _ => rfl)

theorem lnG_all (j : Fin 1024) : (through m c 15 lt_last).lnG j = (inputs m c).dLnG j :=
  sum_all m c (fun T => dX1 (inputs m c).weights T j * xhat (inputs m c).weights T j) (fun n h => (through m c n h).lnG j)
    (fun _ => rfl) (fun _ _ => rfl)

theorem lnB_all (j : Fin 1024) : (through m c 15 lt_last).lnB j = (inputs m c).dLnB j :=
  sum_all m c (fun T => dX1 (inputs m c).weights T j) (fun n h => (through m c n h).lnB j) (fun _ => rfl) (fun _ _ => rfl)

theorem gateB_all (j : Fin 1024) : (through m c 15 lt_last).gateB j = (inputs m c).dGateB j :=
  sum_all m c (fun T => dGate (inputs m c).weights T j) (fun n h => (through m c n h).gateB j) (fun _ => rfl) (fun _ _ => rfl)

theorem squares_all (j : Fin 1024) : (through m c 15 lt_last).squares j = (inputs m c).squares j :=
  sum_all m c (fun T => diff (inputs m c).weights T j * diff (inputs m c).weights T j) (fun n h => (through m c n h).squares j)
    (fun _ => rfl) (fun _ _ => rfl)

/-! ## The last point copies the three weight sums to HBM -/

section Last

variable (h : t.val = 15) (p : Left Ideal c)

theorem last_hbmOut : (leftLast m c t h p).hbmOut = (leftLast m c t h p).sumOut :=
  (show (leftLast m c t h p).hbmOut = View.write (Elt Ideal) (View.whole main_v13_2) p.hbmOut (ReadAs.same.apply
      (View.read (Elt Ideal) (View.whole cc0_scratch3) ((View.whole cc0_scratch3).writes (Elt Ideal)
        ((Memref.isWhole_whole _).unread p.sumOut) ((readsOver m c t p).outStores ++ [])))) Finset.univ by sl_kernel_rfl).trans
    ((View.write_whole_univ _ _ _).trans ((View.read_writes_eq_canon _ _ _
      (View.cover_of_tiledL ((readsOver m c t p).outStores ++ []) ![2048, 256] (by sl_kernel_rfl))).trans (last_sumOut_eq m c t h p).symm))

theorem last_hbmGate : (leftLast m c t h p).hbmGate = (leftLast m c t h p).sumGate :=
  (show (leftLast m c t h p).hbmGate = View.write (Elt Ideal) (View.whole main_v13_3) p.hbmGate (ReadAs.same.apply
      (View.read (Elt Ideal) (View.whole cc0_scratch4) ((View.whole cc0_scratch4).writes (Elt Ideal)
        ((Memref.isWhole_whole _).unread p.sumGate) ((readsOver m c t p).gateStores ++ [])))) Finset.univ by sl_kernel_rfl).trans
    ((View.write_whole_univ _ _ _).trans ((View.read_writes_eq_canon _ _ _
      (View.cover_of_tiledL ((readsOver m c t p).gateStores ++ []) ![1024, 256] (by sl_kernel_rfl))).trans (last_sumGate_eq m c t h p).symm))

theorem last_hbmPle : (leftLast m c t h p).hbmPle = (leftLast m c t h p).sumPle :=
  (show (leftLast m c t h p).hbmPle = View.write (Elt Ideal) (View.whole main_v13_4) p.hbmPle (ReadAs.same.apply
      (View.read (Elt Ideal) (View.whole cc0_scratch5) ((View.whole cc0_scratch5).writes (Elt Ideal)
        ((Memref.isWhole_whole _).unread p.sumPle) ((readsOver m c t p).pleStores ++ [])))) Finset.univ by sl_kernel_rfl).trans
    ((View.write_whole_univ _ _ _).trans ((View.read_writes_eq_canon _ _ _
      (View.cover_of_tiledL ((readsOver m c t p).pleStores ++ []) ![1, 256, 256] (by sl_kernel_rfl))).trans (last_sumPle_eq m c t h p).symm))

end Last

/-- The last point's weight sums, in HBM. -/
theorem final_out (k : Fin 2048) (j : Fin 1024) : (final m c).hbmOut (ix2 k j) = (inputs m c).dWOut k j := by
  have e : final m c = leftLast m c ⟨15, lt_last⟩ rfl (before m c ⟨15, lt_last⟩) := leftAt_last m c ⟨15, lt_last⟩ rfl
  rw [e, last_hbmOut]
  exact ((last_holds m c ⟨15, lt_last⟩ rfl (holds_at m c 14 _)).sumOut k j).trans (out_all m c k j)

theorem final_gate (k j : Fin 1024) : (final m c).hbmGate (ix2 k j) = (inputs m c).dWGate k j := by
  have e : final m c = leftLast m c ⟨15, lt_last⟩ rfl (before m c ⟨15, lt_last⟩) := leftAt_last m c ⟨15, lt_last⟩ rfl
  rw [e, last_hbmGate]
  exact ((last_holds m c ⟨15, lt_last⟩ rfl (holds_at m c 14 _)).sumGate k j).trans (gate_all m c k j)

theorem final_ple (q : Fin 4) (k j : Fin 256) (j' : Fin 1024) (hj : j'.val = 256 * q.val + j.val) :
    (final m c).hbmPle (ix3 q k j) = (inputs m c).dWPle k j' := by
  have e : final m c = leftLast m c ⟨15, lt_last⟩ rfl (before m c ⟨15, lt_last⟩) := leftAt_last m c ⟨15, lt_last⟩ rfl
  rw [e, last_hbmPle]
  exact ((last_holds m c ⟨15, lt_last⟩ rfl (holds_at m c 14 _)).sumPle q k j j' hj).trans (ple_all m c k j')

end Cert.KernelIdeal.Tail

end
-- ==== Proof.Tail.Arrays.lean ====
/-
The kernel's nine result arrays after the run, at the ideal, and its arguments unchanged.
-/
module

public import proofs.«01_k».proof.Proof.Tail.Total

@[expose] public section

set_option maxRecDepth 16384

noncomputable section

namespace Cert.KernelIdeal.Tail

open Cert.Tail Cert.Blocks Cert.KernelIdeal Cert.KernelIdeal.Gen
open Idealize.ShloMosaic Idealize.ShloMosaic.TcCoe Idealize.ShloMosaic.Tactic Idealize.SL.Sem
open Idealize.ShloMosaic.Pipeline (Dat Cfg Window)

section Unchanged

variable {F : FTy → Type} [FloatOps F] (m : (ℓ : Loc nD τ sig) → Buf (Elt F) ℓ) (ρ : Dev nD → PrngReg)

/-- Every argument array ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.toR) (run_main m ρ)))
    ((θ_run defs _ _).mono (fun _ h => h.2) (run_main_quiescent m ρ))

end Unchanged

variable (m : (ℓ : Loc nD τ sig) → Buf (Elt Ideal) ℓ) (c : Dev nD)

theorem index_out : ∀ t : Fin cfg0.N, win0_7.index t = ![t.val, 0] ∧ win0_8.index t = ![t.val, 0] ∧ win0_9.index t = ![0, 0]
    ∧ win0_10.index t = ![0, 0] ∧ win0_11.index t = ![0, 0] ∧ win0_12.index t = ![0, 0] := by decide +kernel

theorem array_dx : (dats m 0 c).arrAt 7 cfg0.N = fun y : S8192x1024.Idx => (inputs m c).dX (y 0) (y 1) := by
  refine (dats m 0 c).arrAt_eq_of_covers 7 _ (by decide +kernel) fun t _ y => ?_
  blk_simp
  rw [after_7, dx_at]
  have e0 : ((((cfg0.win 7).blk t).view.emb y) 0 : Fin 8192) = row t (y 0) :=
    Fin.ext (by blk_simp [(index_out t).1]; exact congrArg (· + (y 0).val) (Nat.mul_comm t.val 512))
  have e1 : ((((cfg0.win 7).blk t).view.emb y) 1 : Fin 1024) = y 1 := Fin.ext (by blk_simp [(index_out t).1])
  show _ = (inputs m c).dX ((((cfg0.win 7).blk t).view.emb y) 0 : Fin 8192) ((((cfg0.win 7).blk t).view.emb y) 1 : Fin 1024)
  rw [e0, e1]
  rfl

theorem array_dy : (dats m 0 c).arrAt 8 cfg0.N = fun y : S8192x2048.Idx => (inputs m c).dY (y 0) (y 1) := by
  refine (dats m 0 c).arrAt_eq_of_covers 8 _ (by decide +kernel) fun t _ y => ?_
  blk_simp
  rw [after_8, dy_at]
  have e0 : ((((cfg0.win 8).blk t).view.emb y) 0 : Fin 8192) = row t (y 0) :=
    Fin.ext (by blk_simp [(index_out t).2.1]; exact congrArg (· + (y 0).val) (Nat.mul_comm t.val 512))
  have e1 : ((((cfg0.win 8).blk t).view.emb y) 1 : Fin 2048) = y 1 := Fin.ext (by blk_simp [(index_out t).2.1])
  show _ = (inputs m c).dY ((((cfg0.win 8).blk t).view.emb y) 0 : Fin 8192) ((((cfg0.win 8).blk t).view.emb y) 1 : Fin 2048)
  rw [e0, e1]
  rfl

/-- The four row sums leave their buffers at the last point only. -/
theorem flush_last : ∀ t : Fin cfg0.N, ((cfg0.win 9).flush t = true → t = ⟨15, lt_last⟩) ∧ ((cfg0.win 10).flush t = true → t = ⟨15, lt_last⟩)
    ∧ ((cfg0.win 11).flush t = true → t = ⟨15, lt_last⟩) ∧ ((cfg0.win 12).flush t = true → t = ⟨15, lt_last⟩) := by decide +kernel

theorem row_eta (v : S1x1024.Idx → EReal) (w : Fin 1024 → EReal) (h : ∀ j, v (ix2 0 j) = w j) : v = fun y => w (y 1) :=
  funext fun y => by
    rw [eq_ix2 y, Fin.fin_one_eq_zero (y 0)]; exact h _

theorem last_lnG (t : Fin cfg0.N) (h : t = ⟨15, lt_last⟩) (j : Fin 1024) :
    (leftAt m c t.val t.isLt).lnG (ix2 0 j) = (inputs m c).dLnG j := by
  subst h; exact ((holds_at m c 15 lt_last).lnG j).trans (lnG_all m c j)

theorem array_lnG : (dats m 0 c).arrAt 9 cfg0.N = fun y : S1x1024.Idx => (inputs m c).dLnG (y 1) := by
  refine (dats m 0 c).arrAt_eq_of_covers 9 _ (by decide +kernel) fun t hf y => ?_
  have h15 := (flush_last t).1 hf
  blk_simp
  rw [after_9]
  have e1 : ((((cfg0.win 9).blk t).view.emb y) 1 : Fin 1024) = y 1 :=
    Fin.ext (by blk_simp [(index_out t).2.2.1])
  refine (congrFun (row_eta _ _ (last_lnG m c t h15)) y).trans ?_
  exact congrArg (inputs m c).dLnG e1.symm

theorem last_lnB (t : Fin cfg0.N) (h : t = ⟨15, lt_last⟩) (j : Fin 1024) :
    (leftAt m c t.val t.isLt).lnB (ix2 0 j) = (inputs m c).dLnB j := by
  subst h; exact ((holds_at m c 15 lt_last).lnB j).trans (lnB_all m c j)

theorem array_lnB : (dats m 0 c).arrAt 10 cfg0.N = fun y : S1x1024.Idx => (inputs m c).dLnB (y 1) := by
  refine (dats m 0 c).arrAt_eq_of_covers 10 _ (by decide +kernel) fun t hf y => ?_
  have h15 := (flush_last t).2.1 hf
  blk_simp
  rw [after_10]
  have e1 : ((((cfg0.win 10).blk t).view.emb y) 1 : Fin 1024) = y 1 :=
    Fin.ext (by blk_simp [(index_out t).2.2.2.1])
  refine (congrFun (row_eta _ _ (last_lnB m c t h15)) y).trans ?_
  exact congrArg (inputs m c).dLnB e1.symm

theorem last_gateB (t : Fin cfg0.N) (h : t = ⟨15, lt_last⟩) (j : Fin 1024) :
    (leftAt m c t.val t.isLt).gateB (ix2 0 j) = (inputs m c).dGateB j := by
  subst h; exact ((holds_at m c 15 lt_last).gateB j).trans (gateB_all m c j)

theorem array_gateB : (dats m 0 c).arrAt 11 cfg0.N = fun y : S1x1024.Idx => (inputs m c).dGateB (y 1) := by
  refine (dats m 0 c).arrAt_eq_of_covers 11 _ (by decide +kernel) fun t hf y => ?_
  have h15 := (flush_last t).2.2.1 hf
  blk_simp
  rw [after_11]
  have e1 : ((((cfg0.win 11).blk t).view.emb y) 1 : Fin 1024) = y 1 :=
    Fin.ext (by blk_simp [(index_out t).2.2.2.2.1])
  refine (congrFun (row_eta _ _ (last_gateB m c t h15)) y).trans ?_
  exact congrArg (inputs m c).dGateB e1.symm

theorem last_squares (t : Fin cfg0.N) (h : t = ⟨15, lt_last⟩) (j : Fin 1024) :
    (leftAt m c t.val t.isLt).squares (ix2 0 j) = (inputs m c).squares j := by
  subst h; exact ((holds_at m c 15 lt_last).squares j).trans (squares_all m c j)

theorem array_squares : (dats m 0 c).arrAt 12 cfg0.N = fun y : S1x1024.Idx => (inputs m c).squares (y 1) := by
  refine (dats m 0 c).arrAt_eq_of_covers 12 _ (by decide +kernel) fun t hf y => ?_
  have h15 := (flush_last t).2.2.2 hf
  blk_simp
  rw [after_12]
  have e1 : ((((cfg0.win 12).blk t).view.emb y) 1 : Fin 1024) = y 1 :=
    Fin.ext (by blk_simp [(index_out t).2.2.2.2.2])
  refine (congrFun (row_eta _ _ (last_squares m c t h15)) y).trans ?_
  exact congrArg (inputs m c).squares e1.symm

end Cert.KernelIdeal.Tail

end
-- ==== Proof.Tail.Run.lean ====
/-
The kernel's run: nine results in closed form, ten arguments unchanged.
-/
module

public import proofs.«01_k».proof.Proof.Tail.Arrays

@[expose] public section

set_option maxRecDepth 16384

noncomputable section

namespace Cert.KernelIdeal.Tail

open Cert.Tail Cert.Blocks Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

theorem whole_out : (final m c).hbmOut = fun y : S2048x1024.Idx => (inputs m c).dWOut (y 0) (y 1) :=
  funext fun y => by rw [eq_ix2 y]; exact final_out m c _ _

theorem whole_gate : (final m c).hbmGate = fun y : S1024x1024.Idx => (inputs m c).dWGate (y 0) (y 1) :=
  funext fun y => by rw [eq_ix2 y]; exact final_gate m c _ _

theorem whole_ple : (final m c).hbmPle = fun y : S4x256x256.Idx => (inputs m c).dWPleSlab (y 0) (y 1) (y 2) :=
  funext fun y => by rw [eq_ix3 y]; exact final_ple m c (y 0) (y 1) (y 2) _ (congrArg (· + (y 2).val) (Nat.mul_comm (y 0).val 256))

/-- The run leaves every result at the gradient it stands for, and the arguments as launched. -/
theorem run_closed : θ_run defs (onTc (τ := τ) (main (F := Ideal))) ⟨m, fun _ => 0, ρ⟩ (fun r => ∀ c : Dev nD,
      r.2.mem ((c.tc : Thread nD τ).loc main_v13_0) = (fun y : S8192x1024.Idx => (inputs m c).dX (y 0) (y 1))
      ∧ r.2.mem ((c.tc : Thread nD τ).loc main_v13_1) = (fun y : S8192x2048.Idx => (inputs m c).dY (y 0) (y 1))
      ∧ r.2.mem ((c.tc : Thread nD τ).loc main_v13_2) = (fun y : S2048x1024.Idx => (inputs m c).dWOut (y 0) (y 1))
      ∧ r.2.mem ((c.tc : Thread nD τ).loc main_v13_3) = (fun y : S1024x1024.Idx => (inputs m c).dWGate (y 0) (y 1))
      ∧ r.2.mem ((c.tc : Thread nD τ).loc main_v13_4) = (fun y : S4x256x256.Idx => (inputs m c).dWPleSlab (y 0) (y 1) (y 2))
      ∧ r.2.mem ((c.tc : Thread nD τ).loc main_v13_5) = (fun y : S1x1024.Idx => (inputs m c).dLnG (y 1))
      ∧ r.2.mem ((c.tc : Thread nD τ).loc main_v13_6) = (fun y : S1x1024.Idx => (inputs m c).dLnB (y 1))
      ∧ r.2.mem ((c.tc : Thread nD τ).loc main_v13_7) = (fun y : S1x1024.Idx => (inputs m c).dGateB (y 1))
      ∧ r.2.mem ((c.tc : Thread nD τ).loc main_v13_8) = (fun y : S1x1024.Idx => (inputs m c).squares (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h => fun c => ⟨((h.1.toR c).1 7).trans (array_dx m c),
      ((h.1.toR c).1 8).trans (array_dy m c),
      ((h.1.written c (by decide : main_v13_2 ∈ R0)).trans (after_out m c)).trans (whole_out m c),
      ((h.1.written c (by decide : main_v13_3 ∈ R0)).trans (after_gate m c)).trans (whole_gate m c),
      ((h.1.written c (by decide : main_v13_4 ∈ R0)).trans (after_ple m c)).trans (whole_ple m c),
      ((h.1.toR c).1 9).trans (array_lnG m c),
      ((h.1.toR c).1 10).trans (array_lnB m c),
      ((h.1.toR c).1 11).trans (array_gateB m c),
      ((h.1.toR c).1 12).trans (array_squares m c),
      h.2 c⟩)
    (θ_run_and (run_main m ρ) (frame_of m ρ (dats m) (A_eq m) ((θ_run defs _ _).mono (fun _ h => h.toR) (run_main m ρ))))

end Cert.KernelIdeal.Tail

end
-- ==== Proof.Tail.Axes.lean ====
/-
Sums of the reference that run over a leading axis of length one beside a long one.
-/
module

public import proofs.«01_k».proof.Proof.Tail.Spec
public import proofs.«01_k».proof.Proof.Gen.ReferenceIdeal

@[expose] public section

set_option maxRecDepth 16384

noncomputable section

namespace Cert.Tail

open Idealize.ShloMosaic

/-- A host sum over the batch axis (one member) and the next one. -/
theorem sum_batch {n m : ℕ} (h : (⟨3, ![1, n, m]⟩ : Shape).ReducesTo [0, 1] ⟨1, ![m]⟩)
    (v : (⟨3, ![1, n, m]⟩ : Shape).Idx → EReal) (init : EReal) (j : Fin m) :
    Ideal.hostReduceAdd h v init (ix1 j) = init + ∑ k : Fin n, v (ix3 0 k j) :=
  congrArg (init + ·) (Finset.sum_filter_eq_sum_of_fiber _ (fun k : Fin n => (ix3 0 k j : (⟨3, ![1, n, m]⟩ : Shape).Idx))
    (fun _ _ e => congrFun e 1) (fun i => by
      constructor
      · intro e
        refine ⟨i 1, ?_⟩
        funext a; apply Fin.ext
        match a with
        | ⟨0, _⟩ => exact (Nat.lt_one_iff.mp (i 0).isLt).symm
        | ⟨1, _⟩ => rfl
        | ⟨2, _⟩ => exact (congrArg Fin.val (congrFun e 0)).symm
      · rintro ⟨k, rfl⟩
        funext b; apply Fin.ext
        match b with
        | ⟨0, _⟩ => rfl) v)

/-- A host sum over the batch axis (one member) and a last axis of length one. -/
theorem sum_ends {n : ℕ} (h : (⟨3, ![1, n, 1]⟩ : Shape).ReducesTo [0, 2] ⟨1, ![n]⟩)
    (v : (⟨3, ![1, n, 1]⟩ : Shape).Idx → EReal) (init : EReal) (j : Fin n) :
    Ideal.hostReduceAdd h v init (ix1 j) = init + v (ix3 0 j 0) := by
  refine congrArg (init + ·) ((Finset.sum_filter_eq_sum_of_fiber _ (fun _ : Fin 1 => (ix3 0 j 0 : (⟨3, ![1, n, 1]⟩ : Shape).Idx))
    (fun _ _ _ => Subsingleton.elim _ _) (fun i => ?_) v).trans (by simp))
  constructor
  · intro e
    refine ⟨0, ?_⟩
    funext a; apply Fin.ext
    match a with
    | ⟨0, _⟩ => exact (Nat.lt_one_iff.mp (i 0).isLt).symm
    | ⟨1, _⟩ => exact (congrArg Fin.val (congrFun e 0)).symm
    | ⟨2, _⟩ => exact (Nat.lt_one_iff.mp (i 2).isLt).symm
  · rintro ⟨k, rfl⟩
    funext b; apply Fin.ext
    match b with
    | ⟨0, _⟩ => rfl

end Cert.Tail

end
-- ==== Proof.Tail.Ref.lean ====
/-
The reference's arrays at an index: each is the tail's stage of the token and column it stands for.
-/
module

public import proofs.«01_k».proof.Proof.Tail.Law
public import proofs.«01_k».proof.Proof.Tail.Axes
public import proofs.«01_k».proof.Proof.Gen.ReferenceIdeal.Read

@[expose] public section

set_option maxRecDepth 16384

noncomputable section

namespace Cert.Tail.Ref

open Idealize.ShloMosaic Cert.ReferenceIdeal Cert.ReferenceIdeal.Gen Cert.ReferenceIdeal.Read

variable (A : Inputs)

section Stages

variable (r : Fin 8192) (j : Fin 1024)

theorem pre_eq : val_main_v4 (F := Ideal) A.y A.x A.wOut (ix3 0 r j) = pre A.weights (A.token r) j := by
  unfold val_main_v4 val_main_v3 val_main_v2 val_main_cst val_main_v1 val_main_v0
  pointwise
  rfl

theorem mean_pre : val_main_v10 (F := Ideal) A.y A.x A.wOut (ix3 0 r 0) = mean (pre A.weights (A.token r)) := by
  unfold val_main_v10 val_main_v9 val_main_v8 val_main_v7 val_main_cst_1 val_main_cst_0
  pointwise [pre_eq]
  rfl

theorem ctr_eq : val_main_v12 (F := Ideal) A.y A.x A.wOut (ix3 0 r j) = ctr A.weights (A.token r) j := by
  unfold val_main_v12 val_main_v11
  pointwise [pre_eq, mean_pre]
  rfl

theorem ctr_eq₂ : val_main_v21 (F := Ideal) A.y A.x A.wOut (ix3 0 r j) = ctr A.weights (A.token r) j := by
  unfold val_main_v21 val_main_v20
  pointwise [pre_eq, mean_pre]
  rfl

theorem vare_eq : val_main_v23 (F := Ideal) A.y A.x A.wOut (ix3 0 r 0) = vare A.weights (A.token r) := by
  unfold val_main_v23 val_main_v22 val_main_v19 val_main_v18 val_main_v17 val_main_v16 val_main_v13 val_main_cst_5 val_main_cst_4 val_main_cst_3
  pointwise [ctr_eq]
  rfl

theorem rstd_eq : val_main_v24 (F := Ideal) A.y A.x A.wOut (ix3 0 r 0) = rstd A.weights (A.token r) := by
  unfold val_main_v24
  pointwise [vare_eq]
  rfl

theorem half_eq : val_main_v27 (F := Ideal) A.y A.x A.wOut (ix3 0 r 0) = Ideal.ofBits .f32 0xBF000000#32 * Ideal.div (rstd A.weights (A.token r)) (vare A.weights (A.token r)) := by
  unfold val_main_v27 val_main_v26 val_main_cst_6 val_main_v25
  pointwise [vare_eq, rstd_eq]

theorem two_eq : val_main_v15 (F := Ideal) A.y A.x A.wOut (ix3 0 r j) = Ideal.ofBits .f32 0x40000000#32 * ctr A.weights (A.token r) j := by
  unfold val_main_v15 val_main_v14 val_main_cst_2
  pointwise [ctr_eq]

theorem xhat_eq : val_main_v29 (F := Ideal) A.y A.x A.wOut (ix3 0 r j) = xhat A.weights (A.token r) j := by
  unfold val_main_v29 val_main_v28
  pointwise [ctr_eq₂, rstd_eq]
  rfl

theorem x1_eq : val_main_v35 (F := Ideal) A.y A.x A.wOut A.lnG A.lnB (ix3 0 r j) = x1 A.weights (A.token r) j := by
  unfold val_main_v35 val_main_v34 val_main_v33 val_main_v6 val_main_v32 val_main_v31 val_main_v30 val_main_v5
  pointwise [xhat_eq]
  rfl

theorem gate_eq : val_main_v47 (F := Ideal) A.y A.x A.wOut A.wGate A.lnG A.lnB A.gateB (ix3 0 r j) = gate A.weights (A.token r) j := by
  unfold val_main_v47 val_main_v46 val_main_cst_8 val_main_v45 val_main_v44 val_main_cst_7 val_main_v43 val_main_v42 val_main_v41 val_main_v40 val_main_v39 val_main_v38 val_main_v37 val_main_v36
  pointwise [x1_eq]
  rfl

theorem slope_eq : val_main_v50 (F := Ideal) A.y A.x A.wOut A.wGate A.lnG A.lnB A.gateB (ix3 0 r j) = gate A.weights (A.token r) j * (1 - gate A.weights (A.token r) j) := by
  unfold val_main_v50 val_main_v49 val_main_v48 val_main_cst_9
  pointwise [gate_eq]

theorem ple_eq : val_main_v53 (F := Ideal) A.p A.wPle (ix3 0 r j) = ple A.weights (A.token r) j := by
  unfold val_main_v53 val_main_v52 val_main_v51
  pointwise
  rfl

theorem diff_eq : val_main_v56 (F := Ideal) A.y A.x A.p A.target A.wOut A.wGate A.wPle A.lnG A.lnB A.gateB (ix3 0 r j) = diff A.weights (A.token r) j := by
  unfold val_main_v56 val_main_v55 val_main_v54
  pointwise [x1_eq, gate_eq, ple_eq]
  rfl

theorem square_eq : val_main_v57 (F := Ideal) A.y A.x A.p A.target A.wOut A.wGate A.wPle A.lnG A.lnB A.gateB (ix3 0 r j) = diff A.weights (A.token r) j * diff A.weights (A.token r) j := by
  unfold val_main_v57
  pointwise [diff_eq]

theorem dOut_eq : val_main_v72 (F := Ideal) A.y A.x A.p A.target A.wOut A.wGate A.wPle A.lnG A.lnB A.gateB (ix3 0 r j) = dOut A.weights (A.token r) j := by
  unfold val_main_v72 val_main_v71 val_main_v70 val_main_v69 val_main_cst_18 val_main_v68 val_main_v67 val_main_cst_17 val_main_cst_16 val_main_v59 val_main_v58 val_main_cst_10
  pointwise [diff_eq]
  rw [dOut, ← scale, mul_one]

theorem dPle_eq : val_main_v73 (F := Ideal) A.y A.x A.p A.target A.wOut A.wGate A.wPle A.lnG A.lnB A.gateB (ix3 0 r j) = dPle A.weights (A.token r) j := by
  unfold val_main_v73
  pointwise [gate_eq, dOut_eq]
  exact mul_comm _ _

theorem dGate_eq : val_main_v78 (F := Ideal) A.y A.x A.p A.target A.wOut A.wGate A.wPle A.lnG A.lnB A.gateB (ix3 0 r j) = dGate A.weights (A.token r) j := by
  unfold val_main_v78 val_main_v74
  pointwise [slope_eq, dOut_eq, ple_eq]
  exact (mul_assoc _ _ _).symm

theorem dX1_eq : val_main_v86 (F := Ideal) A.y A.x A.p A.target A.wOut A.wGate A.wPle A.lnG A.lnB A.gateB (ix3 0 r j) = dX1 A.weights (A.token r) j := by
  unfold val_main_v86 val_main_v85 val_main_v36
  pointwise [dOut_eq, dGate_eq]
  rfl

theorem dXhat_eq : val_main_v95 (F := Ideal) A.y A.x A.p A.target A.wOut A.wGate A.wPle A.lnG A.lnB A.gateB (ix3 0 r j) = dXhat A.weights (A.token r) j := by
  unfold val_main_v95 val_main_v94 val_main_v30 val_main_v5
  pointwise [dX1_eq]
  rfl

theorem scaled_eq : val_main_v101 (F := Ideal) A.y A.x A.p A.target A.wOut A.wGate A.wPle A.lnG A.lnB A.gateB (ix3 0 r j) = dXhat A.weights (A.token r) j * rstd A.weights (A.token r) := by
  unfold val_main_v101 val_main_v100
  pointwise [dXhat_eq, rstd_eq]

theorem varShare_eq : val_main_v110 (F := Ideal) A.y A.x A.p A.target A.wOut A.wGate A.wPle A.lnG A.lnB A.gateB (ix3 0 r j) = varShare A.weights (A.token r) := by
  unfold val_main_v110 val_main_v109 val_main_v108 val_main_cst_28 val_main_v107 val_main_v106 val_main_cst_27 val_main_v102 val_main_v99 val_main_v98 val_main_cst_25 val_main_v97
  pointwise [sum_ends, ctr_eq₂, dXhat_eq, half_eq]
  rfl

theorem spread_eq : val_main_v111 (F := Ideal) A.y A.x A.p A.target A.wOut A.wGate A.wPle A.lnG A.lnB A.gateB (ix3 0 r j) = varShare A.weights (A.token r) * (Ideal.ofBits .f32 0x40000000#32 * ctr A.weights (A.token r) j) := by
  unfold val_main_v111
  pointwise [varShare_eq, two_eq]

theorem meanShare_eq : val_main_v121 (F := Ideal) A.y A.x A.p A.target A.wOut A.wGate A.wPle A.lnG A.lnB A.gateB (ix3 0 r j) = meanShare A.weights (A.token r) := by
  unfold val_main_v121 val_main_v120 val_main_v119 val_main_cst_31 val_main_v118 val_main_v117 val_main_cst_30 val_main_v116 val_main_v105 val_main_v104 val_main_cst_26 val_main_v103 val_main_v114 val_main_v113 val_main_cst_29 val_main_v112
  pointwise [sum_ends, scaled_eq, spread_eq]
  rfl

theorem dPre_eq : val_main_v122 (F := Ideal) A.y A.x A.p A.target A.wOut A.wGate A.wPle A.lnG A.lnB A.gateB (ix3 0 r j) = dPreChain A.weights (A.token r) j := by
  unfold val_main_v122 val_main_v115
  pointwise [scaled_eq, spread_eq, meanShare_eq]
  rfl

end Stages

/-! ### The results -/

section Results

variable (H : ∀ r, RealArgs A.weights (A.token r))

include H in
theorem dPre_eq' (r : Fin 8192) (j : Fin 1024) :
    val_main_v122 (F := Ideal) A.y A.x A.p A.target A.wOut A.wGate A.wPle A.lnG A.lnB A.gateB (ix3 0 r j) = dPre A.weights (A.token r) j :=
  (dPre_eq A r j).trans (chain_eq (H r) j)

include H in
theorem dX_eq (r : Fin 8192) (j : Fin 1024) :
    val_main_v131 (F := Ideal) A.y A.x A.p A.target A.wOut A.wGate A.wPle A.lnG A.lnB A.gateB (ix2 r j) = A.dX r j := by
  unfold val_main_v131 val_main_v126 val_main_v125 val_main_cst_32
  pointwise [dPre_eq' A H]

include H in
theorem dY_eq (r : Fin 8192) (k : Fin 2048) :
    val_main_v133 (F := Ideal) A.y A.x A.p A.target A.wOut A.wGate A.wPle A.lnG A.lnB A.gateB (ix2 r k) = A.dY r k := by
  unfold val_main_v133 val_main_v132 val_main_v129 val_main_v0
  pointwise [dPre_eq' A H]
  rfl

include H in
theorem dWOut_eq (k : Fin 2048) (j : Fin 1024) :
    val_main_v134 (F := Ideal) A.y A.x A.p A.target A.wOut A.wGate A.wPle A.lnG A.lnB A.gateB (ix2 k j) = A.dWOut k j := by
  unfold val_main_v134 val_main_v130 val_main_v128 val_main_v127
  pointwise [dPre_eq' A H]
  rw [Fin.sum_univ_one]
  exact Finset.sum_congr rfl fun r _ => by rw [dPre_eq' A H, mul_comm]; rfl

theorem dWGate_eq (k j : Fin 1024) :
    val_main_v135 (F := Ideal) A.y A.x A.p A.target A.wOut A.wGate A.wPle A.lnG A.lnB A.gateB (ix2 k j) = A.dWGate k j := by
  unfold val_main_v135 val_main_v87 val_main_v84 val_main_v83
  pointwise [dGate_eq, x1_eq]
  rw [Fin.sum_univ_one]
  exact Finset.sum_congr rfl fun r _ => by rw [dGate_eq, x1_eq, mul_comm]

theorem dWPle_eq (q : Fin 4) (k c : Fin 256) :
    val_main_v138 (F := Ideal) A.y A.x A.p A.target A.wOut A.wGate A.wPle A.lnG A.lnB A.gateB (ix3 q k c) = A.dWPle k ⟨q.val * 256 + c.val, by omega⟩ := by
  unfold val_main_v138 val_main_v137 val_main_v136 val_main_v77 val_main_v76 val_main_v75 val_main_v51
  pointwise [dPle_eq]
  rw [Fin.sum_univ_one]
  exact Finset.sum_congr rfl fun r _ => (congrArg₂ (· * ·) (dPle_eq A r _) rfl).trans (mul_comm _ _)

theorem dLnG_eq (j : Fin 1024) :
    val_main_v124 (F := Ideal) A.y A.x A.p A.target A.wOut A.wGate A.wPle A.lnG A.lnB A.gateB (ix2 0 j) = A.dLnG j := by
  unfold val_main_v124 val_main_v96 val_main_cst_24 val_main_v93 val_main_v92 val_main_cst_23 val_main_v91
  pointwise [sum_batch, xhat_eq, dX1_eq]
  rw [Fin.sum_univ_one]
  exact Finset.sum_congr rfl fun r _ => mul_comm _ _

theorem dLnB_eq (j : Fin 1024) :
    val_main_v123 (F := Ideal) A.y A.x A.p A.target A.wOut A.wGate A.wPle A.lnG A.lnB A.gateB (ix2 0 j) = A.dLnB j := by
  unfold val_main_v123 val_main_v90 val_main_cst_22 val_main_v89 val_main_v88 val_main_cst_21
  pointwise [sum_batch, dX1_eq]
  rw [Fin.sum_univ_one]

theorem dGateB_eq (j : Fin 1024) :
    val_main_v82 (F := Ideal) A.y A.x A.p A.target A.wOut A.wGate A.wPle A.lnG A.lnB A.gateB (ix2 0 j) = A.dGateB j := by
  unfold val_main_v82 val_main_v81 val_main_cst_20 val_main_v80 val_main_v79 val_main_cst_19
  pointwise [sum_batch, dGate_eq]
  rw [Fin.sum_univ_one]

theorem squares_eq (j : Fin 1024) :
    val_main_v66 (F := Ideal) A.y A.x A.p A.target A.wOut A.wGate A.wPle A.lnG A.lnB A.gateB (ix2 0 j) = A.squares j := by
  unfold val_main_v66 val_main_v65 val_main_cst_15
  pointwise [sum_batch, square_eq]

end Results

end Cert.Tail.Ref

end
-- ==== Proof.Tail.RefRun.lean ====
/-
The reference's run: nine results in closed form, ten arguments unchanged.
-/
module

public import proofs.«01_k».proof.Proof.Tail.Ref
public import proofs.«01_k».proof.Proof.Gen.ReferenceIdeal.Run

@[expose] public section

set_option maxRecDepth 16384

noncomputable section

namespace Cert.Tail.Ref

open Cert.ReferenceIdeal Cert.ReferenceIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays in the reference's launch memory. -/
def inputs : Inputs where
  y := m (c, main_arg0)
  x := m (c, main_arg1)
  p := m (c, main_arg2)
  target := m (c, main_arg3)
  wOut := m (c, main_arg4)
  wGate := m (c, main_arg5)
  wPle := m (c, main_arg6)
  lnG := m (c, main_arg7)
  lnB := m (c, main_arg8)
  gateB := m (c, main_arg9)

section Whole

variable (A : Inputs) (H : ∀ r, RealArgs A.weights (A.token r))

include H in
theorem dX_whole : val_main_v131 (F := Ideal) A.y A.x A.p A.target A.wOut A.wGate A.wPle A.lnG A.lnB A.gateB = fun y : S8192x1024.Idx => A.dX (y 0) (y 1) :=
  funext fun y => by rw [eq_ix2 y]; exact dX_eq A H _ _

include H in
theorem dY_whole : val_main_v133 (F := Ideal) A.y A.x A.p A.target A.wOut A.wGate A.wPle A.lnG A.lnB A.gateB = fun y : S8192x2048.Idx => A.dY (y 0) (y 1) :=
  funext fun y => by rw [eq_ix2 y]; exact dY_eq A H _ _

include H in
theorem dWOut_whole : val_main_v134 (F := Ideal) A.y A.x A.p A.target A.wOut A.wGate A.wPle A.lnG A.lnB A.gateB = fun y : S2048x1024.Idx => A.dWOut (y 0) (y 1) :=
  funext fun y => by rw [eq_ix2 y]; exact dWOut_eq A H _ _

theorem dWGate_whole : val_main_v135 (F := Ideal) A.y A.x A.p A.target A.wOut A.wGate A.wPle A.lnG A.lnB A.gateB = fun y : S1024x1024.Idx => A.dWGate (y 0) (y 1) :=
  funext fun y => by rw [eq_ix2 y]; exact dWGate_eq A _ _

theorem dWPle_whole : val_main_v138 (F := Ideal) A.y A.x A.p A.target A.wOut A.wGate A.wPle A.lnG A.lnB A.gateB = fun y : S4x256x256.Idx => A.dWPleSlab (y 0) (y 1) (y 2) :=
  funext fun y => by rw [eq_ix3 y]; exact dWPle_eq A _ _ _

theorem dLnG_whole : val_main_v124 (F := Ideal) A.y A.x A.p A.target A.wOut A.wGate A.wPle A.lnG A.lnB A.gateB = fun y : S1x1024.Idx => A.dLnG (y 1) :=
  funext fun y => by rw [eq_ix2 y, Fin.fin_one_eq_zero (y 0)]; exact dLnG_eq A _

theorem dLnB_whole : val_main_v123 (F := Ideal) A.y A.x A.p A.target A.wOut A.wGate A.wPle A.lnG A.lnB A.gateB = fun y : S1x1024.Idx => A.dLnB (y 1) :=
  funext fun y => by rw [eq_ix2 y, Fin.fin_one_eq_zero (y 0)]; exact dLnB_eq A _

theorem dGateB_whole : val_main_v82 (F := Ideal) A.y A.x A.p A.target A.wOut A.wGate A.wPle A.lnG A.lnB A.gateB = fun y : S1x1024.Idx => A.dGateB (y 1) :=
  funext fun y => by rw [eq_ix2 y, Fin.fin_one_eq_zero (y 0)]; exact dGateB_eq A _

theorem squares_whole : val_main_v66 (F := Ideal) A.y A.x A.p A.target A.wOut A.wGate A.wPle A.lnG A.lnB A.gateB = fun y : S1x1024.Idx => A.squares (y 1) :=
  funext fun y => by rw [eq_ix2 y, Fin.fin_one_eq_zero (y 0)]; exact squares_eq A _

end Whole

/-- The run leaves every result at the gradient it stands for, and the arguments as launched. -/
theorem run_closed (H : ∀ c r, RealArgs (inputs m c).weights ((inputs m c).token r)) :
    θ_run defs (onTc (τ := τ) (main (F := Ideal))) ⟨m, fun _ => 0, ρ⟩ (fun r => ∀ c : Dev nD,
      r.2.mem ((c.tc : Thread nD τ).loc main_v131) = (fun y : S8192x1024.Idx => (inputs m c).dX (y 0) (y 1))
      ∧ r.2.mem ((c.tc : Thread nD τ).loc main_v133) = (fun y : S8192x2048.Idx => (inputs m c).dY (y 0) (y 1))
      ∧ r.2.mem ((c.tc : Thread nD τ).loc main_v134) = (fun y : S2048x1024.Idx => (inputs m c).dWOut (y 0) (y 1))
      ∧ r.2.mem ((c.tc : Thread nD τ).loc main_v135) = (fun y : S1024x1024.Idx => (inputs m c).dWGate (y 0) (y 1))
      ∧ r.2.mem ((c.tc : Thread nD τ).loc main_v138) = (fun y : S4x256x256.Idx => (inputs m c).dWPleSlab (y 0) (y 1) (y 2))
      ∧ r.2.mem ((c.tc : Thread nD τ).loc main_v124) = (fun y : S1x1024.Idx => (inputs m c).dLnG (y 1))
      ∧ r.2.mem ((c.tc : Thread nD τ).loc main_v123) = (fun y : S1x1024.Idx => (inputs m c).dLnB (y 1))
      ∧ r.2.mem ((c.tc : Thread nD τ).loc main_v82) = (fun y : S1x1024.Idx => (inputs m c).dGateB (y 1))
      ∧ r.2.mem ((c.tc : Thread nD τ).loc main_v66) = (fun y : S1x1024.Idx => (inputs m c).squares (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨h0, h1, h2, h3, h4, h5, h6, h7, h8, hk⟩ := h c
    exact ⟨h0.trans ((val_main_v131_eq (launchContents m c)).trans (dX_whole (inputs m c) (H c))),
      h1.trans ((val_main_v133_eq (launchContents m c)).trans (dY_whole (inputs m c) (H c))),
      h2.trans ((val_main_v134_eq (launchContents m c)).trans (dWOut_whole (inputs m c) (H c))),
      h3.trans ((val_main_v135_eq (launchContents m c)).trans (dWGate_whole (inputs m c))),
      h4.trans ((val_main_v138_eq (launchContents m c)).trans (dWPle_whole (inputs m c))),
      h5.trans ((val_main_v124_eq (launchContents m c)).trans (dLnG_whole (inputs m c))),
      h6.trans ((val_main_v123_eq (launchContents m c)).trans (dLnB_whole (inputs m c))),
      h7.trans ((val_main_v82_eq (launchContents m c)).trans (dGateB_whole (inputs m c))),
      h8.trans ((val_main_v66_eq (launchContents m c)).trans (squares_whole (inputs m c))), hk⟩)
    (Value.run m ρ)

/-- The arguments end as launched and the counters at zero: the program has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2.2.2.2.2.2.2.2.2, sem_eq_zero_of_no_sems (by decide) r.2⟩) (Value.run m ρ)

end Cert.Tail.Ref

end
-- ==== Proof.Tail.Finite.lean ====
/-
The precondition, read: every entry of the nine arrays it names is a real number.
-/
module

public import proofs.«01_k».proof.Pre_finite
public import proofs.«01_k».proof.Proof.Tail.Law

@[expose] public section

set_option maxRecDepth 16384

noncomputable section

namespace Cert.Tail.Finite

open Idealize.ShloMosaic Cert.Pre_finite

theorem facts : Cert.Pre_finite.Facts where
  bcast_S_S1x8192x2048 := by decide
  bcast_S_S1x8192x1024 := by decide
  bcast_S_S1x1x8192x256 := by decide
  bcast_S_S1x2048x1024 := by decide
  bcast_S_S1x1024x1024 := by decide
  bcast_S_S1x256x1024 := by decide
  bcast_S_S1x1024 := by decide

theorem inf_eq : Ideal.ofBits .f32 0x7F800000#32 = ⊤ := by simp [Ideal.ofBits, Ideal.ieee]

/-- An entry whose absolute value is below infinity is real. -/
theorem real_of {s : Shape} (h : S_.BroadcastsInDim s (![] : Fin 0 → Fin s.rank)) (v : FVec Ideal s .f32)
    (e : cmpf .olt (Host.absf v) (broadcastInDim s ![] h (constant S_ .f32 0x7F800000#32)) = fun _ => 1#1) (i : s.Idx) :
    ∃ a : ℝ, v i = a := by
  have e := congrFun e i
  pointwise at e
  rw [inf_eq] at e
  have hl : max (v i) (-v i) < ⊤ := by
    by_contra hn
    rw [show decide (FloatOps.absf (v i) < ⊤) = false from decide_eq_false hn] at e
    exact absurd e (by decide)
  refine ⟨(v i).toReal, (EReal.coe_toReal (ne_of_lt (lt_of_le_of_lt (le_max_left _ _) hl)) fun hb => ?_).symm⟩
  rw [hb] at hl
  exact absurd hl (by simp)

section Arguments

variable [Cert.Pre_finite.Facts] (A : Inputs)

/-- The predicate's nine arrays of comparisons. -/
def tests := Cert.Pre_finite.fn (F := Ideal) A.y A.x A.p A.target A.wOut A.wGate A.wPle A.lnG A.lnB A.gateB

/-- Where each comparison holds throughout, the nine arrays are real. -/
theorem realArgs (h : (tests A).1 = (fun _ => 1#1)
    ∧ (tests A).2.1 = (fun _ => 1#1)
    ∧ (tests A).2.2.1 = (fun _ => 1#1)
    ∧ (tests A).2.2.2.1 = (fun _ => 1#1)
    ∧ (tests A).2.2.2.2.1 = (fun _ => 1#1)
    ∧ (tests A).2.2.2.2.2.1 = (fun _ => 1#1)
    ∧ (tests A).2.2.2.2.2.2.1 = (fun _ => 1#1)
    ∧ (tests A).2.2.2.2.2.2.2.1 = (fun _ => 1#1)
    ∧ (tests A).2.2.2.2.2.2.2.2 = (fun _ => 1#1)) (r : Fin 8192) :
    RealArgs A.weights (A.token r) where
  y := fun _ => real_of Facts.bcast_S_S1x8192x2048 A.y h.1 _
  x := fun _ => real_of Facts.bcast_S_S1x8192x1024 A.x h.2.1 _
  p := fun _ => real_of Facts.bcast_S_S1x1x8192x256 A.p h.2.2.1 _
  target := fun _ => real_of Facts.bcast_S_S1x8192x1024 A.target h.2.2.2.1 _
  out := fun _ _ => real_of Facts.bcast_S_S1x2048x1024 A.wOut h.2.2.2.2.1 _
  gate := fun _ _ => real_of Facts.bcast_S_S1x1024x1024 A.wGate h.2.2.2.2.2.1 _
  ple := fun _ _ => real_of Facts.bcast_S_S1x256x1024 A.wPle h.2.2.2.2.2.2.1 _
  lnG := fun _ => real_of Facts.bcast_S_S1x1024 A.lnG h.2.2.2.2.2.2.2.1 _
  lnB := fun _ => real_of Facts.bcast_S_S1x1024 A.lnB h.2.2.2.2.2.2.2.2 _

end Arguments

end Cert.Tail.Finite

end
-- ==== Proof.Front.Runs.lean ====
/- What the three runs of the front backward kernel's body share: its branch conditions in closed form over the grid's points,
   the memrefs it is called with, the operand it copies from HBM and the cell it waits on, and the launch's hand-over. -/
module

public import proofs.«01_k».proof.Proof.Gen.Kernel2Ideal.Frame
public import proofs.«01_k».proof.Proof.Gen.Kernel2Ideal.Skeleton
public import Idealize.ShloMosaic.Lib.Pipeline.FrameSuffix
public import Idealize.ShloMosaic.Lib.Pipeline.FrameValue
public import Idealize.ShloMosaic.Lib.Claim
public import Idealize.ShloMosaic.Lib.WordCmp

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The grid has 33 points. -/
theorem points (t : Fin cfg0.N) : t.val < 33 := lt_of_lt_of_eq t.isLt (show cfg0.N = 33 from N_0)

theorem coord (t : Fin cfg0.N) : (grid0.coords t 0).val = t.val := by
  have ht := points t
  have e0 : (grid0.coords t 0).val = t.val / 1 % 33 := Pipeline.Grid.coords_val t 0 (by decide) rfl
  rw [e0]; omega

/-- The first branch zeroes the running sums and copies the weight: at the first point alone. -/
theorem zero_iff (t : Fin cfg0.N) : k0_cond1 (grid0.coords t) = 1#1 ↔ t.val = 0 := by
  have ht := points t
  simp only [k0_cond1, coord t]; word_cmp

/-- The second computes the last tile's adjoint alone: at the first point. -/
theorem first_iff (t : Fin cfg0.N) : k0_cond2 (grid0.coords t) = 1#1 ↔ t.val = 0 := by
  have ht := points t
  simp only [k0_cond2, coord t]; word_cmp

/-- The third does both halves: at every point between. -/
theorem middle_iff (t : Fin cfg0.N) : k0_cond3 (grid0.coords t) = 1#1 ↔ (t.val ≠ 0 ∧ t.val ≠ 32) := by
  have ht := points t
  simp only [k0_cond3, coord t]; word_cmp

/-- The fourth finishes the first tile's input gradient: at the last point. -/
theorem last_iff (t : Fin cfg0.N) : k0_cond4 (grid0.coords t) = 1#1 ↔ t.val = 32 := by
  have ht := points t
  simp only [k0_cond4, coord t]; word_cmp

/-! ## The memrefs of a point -/

abbrev stage0 (t : Fin cfg0.N) : Memref sig .tc .vmem S256x9216 .bf16 := win0_0.stage (cfg0.slots t 0)
abbrev whole0 (t : Fin cfg0.N) : (stage0 t).IsWhole := hstage0_0 ((cfg0.slots t 0).cast nbuf0_0)
abbrev stage1 (t : Fin cfg0.N) : Memref sig .tc .vmem S256x2048 .bf16 := win0_1.stage (cfg0.slots t 1)
abbrev whole1 (t : Fin cfg0.N) : (stage1 t).IsWhole := hstage0_1 ((cfg0.slots t 1).cast nbuf0_1)
abbrev stage2 (t : Fin cfg0.N) : Memref sig .tc .vmem S256x1024 .f32 := win0_2.stage (cfg0.slots t 2)
abbrev whole2 (t : Fin cfg0.N) : (stage2 t).IsWhole := hstage0_2 ((cfg0.slots t 2).cast nbuf0_2)
abbrev stage3 (t : Fin cfg0.N) : Memref sig .tc .vmem S4x256x256 .bf16 := win0_3.stage (cfg0.slots t 3)
abbrev whole3 (t : Fin cfg0.N) : (stage3 t).IsWhole := hstage0_3 ((cfg0.slots t 3).cast nbuf0_3)
abbrev stage4 (t : Fin cfg0.N) : Memref sig .tc .vmem S1x1024 .f32 := win0_4.stage (cfg0.slots t 4)
abbrev whole4 (t : Fin cfg0.N) : (stage4 t).IsWhole := hstage0_4 ((cfg0.slots t 4).cast nbuf0_4)
abbrev stage5 (t : Fin cfg0.N) : Memref sig .tc .vmem S1x1024 .f32 := win0_5.stage (cfg0.slots t 5)
abbrev whole5 (t : Fin cfg0.N) : (stage5 t).IsWhole := hstage0_5 ((cfg0.slots t 5).cast nbuf0_5)
abbrev stage6 (t : Fin cfg0.N) : Memref sig .tc .vmem S1x1024 .f32 := win0_6.stage (cfg0.slots t 6)
abbrev whole6 (t : Fin cfg0.N) : (stage6 t).IsWhole := hstage0_6 ((cfg0.slots t 6).cast nbuf0_6)
abbrev stage7 (t : Fin cfg0.N) : Memref sig .tc .vmem S4x128x128 .bf16 := win0_7.stage (cfg0.slots t 7)
abbrev whole7 (t : Fin cfg0.N) : (stage7 t).IsWhole := hstage0_7 ((cfg0.slots t 7).cast nbuf0_7)
abbrev stage8 (t : Fin cfg0.N) : Memref sig .tc .vmem S128x4 .f32 := win0_8.stage (cfg0.slots t 8)
abbrev whole8 (t : Fin cfg0.N) : (stage8 t).IsWhole := hstage0_8 ((cfg0.slots t 8).cast nbuf0_8)
abbrev stage9 (t : Fin cfg0.N) : Memref sig .tc .vmem S256x5120 .bf16 := win0_9.stage (cfg0.slots t 9)
abbrev whole9 (t : Fin cfg0.N) : (stage9 t).IsWhole := hstage0_9 ((cfg0.slots t 9).cast nbuf0_9)
abbrev stage10 (t : Fin cfg0.N) : Memref sig .tc .vmem S256x1024 .f32 := win0_10.stage (cfg0.slots t 10)
abbrev whole10 (t : Fin cfg0.N) : (stage10 t).IsWhole := hstage0_10 ((cfg0.slots t 10).cast nbuf0_10)
abbrev stage11 (t : Fin cfg0.N) : Memref sig .tc .vmem S4x256x256 .f32 := win0_11.stage (cfg0.slots t 11)
abbrev whole11 (t : Fin cfg0.N) : (stage11 t).IsWhole := hstage0_11 ((cfg0.slots t 11).cast nbuf0_11)
abbrev stage12 (t : Fin cfg0.N) : Memref sig .tc .vmem S1x1024 .f32 := win0_12.stage (cfg0.slots t 12)
abbrev whole12 (t : Fin cfg0.N) : (stage12 t).IsWhole := hstage0_12 ((cfg0.slots t 12).cast nbuf0_12)
abbrev stage13 (t : Fin cfg0.N) : Memref sig .tc .vmem S1x1024 .f32 := win0_13.stage (cfg0.slots t 13)
abbrev whole13 (t : Fin cfg0.N) : (stage13 t).IsWhole := hstage0_13 ((cfg0.slots t 13).cast nbuf0_13)
abbrev stage14 (t : Fin cfg0.N) : Memref sig .tc .vmem S1x1024 .f32 := win0_14.stage (cfg0.slots t 14)
abbrev whole14 (t : Fin cfg0.N) : (stage14 t).IsWhole := hstage0_14 ((cfg0.slots t 14).cast nbuf0_14)
abbrev stage15 (t : Fin cfg0.N) : Memref sig .tc .vmem S4x128x128 .f32 := win0_15.stage (cfg0.slots t 15)
abbrev whole15 (t : Fin cfg0.N) : (stage15 t).IsWhole := hstage0_15 ((cfg0.slots t 15).cast nbuf0_15)
abbrev stage16 (t : Fin cfg0.N) : Memref sig .tc .vmem S128x4 .f32 := win0_16.stage (cfg0.slots t 16)
abbrev whole16 (t : Fin cfg0.N) : (stage16 t).IsWhole := hstage0_16 ((cfg0.slots t 16).cast nbuf0_16)

/-- The scratch: the projection's weight, the two tiles' adjoints, the rows carried between tiles. -/
abbrev weightM : Memref sig .tc .vmem S4x1024x1280 .bf16 := Memref.whole cc0_scratch0
abbrev keepM : Memref sig .tc .vmem S2x256x5120 .bf16 := Memref.whole cc0_scratch1
abbrev carryM : Memref sig .tc .vmem S16x1024 .f32 := Memref.whole cc0_scratch2
/-- The projection's weight in HBM. -/
abbrev hbmM : Memref sig .tc .hbm S4x1024x1280 .bf16 := Memref.whole main_v178

/-- An HBM operand's contents, and the operand held whole at them. -/
abbrev HbmBuf (c : Dev nD) {sp : Space} {S : Shape} {e : EltTy} (M : Memref sig .tc sp S e) : Type := Buf (Elt F) (M.view.loc (c : Thread nD τ))
abbrev hbmAt (c : Dev nD) {sp : Space} {S : Shape} {e : EltTy} (M : Memref sig .tc sp S e) (f : HbmBuf (F := F) c M) : sProp 𝕄 :=
  M.view.loc (c : Thread nD τ) ↦{fullShare} f

/-- The one cell of the kernel's own, and the one operand it copies. -/
abbrev ownSem : Fin 1 → SemLoc sig := ![SemLoc.dma 22]
theorem ownSemFacts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 22) 0) := by
  rw [Pipeline.ownSems0_eq_of_list c ownSem [0] (by decide) (by decide)]; rfl
def copied : Finset (Ref sig .tc) := {main_v178}
theorem copied_sub : copied ⊆ Pipeline.restRefs sig spec0 := by decide
theorem copied_eq (c : Dev nD) :
    (bigSep copied (fun b => ((c : Thread nD τ).loc b) ↦{fullShare} V m c b) : sProp 𝕄) = hbmAt c hbmM (V m c main_v178) := by
  rw [BI.bigSep_eq_bigSepL_of_eq [main_v178] (by decide) (by decide)]; rfl

/-- What the launch hands the region: the scratch at some contents, the generator, the cell at zero, the operand in HBM. -/
theorem handed_eq (c : Dev nD) :
    (Pipeline.ΦD ownSem spec0 copied (V m) c : sProp 𝕄)
      = iprop(iprop((∃ d, owns (c : Thread nD τ) weightM fullShare d) ∗ (∃ d, owns (c : Thread nD τ) keepM fullShare d) ∗ (∃ d, owns (c : Thread nD τ) carryM fullShare d))
        ∗ (∃ r, prngReg c r) ∗ semVal ((c : Thread nD τ), SemLoc.dma 22) 0 ∗ hbmAt c hbmM (V m c main_v178)) := by
  rw [Pipeline.ΦD_eq, scopedRest0_eq, ownSems_eq, copied_eq]; simp only [weightM, keepM, carryM, owns_whole]; try rfl

end Cert.Kernel2Ideal.Front

end
-- ==== Proof.Front.RunLast.lean ====
/- The run of the front backward kernel's body at its last point. -/
module

public import proofs.«01_k».proof.Proof.Front.Runs

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- At the last point: the first tile's input gradient from the adjoints the point before kept, the weight and the passed-on part. -/
noncomputable def runLastOn (c : Dev nD) (i : grid0.Coords) (arg1 : Memref sig .tc .vmem S256x9216 .bf16) (harg1 : arg1.IsWhole) (arg2 : Memref sig .tc .vmem S256x2048 .bf16) (harg2 : arg2.IsWhole) (arg3 : Memref sig .tc .vmem S256x1024 .f32) (harg3 : arg3.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x128x128 .bf16) (harg9 : arg9.IsWhole) (arg10 : Memref sig .tc .vmem S128x4 .f32) (harg10 : arg10.IsWhole) (arg11 : Memref sig .tc .vmem S256x5120 .bf16) (harg11 : arg11.IsWhole) (arg12 : Memref sig .tc .vmem S256x1024 .f32) (harg12 : arg12.IsWhole) (arg13 : Memref sig .tc .vmem S4x256x256 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x4 .f32) (harg18 : arg18.IsWhole) (arg19 : Memref sig .tc .vmem S4x1024x1280 .bf16) (harg19 : arg19.IsWhole) (arg20 : Memref sig .tc .vmem S2x256x5120 .bf16) (harg20 : arg20.IsWhole) (arg21 : Memref sig .tc .vmem S16x1024 .f32) (harg21 : arg21.IsWhole)
    (hc1 : ¬(k0_cond1 i = 1#1)) (hc2 : ¬(k0_cond2 i = 1#1)) (hc3 : ¬(k0_cond3 i = 1#1)) (hc4 : (k0_cond4 i = 1#1))
    (x3 : Vec F S256x1024 .f32) (x19 : Vec F S4x1024x1280 .bf16) (x20 : Vec F S2x256x5120 .bf16) :
    { L12 : List (View.Piece (Elt F) S256x1024 .f32) //
      ∀ (W : Waits sig Unit) (K : PUnit → sProp 𝕄),
        iprop(owns (c : Thread nD τ) arg3 fullShare x3 ∗ (∃ d, owns (c : Thread nD τ) arg12 fullShare d) ∗ owns (c : Thread nD τ) arg19 fullShare x19 ∗ owns (c : Thread nD τ) arg20 fullShare x20 ∗ owes (c : Thread nD τ) 0 W
            ∗ (iprop(owns (c : Thread nD τ) arg3 fullShare x3 ∗ (∃ f, arg12.view.loc (c : Thread nD τ) ↦[arg12.view.set]{fullShare} arg12.view.writes (Elt F) f L12) ∗ owns (c : Thread nD τ) arg19 fullShare x19 ∗ owns (c : Thread nD τ) arg20 fullShare x20 ∗ (∃ W', owes (c : Thread nD τ) 0 W')) -∗ K ⟨⟩))
          ⊢ wp frame (wpE (defs₀ (F := F)) Variants.none c none) Set.univ (cc0_front_backward i arg1 harg1 arg2 harg2 arg3 harg3 hbmM (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 cc0_scratch3) K } := by
  refine ⟨?_, fun W K => ?run⟩
  case run =>
    simp only [cc0_front_backward_eq_skeleton]; unfold cc0_front_backward_skel
    simp only [k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f3, %hf3, H3⟩, ⟨%d12, %f12, -, H12⟩, ⟨%f19, %hf19, H19⟩, ⟨%f20, %hf20, H20⟩, HW, Hk⟩
    obtain rfl := harg3.eq_unread hf3; obtain rfl := harg19.eq_unread hf19; obtain rfl := harg20.eq_unread hf20
    sl_exec (disch := first | sl_exact hc1 | sl_exact hc2 | sl_exact hc3 | sl_exact hc4)
    sl_step
    iapply Hk
    isplitl [H3]
    · iexists _; isplitr; · ipureintro; exact harg3.read_unread _
      iexact H3
    isplitl [H12]; · iexists _; iexact H12
    isplitl [H19]
    · iexists _; isplitr; · ipureintro; exact harg19.read_unread _
      iexact H19
    isplitl [H20]
    · iexists _; isplitr; · ipureintro; exact harg20.read_unread _
      iexact H20
    iexists _; iexact HW

end Cert.Kernel2Ideal.Front

end
-- ==== Proof.Front.RunFirst.lean ====
/- The run of the front backward kernel's body at its first point. -/
module

public import proofs.«01_k».proof.Proof.Front.RunLast

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- At the first point: the weight is copied, the running sums and the carried rows start at zero, the last tile's adjoint is computed, its share added to the sums, and it is kept in the scratch. -/
noncomputable def runFirstOn (c : Dev nD) (i : grid0.Coords) (arg1 : Memref sig .tc .vmem S256x9216 .bf16) (harg1 : arg1.IsWhole) (arg2 : Memref sig .tc .vmem S256x2048 .bf16) (harg2 : arg2.IsWhole) (arg3 : Memref sig .tc .vmem S256x1024 .f32) (harg3 : arg3.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x128x128 .bf16) (harg9 : arg9.IsWhole) (arg10 : Memref sig .tc .vmem S128x4 .f32) (harg10 : arg10.IsWhole) (arg11 : Memref sig .tc .vmem S256x5120 .bf16) (harg11 : arg11.IsWhole) (arg12 : Memref sig .tc .vmem S256x1024 .f32) (harg12 : arg12.IsWhole) (arg13 : Memref sig .tc .vmem S4x256x256 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x4 .f32) (harg18 : arg18.IsWhole) (arg19 : Memref sig .tc .vmem S4x1024x1280 .bf16) (harg19 : arg19.IsWhole) (arg20 : Memref sig .tc .vmem S2x256x5120 .bf16) (harg20 : arg20.IsWhole) (arg21 : Memref sig .tc .vmem S16x1024 .f32) (harg21 : arg21.IsWhole)
    (hc1 : (k0_cond1 i = 1#1)) (hc2 : (k0_cond2 i = 1#1)) (hc3 : ¬(k0_cond3 i = 1#1)) (hc4 : ¬(k0_cond4 i = 1#1))
    (x1 : Vec F S256x9216 .bf16) (x2 : Vec F S256x2048 .bf16) (x5 : Vec F S4x256x256 .bf16) (x6 : Vec F S1x1024 .f32) (x7 : Vec F S1x1024 .f32) (x8 : Vec F S1x1024 .f32) (x9 : Vec F S4x128x128 .bf16) (x10 : Vec F S128x4 .f32) (fh : HbmBuf (F := F) c hbmM) :
    Σ' (L11 : List (View.Piece (Elt F) S256x5120 .bf16)), Σ' (L13 : List (View.Piece (Elt F) S4x256x256 .f32)), Σ' (L14 : List (View.Piece (Elt F) S1x1024 .f32)), Σ' (L15 : List (View.Piece (Elt F) S1x1024 .f32)), Σ' (L16 : List (View.Piece (Elt F) S1x1024 .f32)), Σ' (L17 : List (View.Piece (Elt F) S4x128x128 .f32)), Σ' (L18 : List (View.Piece (Elt F) S128x4 .f32)), Σ' (L19 : List (View.Piece (Elt F) S4x1024x1280 .bf16)), Σ' (L20 : List (View.Piece (Elt F) S2x256x5120 .bf16)), { L21 : List (View.Piece (Elt F) S16x1024 .f32) //
      ∀ (W : Waits sig Unit) (K : PUnit → sProp 𝕄),
        iprop(owns (c : Thread nD τ) arg1 fullShare x1 ∗ owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ semVal ((c : Thread nD τ), SemLoc.dma 22) 0 ∗ hbmAt c hbmM fh ∗ owes (c : Thread nD τ) 0 W
            ∗ (iprop(owns (c : Thread nD τ) arg1 fullShare x1 ∗ owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ semVal ((c : Thread nD τ), SemLoc.dma 22) 0 ∗ hbmAt c hbmM fh ∗ (∃ W', owes (c : Thread nD τ) 0 W')) -∗ K ⟨⟩))
          ⊢ wp frame (wpE (defs₀ (F := F)) Variants.none c none) Set.univ (cc0_front_backward i arg1 harg1 arg2 harg2 arg3 harg3 hbmM (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 cc0_scratch3) K } := by
  refine ⟨?_, ?_, ?_, ?_, ?_, ?_, ?_, ?_, ?_, ?_, fun W K => ?run⟩
  case run =>
    simp only [cc0_front_backward_eq_skeleton]; unfold cc0_front_backward_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hq, Hh, HW, Hk⟩
    obtain rfl := harg1.eq_unread hf1; obtain rfl := harg2.eq_unread hf2; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [Hq]; · iexact Hq
    isplitl [Hh]; · iexact Hh
    iexists _; iexact HW

end Cert.Kernel2Ideal.Front

end
-- ==== Proof.Front.RunMiddle.lean ====
/- The run of the front backward kernel's body at a point between. -/
module

public import proofs.«01_k».proof.Proof.Front.RunFirst

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 4000000 in
/-- At a point between: the tile after's input gradient from the adjoint the point before kept, and this tile's adjoint, added to the sums, carried and kept. -/
noncomputable def runMiddleOn (c : Dev nD) (i : grid0.Coords) (arg1 : Memref sig .tc .vmem S256x9216 .bf16) (harg1 : arg1.IsWhole) (arg2 : Memref sig .tc .vmem S256x2048 .bf16) (harg2 : arg2.IsWhole) (arg3 : Memref sig .tc .vmem S256x1024 .f32) (harg3 : arg3.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x128x128 .bf16) (harg9 : arg9.IsWhole) (arg10 : Memref sig .tc .vmem S128x4 .f32) (harg10 : arg10.IsWhole) (arg11 : Memref sig .tc .vmem S256x5120 .bf16) (harg11 : arg11.IsWhole) (arg12 : Memref sig .tc .vmem S256x1024 .f32) (harg12 : arg12.IsWhole) (arg13 : Memref sig .tc .vmem S4x256x256 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S4x128x128 .f32) (harg17 : arg17.IsWhole) (arg18 : Memref sig .tc .vmem S128x4 .f32) (harg18 : arg18.IsWhole) (arg19 : Memref sig .tc .vmem S4x1024x1280 .bf16) (harg19 : arg19.IsWhole) (arg20 : Memref sig .tc .vmem S2x256x5120 .bf16) (harg20 : arg20.IsWhole) (arg21 : Memref sig .tc .vmem S16x1024 .f32) (harg21 : arg21.IsWhole)
    (hc1 : ¬(k0_cond1 i = 1#1)) (hc2 : ¬(k0_cond2 i = 1#1)) (hc3 : (k0_cond3 i = 1#1)) (hc4 : ¬(k0_cond4 i = 1#1))
    (x1 : Vec F S256x9216 .bf16) (x2 : Vec F S256x2048 .bf16) (x3 : Vec F S256x1024 .f32) (x5 : Vec F S4x256x256 .bf16) (x6 : Vec F S1x1024 .f32) (x7 : Vec F S1x1024 .f32) (x8 : Vec F S1x1024 .f32) (x9 : Vec F S4x128x128 .bf16) (x10 : Vec F S128x4 .f32) (x13 : Vec F S4x256x256 .f32) (x14 : Vec F S1x1024 .f32) (x15 : Vec F S1x1024 .f32) (x16 : Vec F S1x1024 .f32) (x17 : Vec F S4x128x128 .f32) (x18 : Vec F S128x4 .f32) (x19 : Vec F S4x1024x1280 .bf16) (x21 : Vec F S16x1024 .f32) :
    Σ' (L11 : List (View.Piece (Elt F) S256x5120 .bf16)), Σ' (L13 : List (View.Piece (Elt F) S4x256x256 .f32)), Σ' (L14 : List (View.Piece (Elt F) S1x1024 .f32)), Σ' (L15 : List (View.Piece (Elt F) S1x1024 .f32)), Σ' (L16 : List (View.Piece (Elt F) S1x1024 .f32)), Σ' (L17 : List (View.Piece (Elt F) S4x128x128 .f32)), Σ' (L18 : List (View.Piece (Elt F) S128x4 .f32)), Σ' (L20 : List (View.Piece (Elt F) S2x256x5120 .bf16)), Σ' (L21 : List (View.Piece (Elt F) S16x1024 .f32)), ∀ (x20 : Vec F S2x256x5120 .bf16), { L12 : List (View.Piece (Elt F) S256x1024 .f32) //
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owes (c : Thread nD τ) 0 W
            ∗ (iprop(owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ owns (c : Thread nD τ) arg19 fullShare x19 ∗ (arg20.view.loc (c : Thread nD τ) ↦[arg20.view.set]{fullShare} arg20.view.writes (Elt F) (harg20.unread x20) L20) ∗ (∃ f, arg21.view.loc (c : Thread nD τ) ↦[arg21.view.set]{fullShare} arg21.view.writes (Elt F) f L21) ∗ (∃ W', owes (c : Thread nD τ) 0 W')) -∗ K ⟨⟩))
          ⊢ wp frame (wpE (defs₀ (F := F)) Variants.none c none) Set.univ (cc0_front_backward i arg1 harg1 arg2 harg2 arg3 harg3 hbmM (Memref.isWhole_whole _) arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 cc0_scratch3) K } := by
  refine ⟨?_, ?_, ?_, ?_, ?_, ?_, ?_, ?_, ?_, fun x20 => ⟨?_, fun W K => ?run⟩⟩
  case run =>
    simp only [cc0_front_backward_eq_skeleton]; unfold cc0_front_backward_skel
    simp only [k0_part55_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, HW, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]
    · iexists _; isplitr; · ipureintro; exact harg19.read_unread _
      iexact H19
    isplitl [H20]; · iexact H20
    isplitl [H21]; · iexists _; iexact H21
    iexists _; iexact HW

end Cert.Kernel2Ideal.Front

end
-- ==== Proof.Front.Left.lean ====
/- What a grid point of the front backward kernel leaves: the runs on that point's buffers, the one part of them that depends on
   the slot kept by the point before, and the recursion over the points. -/
module

public import proofs.«01_k».proof.Proof.Front.RunMiddle
public import Idealize.ShloMosaic.Lib.Pipeline.Value
public import Idealize.ShloMosaic.Lib.Pipeline.TableIdle
public import Idealize.ShloMosaic.Lib.Pointwise
public import Idealize.ShloMosaic.Lib.Ring

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The shapes of the two kept adjoints' halves: a slot's row `r` and column `k` are its index `(slot, r, k)`. -/
theorem slot_lt (n : ℕ) : n % 2 < 2 := Nat.mod_lt _ (by decide)

/-- What a grid point leaves behind: the staging buffers of the eight windows it writes, the weight, the adjoint it keeps for the next point, the rows it carries. -/
structure Left (F : FTy → Type) [FloatOps F] where
  dh : Vec F S256x5120 .bf16
  dx : Vec F S256x1024 .f32
  dpw : Vec F S4x256x256 .f32
  dps : Vec F S1x1024 .f32
  dlg : Vec F S1x1024 .f32
  dlb : Vec F S1x1024 .f32
  dsw : Vec F S4x128x128 .f32
  dsb : Vec F S128x4 .f32
  weight : Vec F S4x1024x1280 .bf16
  keep : Vec F S256x5120 .bf16
  carry : Vec F S16x1024 .f32

/-- The run of the body at the first point, on that point's buffers. -/
def runFirst (c : Dev nD) (t : Fin cfg0.N) (h : t.val = 0) :=
  runFirstOn (F := F) c (grid0.coords t) (stage0 t) (whole0 t) (stage1 t) (whole1 t) (stage2 t) (whole2 t) (stage3 t) (whole3 t) (stage4 t) (whole4 t) (stage5 t) (whole5 t) (stage6 t) (whole6 t) (stage7 t) (whole7 t) (stage8 t) (whole8 t) (stage9 t) (whole9 t) (stage10 t) (whole10 t) (stage11 t) (whole11 t) (stage12 t) (whole12 t) (stage13 t) (whole13 t) (stage14 t) (whole14 t) (stage15 t) (whole15 t) (stage16 t) (whole16 t) weightM (Memref.isWhole_whole _) keepM (Memref.isWhole_whole _) carryM (Memref.isWhole_whole _) ((zero_iff t).mpr h) ((first_iff t).mpr h) (fun e => ((middle_iff t).mp e).1 h) (fun e => absurd ((last_iff t).mp e) (by omega)) (iblk m c 0 t) (iblk m c 1 t) (iblk m c 3 t) (iblk m c 4 t) (iblk m c 5 t) (iblk m c 6 t) (iblk m c 7 t) (iblk m c 8 t) (V m c main_v178)

/-- The run of the body at a point between, over what the point before left (`p`). -/
def runMiddle (c : Dev nD) (t : Fin cfg0.N) (h : t.val ≠ 0) (hl : t.val ≠ 32) (p : Left F) :=
  runMiddleOn (F := F) c (grid0.coords t) (stage0 t) (whole0 t) (stage1 t) (whole1 t) (stage2 t) (whole2 t) (stage3 t) (whole3 t) (stage4 t) (whole4 t) (stage5 t) (whole5 t) (stage6 t) (whole6 t) (stage7 t) (whole7 t) (stage8 t) (whole8 t) (stage9 t) (whole9 t) (stage10 t) (whole10 t) (stage11 t) (whole11 t) (stage12 t) (whole12 t) (stage13 t) (whole13 t) (stage14 t) (whole14 t) (stage15 t) (whole15 t) (stage16 t) (whole16 t) weightM (Memref.isWhole_whole _) keepM (Memref.isWhole_whole _) carryM (Memref.isWhole_whole _) (fun e => h ((zero_iff t).mp e)) (fun e => h ((first_iff t).mp e)) ((middle_iff t).mpr ⟨h, hl⟩) (fun e => hl ((last_iff t).mp e)) (iblk m c 0 t) (iblk m c 1 t) (iblk m c 2 t) (iblk m c 3 t) (iblk m c 4 t) (iblk m c 5 t) (iblk m c 6 t) (iblk m c 7 t) (iblk m c 8 t) p.dpw p.dps p.dlg p.dlb p.dsw p.dsb p.weight p.carry

/-- The run of the body at the last point, over what the point before left (`p`). -/
def runLast (c : Dev nD) (t : Fin cfg0.N) (h : t.val = 32) (p : Left F) (K : Vec F S2x256x5120 .bf16) :=
  runLastOn (F := F) c (grid0.coords t) (stage0 t) (whole0 t) (stage1 t) (whole1 t) (stage2 t) (whole2 t) (stage3 t) (whole3 t) (stage4 t) (whole4 t) (stage5 t) (whole5 t) (stage6 t) (whole6 t) (stage7 t) (whole7 t) (stage8 t) (whole8 t) (stage9 t) (whole9 t) (stage10 t) (whole10 t) (stage11 t) (whole11 t) (stage12 t) (whole12 t) (stage13 t) (whole13 t) (stage14 t) (whole14 t) (stage15 t) (whole15 t) (stage16 t) (whole16 t) weightM (Memref.isWhole_whole _) keepM (Memref.isWhole_whole _) carryM (Memref.isWhole_whole _) (fun e => absurd ((zero_iff t).mp e) (by omega)) (fun e => absurd ((first_iff t).mp e) (by omega)) (fun e => ((middle_iff t).mp e).2 h) ((last_iff t).mpr h) (iblk m c 2 t) p.weight K

/-! ## The input gradient reads one slot of the kept adjoints -/

/-- The slot a point writes and the one it reads, in closed form. -/
theorem slot_written : ∀ t : Fin cfg0.N, k0_off1 (grid0.coords t) = ![t.val % 2, 0, 0] ∧ k0_off6 (grid0.coords t) = ![t.val % 2, 0, 0] := by decide +kernel

theorem slot_read : ∀ t : Fin cfg0.N, k0_off2 (grid0.coords t) = ![(t.val + 1) % 2, 0, 0] ∧ k0_off3 (grid0.coords t) = ![(t.val + 1) % 2, 0, 1280]
    ∧ k0_off4 (grid0.coords t) = ![(t.val + 1) % 2, 0, 2560] ∧ k0_off5 (grid0.coords t) = ![(t.val + 1) % 2, 0, 3840] := by decide +kernel

/-- The part of a product with one quarter of the projection's columns, -/
def share (d w : Vec F S1x256x1280 .bf16) : FVec F S256x256 .f32 :=
  matmul dot_S256x1280_S256x1280_S256x256_1_1_0_0_n_n none (shapeCast S256x1280 d shapeCasts_S1x256x1280_S256x1280)
    (shapeCast S256x1280 w shapeCasts_S1x256x1280_S256x1280) (constant S256x256 .f32 0x00000000#32)

/-- and 256 columns of the input gradient: what is passed on, plus the four parts. -/
def columns (b : Vec F S256x256 .f32) (d w : Fin 4 → Vec F S1x256x1280 .bf16) : FVec F S256x256 .f32 :=
  addf (addf (addf (addf (shapeCast S256x256 b shapeCasts_S256x256_S256x256) (share (d 0) (w 0))) (share (d 1) (w 1))) (share (d 2) (w 2))) (share (d 3) (w 3))

/-- The input gradient's stores: four times 256 columns. -/
def columnStores (b : Fin 4 → Vec F S256x256 .f32) (d : Fin 4 → Vec F S1x256x1280 .bf16) (w : Fin 4 → Fin 4 → Vec F S1x256x1280 .bf16) :
    List (View.Piece (Elt F) S256x1024 .f32) :=
  [⟨Rect.unit ![0, 768] S256x256.size inb_S256x1024_S256x256_0_768, columns (b 3) d (w 3)⟩,
   ⟨Rect.unit ![0, 512] S256x256.size inb_S256x1024_S256x256_0_512, columns (b 2) d (w 2)⟩,
   ⟨Rect.unit ![0, 256] S256x256.size inb_S256x1024_S256x256_0_256, columns (b 1) d (w 1)⟩,
   ⟨Rect.unit ![0, 0] S256x256.size inb_S256x1024_S256x256_0_0, columns (b 0) d (w 0)⟩]

/-- The loads they are made of: of what is passed on (`X`), -/
def passed (t : Fin cfg0.N) (X : Vec F S256x1024 .f32) : Fin 4 → Vec F S256x256 .f32 :=
  ![View.readAt (Elt F) (stage2 t).view (Rect.unit (s := S256x1024) ![0, 0] S256x256.size inb_S256x1024_S256x256_0_0).toLoadRect ((whole2 t).unread X),
    View.readAt (Elt F) (stage2 t).view (Rect.unit (s := S256x1024) ![0, 256] S256x256.size inb_S256x1024_S256x256_0_256).toLoadRect ((whole2 t).unread X),
    View.readAt (Elt F) (stage2 t).view (Rect.unit (s := S256x1024) ![0, 512] S256x256.size inb_S256x1024_S256x256_0_512).toLoadRect ((whole2 t).unread X),
    View.readAt (Elt F) (stage2 t).view (Rect.unit (s := S256x1024) ![0, 768] S256x256.size inb_S256x1024_S256x256_0_768).toLoadRect ((whole2 t).unread X)]

/-- of the weight (`Y`), -/
def weights (Y : Vec F S4x1024x1280 .bf16) : Fin 4 → Fin 4 → Vec F S1x256x1280 .bf16 :=
  ![![View.readAt (Elt F) weightM.view (Rect.unit (s := S4x1024x1280) ![0, 0, 0] S1x256x1280.size inb_S4x1024x1280_S1x256x1280_0_0_0).toLoadRect ((Memref.isWhole_whole _).unread Y),
      View.readAt (Elt F) weightM.view (Rect.unit (s := S4x1024x1280) ![1, 0, 0] S1x256x1280.size inb_S4x1024x1280_S1x256x1280_1_0_0).toLoadRect ((Memref.isWhole_whole _).unread Y),
      View.readAt (Elt F) weightM.view (Rect.unit (s := S4x1024x1280) ![2, 0, 0] S1x256x1280.size inb_S4x1024x1280_S1x256x1280_2_0_0).toLoadRect ((Memref.isWhole_whole _).unread Y),
      View.readAt (Elt F) weightM.view (Rect.unit (s := S4x1024x1280) ![3, 0, 0] S1x256x1280.size inb_S4x1024x1280_S1x256x1280_3_0_0).toLoadRect ((Memref.isWhole_whole _).unread Y)],
    ![View.readAt (Elt F) weightM.view (Rect.unit (s := S4x1024x1280) ![0, 256, 0] S1x256x1280.size inb_S4x1024x1280_S1x256x1280_0_256_0).toLoadRect ((Memref.isWhole_whole _).unread Y),
      View.readAt (Elt F) weightM.view (Rect.unit (s := S4x1024x1280) ![1, 256, 0] S1x256x1280.size inb_S4x1024x1280_S1x256x1280_1_256_0).toLoadRect ((Memref.isWhole_whole _).unread Y),
      View.readAt (Elt F) weightM.view (Rect.unit (s := S4x1024x1280) ![2, 256, 0] S1x256x1280.size inb_S4x1024x1280_S1x256x1280_2_256_0).toLoadRect ((Memref.isWhole_whole _).unread Y),
      View.readAt (Elt F) weightM.view (Rect.unit (s := S4x1024x1280) ![3, 256, 0] S1x256x1280.size inb_S4x1024x1280_S1x256x1280_3_256_0).toLoadRect ((Memref.isWhole_whole _).unread Y)],
    ![View.readAt (Elt F) weightM.view (Rect.unit (s := S4x1024x1280) ![0, 512, 0] S1x256x1280.size inb_S4x1024x1280_S1x256x1280_0_512_0).toLoadRect ((Memref.isWhole_whole _).unread Y),
      View.readAt (Elt F) weightM.view (Rect.unit (s := S4x1024x1280) ![1, 512, 0] S1x256x1280.size inb_S4x1024x1280_S1x256x1280_1_512_0).toLoadRect ((Memref.isWhole_whole _).unread Y),
      View.readAt (Elt F) weightM.view (Rect.unit (s := S4x1024x1280) ![2, 512, 0] S1x256x1280.size inb_S4x1024x1280_S1x256x1280_2_512_0).toLoadRect ((Memref.isWhole_whole _).unread Y),
      View.readAt (Elt F) weightM.view (Rect.unit (s := S4x1024x1280) ![3, 512, 0] S1x256x1280.size inb_S4x1024x1280_S1x256x1280_3_512_0).toLoadRect ((Memref.isWhole_whole _).unread Y)],
    ![View.readAt (Elt F) weightM.view (Rect.unit (s := S4x1024x1280) ![0, 768, 0] S1x256x1280.size inb_S4x1024x1280_S1x256x1280_0_768_0).toLoadRect ((Memref.isWhole_whole _).unread Y),
      View.readAt (Elt F) weightM.view (Rect.unit (s := S4x1024x1280) ![1, 768, 0] S1x256x1280.size inb_S4x1024x1280_S1x256x1280_1_768_0).toLoadRect ((Memref.isWhole_whole _).unread Y),
      View.readAt (Elt F) weightM.view (Rect.unit (s := S4x1024x1280) ![2, 768, 0] S1x256x1280.size inb_S4x1024x1280_S1x256x1280_2_768_0).toLoadRect ((Memref.isWhole_whole _).unread Y),
      View.readAt (Elt F) weightM.view (Rect.unit (s := S4x1024x1280) ![3, 768, 0] S1x256x1280.size inb_S4x1024x1280_S1x256x1280_3_768_0).toLoadRect ((Memref.isWhole_whole _).unread Y)]]

theorem quarter_inb (n q : ℕ) (hq : q ≤ 3840) : ∀ a, (![n % 2, 0, q] : Fin 3 → ℕ) a + S1x256x1280.size a ≤ S2x256x5120.size a := by
  have := slot_lt n
  intro a; fin_cases a
  · show n % 2 + 1 ≤ 2; omega
  · show 0 + 256 ≤ 256; omega
  · show q + 1280 ≤ 5120; omega

/-- and of the kept adjoint (`K`). -/
def kept (t : Fin cfg0.N) (K : Vec F S2x256x5120 .bf16) : Fin 4 → Vec F S1x256x1280 .bf16 :=
  ![View.readAt (Elt F) keepM.view (Rect.unit (s := S2x256x5120) (k0_off2 (grid0.coords t)) S1x256x1280.size (((slot_read t).1) ▸ quarter_inb _ 0 (by decide))).toLoadRect ((Memref.isWhole_whole _).unread K),
    View.readAt (Elt F) keepM.view (Rect.unit (s := S2x256x5120) (k0_off3 (grid0.coords t)) S1x256x1280.size (((slot_read t).2.1) ▸ quarter_inb _ 1280 (by decide))).toLoadRect ((Memref.isWhole_whole _).unread K),
    View.readAt (Elt F) keepM.view (Rect.unit (s := S2x256x5120) (k0_off4 (grid0.coords t)) S1x256x1280.size (((slot_read t).2.2.1) ▸ quarter_inb _ 2560 (by decide))).toLoadRect ((Memref.isWhole_whole _).unread K),
    View.readAt (Elt F) keepM.view (Rect.unit (s := S2x256x5120) (k0_off5 (grid0.coords t)) S1x256x1280.size (((slot_read t).2.2.2) ▸ quarter_inb _ 3840 (by decide))).toLoadRect ((Memref.isWhole_whole _).unread K)]

theorem runMiddle_dx (c : Dev nD) (t : Fin cfg0.N) (h : t.val ≠ 0) (hl : t.val ≠ 32) (p : Left F) (K : Vec F S2x256x5120 .bf16) :
    ((runMiddle m c t h hl p).2.2.2.2.2.2.2.2.2 K).1 = columnStores (passed t (iblk m c 2 t)) (kept t K) (weights p.weight) := by sl_kernel_rfl

theorem runLast_dx (c : Dev nD) (t : Fin cfg0.N) (h : t.val = 32) (p : Left F) (K : Vec F S2x256x5120 .bf16) :
    (runLast m c t h p K).1 = columnStores (passed t (iblk m c 2 t)) (kept t K) (weights p.weight) := by sl_kernel_rfl

/-- A load of the kept adjoint reads its slot's rows and columns. -/
theorem load_kept (K : Vec F S2x256x5120 .bf16) (s q : ℕ) (hs : s < 2) (hq : q + 1280 ≤ 5120) (off : Fin 3 → ℕ) (e : off = ![s, 0, q]) (inb)
    (x : S1x256x1280.Idx) :
    View.readAt (Elt F) keepM.view (Rect.unit (s := S2x256x5120) off S1x256x1280.size inb).toLoadRect ((Memref.isWhole_whole _).unread K) x
      = K (ix3 ⟨s, hs⟩ ⟨(x 1).val, (x 1).isLt⟩ ⟨q + (x 2).val, Nat.lt_of_lt_of_le (Nat.add_lt_add_left (x 2).isLt q) hq⟩) := by
  subst e
  rw [View.readAt_apply, (Memref.isWhole_whole _).read_unread]
  refine congrArg K (funext fun a => Fin.ext ?_)
  have h0 : (x 0).val < 1 := (x 0).isLt
  rw [LoadRect.idx_apply]
  fin_cases a
  · show s + 1 * (x 0).val = s; omega
  · show 0 + 1 * (x 1).val = (x 1).val; omega
  · show q + 1 * (x 2).val = q + (x 2).val; omega

/-- So it is the same for any two that agree in that slot. -/
theorem kept_congr (t : Fin cfg0.N) (K K' : Vec F S2x256x5120 .bf16)
    (e : ∀ r k, K (ix3 ⟨(t.val + 1) % 2, slot_lt _⟩ r k) = K' (ix3 ⟨(t.val + 1) % 2, slot_lt _⟩ r k)) : kept t K = kept t K' := by
  obtain ⟨e2, e3, e4, e5⟩ := slot_read t
  unfold kept
  congr 1
  · funext x; rw [load_kept K _ 0 (slot_lt _) (by decide) _ e2, load_kept K' _ 0 (slot_lt _) (by decide) _ e2]; exact e _ _
  · congr 1
    · funext x; rw [load_kept K _ 1280 (slot_lt _) (by decide) _ e3, load_kept K' _ 1280 (slot_lt _) (by decide) _ e3]; exact e _ _
    · congr 1
      · funext x; rw [load_kept K _ 2560 (slot_lt _) (by decide) _ e4, load_kept K' _ 2560 (slot_lt _) (by decide) _ e4]; exact e _ _
      · congr 1
        funext x; rw [load_kept K _ 3840 (slot_lt _) (by decide) _ e5, load_kept K' _ 3840 (slot_lt _) (by decide) _ e5]; exact e _ _

/-! ## What each point leaves -/

/-- The scratch with an adjoint in both slots. -/
def inBoth (d : Vec F S256x5120 .bf16) : Vec F S2x256x5120 .bf16 := fun y => d (ix2 (y 1) (y 2))

/-- The slot `n % 2` of the scratch. -/
def slotOf (n : ℕ) (K : Vec F S2x256x5120 .bf16) : Vec F S256x5120 .bf16 := fun y => K (ix3 ⟨n % 2, slot_lt n⟩ (y 0) (y 1))

/-- What the first point leaves. -/
def leftFirst (c : Dev nD) (t : Fin cfg0.N) (h : t.val = 0) : Left F where
  dh := View.canon (runFirst m c t h).1
  dpw := View.canon (runFirst m c t h).2.1
  dps := View.canon (runFirst m c t h).2.2.1
  dlg := View.canon (runFirst m c t h).2.2.2.1
  dlb := View.canon (runFirst m c t h).2.2.2.2.1
  dsw := View.canon (runFirst m c t h).2.2.2.2.2.1
  dsb := View.canon (runFirst m c t h).2.2.2.2.2.2.1
  weight := View.canon (runFirst m c t h).2.2.2.2.2.2.2.1
  keep := slotOf t.val (View.canon (runFirst m c t h).2.2.2.2.2.2.2.2.1)
  carry := View.canon (runFirst m c t h).2.2.2.2.2.2.2.2.2.1
  dx := View.canon []

/-- The same but for the input gradient, which a list of stores gives. -/
def withDx (p : Left F) (L : List (View.Piece (Elt F) S256x1024 .f32)) : Left F := { p with dx := View.canon L }

/-- What a point between leaves, but for the input gradient, -/
def restMiddle (c : Dev nD) (t : Fin cfg0.N) (h : t.val ≠ 0) (hl : t.val ≠ 32) (p : Left F) : Left F where
  dh := View.canon (runMiddle m c t h hl p).1
  dpw := View.canon (runMiddle m c t h hl p).2.1
  dps := View.canon (runMiddle m c t h hl p).2.2.1
  dlg := View.canon (runMiddle m c t h hl p).2.2.2.1
  dlb := View.canon (runMiddle m c t h hl p).2.2.2.2.1
  dsw := View.canon (runMiddle m c t h hl p).2.2.2.2.2.1
  dsb := View.canon (runMiddle m c t h hl p).2.2.2.2.2.2.1
  keep := slotOf t.val (View.canon (runMiddle m c t h hl p).2.2.2.2.2.2.2.1)
  carry := View.canon (runMiddle m c t h hl p).2.2.2.2.2.2.2.2.1
  dx := View.canon []
  weight := p.weight

/-- and with it: of the scratch `K` it depends on the slot of the point before. -/
def leftMiddle (c : Dev nD) (t : Fin cfg0.N) (h : t.val ≠ 0) (hl : t.val ≠ 32) (p : Left F) (K : Vec F S2x256x5120 .bf16) : Left F :=
  withDx (restMiddle m c t h hl p) ((runMiddle m c t h hl p).2.2.2.2.2.2.2.2.2 K).1

/-- What the last point leaves: it writes the input gradient alone. -/
def leftLast (c : Dev nD) (t : Fin cfg0.N) (h : t.val = 32) (p : Left F) (K : Vec F S2x256x5120 .bf16) : Left F :=
  withDx p (runLast m c t h p K).1

/-- What a point between leaves depends on the slot of the point before alone, -/
theorem leftMiddle_any (c : Dev nD) (t : Fin cfg0.N) (h : t.val ≠ 0) (hl : t.val ≠ 32) (p : Left F) (K K' : Vec F S2x256x5120 .bf16)
    (e : slotOf (t.val + 1) K = slotOf (t.val + 1) K') : leftMiddle m c t h hl p K = leftMiddle m c t h hl p K' := by
  have hd : ((runMiddle m c t h hl p).2.2.2.2.2.2.2.2.2 K).1 = ((runMiddle m c t h hl p).2.2.2.2.2.2.2.2.2 K').1 := by
    exact (runMiddle_dx m c t h hl p K).trans ((congrArg (fun d => columnStores (passed t (iblk m c 2 t)) d (weights p.weight)) (kept_congr t K K' fun r k => congrFun e (ix2 r k))).trans (runMiddle_dx m c t h hl p K').symm)
  exact congrArg (withDx (restMiddle m c t h hl p)) hd

/-- and so does the last. -/
theorem leftLast_any (c : Dev nD) (t : Fin cfg0.N) (h : t.val = 32) (p : Left F) (K K' : Vec F S2x256x5120 .bf16)
    (e : slotOf (t.val + 1) K = slotOf (t.val + 1) K') : leftLast m c t h p K = leftLast m c t h p K' := by
  refine congrArg (withDx p) ?_
  rw [runLast_dx, runLast_dx, kept_congr t K K' fun r k => congrFun e (ix2 r k)]

/-- What each point leaves, by recursion on the point. -/
def leftAt (c : Dev nD) : (n : ℕ) → n < cfg0.N → Left F
  | 0, hn => leftFirst m c ⟨0, hn⟩ rfl
  | n + 1, hn =>
    if h : n + 1 = 32 then leftLast m c ⟨n + 1, hn⟩ h (leftAt c n (Nat.lt_of_succ_lt hn)) (inBoth (leftAt c n (Nat.lt_of_succ_lt hn)).keep)
    else leftMiddle m c ⟨n + 1, hn⟩ (Nat.succ_ne_zero n) h (leftAt c n (Nat.lt_of_succ_lt hn)) (inBoth (leftAt c n (Nat.lt_of_succ_lt hn)).keep)

/-- What the point before `t` left. -/
abbrev before (c : Dev nD) (t : Fin cfg0.N) : Left F := leftAt m c (t.val - 1) (Nat.lt_of_le_of_lt (Nat.sub_le _ _) t.isLt)

theorem leftAt_first (c : Dev nD) (t : Fin cfg0.N) (h : t.val = 0) : leftAt m c t.val t.isLt = leftFirst m c t h := by
  obtain ⟨n, hn⟩ := t
  cases n with
  | zero => rfl
  | succ n => exact absurd h (Nat.succ_ne_zero n)

theorem leftAt_middle (c : Dev nD) (t : Fin cfg0.N) (h : t.val ≠ 0) (hl : t.val ≠ 32) :
    leftAt m c t.val t.isLt = leftMiddle m c t h hl (before m c t) (inBoth (before m c t).keep) := by
  obtain ⟨n, hn⟩ := t
  cases n with
  | zero => exact absurd rfl h
  | succ n => exact dif_neg hl

theorem leftAt_last (c : Dev nD) (t : Fin cfg0.N) (h : t.val = 32) :
    leftAt m c t.val t.isLt = leftLast m c t h (before m c t) (inBoth (before m c t).keep) := by
  obtain ⟨n, hn⟩ := t
  cases n with
  | zero => exact absurd (show (0 : ℕ) = 32 from h) (by decide)
  | succ n => exact dif_pos h

end Cert.Kernel2Ideal.Front

end
-- ==== Proof.Front.Spec.lean ====
/-
What the front's backward call computes for the gating unit's four parameters and the pool mixer's two, entry by entry, over
the extended reals.

A token's projected row holds, among others, the gate's columns `u`, the gating unit's input `v` and the pre-activation `z` of
the branch's second half. The gating unit has four heads of 256 columns; it works on chunks of 128 tokens, and mixes the
tokens of a chunk with a lower triangular weight per head. The stages below are the part of the forward pass its four gradients
need, the gradient `dsv` at the gating unit's result and the gradient `dVn` at its normalised input.

The pool mixer takes the columns `a` and, of the branch's first half, the pre-activation `zp`. Its head `g` averages each column
over the last 2, 4, 8 or 16 tokens, fewer at the start, takes the column itself off, and mixes the head's columns with a weight.
-/
module

public import Idealize.ShloMosaic.Lib.Pointwise
public import Idealize.ShloMosaic.Lib.ValueIdx

@[expose] public section

noncomputable section

namespace Cert.Front

open Idealize.ShloMosaic

/-- The argument arrays the six gradients depend on, as the launch memory holds them. -/
structure Inputs where
  x : (⟨3, ![1, 8192, 1024]⟩ : Shape).Idx → EReal
  dy : (⟨3, ![1, 8192, 2048]⟩ : Shape).Idx → EReal
  wIn : (⟨3, ![1, 1024, 5120]⟩ : Shape).Idx → EReal
  lnG : (⟨2, ![1, 1024]⟩ : Shape).Idx → EReal
  lnB : (⟨2, ![1, 1024]⟩ : Shape).Idx → EReal
  w : (⟨4, ![1, 4, 128, 128]⟩ : Shape).Idx → EReal
  pool : (⟨4, ![1, 4, 256, 256]⟩ : Shape).Idx → EReal
  scale : (⟨2, ![1, 1024]⟩ : Shape).Idx → EReal

/-- Token `i` of chunk `n`. -/
def row (n : Fin 64) (i : Fin 128) : Fin 8192 := ⟨n.val * 128 + i.val, by omega⟩

/-- Column `c` of head `g`. -/
def col (g : Fin 4) (c : Fin 256) : Fin 1024 := ⟨g.val * 256 + c.val, by omega⟩

/-- The tanh form of gelu. -/
def gelu (x : EReal) : EReal :=
  x * (Ideal.ofBits .f32 0x3F000000#32 * (1 + Ideal.tanh (Ideal.ofBits .f32 0x3F4C422A#32 * (x + Ideal.ofBits .f32 0x3D372713#32 * (x * x * x)))))

def silu (x : EReal) : EReal := x * Ideal.logistic x

/-- The mean over a head's 256 columns. -/
def mean (v : Fin 256 → EReal) : EReal := Ideal.div (∑ c, v c) (Ideal.ofBits .f32 0x43800000#32)

section Norm

variable (v : Fin 256 → EReal)

def ctr (c : Fin 256) : EReal := v c - mean v

/-- The reciprocal deviation of a row, with the layer norm's offset. -/
def rstd : EReal := Ideal.rsqrt (mean (fun c => ctr v c * ctr v c) + Ideal.ofBits .f32 0x3727C5AC#32)

/-- A row, normalised. -/
def norm (c : Fin 256) : EReal := ctr v c * rstd v

end Norm

/-- How many tokens head `g` averages over. -/
def span (g : Fin 4) : ℕ := 2 ^ (g.val + 1)

/-- The sum over the last `n` tokens up to `r`, as far as there are. -/
def window (n : ℕ) (f : Fin 8192 → EReal) (r : Fin 8192) : EReal :=
  ∑ j ∈ Finset.range n, if j ≤ r.val then f ⟨r.val - j, by omega⟩ else 0

/-- How many tokens there are. -/
def count (g : Fin 4) (r : Fin 8192) : EReal := ((min (r.val + 1) (span g) : ℕ) : ℝ)

namespace Inputs

variable (A : Inputs)

/-- The projection of a token. -/
def proj (r : Fin 8192) (j : Fin 5120) : EReal := ∑ k : Fin 1024, A.x (ix3 0 r k) * A.wIn (ix3 0 k j)

def u (r : Fin 8192) (j : Fin 1024) : EReal := A.proj r ⟨1024 + j.val, by omega⟩
def v (r : Fin 8192) (j : Fin 1024) : EReal := A.proj r ⟨2048 + j.val, by omega⟩
def z (r : Fin 8192) (j : Fin 1024) : EReal := A.proj r ⟨4096 + j.val, by omega⟩

/-- The gating unit's input, normalised per head. -/
def vhat (r : Fin 8192) (g : Fin 4) (c : Fin 256) : EReal := norm (fun c => gelu (A.v r (col g c))) c

/-- The normalised input after the norm's gain and shift. -/
def vn (r : Fin 8192) (g : Fin 4) (c : Fin 256) : EReal := A.vhat r g c * A.lnG (ix2 0 (col g c)) + A.lnB (ix2 0 (col g c))

/-- The gradient at the gating unit's result. -/
def dsv (r : Fin 8192) (j : Fin 1024) : EReal :=
  gelu (A.u r j) * (A.dy (ix3 0 r ⟨1024 + j.val, by omega⟩) * silu (A.z r j))

/-- The mixing weight of a head, its upper triangle cleared. -/
def mix (g : Fin 4) (i k : Fin 128) : EReal := if k ≤ i then A.w (ix4 0 g i k) else 0

/-- The gradient at the normalised input after gain and shift. -/
def dVn (n : Fin 64) (k : Fin 128) (g : Fin 4) (c : Fin 256) : EReal :=
  ∑ i, A.dsv (row n i) (col g c) * A.mix g i k

/-! ### The pool mixer -/

def a (r : Fin 8192) (j : Fin 1024) : EReal := A.proj r ⟨j.val, by omega⟩
def zp (r : Fin 8192) (j : Fin 1024) : EReal := A.proj r ⟨3072 + j.val, by omega⟩

def pooled (r : Fin 8192) (g : Fin 4) (c : Fin 256) : EReal :=
  Ideal.div (window (span g) (fun s => A.a s (col g c)) r) (count g r) - A.a r (col g c)

def mixed (r : Fin 8192) (g : Fin 4) (d : Fin 256) : EReal := ∑ c, A.pooled r g c * A.pool (ix4 0 g c d)

/-- The gradient at the pool mixer's result. -/
def dyp (r : Fin 8192) (j : Fin 1024) : EReal := A.dy (ix3 0 r ⟨j.val, by omega⟩) * silu (A.zp r j)

/-! ### The six gradients -/

def dScale (g : Fin 4) (c : Fin 256) : EReal := ∑ r, A.mixed r g c * A.dyp r (col g c)

def dPool (g : Fin 4) (c d : Fin 256) : EReal := ∑ r, A.pooled r g c * (A.dyp r (col g d) * A.scale (ix2 0 (col g d)))

def dLnG (g : Fin 4) (c : Fin 256) : EReal := ∑ n, ∑ k, A.vhat (row n k) g c * A.dVn n k g c

def dLnB (g : Fin 4) (c : Fin 256) : EReal := ∑ n, ∑ k, A.dVn n k g c

/-- The sum under the mixing weight's gradient. -/
def dMix (g : Fin 4) (i k : Fin 128) : EReal := ∑ n, ∑ c, A.dsv (row n i) (col g c) * A.vn (row n k) g c

def dW (g : Fin 4) (i k : Fin 128) : EReal := if k ≤ i then A.dMix g i k else 0

def dBias (i : Fin 128) (g : Fin 4) : EReal := ∑ n, ∑ c, A.dsv (row n i) (col g c)

end Inputs

end Cert.Front

end
-- ==== Proof.Front.Step.lean ====
/-
One head of the gating unit at one grid point of the front kernel: what the body computes from its loads, and the same at an
index.
-/
module

public import proofs.«01_k».proof.Proof.Front.Spec
public import proofs.«01_k».proof.Proof.Gen.Kernel2Ideal.Skeleton
public import Idealize.ShloMosaic.Lib.Pointwise

@[expose] public section

set_option maxRecDepth 16384

noncomputable section

namespace Cert.Kernel2Ideal.Front

open Cert.Front Cert.Kernel2Ideal Cert.Kernel2Ideal.Gen
open Idealize.ShloMosaic Idealize.ShloMosaic.TcCoe Idealize.ShloMosaic.Tactic

/-- What a point loads for one head: the normalised rows of both its chunks, the norm's two parameters, of each chunk gelu of the
    gate, silu of the outer gate and the incoming gradient, and the head's weights. -/
structure Head (F : FTy → Type) [FloatOps F] where
  vhat : Vec F S256x256 .bf16
  g : Vec F S1x256 .f32
  b : Vec F S1x256 .f32
  u0 : Vec F S128x256 .bf16
  u1 : Vec F S128x256 .bf16
  s0 : Vec F S128x256 .bf16
  s1 : Vec F S128x256 .bf16
  d0 : Vec F S128x256 .bf16
  d1 : Vec F S128x256 .bf16
  w : Vec F S1x128x128 .bf16

namespace Head

variable {F : FTy → Type} [FloatOps F] (H : Head F)

/-- The first chunk's adjoint of the mixed values, -/
def first : FVec F S128x256 .f32 := k0_pay70 (k0_pay64 H.u0) (k0_pay66 H.d0 H.s0)

/-- the store of the norm's weight gradient over what was there, -/
def newG (old : Vec F S1x256 .f32) : FVec F S1x256 .f32 := k0_pay84 (k0_pay60 H.vhat) H.first (k0_pay72 H.u1) (k0_pay74 H.d1 H.s1) H.w old

/-- of its bias gradient, -/
def newB (old : Vec F S1x256 .f32) : FVec F S1x256 .f32 := k0_pay85 (k0_pay83 H.first (k0_pay72 H.u1) (k0_pay74 H.d1 H.s1) H.w) old

/-- of the weights', -/
def newW (old : Vec F S1x128x128 .f32) : FVec F S1x128x128 .f32 :=
  k0_pay82 (k0_pay61 H.vhat H.g H.b) H.first (k0_pay72 H.u1) (k0_pay74 H.d1 H.s1) old

/-- and of the mixing bias's. -/
def newBias (old : Vec F S128x1 .f32) : FVec F S128x1 .f32 := k0_pay80 H.first (k0_pay72 H.u1) (k0_pay74 H.d1 H.s1) old

end Head

/-- Chunk `p` of tile `T`, -/
def chunk (T : Fin 32) (p : Fin 2) : Fin 64 := ⟨T.val * 2 + p.val, by omega⟩

/-- and row `r` of it. -/
def tileRow (T : Fin 32) (r : Fin 256) : Fin 8192 := ⟨T.val * 256 + r.val, by omega⟩

theorem tileRow_chunk (T : Fin 32) (p : Fin 2) (k : Fin 128) (h : p.val * 128 + k.val < 256) :
    tileRow T ⟨p.val * 128 + k.val, h⟩ = row (chunk T p) k :=
  Fin.ext (by show T.val * 256 + (p.val * 128 + k.val) = (T.val * 2 + p.val) * 128 + k.val; omega)

/-- The loads are those of head `q` on tile `T`. -/
structure Head.Holds (H : Head Ideal) (A : Inputs) (T : Fin 32) (q : Fin 4) : Prop where
  vhat : ∀ r e, H.vhat (ix2 r e) = A.vhat (tileRow T r) q e
  g : ∀ e, H.g (ix2 0 e) = A.lnG (ix2 0 (col q e))
  b : ∀ e, H.b (ix2 0 e) = A.lnB (ix2 0 (col q e))
  u0 : ∀ i e, H.u0 (ix2 i e) = gelu (A.u (row (chunk T 0) i) (col q e))
  u1 : ∀ i e, H.u1 (ix2 i e) = gelu (A.u (row (chunk T 1) i) (col q e))
  s0 : ∀ i e, H.s0 (ix2 i e) = silu (A.z (row (chunk T 0) i) (col q e))
  s1 : ∀ i e, H.s1 (ix2 i e) = silu (A.z (row (chunk T 1) i) (col q e))
  d0 : ∀ i e, H.d0 (ix2 i e) = A.dy (ix3 0 (row (chunk T 0) i) ⟨1024 + (col q e).val, by omega⟩)
  d1 : ∀ i e, H.d1 (ix2 i e) = A.dy (ix3 0 (row (chunk T 1) i) ⟨1024 + (col q e).val, by omega⟩)
  w : ∀ i k, H.w (ix3 0 i k) = A.mix q i k

namespace Head.Holds

variable {H : Head Ideal} {A : Inputs} {T : Fin 32} {q : Fin 4} (h : H.Holds A T q)

include h in
theorem first_at (i : Fin 128) (e : Fin 256) : H.first (ix2 i e) = A.dsv (row (chunk T 0) i) (col q e) := by
  unfold Head.first k0_pay70 k0_pay66 k0_pay65 k0_pay64
  pointwise [h.u0, h.s0, h.d0]
  exact mul_comm _ _

/-- Both chunks' adjoints side by side. -/
def _root_.Cert.Kernel2Ideal.Front.Head.wide (H : Head Ideal) : FVec Ideal S128x512 .f32 := k0_pay79 H.first (k0_pay72 H.u1) (k0_pay74 H.d1 H.s1)

include h in
theorem wide_at (i : Fin 128) (p : Fin 2) (e : Fin 256) (hx : p.val * 256 + e.val < 512) :
    H.wide (ix2 i ⟨p.val * 256 + e.val, hx⟩) = A.dsv (row (chunk T p) i) (col q e) := by
  unfold Head.wide k0_pay79 k0_pay74 k0_pay73 k0_pay72
  pointwise [h.u1, h.s1, h.d1, h.first_at]
  match p with
  | 0 =>
    rw [dif_pos (by show 0 * 256 + e.val < 256; omega)]
    exact congrArg (A.dsv (row (chunk T 0) i)) (congrArg (col q) (Fin.ext (by show 0 * 256 + e.val = e.val; omega)))
  | 1 =>
    rw [dif_neg (by show ¬ 1 * 256 + e.val < 256; omega)]
    exact (mul_comm _ _).trans (congrArg (A.dsv (row (chunk T 1) i)) (congrArg (col q) (Fin.ext (by show 1 * 256 + e.val - 256 = e.val; omega))))

include h in
theorem vn_at (k : Fin 128) (p : Fin 2) (e : Fin 256) (hx : p.val * 256 + e.val < 512) :
    k0_pay61 H.vhat H.g H.b (ix2 k ⟨p.val * 256 + e.val, hx⟩) = A.vn (row (chunk T p) k) q e := by
  unfold k0_pay61 k0_pay60
  pointwise [h.vhat, h.g, h.b]
  match p with
  | 0 =>
    rw [dif_pos (by show 0 * 256 + e.val < 256; omega)]
    refine congrArg₂ (fun r e => A.vn r q e) (Fin.ext ?_) (Fin.ext (by show 0 * 256 + e.val = e.val; omega))
    show T.val * 256 + k.val = (T.val * 2 + 0) * 128 + k.val
    omega
  | 1 =>
    rw [dif_neg (by show ¬ 1 * 256 + e.val < 256; omega)]
    refine congrArg₂ (fun r e => A.vn r q e) (Fin.ext ?_) (Fin.ext (by show 1 * 256 + e.val - 256 = e.val; omega))
    show T.val * 256 + (128 + k.val) = (T.val * 2 + 1) * 128 + k.val
    omega

include h in
/-- The adjoint of the normalised values of both chunks, one under the other. -/
theorem dVn_at (p : Fin 2) (k : Fin 128) (e : Fin 256) (hr : p.val * 128 + k.val < 256) :
    k0_pay83 H.first (k0_pay72 H.u1) (k0_pay74 H.d1 H.s1) H.w (ix2 ⟨p.val * 128 + k.val, hr⟩ e) = A.dVn (chunk T p) k q e := by
  unfold k0_pay83 k0_pay81
  pointwise [h.w]
  match p with
  | 0 =>
    rw [dif_pos (by show 0 * 128 + k.val < 128; omega)]
    refine Finset.sum_congr rfl fun x _ => (mul_comm _ _).trans (congrArg₂ (· * ·) ?_ (congrArg (A.mix q x) (Fin.ext (by show 0 * 128 + k.val = k.val; omega))))
    exact (congrArg (fun z => H.wide (ix2 x z)) (Fin.ext (by show e.val = 0 * 256 + e.val; omega))).trans (h.wide_at x 0 e (by show 0 * 256 + e.val < 512; omega))
  | 1 =>
    rw [dif_neg (by show ¬ 1 * 128 + k.val < 128; omega)]
    refine Finset.sum_congr rfl fun x _ => (mul_comm _ _).trans (congrArg₂ (· * ·) ?_ (congrArg (A.mix q x) (Fin.ext (by show 1 * 128 + k.val - 128 = k.val; omega))))
    exact (congrArg (fun z => H.wide (ix2 x z)) (Fin.ext (by show 256 + e.val = 1 * 256 + e.val; omega))).trans (h.wide_at x 1 e (by show 1 * 256 + e.val < 512; omega))

include h in
theorem newG_at (old : Vec Ideal S1x256 .f32) (e : Fin 256) :
    H.newG old (ix2 0 e) = old (ix2 0 e) + ∑ p, ∑ k, A.vhat (row (chunk T p) k) q e * A.dVn (chunk T p) k q e := by
  unfold Head.newG k0_pay84 k0_pay60
  pointwise [h.vhat]
  refine congrArg (old (ix2 0 e) + ·) ((Fin.sum_univ_tiles 2 128 rfl _).trans (Finset.sum_congr rfl fun p _ => Finset.sum_congr rfl fun k _ => ?_))
  rw [h.dVn_at, tileRow_chunk]
  exact mul_comm _ _

include h in
theorem newB_at (old : Vec Ideal S1x256 .f32) (e : Fin 256) :
    H.newB old (ix2 0 e) = old (ix2 0 e) + ∑ p, ∑ k, A.dVn (chunk T p) k q e := by
  unfold Head.newB k0_pay85
  pointwise
  exact congrArg (old (ix2 0 e) + ·) ((Fin.sum_univ_tiles 2 128 rfl _).trans (Finset.sum_congr rfl fun p _ => Finset.sum_congr rfl fun k _ => h.dVn_at p k e _))

include h in
theorem newW_at (old : Vec Ideal S1x128x128 .f32) (i k : Fin 128) :
    H.newW old (ix3 0 i k) = old (ix3 0 i k) + ∑ p, ∑ e, A.dsv (row (chunk T p) i) (col q e) * A.vn (row (chunk T p) k) q e := by
  unfold Head.newW k0_pay82 k0_pay81
  pointwise
  exact congrArg (old (ix3 0 i k) + ·) ((Fin.sum_univ_tiles 2 256 rfl _).trans (Finset.sum_congr rfl fun p _ => Finset.sum_congr rfl fun e _ =>
    congrArg₂ (· * ·) (h.wide_at i p e _) (h.vn_at k p e _)))

include h in
theorem newBias_at (old : Vec Ideal S128x1 .f32) (i : Fin 128) :
    H.newBias old (ix2 i 0) = old (ix2 i 0) + ∑ p, ∑ e, A.dsv (row (chunk T p) i) (col q e) := by
  unfold Head.newBias k0_pay80
  pointwise
  exact congrArg (old (ix2 i 0) + ·) ((Fin.sum_univ_tiles 2 256 rfl _).trans (Finset.sum_congr rfl fun p _ => Finset.sum_congr rfl fun e _ => h.wide_at i p e _))

end Head.Holds

end Cert.Kernel2Ideal.Front
-- ==== Proof.Front.Host.lean ====
/-
The host operations ahead of the front's backward kernel, read at the entries the four gating gradients need: the projection and,
from it, gelu, the normalised gating input and silu; the saved columns that hold them; the upstream gradient and the mixing
weight.
-/
module

public import proofs.«01_k».proof.Proof.Front.Runs
public import proofs.«01_k».proof.Proof.Front.Spec
public import Idealize.ShloMosaic.Lib.StableHlo.RunRead

@[expose] public section

set_option maxRecDepth 16384

noncomputable section

namespace Cert.Kernel2Ideal.Front

open Cert.Kernel2Ideal Cert.Kernel2Ideal.Gen Cert.Front
open Idealize.ShloMosaic Idealize.ShloMosaic.TcCoe Idealize.ShloMosaic.StableHlo Idealize.ShloMosaic.Tactic

variable (m : (ℓ : Loc nD τ sig) → Buf (Elt Ideal) ℓ) (c : Dev nD)

/-- The arguments, as the launch memory holds them. -/
def inputs : Inputs where
  x := m ((c.tc : Thread nD τ).loc main_arg0)
  dy := m ((c.tc : Thread nD τ).loc main_arg1)
  wIn := m ((c.tc : Thread nD τ).loc main_arg3)
  lnG := m ((c.tc : Thread nD τ).loc main_arg6)
  lnB := m ((c.tc : Thread nD τ).loc main_arg7)
  w := m ((c.tc : Thread nD τ).loc main_arg8)
  pool := m ((c.tc : Thread nD τ).loc main_arg4)
  scale := m ((c.tc : Thread nD τ).loc main_arg5)

/-! ### The host's arrays -/

def projArr (x : FVec Ideal S1x8192x1024 .f32) (w : FVec Ideal S1x1024x5120 .f32) : FVec Ideal S8192x5120 .f32 :=
  Host.dotGeneral dot_S8192x1024_S1024x5120_S8192x5120_1_0_0_1_n_n none
    (truncf .bf16 (shapeCast S8192x1024 x shapeCasts_S1x8192x1024_S8192x1024) bitsLt_bf16_f32)
    (truncf .bf16 (shapeCast S1024x5120 w shapeCasts_S1x1024x5120_S1024x5120) bitsLt_bf16_f32)

section Arrays

abbrev lit (s : Shape) (b : BitVec 32) (h : S_.BroadcastsInDim s ![]) : FVec Ideal s .f32 := broadcastInDim s ![] h (constant S_ .f32 b)

def geluArr (u : FVec Ideal S8192x1024 .f32) : FVec Ideal S8192x1024 .f32 :=
  let half := mulf (lit S8192x1024 0x3F000000#32 bcast_S_S8192x1024) u
  addf half (mulf half (Host.tanh (mulf u (addf (lit S8192x1024 0x3F4C422A#32 bcast_S_S8192x1024)
    (mulf (lit S8192x1024 0x3F4C422A#32 bcast_S_S8192x1024) (mulf (lit S8192x1024 0x3D372713#32 bcast_S_S8192x1024) (mulf u u)))))))

def meanArr (v : FVec Ideal S8192x4x256 .f32) : FVec Ideal S8192x4x1 .f32 :=
  Host.divf (broadcastInDim S8192x4x1 ![0, 1] bcast_S8192x4_S8192x4x1_0_1
    (Host.reduceAdd v (constant S_ .f32 0x00000000#32) reducesTo_S8192x4x256_S8192x4_d2 h_S_)) (lit S8192x4x1 0x43800000#32 bcast_S_S8192x4x1)

def normArr (v : FVec Ideal S8192x4x256 .f32) : FVec Ideal S8192x4x256 .f32 :=
  let ctr := subf v (broadcastInDim S8192x4x256 ![0, 1, 2] bcast_S8192x4x1_S8192x4x256_0_1_2 (meanArr v))
  mulf ctr (broadcastInDim S8192x4x256 ![0, 1, 2] bcast_S8192x4x1_S8192x4x256_0_1_2
    (Host.rsqrt (addf (meanArr (mulf ctr ctr)) (lit S8192x4x1 0x3727C5AC#32 bcast_S_S8192x4x1))))

def siluArr (z : FVec Ideal S8192x2048 .f32) : FVec Ideal S8192x2048 .f32 :=
  mulf z (Host.divf (lit S8192x2048 0x3F800000#32 bcast_S_S8192x2048)
    (addf (lit S8192x2048 0x3F800000#32 bcast_S_S8192x2048) (Host.exp (Host.negf z))))

/-- The lower triangle, as a mask. -/
def lowerArr : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- A head's weights under a mask. -/
def maskArr (b : IVec S128x128 1) (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 b))
    w (lit S4x128x128 0x00000000#32 bcast_S_S4x128x128)

end Arrays

/-! ### The arrays at an index -/

theorem projArr_at (x : FVec Ideal S1x8192x1024 .f32) (w : FVec Ideal S1x1024x5120 .f32) (r : Fin 8192) (j : Fin 5120) :
    projArr x w (ix2 r j) = ∑ k : Fin 1024, x (ix3 0 r k) * w (ix3 0 k j) := by
  unfold projArr
  pointwise

/-- The kernel's spelling of gelu. -/
def geluSplit (x : EReal) : EReal :=
  Ideal.ofBits .f32 0x3F000000#32 * x + Ideal.ofBits .f32 0x3F000000#32 * x * Ideal.tanh (x * (Ideal.ofBits .f32 0x3F4C422A#32
    + Ideal.ofBits .f32 0x3F4C422A#32 * (Ideal.ofBits .f32 0x3D372713#32 * (x * x))))

theorem geluArr_at (u : FVec Ideal S8192x1024 .f32) (r : Fin 8192) (j : Fin 1024) :
    geluArr u (ix2 r j) = geluSplit (u (ix2 r j)) := by
  unfold geluArr lit
  pointwise
  rfl

theorem meanArr_at (v : FVec Ideal S8192x4x256 .f32) (r : Fin 8192) (g : Fin 4) :
    meanArr v (ix3 r g 0) = mean fun k => v (ix3 r g k) := by
  unfold meanArr lit
  pointwise
  rfl

theorem normArr_at (v : FVec Ideal S8192x4x256 .f32) (r : Fin 8192) (g : Fin 4) (k : Fin 256) :
    normArr v (ix3 r g k) = norm (fun k => v (ix3 r g k)) k := by
  unfold normArr lit
  pointwise [meanArr_at]
  rfl

theorem siluArr_at (z : FVec Ideal S8192x2048 .f32) (r : Fin 8192) (j : Fin 2048) : siluArr z (ix2 r j) = silu (z (ix2 r j)) := by
  unfold siluArr lit
  pointwise
  rfl

theorem lowerArr_at (i k : Fin 128) : lowerArr (ix2 i k) = if k ≤ i then 1#1 else 0#1 := by
  have hi := i.isLt
  have hk := k.isLt
  unfold lowerArr
  pointwise
  rw [show IntOp.addi (BitVec.ofNat 32 i.val) 0#32 = BitVec.ofNat 32 i.val from BitVec.add_zero _, WordCmp.cmpi_sge_ofNat (by omega) (by omega)]
  by_cases h : k ≤ i
  · rw [if_pos h, decide_eq_true (show k.val ≤ i.val from h)]; rfl
  · rw [if_neg h, decide_eq_false (show ¬ k.val ≤ i.val from h)]; rfl

theorem maskArr_at (w : FVec Ideal S4x128x128 .f32) (g : Fin 4) (i k : Fin 128) :
    maskArr lowerArr w (ix3 g i k) = if k ≤ i then w (ix3 g i k) else 0 := by
  unfold maskArr lit
  pointwise [lowerArr_at]
  split <;> rfl

/-! ### The line's buffers -/

/-- The projection before the kernel's call. -/
def projected : FVec Ideal S8192x5120 .f32 := projArr (inputs m c).x (inputs m c).wIn

/-- The saved columns: gelu of the gate at 1024, the normalised gating input at 3072, silu at 5120. -/
def IsKept (K : FVec Ideal S8192x9216 .bf16) : Prop := ∃ p0 p1 p2 p3 p5 p7 p9, K
    = truncf .bf16 (concatenate (α := Ideal .f32) S8192x9216 1 [⟨S8192x256, p0⟩, ⟨S8192x256, p1⟩, ⟨S8192x256, p2⟩, ⟨S8192x256, p3⟩,
        ⟨S8192x1024, geluArr (extractStridedSlice S8192x1024 ![0, 1024] (projected m c) slices_S8192x5120_S8192x1024_0_1024)⟩,
        ⟨S8192x1024, p5⟩,
        ⟨S8192x1024, shapeCast S8192x1024 (normArr (shapeCast S8192x4x256 (geluArr
          (extractStridedSlice S8192x1024 ![0, 2048] (projected m c) slices_S8192x5120_S8192x1024_0_2048))
          shapeCasts_S8192x1024_S8192x4x256)) shapeCasts_S8192x4x256_S8192x1024⟩,
        ⟨S8192x1024, p7⟩,
        ⟨S8192x2048, siluArr (extractStridedSlice S8192x2048 ![0, 3072] (projected m c) slices_S8192x5120_S8192x2048_0_3072)⟩,
        ⟨S8192x2048, p9⟩]
        concatenates_S8192x256_S8192x256_S8192x256_S8192x256_S8192x1024_S8192x1024_S8192x1024_S8192x1024_S8192x2048_S8192x2048_S8192x9216_d1)
      bitsLt_bf16_f32

theorem kept_eq : IsKept m c (V0 m c (Proc.devRef .tc main_v174)) := by
  after_reads_simp
  exact ⟨_, _, _, _, _, _, _, rfl⟩

theorem lower_buf : V0 m c (Proc.devRef .tc main_v180) = lowerArr := by
  after_reads_simp
  rfl

theorem weight_buf : V0 m c (Proc.devRef .tc main_v184)
    = truncf .bf16 (maskArr lowerArr (shapeCast S4x128x128 (inputs m c).w shapeCasts_S1x4x128x128_S4x128x128)) bitsLt_bf16_f32 := by
  after_reads_simp
  rfl

theorem weight_at (g : Fin 4) (i k : Fin 128) : V m c main_v184 (ix3 g i k) = (inputs m c).mix g i k := by
  show V0 m c (Proc.devRef .tc main_v184) (ix3 g i k) = _
  rw [weight_buf]
  pointwise [maskArr_at]
  rfl

theorem dy_at (r : Fin 8192) (j : Fin 2048) : V m c main_v188 (ix2 r j) = (inputs m c).dy (ix3 0 r j) := by
  show V0 m c (Proc.devRef .tc main_v188) (ix2 r j) = _
  after_reads_simp
  pointwise
  rfl

theorem projected_at (r : Fin 8192) (j : Fin 5120) : projected m c (ix2 r j) = (inputs m c).proj r j := projArr_at _ _ r j

theorem keptU_at (r : Fin 8192) (j : Fin 1024) :
    V m c main_v174 (ix2 r ⟨1024 + j.val, by omega⟩) = geluSplit ((inputs m c).u r j) := by
  have hj := j.isLt
  show V0 m c (Proc.devRef .tc main_v174) (ix2 r ⟨1024 + j.val, by omega⟩) = _
  obtain ⟨p0, p1, p2, p3, p5, p7, p9, e⟩ := kept_eq m c
  rw [e]
  pointwise [geluArr_at]
  rw [dif_neg (by omega), dif_neg (by omega), dif_neg (by omega), dif_neg (by omega), dif_pos (by omega), projected_at]
  exact congrArg (fun j => geluSplit ((inputs m c).proj r j)) (Fin.ext (by simp only; omega))

theorem keptV_at (r : Fin 8192) (g : Fin 4) (k : Fin 256) :
    V m c main_v174 (ix2 r ⟨3072 + (col g k).val, by omega⟩) = norm (fun k => geluSplit ((inputs m c).v r (col g k))) k := by
  have hg := g.isLt
  have hk := k.isLt
  have hc : (col g k).val = g.val * 256 + k.val := rfl
  show V0 m c (Proc.devRef .tc main_v174) (ix2 r ⟨3072 + (col g k).val, by omega⟩) = _
  obtain ⟨p0, p1, p2, p3, p5, p7, p9, e⟩ := kept_eq m c
  rw [e]
  pointwise [normArr_at, geluArr_at]
  rw [dif_neg (by omega), dif_neg (by omega), dif_neg (by omega), dif_neg (by omega), dif_neg (by omega), dif_neg (by omega), dif_pos (by omega)]
  refine congrArg₂ Front.norm (funext fun k' => ?_) (Fin.ext (by simp only; omega))
  rw [projected_at]
  refine congrArg (fun j => geluSplit ((inputs m c).proj r j)) (Fin.ext ?_)
  show 2048 + ((3072 + (col g k).val - 256 - 256 - 256 - 256 - 1024 - 1024) / 256 * 256 + k'.val) = 2048 + (g.val * 256 + k'.val)
  omega

theorem keptZ_at (r : Fin 8192) (j : Fin 1024) :
    V m c main_v174 (ix2 r ⟨6144 + j.val, by omega⟩) = silu ((inputs m c).z r j) := by
  have hj := j.isLt
  show V0 m c (Proc.devRef .tc main_v174) (ix2 r ⟨6144 + j.val, by omega⟩) = _
  obtain ⟨p0, p1, p2, p3, p5, p7, p9, e⟩ := kept_eq m c
  rw [e]
  pointwise [siluArr_at]
  rw [dif_neg (by omega), dif_neg (by omega), dif_neg (by omega), dif_neg (by omega), dif_neg (by omega), dif_neg (by omega), dif_neg (by omega),
    dif_neg (by omega), dif_pos (by omega), projected_at]
  exact congrArg (fun j => silu ((inputs m c).proj r j)) (Fin.ext (by simp only; omega))

theorem lnG_at (j : Fin 1024) : V m c main_arg6 (ix2 0 j) = (inputs m c).lnG (ix2 0 j) := by
  show V0 m c (Proc.devRef .tc main_arg6) (ix2 0 j) = _
  after_reads_simp
  rfl

theorem lnB_at (j : Fin 1024) : V m c main_arg7 (ix2 0 j) = (inputs m c).lnB (ix2 0 j) := by
  show V0 m c (Proc.devRef .tc main_arg7) (ix2 0 j) = _
  after_reads_simp
  rfl

end Cert.Kernel2Ideal.Front
-- ==== Proof.Front.Loads.lean ====
/-
The gating unit's loads at each grid point of the front kernel, as entries of the argument arrays, and its stores as `Step`'s.
-/
module

public import proofs.«01_k».proof.Proof.Front.Left
public import proofs.«01_k».proof.Proof.Front.Step
public import proofs.«01_k».proof.Proof.Front.Host
public import proofs.«01_k».proof.Proof.Tail.Points
public import Idealize.ShloMosaic.Lib.Pipeline.ValueKit

@[expose] public section

set_option maxRecDepth 16384

noncomputable section

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

theorem inb2 {n0 n1 m0 m1 o0 o1 : ℕ} (h0 : o0 + m0 ≤ n0) (h1 : o1 + m1 ≤ n1) :
    ∀ a, (![o0, o1] : Fin 2 → ℕ) a + (![m0, m1] : Fin 2 → ℕ) a ≤ (⟨2, ![n0, n1]⟩ : Shape).size a :=
  Fin.forall_fin_two.mpr ⟨h0, h1⟩

theorem inb3 {n0 n1 n2 m0 m1 m2 o0 o1 o2 : ℕ} (h0 : o0 + m0 ≤ n0) (h1 : o1 + m1 ≤ n1) (h2 : o2 + m2 ≤ n2) :
    ∀ a, (![o0, o1, o2] : Fin 3 → ℕ) a + (![m0, m1, m2] : Fin 3 → ℕ) a ≤ (⟨3, ![n0, n1, n2]⟩ : Shape).size a :=
  fun a => match a with
    | ⟨0, _⟩ => h0
    | ⟨1, _⟩ => h1
    | ⟨2, _⟩ => h2

section Loads

variable {F : FTy → Type} [FloatOps F] (m : (ℓ : Loc nD τ sig) → Buf (Elt F) ℓ) (c : Dev nD) (t : Fin cfg0.N)

/-- The loads of head `q`, of which there are four. -/
def head (q : ℕ) (hq : q < 4) : Head F where
  vhat := View.readAt (Elt F) (stage0 t).view (Rect.unit (s := S256x9216) ![0, 3072 + 256 * q] ![256, 256] (inb2 (by decide) (by omega))).toLoadRect ((whole0 t).unread (iblk m c 0 t))
  g := View.readAt (Elt F) (stage5 t).view (Rect.unit (s := S1x1024) ![0, 256 * q] ![1, 256] (inb2 (by decide) (by omega))).toLoadRect ((whole5 t).unread (iblk m c 5 t))
  b := View.readAt (Elt F) (stage6 t).view (Rect.unit (s := S1x1024) ![0, 256 * q] ![1, 256] (inb2 (by decide) (by omega))).toLoadRect ((whole6 t).unread (iblk m c 6 t))
  u0 := View.readAt (Elt F) (stage0 t).view (Rect.unit (s := S256x9216) ![0, 1024 + 256 * q] ![128, 256] (inb2 (by decide) (by omega))).toLoadRect ((whole0 t).unread (iblk m c 0 t))
  u1 := View.readAt (Elt F) (stage0 t).view (Rect.unit (s := S256x9216) ![128, 1024 + 256 * q] ![128, 256] (inb2 (by decide) (by omega))).toLoadRect ((whole0 t).unread (iblk m c 0 t))
  s0 := View.readAt (Elt F) (stage0 t).view (Rect.unit (s := S256x9216) ![0, 6144 + 256 * q] ![128, 256] (inb2 (by decide) (by omega))).toLoadRect ((whole0 t).unread (iblk m c 0 t))
  s1 := View.readAt (Elt F) (stage0 t).view (Rect.unit (s := S256x9216) ![128, 6144 + 256 * q] ![128, 256] (inb2 (by decide) (by omega))).toLoadRect ((whole0 t).unread (iblk m c 0 t))
  d0 := View.readAt (Elt F) (stage1 t).view (Rect.unit (s := S256x2048) ![0, 1024 + 256 * q] ![128, 256] (inb2 (by decide) (by omega))).toLoadRect ((whole1 t).unread (iblk m c 1 t))
  d1 := View.readAt (Elt F) (stage1 t).view (Rect.unit (s := S256x2048) ![128, 1024 + 256 * q] ![128, 256] (inb2 (by decide) (by omega))).toLoadRect ((whole1 t).unread (iblk m c 1 t))
  w := View.readAt (Elt F) (stage7 t).view (Rect.unit (s := S4x128x128) ![q, 0, 0] ![1, 128, 128] (inb3 (by omega) (by decide) (by decide))).toLoadRect ((whole7 t).unread (iblk m c 7 t))

/-- Where head `q` is in the norm's rows, -/
abbrev rowRect (q : ℕ) (hq : q < 4) : Rect S1x1024 := Rect.unit (s := S1x1024) ![0, 256 * q] ![1, 256] (inb2 (by decide) (by omega))

/-- in the weights' gradient -/
abbrev headRect (q : ℕ) (hq : q < 4) : Rect S4x128x128 := Rect.unit (s := S4x128x128) ![q, 0, 0] ![1, 128, 128] (inb3 (by omega) (by decide) (by decide))

/-- and in the bias's. -/
abbrev columnRect (q : ℕ) (hq : q < 4) : Rect S128x4 := Rect.unit (s := S128x4) ![0, q] ![128, 1] (inb2 (by decide) (by omega))

/-! ### The stores at a point between, over what the point before left -/

section Middle

variable (p : Left F)

def pieceG (q : ℕ) (hq : q < 4) : View.Piece (Elt F) S1x1024 .f32 :=
  ⟨rowRect q hq, (head m c t q hq).newG (View.readAt (Elt F) (stage13 t).view (rowRect q hq).toLoadRect ((whole13 t).unread p.dlg))⟩

def pieceB (q : ℕ) (hq : q < 4) : View.Piece (Elt F) S1x1024 .f32 :=
  ⟨rowRect q hq, (head m c t q hq).newB (View.readAt (Elt F) (stage14 t).view (rowRect q hq).toLoadRect ((whole14 t).unread p.dlb))⟩

def pieceW (q : ℕ) (hq : q < 4) : View.Piece (Elt F) S4x128x128 .f32 :=
  ⟨headRect q hq, (head m c t q hq).newW (View.readAt (Elt F) (stage15 t).view (headRect q hq).toLoadRect ((whole15 t).unread p.dsw))⟩

def pieceBias (q : ℕ) (hq : q < 4) : View.Piece (Elt F) S128x4 .f32 :=
  ⟨columnRect q hq, (head m c t q hq).newBias (View.readAt (Elt F) (stage16 t).view (columnRect q hq).toLoadRect ((whole16 t).unread p.dsb))⟩

/-- Head by head, the last first. -/
def stores {s : Shape} (f : (q : ℕ) → q < 4 → View.Piece (Elt F) s .f32) : List (View.Piece (Elt F) s .f32) :=
  [f 3 (by decide), f 2 (by decide), f 1 (by decide), f 0 (by decide)]

variable (h : t.val ≠ 0) (hl : t.val ≠ 32)

theorem middle_g : (runMiddle m c t h hl p).2.2.2.1 = stores (pieceG m c t p) := by sl_kernel_rfl

theorem middle_b : (runMiddle m c t h hl p).2.2.2.2.1 = stores (pieceB m c t p) := by sl_kernel_rfl

theorem middle_w : (runMiddle m c t h hl p).2.2.2.2.2.1 = stores (pieceW m c t p) := by sl_kernel_rfl

theorem middle_bias : (runMiddle m c t h hl p).2.2.2.2.2.2.1 = stores (pieceBias m c t p) := by sl_kernel_rfl

end Middle

/-! ### The stores at the first point, over the zeros it starts with -/

def zeroG : View.Piece (Elt F) S1x1024 .f32 := ⟨Rect.unit ![0, 0] S1x1024.size inb_S1x1024_S1x1024_0_0, k0_pay4⟩

def zeroB : View.Piece (Elt F) S1x1024 .f32 := ⟨Rect.unit ![0, 0] S1x1024.size inb_S1x1024_S1x1024_0_0, k0_pay5⟩

def zeroW : View.Piece (Elt F) S4x128x128 .f32 := ⟨Rect.unit ![0, 0, 0] S4x128x128.size inb_S4x128x128_S4x128x128_0_0_0, k0_pay6⟩

def zeroBias : View.Piece (Elt F) S128x4 .f32 := ⟨Rect.unit ![0, 0] S128x4.size inb_S128x4_S128x4_0_0, k0_pay7⟩

/-- The stores of the heads below `n`: each head's is over a load of what was stored before. -/
def startG : (n : ℕ) → n ≤ 4 → List (View.Piece (Elt F) S1x1024 .f32)
  | 0, _ => []
  | n + 1, h => ⟨rowRect n h, (head m c t n h).newG (View.readCov (stage13 t).view (startG n (Nat.le_of_succ_le h) ++ [zeroG]) (rowRect n h).toLoadRect)⟩
      :: startG n (Nat.le_of_succ_le h)

def startB : (n : ℕ) → n ≤ 4 → List (View.Piece (Elt F) S1x1024 .f32)
  | 0, _ => []
  | n + 1, h => ⟨rowRect n h, (head m c t n h).newB (View.readCov (stage14 t).view (startB n (Nat.le_of_succ_le h) ++ [zeroB]) (rowRect n h).toLoadRect)⟩
      :: startB n (Nat.le_of_succ_le h)

def startW : (n : ℕ) → n ≤ 4 → List (View.Piece (Elt F) S4x128x128 .f32)
  | 0, _ => []
  | n + 1, h => ⟨headRect n h, (head m c t n h).newW (View.readCov (stage15 t).view (startW n (Nat.le_of_succ_le h) ++ [zeroW]) (headRect n h).toLoadRect)⟩
      :: startW n (Nat.le_of_succ_le h)

def startBias : (n : ℕ) → n ≤ 4 → List (View.Piece (Elt F) S128x4 .f32)
  | 0, _ => []
  | n + 1, h => ⟨columnRect n h, (head m c t n h).newBias (View.readCov (stage16 t).view (startBias n (Nat.le_of_succ_le h) ++ [zeroBias]) (columnRect n h).toLoadRect)⟩
      :: startBias n (Nat.le_of_succ_le h)

variable (h : t.val = 0)

theorem first_g : (runFirst m c t h).2.2.2.1 = startG m c t 4 (Nat.le_refl 4) ++ [zeroG] := by sl_kernel_rfl

theorem first_b : (runFirst m c t h).2.2.2.2.1 = startB m c t 4 (Nat.le_refl 4) ++ [zeroB] := by sl_kernel_rfl

theorem first_w : (runFirst m c t h).2.2.2.2.2.1 = startW m c t 4 (Nat.le_refl 4) ++ [zeroW] := by sl_kernel_rfl

theorem first_bias : (runFirst m c t h).2.2.2.2.2.2.1 = startBias m c t 4 (Nat.le_refl 4) ++ [zeroBias] := by sl_kernel_rfl

end Loads

variable (m : (ℓ : Loc nD τ sig) → Buf (Elt Ideal) ℓ) (c : Dev nD) (t : Fin cfg0.N)

/-- The tile a point handles: they are met from the last to the first. -/
def tile : Fin 32 := ⟨31 - t.val, by omega⟩

theorem index : ∀ t : Fin cfg0.N, t.val < 32 → win0_0.index t = ![31 - t.val, 0] ∧ win0_1.index t = ![31 - t.val, 0] := by decide +kernel
theorem index_whole : ∀ t : Fin cfg0.N, win0_5.index t = ![0, 0] ∧ win0_6.index t = ![0, 0] ∧ win0_7.index t = ![0, 0, 0] := by decide +kernel

theorem block_kept (h : t.val < 32) (r : Fin 256) (j : Fin 9216) :
    iblk m c 0 t (ix2 r j) = V m c main_v174 (ix2 (tileRow (tile t) r) j) := by
  unfold iblk; blk_simp
  blk_ext [tileRow, tile, (index t h).1]

theorem block_dy (h : t.val < 32) (r : Fin 256) (j : Fin 2048) :
    iblk m c 1 t (ix2 r j) = V m c main_v188 (ix2 (tileRow (tile t) r) j) := by
  unfold iblk; blk_simp
  blk_ext [tileRow, tile, (index t h).2]

theorem block_g (j : Fin 1024) : iblk m c 5 t (ix2 0 j) = V m c main_arg6 (ix2 0 j) := by
  unfold iblk; blk_simp
  blk_ext [(index_whole t).1]

theorem block_b (j : Fin 1024) : iblk m c 6 t (ix2 0 j) = V m c main_arg7 (ix2 0 j) := by
  unfold iblk; blk_simp
  blk_ext [(index_whole t).2.1]

theorem block_w (q : Fin 4) (i k : Fin 128) : iblk m c 7 t (ix3 q i k) = V m c main_v184 (ix3 q i k) := by
  unfold iblk; blk_simp
  blk_ext [(index_whole t).2.2]

/-- On arguments for which the two spellings of gelu agree, a point's loads are its tile's. -/
theorem head_holds (h : t.val < 32) (hu : ∀ r j, geluSplit ((inputs m c).u r j) = gelu ((inputs m c).u r j))
    (hv : ∀ r j, geluSplit ((inputs m c).v r j) = gelu ((inputs m c).v r j)) (q : Fin 4) :
    (head m c t q.val q.isLt).Holds (inputs m c) (tile t) q where
  vhat := fun r e => (load2 (whole0 t) _ _ r e r ⟨3072 + (col q e).val, by omega⟩ (Nat.zero_add _).symm (by show 3072 + (q.val * 256 + e.val) = _; omega)).trans
    ((block_kept m c t h r _).trans ((keptV_at m c _ q e).trans (congrArg (norm · e) (funext fun k => hv _ _))))
  g := fun e => (load2 (whole5 t) _ _ 0 e 0 (col q e) rfl (by show q.val * 256 + e.val = _; omega)).trans ((block_g m c t _).trans (lnG_at m c _))
  b := fun e => (load2 (whole6 t) _ _ 0 e 0 (col q e) rfl (by show q.val * 256 + e.val = _; omega)).trans ((block_b m c t _).trans (lnB_at m c _))
  u0 := fun i e => (load2 (whole0 t) _ _ i e ⟨0 * 128 + i.val, by omega⟩ ⟨1024 + (col q e).val, by omega⟩ (by simp only) (by show 1024 + (q.val * 256 + e.val) = _; omega)).trans
    ((block_kept m c t h _ _).trans ((congrArg (fun r => V m c main_v174 (ix2 r _)) (tileRow_chunk (tile t) 0 i _)).trans ((keptU_at m c _ _).trans (hu _ _))))
  u1 := fun i e => (load2 (whole0 t) _ _ i e ⟨1 * 128 + i.val, by omega⟩ ⟨1024 + (col q e).val, by omega⟩ (by simp only) (by show 1024 + (q.val * 256 + e.val) = _; omega)).trans
    ((block_kept m c t h _ _).trans ((congrArg (fun r => V m c main_v174 (ix2 r _)) (tileRow_chunk (tile t) 1 i _)).trans ((keptU_at m c _ _).trans (hu _ _))))
  s0 := fun i e => (load2 (whole0 t) _ _ i e ⟨0 * 128 + i.val, by omega⟩ ⟨6144 + (col q e).val, by omega⟩ (by simp only) (by show 6144 + (q.val * 256 + e.val) = _; omega)).trans
    ((block_kept m c t h _ _).trans ((congrArg (fun r => V m c main_v174 (ix2 r _)) (tileRow_chunk (tile t) 0 i _)).trans (keptZ_at m c _ _)))
  s1 := fun i e => (load2 (whole0 t) _ _ i e ⟨1 * 128 + i.val, by omega⟩ ⟨6144 + (col q e).val, by omega⟩ (by simp only) (by show 6144 + (q.val * 256 + e.val) = _; omega)).trans
    ((block_kept m c t h _ _).trans ((congrArg (fun r => V m c main_v174 (ix2 r _)) (tileRow_chunk (tile t) 1 i _)).trans (keptZ_at m c _ _)))
  d0 := fun i e => (load2 (whole1 t) _ _ i e ⟨0 * 128 + i.val, by omega⟩ ⟨1024 + (col q e).val, by omega⟩ (by simp only) (by show 1024 + (q.val * 256 + e.val) = _; omega)).trans
    ((block_dy m c t h _ _).trans ((congrArg (fun r => V m c main_v188 (ix2 r _)) (tileRow_chunk (tile t) 0 i _)).trans (dy_at m c _ _)))
  d1 := fun i e => (load2 (whole1 t) _ _ i e ⟨1 * 128 + i.val, by omega⟩ ⟨1024 + (col q e).val, by omega⟩ (by simp only) (by show 1024 + (q.val * 256 + e.val) = _; omega)).trans
    ((block_dy m c t h _ _).trans ((congrArg (fun r => V m c main_v188 (ix2 r _)) (tileRow_chunk (tile t) 1 i _)).trans (dy_at m c _ _)))
  w := fun i k => (load3 (whole7 t) _ _ 0 i k q i k rfl (Nat.zero_add _).symm (Nat.zero_add _).symm).trans ((block_w m c t q i k).trans (weight_at m c q i k))

end Cert.Kernel2Ideal.Front
-- ==== Proof.Front.Total.lean ====
/-
What each grid point of the front kernel leaves of the gating unit's four gradients, and the sums after the last.
-/
module

public import proofs.«01_k».proof.Proof.Front.Loads

@[expose] public section

set_option maxRecDepth 16384

noncomputable section

namespace Cert.Front

open Idealize.ShloMosaic Cert.Kernel2Ideal.Front

/-! ### A tile's part of each gradient -/

namespace Inputs

variable (A : Inputs) (T : Fin 32) (g : Fin 4)

def partG (e : Fin 256) : EReal := ∑ p, ∑ k, A.vhat (row (chunk T p) k) g e * A.dVn (chunk T p) k g e

def partB (e : Fin 256) : EReal := ∑ p, ∑ k, A.dVn (chunk T p) k g e

def partW (i k : Fin 128) : EReal := ∑ p, ∑ e, A.dsv (row (chunk T p) i) (col g e) * A.vn (row (chunk T p) k) g e

def partBias (i : Fin 128) : EReal := ∑ p, ∑ e, A.dsv (row (chunk T p) i) (col g e)

end Inputs

/-! ### Sums over the tiles, from the last to the first -/

/-- The tile after `n` others. -/
def tileAt (n : ℕ) : Fin 32 := ⟨31 - n, by omega⟩

/-- The sum over the first `n + 1` tiles met. -/
def upTo (f : Fin 32 → EReal) : ℕ → EReal
  | 0 => f (tileAt 0)
  | n + 1 => upTo f n + f (tileAt (n + 1))

theorem upTo_range (f : Fin 32 → EReal) : ∀ n, upTo f n = ∑ s ∈ Finset.range (n + 1), f (tileAt s)
  | 0 => (Finset.sum_range_one _).symm
  | n + 1 => by rw [upTo, upTo_range f n, Finset.sum_range_succ _ (n + 1)]

/-- After all 32 it is the sum over the tiles, -/
theorem upTo_all (f : Fin 32 → EReal) : upTo f 31 = ∑ T, f T := by
  rw [upTo_range, Finset.sum_range]
  refine Eq.trans (Finset.sum_congr rfl fun s _ => congrArg f (Fin.ext ?_)) (Equiv.sum_comp Fin.revPerm f)
  have := s.isLt
  show 31 - s.val = 32 - (s.val + 1)
  omega

/-- and so over the chunks, two of which make a tile. -/
theorem upTo_chunks (f : Fin 64 → EReal) : upTo (fun T => ∑ p, f (chunk T p)) 31 = ∑ n, f n :=
  (upTo_all _).trans (Fin.sum_univ_tiles 32 2 rfl f).symm

end Cert.Front

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

/-- A row of four heads' columns, -/
def heads (f : Fin 4 → Fin 256 → EReal) : S1x1024.Idx → EReal := fun y =>
  f ⟨(y 1).val / 256, Nat.div_lt_of_lt_mul (y 1).isLt⟩ ⟨(y 1).val % 256, Nat.mod_lt _ (by decide)⟩

theorem heads_at (f : Fin 4 → Fin 256 → EReal) (q : Fin 4) (e : Fin 256) (a : Fin 1) (b : Fin 1024) (h : b.val = 256 * q.val + e.val) :
    heads f (ix2 a b) = f q e :=
  congrArg₂ f (Fin.ext (by show b.val / 256 = q.val; omega)) (Fin.ext (by show b.val % 256 = e.val; omega))

/-- The four gradients' buffers hold `G`, `B`, `W` and `C`. -/
structure Left.Holds (p : Left Ideal) (G B : Fin 4 → Fin 256 → EReal) (W : Fin 4 → Fin 128 → Fin 128 → EReal) (C : Fin 4 → Fin 128 → EReal) : Prop where
  g : p.dlg = heads G
  b : p.dlb = heads B
  w : p.dsw = fun y : S4x128x128.Idx => W (y 0) (y 1) (y 2)
  bias : p.dsb = fun y : S128x4.Idx => C (y 1) (y 0)

variable (m : (ℓ : Loc nD τ sig) → Buf (Elt Ideal) ℓ) (c : Dev nD) (t : Fin cfg0.N)

/-- Both spellings of gelu agree on the projection. -/
def Agrees : Prop := (∀ r j, geluSplit ((inputs m c).u r j) = gelu ((inputs m c).u r j))
  ∧ ∀ r j, geluSplit ((inputs m c).v r j) = gelu ((inputs m c).v r j)

section Point

variable {m c} (hg : Agrees m c)

include hg in
/-- A store to a head's part of a row is a block of what it adds to what was there. -/
theorem piece_g (ht : t.val < 32) (G : Fin 4 → Fin 256 → EReal) (q : ℕ) (hq : q < 4) (old : Vec Ideal S1x256 .f32) (L)
    (ho : ∀ e, old (ix2 0 e) = G ⟨q, hq⟩ e) (hL : View.PiecesOf (heads fun q e => G q e + (inputs m c).partG (tile t) q e) L) :
    View.PiecesOf (Val := Elt Ideal) (e := .f32) (heads fun q e => G q e + (inputs m c).partG (tile t) q e) (⟨rowRect q hq, (head m c t q hq).newG old⟩ :: L) :=
  cons2 (fun a b a' b' _ h1 => by
    rw [Fin.fin_one_eq_zero a, heads_at _ ⟨q, hq⟩ b a' b' h1]
    exact ((head_holds m c t ht hg.1 hg.2 ⟨q, hq⟩).newG_at old b).trans (congrArg (· + (inputs m c).partG (tile t) ⟨q, hq⟩ b) (ho b))) hL

include hg in
theorem piece_b (ht : t.val < 32) (B : Fin 4 → Fin 256 → EReal) (q : ℕ) (hq : q < 4) (old : Vec Ideal S1x256 .f32) (L)
    (ho : ∀ e, old (ix2 0 e) = B ⟨q, hq⟩ e) (hL : View.PiecesOf (heads fun q e => B q e + (inputs m c).partB (tile t) q e) L) :
    View.PiecesOf (Val := Elt Ideal) (e := .f32) (heads fun q e => B q e + (inputs m c).partB (tile t) q e) (⟨rowRect q hq, (head m c t q hq).newB old⟩ :: L) :=
  cons2 (fun a b a' b' _ h1 => by
    rw [Fin.fin_one_eq_zero a, heads_at _ ⟨q, hq⟩ b a' b' h1]
    exact ((head_holds m c t ht hg.1 hg.2 ⟨q, hq⟩).newB_at old b).trans (congrArg (· + (inputs m c).partB (tile t) ⟨q, hq⟩ b) (ho b))) hL

/-- What the weights' buffer holds after a point, -/
def plusW (W : Fin 4 → Fin 128 → Fin 128 → EReal) : S4x128x128.Idx → EReal :=
  fun y => W (y 0) (y 1) (y 2) + (inputs m c).partW (tile t) (y 0) (y 1) (y 2)

/-- and the bias's. -/
def plusBias (C : Fin 4 → Fin 128 → EReal) : S128x4.Idx → EReal := fun y => C (y 1) (y 0) + (inputs m c).partBias (tile t) (y 1) (y 0)

include hg in
theorem piece_w (ht : t.val < 32) (W : Fin 4 → Fin 128 → Fin 128 → EReal) (q : ℕ) (hq : q < 4) (old : Vec Ideal S1x128x128 .f32) (L)
    (ho : ∀ i k, old (ix3 0 i k) = W ⟨q, hq⟩ i k) (hL : View.PiecesOf (plusW (m := m) (c := c) t W) L) :
    View.PiecesOf (Val := Elt Ideal) (e := .f32) (plusW (m := m) (c := c) t W) (⟨headRect q hq, (head m c t q hq).newW old⟩ :: L) :=
  cons3 (fun a i k a' i' k' h0 h1 h2 => by
    have ea : a' = ⟨q, hq⟩ := Fin.ext (by show a'.val = q; omega)
    have ei : i' = i := Fin.ext (by omega)
    have ek : k' = k := Fin.ext (by omega)
    rw [Fin.fin_one_eq_zero a, ea, ei, ek]
    exact ((head_holds m c t ht hg.1 hg.2 ⟨q, hq⟩).newW_at old i k).trans (congrArg (· + (inputs m c).partW (tile t) ⟨q, hq⟩ i k) (ho i k))) hL

include hg in
theorem piece_bias (ht : t.val < 32) (C : Fin 4 → Fin 128 → EReal) (q : ℕ) (hq : q < 4) (old : Vec Ideal S128x1 .f32) (L)
    (ho : ∀ i, old (ix2 i 0) = C ⟨q, hq⟩ i) (hL : View.PiecesOf (plusBias (m := m) (c := c) t C) L) :
    View.PiecesOf (Val := Elt Ideal) (e := .f32) (plusBias (m := m) (c := c) t C) (⟨columnRect q hq, (head m c t q hq).newBias old⟩ :: L) :=
  cons2 (fun i a i' a' h0 h1 => by
    have ei : i' = i := Fin.ext (by omega)
    have ea : a' = ⟨q, hq⟩ := Fin.ext (by show a'.val = q; omega)
    rw [Fin.fin_one_eq_zero a, ea, ei]
    exact ((head_holds m c t ht hg.1 hg.2 ⟨q, hq⟩).newBias_at old i).trans (congrArg (· + (inputs m c).partBias (tile t) ⟨q, hq⟩ i) (ho i))) hL

/-! ### A point between -/

include hg in
theorem between_g (h : t.val ≠ 0) (hl : t.val ≠ 32) (ht : t.val < 32) (p : Left Ideal)
    (G : Fin 4 → Fin 256 → EReal) (hp : p.dlg = heads G) :
    View.canon (runMiddle m c t h hl p).2.2.2.1 = heads fun q e => G q e + (inputs m c).partG (tile t) q e :=
  (congrArg View.canon (middle_g m c t p h hl)).trans (canon_eq _ (stores (pieceG m c t p)) []
    (have o : ∀ (q : ℕ) (hq : q < 4) (e : Fin 256), View.readAt (Elt Ideal) (stage13 t).view (rowRect q hq).toLoadRect ((whole13 t).unread p.dlg) (ix2 0 e) = G ⟨q, hq⟩ e :=
        fun q hq e => (load2 (whole13 t) _ _ 0 e 0 ⟨256 * q + e.val, by omega⟩ rfl rfl).trans ((congrFun hp _).trans (heads_at G ⟨q, hq⟩ e _ _ rfl));
      piece_g t hg ht G 3 _ _ _ (o 3 _) (piece_g t hg ht G 2 _ _ _ (o 2 _) (piece_g t hg ht G 1 _ _ _ (o 1 _) (piece_g t hg ht G 0 _ _ _ (o 0 _) trivial))))
    (View.cover_of_tiledL (stores (pieceG m c t p)) ![1, 256] (by sl_kernel_rfl)))

include hg in
theorem between_b (h : t.val ≠ 0) (hl : t.val ≠ 32) (ht : t.val < 32) (p : Left Ideal)
    (B : Fin 4 → Fin 256 → EReal) (hp : p.dlb = heads B) :
    View.canon (runMiddle m c t h hl p).2.2.2.2.1 = heads fun q e => B q e + (inputs m c).partB (tile t) q e :=
  (congrArg View.canon (middle_b m c t p h hl)).trans (canon_eq _ (stores (pieceB m c t p)) []
    (have o : ∀ (q : ℕ) (hq : q < 4) (e : Fin 256), View.readAt (Elt Ideal) (stage14 t).view (rowRect q hq).toLoadRect ((whole14 t).unread p.dlb) (ix2 0 e) = B ⟨q, hq⟩ e :=
        fun q hq e => (load2 (whole14 t) _ _ 0 e 0 ⟨256 * q + e.val, by omega⟩ rfl rfl).trans ((congrFun hp _).trans (heads_at B ⟨q, hq⟩ e _ _ rfl));
      piece_b t hg ht B 3 _ _ _ (o 3 _) (piece_b t hg ht B 2 _ _ _ (o 2 _) (piece_b t hg ht B 1 _ _ _ (o 1 _) (piece_b t hg ht B 0 _ _ _ (o 0 _) trivial))))
    (View.cover_of_tiledL (stores (pieceB m c t p)) ![1, 256] (by sl_kernel_rfl)))

include hg in
theorem between_w (h : t.val ≠ 0) (hl : t.val ≠ 32) (ht : t.val < 32) (p : Left Ideal)
    (W : Fin 4 → Fin 128 → Fin 128 → EReal) (hp : p.dsw = fun y : S4x128x128.Idx => W (y 0) (y 1) (y 2)) :
    View.canon (runMiddle m c t h hl p).2.2.2.2.2.1 = plusW (m := m) (c := c) t W :=
  (congrArg View.canon (middle_w m c t p h hl)).trans (canon_eq _ (stores (pieceW m c t p)) []
    (have o : ∀ (q : ℕ) (hq : q < 4) (i k : Fin 128), View.readAt (Elt Ideal) (stage15 t).view (headRect q hq).toLoadRect ((whole15 t).unread p.dsw) (ix3 0 i k) = W ⟨q, hq⟩ i k :=
        fun q hq i k => (load3 (whole15 t) _ _ 0 i k ⟨q, hq⟩ i k rfl (Nat.zero_add _).symm (Nat.zero_add _).symm).trans (congrFun hp _);
      piece_w t hg ht W 3 _ _ _ (o 3 _) (piece_w t hg ht W 2 _ _ _ (o 2 _) (piece_w t hg ht W 1 _ _ _ (o 1 _) (piece_w t hg ht W 0 _ _ [] (o 0 _) trivial))))
    (View.cover_of_tiledL (stores (pieceW m c t p)) ![1, 128, 128] (by sl_kernel_rfl)))

include hg in
theorem between_bias (h : t.val ≠ 0) (hl : t.val ≠ 32) (ht : t.val < 32) (p : Left Ideal)
    (C : Fin 4 → Fin 128 → EReal) (hp : p.dsb = fun y : S128x4.Idx => C (y 1) (y 0)) :
    View.canon (runMiddle m c t h hl p).2.2.2.2.2.2.1 = plusBias (m := m) (c := c) t C :=
  (congrArg View.canon (middle_bias m c t p h hl)).trans (canon_eq _ (stores (pieceBias m c t p)) []
    (have o : ∀ (q : ℕ) (hq : q < 4) (i : Fin 128), View.readAt (Elt Ideal) (stage16 t).view (columnRect q hq).toLoadRect ((whole16 t).unread p.dsb) (ix2 i 0) = C ⟨q, hq⟩ i :=
        fun q hq i => (load2 (whole16 t) _ _ i 0 i ⟨q, hq⟩ (Nat.zero_add _).symm rfl).trans (congrFun hp _);
      piece_bias t hg ht C 3 _ _ _ (o 3 _) (piece_bias t hg ht C 2 _ _ _ (o 2 _) (piece_bias t hg ht C 1 _ _ _ (o 1 _) (piece_bias t hg ht C 0 _ _ [] (o 0 _) trivial))))
    (View.cover_of_tiledL (stores (pieceBias m c t p)) ![128, 1] (by sl_kernel_rfl)))

theorem leftMiddle_dlg (h : t.val ≠ 0) (hl : t.val ≠ 32) (p : Left Ideal) (K) : (leftMiddle m c t h hl p K).dlg = View.canon (runMiddle m c t h hl p).2.2.2.1 := by sl_kernel_rfl

theorem leftMiddle_dlb (h : t.val ≠ 0) (hl : t.val ≠ 32) (p : Left Ideal) (K) : (leftMiddle m c t h hl p K).dlb = View.canon (runMiddle m c t h hl p).2.2.2.2.1 := by sl_kernel_rfl

theorem leftMiddle_dsw (h : t.val ≠ 0) (hl : t.val ≠ 32) (p : Left Ideal) (K) : (leftMiddle m c t h hl p K).dsw = View.canon (runMiddle m c t h hl p).2.2.2.2.2.1 := by sl_kernel_rfl

theorem leftMiddle_dsb (h : t.val ≠ 0) (hl : t.val ≠ 32) (p : Left Ideal) (K) : (leftMiddle m c t h hl p K).dsb = View.canon (runMiddle m c t h hl p).2.2.2.2.2.2.1 := by sl_kernel_rfl

include hg in
theorem middle_holds (h : t.val ≠ 0) (hl : t.val ≠ 32) (ht : t.val < 32) (p : Left Ideal) (G B : Fin 4 → Fin 256 → EReal)
    (W : Fin 4 → Fin 128 → Fin 128 → EReal) (C : Fin 4 → Fin 128 → EReal) (hp : p.Holds G B W C) (K) :
    (leftMiddle m c t h hl p K).Holds (fun q e => G q e + (inputs m c).partG (tile t) q e) (fun q e => B q e + (inputs m c).partB (tile t) q e)
      (fun q i k => W q i k + (inputs m c).partW (tile t) q i k) (fun q i => C q i + (inputs m c).partBias (tile t) q i) :=
  ⟨(leftMiddle_dlg t h hl p K).trans (between_g t hg h hl ht p G hp.g), (leftMiddle_dlb t h hl p K).trans (between_b t hg h hl ht p B hp.b),
    (leftMiddle_dsw t h hl p K).trans (between_w t hg h hl ht p W hp.w), (leftMiddle_dsb t h hl p K).trans (between_bias t hg h hl ht p C hp.bias)⟩

/-! ### The first point -/

theorem zero4 (x) : k0_pay4 (F := Ideal) x = 0 := by unfold k0_pay4; pointwise

theorem zero5 (x) : k0_pay5 (F := Ideal) x = 0 := by unfold k0_pay5; pointwise

theorem zero6 (x) : k0_pay6 (F := Ideal) x = 0 := by unfold k0_pay6; pointwise

theorem zero7 (x) : k0_pay7 (F := Ideal) x = 0 := by unfold k0_pay7; pointwise

/-- No head's load meets the heads before it. -/
theorem apart_g (n : ℕ) (h : n < 4) : (startG m c t n (Nat.le_of_lt h)).all (fun p => LoadRect.disj p.1 (rowRect n h).toLoadRect) = true :=
  match n, h with
  | 0, _ => by sl_kernel_rfl
  | 1, _ => by sl_kernel_rfl
  | 2, _ => by sl_kernel_rfl
  | 3, _ => by sl_kernel_rfl

theorem apart_b (n : ℕ) (h : n < 4) : (startB m c t n (Nat.le_of_lt h)).all (fun p => LoadRect.disj p.1 (rowRect n h).toLoadRect) = true :=
  match n, h with
  | 0, _ => by sl_kernel_rfl
  | 1, _ => by sl_kernel_rfl
  | 2, _ => by sl_kernel_rfl
  | 3, _ => by sl_kernel_rfl

theorem apart_w (n : ℕ) (h : n < 4) : (startW m c t n (Nat.le_of_lt h)).all (fun p => LoadRect.disj p.1 (headRect n h).toLoadRect) = true :=
  match n, h with
  | 0, _ => by sl_kernel_rfl
  | 1, _ => by sl_kernel_rfl
  | 2, _ => by sl_kernel_rfl
  | 3, _ => by sl_kernel_rfl

theorem apart_bias (n : ℕ) (h : n < 4) : (startBias m c t n (Nat.le_of_lt h)).all (fun p => LoadRect.disj p.1 (columnRect n h).toLoadRect) = true :=
  match n, h with
  | 0, _ => by sl_kernel_rfl
  | 1, _ => by sl_kernel_rfl
  | 2, _ => by sl_kernel_rfl
  | 3, _ => by sl_kernel_rfl

include hg in
theorem start_g (ht : t.val < 32) : ∀ (n : ℕ) (h : n ≤ 4), View.PiecesOf (heads fun q e => 0 + (inputs m c).partG (tile t) q e) (startG m c t n h)
  | 0, _ => trivial
  | n + 1, h => piece_g t hg ht (fun _ _ => 0) n h _ _ (fun e =>
      (congrFun (cov_skip (stage13 t).view [zeroG] (rowRect n h).toLoadRect _ (apart_g t n h)) _).trans
        (fill_at (Val := Elt Ideal) (s := S1x1024) (e := .f32) (stage13 t).view inb_S1x1024_S1x1024_0_0 (k0_pay4 (F := Ideal)) 0 zero4 (rowRect n h) (by decide) _))
      (start_g ht n (Nat.le_of_succ_le h))

include hg in
theorem start_b (ht : t.val < 32) : ∀ (n : ℕ) (h : n ≤ 4), View.PiecesOf (heads fun q e => 0 + (inputs m c).partB (tile t) q e) (startB m c t n h)
  | 0, _ => trivial
  | n + 1, h => piece_b t hg ht (fun _ _ => 0) n h _ _ (fun e =>
      (congrFun (cov_skip (stage14 t).view [zeroB] (rowRect n h).toLoadRect _ (apart_b t n h)) _).trans
        (fill_at (Val := Elt Ideal) (s := S1x1024) (e := .f32) (stage14 t).view inb_S1x1024_S1x1024_0_0 (k0_pay5 (F := Ideal)) 0 zero5 (rowRect n h) (by decide) _))
      (start_b ht n (Nat.le_of_succ_le h))

include hg in
theorem start_w (ht : t.val < 32) : ∀ (n : ℕ) (h : n ≤ 4), View.PiecesOf (plusW (m := m) (c := c) t fun _ _ _ => 0) (startW m c t n h)
  | 0, _ => trivial
  | n + 1, h => piece_w t hg ht (fun _ _ _ => 0) n h _ _ (fun i k =>
      (congrFun (cov_skip (stage15 t).view [zeroW] (headRect n h).toLoadRect _ (apart_w t n h)) _).trans
        (fill_at (Val := Elt Ideal) (s := S4x128x128) (e := .f32) (stage15 t).view inb_S4x128x128_S4x128x128_0_0_0 (k0_pay6 (F := Ideal)) 0 zero6 (headRect n h) (by decide) _))
      (start_w ht n (Nat.le_of_succ_le h))

include hg in
theorem start_bias (ht : t.val < 32) : ∀ (n : ℕ) (h : n ≤ 4), View.PiecesOf (plusBias (m := m) (c := c) t fun _ _ => 0) (startBias m c t n h)
  | 0, _ => trivial
  | n + 1, h => piece_bias t hg ht (fun _ _ => 0) n h _ _ (fun i =>
      (congrFun (cov_skip (stage16 t).view [zeroBias] (columnRect n h).toLoadRect _ (apart_bias t n h)) _).trans
        (fill_at (Val := Elt Ideal) (s := S128x4) (e := .f32) (stage16 t).view inb_S128x4_S128x4_0_0 (k0_pay7 (F := Ideal)) 0 zero7 (columnRect n h) (by decide) _))
      (start_bias ht n (Nat.le_of_succ_le h))

include hg in
theorem begun_g (h : t.val = 0) (ht : t.val < 32) : View.canon (runFirst m c t h).2.2.2.1 = heads fun q e => 0 + (inputs m c).partG (tile t) q e :=
  (congrArg View.canon (first_g m c t h)).trans
    (canon_eq _ _ _ (start_g t hg ht 4 _) (View.cover_of_tiledL (startG m c t 4 (Nat.le_refl 4)) ![1, 256] (by sl_kernel_rfl)))

include hg in
theorem begun_b (h : t.val = 0) (ht : t.val < 32) : View.canon (runFirst m c t h).2.2.2.2.1 = heads fun q e => 0 + (inputs m c).partB (tile t) q e :=
  (congrArg View.canon (first_b m c t h)).trans
    (canon_eq _ _ _ (start_b t hg ht 4 _) (View.cover_of_tiledL (startB m c t 4 (Nat.le_refl 4)) ![1, 256] (by sl_kernel_rfl)))

include hg in
theorem begun_w (h : t.val = 0) (ht : t.val < 32) : View.canon (runFirst m c t h).2.2.2.2.2.1 = plusW (m := m) (c := c) t fun _ _ _ => 0 :=
  (congrArg View.canon (first_w m c t h)).trans
    (canon_eq _ _ _ (start_w t hg ht 4 _) (View.cover_of_tiledL (startW m c t 4 (Nat.le_refl 4)) ![1, 128, 128] (by sl_kernel_rfl)))

include hg in
theorem begun_bias (h : t.val = 0) (ht : t.val < 32) : View.canon (runFirst m c t h).2.2.2.2.2.2.1 = plusBias (m := m) (c := c) t fun _ _ => 0 :=
  (congrArg View.canon (first_bias m c t h)).trans
    (canon_eq _ _ _ (start_bias t hg ht 4 _) (View.cover_of_tiledL (startBias m c t 4 (Nat.le_refl 4)) ![128, 1] (by sl_kernel_rfl)))

theorem leftFirst_dlg (h : t.val = 0) : (leftFirst m c t h).dlg = View.canon (runFirst m c t h).2.2.2.1 := by sl_kernel_rfl

theorem leftFirst_dlb (h : t.val = 0) : (leftFirst m c t h).dlb = View.canon (runFirst m c t h).2.2.2.2.1 := by sl_kernel_rfl

theorem leftFirst_dsw (h : t.val = 0) : (leftFirst m c t h).dsw = View.canon (runFirst m c t h).2.2.2.2.2.1 := by sl_kernel_rfl

theorem leftFirst_dsb (h : t.val = 0) : (leftFirst m c t h).dsb = View.canon (runFirst m c t h).2.2.2.2.2.2.1 := by sl_kernel_rfl

include hg in
theorem first_holds (h : t.val = 0) (ht : t.val < 32) : (leftFirst m c t h).Holds (fun q e => 0 + (inputs m c).partG (tile t) q e)
    (fun q e => 0 + (inputs m c).partB (tile t) q e) (fun q i k => 0 + (inputs m c).partW (tile t) q i k) (fun q i => 0 + (inputs m c).partBias (tile t) q i) :=
  ⟨(leftFirst_dlg t h).trans (begun_g t hg h ht), (leftFirst_dlb t h).trans (begun_b t hg h ht),
    (leftFirst_dsw t h).trans (begun_w t hg h ht), (leftFirst_dsb t h).trans (begun_bias t hg h ht)⟩

/-! ### Every point, and the last -/

/-- The four sums so far. -/
def Sums (m : (ℓ : Loc nD τ sig) → Buf (Elt Ideal) ℓ) (c : Dev nD) (n : ℕ) (p : Left Ideal) : Prop :=
  p.Holds (fun q e => upTo (fun T => (inputs m c).partG T q e) n) (fun q e => upTo (fun T => (inputs m c).partB T q e) n)
    (fun q i k => upTo (fun T => (inputs m c).partW T q i k) n) (fun q i => upTo (fun T => (inputs m c).partBias T q i) n)

include hg in
theorem sums_first (h : t.val = 0) : Sums m c 0 (leftFirst m c t h) := by
  have H := first_holds t hg h (by omega)
  have e : tile t = tileAt 0 := Fin.ext (by show 31 - t.val = 31 - 0; omega)
  rw [e] at H
  simp only [zero_add] at H
  exact H

include hg in
theorem sums_middle (h : t.val ≠ 0) (hl : t.val ≠ 32) (ht : t.val < 32) (n : ℕ) (hn : t.val = n + 1) (p : Left Ideal) (hp : Sums m c n p) (K) :
    Sums m c (n + 1) (leftMiddle m c t h hl p K) := by
  have H := middle_holds t hg h hl ht p _ _ _ _ hp K
  have e : tile t = tileAt (n + 1) := Fin.ext (by show 31 - t.val = 31 - (n + 1); omega)
  rw [e] at H
  exact H

include hg in
theorem sums_at : ∀ (n : ℕ) (hn : n < cfg0.N), n < 32 → Sums m c n (leftAt m c n hn)
  | 0, hn, _ => (leftAt_first m c ⟨0, hn⟩ rfl).symm ▸ sums_first ⟨0, hn⟩ hg rfl
  | n + 1, hn, h => (leftAt_middle m c ⟨n + 1, hn⟩ (Nat.succ_ne_zero n) (Nat.ne_of_lt h)).symm ▸
      sums_middle ⟨n + 1, hn⟩ hg (Nat.succ_ne_zero n) (Nat.ne_of_lt h) h n rfl _ (sums_at n (Nat.lt_of_succ_lt hn) (Nat.lt_of_succ_lt h)) _

include hg in
/-- The last point, which works on no tile of its own, finds the four gradients whole. -/
theorem before_last (h : t.val = 32) :
    (before m c t).Holds (inputs m c).dLnG (inputs m c).dLnB (inputs m c).dMix (fun q i => (inputs m c).dBias i q) := by
  have H : Sums m c (t.val - 1) (before m c t) := sums_at hg _ _ (by omega)
  have e : t.val - 1 = 31 := by omega
  exact ⟨H.g.trans (congrArg heads (funext fun q => funext fun k => by
      rw [e]; exact upTo_chunks fun n => ∑ i, (inputs m c).vhat (row n i) q k * (inputs m c).dVn n i q k)),
    H.b.trans (congrArg heads (funext fun q => funext fun k => by rw [e]; exact upTo_chunks fun n => ∑ i, (inputs m c).dVn n i q k)),
    H.w.trans (funext fun y => by
      rw [e]; exact upTo_chunks fun n => ∑ k, (inputs m c).dsv (row n (y 1)) (col (y 0) k) * (inputs m c).vn (row n (y 2)) (y 0) k),
    H.bias.trans (funext fun y => by rw [e]; exact upTo_chunks fun n => ∑ k, (inputs m c).dsv (row n (y 0)) (col (y 1) k))⟩

end Point

end Cert.Kernel2Ideal.Front
-- ==== Proof.Front.Frame.lean ====
/- The frame of the front backward kernel: the invariant between points, the body at a point, and the launch. -/
module

public import proofs.«01_k».proof.Proof.Front.Left

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

/-! ## The invariant between points and the pipeline's proof data -/

/-- Two points on, the same slot. -/
theorem slotOf_add_two (n : ℕ) (K : Vec F S2x256x5120 .bf16) : slotOf (n + 2) K = slotOf n K := by
  unfold slotOf
  have e : (⟨(n + 2) % 2, slot_lt (n + 2)⟩ : Fin 2) = ⟨n % 2, slot_lt n⟩ := Fin.ext (Nat.add_mod_right n 2)
  funext y; rw [e]

/-- The slot the point after reads is the one the point before it wrote. -/
theorem slotOf_before (n : ℕ) (h : n ≠ 0) (K : Vec F S2x256x5120 .bf16) : slotOf (n + 1) K = slotOf (n - 1) K := by
  obtain ⟨k, rfl⟩ := Nat.exists_eq_succ_of_ne_zero h
  exact slotOf_add_two k K

/-- A scratch with an adjoint in both slots has it in each. -/
theorem slotOf_inBoth (n : ℕ) (d : Vec F S256x5120 .bf16) : slotOf n (inBoth d) = d := by
  funext y
  show d (ix2 (y 0) (y 1)) = d y
  exact congrArg d (eq_ix2 y).symm

/-- Between two points: the weight, the slot of the scratch the point before (`n`) wrote, the rows it carried, the generator, the cell at zero, the weight in HBM. -/
def held (c : Dev nD) (n : ℕ) (p : Left F) : sProp 𝕄 :=
  iprop(iprop(owns (c : Thread nD τ) weightM fullShare p.weight ∗ (∃ K, ⌜n ≠ 32 → slotOf n K = p.keep⌝ ∗ owns (c : Thread nD τ) keepM fullShare K) ∗ owns (c : Thread nD τ) carryM fullShare p.carry)
    ∗ (∃ r, prngReg c r) ∗ semVal ((c : Thread nD τ), SemLoc.dma 22) 0 ∗ hbmAt c hbmM (V m c main_v178))

/-- The invariant before position `n`: at the start what the launch hands over, then `held` at the point before. -/
def invariant (c : Dev nD) : (n : ℕ) → n ≤ cfg0.N → sProp 𝕄
  | 0, _ => Pipeline.ΦD ownSem spec0 copied (V m) c
  | n + 1, hn => held m c n (leftAt m c n hn)

theorem invariant_zero (c : Dev nD) (n : ℕ) (h : n ≤ cfg0.N) (hz : n = 0) :
    invariant m c n h = Pipeline.ΦD ownSem spec0 copied (V m) c := by
  subst hz; rfl

theorem invariant_pos (c : Dev nD) (n : ℕ) (h : n ≤ cfg0.N) (hz : n ≠ 0) :
    invariant m c n h = held m c (n - 1) (leftAt m c (n - 1) (by omega)) := by
  cases n with
  | zero => exact absurd rfl hz
  | succ n => rfl

/-- The pipeline's proof data on core `c`: an input's buffer holds its block, an output's what the point left. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (leftAt m c t.val t.isLt).dh
    | ⟨10, _⟩ => (leftAt m c t.val t.isLt).dx
    | ⟨11, _⟩ => (leftAt m c t.val t.isLt).dpw
    | ⟨12, _⟩ => (leftAt m c t.val t.isLt).dps
    | ⟨13, _⟩ => (leftAt m c t.val t.isLt).dlg
    | ⟨14, _⟩ => (leftAt m c t.val t.isLt).dlb
    | ⟨15, _⟩ => (leftAt m c t.val t.isLt).dsw
    | ⟨16, _⟩ => (leftAt m c t.val t.isLt).dsb
    | ⟨n + 17, h⟩ => absurd h (Nat.not_lt.mpr (Nat.le_add_left 17 n))
  Φ t := invariant m c t.val (Nat.le_of_lt_succ t.isLt)
  q _ := fullShare
  owed _ := 0

theorem A_eq (c : Dev nD) (w : Fin cfg0.W) : (dats m 0 c).A w = V m c (Pipeline.arrRef spec0 w) := by
  dsimp only [dats]

theorem invariant_castSucc (c : Dev nD) (t : Fin cfg0.N) :
    (dats m 0 c).Φ t.castSucc = invariant m c t.val (Nat.le_of_lt t.isLt) := by
  dsimp only [dats]; exact Pipeline.Dat.Φ_castSucc (invariant m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (leftAt m c t.val t.isLt).dh := by dsimp only [dats]
theorem after_10 (c : Dev nD) (t : Fin cfg0.N) : (dats m 0 c).after 10 t = (leftAt m c t.val t.isLt).dx := by dsimp only [dats]
theorem after_11 (c : Dev nD) (t : Fin cfg0.N) : (dats m 0 c).after 11 t = (leftAt m c t.val t.isLt).dpw := by dsimp only [dats]
theorem after_12 (c : Dev nD) (t : Fin cfg0.N) : (dats m 0 c).after 12 t = (leftAt m c t.val t.isLt).dps := by dsimp only [dats]
theorem after_13 (c : Dev nD) (t : Fin cfg0.N) : (dats m 0 c).after 13 t = (leftAt m c t.val t.isLt).dlg := by dsimp only [dats]
theorem after_14 (c : Dev nD) (t : Fin cfg0.N) : (dats m 0 c).after 14 t = (leftAt m c t.val t.isLt).dlb := by dsimp only [dats]
theorem after_15 (c : Dev nD) (t : Fin cfg0.N) : (dats m 0 c).after 15 t = (leftAt m c t.val t.isLt).dsw := by dsimp only [dats]
theorem after_16 (c : Dev nD) (t : Fin cfg0.N) : (dats m 0 c).after 16 t = (leftAt m c t.val t.isLt).dsb := by dsimp only [dats]

/-- An input's buffer holds its block before every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! When the windows written are idle, and when their buffers are fresh: the adjoint's and the sums' stay untouched at the last point, the input gradient's at the first. -/

theorem idle_9 : ∀ t : Fin cfg0.N, cfg0.idle 9 (cfg0.grid.coords t) = decide (t.val = 32) := by decide +kernel
theorem idle_11 : ∀ t : Fin cfg0.N, cfg0.idle 11 (cfg0.grid.coords t) = decide (t.val = 32) := by decide +kernel
theorem idle_12 : ∀ t : Fin cfg0.N, cfg0.idle 12 (cfg0.grid.coords t) = decide (t.val = 32) := by decide +kernel
theorem idle_13 : ∀ t : Fin cfg0.N, cfg0.idle 13 (cfg0.grid.coords t) = decide (t.val = 32) := by decide +kernel
theorem idle_14 : ∀ t : Fin cfg0.N, cfg0.idle 14 (cfg0.grid.coords t) = decide (t.val = 32) := by decide +kernel
theorem idle_15 : ∀ t : Fin cfg0.N, cfg0.idle 15 (cfg0.grid.coords t) = decide (t.val = 32) := by decide +kernel
theorem idle_16 : ∀ t : Fin cfg0.N, cfg0.idle 16 (cfg0.grid.coords t) = decide (t.val = 32) := by decide +kernel
theorem idle_10 : ∀ t : Fin cfg0.N, cfg0.idle 10 (cfg0.grid.coords t) = decide (t.val = 0) := by decide +kernel
theorem flush_10 : ∀ t : Fin cfg0.N, t.val = 0 → (cfg0.win 10).flush t = false := by decide +kernel
theorem flush_9 : ∀ t : Fin cfg0.N, t.val = 32 → (cfg0.win 9).flush t = true := by decide +kernel
theorem flush_11 : ∀ t : Fin cfg0.N, t.val = 32 → (cfg0.win 11).flush t = true := by decide +kernel
theorem flush_12 : ∀ t : Fin cfg0.N, t.val = 32 → (cfg0.win 12).flush t = true := by decide +kernel
theorem flush_13 : ∀ t : Fin cfg0.N, t.val = 32 → (cfg0.win 13).flush t = true := by decide +kernel
theorem flush_14 : ∀ t : Fin cfg0.N, t.val = 32 → (cfg0.win 14).flush t = true := by decide +kernel
theorem flush_15 : ∀ t : Fin cfg0.N, t.val = 32 → (cfg0.win 15).flush t = true := by decide +kernel
theorem flush_16 : ∀ t : Fin cfg0.N, t.val = 32 → (cfg0.win 16).flush t = true := by decide +kernel
theorem fresh_11 : ∀ t : Fin cfg0.N, t.val ≠ 0 → cfg0.fresh 11 t.val = false := by decide +kernel
theorem fresh_12 : ∀ t : Fin cfg0.N, t.val ≠ 0 → cfg0.fresh 12 t.val = false := by decide +kernel
theorem fresh_13 : ∀ t : Fin cfg0.N, t.val ≠ 0 → cfg0.fresh 13 t.val = false := by decide +kernel
theorem fresh_14 : ∀ t : Fin cfg0.N, t.val ≠ 0 → cfg0.fresh 14 t.val = false := by decide +kernel
theorem fresh_15 : ∀ t : Fin cfg0.N, t.val ≠ 0 → cfg0.fresh 15 t.val = false := by decide +kernel
theorem fresh_16 : ∀ t : Fin cfg0.N, t.val ≠ 0 → cfg0.fresh 16 t.val = false := by decide +kernel
theorem fresh_9 : ∀ t : Fin cfg0.N, t.val = 32 → cfg0.fresh 9 t.val = false := by decide +kernel

theorem carries_9 (c : Dev nD) (t : Fin cfg0.N) (h : t.val = 32) : (dats m 0 c).after 9 t = (before m c t).dh := by
  rw [after_9, leftAt_last m c t h]; rfl
theorem before_9 (c : Dev nD) (t : Fin cfg0.N) (h : t.val = 32) (d) : (dats m 0 c).before 9 t d = (before m c t).dh := by
  rw [(dats m 0 c).before_out_traj 9 rfl (fun _ _ => rfl) (fun t _ hi _ => by
    rw [idle_9, decide_eq_true_eq] at hi; rw [carries_9 m c t hi, after_9]) t.val t rfl d, fresh_9 t h, if_neg Bool.false_ne_true, after_9]

theorem carries_11 (c : Dev nD) (t : Fin cfg0.N) (h : t.val = 32) : (dats m 0 c).after 11 t = (before m c t).dpw := by
  rw [after_11, leftAt_last m c t h]; rfl
theorem before_11 (c : Dev nD) (t : Fin cfg0.N) (h : t.val ≠ 0) (d) : (dats m 0 c).before 11 t d = (before m c t).dpw := by
  rw [(dats m 0 c).before_out_traj 11 rfl (fun _ _ => rfl) (fun t _ hi _ => by
    rw [idle_11, decide_eq_true_eq] at hi; rw [carries_11 m c t hi, after_11]) t.val t rfl d, fresh_11 t h, if_neg Bool.false_ne_true, after_11]

theorem carries_12 (c : Dev nD) (t : Fin cfg0.N) (h : t.val = 32) : (dats m 0 c).after 12 t = (before m c t).dps := by
  rw [after_12, leftAt_last m c t h]; rfl
theorem before_12 (c : Dev nD) (t : Fin cfg0.N) (h : t.val ≠ 0) (d) : (dats m 0 c).before 12 t d = (before m c t).dps := by
  rw [(dats m 0 c).before_out_traj 12 rfl (fun _ _ => rfl) (fun t _ hi _ => by
    rw [idle_12, decide_eq_true_eq] at hi; rw [carries_12 m c t hi, after_12]) t.val t rfl d, fresh_12 t h, if_neg Bool.false_ne_true, after_12]

theorem carries_13 (c : Dev nD) (t : Fin cfg0.N) (h : t.val = 32) : (dats m 0 c).after 13 t = (before m c t).dlg := by
  rw [after_13, leftAt_last m c t h]; rfl
theorem before_13 (c : Dev nD) (t : Fin cfg0.N) (h : t.val ≠ 0) (d) : (dats m 0 c).before 13 t d = (before m c t).dlg := by
  rw [(dats m 0 c).before_out_traj 13 rfl (fun _ _ => rfl) (fun t _ hi _ => by
    rw [idle_13, decide_eq_true_eq] at hi; rw [carries_13 m c t hi, after_13]) t.val t rfl d, fresh_13 t h, if_neg Bool.false_ne_true, after_13]

theorem carries_14 (c : Dev nD) (t : Fin cfg0.N) (h : t.val = 32) : (dats m 0 c).after 14 t = (before m c t).dlb := by
  rw [after_14, leftAt_last m c t h]; rfl
theorem before_14 (c : Dev nD) (t : Fin cfg0.N) (h : t.val ≠ 0) (d) : (dats m 0 c).before 14 t d = (before m c t).dlb := by
  rw [(dats m 0 c).before_out_traj 14 rfl (fun _ _ => rfl) (fun t _ hi _ => by
    rw [idle_14, decide_eq_true_eq] at hi; rw [carries_14 m c t hi, after_14]) t.val t rfl d, fresh_14 t h, if_neg Bool.false_ne_true, after_14]

theorem carries_15 (c : Dev nD) (t : Fin cfg0.N) (h : t.val = 32) : (dats m 0 c).after 15 t = (before m c t).dsw := by
  rw [after_15, leftAt_last m c t h]; rfl
theorem before_15 (c : Dev nD) (t : Fin cfg0.N) (h : t.val ≠ 0) (d) : (dats m 0 c).before 15 t d = (before m c t).dsw := by
  rw [(dats m 0 c).before_out_traj 15 rfl (fun _ _ => rfl) (fun t _ hi _ => by
    rw [idle_15, decide_eq_true_eq] at hi; rw [carries_15 m c t hi, after_15]) t.val t rfl d, fresh_15 t h, if_neg Bool.false_ne_true, after_15]

theorem carries_16 (c : Dev nD) (t : Fin cfg0.N) (h : t.val = 32) : (dats m 0 c).after 16 t = (before m c t).dsb := by
  rw [after_16, leftAt_last m c t h]; rfl
theorem before_16 (c : Dev nD) (t : Fin cfg0.N) (h : t.val ≠ 0) (d) : (dats m 0 c).before 16 t d = (before m c t).dsb := by
  rw [(dats m 0 c).before_out_traj 16 rfl (fun _ _ => rfl) (fun t _ hi _ => by
    rw [idle_16, decide_eq_true_eq] at hi; rw [carries_16 m c t hi, after_16]) t.val t rfl d, fresh_16 t h, if_neg Bool.false_ne_true, after_16]

/-! ## The body at a point -/

/-- What the body is called with at point `t`, and what it must return; the input gradient's buffer at the first point as it came. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d))
    ∗ (∃ d, owns (c : Thread nD τ) (stage8 t) fullShare ((dats m 0 c).before 8 t d))
    ∗ (∃ d, owns (c : Thread nD τ) (stage9 t) fullShare ((dats m 0 c).before 9 t d))
    ∗ (∃ d, owns (c : Thread nD τ) (stage10 t) fullShare ((dats m 0 c).before 10 t d))
    ∗ (∃ d, owns (c : Thread nD τ) (stage11 t) fullShare ((dats m 0 c).before 11 t d))
    ∗ (∃ d, owns (c : Thread nD τ) (stage12 t) fullShare ((dats m 0 c).before 12 t d))
    ∗ (∃ d, owns (c : Thread nD τ) (stage13 t) fullShare ((dats m 0 c).before 13 t d))
    ∗ (∃ d, owns (c : Thread nD τ) (stage14 t) fullShare ((dats m 0 c).before 14 t d))
    ∗ (∃ d, owns (c : Thread nD τ) (stage15 t) fullShare ((dats m 0 c).before 15 t d))
    ∗ (∃ d, owns (c : Thread nD τ) (stage16 t) fullShare ((dats m 0 c).before 16 t d)))

def bodyPost (c : Dev nD) (t : Fin cfg0.N) (gradient : sProp 𝕄) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t)
    ∗ owns (c : Thread nD τ) (stage8 t) fullShare ((dats m 0 c).after 8 t)
    ∗ owns (c : Thread nD τ) (stage9 t) fullShare ((dats m 0 c).after 9 t)
    ∗ gradient
    ∗ owns (c : Thread nD τ) (stage11 t) fullShare ((dats m 0 c).after 11 t)
    ∗ owns (c : Thread nD τ) (stage12 t) fullShare ((dats m 0 c).after 12 t)
    ∗ owns (c : Thread nD τ) (stage13 t) fullShare ((dats m 0 c).after 13 t)
    ∗ owns (c : Thread nD τ) (stage14 t) fullShare ((dats m 0 c).after 14 t)
    ∗ owns (c : Thread nD τ) (stage15 t) fullShare ((dats m 0 c).after 15 t)
    ∗ owns (c : Thread nD τ) (stage16 t) fullShare ((dats m 0 c).after 16 t))

def asItCame (c : Dev nD) (t : Fin cfg0.N) : sProp 𝕄 := iprop(∃ d, owns (c : Thread nD τ) (stage10 t) fullShare ((dats m 0 c).before 10 t d))
def written (c : Dev nD) (t : Fin cfg0.N) : sProp 𝕄 := owns (c : Thread nD τ) (stage10 t) fullShare ((dats m 0 c).after 10 t)

omit [FloatOps F] in
/-- A buffer holding a covering list of stores is owned at their canonical contents. -/
theorem owns_canon [∀ e, Nonempty (Elt F e)] {c : Dev nD} {sp : Space} {s : Shape} {e : EltTy} {M : Memref sig .tc sp s e}
    {L : List (View.Piece (Elt F) s e)} (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩; unfold owns; iexists M.view.writes (Elt F) f L; isplitr
  · ipureintro; exact View.read_writes_eq_canon _ _ _ h
  · iexact H

theorem whole_slot_inb (n : ℕ) : ∀ a, (![n % 2, 0, 0] : Fin 3 → ℕ) a + (![1, 256, 5120] : Fin 3 → ℕ) a ≤ S2x256x5120.size a := by
  have := slot_lt n
  intro a; fin_cases a
  · show n % 2 + 1 ≤ 2; omega
  · show 0 + 256 ≤ 256; omega
  · show 0 + 5120 ≤ 5120; omega

/-- Whatever was in the scratch before a point's store of its adjoint, the slot it wrote is known. -/
theorem slot_left {c : Dev nD} {n : ℕ} {L : List (View.Piece (Elt F) S2x256x5120 .bf16)}
    (hL : L.map (fun p => p.1) = [Rect.unit (s := S2x256x5120) ![n % 2, 0, 0] ![1, 256, 5120] (whole_slot_inb n)]) :
    (iprop(∃ f, keepM.view.loc (c : Thread nD τ) ↦[keepM.view.set]{fullShare} keepM.view.writes (Elt F) f L) : sProp 𝕄)
      ⊢ iprop(∃ K, ⌜n ≠ 32 → slotOf n K = slotOf n (View.canon L)⌝ ∗ owns (c : Thread nD τ) keepM fullShare K) := by
  iintro ⟨%f, H⟩
  iexists keepM.view.read (Elt F) (keepM.view.writes (Elt F) f L)
  isplitr
  · ipureintro
    intro _
    funext y
    refine View.read_writes_apply_eq_canon _ _ _ _ ?_
    have hm : Rect.unit (s := S2x256x5120) ![n % 2, 0, 0] ![1, 256, 5120] (whole_slot_inb n) ∈ L.map (fun p => p.1) := by rw [hL]; exact List.mem_singleton.mpr rfl
    obtain ⟨p, hp, e⟩ := List.mem_map.mp hm
    refine ⟨p, hp, ?_⟩
    rw [e]
    refine Rect.mem_set_unit.mpr fun a => ?_
    fin_cases a
    · exact ⟨le_refl _, Nat.lt_succ_self _⟩
    · exact ⟨Nat.zero_le _, lt_of_lt_of_eq (y 0).isLt (Nat.zero_add _).symm⟩
    · exact ⟨Nat.zero_le _, lt_of_lt_of_eq (y 1).isLt (Nat.zero_add _).symm⟩
  · unfold owns; iexists _; isplitr
    · ipureintro; rfl
    · iexact H

end Cert.Kernel2Ideal.Front

end
-- ==== Proof.Front.Body.lean ====
/- The body of the front backward kernel at a point: from the invariant and the staged blocks to what the point leaves. -/
module

public import proofs.«01_k».proof.Proof.Front.Frame

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A point stores its adjoint in one slot of the scratch, whole. -/
theorem kept_first (c : Dev nD) (t : Fin cfg0.N) (h : t.val = 0) :
    (runFirst m c t h).2.2.2.2.2.2.2.2.1.map (fun p => p.1) = [Rect.unit (s := S2x256x5120) ![t.val % 2, 0, 0] ![1, 256, 5120] (whole_slot_inb t.val)] := by
  have e : (runFirst m c t h).2.2.2.2.2.2.2.2.1.map (fun p => p.1) = [Rect.unit (s := S2x256x5120) (k0_off1 (grid0.coords t)) ![1, 256, 5120] ((slot_written t).1 ▸ whole_slot_inb t.val)] := by sl_kernel_rfl
  rw [e]; simp only [(slot_written t).1]

theorem kept_middle (c : Dev nD) (t : Fin cfg0.N) (h : t.val ≠ 0) (hl : t.val ≠ 32) (p : Left F) :
    (runMiddle m c t h hl p).2.2.2.2.2.2.2.1.map (fun p => p.1) = [Rect.unit (s := S2x256x5120) ![t.val % 2, 0, 0] ![1, 256, 5120] (whole_slot_inb t.val)] := by
  have e : (runMiddle m c t h hl p).2.2.2.2.2.2.2.1.map (fun p => p.1) = [Rect.unit (s := S2x256x5120) (k0_off6 (grid0.coords t)) ![1, 256, 5120] ((slot_written t).2 ▸ whole_slot_inb t.val)] := by sl_kernel_rfl
  rw [e]; simp only [(slot_written t).2]

/-- A buffer so covered is owned at whatever its stores' canonical contents are called, -/
theorem owns_of_eq {c : Dev nD} {sp : Space} {s : Shape} {e : EltTy} {M : Memref sig .tc sp s e} {L : List (View.Piece (Elt F) s e)} {w : Vec F s e}
    (hw : w = View.canon L) (h : ∀ y, ∃ pc ∈ L, y ∈ pc.1.set) :
    (iprop(∃ f, M.view.loc (c : Thread nD τ) ↦[M.view.set]{fullShare} M.view.writes (Elt F) f L) : sProp 𝕄) ⊢ owns (c : Thread nD τ) M fullShare w := by
  subst hw; exact owns_canon h

/-- and the slot likewise. -/
theorem slot_of_eq {c : Dev nD} {n : ℕ} {L : List (View.Piece (Elt F) S2x256x5120 .bf16)} {w : Vec F S256x5120 .bf16} (hw : w = slotOf n (View.canon L))
    (hL : L.map (fun p => p.1) = [Rect.unit (s := S2x256x5120) ![n % 2, 0, 0] ![1, 256, 5120] (whole_slot_inb n)]) :
    (iprop(∃ f, keepM.view.loc (c : Thread nD τ) ↦[keepM.view.set]{fullShare} keepM.view.writes (Elt F) f L) : sProp 𝕄)
      ⊢ iprop(∃ K, ⌜n ≠ 32 → slotOf n K = w⌝ ∗ owns (c : Thread nD τ) keepM fullShare K) := by
  subst hw; exact slot_left hL

theorem first_weight_eq (c : Dev nD) (t : Fin cfg0.N) (h : t.val = 0) :
    (leftFirst m c t h).weight = View.canon (runFirst m c t h).2.2.2.2.2.2.2.1 := by sl_kernel_rfl
theorem first_slot_eq (c : Dev nD) (t : Fin cfg0.N) (h : t.val = 0) :
    (leftFirst m c t h).keep = slotOf t.val (View.canon (runFirst m c t h).2.2.2.2.2.2.2.2.1) := by sl_kernel_rfl
theorem middle_slot_eq (c : Dev nD) (t : Fin cfg0.N) (h : t.val ≠ 0) (hl : t.val ≠ 32) (p : Left F) (K : Vec F S2x256x5120 .bf16) :
    (leftMiddle m c t h hl p K).keep = slotOf t.val (View.canon (runMiddle m c t h hl p).2.2.2.2.2.2.2.1) := by sl_kernel_rfl

set_option maxHeartbeats 6400000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t (asItCame m c t)) := by
  unfold bodyPre bodyPost bodyAt0 asItCame
  simp only [before_0, before_1, before_2, before_3, before_4, before_5, before_6, before_7, before_8]
  rw [show (dats m 0 c).Φ t.succ = held m c t.val (leftAt m c t.val t.isLt) from rfl, after_0, after_1, after_2, after_3, after_4, after_5, after_6, after_7, after_8, after_9, after_11, after_12, after_13, after_14, after_15, after_16]
  unfold Dat.owesAt Pipeline.owesWithin
  rw [show (dats m 0 c).owed t.castSucc = 0 from rfl, show (dats m 0 c).owed t.succ = 0 from rfl, invariant_castSucc m c t]
  rw [invariant_zero m c _ _ h, handed_eq, leftAt_first m c t h]
  unfold held
  iintro ⟨⟨⟨HA, HK, HC⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runFirst m c t h).2.2.2.2.2.2.2.2.2.2 W _)
  isplitl [H0]; · iexact H0
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HA]; · iexact HA
  isplitl [HK]; · iexact HK
  isplitl [HC]; · iexact HC
  isplitl [Hq]; · iexact Hq
  isplitl [Hh]; · iexact Hh
  isplitl [HW]; · iexact HW
  iintro ⟨H0, H1, H3, H4, H5, H6, H7, H8, H9, H11, H12, H13, H14, H15, H16, HA, HK, HC, Hq, Hh, HW⟩
  isplitl [HA HK HC Hg Hq Hh]
  · isplitl [HA HK HC]
    · isplitl [HA]; · iapply (owns_of_eq (first_weight_eq m c t h) (View.cover_of_wholeMem (runFirst m c t h).2.2.2.2.2.2.2.1 (by sl_whole_mem))) $$ HA
      isplitl [HK]; · iapply (slot_of_eq (first_slot_eq m c t h) (kept_first m c t h)) $$ HK
      iapply (owns_canon (View.cover_of_tiledL (runFirst m c t h).2.2.2.2.2.2.2.2.2.1 S16x256.size (by sl_kernel_rfl))) $$ HC
    isplitl [Hg]; · iexact Hg
    isplitl [Hq]; · iexact Hq
    iexact Hh
  isplitl [HW]
  · icases HW with ⟨%W', HW⟩
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_canon (View.cover_of_tiledBy (runFirst m c t h).1 ![128, 256] (by sl_kernel_rfl))) $$ H9
  isplitl [H10]; · iexists _; iexact H10
  isplitl [H11]; · iapply (owns_canon (View.cover_of_wholeMem (runFirst m c t h).2.1 (by sl_whole_mem))) $$ H11
  isplitl [H12]; · iapply (owns_canon (View.cover_of_wholeMem (runFirst m c t h).2.2.1 (by sl_whole_mem))) $$ H12
  isplitl [H13]; · iapply (owns_canon (View.cover_of_wholeMem (runFirst m c t h).2.2.2.1 (by sl_whole_mem))) $$ H13
  isplitl [H14]; · iapply (owns_canon (View.cover_of_wholeMem (runFirst m c t h).2.2.2.2.1 (by sl_whole_mem))) $$ H14
  isplitl [H15]; · iapply (owns_canon (View.cover_of_wholeMem (runFirst m c t h).2.2.2.2.2.1 (by sl_whole_mem))) $$ H15
  iapply (owns_canon (View.cover_of_wholeMem (runFirst m c t h).2.2.2.2.2.2.1 (by sl_whole_mem))) $$ H16

set_option maxHeartbeats 6400000 in
/-- The body at the points between. -/
theorem sound_middle (c : Dev nD) (t : Fin cfg0.N) (h : t.val ≠ 0) (hl : t.val ≠ 32) :
    bodyPre m c t ⊢ wp frame (wpE (defs₀ (F := F)) Variants.none c none) Set.univ (bodyAt0 t) (fun _ => bodyPost m c t (written m c t)) := by
  unfold bodyPre bodyPost bodyAt0 written
  simp only [before_0, before_1, before_2, before_3, before_4, before_5, before_6, before_7, before_8, before_11 m c t h, before_12 m c t h, before_13 m c t h, before_14 m c t h, before_15 m c t h, before_16 m c t h]
  rw [show (dats m 0 c).Φ t.succ = held m c t.val (leftAt m c t.val t.isLt) from rfl, after_0, after_1, after_2, after_3, after_4, after_5, after_6, after_7, after_8, after_9, after_10, after_11, after_12, after_13, after_14, after_15, after_16]
  unfold Dat.owesAt Pipeline.owesWithin
  rw [show (dats m 0 c).owed t.castSucc = 0 from rfl, show (dats m 0 c).owed t.succ = 0 from rfl, invariant_castSucc m c t]
  rw [invariant_pos m c _ _ h]
  unfold held
  iintro ⟨⟨⟨HA, ⟨%K, %hK, HK⟩, HC⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hp : t.val - 1 ≠ 32 := by have := points t; omega
  rw [leftAt_middle m c t h hl, leftMiddle_any m c t h hl (before m c t) (inBoth (before m c t).keep) K
    (by rw [slotOf_inBoth, slotOf_before t.val h, hK hp])]
  iapply (((runMiddle m c t h hl (before m c t)).2.2.2.2.2.2.2.2.2 K).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [H13]; · iexact H13
  isplitl [H14]; · iexact H14
  isplitl [H15]; · iexact H15
  isplitl [H16]; · iexact H16
  isplitl [HA]; · iexact HA
  isplitl [HK]; · iexact HK
  isplitl [HC]; · iexact HC
  isplitl [HW]; · iexact HW
  iintro ⟨H0, H1, H2, H3, H4, H5, H6, H7, H8, H9, H10, H11, H12, H13, H14, H15, H16, HA, HK, HC, HW⟩
  isplitl [HA HK HC Hg Hq Hh]
  · isplitl [HA HK HC]
    · isplitl [HA]; · iexact HA
      isplitl [HK]; · iapply (slot_of_eq (middle_slot_eq m c t h hl (before m c t) K) (kept_middle m c t h hl (before m c t))) $$ [HK]; iexists _; iexact HK
      iapply (owns_canon (View.cover_of_tiledL (runMiddle m c t h hl (before m c t)).2.2.2.2.2.2.2.2.1 S16x256.size (by sl_kernel_rfl))) $$ [HC]; iexact HC
    isplitl [Hg]; · iexact Hg
    isplitl [Hq]; · iexact Hq
    iexact Hh
  isplitl [HW]
  · icases HW with ⟨%W', HW⟩
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_canon (View.cover_of_tiledBy (runMiddle m c t h hl (before m c t)).1 ![128, 256] (by sl_kernel_rfl))) $$ H9
  isplitl [H10]; · iapply (owns_canon (View.cover_of_tiledL ((runMiddle m c t h hl (before m c t)).2.2.2.2.2.2.2.2.2 K).1 S256x256.size (by sl_kernel_rfl))) $$ H10
  isplitl [H11]; · iapply (owns_canon (View.cover_of_tiledL (runMiddle m c t h hl (before m c t)).2.1 S1x256x256.size (by sl_kernel_rfl))) $$ H11
  isplitl [H12]; · iapply (owns_canon (View.cover_of_tiledL (runMiddle m c t h hl (before m c t)).2.2.1 S1x256.size (by sl_kernel_rfl))) $$ H12
  isplitl [H13]; · iapply (owns_canon (View.cover_of_tiledL (runMiddle m c t h hl (before m c t)).2.2.2.1 S1x256.size (by sl_kernel_rfl))) $$ H13
  isplitl [H14]; · iapply (owns_canon (View.cover_of_tiledL (runMiddle m c t h hl (before m c t)).2.2.2.2.1 S1x256.size (by sl_kernel_rfl))) $$ H14
  isplitl [H15]; · iapply (owns_canon (View.cover_of_tiledL (runMiddle m c t h hl (before m c t)).2.2.2.2.2.1 S1x128x128.size (by sl_kernel_rfl))) $$ H15
  iapply (owns_canon (View.cover_of_tiledL (runMiddle m c t h hl (before m c t)).2.2.2.2.2.2.1 S128x1.size (by sl_kernel_rfl))) $$ H16

set_option maxHeartbeats 6400000 in
/-- The body at the last point. -/
theorem sound_last (c : Dev nD) (t : Fin cfg0.N) (h : t.val = 32) :
    bodyPre m c t ⊢ wp frame (wpE (defs₀ (F := F)) Variants.none c none) Set.univ (bodyAt0 t) (fun _ => bodyPost m c t (written m c t)) := by
  have h0 : t.val ≠ 0 := by omega
  unfold bodyPre bodyPost bodyAt0 written
  simp only [before_0, before_1, before_2, before_3, before_4, before_5, before_6, before_7, before_8, before_9 m c t h, before_11 m c t h0, before_12 m c t h0, before_13 m c t h0, before_14 m c t h0, before_15 m c t h0, before_16 m c t h0]
  rw [carries_9 m c t h, carries_11 m c t h, carries_12 m c t h, carries_13 m c t h, carries_14 m c t h, carries_15 m c t h, carries_16 m c t h]
  rw [show (dats m 0 c).Φ t.succ = held m c t.val (leftAt m c t.val t.isLt) from rfl, after_0, after_1, after_2, after_3, after_4, after_5, after_6, after_7, after_8, after_10]
  unfold Dat.owesAt Pipeline.owesWithin
  rw [show (dats m 0 c).owed t.castSucc = 0 from rfl, show (dats m 0 c).owed t.succ = 0 from rfl, invariant_castSucc m c t]
  rw [invariant_pos m c _ _ h0]
  unfold held
  iintro ⟨⟨⟨HA, ⟨%K, %hK, HK⟩, HC⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [leftAt_last m c t h, leftLast_any m c t h (before m c t) (inBoth (before m c t).keep) K
    (by rw [slotOf_inBoth, slotOf_before t.val h0, hK (by omega)])]
  iapply ((runLast m c t h (before m c t) K).2 W _)
  isplitl [H2]; · iexact H2
  isplitl [H10]; · iexists _; iexact H10
  isplitl [HA]; · iexact HA
  isplitl [HK]; · iexact HK
  isplitl [HW]; · iexact HW
  iintro ⟨H2, H10, HA, HK, HW⟩
  isplitl [HA HK HC Hg Hq Hh]
  · isplitl [HA HK HC]
    · isplitl [HA]; · iexact HA
      isplitl [HK]
      · iexists K; isplitr
        · ipureintro; exact fun e => absurd h e
        · iexact HK
      iexact HC
    isplitl [Hg]; · iexact Hg
    isplitl [Hq]; · iexact Hq
    iexact Hh
  isplitl [HW]
  · icases HW with ⟨%W', HW⟩
    iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_canon (View.cover_of_tiledL (runLast m c t h (before m c t) K).1 S256x256.size (by sl_kernel_rfl))) $$ H10
  isplitl [H11]; · iexact H11
  isplitl [H12]; · iexact H12
  isplitl [H13]; · iexact H13
  isplitl [H14]; · iexact H14
  isplitl [H15]; · iexact H15
  iexact H16

end Cert.Kernel2Ideal.Front

end
-- ==== Proof.Front.Run.lean ====
/- The front backward kernel's run: the pipeline's obligation at every point, the launch, and what the program's arguments hold after it. -/
module

public import proofs.«01_k».proof.Proof.Front.Body

@[expose] public section

set_option maxRecDepth 16384

noncomputable section

namespace Cert.Kernel2Ideal.Front

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

variable (ρ : Dev nD → PrngReg)

theorem defs₀_row (c : Dev nD) (t : Fin cfg0.N) : (defs₀ (F := F)) .tc cfg0.body (cfg0.bodyArgs t (cfg0.slots t)) = bodyAt0 t := by
  unfold defs₀; rw [Defs.onTc_tc]

theorem obligation_first (c : Dev nD) (t : Fin cfg0.N) (h : t.val = 0) :
    iprop((dats m 0 c).Φ t.castSucc ∗ (dats m 0 c).owesAt () t.castSucc
        ∗ bigSep Finset.univ fun w : Fin cfg0.W => iprop(∃ d, owns c ((cfg0.win w).stage (cfg0.slots t w)) fullShare ((dats m 0 c).before w t d)))
      ⊢ wp frame (wpE (defs₀ (F := F)) Variants.none c none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns c ((cfg0.win w).stage (cfg0.slots t w)) fullShare ((dats m 0 c).before w t d))
                    | true => owns c ((cfg0.win w).stage (cfg0.slots t w)) fullShare ((dats m 0 c).after w t)
                  | false => owns c ((cfg0.win w).stage (cfg0.slots t w)) fullShare ((dats m 0 c).after w t)) := by
  rw [bigSep_W0, bigSep_W0, defs₀_row c t]
  have i9 : cfg0.idle 9 (cfg0.grid.coords t) = false := by rw [idle_9]; exact decide_eq_false (by omega)
  have i10 : cfg0.idle 10 (cfg0.grid.coords t) = true := by rw [idle_10]; exact decide_eq_true h
  have i11 : cfg0.idle 11 (cfg0.grid.coords t) = false := by rw [idle_11]; exact decide_eq_false (by omega)
  have i12 : cfg0.idle 12 (cfg0.grid.coords t) = false := by rw [idle_12]; exact decide_eq_false (by omega)
  have i13 : cfg0.idle 13 (cfg0.grid.coords t) = false := by rw [idle_13]; exact decide_eq_false (by omega)
  have i14 : cfg0.idle 14 (cfg0.grid.coords t) = false := by rw [idle_14]; exact decide_eq_false (by omega)
  have i15 : cfg0.idle 15 (cfg0.grid.coords t) = false := by rw [idle_15]; exact decide_eq_false (by omega)
  have i16 : cfg0.idle 16 (cfg0.grid.coords t) = false := by rw [idle_16]; exact decide_eq_false (by omega)
  try rewrite [i9]
  try rewrite [i10]
  try rewrite [i11]
  try rewrite [i12]
  try rewrite [i13]
  try rewrite [i14]
  try rewrite [i15]
  try rewrite [i16]
  rewrite [flush_10 t h]
  exact triple_restated (sound_first m c t h) rfl .rfl fun _ => .rfl

theorem obligation_middle (c : Dev nD) (t : Fin cfg0.N) (h : t.val ≠ 0) (hl : t.val ≠ 32) :
    iprop((dats m 0 c).Φ t.castSucc ∗ (dats m 0 c).owesAt () t.castSucc
        ∗ bigSep Finset.univ fun w : Fin cfg0.W => iprop(∃ d, owns c ((cfg0.win w).stage (cfg0.slots t w)) fullShare ((dats m 0 c).before w t d)))
      ⊢ wp frame (wpE (defs₀ (F := F)) Variants.none c none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns c ((cfg0.win w).stage (cfg0.slots t w)) fullShare ((dats m 0 c).before w t d))
                    | true => owns c ((cfg0.win w).stage (cfg0.slots t w)) fullShare ((dats m 0 c).after w t)
                  | false => owns c ((cfg0.win w).stage (cfg0.slots t w)) fullShare ((dats m 0 c).after w t)) := by
  rw [bigSep_W0, bigSep_W0, defs₀_row c t]
  have i9 : cfg0.idle 9 (cfg0.grid.coords t) = false := by rw [idle_9]; exact decide_eq_false hl
  have i10 : cfg0.idle 10 (cfg0.grid.coords t) = false := by rw [idle_10]; exact decide_eq_false h
  have i11 : cfg0.idle 11 (cfg0.grid.coords t) = false := by rw [idle_11]; exact decide_eq_false hl
  have i12 : cfg0.idle 12 (cfg0.grid.coords t) = false := by rw [idle_12]; exact decide_eq_false hl
  have i13 : cfg0.idle 13 (cfg0.grid.coords t) = false := by rw [idle_13]; exact decide_eq_false hl
  have i14 : cfg0.idle 14 (cfg0.grid.coords t) = false := by rw [idle_14]; exact decide_eq_false hl
  have i15 : cfg0.idle 15 (cfg0.grid.coords t) = false := by rw [idle_15]; exact decide_eq_false hl
  have i16 : cfg0.idle 16 (cfg0.grid.coords t) = false := by rw [idle_16]; exact decide_eq_false hl
  try rewrite [i9]
  try rewrite [i10]
  try rewrite [i11]
  try rewrite [i12]
  try rewrite [i13]
  try rewrite [i14]
  try rewrite [i15]
  try rewrite [i16]
  exact triple_restated (sound_middle m c t h hl) rfl .rfl fun _ => .rfl

theorem obligation_last (c : Dev nD) (t : Fin cfg0.N) (h : t.val = 32) :
    iprop((dats m 0 c).Φ t.castSucc ∗ (dats m 0 c).owesAt () t.castSucc
        ∗ bigSep Finset.univ fun w : Fin cfg0.W => iprop(∃ d, owns c ((cfg0.win w).stage (cfg0.slots t w)) fullShare ((dats m 0 c).before w t d)))
      ⊢ wp frame (wpE (defs₀ (F := F)) Variants.none c none) Set.univ ((defs₀ (F := F)) .tc cfg0.body (cfg0.bodyArgs t (cfg0.slots t))) fun _ =>
          iprop((dats m 0 c).Φ t.succ ∗ (dats m 0 c).owesAt () t.succ
            ∗ bigSep Finset.univ fun w : Fin cfg0.W =>
                  match cfg0.idle w (cfg0.grid.coords t) with
                  | true =>
                    match (cfg0.win w).flush t with
                    | false => iprop(∃ d, owns c ((cfg0.win w).stage (cfg0.slots t w)) fullShare ((dats m 0 c).before w t d))
                    | true => owns c ((cfg0.win w).stage (cfg0.slots t w)) fullShare ((dats m 0 c).after w t)
                  | false => owns c ((cfg0.win w).stage (cfg0.slots t w)) fullShare ((dats m 0 c).after w t)) := by
  rw [bigSep_W0, bigSep_W0, defs₀_row c t]
  have i9 : cfg0.idle 9 (cfg0.grid.coords t) = true := by rw [idle_9]; exact decide_eq_true h
  have i10 : cfg0.idle 10 (cfg0.grid.coords t) = false := by rw [idle_10]; exact decide_eq_false (by omega)
  have i11 : cfg0.idle 11 (cfg0.grid.coords t) = true := by rw [idle_11]; exact decide_eq_true h
  have i12 : cfg0.idle 12 (cfg0.grid.coords t) = true := by rw [idle_12]; exact decide_eq_true h
  have i13 : cfg0.idle 13 (cfg0.grid.coords t) = true := by rw [idle_13]; exact decide_eq_true h
  have i14 : cfg0.idle 14 (cfg0.grid.coords t) = true := by rw [idle_14]; exact decide_eq_true h
  have i15 : cfg0.idle 15 (cfg0.grid.coords t) = true := by rw [idle_15]; exact decide_eq_true h
  have i16 : cfg0.idle 16 (cfg0.grid.coords t) = true := by rw [idle_16]; exact decide_eq_true h
  try rewrite [i9]
  try rewrite [i10]
  try rewrite [i11]
  try rewrite [i12]
  try rewrite [i13]
  try rewrite [i14]
  try rewrite [i15]
  try rewrite [i16]
  try rewrite [flush_9 t h]
  try rewrite [flush_11 t h]
  try rewrite [flush_12 t h]
  try rewrite [flush_13 t h]
  try rewrite [flush_14 t h]
  try rewrite [flush_15 t h]
  try rewrite [flush_16 t h]
  exact triple_restated (sound_last m c t h) rfl .rfl fun _ => .rfl

theorem body_obligation (c : Dev nD) : BodyObligation (dats m 0 c) (defs₀ (F := F)) Variants.none () Set.univ := fun t => by
  by_cases h : t.val = 0
  · exact obligation_first m c t h
  · by_cases hl : t.val = 32
    · exact obligation_last m c t hl
    · exact obligation_middle m c t h hl

/-! ## The launch -/

set_option maxHeartbeats 800000 in
/-- The program: its host lines, the pipeline, the two host lines on its results. -/
theorem program : Pipeline.HMainK (Ix := Unit) (Name := ℕ) (U := Pipeline.UD sig nD τ) (Lvl := ℕ) cfgs 0 defs₀ Variants.none m (main (F := F)) (V m)
      (fun _ => Pipeline.chain ([hostOps1, hostOps1_1].map StableHlo.seq)) :=
  Pipeline.hmain_around cfgs 0 defs₀ Variants.none m main
    [hostOps0, hostOps0_1, hostOps0_2, hostOps0_3, hostOps0_4, hostOps0_5, hostOps0_6, hostOps0_7, hostOps0_8, hostOps0_9, hostOps0_10, hostOps0_11, hostOps0_12]
    [hostOps1, hostOps1_1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The lines after the pipeline touch nothing it copies by itself. -/
theorem clear_first : (hostOps1 : List (HloOp τ sig (Elt F))).Forall fun op => Proc.devRef .tc main_v178 ∉ op.bufs := by
  simp only [hostOps1, List.Forall, StableHlo.nullary_bufs, StableHlo.unary_bufs, StableHlo.binary_bufs, StableHlo.ternary_bufs]
  repeat' apply And.intro
  all_goals decide
theorem clear_second : (hostOps1_1 : List (HloOp τ sig (Elt F))).Forall fun op => Proc.devRef .tc main_v178 ∉ op.bufs := by
  simp only [hostOps1_1, List.Forall, StableHlo.nullary_bufs, StableHlo.unary_bufs, StableHlo.binary_bufs, StableHlo.ternary_bufs]
  repeat' apply And.intro
  all_goals decide

theorem after_sub : ∀ ops ∈ ([hostOps1, hostOps1_1] : List (List (HloOp τ sig (Elt F)))), ∀ op ∈ ops,
    op.bufs ⊆ Pipeline.tailRefsBut sig Pipeline.Prefetch.none spec0 copied := by
  intro ops hops op hop
  refine Pipeline.sub_tailRefsBut Pipeline.Prefetch.none spec0 copied op ?_ (fun k => k.elim0) ?_ <;>
    simp only [List.mem_cons, List.mem_nil_iff, _root_.or_false] at hops <;> rcases hops with rfl | rfl
  · exact (List.forall_iff_forall_mem.mp hostOps1_sub) op hop
  · exact (List.forall_iff_forall_mem.mp hostOps1_1_sub) op hop
  · intro b hb; rw [copied, Finset.mem_singleton] at hb; subst hb; exact (List.forall_iff_forall_mem.mp clear_first) op hop
  · intro b hb; rw [copied, Finset.mem_singleton] at hb; subst hb; exact (List.forall_iff_forall_mem.mp clear_second) op hop

theorem given (c : Dev nD) : Pipeline.ΦD ownSem spec0 copied (V m) c ⊢ (dats m 0 c).Φ 0 := by
  rw [show (dats m 0 c).Φ 0 = invariant m c 0 (Nat.zero_le _) from rfl, invariant_zero m c 0 _ rfl]
  try exact Idealize.SL.BI.Entails.refl _

theorem taken (c : Dev nD) : (dats m 0 c).Φ (Fin.last cfg0.N) ⊢ Pipeline.ΦD ownSem spec0 copied (V m) c := by
  rw [show (dats m 0 c).Φ (Fin.last cfg0.N) = invariant m c (Fin.last cfg0.N).val (Nat.le_of_lt_succ (Fin.last cfg0.N).isLt) from rfl,
    invariant_pos m c _ _ (by rw [Fin.val_last]; have : cfg0.N = 33 := N_0; omega), handed_eq]
  unfold held
  iintro ⟨⟨HA, ⟨%K, -, HK⟩, HC⟩, Hrest⟩
  isplitl [HA HK HC]
  · isplitl [HA]; · iexists _; iexact HA
    isplitl [HK]; · iexists _; iexact HK
    iexists _; iexact HC
  iexact Hrest

-- the launch theorem's implicit arguments are found by unifying its conclusion with this one, which unfolds plain definitions
set_option backward.isDefEq.respectTransparency.types false in
/-- The launch: every array at what the proof data computes, the results the host lines make of them, every counter at zero. -/
theorem run_main_quiescent : θ_run defs (onTc (τ := τ) (main (F := F))) (s₀ m ρ)
    (fun r => Pipeline.FramePost cfgs (dats m) 0 (Pipeline.afterTail₀ cfgs (dats m) 0 (V0 m) [hostOps1, hostOps1_1]) r ∧ r.2.sem = fun _ => 0) :=
  Pipeline.θ_run_frame_dma_around cfgs (dats m) (0 : Fin 1) launch0 ownSem defs₀ Variants.none ownSemFacts copied copied_sub m ρ main
    (hbody := fun c => (body_obligation m c).loose) (hshare := fun c => (dats m 0 c).share_full fun _ => rfl)
    (howed := fun _ _ => rfl) (V₀ := V0 m) (opss := [hostOps1, hostOps1_1]) (hsub := after_sub) (hfresh := sfx_fresh) (hkeep := sfx_keeps)
    (hmain := program m) (hA := A_eq m) (hin := given m) (hout := taken m) (Q' := _) (hQ' := fun _ h => h)

theorem run_main : θ_run defs (onTc (τ := τ) (main (F := F))) (s₀ m ρ)
    (Pipeline.FramePost cfgs (dats m) 0 (Pipeline.afterTail₀ cfgs (dats m) 0 (V0 m) [hostOps1, hostOps1_1])) :=
  (θ_run defs _ _).mono (fun _ h => h.1) (run_main_quiescent m ρ)

/-! ## The frame -/

/-- An argument neither staged nor written by a host line ends as the pipeline found it. -/
theorem untouched (c : Dev nD) (b : Ref sig .tc) (hb : b ∉ [main_v193, main_cst_45, main_call6_v0, main_call6_v1, main_call6_v2, main_v194])
    (ha : ∀ w, Pipeline.arrRef spec0 w ≠ b) : Pipeline.afterTail₀ cfgs (dats m) 0 (V0 m) [hostOps1, hostOps1_1] c b = V m c b := by
  unfold Pipeline.afterTail₀
  rw [StableHlo.after_of_forall_not_mem (b := Proc.devRef .tc b) _ _ ?_, Pipeline.withArrays_of_ne _ c (V0 m c) _ b ha]
  intro op hop
  simp only [hostOps1, hostOps1_1, List.flatten_cons, List.flatten_nil, List.append_nil, List.cons_append, List.nil_append, List.mem_cons, List.mem_nil_iff, _root_.or_false] at hop
  simp only [List.mem_cons, List.mem_nil_iff, _root_.or_false, not_or] at hb
  obtain ⟨h1, h2, h3, h4, h5, h6⟩ := hb
  rcases hop with rfl | rfl | rfl | rfl | rfl | rfl
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    exact StableHlo.devRef_ne_of_ne (by assumption)

/-- The frame: every argument ends as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => ⟨
      ((h.1 c).2 main_arg0 (Pipeline.mem_restRefs_of main_arg0 (by decide) (by decide))).trans ((untouched m c main_arg0 (by decide) (by decide)).trans (V_main_arg0 m c)),
      ((h.1 c).2 main_arg1 (Pipeline.mem_restRefs_of main_arg1 (by decide) (by decide))).trans ((untouched m c main_arg1 (by decide) (by decide)).trans (V_main_arg1 m c)),
      ((h.1 c).2 main_arg2 (Pipeline.mem_restRefs_of main_arg2 (by decide) (by decide))).trans ((untouched m c main_arg2 (by decide) (by decide)).trans (V_main_arg2 m c)),
      ((h.1 c).2 main_arg3 (Pipeline.mem_restRefs_of main_arg3 (by decide) (by decide))).trans ((untouched m c main_arg3 (by decide) (by decide)).trans (V_main_arg3 m c)),
      ((h.1 c).2 main_arg4 (Pipeline.mem_restRefs_of main_arg4 (by decide) (by decide))).trans ((untouched m c main_arg4 (by decide) (by decide)).trans (V_main_arg4 m c)),
      ((h.1 c).1 4).trans (((dats m 0 c).arrAt_in 4 rfl _).trans ((A_eq m c 4).trans (V_main_arg5 m c))),
      ((h.1 c).1 5).trans (((dats m 0 c).arrAt_in 5 rfl _).trans ((A_eq m c 5).trans (V_main_arg6 m c))),
      ((h.1 c).1 6).trans (((dats m 0 c).arrAt_in 6 rfl _).trans ((A_eq m c 6).trans (V_main_arg7 m c))),
      ((h.1 c).2 main_arg8 (Pipeline.mem_restRefs_of main_arg8 (by decide) (by decide))).trans ((untouched m c main_arg8 (by decide) (by decide)).trans (V_main_arg8 m c)),
      ((h.1 c).2 main_arg9 (Pipeline.mem_restRefs_of main_arg9 (by decide) (by decide))).trans ((untouched m c main_arg9 (by decide) (by decide)).trans (V_main_arg9 m c))⟩, h.2⟩) (run_main_quiescent m ρ)

end Cert.Kernel2Ideal.Front

end
-- ==== Proof.Front.Arrays.lean ====
/-
The front kernel's gating gradients after the run: the four arrays its call leaves for them, and the mask the host puts on one.
-/
module

public import proofs.«01_k».proof.Proof.Front.Total
public import proofs.«01_k».proof.Proof.Front.Run
public import Idealize.ShloMosaic.Lib.StableHlo.RunRead

@[expose] public section

set_option maxRecDepth 16384

noncomputable section

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (c : Dev nD)

theorem index_out : ∀ t : Fin cfg0.N, win0_13.index t = ![0, 0] ∧ win0_14.index t = ![0, 0] ∧ win0_15.index t = ![0, 0, 0]
    ∧ win0_16.index t = ![0, 0] := by decide +kernel

/-- The four gradients leave their buffers at the last point only. -/
theorem flush_last : ∀ t : Fin cfg0.N, ((cfg0.win 13).flush t = true → t.val = 32) ∧ ((cfg0.win 14).flush t = true → t.val = 32)
    ∧ ((cfg0.win 15).flush t = true → t.val = 32) ∧ ((cfg0.win 16).flush t = true → t.val = 32) := by decide +kernel

section Real

variable {m c} (hg : Agrees m c)

include hg in
theorem array_g : (dats m 0 c).arrAt 13 cfg0.N = heads (inputs m c).dLnG := by
  refine (dats m 0 c).arrAt_eq_of_covers 13 _ (by decide +kernel) fun t hf y => ?_
  have h := (flush_last t).1 hf
  blk_simp
  rw [carries_13 m c t h]
  have e : (((cfg0.win 13).blk t).view.emb y : S1x1024.Idx) = y := funext fun a => match a with
    | ⟨0, _⟩ => Fin.ext (by blk_simp [(index_out t).1])
    | ⟨1, _⟩ => Fin.ext (by blk_simp [(index_out t).1])
  exact (congrFun (before_last t hg h).g y).trans (congrArg (heads (inputs m c).dLnG) e.symm)

include hg in
theorem array_b : (dats m 0 c).arrAt 14 cfg0.N = heads (inputs m c).dLnB := by
  refine (dats m 0 c).arrAt_eq_of_covers 14 _ (by decide +kernel) fun t hf y => ?_
  have h := (flush_last t).2.1 hf
  blk_simp
  rw [carries_14 m c t h]
  have e : (((cfg0.win 14).blk t).view.emb y : S1x1024.Idx) = y := funext fun a => match a with
    | ⟨0, _⟩ => Fin.ext (by blk_simp [(index_out t).2.1])
    | ⟨1, _⟩ => Fin.ext (by blk_simp [(index_out t).2.1])
  exact (congrFun (before_last t hg h).b y).trans (congrArg (heads (inputs m c).dLnB) e.symm)

/-- The mixing weights' gradient before the host clears its upper triangle. -/
def mixes (A : Inputs) : S4x128x128.Idx → EReal := fun y => A.dMix (y 0) (y 1) (y 2)

include hg in
theorem array_w : (dats m 0 c).arrAt 15 cfg0.N = mixes (inputs m c) := by
  refine (dats m 0 c).arrAt_eq_of_covers 15 _ (by decide +kernel) fun t hf y => ?_
  have h := (flush_last t).2.2.1 hf
  blk_simp
  rw [carries_15 m c t h]
  have e : (((cfg0.win 15).blk t).view.emb y : S4x128x128.Idx) = y := funext fun a => match a with
    | ⟨0, _⟩ => Fin.ext (by blk_simp [(index_out t).2.2.1])
    | ⟨1, _⟩ => Fin.ext (by blk_simp [(index_out t).2.2.1])
    | ⟨2, _⟩ => Fin.ext (by blk_simp [(index_out t).2.2.1])
  exact (congrFun (before_last t hg h).w y).trans (congrArg (mixes (inputs m c)) e.symm)

/-- The bias's gradient, a column per head. -/
def biases (A : Inputs) : S128x4.Idx → EReal := fun y => A.dBias (y 0) (y 1)

include hg in
theorem array_bias : (dats m 0 c).arrAt 16 cfg0.N = biases (inputs m c) := by
  refine (dats m 0 c).arrAt_eq_of_covers 16 _ (by decide +kernel) fun t hf y => ?_
  have h := (flush_last t).2.2.2 hf
  blk_simp
  rw [carries_16 m c t h]
  have e : (((cfg0.win 16).blk t).view.emb y : S128x4.Idx) = y := funext fun a => match a with
    | ⟨0, _⟩ => Fin.ext (by blk_simp [(index_out t).2.2.2])
    | ⟨1, _⟩ => Fin.ext (by blk_simp [(index_out t).2.2.2])
  exact (congrFun (before_last t hg h).bias y).trans (congrArg (biases (inputs m c)) e.symm)

end Real

/-! ### The host's lines after the call -/

theorem apart : Function.Injective (Pipeline.arrRef spec0) := by decide

/-- What the host's lines leave for the weights' gradient: the call's array under the mask. -/
theorem after_mask (V : Valuation τ sig (Elt Ideal)) : StableHlo.after [hostOps1, hostOps1_1].flatten V (Proc.devRef .tc main_v194)
    = maskArr (V (Proc.devRef .tc main_v180)) (V (Proc.devRef .tc main_v192_6)) := by
  after_reads_simp
  rfl

theorem found_mask : Pipeline.afterTail₀ cfgs (dats m) 0 (V0 m) [hostOps1, hostOps1_1] c main_v194
    = maskArr lowerArr ((dats m 0 c).arrAt 15 cfg0.N) := by
  unfold Pipeline.afterTail₀
  refine (after_mask _).trans ?_
  rw [Pipeline.withArrays_of_ne _ c (V0 m c) _ main_v180 (by exact (by decide : ∀ w, Pipeline.arrRef spec0 w ≠ main_v180)), lower_buf m c]
  exact congrArg (maskArr lowerArr) (Pipeline.withArrays_arr spec0 apart c (V0 m c) _ 15)

end Cert.Kernel2Ideal.Front

end
-- ==== Proof.Front.PoolStep.lean ====
/-
One head of the pool mixer at one grid point of the front kernel: what the body computes from its loads, and the same at an index.
-/
module

public import proofs.«01_k».proof.Proof.Front.Step

@[expose] public section

set_option maxRecDepth 16384

noncomputable section

namespace Cert.Kernel2Ideal.Front

open Cert.Front Cert.Kernel2Ideal Cert.Kernel2Ideal.Gen
open Idealize.ShloMosaic Idealize.ShloMosaic.TcCoe Idealize.ShloMosaic.Tactic

/-- What a point loads for one head: the pooled rows, the head's weight, the incoming gradient, silu of the outer gate and the
    scale. -/
structure Mixer (F : FTy → Type) [FloatOps F] where
  pooled : Vec F S256x256 .bf16
  weight : Vec F S1x256x256 .bf16
  dy : Vec F S256x256 .bf16
  gate : Vec F S256x256 .bf16
  scale : Vec F S1x256 .f32

namespace Mixer

variable {F : FTy → Type} [FloatOps F] (H : Mixer F)

/-- The store of the scale's gradient over what was there, -/
def newS (old : Vec F S1x256 .f32) : FVec F S1x256 .f32 := k0_pay15 H.pooled H.weight H.dy H.gate old

/-- and of the weight's. -/
def newP (old : Vec F S1x256x256 .f32) : FVec F S1x256x256 .f32 := k0_pay17 (k0_pay10 H.pooled) (k0_pay16 H.dy H.gate H.scale) old

end Mixer

/-- The loads are those of head `q` on tile `T`. -/
structure Mixer.Holds (H : Mixer Ideal) (A : Inputs) (T : Fin 32) (q : Fin 4) : Prop where
  pooled : ∀ r e, H.pooled (ix2 r e) = A.pooled (tileRow T r) q e
  weight : ∀ e d, H.weight (ix3 0 e d) = A.pool (ix4 0 q e d)
  dy : ∀ r e, H.dy (ix2 r e) = A.dy (ix3 0 (tileRow T r) ⟨(col q e).val, by omega⟩)
  gate : ∀ r e, H.gate (ix2 r e) = silu (A.zp (tileRow T r) (col q e))
  scale : ∀ e, H.scale (ix2 0 e) = A.scale (ix2 0 (col q e))

namespace Mixer.Holds

variable {H : Mixer Ideal} {A : Inputs} {T : Fin 32} {q : Fin 4} (h : H.Holds A T q)

include h in
theorem newS_at (old : Vec Ideal S1x256 .f32) (e : Fin 256) :
    H.newS old (ix2 0 e) = old (ix2 0 e) + ∑ r, A.mixed (tileRow T r) q e * A.dyp (tileRow T r) (col q e) := by
  unfold Mixer.newS k0_pay15 k0_pay13 k0_pay12 k0_pay11 k0_pay10
  pointwise [h.pooled, h.weight, h.dy, h.gate]
  exact congrArg (old (ix2 0 e) + ·) (Finset.sum_congr rfl fun r _ => mul_comm _ _)

include h in
theorem newP_at (old : Vec Ideal S1x256x256 .f32) (e d : Fin 256) :
    H.newP old (ix3 0 e d) = old (ix3 0 e d)
      + ∑ r, A.pooled (tileRow T r) q e * (A.dyp (tileRow T r) (col q d) * A.scale (ix2 0 (col q d))) := by
  unfold Mixer.newP k0_pay17 k0_pay16 k0_pay13 k0_pay12 k0_pay10
  pointwise [h.pooled, h.dy, h.gate, h.scale]
  rfl

end Mixer.Holds

end Cert.Kernel2Ideal.Front
-- ==== Proof.Front.PoolSum.lean ====
/-
The pool mixer's window, from running sums and from sums doubled, and the number of tokens in it.
-/
module

public import proofs.«01_k».proof.Proof.Front.Spec
public import proofs.«01_k».proof.Proof.Tail.Law
public import Idealize.ShloMosaic.Lib.WordCmp

@[expose] public section

noncomputable section

namespace Cert.Front

open Idealize.ShloMosaic Cert.Tail

/-- The rows of a column, counted on beyond its last. -/
def onward (f : Fin 8192 → EReal) (s : ℕ) : EReal := if h : s < 8192 then f ⟨s, h⟩ else 0

theorem onward_val (f : Fin 8192 → EReal) (s : Fin 8192) : onward f s.val = f s := dif_pos s.isLt

theorem window_onward (n : ℕ) (f : Fin 8192 → EReal) (r : Fin 8192) :
    window n f r = ∑ j ∈ Finset.range n, if j ≤ r.val then onward f (r.val - j) else 0 :=
  Finset.sum_congr rfl fun j _ => by
    split
    · unfold onward; rw [dif_pos (show r.val - j < 8192 by omega)]
    · rfl

/-- A sum of real numbers from a first row to a last is a difference of two sums from the start. -/
theorem window_of_sums (n : ℕ) (f : Fin 8192 → EReal) (hf : ∀ s, ∃ a : ℝ, f s = a) (r : Fin 8192) :
    (∑ s ∈ Finset.range (r.val + 1), onward f s) - (if n ≤ r.val then ∑ s ∈ Finset.range (r.val - n + 1), onward f s else 0) = window n f r := by
  have hr : ∀ s, ∃ a : ℝ, onward f s = a := fun s => by
    unfold onward
    split
    · exact hf _
    · exact ⟨0, rfl⟩
  choose p hp using hr
  rw [window_onward]
  simp only [hp]
  rw [← Finset.sum_range_reflect]
  by_cases h : n ≤ r.val
  · rw [if_pos h, ← Finset.sum_range_reflect (fun s => ((p s : ℝ) : EReal)) (r.val - n + 1), show r.val + 1 = n + (r.val - n + 1) by omega, Finset.sum_range_add,
      show (∑ x ∈ Finset.range (r.val - n + 1), ((p (n + (r.val - n + 1) - 1 - (n + x)) : ℝ) : EReal))
          = ∑ j ∈ Finset.range (r.val - n + 1), ((p (r.val - n + 1 - 1 - j) : ℝ) : EReal) from
        Finset.sum_congr rfl fun j hj => by rw [show n + (r.val - n + 1) - 1 - (n + j) = r.val - n + 1 - 1 - j by omega],
      show (∑ j ∈ Finset.range (r.val - n + 1), ((p (r.val - n + 1 - 1 - j) : ℝ) : EReal)) = ((∑ j ∈ Finset.range (r.val - n + 1), p (r.val - n + 1 - 1 - j) : ℝ) : EReal)
        from (coe_sum _ _).symm, EReal.add_sub_cancel_right]
    refine Finset.sum_congr rfl fun j hj => ?_
    have := Finset.mem_range.mp hj
    rw [if_pos (by omega), show n + (r.val - n + 1) - 1 - j = r.val - j by omega]
  · rw [if_neg h, sub_zero, ← Finset.sum_filter]
    refine (Finset.sum_congr (Finset.ext fun j => ?_) fun j hj => ?_)
    · rw [Finset.mem_filter, Finset.mem_range, Finset.mem_range]; omega
    · rw [show r.val + 1 - 1 - j = r.val - j by omega]

/-- A sum over the last `2 n` rows is the sum over the last `n` and that over the `n` before. -/
theorem sum_double (n : ℕ) (p : ℕ → EReal) (i : ℕ) :
    (∑ k ∈ Finset.range n, p (i - k)) + ∑ k ∈ Finset.range n, p (i - n - k) = ∑ k ∈ Finset.range (n + n), p (i - k) := by
  rw [Finset.sum_range_add]
  exact congrArg (_ + ·) (Finset.sum_congr rfl fun k _ => by rw [Nat.sub_sub])

/-- Sixteen zero rows, then a column's. -/
def behind (f : Fin 8192 → EReal) (i : ℕ) : EReal := if 16 ≤ i then onward f (i - 16) else 0

theorem sum_behind (n : ℕ) (hn : n ≤ 16) (f : Fin 8192 → EReal) (r : Fin 8192) :
    ∑ k ∈ Finset.range n, behind f (16 + r.val - k) = window n f r := by
  rw [window_onward]
  refine Finset.sum_congr rfl fun k hk => ?_
  have := Finset.mem_range.mp hk
  unfold behind
  by_cases h : k ≤ r.val
  · rw [if_pos h, if_pos (by omega), show 16 + r.val - k - 16 = r.val - k by omega]
  · rw [if_neg h, if_neg (by omega)]

/-- The count as the programs make it: a row's number, one more, capped. -/
theorem count_word (r : Fin 8192) (n : ℕ) (hn : n ≤ 16) :
    (IntOp.minsi (IntOp.addi (BitVec.ofNat 32 r.val) 1#32) (BitVec.ofNat 32 n)).toInt = ((min (r.val + 1) n : ℕ) : ℤ) := by
  have h1 : IntOp.addi (BitVec.ofNat 32 r.val) 1#32 = BitVec.ofNat 32 (r.val + 1) := (BitVec.ofNat_add _ _).symm
  have ha : (BitVec.ofNat 32 (r.val + 1)).toInt = ((r.val + 1 : ℕ) : ℤ) := WordCmp.toInt_ofNat_of_lt (by omega)
  have hb : (BitVec.ofNat 32 n).toInt = ((n : ℕ) : ℤ) := WordCmp.toInt_ofNat_of_lt (by omega)
  rw [h1]
  unfold IntOp.minsi
  rw [BitVec.slt_eq_decide, ha, hb]
  by_cases h : r.val + 1 < n
  · rw [decide_eq_true (by exact_mod_cast h)]
    simp only [if_true, ha, min_eq_left h.le]
  · rw [decide_eq_false (by exact_mod_cast h)]
    simp only [Bool.false_eq_true, if_false, hb, min_eq_right (not_lt.mp h)]

theorem count_ne (g : Fin 4) (r : Fin 8192) : count g r ≠ 0 := by
  have h : 0 < min (r.val + 1) (span g) := lt_min (Nat.succ_pos _) (Nat.two_pow_pos _)
  unfold count
  exact_mod_cast h.ne'

/-- A quotient is the product with the reciprocal. -/
theorem mul_inverse (x : EReal) (g : Fin 4) (r : Fin 8192) : x * Ideal.div 1 (count g r) = Ideal.div x (count g r) := by
  unfold Ideal.div
  rw [if_neg (count_ne g r), if_neg (count_ne g r), one_mul]

end Cert.Front

end
-- ==== Proof.Front.PoolHost.lean ====
/-
The host operations ahead of the front's backward kernel that make the pool mixer's inputs: the windows' sums, each doubled from
the last by a rotation of the padded rows, the pooled columns, silu of the branch's first half, the mixing weight and the scale.
-/
module

public import proofs.«01_k».proof.Proof.Front.Host
public import proofs.«01_k».proof.Proof.Front.PoolSum

@[expose] public section

set_option maxRecDepth 16384

noncomputable section

namespace Cert.Kernel2Ideal.Front

open Cert.Kernel2Ideal Cert.Kernel2Ideal.Gen Cert.Front
open Idealize.ShloMosaic Idealize.ShloMosaic.TcCoe Idealize.ShloMosaic.StableHlo Idealize.ShloMosaic.Tactic

/-! ### The host's arrays -/

section Arrays

/-- The mixer's columns. -/
def mixerArr (P : FVec Ideal S8192x5120 .f32) : FVec Ideal S8192x1024 .f32 := extractStridedSlice S8192x1024 ![0, 0] P slices_S8192x5120_S8192x1024_0_0

/-- The mixer's columns behind sixteen zero rows. -/
def padArr (P : FVec Ideal S8192x5120 .f32) : FVec Ideal S8208x1024 .f32 :=
  concatenate S8208x1024 0 [⟨S16x1024, lit S16x1024 0x00000000#32 bcast_S_S16x1024⟩,
    ⟨S8192x1024, mixerArr P⟩] concatenates_S16x1024_S8192x1024_S8208x1024_d0

/-- Sums of two rows, four, eight and sixteen. -/
def sum2 (S : FVec Ideal S8208x1024 .f32) : FVec Ideal S8208x1024 .f32 :=
  addf S (concatenate S8208x1024 0 [⟨S1x1024, extractStridedSlice S1x1024 ![8207, 0] S slices_S8208x1024_S1x1024_8207_0⟩,
    ⟨S8207x1024, extractStridedSlice S8207x1024 ![0, 0] S slices_S8208x1024_S8207x1024_0_0⟩] concatenates_S1x1024_S8207x1024_S8208x1024_d0)

def sum4 (S : FVec Ideal S8208x1024 .f32) : FVec Ideal S8208x1024 .f32 :=
  addf S (concatenate S8208x1024 0 [⟨S2x1024, extractStridedSlice S2x1024 ![8206, 0] S slices_S8208x1024_S2x1024_8206_0⟩,
    ⟨S8206x1024, extractStridedSlice S8206x1024 ![0, 0] S slices_S8208x1024_S8206x1024_0_0⟩] concatenates_S2x1024_S8206x1024_S8208x1024_d0)

def sum8 (S : FVec Ideal S8208x1024 .f32) : FVec Ideal S8208x1024 .f32 :=
  addf S (concatenate S8208x1024 0 [⟨S4x1024, extractStridedSlice S4x1024 ![8204, 0] S slices_S8208x1024_S4x1024_8204_0⟩,
    ⟨S8204x1024, extractStridedSlice S8204x1024 ![0, 0] S slices_S8208x1024_S8204x1024_0_0⟩] concatenates_S4x1024_S8204x1024_S8208x1024_d0)

def sum16 (S : FVec Ideal S8208x1024 .f32) : FVec Ideal S8208x1024 .f32 :=
  addf S (concatenate S8208x1024 0 [⟨S8x1024, extractStridedSlice S8x1024 ![8200, 0] S slices_S8208x1024_S8x1024_8200_0⟩,
    ⟨S8200x1024, extractStridedSlice S8200x1024 ![0, 0] S slices_S8208x1024_S8200x1024_0_0⟩] concatenates_S8x1024_S8200x1024_S8208x1024_d0)

/-- The reciprocal of how many rows there are to sum, up to `w`. -/
def inverseArr (w : BitVec 32) : FVec Ideal S8192x1 .f32 :=
  Host.divf (lit S8192x1 0x3F800000#32 bcast_S_S8192x1) (sitofp .f32 (minsi
    (addi (addi (broadcastInDim S8192x1 ![] bcast_S_S8192x1 (constantI S_ 32 0#32)) (iotaInDim S8192x1 32 0))
      (broadcastInDim S8192x1 ![] bcast_S_S8192x1 (constantI S_ 32 1#32)))
    (broadcastInDim S8192x1 ![] bcast_S_S8192x1 (constantI S_ 32 w))))

/-- A head's pooled columns, from the sums of its window. -/
def pooledArr (a : FVec Ideal S8192x1024 .f32) (S : FVec Ideal S8208x1024 .f32) (o : ℕ) (w : BitVec 32)
    (hS : S8208x1024.Slices ![16, o] S8192x256) (hP : S8192x1024.Slices ![0, o] S8192x256) : FVec Ideal S8192x256 .f32 :=
  subf (mulf (extractStridedSlice S8192x256 ![16, o] S hS) (broadcastInDim S8192x256 ![0, 1] bcast_S8192x1_S8192x256_0_1 (inverseArr w)))
    (extractStridedSlice S8192x256 ![0, o] a hP)

end Arrays

/-! ### The arrays at an index -/

theorem padArr_at (P : FVec Ideal S8192x5120 .f32) (i : Fin 8208) (j : Fin 1024) :
    padArr P (ix2 i j) = behind (fun r => P (ix2 r ⟨j.val, by omega⟩)) i.val := by
  unfold padArr mixerArr lit
  pointwise
  unfold behind onward
  by_cases h : 16 ≤ i.val
  · rw [dif_neg (by omega), if_pos h, dif_pos (by omega)]
  · rw [dif_pos (by omega), if_neg h]

theorem sum2_at (S : FVec Ideal S8208x1024 .f32) (i : Fin 8208) (j : Fin 1024) (h : 1 ≤ i.val) :
    sum2 S (ix2 i j) = S (ix2 i j) + S (ix2 ⟨i.val - 1, by omega⟩ j) := by
  unfold sum2
  pointwise
  rw [dif_neg (by omega)]

theorem sum4_at (S : FVec Ideal S8208x1024 .f32) (i : Fin 8208) (j : Fin 1024) (h : 2 ≤ i.val) :
    sum4 S (ix2 i j) = S (ix2 i j) + S (ix2 ⟨i.val - 2, by omega⟩ j) := by
  unfold sum4
  pointwise
  rw [dif_neg (by omega)]

theorem sum8_at (S : FVec Ideal S8208x1024 .f32) (i : Fin 8208) (j : Fin 1024) (h : 4 ≤ i.val) :
    sum8 S (ix2 i j) = S (ix2 i j) + S (ix2 ⟨i.val - 4, by omega⟩ j) := by
  unfold sum8
  pointwise
  rw [dif_neg (by omega)]

theorem sum16_at (S : FVec Ideal S8208x1024 .f32) (i : Fin 8208) (j : Fin 1024) (h : 8 ≤ i.val) :
    sum16 S (ix2 i j) = S (ix2 i j) + S (ix2 ⟨i.val - 8, by omega⟩ j) := by
  unfold sum16
  pointwise
  rw [dif_neg (by omega)]

section Sums

variable (P : FVec Ideal S8192x5120 .f32)

/-- The rows of `S` sum `n` rows of the padded columns, where there are `n`. -/
def RowSums (P : FVec Ideal S8192x5120 .f32) (n : ℕ) (S : FVec Ideal S8208x1024 .f32) : Prop :=
  ∀ (i : Fin 8208) (j : Fin 1024), n ≤ i.val + 1 → S (ix2 i j) = ∑ k ∈ Finset.range n, behind (fun r => P (ix2 r ⟨j.val, by omega⟩)) (i.val - k)

theorem sums_twice {n : ℕ} {S S' : FVec Ideal S8208x1024 .f32} (h : RowSums P n S) (hn : 0 < n)
    (e : ∀ (i : Fin 8208) (j : Fin 1024), n ≤ i.val → S' (ix2 i j) = S (ix2 i j) + S (ix2 ⟨i.val - n, by omega⟩ j)) : RowSums P (n + n) S' :=
  fun i j hi => by
    rw [e i j (by omega), h i j (by omega), h ⟨i.val - n, by omega⟩ j (by show n ≤ i.val - n + 1; omega)]
    exact sum_double n _ i.val

theorem sums1 : RowSums P 1 (padArr P) := fun i j _ => by rw [padArr_at, Finset.sum_range_one]; rfl
theorem sums2 : RowSums P 2 (sum2 (padArr P)) := sums_twice P (sums1 P) (by decide) (sum2_at _)
theorem sums4 : RowSums P 4 (sum4 (sum2 (padArr P))) := sums_twice P (sums2 P) (by decide) (sum4_at _)
theorem sums8 : RowSums P 8 (sum8 (sum4 (sum2 (padArr P)))) := sums_twice P (sums4 P) (by decide) (sum8_at _)
theorem sums16 : RowSums P 16 (sum16 (sum8 (sum4 (sum2 (padArr P))))) := sums_twice P (sums8 P) (by decide) (sum16_at _)

theorem inverseArr_at (r : Fin 8192) (g : Fin 4) : inverseArr (BitVec.ofNat 32 (span g)) (ix2 r 0) = Ideal.div 1 (count g r) := by
  have hs : span g ≤ 16 := by
    unfold span
    exact (Nat.pow_le_pow_right (by decide) (show g.val + 1 ≤ 4 by omega))
  have h0 : IntOp.addi 0#32 (BitVec.ofNat 32 r.val) = BitVec.ofNat 32 r.val := BitVec.zero_add _
  unfold inverseArr lit
  pointwise
  rw [h0]
  have hc := count_word r (span g) hs
  unfold Front.count
  exact (congrArg (fun n : ℤ => Ideal.div 1 ((n : ℝ) : EReal)) hc).trans (by push_cast; rfl)

theorem pooledArr_at (g : Fin 4) (S : FVec Ideal S8208x1024 .f32) (h : RowSums P (span g) S) (o : ℕ) (ho : o = g.val * 256) (hS hP) (r : Fin 8192) (e : Fin 256) :
    pooledArr (mixerArr P) S o (BitVec.ofNat 32 (span g)) hS hP (ix2 r e)
      = Ideal.div (window (span g) (fun s => P (ix2 s ⟨(col g e).val, by omega⟩)) r) (count g r) - P (ix2 r ⟨(col g e).val, by omega⟩) := by
  have hs : span g ≤ 16 := by
    unfold span
    exact (Nat.pow_le_pow_right (by decide) (show g.val + 1 ≤ 4 by omega))
  have hc : (col g e).val = g.val * 256 + e.val := rfl
  unfold pooledArr mixerArr
  pointwise [inverseArr_at]
  rw [h _ _ (by show span g ≤ 16 + r.val + 1; omega), mul_inverse]
  refine congrArg₂ (fun a b => Ideal.div a (count g r) - b) ?_ (congrArg (fun j => P (ix2 r j)) (Fin.ext (by simp only; omega)))
  refine (sum_behind (span g) hs _ r).trans (congrArg (fun j : Fin 5120 => window (span g) (fun s => P (ix2 s j)) r) (Fin.ext (by simp only; omega)))

end Sums

/-! ### The line's buffers -/

variable (m : (ℓ : Loc nD τ sig) → Buf (Elt Ideal) ℓ) (c : Dev nD)

/-- The saved columns with the mixer's heads' pooled columns ahead of the rest. -/
def Saved (q0 q1 q2 q3 : FVec Ideal S8192x256 .f32) (K : FVec Ideal S8192x9216 .bf16) : Prop := ∃ p4 p5 p6 p7 p8 p9, K
    = truncf .bf16 (concatenate (α := Ideal .f32) S8192x9216 1 [⟨S8192x256, q0⟩, ⟨S8192x256, q1⟩, ⟨S8192x256, q2⟩, ⟨S8192x256, q3⟩,
        ⟨S8192x1024, p4⟩, ⟨S8192x1024, p5⟩, ⟨S8192x1024, p6⟩, ⟨S8192x1024, p7⟩, ⟨S8192x2048, p8⟩, ⟨S8192x2048, p9⟩]
        concatenates_S8192x256_S8192x256_S8192x256_S8192x256_S8192x1024_S8192x1024_S8192x1024_S8192x1024_S8192x2048_S8192x2048_S8192x9216_d1)
      bitsLt_bf16_f32

/-- The lines up to the padded columns, from what the program is given. -/
theorem lines_zero : let W := after hostOps0 (fun b => m (c, b))
    W (Proc.devRef .tc main_v11) = padArr (projected m c) ∧ W (Proc.devRef .tc main_v6) = mixerArr (projected m c) := by
  refine ⟨?_, ?_⟩
  · after_reads_simp
    rfl
  · after_reads_simp
    rfl

/-- The first head's lines, from what those before it left. -/
theorem lines_one (W : Valuation τ sig (Elt Ideal)) : let W' := after [hostOps0_1, hostOps0_2].flatten W
    W' (Proc.devRef .tc main_v13) = sum2 (W (Proc.devRef .tc main_v11)) ∧ W' (Proc.devRef .tc main_v6) = W (Proc.devRef .tc main_v6)
    ∧ W' (Proc.devRef .tc main_v28) = pooledArr (W (Proc.devRef .tc main_v6)) (sum2 (W (Proc.devRef .tc main_v11))) 0 2#32
        slices_S8208x1024_S8192x256_16_0 slices_S8192x1024_S8192x256_0_0 := by
  refine ⟨?_, ?_, ?_⟩
  · after_reads_simp
    rfl
  · after_reads_simp
  · after_reads_simp
    rfl

/-- The second head's lines, from what those before it left. -/
theorem lines_two (W : Valuation τ sig (Elt Ideal)) : let W' := after [hostOps0_3, hostOps0_4].flatten W
    W' (Proc.devRef .tc main_v30) = sum4 (W (Proc.devRef .tc main_v13)) ∧ W' (Proc.devRef .tc main_v6) = W (Proc.devRef .tc main_v6)
    ∧ W' (Proc.devRef .tc main_v28) = W (Proc.devRef .tc main_v28)
    ∧ W' (Proc.devRef .tc main_v45) = pooledArr (W (Proc.devRef .tc main_v6)) (sum4 (W (Proc.devRef .tc main_v13))) 256 4#32
        slices_S8208x1024_S8192x256_16_256 slices_S8192x1024_S8192x256_0_256 := by
  refine ⟨?_, ?_, ?_, ?_⟩
  · after_reads_simp
    rfl
  · after_reads_simp
  · after_reads_simp
  · after_reads_simp
    rfl

/-- The third head's lines. -/
theorem lines_three (W : Valuation τ sig (Elt Ideal)) : let W' := after [hostOps0_5, hostOps0_6].flatten W
    W' (Proc.devRef .tc main_v47) = sum8 (W (Proc.devRef .tc main_v30)) ∧ W' (Proc.devRef .tc main_v6) = W (Proc.devRef .tc main_v6)
    ∧ W' (Proc.devRef .tc main_v28) = W (Proc.devRef .tc main_v28) ∧ W' (Proc.devRef .tc main_v45) = W (Proc.devRef .tc main_v45)
    ∧ W' (Proc.devRef .tc main_v62) = pooledArr (W (Proc.devRef .tc main_v6)) (sum8 (W (Proc.devRef .tc main_v30))) 512 8#32
        slices_S8208x1024_S8192x256_16_512 slices_S8192x1024_S8192x256_0_512 := by
  refine ⟨?_, ?_, ?_, ?_, ?_⟩
  · after_reads_simp
    rfl
  · after_reads_simp
  · after_reads_simp
  · after_reads_simp
  · after_reads_simp
    rfl

/-- The fourth head's lines, and those that gather the saved columns. -/
theorem lines_four (W : Valuation τ sig (Elt Ideal)) :
    Saved (W (Proc.devRef .tc main_v28)) (W (Proc.devRef .tc main_v45)) (W (Proc.devRef .tc main_v62))
      (pooledArr (W (Proc.devRef .tc main_v6)) (sum16 (W (Proc.devRef .tc main_v47))) 768 16#32
        slices_S8208x1024_S8192x256_16_768 slices_S8192x1024_S8192x256_0_768)
      (after [hostOps0_7, hostOps0_8, hostOps0_9, hostOps0_10, hostOps0_11, hostOps0_12].flatten W (Proc.devRef .tc main_v174)) := by
  after_reads_simp
  exact ⟨_, _, _, _, _, _, rfl⟩

theorem pooled_eq : Saved
    (pooledArr (mixerArr (projected m c)) (sum2 (padArr (projected m c))) 0 2#32 slices_S8208x1024_S8192x256_16_0 slices_S8192x1024_S8192x256_0_0)
    (pooledArr (mixerArr (projected m c)) (sum4 (sum2 (padArr (projected m c)))) 256 4#32 slices_S8208x1024_S8192x256_16_256
      slices_S8192x1024_S8192x256_0_256)
    (pooledArr (mixerArr (projected m c)) (sum8 (sum4 (sum2 (padArr (projected m c))))) 512 8#32 slices_S8208x1024_S8192x256_16_512
      slices_S8192x1024_S8192x256_0_512)
    (pooledArr (mixerArr (projected m c)) (sum16 (sum8 (sum4 (sum2 (padArr (projected m c)))))) 768 16#32 slices_S8208x1024_S8192x256_16_768
      slices_S8192x1024_S8192x256_0_768)
    (V0 m c (Proc.devRef .tc main_v174)) := by
  have cut : V0 m c = after [hostOps0_7, hostOps0_8, hostOps0_9, hostOps0_10, hostOps0_11, hostOps0_12].flatten (after [hostOps0_5, hostOps0_6].flatten
      (after [hostOps0_3, hostOps0_4].flatten (after [hostOps0_1, hostOps0_2].flatten (after hostOps0 (fun b => m (c, b)))))) := by
    rw [← after_append, ← after_append, ← after_append, ← after_append, ← List.flatten_append, ← List.flatten_append, ← List.flatten_append]
    rfl
  rw [cut]
  obtain ⟨z1, z2⟩ := lines_zero m c
  generalize after hostOps0 (fun b => m (c, b)) = W0 at *
  obtain ⟨a1, a2, a3⟩ := lines_one W0
  generalize after [hostOps0_1, hostOps0_2].flatten W0 = W1 at *
  obtain ⟨b1, b2, b3, b4⟩ := lines_two W1
  generalize after [hostOps0_3, hostOps0_4].flatten W1 = W2 at *
  obtain ⟨d1, d2, d3, d4, d5⟩ := lines_three W2
  have f := lines_four (after [hostOps0_5, hostOps0_6].flatten W2)
  rw [d1, d2, d3, d4, d5, b1, b2, b3, b4, a1, a2, a3, z1, z2] at f
  exact f

/-- The projected columns as the closed form has them. -/
theorem pooled_proj (r : Fin 8192) (g : Fin 4) (e : Fin 256) :
    Ideal.div (window (span g) (fun s => projected m c (ix2 s ⟨(col g e).val, by omega⟩)) r) (count g r) - projected m c (ix2 r ⟨(col g e).val, by omega⟩)
      = (inputs m c).pooled r g e := by
  simp only [projected_at]
  rfl

theorem keptPooled_at (r : Fin 8192) (g : Fin 4) (e : Fin 256) :
    V m c main_v174 (ix2 r ⟨(col g e).val, by omega⟩) = (inputs m c).pooled r g e := by
  have he := e.isLt
  have hc : (col g e).val = g.val * 256 + e.val := rfl
  show V0 m c (Proc.devRef .tc main_v174) (ix2 r ⟨(col g e).val, by omega⟩) = _
  obtain ⟨p4, p5, p6, p7, p8, p9, eq⟩ := pooled_eq m c
  rw [eq, ← pooled_proj]
  pointwise
  match g, hc with
  | 0, hc =>
    have hc : (col 0 e).val = e.val := hc.trans (by simp)
    rw [dif_pos (by omega)]
    refine (congrArg (pooledArr (mixerArr (projected m c)) _ _ _ _ _) (congrArg (ix2 r) (Fin.ext ?_))).trans
      (pooledArr_at (projected m c) 0 _ (sums2 _) 0 rfl _ _ r e)
    simp only; omega
  | 1, hc =>
    have hc : (col 1 e).val = 256 + e.val := hc.trans (by simp)
    rw [dif_neg (by omega), dif_pos (by omega)]
    refine (congrArg (pooledArr (mixerArr (projected m c)) _ _ _ _ _) (congrArg (ix2 r) (Fin.ext ?_))).trans
      (pooledArr_at (projected m c) 1 _ (sums4 _) 256 rfl _ _ r e)
    simp only; omega
  | 2, hc =>
    have hc : (col 2 e).val = 512 + e.val := hc.trans (by simp)
    rw [dif_neg (by omega), dif_neg (by omega), dif_pos (by omega)]
    refine (congrArg (pooledArr (mixerArr (projected m c)) _ _ _ _ _) (congrArg (ix2 r) (Fin.ext ?_))).trans
      (pooledArr_at (projected m c) 2 _ (sums8 _) 512 rfl _ _ r e)
    simp only; omega
  | 3, hc =>
    have hc : (col 3 e).val = 768 + e.val := hc.trans (by simp)
    rw [dif_neg (by omega), dif_neg (by omega), dif_neg (by omega), dif_pos (by omega)]
    refine (congrArg (pooledArr (mixerArr (projected m c)) _ _ _ _ _) (congrArg (ix2 r) (Fin.ext ?_))).trans
      (pooledArr_at (projected m c) 3 _ (sums16 _) 768 rfl _ _ r e)
    simp only; omega

theorem keptZp_at (r : Fin 8192) (j : Fin 1024) :
    V m c main_v174 (ix2 r ⟨5120 + j.val, by omega⟩) = silu ((inputs m c).zp r j) := by
  have hj := j.isLt
  show V0 m c (Proc.devRef .tc main_v174) (ix2 r ⟨5120 + j.val, by omega⟩) = _
  obtain ⟨p0, p1, p2, p3, p5, p7, p9, e⟩ := kept_eq m c
  rw [e]
  pointwise [siluArr_at]
  rw [dif_neg (by omega), dif_neg (by omega), dif_neg (by omega), dif_neg (by omega), dif_neg (by omega), dif_neg (by omega), dif_neg (by omega),
    dif_neg (by omega), dif_pos (by omega), projected_at]
  exact congrArg (fun j => silu ((inputs m c).proj r j)) (Fin.ext (by simp only; omega))

theorem pool_at (g : Fin 4) (e d : Fin 256) : V m c main_v191 (ix3 g e d) = (inputs m c).pool (ix4 0 g e d) := by
  show V0 m c (Proc.devRef .tc main_v191) (ix3 g e d) = _
  after_reads_simp
  pointwise
  rfl

theorem scale_at (j : Fin 1024) : V m c main_arg5 (ix2 0 j) = (inputs m c).scale (ix2 0 j) := by
  show V0 m c (Proc.devRef .tc main_arg5) (ix2 0 j) = _
  after_reads_simp
  rfl

end Cert.Kernel2Ideal.Front

end
-- ==== Proof.Front.PoolLoads.lean ====
/-
The pool mixer's loads at each grid point of the front kernel, as entries of the argument arrays, and its stores as `PoolStep`'s.
-/
module

public import proofs.«01_k».proof.Proof.Front.Loads
public import proofs.«01_k».proof.Proof.Front.PoolStep
public import proofs.«01_k».proof.Proof.Front.PoolHost

@[expose] public section

set_option maxRecDepth 16384

noncomputable section

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

section Loads

variable {F : FTy → Type} [FloatOps F] (m : (ℓ : Loc nD τ sig) → Buf (Elt F) ℓ) (c : Dev nD) (t : Fin cfg0.N)

/-- The loads of the mixer's head `q`, of which there are four. -/
def mixer (q : ℕ) (hq : q < 4) : Mixer F where
  pooled := View.readAt (Elt F) (stage0 t).view (Rect.unit (s := S256x9216) ![0, 256 * q] ![256, 256] (inb2 (by decide) (by omega))).toLoadRect ((whole0 t).unread (iblk m c 0 t))
  weight := View.readAt (Elt F) (stage3 t).view (Rect.unit (s := S4x256x256) ![q, 0, 0] ![1, 256, 256] (inb3 (by omega) (by decide) (by decide))).toLoadRect ((whole3 t).unread (iblk m c 3 t))
  dy := View.readAt (Elt F) (stage1 t).view (Rect.unit (s := S256x2048) ![0, 256 * q] ![256, 256] (inb2 (by decide) (by omega))).toLoadRect ((whole1 t).unread (iblk m c 1 t))
  gate := View.readAt (Elt F) (stage0 t).view (Rect.unit (s := S256x9216) ![0, 5120 + 256 * q] ![256, 256] (inb2 (by decide) (by omega))).toLoadRect ((whole0 t).unread (iblk m c 0 t))
  scale := View.readAt (Elt F) (stage4 t).view (Rect.unit (s := S1x1024) ![0, 256 * q] ![1, 256] (inb2 (by decide) (by omega))).toLoadRect ((whole4 t).unread (iblk m c 4 t))

/-- Where head `q` is in the weight's gradient. -/
abbrev poolRect (q : ℕ) (hq : q < 4) : Rect S4x256x256 := Rect.unit (s := S4x256x256) ![q, 0, 0] ![1, 256, 256] (inb3 (by omega) (by decide) (by decide))

section Middle

variable (p : Left F)

def pieceP (q : ℕ) (hq : q < 4) : View.Piece (Elt F) S4x256x256 .f32 :=
  ⟨poolRect q hq, (mixer m c t q hq).newP (View.readAt (Elt F) (stage11 t).view (poolRect q hq).toLoadRect ((whole11 t).unread p.dpw))⟩

def pieceS (q : ℕ) (hq : q < 4) : View.Piece (Elt F) S1x1024 .f32 :=
  ⟨rowRect q hq, (mixer m c t q hq).newS (View.readAt (Elt F) (stage12 t).view (rowRect q hq).toLoadRect ((whole12 t).unread p.dps))⟩

variable (h : t.val ≠ 0) (hl : t.val ≠ 32)

theorem middle_p : (runMiddle m c t h hl p).2.1 = stores (pieceP m c t p) := by sl_kernel_rfl

theorem middle_s : (runMiddle m c t h hl p).2.2.1 = stores (pieceS m c t p) := by sl_kernel_rfl

end Middle

/-! ### The stores at the first point, over the zeros it starts with -/

def zeroP : View.Piece (Elt F) S4x256x256 .f32 := ⟨Rect.unit ![0, 0, 0] S4x256x256.size inb_S4x256x256_S4x256x256_0_0_0, k0_pay2⟩

def zeroS : View.Piece (Elt F) S1x1024 .f32 := ⟨Rect.unit ![0, 0] S1x1024.size inb_S1x1024_S1x1024_0_0, k0_pay3⟩

/-- The stores of the heads below `n`: each head's is over a load of what was stored before. -/
def startP : (n : ℕ) → n ≤ 4 → List (View.Piece (Elt F) S4x256x256 .f32)
  | 0, _ => []
  | n + 1, h => ⟨poolRect n h, (mixer m c t n h).newP (View.readCov (stage11 t).view (startP n (Nat.le_of_succ_le h) ++ [zeroP]) (poolRect n h).toLoadRect)⟩
      :: startP n (Nat.le_of_succ_le h)

def startS : (n : ℕ) → n ≤ 4 → List (View.Piece (Elt F) S1x1024 .f32)
  | 0, _ => []
  | n + 1, h => ⟨rowRect n h, (mixer m c t n h).newS (View.readCov (stage12 t).view (startS n (Nat.le_of_succ_le h) ++ [zeroS]) (rowRect n h).toLoadRect)⟩
      :: startS n (Nat.le_of_succ_le h)

variable (h : t.val = 0)

theorem first_p : (runFirst m c t h).2.1 = startP m c t 4 (Nat.le_refl 4) ++ [zeroP] := by sl_kernel_rfl

theorem first_s : (runFirst m c t h).2.2.1 = startS m c t 4 (Nat.le_refl 4) ++ [zeroS] := by sl_kernel_rfl

end Loads

variable (m : (ℓ : Loc nD τ sig) → Buf (Elt Ideal) ℓ) (c : Dev nD) (t : Fin cfg0.N)

theorem index_pool : ∀ t : Fin cfg0.N, win0_3.index t = ![0, 0, 0] ∧ win0_4.index t = ![0, 0] := by decide +kernel

theorem block_pool (q : Fin 4) (e d : Fin 256) : iblk m c 3 t (ix3 q e d) = V m c main_v191 (ix3 q e d) := by
  unfold iblk; blk_simp
  blk_ext [(index_pool t).1]

theorem block_scale (j : Fin 1024) : iblk m c 4 t (ix2 0 j) = V m c main_arg5 (ix2 0 j) := by
  unfold iblk; blk_simp
  blk_ext [(index_pool t).2]

/-- A point's loads for the mixer are its tile's. -/
theorem mixer_holds (h : t.val < 32) (q : Fin 4) : (mixer m c t q.val q.isLt).Holds (inputs m c) (tile t) q where
  pooled := fun r e => (load2 (whole0 t) _ _ r e r ⟨(col q e).val, by omega⟩ (Nat.zero_add _).symm (by show q.val * 256 + e.val = _; omega)).trans
    ((block_kept m c t h r _).trans (keptPooled_at m c _ q e))
  weight := fun e d => (load3 (whole3 t) _ _ 0 e d q e d rfl (Nat.zero_add _).symm (Nat.zero_add _).symm).trans ((block_pool m c t q e d).trans (pool_at m c q e d))
  dy := fun r e => (load2 (whole1 t) _ _ r e r ⟨(col q e).val, by omega⟩ (Nat.zero_add _).symm (by show q.val * 256 + e.val = _; omega)).trans
    ((block_dy m c t h r _).trans (dy_at m c _ _))
  gate := fun r e => (load2 (whole0 t) _ _ r e r ⟨5120 + (col q e).val, by omega⟩ (Nat.zero_add _).symm (by show 5120 + (q.val * 256 + e.val) = _; omega)).trans
    ((block_kept m c t h r _).trans (keptZp_at m c _ _))
  scale := fun e => (load2 (whole4 t) _ _ 0 e 0 (col q e) rfl (by show q.val * 256 + e.val = _; omega)).trans ((block_scale m c t _).trans (scale_at m c _))

end Cert.Kernel2Ideal.Front

end
-- ==== Proof.Front.PoolTotal.lean ====
/-
What each grid point of the front kernel leaves of the pool mixer's two gradients, the sums after the last, and the two arrays.
-/
module

public import proofs.«01_k».proof.Proof.Front.Arrays
public import proofs.«01_k».proof.Proof.Front.PoolLoads

@[expose] public section

set_option maxRecDepth 16384

noncomputable section

namespace Cert.Front.Inputs

open Idealize.ShloMosaic Cert.Kernel2Ideal.Front

variable (A : Inputs) (T : Fin 32) (g : Fin 4)

/-- A tile's part of the scale's gradient, -/
def partScale (e : Fin 256) : EReal := ∑ r, A.mixed (tileRow T r) g e * A.dyp (tileRow T r) (col g e)

/-- and of the weight's. -/
def partPool (e d : Fin 256) : EReal := ∑ r, A.pooled (tileRow T r) g e * (A.dyp (tileRow T r) (col g d) * A.scale (ix2 0 (col g d)))

end Cert.Front.Inputs

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

/-- The tiles' sums, from the last to the first, are the sum over the rows. -/
theorem upTo_rows (f : Fin 8192 → EReal) : upTo (fun T => ∑ r, f (tileRow T r)) 31 = ∑ r, f r :=
  (upTo_all _).trans (Fin.sum_univ_tiles 32 256 rfl f).symm

/-- The weight's gradient as an array. -/
def poolArr (P : Fin 4 → Fin 256 → Fin 256 → EReal) : S4x256x256.Idx → EReal := fun y => P (y 0) (y 1) (y 2)

/-- The mixer's two gradients' buffers hold `S` and `P`. -/
structure Left.Mixes (p : Left Ideal) (S : Fin 4 → Fin 256 → EReal) (P : Fin 4 → Fin 256 → Fin 256 → EReal) : Prop where
  s : p.dps = heads S
  p : p.dpw = poolArr P

section Point

variable (m : (ℓ : Loc nD τ sig) → Buf (Elt Ideal) ℓ) (c : Dev nD) (t : Fin cfg0.N)

/-- What the scale's buffer holds after a point, -/
def plusS (S : Fin 4 → Fin 256 → EReal) : S1x1024.Idx → EReal := heads fun q e => S q e + (inputs m c).partScale (tile t) q e

/-- and the weight's. -/
def plusP (P : Fin 4 → Fin 256 → Fin 256 → EReal) : S4x256x256.Idx → EReal := poolArr fun q e d => P q e d + (inputs m c).partPool (tile t) q e d

theorem piece_s (ht : t.val < 32) (S : Fin 4 → Fin 256 → EReal) (q : ℕ) (hq : q < 4) (old : Vec Ideal S1x256 .f32) (L)
    (ho : ∀ e, old (ix2 0 e) = S ⟨q, hq⟩ e) (hL : View.PiecesOf (plusS m c t S) L) :
    View.PiecesOf (Val := Elt Ideal) (e := .f32) (plusS m c t S) (⟨rowRect q hq, (mixer m c t q hq).newS old⟩ :: L) :=
  cons2 (fun a b a' b' _ h1 => by
    unfold plusS
    rw [Fin.fin_one_eq_zero a, heads_at _ ⟨q, hq⟩ b a' b' h1]
    exact ((mixer_holds m c t ht ⟨q, hq⟩).newS_at old b).trans (congrArg (· + (inputs m c).partScale (tile t) ⟨q, hq⟩ b) (ho b))) hL

theorem piece_p (ht : t.val < 32) (P : Fin 4 → Fin 256 → Fin 256 → EReal) (q : ℕ) (hq : q < 4) (old : Vec Ideal S1x256x256 .f32) (L)
    (ho : ∀ e d, old (ix3 0 e d) = P ⟨q, hq⟩ e d) (hL : View.PiecesOf (plusP m c t P) L) :
    View.PiecesOf (Val := Elt Ideal) (e := .f32) (plusP m c t P) (⟨poolRect q hq, (mixer m c t q hq).newP old⟩ :: L) :=
  cons3 (fun a e d a' e' d' h0 h1 h2 => by
    have ea : a' = ⟨q, hq⟩ := Fin.ext (by show a'.val = q; omega)
    have ee : e' = e := Fin.ext (by omega)
    have ed : d' = d := Fin.ext (by omega)
    rw [Fin.fin_one_eq_zero a, ea, ee, ed]
    exact ((mixer_holds m c t ht ⟨q, hq⟩).newP_at old e d).trans (congrArg (· + (inputs m c).partPool (tile t) ⟨q, hq⟩ e d) (ho e d))) hL

/-! ### A point between -/

theorem between_s (h : t.val ≠ 0) (hl : t.val ≠ 32) (ht : t.val < 32) (p : Left Ideal)
    (S : Fin 4 → Fin 256 → EReal) (hp : p.dps = heads S) : View.canon (runMiddle m c t h hl p).2.2.1 = plusS m c t S :=
  (congrArg View.canon (middle_s m c t p h hl)).trans (canon_eq _ (stores (pieceS m c t p)) []
    (have o : ∀ (q : ℕ) (hq : q < 4) (e : Fin 256), View.readAt (Elt Ideal) (stage12 t).view (rowRect q hq).toLoadRect ((whole12 t).unread p.dps) (ix2 0 e) = S ⟨q, hq⟩ e :=
        fun q hq e => (load2 (whole12 t) _ _ 0 e 0 ⟨256 * q + e.val, by omega⟩ rfl rfl).trans ((congrFun hp _).trans (heads_at S ⟨q, hq⟩ e _ _ rfl));
      piece_s m c t ht S 3 _ _ _ (o 3 _) (piece_s m c t ht S 2 _ _ _ (o 2 _) (piece_s m c t ht S 1 _ _ _ (o 1 _) (piece_s m c t ht S 0 _ _ [] (o 0 _) trivial))))
    (View.cover_of_tiledL (stores (pieceS m c t p)) ![1, 256] (by sl_kernel_rfl)))

theorem between_p (h : t.val ≠ 0) (hl : t.val ≠ 32) (ht : t.val < 32) (p : Left Ideal)
    (P : Fin 4 → Fin 256 → Fin 256 → EReal) (hp : p.dpw = poolArr P) : View.canon (runMiddle m c t h hl p).2.1 = plusP m c t P :=
  (congrArg View.canon (middle_p m c t p h hl)).trans (canon_eq _ (stores (pieceP m c t p)) []
    (have o : ∀ (q : ℕ) (hq : q < 4) (e d : Fin 256), View.readAt (Elt Ideal) (stage11 t).view (poolRect q hq).toLoadRect ((whole11 t).unread p.dpw) (ix3 0 e d) = P ⟨q, hq⟩ e d :=
        fun q hq e d => (load3 (whole11 t) _ _ 0 e d ⟨q, hq⟩ e d rfl (Nat.zero_add _).symm (Nat.zero_add _).symm).trans (congrFun hp _);
      piece_p m c t ht P 3 _ _ _ (o 3 _) (piece_p m c t ht P 2 _ _ _ (o 2 _) (piece_p m c t ht P 1 _ _ _ (o 1 _) (piece_p m c t ht P 0 _ _ [] (o 0 _) trivial))))
    (View.cover_of_tiledL (stores (pieceP m c t p)) ![1, 256, 256] (by sl_kernel_rfl)))

theorem leftMiddle_dps (h : t.val ≠ 0) (hl : t.val ≠ 32) (p : Left Ideal) (K) : (leftMiddle m c t h hl p K).dps = View.canon (runMiddle m c t h hl p).2.2.1 := by sl_kernel_rfl

theorem leftMiddle_dpw (h : t.val ≠ 0) (hl : t.val ≠ 32) (p : Left Ideal) (K) : (leftMiddle m c t h hl p K).dpw = View.canon (runMiddle m c t h hl p).2.1 := by sl_kernel_rfl

theorem middle_mixes (h : t.val ≠ 0) (hl : t.val ≠ 32) (ht : t.val < 32) (p : Left Ideal) (S : Fin 4 → Fin 256 → EReal)
    (P : Fin 4 → Fin 256 → Fin 256 → EReal) (hp : p.Mixes S P) (K) :
    (leftMiddle m c t h hl p K).Mixes (fun q e => S q e + (inputs m c).partScale (tile t) q e) (fun q e d => P q e d + (inputs m c).partPool (tile t) q e d) :=
  ⟨(leftMiddle_dps m c t h hl p K).trans (between_s m c t h hl ht p S hp.s), (leftMiddle_dpw m c t h hl p K).trans (between_p m c t h hl ht p P hp.p)⟩

/-! ### The first point -/

theorem zero2 (x) : k0_pay2 (F := Ideal) x = 0 := by unfold k0_pay2; pointwise

theorem zero3 (x) : k0_pay3 (F := Ideal) x = 0 := by unfold k0_pay3; pointwise

theorem apart_s (n : ℕ) (h : n < 4) : (startS m c t n (Nat.le_of_lt h)).all (fun p => LoadRect.disj p.1 (rowRect n h).toLoadRect) = true :=
  match n, h with
  | 0, _ => by sl_kernel_rfl
  | 1, _ => by sl_kernel_rfl
  | 2, _ => by sl_kernel_rfl
  | 3, _ => by sl_kernel_rfl

theorem apart_p (n : ℕ) (h : n < 4) : (startP m c t n (Nat.le_of_lt h)).all (fun p => LoadRect.disj p.1 (poolRect n h).toLoadRect) = true :=
  match n, h with
  | 0, _ => by sl_kernel_rfl
  | 1, _ => by sl_kernel_rfl
  | 2, _ => by sl_kernel_rfl
  | 3, _ => by sl_kernel_rfl

theorem start_s (ht : t.val < 32) : ∀ (n : ℕ) (h : n ≤ 4), View.PiecesOf (plusS m c t fun _ _ => 0) (startS m c t n h)
  | 0, _ => trivial
  | n + 1, h => piece_s m c t ht (fun _ _ => 0) n h _ _ (fun e =>
      (congrFun (cov_skip (stage12 t).view [zeroS] (rowRect n h).toLoadRect _ (apart_s m c t n h)) _).trans
        (fill_at (Val := Elt Ideal) (s := S1x1024) (e := .f32) (stage12 t).view inb_S1x1024_S1x1024_0_0 (k0_pay3 (F := Ideal)) 0 zero3 (rowRect n h) (by decide) _))
      (start_s ht n (Nat.le_of_succ_le h))

theorem start_p (ht : t.val < 32) : ∀ (n : ℕ) (h : n ≤ 4), View.PiecesOf (plusP m c t fun _ _ _ => 0) (startP m c t n h)
  | 0, _ => trivial
  | n + 1, h => piece_p m c t ht (fun _ _ _ => 0) n h _ _ (fun e d =>
      (congrFun (cov_skip (stage11 t).view [zeroP] (poolRect n h).toLoadRect _ (apart_p m c t n h)) _).trans
        (fill_at (Val := Elt Ideal) (s := S4x256x256) (e := .f32) (stage11 t).view inb_S4x256x256_S4x256x256_0_0_0 (k0_pay2 (F := Ideal)) 0 zero2 (poolRect n h) (by decide) _))
      (start_p ht n (Nat.le_of_succ_le h))

theorem begun_s (h : t.val = 0) (ht : t.val < 32) : View.canon (runFirst m c t h).2.2.1 = plusS m c t fun _ _ => 0 :=
  (congrArg View.canon (first_s m c t h)).trans
    (canon_eq _ _ _ (start_s m c t ht 4 _) (View.cover_of_tiledL (startS m c t 4 (Nat.le_refl 4)) ![1, 256] (by sl_kernel_rfl)))

theorem begun_p (h : t.val = 0) (ht : t.val < 32) : View.canon (runFirst m c t h).2.1 = plusP m c t fun _ _ _ => 0 :=
  (congrArg View.canon (first_p m c t h)).trans
    (canon_eq _ _ _ (start_p m c t ht 4 _) (View.cover_of_tiledL (startP m c t 4 (Nat.le_refl 4)) ![1, 256, 256] (by sl_kernel_rfl)))

theorem leftFirst_dps (h : t.val = 0) : (leftFirst m c t h).dps = View.canon (runFirst m c t h).2.2.1 := by sl_kernel_rfl

theorem leftFirst_dpw (h : t.val = 0) : (leftFirst m c t h).dpw = View.canon (runFirst m c t h).2.1 := by sl_kernel_rfl

theorem first_mixes (h : t.val = 0) (ht : t.val < 32) : (leftFirst m c t h).Mixes (fun q e => 0 + (inputs m c).partScale (tile t) q e)
    (fun q e d => 0 + (inputs m c).partPool (tile t) q e d) :=
  ⟨(leftFirst_dps m c t h).trans (begun_s m c t h ht), (leftFirst_dpw m c t h).trans (begun_p m c t h ht)⟩

/-! ### Every point, and the last -/

/-- The two sums so far. -/
def MixedSums (m : (ℓ : Loc nD τ sig) → Buf (Elt Ideal) ℓ) (c : Dev nD) (n : ℕ) (p : Left Ideal) : Prop :=
  p.Mixes (fun q e => upTo (fun T => (inputs m c).partScale T q e) n) (fun q e d => upTo (fun T => (inputs m c).partPool T q e d) n)

theorem mixed_first (h : t.val = 0) : MixedSums m c 0 (leftFirst m c t h) := by
  have H := first_mixes m c t h (by omega)
  have e : tile t = tileAt 0 := Fin.ext (by show 31 - t.val = 31 - 0; omega)
  rw [e] at H
  simp only [zero_add] at H
  exact H

theorem mixed_middle (h : t.val ≠ 0) (hl : t.val ≠ 32) (ht : t.val < 32) (n : ℕ) (hn : t.val = n + 1) (p : Left Ideal) (hp : MixedSums m c n p) (K) :
    MixedSums m c (n + 1) (leftMiddle m c t h hl p K) := by
  have H := middle_mixes m c t h hl ht p _ _ hp K
  have e : tile t = tileAt (n + 1) := Fin.ext (by show 31 - t.val = 31 - (n + 1); omega)
  rw [e] at H
  exact H

theorem mixed_at : ∀ (n : ℕ) (hn : n < cfg0.N), n < 32 → MixedSums m c n (leftAt m c n hn)
  | 0, hn, _ => (leftAt_first m c ⟨0, hn⟩ rfl).symm ▸ mixed_first m c ⟨0, hn⟩ rfl
  | n + 1, hn, h => (leftAt_middle m c ⟨n + 1, hn⟩ (Nat.succ_ne_zero n) (Nat.ne_of_lt h)).symm ▸
      mixed_middle m c ⟨n + 1, hn⟩ (Nat.succ_ne_zero n) (Nat.ne_of_lt h) h n rfl _ (mixed_at n (Nat.lt_of_succ_lt hn) (Nat.lt_of_succ_lt h)) _

/-- The last point finds the two gradients whole. -/
theorem before_last_mixes (h : t.val = 32) : (before m c t).Mixes (inputs m c).dScale (inputs m c).dPool := by
  have H : MixedSums m c (t.val - 1) (before m c t) := mixed_at m c _ _ (by omega)
  have e : t.val - 1 = 31 := by omega
  exact ⟨H.s.trans (congrArg heads (funext fun q => funext fun k => by
      rw [e]; exact upTo_rows fun r => (inputs m c).mixed r q k * (inputs m c).dyp r (col q k))),
    H.p.trans (congrArg poolArr (funext fun q => funext fun k => funext fun d => by
      rw [e]; exact upTo_rows fun r => (inputs m c).pooled r q k * ((inputs m c).dyp r (col q d) * (inputs m c).scale (ix2 0 (col q d)))))⟩

end Point

/-! ### The arrays -/

theorem index_mixer : ∀ t : Fin cfg0.N, win0_11.index t = ![0, 0, 0] ∧ win0_12.index t = ![0, 0] := by decide +kernel

/-- The two gradients leave their buffers at the last point only. -/
theorem flush_mixer : ∀ t : Fin cfg0.N, ((cfg0.win 11).flush t = true → t.val = 32) ∧ ((cfg0.win 12).flush t = true → t.val = 32) := by decide +kernel

variable (m : (ℓ : Loc nD τ sig) → Buf (Elt Ideal) ℓ) (c : Dev nD)

theorem array_pool : (dats m 0 c).arrAt 11 cfg0.N = poolArr (inputs m c).dPool := by
  refine (dats m 0 c).arrAt_eq_of_covers 11 _ (by decide +kernel) fun t hf y => ?_
  have h := (flush_mixer t).1 hf
  blk_simp
  rw [carries_11 m c t h]
  have e : (((cfg0.win 11).blk t).view.emb y : S4x256x256.Idx) = y := funext fun a => match a with
    | ⟨0, _⟩ => Fin.ext (by blk_simp [(index_mixer t).1])
    | ⟨1, _⟩ => Fin.ext (by blk_simp [(index_mixer t).1])
    | ⟨2, _⟩ => Fin.ext (by blk_simp [(index_mixer t).1])
  exact (congrFun (before_last_mixes m c t h).p y).trans (congrArg (poolArr (inputs m c).dPool) e.symm)

theorem array_scale : (dats m 0 c).arrAt 12 cfg0.N = heads (inputs m c).dScale := by
  refine (dats m 0 c).arrAt_eq_of_covers 12 _ (by decide +kernel) fun t hf y => ?_
  have h := (flush_mixer t).2 hf
  blk_simp
  rw [carries_12 m c t h]
  have e : (((cfg0.win 12).blk t).view.emb y : S1x1024.Idx) = y := funext fun a => match a with
    | ⟨0, _⟩ => Fin.ext (by blk_simp [(index_mixer t).2])
    | ⟨1, _⟩ => Fin.ext (by blk_simp [(index_mixer t).2])
  exact (congrFun (before_last_mixes m c t h).s y).trans (congrArg (heads (inputs m c).dScale) e.symm)

end Cert.Kernel2Ideal.Front

end
-- ==== Proof.Front.Adjoint.lean ====
/-
The gradient at the projected row, column group by column group, and from it the gradient at the token, entry by entry over the
extended reals.

The five groups of a row's columns are `a`, `u`, `v`, `zp` and `z`. The gates' two, `zp` and `z`, and the gating unit's `u` take
the slope of silu or gelu. The group `v` goes back through the layer norm of a head's 256 columns, and `a` through the
pool mixer: back through its weight, then each token gathers from the tokens whose window it is in.
-/
module

public import proofs.«01_k».proof.Proof.Front.PoolSum

@[expose] public section

noncomputable section

namespace Cert.Front

open Idealize.ShloMosaic

/-- The slope of silu. -/
def dSilu (z : EReal) : EReal := Ideal.logistic z + silu z * (1 - Ideal.logistic z)

/-- The bend of gelu's tanh form, -/
def bend (x : EReal) : EReal := Ideal.tanh (x * (Ideal.ofBits .f32 0x3F4C422A#32
  + Ideal.ofBits .f32 0x3F4C422A#32 * (Ideal.ofBits .f32 0x3D372713#32 * (x * x))))

/-- and its slope. -/
def dGelu (x : EReal) : EReal :=
  (Ideal.ofBits .f32 0x3F000000#32 + Ideal.ofBits .f32 0x3F000000#32 * bend x)
    + (Ideal.ofBits .f32 0x3F000000#32 * x - Ideal.ofBits .f32 0x3F000000#32 * x * bend x * bend x)
      * (Ideal.ofBits .f32 0x3F4C422A#32 + Ideal.ofBits .f32 0x40400000#32
        * (Ideal.ofBits .f32 0x3F4C422A#32 * (Ideal.ofBits .f32 0x3D372713#32 * (x * x))))

/-- Back through the norm of a row: `x` is the gradient at the normalised row `y`, `s` the reciprocal deviation. -/
def normBack (x y : Fin 256 → EReal) (s : EReal) (c : Fin 256) : EReal :=
  s * (x c - mean x - y c * mean fun k => x k * y k)

/-- A token's chunk, -/
def upper (r : Fin 8192) : Fin 64 := ⟨r.val / 128, by omega⟩

/-- and its place there. -/
def lower (r : Fin 8192) : Fin 128 := ⟨r.val % 128, by omega⟩

theorem upper_row (n : Fin 64) (i : Fin 128) : upper (row n i) = n := Fin.ext (by show (n.val * 128 + i.val) / 128 = n.val; omega)

theorem lower_row (n : Fin 64) (i : Fin 128) : lower (row n i) = i := Fin.ext (by show (n.val * 128 + i.val) % 128 = i.val; omega)

theorem row_upper_lower (r : Fin 8192) : row (upper r) (lower r) = r := Fin.ext (by show r.val / 128 * 128 + r.val % 128 = r.val; omega)

namespace Inputs

variable (A : Inputs) (b : (⟨3, ![1, 4, 128]⟩ : Shape).Idx → EReal)

/-! ### The gating unit -/

/-- The mixed tokens of a chunk. -/
def sv (n : Fin 64) (i : Fin 128) (g : Fin 4) (c : Fin 256) : EReal :=
  (∑ k, A.mix g i k * A.vn (row n k) g c) + b (ix3 0 g i)

def dZ (r : Fin 8192) (g : Fin 4) (c : Fin 256) : EReal :=
  A.dy (ix3 0 r ⟨1024 + (col g c).val, by omega⟩) * (gelu (A.u r (col g c)) * A.sv b (upper r) (lower r) g c) * dSilu (A.z r (col g c))

def dU (r : Fin 8192) (g : Fin 4) (c : Fin 256) : EReal :=
  A.dy (ix3 0 r ⟨1024 + (col g c).val, by omega⟩) * silu (A.z r (col g c)) * A.sv b (upper r) (lower r) g c * dGelu (A.u r (col g c))

def dV (r : Fin 8192) (g : Fin 4) (c : Fin 256) : EReal :=
  normBack (fun k => A.dVn (upper r) (lower r) g k * A.lnG (ix2 0 (col g k))) (fun k => A.vhat r g k)
    (rstd (fun k => gelu (A.v r (col g k))) * dGelu (A.v r (col g c))) c

/-! ### The pool mixer -/

def dZp (r : Fin 8192) (g : Fin 4) (c : Fin 256) : EReal :=
  A.dy (ix3 0 r ⟨(col g c).val, by omega⟩) * (A.mixed r g c * A.scale (ix2 0 (col g c))) * dSilu (A.zp r (col g c))

/-- The gradient at the mixer's averages. -/
def dMean (r : Fin 8192) (g : Fin 4) (c : Fin 256) : EReal :=
  ∑ d, A.dyp r (col g d) * A.scale (ix2 0 (col g d)) * A.pool (ix4 0 g c d)

/-- The part of it that each token of the window gets. -/
def each (g : Fin 4) (c : Fin 256) (r : Fin 8192) : EReal := A.dMean r g c * Ideal.div 1 (count g r)

def dA (r : Fin 8192) (g : Fin 4) (c : Fin 256) : EReal :=
  (∑ j ∈ Finset.range (span g), onward (A.each g c) (r.val + j)) - A.dMean r g c

/-! ### The whole row, and the token -/

/-- The groups in the row's order. -/
def group (k : Fin 5) (r : Fin 8192) (g : Fin 4) (c : Fin 256) : EReal :=
  match k with
  | 0 => A.dA r g c
  | 1 => A.dU b r g c
  | 2 => A.dV r g c
  | 3 => A.dZp r g c
  | 4 => A.dZ b r g c

def dH (r : Fin 8192) (j : Fin 5120) : EReal :=
  A.group b ⟨j.val / 1024, by omega⟩ r ⟨j.val % 1024 / 256, by omega⟩ ⟨j.val % 256, by omega⟩

theorem dH_at (k : Fin 5) (r : Fin 8192) (g : Fin 4) (c : Fin 256) (j : Fin 5120) (h : j.val = 1024 * k.val + (g.val * 256 + c.val)) :
    A.dH b r j = A.group b k r g c := by
  have hk := k.isLt
  have hg := g.isLt
  have hc := c.isLt
  have e1 (h') : (⟨j.val / 1024, h'⟩ : Fin 5) = k := Fin.ext (by show j.val / 1024 = k.val; omega)
  have e2 (h') : (⟨j.val % 1024 / 256, h'⟩ : Fin 4) = g := Fin.ext (by show j.val % 1024 / 256 = g.val; omega)
  have e3 (h') : (⟨j.val % 256, h'⟩ : Fin 256) = c := Fin.ext (by show j.val % 256 = c.val; omega)
  unfold dH
  rw [e1, e2, e3]

def dX (p : (⟨3, ![1, 8192, 1024]⟩ : Shape).Idx → EReal) (r : Fin 8192) (k : Fin 1024) : EReal :=
  p (ix3 0 r k) + ∑ j, A.dH b r j * A.wIn (ix3 0 k j)

end Inputs

end Cert.Front

end
-- ==== Proof.Front.AdjointStep.lean ====
/-
One head of the gating unit, and one of the pool mixer, at one grid point of the front kernel: what the body stores of the
gradient at the projected row, and the same at an index.
-/
module

public import proofs.«01_k».proof.Proof.Front.Adjoint
public import proofs.«01_k».proof.Proof.Front.PoolStep

@[expose] public section

set_option maxRecDepth 16384

noncomputable section

namespace Cert.Kernel2Ideal.Front

open Cert.Front Cert.Kernel2Ideal Cert.Kernel2Ideal.Gen
open Idealize.ShloMosaic Idealize.ShloMosaic.TcCoe Idealize.ShloMosaic.Tactic

/-! ### The gating unit -/

namespace Head

variable {F : FTy → Type} [FloatOps F] (H : Head F) (bias : Vec F S128x1 .f32)

/-- The mixed tokens of both chunks side by side. -/
def mixed : FVec F S128x512 .f32 := k0_pay62 H.vhat H.g H.b H.w bias

/-- What is stored for the outer gate, of the first chunk -/
def dz0 (s : Vec F S128x256 .bf16) : FVec F S128x256 .bf16 := k0_pay68 (k0_pay65 H.d0) (k0_pay67 H.vhat H.g H.b H.w bias H.u0) s

/-- and of the second, -/
def dz1 (s : Vec F S128x256 .bf16) : FVec F S128x256 .bf16 := k0_pay75 (k0_pay62 H.vhat H.g H.b H.w bias) H.u1 H.d1 s

/-- for the gate, of the first -/
def du0 (s : Vec F S128x256 .bf16) : FVec F S128x256 .bf16 := k0_pay69 (k0_pay63 H.vhat H.g H.b H.w bias) (k0_pay66 H.d0 H.s0) s

/-- and of the second, -/
def du1 (s : Vec F S128x256 .bf16) : FVec F S128x256 .bf16 := k0_pay78 (k0_pay76 (k0_pay62 H.vhat H.g H.b H.w bias) H.d1 H.s1) (k0_pay77 s)

/-- and for the unit's input. -/
def dv (s : Vec F S256x256 .bf16) : FVec F S256x256 .bf16 :=
  k0_pay86 (k0_pay60 H.vhat) (k0_pay83 H.first (k0_pay72 H.u1) (k0_pay74 H.d1 H.s1) H.w) H.g s

end Head

namespace Head.Holds

variable {H : Head Ideal} {A : Inputs} {T : Fin 32} {q : Fin 4} (h : H.Holds A T q)
  {b : (⟨3, ![1, 4, 128]⟩ : Shape).Idx → EReal} {bias : Vec Ideal S128x1 .f32} (hb : ∀ i, bias (ix2 i 0) = b (ix3 0 q i))

include h hb in
theorem mixed_at (i : Fin 128) (p : Fin 2) (e : Fin 256) (x : Fin 512) (hx : x.val = p.val * 256 + e.val) :
    k0_pay62 H.vhat H.g H.b H.w bias (ix2 i x) = A.sv b (chunk T p) i q e := by
  have hl : p.val * 256 + e.val < 512 := hx ▸ x.isLt
  rw [show x = ⟨p.val * 256 + e.val, hl⟩ from Fin.ext hx]
  unfold k0_pay62 Inputs.sv
  pointwise [h.w, hb, h.vn_at]

include h hb in
theorem dz0_at (s : Vec Ideal S128x256 .bf16) (hs : ∀ i e, s (ix2 i e) = dSilu (A.z (row (chunk T 0) i) (col q e))) (i : Fin 128) (e : Fin 256) :
    H.dz0 bias s (ix2 i e) = A.dZ b (row (chunk T 0) i) q e := by
  unfold Head.dz0 k0_pay68 k0_pay67 k0_pay65 k0_pay64 k0_pay63 Inputs.dZ
  rw [upper_row, lower_row]
  pointwise [h.u0, h.d0, hs]
  rw [h.mixed_at hb i 0 e _ (by simp only; omega)]

include h hb in
theorem dz1_at (s : Vec Ideal S128x256 .bf16) (hs : ∀ i e, s (ix2 i e) = dSilu (A.z (row (chunk T 1) i) (col q e))) (i : Fin 128) (e : Fin 256) :
    H.dz1 bias s (ix2 i e) = A.dZ b (row (chunk T 1) i) q e := by
  unfold Head.dz1 k0_pay75 k0_pay73 k0_pay72 k0_pay71 Inputs.dZ
  rw [upper_row, lower_row]
  pointwise [h.u1, h.d1, hs]
  rw [h.mixed_at hb i 1 e _ (by simp only; omega)]

include h hb in
theorem du0_at (s : Vec Ideal S128x256 .bf16) (hs : ∀ i e, s (ix2 i e) = dGelu (A.u (row (chunk T 0) i) (col q e))) (i : Fin 128) (e : Fin 256) :
    H.du0 bias s (ix2 i e) = A.dU b (row (chunk T 0) i) q e := by
  unfold Head.du0 k0_pay69 k0_pay66 k0_pay65 k0_pay63 Inputs.dU
  rw [upper_row, lower_row]
  pointwise [h.s0, h.d0, hs]
  rw [h.mixed_at hb i 0 e _ (by simp only; omega)]

include h hb in
theorem du1_at (s : Vec Ideal S128x256 .bf16) (hs : ∀ i e, s (ix2 i e) = dGelu (A.u (row (chunk T 1) i) (col q e))) (i : Fin 128) (e : Fin 256) :
    H.du1 bias s (ix2 i e) = A.dU b (row (chunk T 1) i) q e := by
  unfold Head.du1 k0_pay78 k0_pay77 k0_pay76 k0_pay74 k0_pay73 k0_pay71 Inputs.dU
  rw [upper_row, lower_row]
  pointwise [h.s1, h.d1, hs]
  rw [h.mixed_at hb i 1 e _ (by simp only; omega)]

include h in
theorem dVn_row (r e : Fin 256) :
    k0_pay83 H.first (k0_pay72 H.u1) (k0_pay74 H.d1 H.s1) H.w (ix2 r e) = A.dVn (upper (tileRow T r)) (lower (tileRow T r)) q e := by
  have hr := r.isLt
  have e1 : r = ⟨(⟨r.val / 128, by omega⟩ : Fin 2).val * 128 + (⟨r.val % 128, by omega⟩ : Fin 128).val, by show r.val / 128 * 128 + r.val % 128 < 256; omega⟩ :=
    Fin.ext (by show r.val = r.val / 128 * 128 + r.val % 128; omega)
  have e2 : tileRow T r = row (chunk T ⟨r.val / 128, by omega⟩) ⟨r.val % 128, by omega⟩ := by
    conv_lhs => rw [e1]
    exact tileRow_chunk T _ _ _
  rw [e2, upper_row, lower_row]
  conv_lhs => rw [e1]
  exact h.dVn_at _ _ e _

include h in
theorem dv_at (s : Vec Ideal S256x256 .bf16)
    (hs : ∀ r e, s (ix2 r e) = rstd (fun k => gelu (A.v (tileRow T r) (col q k))) * dGelu (A.v (tileRow T r) (col q e))) (r e : Fin 256) :
    H.dv s (ix2 r e) = A.dV (tileRow T r) q e := by
  unfold Head.dv k0_pay86 k0_pay60 Inputs.dV normBack mean
  pointwise [h.vhat, h.g, h.dVn_row, hs]

end Head.Holds

/-! ### The pool mixer -/

/-- The sum of a row and one further on. -/
def further {F : FTy → Type} [FloatOps F] (w : BitVec 32) (x : FVec F S272x256 .f32) : FVec F S272x256 .f32 :=
  addf x (dynamicRotate 0 w none x rotates_S272x256_d0)

/-- Sums of `n` rows, doubled: row `i` and on, as long as that meets no end. -/
theorem further_at (x : FVec Ideal S272x256 .f32) (f : ℕ → EReal) (n : ℕ) (e : Fin 256) (w : BitVec 32) (hw : w.toNat = 272 - n) (hn : 0 < n)
    (hx : ∀ (i : ℕ) (hi : i < 272), i + n ≤ 272 → x (ix2 ⟨i, hi⟩ e) = ∑ j ∈ Finset.range n, f (i + j)) (i : ℕ) (hi : i < 272) (h : i + (n + n) ≤ 272) :
    further w x (ix2 ⟨i, hi⟩ e) = ∑ j ∈ Finset.range (n + n), f (i + j) := by
  unfold further
  pointwise
  have e1 (h') : (⟨(i + 272 - (w.toNat + 0) % 272) % 272, h'⟩ : Fin 272) = ⟨i + n, by omega⟩ := Fin.ext (by
    show (i + 272 - (w.toNat + 0) % 272) % 272 = i + n
    rw [hw]; omega)
  rw [Finset.sum_range_add, hx i hi (by omega)]
  refine congrArg (_ + ·) (Eq.trans (congrArg (fun k => x (ix2 k e)) (e1 _)) ((hx (i + n) (by omega) (by omega)).trans (Finset.sum_congr rfl fun j _ => by rw [Nat.add_assoc])))

namespace Mixer

variable {F : FTy → Type} [FloatOps F] (H : Mixer F) (v w : BitVec 32) (carry : Vec F S16x256 .f32)

/-- What is stored for the branch's first gate. -/
def dzp (s : Vec F S256x256 .bf16) : FVec F S256x256 .bf16 := k0_pay14 H.pooled H.weight H.dy H.scale s

/-- The gradient at the averages, -/
def down : FVec F S256x256 .f32 := k0_pay18 (k0_pay16 H.dy H.gate H.scale) H.weight

/-- over the count: `v` is the tile, `w` the window. -/
def shared : FVec F S256x256 .f32 :=
  mulf H.down (broadcastTo S256x256 (divf (broadcast S256x1 (Scalar.ofBits .f32 0x3F800000#32 : F .f32))
    (sitofp .f32 (minsi (addi (addi (broadcast S256x1 (Scalar.muli v 256#32)) (iota .tc S256x1 32 [0] iota_S256x1_d0_w32)) (broadcast S256x1 1#32))
      (broadcast S256x1 w)))) broadcasts_S256x1_S256x256)

/-- Its first rows are carried to the next point, -/
def carried : FVec F S16x256 .f32 :=
  shapeCast S16x256 (extractStridedSlice S16x256 ![0, 0] (H.shared v w) slices_S256x256_o0_0_S16x256) shapeCasts_S16x256_S16x256

/-- and under it lie those of the point before. -/
def below : FVec F S272x256 .f32 := concatenate S272x256 0 [⟨S256x256, H.shared v w⟩, ⟨S16x256, carry⟩] concatenates_S256x256_S16x256_S272x256_d0

/-- What is stored for the mixer's input: the rows' sums less the gradient itself. -/
def dA (S : FVec F S272x256 .f32) : FVec F S256x256 .bf16 :=
  truncf .bf16 (subf (extractStridedSlice S256x256 ![0, 0] S slices_S272x256_o0_0_S256x256) H.down) bitsLt_bf16_f32

end Mixer

namespace Mixer.Holds

variable {H : Mixer Ideal} {A : Inputs} {T : Fin 32} {q : Fin 4} (h : H.Holds A T q)

include h in
theorem dzp_at (s : Vec Ideal S256x256 .bf16) (hs : ∀ r e, s (ix2 r e) = dSilu (A.zp (tileRow T r) (col q e))) (r e : Fin 256) :
    H.dzp s (ix2 r e) = A.dZp (tileRow T r) q e := by
  unfold Mixer.dzp k0_pay14 k0_pay12 k0_pay11 k0_pay10 Inputs.dZp Inputs.mixed
  pointwise [h.pooled, h.weight, h.dy, h.scale, hs]

include h in
theorem down_at (r e : Fin 256) : H.down (ix2 r e) = A.dMean (tileRow T r) q e := by
  unfold Mixer.down k0_pay18 k0_pay16 k0_pay13 k0_pay12 Inputs.dMean
  pointwise [h.weight, h.dy, h.gate, h.scale]
  rfl

variable {v : BitVec 32} (hv : Scalar.muli v 256#32 = BitVec.ofNat 32 (T.val * 256))

include h hv in
theorem shared_at (r e : Fin 256) : H.shared v (BitVec.ofNat 32 (span q)) (ix2 r e) = A.each q e (tileRow T r) := by
  have hs : span q ≤ 16 := by
    unfold span
    exact (Nat.pow_le_pow_right (by decide) (show q.val + 1 ≤ 4 by omega))
  have h0 : IntOp.addi (BitVec.ofNat 32 (T.val * 256)) (BitVec.ofNat 32 r.val) = BitVec.ofNat 32 (tileRow T r).val := (BitVec.ofNat_add _ _).symm
  unfold Mixer.shared Inputs.each
  rw [hv]
  pointwise [h.down_at]
  rw [h0]
  have hc := count_word (tileRow T r) (span q) hs
  unfold Front.count
  refine congrArg (A.dMean (tileRow T r) q e * ·) ?_
  exact (congrArg (fun n : ℤ => Ideal.div 1 ((n : ℝ) : EReal)) hc).trans (by push_cast; rfl)

include h hv in
theorem carried_at (i : Fin 16) (e : Fin 256) :
    H.carried v (BitVec.ofNat 32 (span q)) (ix2 i e) = A.each q e (tileRow T ⟨i.val, by omega⟩) := by
  unfold Mixer.carried
  pointwise [h.shared_at hv]

variable {carry : Vec Ideal S16x256 .f32} (hc : ∀ i e, carry (ix2 i e) = onward (A.each q e) ((T.val + 1) * 256 + i.val))

include h hv hc in
theorem below_at (i : ℕ) (hi : i < 272) (e : Fin 256) :
    H.below v (BitVec.ofNat 32 (span q)) carry (ix2 ⟨i, hi⟩ e) = onward (A.each q e) (T.val * 256 + i) := by
  unfold Mixer.below
  pointwise
  by_cases h1 : i < 256
  · rw [dif_pos h1]
    exact (h.shared_at hv ⟨i, h1⟩ e).trans (onward_val (A.each q e) (tileRow T ⟨i, h1⟩)).symm
  · rw [dif_neg h1]
    exact (hc ⟨i - 256, by omega⟩ e).trans (congrArg (onward (A.each q e)) (by show (T.val + 1) * 256 + (i - 256) = _; omega))

include h hv hc in
theorem below_sum (i : ℕ) (hi : i < 272) (e : Fin 256) :
    H.below v (BitVec.ofNat 32 (span q)) carry (ix2 ⟨i, hi⟩ e) = ∑ j ∈ Finset.range 1, onward (A.each q e) (T.val * 256 + (i + j)) := by
  rw [Finset.sum_range_one]
  exact h.below_at hv hc i hi e

include h in
theorem dA_at (S : FVec Ideal S272x256 .f32) (e : Fin 256)
    (hS : ∀ (i : ℕ) (hi : i < 272), i + span q ≤ 272 → S (ix2 ⟨i, hi⟩ e) = ∑ j ∈ Finset.range (span q), onward (A.each q e) (T.val * 256 + (i + j)))
    (r : Fin 256) : H.dA S (ix2 r e) = A.dA (tileRow T r) q e := by
  have hs : span q ≤ 16 := by
    unfold span
    exact (Nat.pow_le_pow_right (by decide) (show q.val + 1 ≤ 4 by omega))
  unfold Mixer.dA Inputs.dA
  pointwise [h.down_at]
  refine congrArg (· - A.dMean (tileRow T r) q e) ?_
  refine Eq.trans ?_ ((hS r.val (by omega) (by omega)).trans (Finset.sum_congr rfl fun j _ => by rw [← Nat.add_assoc]; rfl))
  exact congrArg (fun k => S (ix2 k e)) (Fin.ext (by simp only))

end Mixer.Holds

end Cert.Kernel2Ideal.Front

end
-- ==== Proof.Front.AdjointHost.lean ====
/-
The slopes the host saves with a token's columns, the bias, the gradient passed on and the projection's weight in quarters, as
entries of the argument arrays.
-/
module

public import proofs.«01_k».proof.Proof.Front.PoolHost
public import proofs.«01_k».proof.Proof.Front.Adjoint

@[expose] public section

set_option maxRecDepth 16384

noncomputable section
namespace Cert.Kernel2Ideal.Front
open Cert.Kernel2Ideal Cert.Kernel2Ideal.Gen Cert.Front
open Idealize.ShloMosaic Idealize.ShloMosaic.TcCoe Idealize.ShloMosaic.StableHlo Idealize.ShloMosaic.Tactic
variable (m : (ℓ : Loc nD τ sig) → Buf (Elt Ideal) ℓ) (c : Dev nD)

/-- The slope of gelu, as the host makes it, -/
def dGeluArr (u : FVec Ideal S8192x1024 .f32) : FVec Ideal S8192x1024 .f32 :=
  let tail := mulf (lit S8192x1024 0x3F4C422A#32 bcast_S_S8192x1024) (mulf (lit S8192x1024 0x3D372713#32 bcast_S_S8192x1024) (mulf u u))
  let t := Host.tanh (mulf u (addf (lit S8192x1024 0x3F4C422A#32 bcast_S_S8192x1024) tail))
  let half := mulf (lit S8192x1024 0x3F000000#32 bcast_S_S8192x1024) u
  addf (addf (lit S8192x1024 0x3F000000#32 bcast_S_S8192x1024) (mulf (lit S8192x1024 0x3F000000#32 bcast_S_S8192x1024) t))
    (mulf (subf half (mulf (mulf half t) t)) (addf (lit S8192x1024 0x3F4C422A#32 bcast_S_S8192x1024)
      (mulf (lit S8192x1024 0x40400000#32 bcast_S_S8192x1024) tail)))

/-- the reciprocal deviation of a head's rows, -/
def rstdArr (v : FVec Ideal S8192x4x256 .f32) : FVec Ideal S8192x4x1 .f32 :=
  let ctr := subf v (broadcastInDim S8192x4x256 ![0, 1, 2] bcast_S8192x4x1_S8192x4x256_0_1_2 (meanArr v))
  Host.rsqrt (addf (meanArr (mulf ctr ctr)) (lit S8192x4x1 0x3727C5AC#32 bcast_S_S8192x4x1))

/-- and the slope of silu. -/
def dSiluArr (z : FVec Ideal S8192x2048 .f32) : FVec Ideal S8192x2048 .f32 :=
  let one := lit S8192x2048 0x3F800000#32 bcast_S_S8192x2048
  let sig := Host.divf one (addf one (Host.exp (Host.negf z)))
  addf sig (mulf (mulf z sig) (subf one sig))

theorem dGeluArr_at (u : FVec Ideal S8192x1024 .f32) (r : Fin 8192) (j : Fin 1024) : dGeluArr u (ix2 r j) = dGelu (u (ix2 r j)) := by
  unfold dGeluArr lit
  pointwise
  rfl

theorem rstdArr_at (v : FVec Ideal S8192x4x256 .f32) (r : Fin 8192) (g : Fin 4) : rstdArr v (ix3 r g 0) = rstd fun k => v (ix3 r g k) := by
  unfold rstdArr lit
  pointwise [meanArr_at]
  rfl

theorem dSiluArr_at (z : FVec Ideal S8192x2048 .f32) (r : Fin 8192) (j : Fin 2048) : dSiluArr z (ix2 r j) = dSilu (z (ix2 r j)) := by
  unfold dSiluArr lit
  pointwise
  rfl

/-- The saved columns again: the slope of gelu of the gate at 2048, the reciprocal deviation times that of the gating input at
    4096, the slope of silu at 7168. -/
def IsSloped (K : FVec Ideal S8192x9216 .bf16) : Prop := ∃ p0 p1 p2 p3 p4 p6 p8, K
    = truncf .bf16 (concatenate (α := Ideal .f32) S8192x9216 1 [⟨S8192x256, p0⟩, ⟨S8192x256, p1⟩, ⟨S8192x256, p2⟩, ⟨S8192x256, p3⟩,
        ⟨S8192x1024, p4⟩,
        ⟨S8192x1024, dGeluArr (extractStridedSlice S8192x1024 ![0, 1024] (projected m c) slices_S8192x5120_S8192x1024_0_1024)⟩,
        ⟨S8192x1024, p6⟩,
        ⟨S8192x1024, shapeCast S8192x1024 (mulf
          (broadcastInDim S8192x4x256 ![0, 1, 2] bcast_S8192x4x1_S8192x4x256_0_1_2 (rstdArr (shapeCast S8192x4x256 (geluArr
            (extractStridedSlice S8192x1024 ![0, 2048] (projected m c) slices_S8192x5120_S8192x1024_0_2048)) shapeCasts_S8192x1024_S8192x4x256)))
          (shapeCast S8192x4x256 (dGeluArr (extractStridedSlice S8192x1024 ![0, 2048] (projected m c) slices_S8192x5120_S8192x1024_0_2048))
            shapeCasts_S8192x1024_S8192x4x256)) shapeCasts_S8192x4x256_S8192x1024⟩,
        ⟨S8192x2048, p8⟩,
        ⟨S8192x2048, dSiluArr (extractStridedSlice S8192x2048 ![0, 3072] (projected m c) slices_S8192x5120_S8192x2048_0_3072)⟩]
        concatenates_S8192x256_S8192x256_S8192x256_S8192x256_S8192x1024_S8192x1024_S8192x1024_S8192x1024_S8192x2048_S8192x2048_S8192x9216_d1)
      bitsLt_bf16_f32

theorem sloped_eq : IsSloped m c (V0 m c (Proc.devRef .tc main_v174)) := by
  after_reads_simp
  exact ⟨_, _, _, _, _, _, _, rfl⟩

theorem keptSlopeU_at (r : Fin 8192) (j : Fin 1024) :
    V m c main_v174 (ix2 r ⟨2048 + j.val, by omega⟩) = dGelu ((inputs m c).u r j) := by
  have hj := j.isLt
  show V0 m c (Proc.devRef .tc main_v174) (ix2 r ⟨2048 + j.val, by omega⟩) = _
  obtain ⟨p0, p1, p2, p3, p4, p6, p8, e⟩ := sloped_eq m c
  rw [e]
  pointwise [dGeluArr_at]
  rw [dif_neg (by omega), dif_neg (by omega), dif_neg (by omega), dif_neg (by omega), dif_neg (by omega), dif_pos (by omega), projected_at]
  exact congrArg (fun j => dGelu ((inputs m c).proj r j)) (Fin.ext (by simp only; omega))

theorem keptSlopeZ_at (r : Fin 8192) (j : Fin 2048) :
    V m c main_v174 (ix2 r ⟨7168 + j.val, by omega⟩) = dSilu ((inputs m c).proj r ⟨3072 + j.val, by omega⟩) := by
  have hj := j.isLt
  show V0 m c (Proc.devRef .tc main_v174) (ix2 r ⟨7168 + j.val, by omega⟩) = _
  obtain ⟨p0, p1, p2, p3, p4, p6, p8, e⟩ := sloped_eq m c
  rw [e]
  pointwise [dSiluArr_at]
  rw [dif_neg (by omega), dif_neg (by omega), dif_neg (by omega), dif_neg (by omega), dif_neg (by omega), dif_neg (by omega), dif_neg (by omega),
    dif_neg (by omega), dif_neg (by omega), projected_at]
  exact congrArg (fun j => dSilu ((inputs m c).proj r j)) (Fin.ext (by simp only; omega))

theorem keptSlopeV_at (r : Fin 8192) (g : Fin 4) (k : Fin 256) :
    V m c main_v174 (ix2 r ⟨4096 + (col g k).val, by omega⟩)
      = rstd (fun k => geluSplit ((inputs m c).v r (col g k))) * dGelu ((inputs m c).v r (col g k)) := by
  have hg := g.isLt
  have hk := k.isLt
  have hc : (col g k).val = g.val * 256 + k.val := rfl
  show V0 m c (Proc.devRef .tc main_v174) (ix2 r ⟨4096 + (col g k).val, by omega⟩) = _
  obtain ⟨p0, p1, p2, p3, p4, p6, p8, e⟩ := sloped_eq m c
  rw [e]
  pointwise [rstdArr_at, geluArr_at, dGeluArr_at]
  rw [dif_neg (by omega), dif_neg (by omega), dif_neg (by omega), dif_neg (by omega), dif_neg (by omega), dif_neg (by omega), dif_neg (by omega),
    dif_pos (by omega)]
  refine congrArg₂ (· * ·) (congrArg rstd (funext fun k' => ?_)) ?_
  · rw [projected_at]
    refine congrArg (fun j => geluSplit ((inputs m c).proj r j)) (Fin.ext ?_)
    show 2048 + ((4096 + (col g k).val - 256 - 256 - 256 - 256 - 1024 - 1024 - 1024) / 256 * 256 + k'.val) = 2048 + (g.val * 256 + k'.val)
    omega
  · rw [projected_at]
    exact congrArg (fun j => dGelu ((inputs m c).proj r j)) (Fin.ext (by simp only; omega))

theorem bias_at (i : Fin 128) (g : Fin 4) : V m c main_v186 (ix2 i g) = m ((c.tc : Thread nD τ).loc main_arg9) (ix3 0 g i) := by
  show V0 m c (Proc.devRef .tc main_v186) (ix2 i g) = _
  after_reads_simp
  pointwise

theorem passed_at (r : Fin 8192) (k : Fin 1024) : V m c main_v189 (ix2 r k) = m ((c.tc : Thread nD τ).loc main_arg2) (ix3 0 r k) := by
  show V0 m c (Proc.devRef .tc main_v189) (ix2 r k) = _
  after_reads_simp
  pointwise

theorem wIn_at (p : Fin 4) (k : Fin 1024) (j : Fin 1280) :
    V m c main_v178 (ix3 p k j) = (inputs m c).wIn (ix3 0 k ⟨p.val * 1280 + j.val, by omega⟩) := by
  show V0 m c (Proc.devRef .tc main_v178) (ix3 p k j) = _
  after_reads_simp
  pointwise
  refine congrArg (inputs m c).wIn ?_
  rfl

end Cert.Kernel2Ideal.Front

end
-- ==== Proof.Front.AdjointLoads.lean ====
/-
The stores of the front kernel's gradient at the projected row, at each grid point, as `AdjointStep`'s; what they load, as entries
of the argument arrays; and the input gradient's loads.
-/
module

public import proofs.«01_k».proof.Proof.Front.PoolLoads
public import proofs.«01_k».proof.Proof.Front.AdjointStep
public import proofs.«01_k».proof.Proof.Front.AdjointHost

@[expose] public section

set_option maxRecDepth 16384

noncomputable section

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

/-- The sums of a head's window, by doubling. -/
def summed {F : FTy → Type} [FloatOps F] : ℕ → FVec F S272x256 .f32 → FVec F S272x256 .f32
  | 0, x => further 271#32 x
  | n + 1, x => further (BitVec.ofNat 32 (272 - 2 ^ (n + 1))) (summed n x)

section Loads

variable {F : FTy → Type} [FloatOps F] (m : (ℓ : Loc nD τ sig) → Buf (Elt F) ℓ) (c : Dev nD) (t : Fin cfg0.N)

/-- A load of the saved columns: 256 columns from `o`, of the whole tile -/
def tall (o : ℕ) (h : o + 256 ≤ 9216) : Vec F S256x256 .bf16 :=
  View.readAt (Elt F) (stage0 t).view (Rect.unit (s := S256x9216) ![0, o] ![256, 256] (inb2 (by decide) h)).toLoadRect ((whole0 t).unread (iblk m c 0 t))

/-- or of one chunk, from row `r`. -/
def half (r o : ℕ) (hr : r + 128 ≤ 256) (h : o + 256 ≤ 9216) : Vec F S128x256 .bf16 :=
  View.readAt (Elt F) (stage0 t).view (Rect.unit (s := S256x9216) ![r, o] ![128, 256] (inb2 hr h)).toLoadRect ((whole0 t).unread (iblk m c 0 t))

/-- A head's bias. -/
def biasOf (q : ℕ) (hq : q < 4) : Vec F S128x1 .f32 :=
  View.readAt (Elt F) (stage8 t).view (columnRect q hq).toLoadRect ((whole8 t).unread (iblk m c 8 t))

/-- The tile, as a word. -/
def tileWord : BitVec 32 := Scalar.subi 31#32 (Scalar.minsi (BitVec.ofNat 32 (grid0.coords t 0).val) 31#32)

/-- What a gating head stores, the last first, -/
def gateStores (q : ℕ) (hq : q < 4) : List (View.Piece (Elt F) S256x5120 .bf16) :=
  [⟨Rect.unit ![0, 2048 + 256 * q] ![256, 256] (inb2 (by decide) (by omega)), (head m c t q hq).dv (tall m c t (4096 + 256 * q) (by omega))⟩,
   ⟨Rect.unit ![128, 1024 + 256 * q] ![128, 256] (inb2 (by decide) (by omega)), (head m c t q hq).du1 (biasOf m c t q hq) (half m c t 128 (2048 + 256 * q) (by decide) (by omega))⟩,
   ⟨Rect.unit ![128, 4096 + 256 * q] ![128, 256] (inb2 (by decide) (by omega)), (head m c t q hq).dz1 (biasOf m c t q hq) (half m c t 128 (8192 + 256 * q) (by decide) (by omega))⟩,
   ⟨Rect.unit ![0, 1024 + 256 * q] ![128, 256] (inb2 (by decide) (by omega)), (head m c t q hq).du0 (biasOf m c t q hq) (half m c t 0 (2048 + 256 * q) (by decide) (by omega))⟩,
   ⟨Rect.unit ![0, 4096 + 256 * q] ![128, 256] (inb2 (by decide) (by omega)), (head m c t q hq).dz0 (biasOf m c t q hq) (half m c t 0 (8192 + 256 * q) (by decide) (by omega))⟩]

/-- and a head of the mixer, over the rows carried. -/
def mixStores (carry : (q : ℕ) → q < 4 → Vec F S16x256 .f32) (q : ℕ) (hq : q < 4) : List (View.Piece (Elt F) S256x5120 .bf16) :=
  [⟨Rect.unit ![0, 256 * q] ![256, 256] (inb2 (by decide) (by omega)),
      (mixer m c t q hq).dA (summed q ((mixer m c t q hq).below (tileWord t) (BitVec.ofNat 32 (span ⟨q, hq⟩)) (carry q hq)))⟩,
   ⟨Rect.unit ![0, 3072 + 256 * q] ![256, 256] (inb2 (by decide) (by omega)), (mixer m c t q hq).dzp (tall m c t (7168 + 256 * q) (by omega))⟩]

/-- All of the gradient's stores at a point. -/
def adjointStores (carry : (q : ℕ) → q < 4 → Vec F S16x256 .f32) : List (View.Piece (Elt F) S256x5120 .bf16) :=
  gateStores m c t 3 (by decide) ++ (gateStores m c t 2 (by decide) ++ (gateStores m c t 1 (by decide) ++ (gateStores m c t 0 (by decide)
    ++ (mixStores m c t carry 3 (by decide) ++ (mixStores m c t carry 2 (by decide) ++ (mixStores m c t carry 1 (by decide)
      ++ (mixStores m c t carry 0 (by decide) ++ [])))))))

/-- They are read back whole, to be kept for the next point. -/
def readBack (carry : (q : ℕ) → q < 4 → Vec F S16x256 .f32) : FVec F S1x256x5120 .bf16 :=
  shapeCast S1x256x5120 (shapeCast S256x5120 (View.readCov (stage9 t).view (adjointStores m c t (carry))
          (Rect.unit (s := S256x5120) ![0, 0] S256x5120.size inb_S256x5120_S256x5120_0_0).toLoadRect) shapeCasts_S256x5120_S256x5120) shapeCasts_S256x5120_S1x256x5120

/-- Where a head's rows are carried, -/
abbrev carryRect (q : ℕ) (hq : q < 4) : Rect S16x1024 := Rect.unit (s := S16x1024) ![0, 256 * q] ![16, 256] (inb2 (by decide) (by omega))

/-- and what is. -/
def pieceC (q : ℕ) (hq : q < 4) : View.Piece (Elt F) S16x1024 .f32 :=
  ⟨carryRect q hq, (mixer m c t q hq).carried (tileWord t) (BitVec.ofNat 32 (span ⟨q, hq⟩))⟩

section Middle

variable (p : Left F) (h : t.val ≠ 0) (hl : t.val ≠ 32)

/-- The rows the point before carried. -/
def carryIn (q : ℕ) (hq : q < 4) : Vec F S16x256 .f32 :=
  View.readAt (Elt F) carryM.view (carryRect q hq).toLoadRect ((Memref.isWhole_whole _).unread p.carry)

theorem middle_carry : (runMiddle m c t h hl p).2.2.2.2.2.2.2.2.1 = stores (pieceC m c t) := by sl_kernel_rfl

theorem middle_dh : (runMiddle m c t h hl p).1 = adjointStores m c t (carryIn p) := by sl_kernel_rfl

theorem keep_inb : ∀ a, k0_off6 (grid0.coords t) a + S1x256x5120.size a ≤ S2x256x5120.size a := by
  rw [(slot_written t).2]
  have := slot_lt t.val
  exact inb3 (by omega) (by decide) (by decide)

theorem middle_keep : (runMiddle m c t h hl p).2.2.2.2.2.2.2.1
    = [⟨Rect.unit (s := S2x256x5120) (k0_off6 (grid0.coords t)) S1x256x5120.size (keep_inb t), readBack m c t (carryIn p)⟩] := by sl_kernel_rfl

end Middle

/-! ### The first point: the rows carried start at zero -/

def zeroC : View.Piece (Elt F) S16x1024 .f32 := ⟨Rect.unit ![0, 0] S16x1024.size inb_S16x1024_S16x1024_0_0, k0_pay1⟩

/-- The rows carried by the heads below `n`, the last first. -/
def startC : (n : ℕ) → n ≤ 4 → List (View.Piece (Elt F) S16x1024 .f32)
  | 0, _ => []
  | n + 1, h => pieceC m c t n h :: startC n (Nat.le_of_succ_le h)

/-- What a head loads of them. -/
def carryStart (q : ℕ) (hq : q < 4) : Vec F S16x256 .f32 :=
  View.readCov carryM.view (startC m c t q (Nat.le_of_lt hq) ++ [zeroC]) (carryRect q hq).toLoadRect

variable (h : t.val = 0)

theorem first_carry : (runFirst m c t h).2.2.2.2.2.2.2.2.2.1 = startC m c t 4 (Nat.le_refl 4) ++ [zeroC] := by sl_kernel_rfl

theorem first_dh : (runFirst m c t h).1 = adjointStores m c t (carryStart m c t) := by sl_kernel_rfl

theorem keep_inb' : ∀ a, k0_off1 (grid0.coords t) a + S1x256x5120.size a ≤ S2x256x5120.size a := by
  rw [(slot_written t).1]
  have := slot_lt t.val
  exact inb3 (by omega) (by decide) (by decide)

theorem first_keep : (runFirst m c t h).2.2.2.2.2.2.2.2.1
    = [⟨Rect.unit (s := S2x256x5120) (k0_off1 (grid0.coords t)) S1x256x5120.size (keep_inb' t), readBack m c t (carryStart m c t)⟩] := by sl_kernel_rfl
end Loads

variable (m : (ℓ : Loc nD τ sig) → Buf (Elt Ideal) ℓ) (c : Dev nD) (t : Fin cfg0.N)

theorem index_bias : ∀ t : Fin cfg0.N, win0_8.index t = ![0, 0] := by decide +kernel

theorem block_bias (i : Fin 128) (q : Fin 4) : iblk m c 8 t (ix2 i q) = V m c main_v186 (ix2 i q) := by
  unfold iblk; blk_simp
  blk_ext [index_bias t]

theorem biasOf_at (q : Fin 4) (i : Fin 128) :
    biasOf m c t q.val q.isLt (ix2 i 0) = m ((c.tc : Thread nD τ).loc main_arg9) (ix3 0 q i) :=
  (load2 (whole8 t) _ _ i 0 i q (Nat.zero_add _).symm rfl).trans ((block_bias m c t i q).trans (bias_at m c i q))

theorem tall_at (h : t.val < 32) (o : ℕ) (ho : o + 256 ≤ 9216) (r e : Fin 256) (j : Fin 9216) (hj : j.val = o + e.val) :
    tall m c t o ho (ix2 r e) = V m c main_v174 (ix2 (tileRow (tile t) r) j) :=
  (load2 (whole0 t) _ _ r e r j (Nat.zero_add _).symm hj).trans (block_kept m c t h r j)

theorem half_at (h : t.val < 32) (p : Fin 2) (o : ℕ) (hr : p.val * 128 + 128 ≤ 256) (ho : o + 256 ≤ 9216) (i : Fin 128) (e : Fin 256) (j : Fin 9216)
    (hj : j.val = o + e.val) : half m c t (p.val * 128) o hr ho (ix2 i e) = V m c main_v174 (ix2 (row (chunk (tile t) p) i) j) :=
  (load2 (whole0 t) _ _ i e ⟨p.val * 128 + i.val, by omega⟩ j rfl hj).trans
    ((block_kept m c t h _ _).trans (congrArg (fun r => V m c main_v174 (ix2 r j)) (tileRow_chunk (tile t) p i _)))

/-- The loads of the slopes. -/
theorem slopeU_at (h : t.val < 32) (p : Fin 2) (q : Fin 4) (hr) (ho) (i : Fin 128) (e : Fin 256) :
    half m c t (p.val * 128) (2048 + 256 * q.val) hr ho (ix2 i e) = dGelu ((inputs m c).u (row (chunk (tile t) p) i) (col q e)) :=
  (half_at m c t h p _ hr ho i e ⟨2048 + (col q e).val, by omega⟩ (by show 2048 + (q.val * 256 + e.val) = _; omega)).trans (keptSlopeU_at m c _ _)

theorem slopeZ_at (h : t.val < 32) (p : Fin 2) (q : Fin 4) (hr) (ho) (i : Fin 128) (e : Fin 256) :
    half m c t (p.val * 128) (8192 + 256 * q.val) hr ho (ix2 i e) = dSilu ((inputs m c).z (row (chunk (tile t) p) i) (col q e)) :=
  (half_at m c t h p _ hr ho i e ⟨7168 + (⟨1024 + (col q e).val, by omega⟩ : Fin 2048).val, by show 7168 + (1024 + (col q e).val) < 9216; omega⟩
    (by show 7168 + (1024 + (q.val * 256 + e.val)) = _; omega)).trans ((keptSlopeZ_at m c _ _).trans
      (congrArg (fun j => dSilu ((inputs m c).proj (row (chunk (tile t) p) i) j)) (Fin.ext (by show 3072 + (1024 + (col q e).val) = 4096 + (col q e).val; omega))))

theorem slopeV_at (h : t.val < 32) (hv : ∀ r j, geluSplit ((inputs m c).v r j) = gelu ((inputs m c).v r j)) (q : Fin 4) (ho) (r e : Fin 256) :
    tall m c t (4096 + 256 * q.val) ho (ix2 r e) = rstd (fun k => gelu ((inputs m c).v (tileRow (tile t) r) (col q k))) * dGelu ((inputs m c).v (tileRow (tile t) r) (col q e)) :=
  (tall_at m c t h _ ho r e ⟨4096 + (col q e).val, by omega⟩ (by show 4096 + (q.val * 256 + e.val) = _; omega)).trans
    ((keptSlopeV_at m c _ _ _).trans (congrArg (fun f => rstd f * _) (funext fun k => hv _ _)))

theorem slopeP_at (h : t.val < 32) (q : Fin 4) (ho) (r e : Fin 256) :
    tall m c t (7168 + 256 * q.val) ho (ix2 r e) = dSilu ((inputs m c).zp (tileRow (tile t) r) (col q e)) :=
  (tall_at m c t h _ ho r e ⟨7168 + (⟨(col q e).val, by omega⟩ : Fin 2048).val, by show 7168 + (col q e).val < 9216; omega⟩
    (by show 7168 + (q.val * 256 + e.val) = _; omega)).trans (keptSlopeZ_at m c _ _)

/-- The tile's word, times the rows in a tile. -/
theorem tileWord_at : ∀ t : Fin cfg0.N, t.val < 32 → Scalar.muli (tileWord t) 256#32 = BitVec.ofNat 32 ((31 - t.val) * 256) := by decide +kernel

theorem summed_at (x : FVec Ideal S272x256 .f32) (f : ℕ → EReal) (e : Fin 256)
    (hx : ∀ (i : ℕ) (hi : i < 272), x (ix2 ⟨i, hi⟩ e) = ∑ j ∈ Finset.range 1, f (i + j)) :
    ∀ (n : ℕ), n < 4 → ∀ (i : ℕ) (hi : i < 272), i + 2 ^ (n + 1) ≤ 272 → summed n x (ix2 ⟨i, hi⟩ e) = ∑ j ∈ Finset.range (2 ^ (n + 1)), f (i + j)
  | 0, _ => fun i hi h => further_at x f 1 e 271#32 rfl Nat.one_pos (fun i hi _ => hx i hi) i hi h
  | n + 1, hn => fun i hi h => by
      have hp : 2 ^ (n + 1) ≤ 8 := Nat.pow_le_pow_right (by decide) (show n + 1 ≤ 3 by omega)
      have e2 : 2 ^ (n + 1 + 1) = 2 ^ (n + 1) + 2 ^ (n + 1) := by rw [Nat.pow_succ, Nat.mul_two]
      rw [e2] at h ⊢
      exact further_at (summed n x) f (2 ^ (n + 1)) e _
        (by rw [BitVec.toNat_ofNat]; exact Nat.mod_eq_of_lt (lt_of_le_of_lt (Nat.sub_le _ _) (by decide)))
        (Nat.pow_pos (by decide)) (fun i hi h' => summed_at x f e hx n (by omega) i hi h') i hi h

/-! ### The input gradient -/

/-- The tile whose input gradient a point writes: the one the point before handled. -/
def tileBefore : Fin 32 := ⟨min (32 - t.val) 31, by omega⟩

theorem index_dx : ∀ t : Fin cfg0.N, t.val ≠ 0 → win0_2.index t = ![min (32 - t.val) 31, 0] ∧ win0_10.index t = ![min (32 - t.val) 31, 0] := by decide +kernel

theorem block_passed (h : t.val ≠ 0) (r : Fin 256) (k : Fin 1024) :
    iblk m c 2 t (ix2 r k) = V m c main_v189 (ix2 (tileRow (tileBefore t) r) k) := by
  unfold iblk; blk_simp
  blk_ext [tileRow, tileBefore, (index_dx t h).1]

theorem load_passed (X : Vec Ideal S256x1024 .f32) (r e : Fin 256) (k : Fin 1024) : ∀ i : Fin 4, k.val = i.val * 256 + e.val → passed t X i (ix2 r e) = X (ix2 r k)
  | 0, hk => load2 (whole2 t) X _ r e r k (Nat.zero_add _).symm (by simpa using hk)
  | 1, hk => load2 (whole2 t) X _ r e r k (Nat.zero_add _).symm (by simpa using hk)
  | 2, hk => load2 (whole2 t) X _ r e r k (Nat.zero_add _).symm (by simpa using hk)
  | 3, hk => load2 (whole2 t) X _ r e r k (Nat.zero_add _).symm (by simpa using hk)

theorem weights_eq (Y : Vec Ideal S4x1024x1280 .bf16) (i p : Fin 4) : weights Y i p
    = View.readAt (Elt Ideal) weightM.view (Rect.unit (s := S4x1024x1280) ![p.val, 256 * i.val, 0] ![1, 256, 1280] (inb3 (by omega) (by omega) (by decide))).toLoadRect
      ((Memref.isWhole_whole _).unread Y) := by
  fin_cases i <;> fin_cases p <;> rfl

theorem load_weights (Y : Vec Ideal S4x1024x1280 .bf16) (e : Fin 256) (k : Fin 1024) (j : Fin 1280) (i p : Fin 4) (hk : k.val = i.val * 256 + e.val) :
    weights Y i p (ix3 0 e j) = Y (ix3 p k j) :=
  (congrFun (weights_eq Y i p) _).trans (load3 (Memref.isWhole_whole _) Y _ 0 e j p k j rfl (by omega) (Nat.zero_add _).symm)

theorem load_slot (K : Vec Ideal S2x256x5120 .bf16) (r : Fin 256) (j : Fin 1280) : ∀ p : Fin 4,
    kept t K p (ix3 0 r j) = slotOf (t.val + 1) K (ix2 r ⟨p.val * 1280 + j.val, by omega⟩) := by
  obtain ⟨e2, e3, e4, e5⟩ := slot_read t
  intro p
  fin_cases p
  · exact (load_kept K _ 0 (slot_lt _) (by decide) _ e2 _ _).trans (congrArg (fun y => K (ix3 _ r y)) (Fin.ext (by simp)))
  · exact (load_kept K _ 1280 (slot_lt _) (by decide) _ e3 _ _).trans (congrArg (fun y => K (ix3 _ r y)) (Fin.ext (by simp)))
  · exact (load_kept K _ 2560 (slot_lt _) (by decide) _ e4 _ _).trans (congrArg (fun y => K (ix3 _ r y)) (Fin.ext (by simp)))
  · exact (load_kept K _ 3840 (slot_lt _) (by decide) _ e5 _ _).trans (congrArg (fun y => K (ix3 _ r y)) (Fin.ext (by simp)))

theorem columns_at (b : Vec Ideal S256x256 .f32) (d w : Fin 4 → Vec Ideal S1x256x1280 .bf16) (r e : Fin 256) :
    columns b d w (ix2 r e) = b (ix2 r e) + ∑ p : Fin 4, ∑ j : Fin 1280, d p (ix3 0 r j) * w p (ix3 0 e j) := by
  unfold columns share
  rw [Fin.sum_univ_four]
  pointwise
  rw [add_assoc, add_assoc, add_assoc]
  simp only [add_assoc]

end Cert.Kernel2Ideal.Front

end
-- ==== Proof.Front.AdjointTotal.lean ====
/-
What each grid point of the front kernel leaves of the gradient at the projected row, of the rows it carries and of the input
gradient, and the two arrays.
-/
module

public import proofs.«01_k».proof.Proof.Front.Arrays
public import proofs.«01_k».proof.Proof.Front.AdjointLoads

@[expose] public section

set_option maxRecDepth 16384

noncomputable section

namespace Cert.Kernel2Ideal.Front

open Cert.Front Cert.Blocks Cert.Kernel2Ideal Cert.Kernel2Ideal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (c : Dev nD)

/-- The gating unit's bias, -/
def biasIn : S1x4x128.Idx → EReal := m ((c.tc : Thread nD τ).loc main_arg9)

/-- and the part of the input gradient that the kernel is passed. -/
def passedIn : S1x8192x1024.Idx → EReal := m ((c.tc : Thread nD τ).loc main_arg2)

/-- A tile's rows of the gradient, -/
def tileH (T : Fin 32) : S256x5120.Idx → EReal := fun y => (inputs m c).dH (biasIn m c) (tileRow T (y 0)) (y 1)

/-- of the input gradient, -/
def tileX (T : Fin 32) : S256x1024.Idx → EReal := fun y => (inputs m c).dX (biasIn m c) (passedIn m c) (tileRow T (y 0)) (y 1)

/-- and the first ones of what the mixer hands on. -/
def handed (T : Fin 32) : S16x1024.Idx → EReal := fun y =>
  (inputs m c).each ⟨(y 1).val / 256, have h : (y 1).val < 1024 := (y 1).isLt; by omega⟩ ⟨(y 1).val % 256, by omega⟩ (tileRow T ⟨(y 0).val, have h : (y 0).val < 16 := (y 0).isLt; by omega⟩)

theorem handed_at (T : Fin 32) (q : Fin 4) (i : Fin 16) (e : Fin 256) (j : Fin 1024) (hj : j.val = 256 * q.val + e.val) :
    handed m c T (ix2 i j) = (inputs m c).each q e (tileRow T ⟨i.val, by omega⟩) := by
  have e1 (h') : (⟨j.val / 256, h'⟩ : Fin 4) = q := Fin.ext (by show j.val / 256 = q.val; omega)
  have e2 (h') : (⟨j.val % 256, h'⟩ : Fin 256) = e := Fin.ext (by show j.val % 256 = e.val; omega)
  unfold handed
  exact (congrArg (fun g => (inputs m c).each g _ _) (e1 _)).trans (congrArg (fun k => (inputs m c).each q k _) (e2 _))

section Point

variable (t : Fin cfg0.N) (ht : t.val < 32) {m c} (hg : Agrees m c)

include hg ht in
theorem gate_pieces (q : ℕ) (hq : q < 4) {L : List (View.Piece (Elt Ideal) S256x5120 .bf16)} (hL : View.PiecesOf (tileH m c (tile t)) L) :
    View.PiecesOf (tileH m c (tile t)) (gateStores m c t q hq ++ L) := by
  have H := head_holds m c t ht hg.1 hg.2 ⟨q, hq⟩
  have hb := biasOf_at m c t ⟨q, hq⟩
  have upperRow (i : Fin 128) (a : Fin 256) (h : a.val = 0 + i.val) : tileRow (tile t) a = row (chunk (tile t) 0) i :=
    (congrArg (tileRow (tile t)) (Fin.ext (by show a.val = 0 * 128 + i.val; omega) : a = ⟨(0 : Fin 2).val * 128 + i.val, by show 0 * 128 + i.val < 256; omega⟩)).trans
      (tileRow_chunk _ _ _ _)
  have lowerRow (i : Fin 128) (a : Fin 256) (h : a.val = 128 + i.val) : tileRow (tile t) a = row (chunk (tile t) 1) i :=
    (congrArg (tileRow (tile t)) (Fin.ext (by show a.val = 1 * 128 + i.val; omega) : a = ⟨(1 : Fin 2).val * 128 + i.val, by show 1 * 128 + i.val < 256; omega⟩)).trans
      (tileRow_chunk _ _ _ _)
  refine cons2 (fun a b a' b' h0 h1 => ?_) (cons2 (fun a b a' b' h0 h1 => ?_) (cons2 (fun a b a' b' h0 h1 => ?_)
    (cons2 (fun a b a' b' h0 h1 => ?_) (cons2 (fun a b a' b' h0 h1 => ?_) hL))))
  · show _ = (inputs m c).dH (biasIn m c) (tileRow (tile t) a') b'
    rw [show a' = a from Fin.ext (by omega)]
    exact (H.dv_at _ (slopeV_at m c t ht hg.2 ⟨q, hq⟩ _) a b).trans
      ((inputs m c).dH_at (biasIn m c) 2 _ ⟨q, hq⟩ b b' (by show b'.val = 1024 * 2 + (q * 256 + b.val); omega)).symm
  · show _ = (inputs m c).dH (biasIn m c) (tileRow (tile t) a') b'
    rw [lowerRow a a' h0]
    exact (H.du1_at hb _ (slopeU_at m c t ht 1 ⟨q, hq⟩ _ _) a b).trans
      ((inputs m c).dH_at (biasIn m c) 1 _ ⟨q, hq⟩ b b' (by show b'.val = 1024 * 1 + (q * 256 + b.val); omega)).symm
  · show _ = (inputs m c).dH (biasIn m c) (tileRow (tile t) a') b'
    rw [lowerRow a a' h0]
    exact (H.dz1_at hb _ (slopeZ_at m c t ht 1 ⟨q, hq⟩ _ _) a b).trans
      ((inputs m c).dH_at (biasIn m c) 4 _ ⟨q, hq⟩ b b' (by show b'.val = 1024 * 4 + (q * 256 + b.val); omega)).symm
  · show _ = (inputs m c).dH (biasIn m c) (tileRow (tile t) a') b'
    rw [upperRow a a' h0]
    exact (H.du0_at hb _ (slopeU_at m c t ht 0 ⟨q, hq⟩ _ _) a b).trans
      ((inputs m c).dH_at (biasIn m c) 1 _ ⟨q, hq⟩ b b' (by show b'.val = 1024 * 1 + (q * 256 + b.val); omega)).symm
  · show _ = (inputs m c).dH (biasIn m c) (tileRow (tile t) a') b'
    rw [upperRow a a' h0]
    exact (H.dz0_at hb _ (slopeZ_at m c t ht 0 ⟨q, hq⟩ _ _) a b).trans
      ((inputs m c).dH_at (biasIn m c) 4 _ ⟨q, hq⟩ b b' (by show b'.val = 1024 * 4 + (q * 256 + b.val); omega)).symm

/-- What the heads load of the rows carried is what the next tile hands on. -/
def Received (m : (ℓ : Loc nD τ sig) → Buf (Elt Ideal) ℓ) (c : Dev nD) (t : Fin cfg0.N) (carry : (q : ℕ) → q < 4 → Vec Ideal S16x256 .f32) : Prop :=
  ∀ (q : ℕ) (hq : q < 4) (i : Fin 16) (e : Fin 256), carry q hq (ix2 i e) = onward ((inputs m c).each ⟨q, hq⟩ e) (((tile t).val + 1) * 256 + i.val)

variable {carry : (q : ℕ) → q < 4 → Vec Ideal S16x256 .f32} (hc : Received m c t carry)

include ht hc in
theorem mix_pieces (q : ℕ) (hq : q < 4) {L : List (View.Piece (Elt Ideal) S256x5120 .bf16)} (hL : View.PiecesOf (tileH m c (tile t)) L) :
    View.PiecesOf (tileH m c (tile t)) (mixStores m c t carry q hq ++ L) := by
  have H := mixer_holds m c t ht ⟨q, hq⟩
  refine cons2 (fun a b a' b' h0 h1 => ?_) (cons2 (fun a b a' b' h0 h1 => ?_) hL)
  · show _ = (inputs m c).dH (biasIn m c) (tileRow (tile t) a') b'
    rw [show a' = a from Fin.ext (by omega)]
    refine Eq.trans ?_ ((inputs m c).dH_at (biasIn m c) 0 _ ⟨q, hq⟩ b b' (by show b'.val = 1024 * 0 + (q * 256 + b.val); omega)).symm
    exact H.dA_at _ b (summed_at _ (fun n => onward ((inputs m c).each ⟨q, hq⟩ b) ((tile t).val * 256 + n)) b
      (fun i hi => H.below_sum (tileWord_at t ht) (hc q hq) i hi b) q hq) a
  · show _ = (inputs m c).dH (biasIn m c) (tileRow (tile t) a') b'
    rw [show a' = a from Fin.ext (by omega)]
    exact (H.dzp_at _ (slopeP_at m c t ht ⟨q, hq⟩ _) a b).trans
      ((inputs m c).dH_at (biasIn m c) 3 _ ⟨q, hq⟩ b b' (by show b'.val = 1024 * 3 + (q * 256 + b.val); omega)).symm

include hg ht hc in
theorem adjoint_pieces : View.PiecesOf (tileH m c (tile t)) (adjointStores m c t carry) :=
  gate_pieces t ht hg 3 _ (gate_pieces t ht hg 2 _ (gate_pieces t ht hg 1 _ (gate_pieces t ht hg 0 _
    (mix_pieces t ht hc 3 _ (mix_pieces t ht hc 2 _ (mix_pieces t ht hc 1 _ (mix_pieces t ht hc 0 _ trivial)))))))

theorem adjoint_cover : ∀ y, ∃ p ∈ adjointStores m c t carry, y ∈ p.1.set :=
  View.cover_of_tiledBy (adjointStores m c t carry) ![128, 256] (by sl_kernel_rfl)

include hg ht hc in
/-- So a point's stores leave the gradient at its tile, -/
theorem adjoint_canon : View.canon (adjointStores m c t carry) = tileH m c (tile t) :=
  (congrArg View.canon (List.append_nil _).symm).trans (canon_eq _ _ [] (adjoint_pieces t ht hg hc) (adjoint_cover t))

include hg ht hc in
theorem readBack_at (r : Fin 256) (j : Fin 5120) : readBack m c t carry (ix3 0 r j) = tileH m c (tile t) (ix2 r j) := by
  unfold readBack
  pointwise
  rw [View.readCov_eq_canon', adjoint_canon t ht hg hc]
  exact congrArg (tileH m c (tile t)) (emb2 inb_S256x5120_S256x5120_0_0 r j r j (Nat.zero_add _).symm (Nat.zero_add _).symm)

/-- The slot a point wrote holds the adjoint it kept. -/
theorem slot_canon_at (n : ℕ) (inb : ∀ a, (![n % 2, 0, 0] : Fin 3 → ℕ) a + S1x256x5120.size a ≤ S2x256x5120.size a) (w : FVec Ideal S1x256x5120 .bf16)
    (D : S256x5120.Idx → EReal) (hw : ∀ r j, w (ix3 0 r j) = D (ix2 r j)) (r : Fin 256) (j : Fin 5120) :
    View.canon [(⟨Rect.unit (s := S2x256x5120) ![n % 2, 0, 0] S1x256x5120.size inb, w⟩ : View.Piece (Elt Ideal) S2x256x5120 .bf16)] (ix3 ⟨n % 2, slot_lt n⟩ r j)
      = D (ix2 r j) := by
  have hp : View.PiecesOf (Val := Elt Ideal) (e := .bf16) (inBoth (F := Ideal) D) [⟨Rect.unit (s := S2x256x5120) ![n % 2, 0, 0] S1x256x5120.size inb, w⟩] :=
    cons3 (fun a b d a' b' d' _ h1 h2 => by
      rw [Fin.fin_one_eq_zero a, hw]
      show D (ix2 b d) = D (ix2 b' d')
      rw [show b' = b from Fin.ext (by omega), show d' = d from Fin.ext (by omega)]) trivial
  have hm : (ix3 ⟨n % 2, slot_lt n⟩ r j : S2x256x5120.Idx) ∈ (Rect.unit (s := S2x256x5120) ![n % 2, 0, 0] S1x256x5120.size inb).set :=
    Rect.mem_set_unit.mpr fun a => match a with
      | ⟨0, _⟩ => ⟨le_refl (n % 2), Nat.lt_succ_self (n % 2)⟩
      | ⟨1, _⟩ => ⟨Nat.zero_le r.val, lt_of_lt_of_eq r.isLt (Nat.zero_add 256).symm⟩
      | ⟨2, _⟩ => ⟨Nat.zero_le j.val, lt_of_lt_of_eq j.isLt (Nat.zero_add 5120).symm⟩
  exact View.canon_append_of_piecesOf (Val := Elt Ideal) (e := .bf16) (inBoth (F := Ideal) D) [] _ hp (ix3 ⟨n % 2, slot_lt n⟩ r j)
    ⟨_, List.mem_singleton_self _, hm⟩

theorem slot_canon {off : Fin 3 → ℕ} (n : ℕ) (e : off = ![n % 2, 0, 0]) (inb : ∀ a, off a + S1x256x5120.size a ≤ S2x256x5120.size a) (w : FVec Ideal S1x256x5120 .bf16)
    (D : S256x5120.Idx → EReal) (hw : ∀ r j, w (ix3 0 r j) = D (ix2 r j)) :
    slotOf n (View.canon [(⟨Rect.unit (s := S2x256x5120) off S1x256x5120.size inb, w⟩ : View.Piece (Elt Ideal) S2x256x5120 .bf16)]) = D := by
  subst e
  refine funext fun y => ?_
  have H := slot_canon_at n inb w D hw (y 0) (y 1)
  unfold slotOf
  exact H.trans (by rw [← eq_ix2 y])

/-! ### The rows carried -/

include ht in
theorem piece_c (q : ℕ) (hq : q < 4) {L} (hL : View.PiecesOf (handed m c (tile t)) L) :
    View.PiecesOf (Val := Elt Ideal) (e := .f32) (handed m c (tile t)) (pieceC m c t q hq :: L) :=
  cons2 (fun a b a' b' h0 h1 => by
    rw [show a' = a from Fin.ext (by omega), handed_at m c (tile t) ⟨q, hq⟩ a b b' h1]
    exact (mixer_holds m c t ht ⟨q, hq⟩).carried_at (tileWord_at t ht) a b) hL

/-- What a point up to the last tile's leaves of the three: the gradient, the same kept, and the rows handed on. -/
structure Left.Adjoint (p : Left Ideal) (m : (ℓ : Loc nD τ sig) → Buf (Elt Ideal) ℓ) (c : Dev nD) (T : Fin 32) : Prop where
  dh : p.dh = tileH m c T
  keep : p.keep = tileH m c T
  carry : p.carry = handed m c T
  weight : p.weight = V m c main_v178

/-! ### A point between -/

theorem received_middle (h : t.val ≠ 0) (ht : t.val < 32) (p : Left Ideal) (T : Fin 32) (hT : T.val = (tile t).val + 1) (hp : p.carry = handed m c T) :
    Received m c t (carryIn p) := fun q hq i e =>
  (load2 (Memref.isWhole_whole _) _ _ i e i ⟨256 * q + e.val, by omega⟩ (Nat.zero_add _).symm rfl).trans ((congrFun hp _).trans
    ((handed_at m c T ⟨q, hq⟩ i e _ rfl).trans ((onward_val _ _).symm.trans
      (congrArg (onward _) (by show T.val * 256 + i.val = _; rw [hT])))))

theorem leftMiddle_dh (h : t.val ≠ 0) (hl : t.val ≠ 32) (p : Left Ideal) (K) : (leftMiddle m c t h hl p K).dh = View.canon (runMiddle m c t h hl p).1 := by sl_kernel_rfl

theorem leftMiddle_keep (h : t.val ≠ 0) (hl : t.val ≠ 32) (p : Left Ideal) (K) :
    (leftMiddle m c t h hl p K).keep = slotOf t.val (View.canon (runMiddle m c t h hl p).2.2.2.2.2.2.2.1) := by sl_kernel_rfl

theorem leftMiddle_carry (h : t.val ≠ 0) (hl : t.val ≠ 32) (p : Left Ideal) (K) :
    (leftMiddle m c t h hl p K).carry = View.canon (runMiddle m c t h hl p).2.2.2.2.2.2.2.2.1 := by sl_kernel_rfl

include hg in
theorem adjoint_middle (h : t.val ≠ 0) (hl : t.val ≠ 32) (ht : t.val < 32) (p : Left Ideal) (T : Fin 32) (hT : T.val = (tile t).val + 1)
    (hp : p.Adjoint m c T) (K) : (leftMiddle m c t h hl p K).Adjoint m c (tile t) where
  dh := (leftMiddle_dh t h hl p K).trans ((congrArg View.canon (middle_dh m c t p h hl)).trans (adjoint_canon t ht hg (received_middle t h ht p T hT hp.carry)))
  keep := (leftMiddle_keep t h hl p K).trans ((congrArg (fun L => slotOf t.val (View.canon L)) (middle_keep m c t p h hl)).trans
    (slot_canon t.val (slot_written t).2 _ _ _ (readBack_at t ht hg (received_middle t h ht p T hT hp.carry))))
  carry := (leftMiddle_carry t h hl p K).trans ((congrArg View.canon (middle_carry m c t p h hl)).trans
    (canon_eq _ (stores (pieceC m c t)) [] (piece_c t ht 3 _ (piece_c t ht 2 _ (piece_c t ht 1 _ (piece_c t ht 0 _ trivial))))
      (View.cover_of_tiledL (stores (pieceC m c t)) ![16, 256] (by sl_kernel_rfl))))
  weight := hp.weight

/-! ### The first point -/

theorem zero1 (x) : k0_pay1 (F := Ideal) x = 0 := by unfold k0_pay1; pointwise

theorem apart_c (n : ℕ) (h : n < 4) : (startC m c t n (Nat.le_of_lt h)).all (fun p => LoadRect.disj p.1 (carryRect n h).toLoadRect) = true :=
  match n, h with
  | 0, _ => by sl_kernel_rfl
  | 1, _ => by sl_kernel_rfl
  | 2, _ => by sl_kernel_rfl
  | 3, _ => by sl_kernel_rfl

theorem received_first (h : t.val = 0) : Received m c t (carryStart m c t) := fun q hq i e =>
  ((congrFun (cov_skip carryM.view [zeroC] (carryRect q hq).toLoadRect _ (apart_c t q hq)) _).trans
    (fill_at (Val := Elt Ideal) (s := S16x1024) (e := .f32) carryM.view inb_S16x1024_S16x1024_0_0 (k0_pay1 (F := Ideal)) 0 zero1 (carryRect q hq) (by decide) _)).trans
    (dif_neg (by show ¬ ((31 - t.val + 1) * 256 + i.val < 8192); omega) : onward _ _ = 0).symm

include ht in
theorem start_c : ∀ (n : ℕ) (h : n ≤ 4), View.PiecesOf (handed m c (tile t)) (startC m c t n h)
  | 0, _ => trivial
  | n + 1, h => piece_c t ht n h (start_c n (Nat.le_of_succ_le h))

theorem first_weight (h : t.val = 0) : (runFirst m c t h).2.2.2.2.2.2.2.1
    = [⟨Rect.whole S4x1024x1280, V m c main_v178⟩] := by sl_kernel_rfl

theorem leftFirst_dh (h : t.val = 0) : (leftFirst m c t h).dh = View.canon (runFirst m c t h).1 := by sl_kernel_rfl

theorem leftFirst_keep (h : t.val = 0) : (leftFirst m c t h).keep = slotOf t.val (View.canon (runFirst m c t h).2.2.2.2.2.2.2.2.1) := by sl_kernel_rfl

theorem leftFirst_carry (h : t.val = 0) : (leftFirst m c t h).carry = View.canon (runFirst m c t h).2.2.2.2.2.2.2.2.2.1 := by sl_kernel_rfl

theorem leftFirst_weight (h : t.val = 0) : (leftFirst m c t h).weight = View.canon (runFirst m c t h).2.2.2.2.2.2.2.1 := by sl_kernel_rfl

include hg in
theorem adjoint_first (h : t.val = 0) (ht : t.val < 32) : (leftFirst m c t h).Adjoint m c (tile t) where
  dh := (leftFirst_dh t h).trans ((congrArg View.canon (first_dh m c t h)).trans (adjoint_canon t ht hg (received_first t h)))
  keep := (leftFirst_keep t h).trans ((congrArg (fun L => slotOf t.val (View.canon L)) (first_keep m c t h)).trans
    (slot_canon t.val (slot_written t).1 _ _ _ (readBack_at t ht hg (received_first t h))))
  carry := (leftFirst_carry t h).trans ((congrArg View.canon (first_carry m c t h)).trans
    (canon_eq _ _ _ (start_c t ht 4 _) (View.cover_of_tiledL (startC m c t 4 (Nat.le_refl 4)) ![16, 256] (by sl_kernel_rfl))))
  weight := (leftFirst_weight t h).trans ((congrArg View.canon (first_weight t h)).trans
    (View.canon_unit_zero (S := S4x1024x1280) (off := fun _ => 0) rfl (fun a => by simp) (V m c main_v178)))

end Point

section Real

variable {m c} (hg : Agrees m c)

/-! ### Every point -/

include hg in
theorem adjoint_at : ∀ (n : ℕ) (hn : n < cfg0.N), n < 32 → (leftAt m c n hn).Adjoint m c (tile ⟨n, hn⟩)
  | 0, hn, h => (leftAt_first m c ⟨0, hn⟩ rfl).symm ▸ adjoint_first ⟨0, hn⟩ hg rfl h
  | n + 1, hn, h => (leftAt_middle m c ⟨n + 1, hn⟩ (Nat.succ_ne_zero n) (Nat.ne_of_lt h)).symm ▸
      adjoint_middle ⟨n + 1, hn⟩ hg (Nat.succ_ne_zero n) (Nat.ne_of_lt h) h _ (tile ⟨n, Nat.lt_of_succ_lt hn⟩)
        (by show 31 - n = 31 - (n + 1) + 1; omega) (adjoint_at n (Nat.lt_of_succ_lt hn) (Nat.lt_of_succ_lt h)) _

/-! ### The input gradient -/

theorem columns_pieces (t : Fin cfg0.N) (h : t.val ≠ 0) (p : Left Ideal) (hp : p.Adjoint m c (tileBefore t)) (i : Fin 4) (o : ℕ) (ho : o = i.val * 256)
    (inb : ∀ a, (![0, o] : Fin 2 → ℕ) a + (![256, 256] : Fin 2 → ℕ) a ≤ S256x1024.size a) {L}
    (hL : View.PiecesOf (tileX m c (tileBefore t)) L) :
    View.PiecesOf (Val := Elt Ideal) (e := .f32) (tileX m c (tileBefore t)) (⟨Rect.unit (s := S256x1024) ![0, o] ![256, 256] inb,
      columns (passed t (iblk m c 2 t) i) (kept t (inBoth p.keep)) (weights p.weight i)⟩ :: L) :=
  cons2 (fun a b a' b' h0 h1 => by
    show _ = (inputs m c).dX (biasIn m c) (passedIn m c) (tileRow (tileBefore t) a') b'
    rw [show a' = a from Fin.ext (by omega), columns_at]
    unfold Inputs.dX
    refine congrArg₂ (· + ·) ?_ ?_
    · exact (load_passed t _ a b b' i (by omega)).trans ((block_passed m c t h a b').trans (passed_at m c _ _))
    · refine Eq.trans ?_ (Fin.sum_univ_tiles 4 1280 rfl (fun j : Fin 5120 => (inputs m c).dH (biasIn m c) (tileRow (tileBefore t) a) j * (inputs m c).wIn (ix3 0 b' j))).symm
      refine Finset.sum_congr rfl fun q _ => Finset.sum_congr rfl fun j _ => ?_
      refine congrArg₂ (· * ·) ?_ ?_
      · exact (load_slot t _ a j q).trans (congrFun hp.keep _)
      · exact (load_weights p.weight b b' j i q (by omega)).trans ((congrFun hp.weight _).trans (wIn_at m c q b' j))) hL

theorem dx_canon (t : Fin cfg0.N) (h : t.val ≠ 0) (p : Left Ideal) (hp : p.Adjoint m c (tileBefore t)) :
    View.canon (columnStores (passed t (iblk m c 2 t)) (kept t (inBoth p.keep)) (weights p.weight)) = tileX m c (tileBefore t) :=
  (congrArg View.canon (List.append_nil _).symm).trans (canon_eq _ _ []
    (columns_pieces t h p hp 3 768 rfl _ (columns_pieces t h p hp 2 512 rfl _ (columns_pieces t h p hp 1 256 rfl _ (columns_pieces t h p hp 0 0 rfl _ trivial))))
    (View.cover_of_tiledL (columnStores (passed t (iblk m c 2 t)) (kept t (inBoth p.keep)) (weights p.weight)) ![256, 256] (by sl_kernel_rfl)))

include hg in
theorem before_adjoint (t : Fin cfg0.N) (h : t.val ≠ 0) : (before m c t).Adjoint m c (tileBefore t) := by
  have hN : t.val < 33 := t.isLt
  have e : tileBefore t = tile ⟨t.val - 1, Nat.lt_of_le_of_lt (Nat.sub_le _ _) t.isLt⟩ := Fin.ext (by show min (32 - t.val) 31 = 31 - (t.val - 1); omega)
  rw [e]
  exact adjoint_at hg _ _ (by omega)

theorem leftMiddle_dx (t : Fin cfg0.N) (h : t.val ≠ 0) (hl : t.val ≠ 32) (p : Left Ideal) (K) :
    (leftMiddle m c t h hl p K).dx = View.canon ((runMiddle m c t h hl p).2.2.2.2.2.2.2.2.2 K).1 := by sl_kernel_rfl

theorem leftLast_dx (t : Fin cfg0.N) (h : t.val = 32) (p : Left Ideal) (K) : (leftLast m c t h p K).dx = View.canon (runLast m c t h p K).1 := by sl_kernel_rfl

include hg in
theorem dx_at (t : Fin cfg0.N) (h : t.val ≠ 0) : (leftAt m c t.val t.isLt).dx = tileX m c (tileBefore t) := by
  have H := dx_canon t h (before m c t) (before_adjoint hg t h)
  by_cases hl : t.val = 32
  · rw [leftAt_last m c t hl]
    exact (leftLast_dx t hl _ _).trans ((congrArg View.canon (runLast_dx m c t hl (before m c t) _)).trans H)
  · rw [leftAt_middle m c t h hl]
    exact (leftMiddle_dx t h hl _ _).trans ((congrArg View.canon (runMiddle_dx m c t h hl (before m c t) _)).trans H)

/-! ### The arrays -/

theorem index_dh : ∀ t : Fin cfg0.N, win0_9.index t = ![31 - t.val, 0] := by decide +kernel

theorem dh_at (hg : Agrees m c) (t : Fin cfg0.N) : (dats m 0 c).after 9 t = tileH m c (tile t) := by
  have hN : t.val < 33 := t.isLt
  by_cases h : t.val = 32
  · rw [carries_9 m c t h, (before_adjoint hg t (by omega)).dh]
    exact congrArg (tileH m c) (Fin.ext (by show min (32 - t.val) 31 = 31 - t.val; omega))
  · rw [after_9]
    exact (adjoint_at hg t.val t.isLt (by omega)).dh

include hg in
theorem array_dh : (dats m 0 c).arrAt 9 cfg0.N = fun y : S8192x5120.Idx => (inputs m c).dH (biasIn m c) (y 0) (y 1) := by
  refine (dats m 0 c).arrAt_eq_of_covers 9 _ (by decide +kernel) fun t hf y => ?_
  blk_simp
  rw [dh_at hg t]
  have e : (((cfg0.win 9).blk t).view.emb y : S8192x5120.Idx) = ix2 (tileRow (tile t) (y 0)) (y 1) := funext fun a => match a with
    | ⟨0, _⟩ => Fin.ext (by blk_simp [index_dh t]; rfl)
    | ⟨1, _⟩ => Fin.ext (by blk_simp [index_dh t]; rfl)
  exact congrArg (fun z : S8192x5120.Idx => (inputs m c).dH (biasIn m c) (z 0) (z 1)) e.symm

include hg in
theorem array_dx : (dats m 0 c).arrAt 10 cfg0.N = fun y : S8192x1024.Idx => (inputs m c).dX (biasIn m c) (passedIn m c) (y 0) (y 1) := by
  refine (dats m 0 c).arrAt_eq_of_covers 10 _ (by decide +kernel) fun t hf y => ?_
  have h : t.val ≠ 0 := fun h => absurd hf (by rw [flush_10 t h]; decide)
  blk_simp
  rw [after_10, dx_at hg t h]
  have e : (((cfg0.win 10).blk t).view.emb y : S8192x1024.Idx) = ix2 (tileRow (tileBefore t) (y 0)) (y 1) := funext fun a => match a with
    | ⟨0, _⟩ => Fin.ext (by blk_simp [(index_dx t h).2]; rfl)
    | ⟨1, _⟩ => Fin.ext (by blk_simp [(index_dx t h).2]; rfl)
  exact congrArg (fun z : S8192x1024.Idx => (inputs m c).dX (biasIn m c) (passedIn m c) (z 0) (z 1)) e.symm

end Real

end Cert.Kernel2Ideal.Front

end
-- ==== Proof.Front.Law.lean ====
/-
The two spellings of gelu agree on a real argument, and the projection of real tokens by a real weight is real.
-/
module

public import proofs.«01_k».proof.Proof.Front.Host
public import proofs.«01_k».proof.Proof.Tail.Law

@[expose] public section

noncomputable section

namespace Cert.Front

open Idealize.ShloMosaic Cert.Tail Cert.Kernel2Ideal.Front

/-- The two constants of gelu's tanh form are real. -/
theorem lit_scale : ∃ e : ℝ, Ideal.ofBits .f32 0x3F4C422A#32 = (e : EReal) := by
  refine ⟨13386282 / 2 ^ 24, ?_⟩
  simp [Ideal.ofBits, Ideal.ieee, -EReal.coe_mul]; norm_num

theorem lit_cubic : ∃ e : ℝ, Ideal.ofBits .f32 0x3D372713#32 = (e : EReal) := by
  refine ⟨12003091 / 2 ^ 28, ?_⟩
  simp [Ideal.ofBits, Ideal.ieee, -EReal.coe_mul]; norm_num

theorem gelu_real (x : ℝ) : geluSplit (x : EReal) = gelu (x : EReal) := by
  obtain ⟨k, hk⟩ := lit_scale
  obtain ⟨d, hd⟩ := lit_cubic
  unfold geluSplit gelu
  rw [hk, hd, lit_half, show (x : EReal) * ((k : EReal) + (k : EReal) * ((d : EReal) * ((x : EReal) * (x : EReal)))) = ((x * (k + k * (d * (x * x))) : ℝ) : EReal) from by
      simp only [EReal.coe_mul, EReal.coe_add],
    show (k : EReal) * ((x : EReal) + (d : EReal) * ((x : EReal) * (x : EReal) * (x : EReal))) = ((k * (x + d * (x * x * x)) : ℝ) : EReal) from by
      simp only [EReal.coe_mul, EReal.coe_add],
    show x * (k + k * (d * (x * x))) = k * (x + d * (x * x * x)) from by ring,
    show ∀ r : ℝ, Ideal.tanh (r : EReal) = (Real.tanh r : EReal) from fun _ => rfl]
  rw [← EReal.coe_one, ← EReal.coe_add, ← EReal.coe_mul, ← EReal.coe_mul, ← EReal.coe_mul, ← EReal.coe_mul, ← EReal.coe_add]
  exact congrArg _ (by ring)

/-- The arguments the projection takes are real. -/
structure RealArgs (A : Inputs) : Prop where
  x : ∀ i, ∃ a : ℝ, A.x i = a
  wIn : ∀ i, ∃ a : ℝ, A.wIn i = a

theorem RealArgs.proj {A : Inputs} (H : RealArgs A) (r : Fin 8192) (j : Fin 5120) : ∃ a : ℝ, A.proj r j = a :=
  real_sum fun _ => real_mul (H.x _) (H.wIn _)

theorem RealArgs.gelu {A : Inputs} (H : RealArgs A) (r : Fin 8192) (j : Fin 5120) : geluSplit (A.proj r j) = gelu (A.proj r j) := by
  obtain ⟨a, h⟩ := H.proj r j
  rw [h]; exact gelu_real a

end Cert.Front

end
-- ==== Proof.Front.Ref.lean ====
/-
The front's reference, read: the gating unit's four gradients it computes are the closed forms, on any arguments.
-/
module
public import proofs.«01_k».proof.Proof.Front.Spec
public import proofs.«01_k».proof.Proof.Gen.Reference2Ideal.Read
public import Idealize.ShloMosaic.Lib.WordCmp
@[expose] public section
set_option maxRecDepth 16384
noncomputable section
namespace Cert.Front.Ref
open Idealize.ShloMosaic Cert.Reference2Ideal Cert.Reference2Ideal.Gen Cert.Reference2Ideal.Read
variable (A : Inputs)

/-! ### Sums over several axes -/

/-- A host sum over the chunks and a head's columns. -/
theorem sum_chunks (h : S1x64x128x4x256.ReducesTo [1, 4] S1x128x4) (v : S1x64x128x4x256.Idx → EReal) (init : EReal)
    (b : Fin 1) (i : Fin 128) (g : Fin 4) :
    Ideal.hostReduceAdd h v init (ix3 b i g) = init + ∑ n : Fin 64, ∑ c : Fin 256, v (ix5 0 n i g c) := by
  rw [← Fintype.sum_prod_type']
  refine congrArg (init + ·) (Finset.sum_filter_eq_sum_of_fiber _
    (fun q : Fin 64 × Fin 256 => (ix5 0 q.1 i g q.2 : S1x64x128x4x256.Idx))
    (fun _ _ e => Prod.ext (congrFun e 1) (congrFun e 4)) (fun y => ?_) v)
  constructor
  · intro e
    refine ⟨(y 1, y 4), ?_⟩
    funext a; apply Fin.ext
    match a with
    | ⟨0, _⟩ => exact (Nat.lt_one_iff.mp (y 0).isLt).symm
    | ⟨1, _⟩ => rfl
    | ⟨2, _⟩ => exact (congrArg Fin.val (congrFun e 1)).symm
    | ⟨3, _⟩ => exact (congrArg Fin.val (congrFun e 2)).symm
    | ⟨4, _⟩ => rfl
  · rintro ⟨q, rfl⟩
    funext a; apply Fin.ext
    match a with
    | ⟨0, _⟩ => exact (Nat.lt_one_iff.mp b.isLt).symm
    | ⟨1, _⟩ => rfl
    | ⟨2, _⟩ => rfl

/-- A host sum over three axes of length one. -/
theorem sum_units (h : S1x1x128x4x1.ReducesTo [0, 1, 4] S128x4) (v : S1x1x128x4x1.Idx → EReal) (init : EReal)
    (i : Fin 128) (g : Fin 4) : Ideal.hostReduceAdd h v init (ix2 i g) = init + v (ix5 0 0 i g 0) := by
  refine congrArg (init + ·) ((Finset.sum_filter_eq_sum_of_fiber _ (fun _ : Fin 1 => (ix5 0 0 i g 0 : S1x1x128x4x1.Idx))
    (fun _ _ _ => Subsingleton.elim _ _) (fun y => ?_) v).trans (by simp))
  constructor
  · intro e
    refine ⟨0, ?_⟩
    funext a; apply Fin.ext
    match a with
    | ⟨0, _⟩ => exact (Nat.lt_one_iff.mp (y 0).isLt).symm
    | ⟨1, _⟩ => exact (Nat.lt_one_iff.mp (y 1).isLt).symm
    | ⟨2, _⟩ => exact (congrArg Fin.val (congrFun e 0)).symm
    | ⟨3, _⟩ => exact (congrArg Fin.val (congrFun e 1)).symm
    | ⟨4, _⟩ => exact (Nat.lt_one_iff.mp (y 4).isLt).symm
  · rintro ⟨q, rfl⟩
    funext a; apply Fin.ext
    match a with
    | ⟨0, _⟩ => rfl
    | ⟨1, _⟩ => rfl

/-- A host sum over two leading axes of length one. -/
theorem sum_lead (h : S1x1x4x256.ReducesTo [0, 1] S4x256) (v : S1x1x4x256.Idx → EReal) (init : EReal)
    (g : Fin 4) (c : Fin 256) : Ideal.hostReduceAdd h v init (ix2 g c) = init + v (ix4 0 0 g c) := by
  refine congrArg (init + ·) ((Finset.sum_filter_eq_sum_of_fiber _ (fun _ : Fin 1 => (ix4 0 0 g c : S1x1x4x256.Idx))
    (fun _ _ _ => Subsingleton.elim _ _) (fun y => ?_) v).trans (by simp))
  constructor
  · intro e
    refine ⟨0, ?_⟩
    funext a; apply Fin.ext
    match a with
    | ⟨0, _⟩ => exact (Nat.lt_one_iff.mp (y 0).isLt).symm
    | ⟨1, _⟩ => exact (Nat.lt_one_iff.mp (y 1).isLt).symm
    | ⟨2, _⟩ => exact (congrArg Fin.val (congrFun e 0)).symm
    | ⟨3, _⟩ => exact (congrArg Fin.val (congrFun e 1)).symm
  · rintro ⟨q, rfl⟩
    funext a; apply Fin.ext
    match a with
    | ⟨0, _⟩ => rfl
    | ⟨1, _⟩ => rfl

/-- The product under the mixing weight's gradient: a sum over the chunks and a head's columns. -/
theorem matmul_chunks (L : S4x1x64x256x128.Idx → EReal) (R : S1x64x128x4x256.Idx → EReal) (acc : S4x128x128.Idx → EReal)
    (g : Fin 4) (i k : Fin 128) :
    Ideal.matmul dot_S4x1x64x256x128_S1x64x128x4x256_S4x128x128_123_014_4_2_0_3 L R acc (ix3 g i k)
      = acc (ix3 g i k) + ∑ n : Fin 64, ∑ c : Fin 256, L (ix5 g 0 n c i) * R (ix5 0 n k g c) := by
  rw [← Fintype.sum_prod_type' (f := fun (n : Fin 64) (c : Fin 256) => L (ix5 g 0 n c i) * R (ix5 0 n k g c))]
  refine congrArg (acc (ix3 g i k) + ·) (Fintype.sum_equiv (⟨fun y => (y ⟨1, by decide⟩, y ⟨2, by decide⟩),
    fun q p => match p with
      | ⟨0, _⟩ => (0 : Fin 1)
      | ⟨1, _⟩ => q.1
      | ⟨2, _⟩ => q.2, fun y => ?_, fun q => rfl⟩ :
      (dot_S4x1x64x256x128_S1x64x128x4x256_S4x128x128_123_014_4_2_0_3).contr.Idx ≃ Fin 64 × Fin 256) _ _ fun y => ?_)
  · funext p
    match p with
    | ⟨0, _⟩ => exact (Fin.ext (Nat.lt_one_iff.mp (y ⟨0, by decide⟩).isLt).symm)
    | ⟨1, _⟩ => rfl
    | ⟨2, _⟩ => rfl
  · refine congrArg₂ (fun a b => L a * R b) ?_ ?_
    · funext a; apply Fin.ext
      match a with
      | ⟨0, _⟩ => rfl
      | ⟨1, _⟩ => exact Nat.lt_one_iff.mp (Fin.isLt _)
      | ⟨2, _⟩ => rfl
      | ⟨3, _⟩ => rfl
      | ⟨4, _⟩ => rfl
    · funext a; apply Fin.ext
      match a with
      | ⟨0, _⟩ => exact Nat.lt_one_iff.mp (Fin.isLt _)
      | ⟨1, _⟩ => rfl
      | ⟨2, _⟩ => rfl
      | ⟨3, _⟩ => rfl
      | ⟨4, _⟩ => rfl

section Stages
variable (r : Fin 8192) (j : Fin 1024)

theorem u_eq : val_main_v3 (F := Ideal) A.x A.wIn (ix3 0 r j) = A.u r j := by
  unfold val_main_v3 val_main_v1 val_main_v0
  pointwise
  rfl

theorem v_eq : val_main_v4 (F := Ideal) A.x A.wIn (ix3 0 r j) = A.v r j := by
  unfold val_main_v4 val_main_v1 val_main_v0
  pointwise
  rfl

theorem z_eq : val_main_v5 (F := Ideal) A.x A.wIn (ix3 0 r ⟨1024 + j.val, by omega⟩) = A.z r j := by
  unfold val_main_v5 val_main_v1 val_main_v0
  pointwise
  refine Finset.sum_congr rfl fun k _ => congrArg (fun l => A.x (ix3 0 r k) * A.wIn (ix3 0 k l)) (Fin.ext ?_)
  show 3072 + (1024 + j.val) = 4096 + j.val
  omega

theorem gelu_u_eq : val_main_v111 (F := Ideal) A.x A.wIn (ix3 0 r j) = gelu (A.u r j) := by
  unfold val_main_v111 val_main_v110 val_main_v109 val_main_cst_20 val_main_v108 val_main_v107 val_main_cst_19 val_main_v101 val_main_v100 val_main_v99 val_main_cst_16 val_main_v98 val_main_v97 val_main_v96 val_main_cst_15 val_main_v92 val_main_v91
  pointwise [u_eq]
  rfl

theorem gelu_v_eq : val_main_v132 (F := Ideal) A.x A.wIn (ix3 0 r j) = gelu (A.v r j) := by
  unfold val_main_v132 val_main_v131 val_main_v130 val_main_cst_27 val_main_v129 val_main_v128 val_main_cst_26 val_main_v122 val_main_v121 val_main_v120 val_main_cst_23 val_main_v119 val_main_v118 val_main_v117 val_main_cst_22 val_main_v113 val_main_v112
  pointwise [v_eq]
  rfl

theorem dy_silu_eq : val_main_v183 (F := Ideal) A.x A.dy A.wIn (ix3 0 r ⟨1024 + j.val, by omega⟩) = A.dy (ix3 0 r ⟨1024 + j.val, by omega⟩) * silu (A.z r j) := by
  unfold val_main_v183 val_main_v180_0 val_main_v180_2 val_main_call3_v4 val_main_call3_cst_0 val_main_call3_v3 val_main_call3_v2 val_main_call3_cst val_main_call3_v1 val_main_call3_v0
  pointwise [z_eq]
  rfl

theorem dsv_eq : val_main_v187 (F := Ideal) A.x A.dy A.wIn (ix3 0 r j) = A.dsv r j := by
  unfold val_main_v187 val_main_v186
  pointwise [gelu_u_eq, dy_silu_eq]
  rfl
end Stages

section Norm
variable (r : Fin 8192) (g : Fin 4) (c : Fin 256)

theorem split_eq : val_main_v133 (F := Ideal) A.x A.wIn (ix4 0 r g c) = gelu (A.v r (col g c)) := by
  unfold val_main_v133
  pointwise [gelu_v_eq]
  rfl

theorem mean_eq : val_main_v139 (F := Ideal) A.x A.wIn (ix4 0 r g 0) = mean fun c => gelu (A.v r (col g c)) := by
  unfold val_main_v139 val_main_v138 val_main_cst_29 val_main_v137 val_main_v136 val_main_cst_28
  pointwise [split_eq]
  rfl

theorem ctr_eq : val_main_v141 (F := Ideal) A.x A.wIn (ix4 0 r g c) = ctr (fun c => gelu (A.v r (col g c))) c := by
  unfold val_main_v141 val_main_v140
  pointwise [split_eq, mean_eq]
  rfl

theorem ctr_eq₂ : val_main_v150 (F := Ideal) A.x A.wIn (ix4 0 r g c) = ctr (fun c => gelu (A.v r (col g c))) c := by
  unfold val_main_v150 val_main_v149
  pointwise [split_eq, mean_eq]
  rfl

theorem rstd_eq : val_main_v153 (F := Ideal) A.x A.wIn (ix4 0 r g 0) = rstd fun c => gelu (A.v r (col g c)) := by
  unfold val_main_v153 val_main_v152 val_main_v151 val_main_cst_33 val_main_v148 val_main_v147 val_main_cst_32 val_main_v146 val_main_v145 val_main_cst_31 val_main_v142
  pointwise [ctr_eq]
  rfl

theorem vhat_eq : val_main_v158 (F := Ideal) A.x A.wIn (ix4 0 r g c) = A.vhat r g c := by
  unfold val_main_v158 val_main_v157
  pointwise [ctr_eq₂, rstd_eq]
  rfl

theorem vn_eq : val_main_v164 (F := Ideal) A.x A.wIn A.lnG A.lnB (ix4 0 r g c) = A.vn r g c := by
  unfold val_main_v164 val_main_v163 val_main_v162 val_main_v135 val_main_v88 val_main_v161 val_main_v160 val_main_v159 val_main_v134 val_main_v87
  pointwise [vhat_eq]
  rfl
end Norm

section Chunks

variable (n : Fin 64) (i k : Fin 128) (g : Fin 4) (c : Fin 256)

theorem vn_chunk : val_main_v165 (F := Ideal) A.x A.wIn A.lnG A.lnB (ix5 0 n i g c) = A.vn (row n i) g c := by
  unfold val_main_v165
  pointwise
  exact vn_eq A (row n i) g c

theorem dsv_chunk : val_main_v189 (F := Ideal) A.x A.dy A.wIn (ix5 0 n i g c) = A.dsv (row n i) (col g c) := by
  unfold val_main_v189
  pointwise
  exact dsv_eq A (row n i) (col g c)

theorem lower_eq : val_main_v170_1 (F := Ideal) (ix3 g i k) = if k ≤ i then 1#1 else 0#1 := by
  have hi := i.isLt
  have hk := k.isLt
  unfold val_main_v170_1 val_main_v168 val_main_v167 val_main_call1_v5 val_main_call1_c_0 val_main_v166 val_main_c_35 val_main_call1_v4 val_main_call1_v3 val_main_call1_v2 val_main_call1_v1 val_main_call1_c val_main_call1_v0
  pointwise
  rw [show IntOp.addi (BitVec.ofNat 32 i.val) 0#32 = BitVec.ofNat 32 i.val from BitVec.add_zero _, WordCmp.cmpi_sge_ofNat (by omega) (by omega)]
  by_cases h : k ≤ i
  · rw [if_pos h, decide_eq_true (show k.val ≤ i.val from h)]; rfl
  · rw [if_neg h, decide_eq_false (show ¬ k.val ≤ i.val from h)]; rfl

theorem mix_eq : val_main_v170_0 (F := Ideal) A.w (ix3 g i k) = A.mix g i k := by
  unfold val_main_v170_0 val_main_v169 val_main_cst_36 val_main_v89
  pointwise [lower_eq]
  unfold Inputs.mix
  split <;> rfl

theorem dMix_eq : val_main_v195 (F := Ideal) A.x A.dy A.wIn A.lnG A.lnB (ix3 g i k) = A.dMix g i k := by
  unfold val_main_v195 val_main_v194
  pointwise [matmul_chunks, dsv_chunk, vn_chunk]
  rfl

theorem dVn_at (r : Fin 8192) : val_main_v199 (F := Ideal) A.x A.dy A.wIn A.w (ix4 0 r g c)
    = A.dVn ⟨r.val / 128, by omega⟩ ⟨r.val % 128, by omega⟩ g c := by
  unfold val_main_v199 val_main_v197 val_main_v196 val_main_v194
  pointwise [dsv_chunk, mix_eq]
  rfl

theorem dVn_eq : val_main_v199 (F := Ideal) A.x A.dy A.wIn A.w (ix4 0 (row n k) g c) = A.dVn n k g c :=
  (dVn_at A g c (row n k)).trans (congrArg₂ (A.dVn · · g c)
    (Fin.ext (by show (n.val * 128 + k.val) / 128 = n.val; omega)) (Fin.ext (by show (n.val * 128 + k.val) % 128 = k.val; omega)))

end Chunks

section Results

variable (n : Fin 64) (i k : Fin 128) (g : Fin 4) (c : Fin 256)

theorem dW_eq : val_main_v338 (F := Ideal) A.x A.dy A.wIn A.lnG A.lnB (ix3 g i k) = A.dW g i k := by
  unfold val_main_v338 val_main_v263 val_main_v198 val_main_call5_v0 val_main_call5_cst
  pointwise [lower_eq, dMix_eq]
  unfold Inputs.dW
  split <;> rfl

theorem dBias_eq : val_main_v340 (F := Ideal) A.x A.dy A.wIn (ix2 i g) = A.dBias i g := by
  unfold val_main_v340 val_main_v339 val_main_v262 val_main_v193 val_main_v192 val_main_v191 val_main_v190 val_main_cst_37 val_main_cst_38
  pointwise [sum_units, sum_chunks, dsv_chunk]
  rfl

theorem col_div (h : (col g c).val / 256 < 4) : (⟨(col g c).val / 256, h⟩ : Fin 4) = g :=
  Fin.ext (by show (g.val * 256 + c.val) / 256 = g.val; omega)

theorem col_mod (h : (col g c).val % 256 < 256) : (⟨(col g c).val % 256, h⟩ : Fin 256) = c :=
  Fin.ext (by show (g.val * 256 + c.val) % 256 = c.val; omega)

theorem dLnB_eq : val_main_v264 (F := Ideal) A.x A.dy A.wIn A.w (ix2 0 (col g c)) = A.dLnB g c := by
  unfold val_main_v264 val_main_v235 val_main_v202 val_main_v201 val_main_v200 val_main_cst_39 val_main_cst_40
  pointwise [sum_lead]
  exact (Finset.sum_congr rfl fun x _ => congrArg₂ (fun a b => val_main_v199 (F := Ideal) A.x A.dy A.wIn A.w (ix4 0 x a b)) (col_div g c _) (col_mod g c _)).trans
    ((Fin.sum_univ_tiles 64 128 rfl _).trans (Finset.sum_congr rfl fun n _ => Finset.sum_congr rfl fun k _ => dVn_eq A n k g c))

theorem dLnG_eq : val_main_v265 (F := Ideal) A.x A.dy A.wIn A.w (ix2 0 (col g c)) = A.dLnG g c := by
  unfold val_main_v265 val_main_v236 val_main_v208 val_main_v205 val_main_v204 val_main_v203 val_main_cst_41 val_main_cst_42
  pointwise [sum_lead, vhat_eq]
  exact (Finset.sum_congr rfl fun x _ => congrArg₂ (fun a b => A.vhat x a b * val_main_v199 (F := Ideal) A.x A.dy A.wIn A.w (ix4 0 x a b)) (col_div g c _) (col_mod g c _)).trans
    ((Fin.sum_univ_tiles 64 128 rfl _).trans (Finset.sum_congr rfl fun n _ => Finset.sum_congr rfl fun k _ =>
      congrArg (A.vhat (row n k) g c * ·) (dVn_eq A n k g c)))

end Results
end Cert.Front.Ref
-- ==== Proof.Front.PoolRef.lean ====
/-
The front's reference, read at the pool mixer: its weight's gradient and its scale's are the closed forms, on real tokens and a
real projection.
-/
module

public import proofs.«01_k».proof.Proof.Front.Ref
public import proofs.«01_k».proof.Proof.Front.Law
public import proofs.«01_k».proof.Proof.Front.PoolSum

@[expose] public section

set_option maxRecDepth 16384

noncomputable section

namespace Cert.Front.Ref

open Idealize.ShloMosaic Cert.Reference2Ideal Cert.Reference2Ideal.Gen Cert.Reference2Ideal.Read

/-! ### A running sum over the rows -/

theorem foldl_sum {α : Type} (f : α → EReal) (l : List α) (z : EReal) : l.foldl (fun a n => a + f n) z = z + (l.map f).sum := by
  induction l generalizing z with
  | nil => simp
  | cons x l ih => rw [List.foldl_cons, ih, List.map_cons, List.sum_cons, add_assoc]

theorem onward_below (f : Fin 8192 → EReal) (n : ℕ) (h : n < 8192) : onward f n = f ⟨n, h⟩ := dif_pos h

/-- The entries a window of all rows up to `r` takes, over the window's places. -/
theorem sum_places (f : Fin 8192 → EReal) (r : Fin 8192) :
    (∑ k : Fin 8192, if 8191 ≤ r.val + k.val then onward f (r.val + k.val - 8191) else 0) = ∑ s ∈ Finset.range (r.val + 1), onward f s := by
  have hr := r.isLt
  rw [Fin.sum_univ_eq_sum_range (fun k => if 8191 ≤ r.val + k then onward f (r.val + k - 8191) else 0) 8192,
    congrArg Finset.range (show 8192 = (8191 - r.val) + (r.val + 1) by omega), Finset.sum_range_add, Finset.sum_eq_zero (fun k hk => ?_), zero_add]
  · refine Finset.sum_congr rfl fun s _ => ?_
    rw [if_pos (by omega), show r.val + (8191 - r.val + s) - 8191 = s by omega]
  · have := Finset.mem_range.mp hk
    rw [if_neg (by omega)]

theorem sum_window (x : S1x8192x4x256.Idx → EReal)
    (h : S1x8192x4x256.ReduceWindows ![1, 8192, 1, 1] ![1, 1, 1, 1] ![0, 8191, 0, 0] ![0, 0, 0, 0] S1x8192x4x256) (r : Fin 8192) (g : Fin 4) (e : Fin 256) :
    Ideal.hostReduceWindowAdd ![1, 8192, 1, 1] ![1, 1, 1, 1] ![0, 8191, 0, 0] ![0, 0, 0, 0] h x 0 (ix4 0 r g e)
      = ∑ s ∈ Finset.range (r.val + 1), onward (fun s => x (ix4 0 s g e)) s := by
  have p0 : 0 < 4 := by decide
  have p1 : 1 < 4 := by decide
  have p2 : 2 < 4 := by decide
  have p3 : 3 < 4 := by decide
  unfold Ideal.hostReduceWindowAdd Host.reduceWindow
  refine (foldl_sum _ _ _).trans ((zero_add _).trans ((Fin.sum_univ_def _).symm.trans ?_))
  rw [← sum_places]
  refine (Equiv.sum_comp (⟨4, ![1, 8192, 1, 1]⟩ : Shape).rowMajor _).symm.trans ?_
  refine Fintype.sum_equiv (⟨fun w => (w ⟨1, p1⟩ : Fin 8192), fun k a => match a with
    | ⟨0, _⟩ => (0 : Fin 1)
    | ⟨1, _⟩ => k
    | ⟨2, _⟩ => (0 : Fin 1)
    | ⟨3, _⟩ => (0 : Fin 1), fun w => ?_, fun k => rfl⟩ : (⟨4, ![1, 8192, 1, 1]⟩ : Shape).Idx ≃ Fin 8192) _ _ fun w => ?_
  · funext a
    match a with
    | ⟨0, _⟩ => exact (Fin.ext (Nat.lt_one_iff.mp (w ⟨0, p0⟩).isLt).symm)
    | ⟨1, _⟩ => rfl
    | ⟨2, _⟩ => exact (Fin.ext (Nat.lt_one_iff.mp (w ⟨2, p2⟩).isLt).symm)
    | ⟨3, _⟩ => exact (Fin.ext (Nat.lt_one_iff.mp (w ⟨3, p3⟩).isLt).symm)
  · have w0 : (w ⟨0, p0⟩).val = 0 := Nat.lt_one_iff.mp (w ⟨0, p0⟩).isLt
    have w1 : (w ⟨1, p1⟩).val < 8192 := (w ⟨1, p1⟩).isLt
    have w2 : (w ⟨2, p2⟩).val = 0 := Nat.lt_one_iff.mp (w ⟨2, p2⟩).isLt
    have w3 : (w ⟨3, p3⟩).val = 0 := Nat.lt_one_iff.mp (w ⟨3, p3⟩).isLt
    have hr := r.isLt
    have hg := g.isLt
    have he := e.isLt
    simp only [Equiv.symm_apply_apply]
    split
    · next hin =>
      have h1 : 8191 ≤ r.val * 1 + (w ⟨1, p1⟩).val := (hin ⟨1, p1⟩).1
      refine Eq.trans ?_ (if_pos (show 8191 ≤ r.val + (w ⟨1, p1⟩).val by omega)).symm
      refine Eq.trans (congrArg x (funext fun a => Fin.ext ?_)) (onward_below (fun s => x (ix4 0 s g e)) _ (show r.val + (w ⟨1, p1⟩).val - 8191 < 8192 by omega)).symm
      match a with
      | ⟨0, _⟩ => show 0 * 1 + (w ⟨0, p0⟩).val - 0 = 0; omega
      | ⟨1, _⟩ => show r.val * 1 + (w ⟨1, p1⟩).val - 8191 = r.val + (w ⟨1, p1⟩).val - 8191; omega
      | ⟨2, _⟩ => show g.val * 1 + (w ⟨2, p2⟩).val - 0 = g.val; omega
      | ⟨3, _⟩ => show e.val * 1 + (w ⟨3, p3⟩).val - 0 = e.val; omega
    · next hin =>
      refine (if_neg fun hle => ?_).symm
      have hle : 8191 ≤ r.val + (w ⟨1, p1⟩).val := hle
      refine hin fun a => ?_
      match a with
      | ⟨0, _⟩ => show 0 ≤ 0 * 1 + (w ⟨0, p0⟩).val ∧ 0 * 1 + (w ⟨0, p0⟩).val - 0 < 1; omega
      | ⟨1, _⟩ => show 8191 ≤ r.val * 1 + (w ⟨1, p1⟩).val ∧ r.val * 1 + (w ⟨1, p1⟩).val - 8191 < 8192; omega
      | ⟨2, _⟩ => show 0 ≤ g.val * 1 + (w ⟨2, p2⟩).val ∧ g.val * 1 + (w ⟨2, p2⟩).val - 0 < 4; omega
      | ⟨3, _⟩ => show 0 ≤ e.val * 1 + (w ⟨3, p3⟩).val ∧ e.val * 1 + (w ⟨3, p3⟩).val - 0 < 256; omega

/-- The product under the mixing weight's gradient: a sum over the rows. -/
theorem matmul_rows (L : S4x256x1x8192.Idx → EReal) (R : S1x8192x4x256.Idx → EReal) (acc : S4x256x256.Idx → EReal)
    (g : Fin 4) (d e : Fin 256) :
    Ideal.matmul dot_S4x256x1x8192_S1x8192x4x256_S4x256x256_23_01_1_3_0_2 L R acc (ix3 g d e)
      = acc (ix3 g d e) + ∑ r : Fin 8192, L (ix4 g d 0 r) * R (ix4 0 r g e) := by
  refine congrArg (acc (ix3 g d e) + ·) (Fintype.sum_equiv (⟨fun y => y ⟨1, by decide⟩,
    fun q p => match p with
      | ⟨0, _⟩ => (0 : Fin 1)
      | ⟨1, _⟩ => q, fun y => ?_, fun q => rfl⟩ :
      (dot_S4x256x1x8192_S1x8192x4x256_S4x256x256_23_01_1_3_0_2).contr.Idx ≃ Fin 8192) _ _ fun y => ?_)
  · funext p
    match p with
    | ⟨0, _⟩ => exact (Fin.ext (Nat.lt_one_iff.mp (y ⟨0, by decide⟩).isLt).symm)
    | ⟨1, _⟩ => rfl
  · refine congrArg₂ (fun a b => L a * R b) ?_ ?_
    · funext a; apply Fin.ext
      match a with
      | ⟨0, _⟩ => rfl
      | ⟨1, _⟩ => rfl
      | ⟨2, _⟩ => exact Nat.lt_one_iff.mp (Fin.isLt _)
      | ⟨3, _⟩ => rfl
    · funext a; apply Fin.ext
      match a with
      | ⟨0, _⟩ => exact Nat.lt_one_iff.mp (Fin.isLt _)
      | ⟨1, _⟩ => rfl
      | ⟨2, _⟩ => rfl
      | ⟨3, _⟩ => rfl

/-- A host sum over two leading axes of length one. -/
theorem sum_lead_row (h : S1x1x1024.ReducesTo [0, 1] S1024) (v : S1x1x1024.Idx → EReal) (init : EReal)
    (j : Fin 1024) : Ideal.hostReduceAdd h v init (ix1 j) = init + v (ix3 0 0 j) := by
  refine congrArg (init + ·) ((Finset.sum_filter_eq_sum_of_fiber _ (fun _ : Fin 1 => (ix3 0 0 j : S1x1x1024.Idx))
    (fun _ _ _ => Subsingleton.elim _ _) (fun y => ?_) v).trans (by simp))
  constructor
  · intro e
    refine ⟨0, ?_⟩
    funext a; apply Fin.ext
    match a with
    | ⟨0, _⟩ => exact (Nat.lt_one_iff.mp (y 0).isLt).symm
    | ⟨1, _⟩ => exact (Nat.lt_one_iff.mp (y 1).isLt).symm
    | ⟨2, _⟩ => exact (congrArg Fin.val (congrFun e 0)).symm
  · rintro ⟨q, rfl⟩
    funext a; apply Fin.ext
    match a with
    | ⟨0, _⟩ => rfl

/-! ### The pooled columns -/

section Pooled

variable (A : Inputs) (r : Fin 8192) (g : Fin 4) (e : Fin 256)

theorem a_eq : val_main_v8 (F := Ideal) A.x A.wIn (ix4 0 r g e) = A.a r (col g e) := by
  unfold val_main_v8 val_main_v2 val_main_v1 val_main_v0
  pointwise
  rfl

/-- The running sum of a column. -/
def running (A : Inputs) (g : Fin 4) (e : Fin 256) (r : ℕ) : EReal := ∑ s ∈ Finset.range (r + 1), onward (fun s => A.a s (col g e)) s

theorem running_eq : val_main_v9 (F := Ideal) A.x A.wIn (ix4 0 r g e) = running A g e r.val := by
  have h0 (i) : val_main_call0_call0_v0 (F := Ideal) i = 0 := by
    unfold val_main_call0_call0_v0 val_main_call0_call0_cst
    pointwise
  have h := sum_window (val_main_v8 (F := Ideal) A.x A.wIn) reduceWindows_S1x8192x4x256_S1x8192x4x256_w1s1p0_0_w8192s1p8191_0_w1s1p0_0_w1s1p0_0 r g e
  unfold val_main_v9
  unfold running
  simp only [← a_eq]
  generalize val_main_v8 (F := Ideal) A.x A.wIn = x at *
  unfold Host.reduceWindowAdd
  rw [h0]
  exact Eq.trans h rfl

/-- A head's window of sums: the running sum less that of the rows before the window. -/
def shifted (A : Inputs) (g : Fin 4) (e : Fin 256) (n r : ℕ) : EReal := running A g e r - if n ≤ r then running A g e (r - n) else 0

theorem shifted_window {A : Inputs} (H : RealArgs A) (n : ℕ) : shifted A g e n r.val = window n (fun s => A.a s (col g e)) r :=
  window_of_sums n (fun s => A.a s (col g e)) (fun s => H.proj s _) r

theorem shift_if (n : ℕ) : (running A g e r.val - if _ : r.val < n then 0 else running A g e (r.val - n)) = shifted A g e n r.val := by
  unfold shifted
  by_cases h : r.val < n
  · rw [dif_pos h, if_neg (by omega)]
  · rw [dif_neg h, if_pos (by omega)]

theorem counted : FloatOps.sitofp (F := Ideal) .f32 (IntOp.minsi (IntOp.addi (BitVec.ofNat 32 r.val) 1#32) (BitVec.ofNat 32 (span g))) = count g r := by
  have hs : span g ≤ 16 := by
    unfold span
    exact (Nat.pow_le_pow_right (by decide) (show g.val + 1 ≤ 4 by omega))
  unfold count
  exact (congrArg (fun n : ℤ => ((n : ℝ) : EReal)) (count_word r (span g) hs)).trans (by push_cast; rfl)

theorem window0 : val_main_v24 (F := Ideal) A.x A.wIn (ix3 0 r e) = shifted A 0 e 2 r.val := by
  unfold val_main_v24 val_main_v16 val_main_v15 val_main_v14 val_main_cst val_main_v12 val_main_v11
  pointwise [running_eq]
  exact shift_if A r 0 e 2

theorem count0 : val_main_v25 (F := Ideal) (ix3 0 r e) = count 0 r := by
  unfold val_main_v25 val_main_v23 val_main_v22 val_main_v21 val_main_v20 val_main_c_1 val_main_v19 val_main_v18 val_main_c val_main_v10
  pointwise
  exact counted r 0

theorem head0 : val_main_v79 (F := Ideal) A.x A.wIn (ix4 0 r 0 e) = Ideal.div (shifted A 0 e 2 r.val) (count 0 r) := by
  unfold val_main_v79 val_main_v75 val_main_v26
  pointwise [window0, count0]

theorem window1 : val_main_v40 (F := Ideal) A.x A.wIn (ix3 0 r e) = shifted A 1 e 4 r.val := by
  unfold val_main_v40 val_main_v32 val_main_v31 val_main_v30 val_main_cst_2 val_main_v28 val_main_v27
  pointwise [running_eq]
  exact shift_if A r 1 e 4

theorem count1 : val_main_v41 (F := Ideal) (ix3 0 r e) = count 1 r := by
  unfold val_main_v41 val_main_v39 val_main_v38 val_main_v37 val_main_v36 val_main_c_5 val_main_v35 val_main_v34 val_main_c_4 val_main_v10
  pointwise
  exact counted r 1

theorem head1 : val_main_v79 (F := Ideal) A.x A.wIn (ix4 0 r 1 e) = Ideal.div (shifted A 1 e 4 r.val) (count 1 r) := by
  unfold val_main_v79 val_main_v76 val_main_v42
  pointwise [window1, count1]

theorem window2 : val_main_v56 (F := Ideal) A.x A.wIn (ix3 0 r e) = shifted A 2 e 8 r.val := by
  unfold val_main_v56 val_main_v48 val_main_v47 val_main_v46 val_main_cst_6 val_main_v44 val_main_v43
  pointwise [running_eq]
  exact shift_if A r 2 e 8

theorem count2 : val_main_v57 (F := Ideal) (ix3 0 r e) = count 2 r := by
  unfold val_main_v57 val_main_v55 val_main_v54 val_main_v53 val_main_v52 val_main_c_9 val_main_v51 val_main_v50 val_main_c_8 val_main_v10
  pointwise
  exact counted r 2

theorem head2 : val_main_v79 (F := Ideal) A.x A.wIn (ix4 0 r 2 e) = Ideal.div (shifted A 2 e 8 r.val) (count 2 r) := by
  unfold val_main_v79 val_main_v77 val_main_v58
  pointwise [window2, count2]

theorem window3 : val_main_v72 (F := Ideal) A.x A.wIn (ix3 0 r e) = shifted A 3 e 16 r.val := by
  unfold val_main_v72 val_main_v64 val_main_v63 val_main_v62 val_main_cst_10 val_main_v60 val_main_v59
  pointwise [running_eq]
  exact shift_if A r 3 e 16

theorem count3 : val_main_v73 (F := Ideal) (ix3 0 r e) = count 3 r := by
  unfold val_main_v73 val_main_v71 val_main_v70 val_main_v69 val_main_v68 val_main_c_13 val_main_v67 val_main_v66 val_main_c_12 val_main_v10
  pointwise
  exact counted r 3

theorem head3 : val_main_v79 (F := Ideal) A.x A.wIn (ix4 0 r 3 e) = Ideal.div (shifted A 3 e 16 r.val) (count 3 r) := by
  unfold val_main_v79 val_main_v78 val_main_v74
  pointwise [window3, count3]

/-- On real arguments the pooled columns are the closed form's. -/
theorem pooled_eq {A : Inputs} (H : RealArgs A) (r : Fin 8192) (g : Fin 4) (e : Fin 256) :
    val_main_v80 (F := Ideal) A.x A.wIn (ix4 0 r g e) = A.pooled r g e := by
  have hh : val_main_v79 (F := Ideal) A.x A.wIn (ix4 0 r g e) = Ideal.div (shifted A g e (span g) r.val) (count g r) := by
    match g with
    | 0 => exact head0 A r e
    | 1 => exact head1 A r e
    | 2 => exact head2 A r e
    | 3 => exact head3 A r e
  unfold val_main_v80
  pointwise [hh, a_eq]
  rw [shifted_window r g e H]
  rfl

end Pooled

section Rest

variable (A : Inputs) (r : Fin 8192) (j : Fin 1024)

theorem zp_eq : val_main_v5 (F := Ideal) A.x A.wIn (ix3 0 r ⟨j.val, by omega⟩) = A.zp r j := by
  unfold val_main_v5 val_main_v1 val_main_v0
  pointwise
  exact Finset.sum_congr rfl fun k _ => congrArg (fun i => A.x (ix3 0 r k) * A.wIn (ix3 0 k i)) (Fin.ext rfl)

theorem dyp_eq : val_main_v185 (F := Ideal) A.x A.dy A.wIn (ix3 0 r j) = A.dyp r j := by
  unfold val_main_v185 val_main_v183 val_main_v180_0 val_main_v180_2 val_main_call3_v4 val_main_call3_cst_0 val_main_call3_v3 val_main_call3_v2 val_main_call3_cst val_main_call3_v1 val_main_call3_v0
  pointwise [zp_eq]
  rfl

variable (hp : ∀ r g e, val_main_v80 (F := Ideal) A.x A.wIn (ix4 0 r g e) = A.pooled r g e)

include hp in
theorem mixed_eq (g : Fin 4) (e : Fin 256) : val_main_v83 (F := Ideal) A.x A.wIn A.pool (ix3 0 r (col g e)) = A.mixed r g e := by
  have he := e.isLt
  have hc : (col g e).val = g.val * 256 + e.val := rfl
  have h1 (h) : (⟨(col g e).val / 256, h⟩ : Fin 4) = g := Fin.ext (by show (col g e).val / 256 = g.val; omega)
  have h2 (h) : (⟨(col g e).val % 256, h⟩ : Fin 256) = e := Fin.ext (by show (col g e).val % 256 = e.val; omega)
  unfold val_main_v83 val_main_v82 val_main_v81 val_main_v6
  pointwise [hp]
  rw [h1, h2]
  exact Finset.sum_congr rfl fun k _ => mul_comm _ _

include hp in
theorem dScale_eq (g : Fin 4) (e : Fin 256) : val_main_v329 (F := Ideal) A.x A.dy A.wIn A.pool (ix2 0 (col g e)) = A.dScale g e := by
  unfold val_main_v329 val_main_v271 val_main_v268 val_main_v267 val_main_v266 val_main_cst_56 val_main_cst_57
  pointwise [sum_lead_row, dyp_eq]
  exact Finset.sum_congr rfl fun r _ => congrArg (· * A.dyp r (col g e)) (mixed_eq A r hp g e)

include hp in
theorem dPool_eq (g : Fin 4) (e d : Fin 256) : val_main_v337 (F := Ideal) A.x A.dy A.wIn A.scale (ix3 g e d) = A.dPool g e d := by
  unfold val_main_v337 val_main_v330 val_main_v277 val_main_v276 val_main_v273 val_main_v272 val_main_v270 val_main_v269 val_main_v84 val_main_v7
  pointwise [matmul_rows, dyp_eq, hp]
  exact Finset.sum_congr rfl fun r _ => mul_comm _ _

end Rest

end Cert.Front.Ref

end
-- ==== Proof.Front.AdjointLaw.lean ====
/-
The gradients' two spellings agree on real arguments: gelu's and silu's slopes, the norm's derivative, and the sum over the
windows a token is in.
-/
module

public import proofs.«01_k».proof.Proof.Front.Adjoint
public import proofs.«01_k».proof.Proof.Front.Law

@[expose] public section

noncomputable section

namespace Cert.Front

open Idealize.ShloMosaic Cert.Tail

theorem lit_three : Ideal.ofBits .f32 0x40400000#32 = ((3 : ℝ) : EReal) := by
  simp [Ideal.ofBits, Ideal.ieee, -EReal.coe_mul]; norm_num

theorem lit_256 : Ideal.ofBits .f32 0x43800000#32 = ((256 : ℝ) : EReal) := by
  simp [Ideal.ofBits, Ideal.ieee, -EReal.coe_mul]; norm_num

/-! ### The slopes -/

/-- The tanh in gelu. -/
def turn (x : EReal) : EReal := Ideal.tanh (Ideal.ofBits .f32 0x3F4C422A#32 * (x + Ideal.ofBits .f32 0x3D372713#32 * (x * x * x)))

/-- The share of a gradient `d` that goes through it. -/
def turnShare (x d : EReal) : EReal :=
  Ideal.ofBits .f32 0x3F4C422A#32 * (Ideal.ofBits .f32 0x3F000000#32 * (x * d) * ((1 + turn x) * (1 - turn x)))

/-- A gradient `d` taken back through gelu, operation by operation. -/
def geluBack (x d : EReal) : EReal :=
  d * (Ideal.ofBits .f32 0x3F000000#32 * (1 + turn x)) + turnShare x d
    + Ideal.ofBits .f32 0x3D372713#32 * turnShare x d * (Ideal.ofBits .f32 0x40400000#32 * (x * x))

theorem tanh_coe (r : ℝ) : Ideal.tanh (r : EReal) = (Real.tanh r : EReal) := rfl

theorem geluBack_real {x d : EReal} (hx : ∃ a : ℝ, x = a) (hd : ∃ a : ℝ, d = a) : geluBack x d = d * dGelu x := by
  obtain ⟨x, rfl⟩ := hx
  obtain ⟨d, rfl⟩ := hd
  obtain ⟨k, hk⟩ := lit_scale
  obtain ⟨c, hc⟩ := lit_cubic
  have e : x * (k + k * (c * (x * x))) = k * (x + c * (x * x * x)) := by ring
  unfold geluBack turnShare turn dGelu bend
  simp only [hk, hc, lit_half, lit_three, ← EReal.coe_one, ← EReal.coe_mul, ← EReal.coe_add, ← EReal.coe_sub, tanh_coe]
  rw [e]
  generalize Real.tanh (k * (x + c * (x * x * x))) = t
  exact congrArg _ (by ring)

theorem dGelu_real {x : EReal} (hx : ∃ a : ℝ, x = a) : ∃ a : ℝ, dGelu x = a := by
  obtain ⟨x, rfl⟩ := hx
  obtain ⟨k, hk⟩ := lit_scale
  obtain ⟨c, hc⟩ := lit_cubic
  unfold dGelu bend
  simp only [hk, hc, lit_half, lit_three, ← EReal.coe_mul, ← EReal.coe_add, ← EReal.coe_sub, tanh_coe]
  exact ⟨_, rfl⟩

theorem real_gelu {x : EReal} (hx : ∃ a : ℝ, x = a) : ∃ a : ℝ, gelu x = a := by
  obtain ⟨x, rfl⟩ := hx
  obtain ⟨k, hk⟩ := lit_scale
  obtain ⟨c, hc⟩ := lit_cubic
  unfold gelu
  simp only [hk, hc, lit_half, ← EReal.coe_one, ← EReal.coe_mul, ← EReal.coe_add, tanh_coe]
  exact ⟨_, rfl⟩

/-- A gradient `d` taken back through silu. -/
def siluBack (x d : EReal) : EReal := d * Ideal.logistic x + x * d * (Ideal.logistic x * (1 - Ideal.logistic x))

theorem siluBack_real {x d : EReal} (hx : ∃ a : ℝ, x = a) (hd : ∃ a : ℝ, d = a) : siluBack x d = d * dSilu x := by
  obtain ⟨s, hs⟩ := real_logistic x
  obtain ⟨x, rfl⟩ := hx
  obtain ⟨d, rfl⟩ := hd
  unfold siluBack dSilu silu
  simp only [hs, ← EReal.coe_one, ← EReal.coe_mul, ← EReal.coe_add, ← EReal.coe_sub]
  exact congrArg _ (by ring)

theorem real_silu {x : EReal} (hx : ∃ a : ℝ, x = a) : ∃ a : ℝ, silu x = a := real_mul hx (real_logistic x)

/-! ### The norm -/

section Norm

variable (v a : Fin 256 → EReal)

def spread (v : Fin 256 → EReal) : EReal := mean (fun c => ctr v c * ctr v c) + Ideal.ofBits .f32 0x3727C5AC#32

/-- The variance's share of the derivative, per entry, -/
def varShare : EReal :=
  Ideal.div ((∑ i, ctr v i * a i) * (Ideal.ofBits .f32 0xBF000000#32 * Ideal.div (rstd v) (spread v))) (Ideal.ofBits .f32 0x43800000#32)

/-- the mean's share, -/
def meanShare : EReal :=
  Ideal.div ((∑ i, -(a i * rstd v)) + ∑ i, -(varShare v a * (Ideal.ofBits .f32 0x40000000#32 * ctr v i)))
    (Ideal.ofBits .f32 0x43800000#32)

/-- and the derivative, each of the norm's three uses of the row on its own. -/
def normChain (c : Fin 256) : EReal := a c * rstd v + varShare v a * (Ideal.ofBits .f32 0x40000000#32 * ctr v c) + meanShare v a

end Norm

theorem mean_256 (f : Fin 256 → ℝ) : mean (fun j => (f j : EReal)) = (((∑ j, f j) / 256 : ℝ) : EReal) := by
  rw [mean, lit_256, ← coe_sum, div_coe _ _ (by norm_num)]

/-- A centred real row is a real row that sums to zero, and its reciprocal deviation is that of a positive variance. -/
theorem norm_parts (v : Fin 256 → EReal) (h : ∀ j, ∃ x : ℝ, v j = x) :
    ∃ (c : Fin 256 → ℝ) (s : ℝ), (∀ j, ctr v j = c j) ∧ ∑ j, c j = 0 ∧ 0 < s ∧ spread v = s ∧ rstd v = (((√s)⁻¹ : ℝ) : EReal) := by
  choose x hx using h
  obtain ⟨e, he, hl⟩ := lit_eps
  have hc : ∀ j, ctr v j = ((x j - (∑ i, x i) / 256 : ℝ) : EReal) := fun j => by rw [ctr, funext hx, mean_256, ← EReal.coe_sub]
  have h0 : 0 ≤ ∑ j, (x j - (∑ i, x i) / 256) * (x j - (∑ i, x i) / 256) := Finset.sum_nonneg fun j _ => mul_self_nonneg _
  have hs : spread v = (((∑ j, (x j - (∑ i, x i) / 256) * (x j - (∑ i, x i) / 256)) / 256 + e : ℝ) : EReal) := by
    rw [spread, hl, EReal.coe_add, ← mean_256]
    simp only [hc, EReal.coe_mul]
  have hp : 0 < (∑ j, (x j - (∑ i, x i) / 256) * (x j - (∑ i, x i) / 256)) / 256 + e := by positivity
  refine ⟨_, _, hc, ?_, hp, hs, ?_⟩
  · rw [Finset.sum_sub_distrib, Finset.sum_const, Finset.card_univ, Fintype.card_fin]; simp; ring
  · show Ideal.rsqrt (spread v) = _
    rw [hs]
    generalize (∑ j, (x j - (∑ i, x i) / 256) * (x j - (∑ i, x i) / 256)) / 256 + e = s at hp
    show (if s < 0 then (⊥ : EReal) else if s = 0 then ⊤ else (((√s)⁻¹ : ℝ) : EReal)) = _
    rw [if_neg hp.le.not_gt, if_neg hp.ne']

theorem real_rstd (v : Fin 256 → EReal) (h : ∀ j, ∃ x : ℝ, v j = x) : ∃ a : ℝ, rstd v = a := by
  obtain ⟨_, s, _, _, _, _, e⟩ := norm_parts v h
  exact ⟨_, e⟩

theorem real_norm (v : Fin 256 → EReal) (h : ∀ j, ∃ x : ℝ, v j = x) (j : Fin 256) : ∃ a : ℝ, norm v j = a := by
  obtain ⟨_, s, hc, _, _, _, e⟩ := norm_parts v h
  exact real_mul ⟨_, hc j⟩ ⟨_, e⟩

theorem normChain_eq (v a : Fin 256 → EReal) (hv : ∀ j, ∃ x : ℝ, v j = x) (ha : ∀ j, ∃ x : ℝ, a j = x) (j : Fin 256) :
    (∃ x : ℝ, normChain v a j = x) ∧ normChain v a j = normBack a (norm v) (rstd v) j := by
  obtain ⟨c, s, hc, hc0, hs, hse, hr⟩ := norm_parts v hv
  choose a' ha using ha
  have hx : ∀ j, norm v j = ((c j * (√s)⁻¹ : ℝ) : EReal) := fun j => by rw [norm, hc, hr, EReal.coe_mul]
  have key := congrArg (fun r : ℝ => (r : EReal)) (norm_real 256 (by norm_num) c a' hc0 s hs j)
  have h1 : varShare v a = (((∑ i, c i * a' i) * (-1 / 2 * ((√s)⁻¹ / s)) / 256 : ℝ) : EReal) := by
    simp only [varShare, hc, ha, hr, hse, lit_neg_half, lit_256, ← EReal.coe_mul, ← coe_sum, div_coe _ _ hs.ne',
      div_coe _ (256 : ℝ) (by norm_num)]
  have h2 : meanShare v a = ((((∑ i, -(a' i * (√s)⁻¹))
      + ∑ i, -(((∑ i, c i * a' i) * (-1 / 2 * ((√s)⁻¹ / s))) / 256 * (2 * c i))) / 256 : ℝ) : EReal) := by
    simp only [meanShare, hc, ha, hr, h1, lit_two, lit_256, ← EReal.coe_mul, ← EReal.coe_neg, ← coe_sum, ← EReal.coe_add,
      div_coe _ (256 : ℝ) (by norm_num)]
  have h3 : normChain v a j = ((a' j * (√s)⁻¹ + ((∑ i, c i * a' i) * (-1 / 2 * ((√s)⁻¹ / s))) / 256 * (2 * c j)
      + ((∑ i, -(a' i * (√s)⁻¹)) + ∑ i, -(((∑ i, c i * a' i) * (-1 / 2 * ((√s)⁻¹ / s))) / 256 * (2 * c i))) / 256 : ℝ) : EReal) := by
    rw [normChain, h1, h2, ha, hr, hc, lit_two]
    simp only [EReal.coe_mul, EReal.coe_add]
  refine ⟨⟨_, h3⟩, h3.trans (key.trans ?_)⟩
  rw [normBack, funext ha, mean_256, show (fun i => (a' i : EReal) * norm v i) = fun i => ((a' i * (c i * (√s)⁻¹) : ℝ) : EReal) from
    funext fun i => by rw [hx, EReal.coe_mul (a' i)], mean_256, hx, hr, ← EReal.coe_mul, ← EReal.coe_sub, ← EReal.coe_sub, ← EReal.coe_mul]

/-! ### The windows a token is in -/

/-- Differences at distance `n`, summed from `r` to the end, telescope to the `n` rows from `r`. -/
theorem sum_onward (f : Fin 8192 → EReal) (hf : ∀ s, ∃ a : ℝ, f s = a) (n : ℕ) (r : Fin 8192) :
    (∑ k ∈ Finset.range 8192, onward (fun s => f s + if h : s.val + n < 8192 then -f ⟨s.val + n, h⟩ else 0) (r.val + k))
      = ∑ j ∈ Finset.range n, onward f (r.val + j) := by
  choose a ha using hf
  have hg : ∃ g : ℕ → ℝ, (∀ s, onward f s = g s) ∧ ∀ s, 8192 ≤ s → g s = 0 := by
    refine ⟨fun s => if h : s < 8192 then a ⟨s, h⟩ else 0, fun s => ?_, fun s h => dif_neg (by omega)⟩
    unfold onward
    by_cases h : s < 8192
    · simp only [dif_pos h, ha]
    · simp only [dif_neg h, EReal.coe_zero]
  obtain ⟨g, hg, hz⟩ := hg
  have hd (s : ℕ) : onward (fun s => f s + if h : s.val + n < 8192 then -f ⟨s.val + n, h⟩ else 0) s = ((g s - g (s + n) : ℝ) : EReal) := by
    by_cases h : s < 8192
    · have e1 : f ⟨s, h⟩ = g s := ((onward_val f ⟨s, h⟩).symm).trans (hg s)
      refine (onward_val _ ⟨s, h⟩).trans ?_
      by_cases h2 : s + n < 8192
      · have e2 : f ⟨s + n, h2⟩ = g (s + n) := ((onward_val f ⟨s + n, h2⟩).symm).trans (hg _)
        simp only [dif_pos h2, e1, e2, ← EReal.coe_neg, ← EReal.coe_add, sub_eq_add_neg]
      · simp only [dif_neg h2, e1, hz _ (not_lt.mp h2), sub_zero, add_zero]
    · refine (dif_neg h).trans ?_
      rw [hz _ (not_lt.mp h), hz _ (by omega), sub_zero, EReal.coe_zero]
  simp only [hd, hg, ← coe_sum]
  refine congrArg _ ?_
  have h1 := Finset.sum_range_add (fun k => g (r.val + k)) 8192 n
  have h2 := Finset.sum_range_add (fun k => g (r.val + k)) n 8192
  rw [Nat.add_comm n 8192] at h2
  have h3 : ∑ k ∈ Finset.range n, g (r.val + (8192 + k)) = 0 := Finset.sum_eq_zero fun k _ => hz _ (by omega)
  have h4 : ∑ k ∈ Finset.range 8192, g (r.val + k + n) = ∑ k ∈ Finset.range 8192, g (r.val + (n + k)) :=
    Finset.sum_congr rfl fun k _ => congrArg g (by omega)
  rw [Finset.sum_sub_distrib, h4]
  linarith

/-! ### The front's stages are real -/

/-- The arguments of the front's gradients are real. -/
structure RealAll (A : Inputs) (b : (⟨3, ![1, 4, 128]⟩ : Shape).Idx → EReal) : Prop where
  args : RealArgs A
  dy : ∀ i, ∃ a : ℝ, A.dy i = a
  pool : ∀ i, ∃ a : ℝ, A.pool i = a
  scale : ∀ i, ∃ a : ℝ, A.scale i = a
  lnG : ∀ i, ∃ a : ℝ, A.lnG i = a
  lnB : ∀ i, ∃ a : ℝ, A.lnB i = a
  w : ∀ i, ∃ a : ℝ, A.w i = a
  bias : ∀ i, ∃ a : ℝ, b i = a

section Real

variable {A : Inputs} {b : (⟨3, ![1, 4, 128]⟩ : Shape).Idx → EReal} (H : RealAll A b)

include H

theorem RealAll.mix (g : Fin 4) (i k : Fin 128) : ∃ a : ℝ, A.mix g i k = a := by
  unfold Inputs.mix
  split
  · exact H.w _
  · exact ⟨0, EReal.coe_zero.symm⟩

theorem RealAll.gv (r : Fin 8192) (g : Fin 4) (c : Fin 256) : ∃ a : ℝ, gelu (A.v r (col g c)) = a := real_gelu (H.args.proj r _)

theorem RealAll.sv (n : Fin 64) (i : Fin 128) (g : Fin 4) (c : Fin 256) : ∃ a : ℝ, A.sv b n i g c = a :=
  real_add (real_sum fun k => real_mul (H.mix g i k)
    (real_add (real_mul (real_norm _ (H.gv _ g) c) (H.lnG _)) (H.lnB _))) (H.bias _)

theorem RealAll.dVn (n : Fin 64) (k : Fin 128) (g : Fin 4) (c : Fin 256) : ∃ a : ℝ, A.dVn n k g c = a :=
  real_sum fun i => real_mul (real_mul (real_gelu (H.args.proj _ _)) (real_mul (H.dy _) (real_silu (H.args.proj _ _)))) (H.mix g i k)

theorem RealAll.dMean (r : Fin 8192) (g : Fin 4) (c : Fin 256) : ∃ a : ℝ, A.dMean r g c = a :=
  real_sum fun d => real_mul (real_mul (real_mul (H.dy _) (real_silu (H.args.proj _ _))) (H.scale _)) (H.pool _)

theorem real_count (x : EReal) (hx : ∃ a : ℝ, x = a) (g : Fin 4) (r : Fin 8192) : ∃ a : ℝ, Ideal.div x (count g r) = a := by
  obtain ⟨x, rfl⟩ := hx
  have h : 0 < min (r.val + 1) (span g) := lt_min (Nat.succ_pos _) (Nat.two_pow_pos _)
  unfold count
  exact ⟨_, div_coe _ _ (by exact_mod_cast h.ne')⟩

theorem RealAll.each (g : Fin 4) (c : Fin 256) (r : Fin 8192) : ∃ a : ℝ, A.each g c r = a := by
  unfold Inputs.each
  rw [mul_inverse]
  exact real_count H _ (H.dMean r g c) g r

/-- A head's window of the projection, averaged, less the projection. -/
theorem RealAll.pooled (r : Fin 8192) (g : Fin 4) (c : Fin 256) : ∃ a : ℝ, A.pooled r g c = a := by
  unfold Inputs.pooled
  refine real_sub (real_count H _ ?_ g r) (H.args.proj _ _)
  rw [window_onward, ← Fin.sum_univ_eq_sum_range (fun j => if j ≤ r.val then onward (fun s => A.a s (col g c)) (r.val - j) else 0)]
  refine real_sum fun j => ?_
  split
  · unfold onward
    split
    · exact H.args.proj _ _
    · exact ⟨0, EReal.coe_zero.symm⟩
  · exact ⟨0, EReal.coe_zero.symm⟩

theorem RealAll.mixed (r : Fin 8192) (g : Fin 4) (c : Fin 256) : ∃ a : ℝ, A.mixed r g c = a :=
  real_sum fun k => real_mul (H.pooled r g k) (H.pool _)

/-! ### The gradients, operation by operation -/

theorem RealAll.dU (r : Fin 8192) (g : Fin 4) (c : Fin 256) :
    geluBack (A.u r (col g c)) (A.dy (ix3 0 r ⟨1024 + (col g c).val, by omega⟩) * silu (A.z r (col g c)) * A.sv b (upper r) (lower r) g c)
      = A.dU b r g c :=
  geluBack_real (H.args.proj _ _) (real_mul (real_mul (H.dy _) (real_silu (H.args.proj _ _))) (H.sv _ _ g c))

theorem RealAll.dV (r : Fin 8192) (g : Fin 4) (c : Fin 256) :
    geluBack (A.v r (col g c)) (normChain (fun k => gelu (A.v r (col g k))) (fun k => A.dVn (upper r) (lower r) g k * A.lnG (ix2 0 (col g k))) c)
      = A.dV r g c := by
  obtain ⟨h1, h2⟩ := normChain_eq _ (fun k => A.dVn (upper r) (lower r) g k * A.lnG (ix2 0 (col g k))) (H.gv r g)
    (fun k => real_mul (H.dVn _ _ g k) (H.lnG _)) c
  refine (geluBack_real (H.args.proj _ _) h1).trans ((congrArg (· * dGelu (A.v r (col g c))) h2).trans ?_)
  exact mul_right_comm _ _ _

theorem RealAll.dZ (r : Fin 8192) (g : Fin 4) (c : Fin 256) :
    siluBack (A.z r (col g c)) (gelu (A.u r (col g c)) * A.sv b (upper r) (lower r) g c * A.dy (ix3 0 r ⟨1024 + (col g c).val, by omega⟩))
      = A.dZ b r g c :=
  (siluBack_real (H.args.proj _ _) (real_mul (real_mul (real_gelu (H.args.proj _ _)) (H.sv _ _ g c)) (H.dy _))).trans
    (congrArg (· * dSilu (A.z r (col g c))) (mul_comm _ _))

theorem RealAll.dZp (r : Fin 8192) (g : Fin 4) (c : Fin 256) :
    siluBack (A.zp r (col g c)) (A.mixed r g c * A.scale (ix2 0 (col g c)) * A.dy (ix3 0 r ⟨(col g c).val, by omega⟩)) = A.dZp r g c :=
  (siluBack_real (H.args.proj _ _) (real_mul (real_mul (H.mixed r g c) (H.scale _)) (H.dy _))).trans
    (congrArg (· * dSilu (A.zp r (col g c))) (mul_comm _ _))

theorem RealAll.dA (r : Fin 8192) (g : Fin 4) (c : Fin 256) :
    -A.dMean r g c + (∑ k ∈ Finset.range 8192, onward (fun s => A.each g c s
      + if h : s.val + span g < 8192 then -A.each g c ⟨s.val + span g, h⟩ else 0) (r.val + k)) = A.dA r g c := by
  rw [sum_onward (A.each g c) (H.each g c) (span g) r]
  exact add_comm _ _

end Real

end Cert.Front

end
-- ==== Proof.Front.AdjointRef.lean ====
/-
The front's reference, read further: the gradients at the projected row and at the token are the closed forms, on real arguments.
-/
module
public import proofs.«01_k».proof.Proof.Front.PoolRef
public import proofs.«01_k».proof.Proof.Front.AdjointLaw
@[expose] public section
set_option maxRecDepth 16384
noncomputable section
namespace Cert.Front.Ref
open Idealize.ShloMosaic Cert.Reference2Ideal Cert.Reference2Ideal.Gen Cert.Reference2Ideal.Read
variable (A : Inputs) (b : S1x4x128.Idx → EReal) (r : Fin 8192) (g : Fin 4) (e : Fin 256)

/-- A host sum over two axes of length one, the first and the last. -/
theorem sum_outer (h : S1x8192x4x1.ReducesTo [0, 3] S8192x4) (v : S1x8192x4x1.Idx → EReal) (init : EReal)
    (r : Fin 8192) (g : Fin 4) : Ideal.hostReduceAdd h v init (ix2 r g) = init + v (ix4 0 r g 0) := by
  refine congrArg (init + ·) ((Finset.sum_filter_eq_sum_of_fiber _ (fun _ : Fin 1 => (ix4 0 r g 0 : S1x8192x4x1.Idx))
    (fun _ _ _ => Subsingleton.elim _ _) (fun y => ?_) v).trans (by simp))
  constructor
  · intro e
    refine ⟨0, ?_⟩
    funext a; apply Fin.ext
    match a with
    | ⟨0, _⟩ => exact (Nat.lt_one_iff.mp (y 0).isLt).symm
    | ⟨1, _⟩ => exact (congrArg Fin.val (congrFun e 0)).symm
    | ⟨2, _⟩ => exact (congrArg Fin.val (congrFun e 1)).symm
    | ⟨3, _⟩ => exact (Nat.lt_one_iff.mp (y 3).isLt).symm
  · rintro ⟨q, rfl⟩
    funext a; apply Fin.ext
    match a with
    | ⟨0, _⟩ => rfl
    | ⟨1, _⟩ => rfl

/-! ### The gating unit -/

theorem sv_eq : val_main_v177 (F := Ideal) A.x A.wIn A.lnG A.lnB A.w b (ix3 0 r (col g e)) = A.sv b (upper r) (lower r) g e := by
  have he := e.isLt
  have hr := r.isLt
  have hg := g.isLt
  have hc : (col g e).val = g.val * 256 + e.val := rfl
  have h1 (h) : (⟨(col g e).val / 256, h⟩ : Fin 4) = g := Fin.ext (by show (col g e).val / 256 = g.val; omega)
  have h2 (h) : (⟨(col g e).val % 256, h⟩ : Fin 256) = e := Fin.ext (by show (col g e).val % 256 = e.val; omega)
  unfold val_main_v177 val_main_v176 val_main_v175 val_main_v174 val_main_v173 val_main_v90 val_main_v172 val_main_v171
  pointwise [vn_chunk, mix_eq]
  rw [h1, h2]
  exact congrArg (· + b (ix3 0 g (lower r))) (Finset.sum_congr rfl fun k _ => mul_comm _ _)

/-- The gradient at gelu of `u`, -/
theorem dGate_eq : val_main_v188 (F := Ideal) A.x A.dy A.wIn A.lnG A.lnB A.w b (ix3 0 r (col g e))
    = A.dy (ix3 0 r ⟨1024 + (col g e).val, by omega⟩) * silu (A.z r (col g e)) * A.sv b (upper r) (lower r) g e := by
  unfold val_main_v188 val_main_v186
  pointwise [dy_silu_eq, sv_eq]

/-- and at `u`. -/
theorem dU_chain : val_main_v261 (F := Ideal) A.x A.dy A.wIn A.lnG A.lnB A.w b (ix3 0 r (col g e))
    = geluBack (A.u r (col g e)) (A.dy (ix3 0 r ⟨1024 + (col g e).val, by omega⟩) * silu (A.z r (col g e)) * A.sv b (upper r) (lower r) g e) := by
  unfold val_main_v261 val_main_v260 val_main_v259 val_main_v258 val_main_cst_55 val_main_v257 val_main_v256 val_main_v255 val_main_cst_54 val_main_v254 val_main_v253 val_main_v252 val_main_cst_53 val_main_v251 val_main_v250
    val_main_v110 val_main_v109 val_main_cst_20 val_main_v108 val_main_v107 val_main_cst_19 val_main_v106 val_main_v105 val_main_v104 val_main_cst_18 val_main_v103 val_main_v102 val_main_cst_17 val_main_v101 val_main_v100 val_main_v99 val_main_cst_16 val_main_v98 val_main_v97 val_main_v96 val_main_cst_15 val_main_v95 val_main_v94 val_main_cst_14 val_main_v93 val_main_v92 val_main_v91
  pointwise [u_eq, dGate_eq]
  rfl

/-- The gradient at the normalised row after the gain. -/
def dGain (A : Inputs) (r : Fin 8192) (g : Fin 4) (c : Fin 256) : EReal := A.dVn (upper r) (lower r) g c * A.lnG (ix2 0 (col g c))

theorem dGain_eq : val_main_v207 (F := Ideal) A.x A.dy A.wIn A.lnG A.w (ix4 0 r g e) = dGain A r g e := by
  unfold val_main_v207 val_main_v206 val_main_v159 val_main_v134 val_main_v87
  pointwise [dVn_at]
  rfl

theorem scaled_eq : val_main_v213 (F := Ideal) A.x A.dy A.wIn A.lnG A.w (ix4 0 r g e) = dGain A r g e * rstd fun c => gelu (A.v r (col g c)) := by
  unfold val_main_v213 val_main_v212
  pointwise [dGain_eq, rstd_eq]

theorem varShare_eq : val_main_v220 (F := Ideal) A.x A.dy A.wIn A.lnG A.w (ix2 r g) = varShare (fun c => gelu (A.v r (col g c))) (dGain A r g) := by
  unfold val_main_v220 val_main_cst_46 val_main_v219 val_main_v218 val_main_cst_45 val_main_v214 val_main_v211 val_main_v210 val_main_cst_43 val_main_v209 val_main_v156 val_main_v155 val_main_cst_34 val_main_v154 val_main_v152 val_main_v151 val_main_cst_33 val_main_v148 val_main_v147 val_main_cst_32 val_main_v146 val_main_v145 val_main_cst_31 val_main_v142
  pointwise [sum_outer, ctr_eq, ctr_eq₂, dGain_eq, rstd_eq]
  rfl

theorem spread_eq : val_main_v223 (F := Ideal) A.x A.dy A.wIn A.lnG A.w (ix4 0 r g e)
    = varShare (fun c => gelu (A.v r (col g c))) (dGain A r g) * (Ideal.ofBits .f32 0x40000000#32 * ctr (fun c => gelu (A.v r (col g c))) e) := by
  unfold val_main_v223 val_main_v222 val_main_v221 val_main_v144 val_main_v143 val_main_cst_30
  pointwise [varShare_eq, ctr_eq]

theorem meanShare_eq : val_main_v231 (F := Ideal) A.x A.dy A.wIn A.lnG A.w (ix2 r g) = meanShare (fun c => gelu (A.v r (col g c))) (dGain A r g) := by
  unfold val_main_v231 val_main_cst_49 val_main_v230 val_main_v229 val_main_cst_48 val_main_v228 val_main_v226 val_main_v225 val_main_cst_47 val_main_v224 val_main_v217 val_main_v216 val_main_cst_44 val_main_v215
  pointwise [sum_outer, scaled_eq, spread_eq]
  rfl

theorem normChain_at : val_main_v234 (F := Ideal) A.x A.dy A.wIn A.lnG A.w (ix4 0 r g e) = normChain (fun c => gelu (A.v r (col g c))) (dGain A r g) e := by
  unfold val_main_v234 val_main_v233 val_main_v232 val_main_v227
  pointwise [scaled_eq, spread_eq, meanShare_eq]
  rfl

theorem dV_chain : val_main_v249 (F := Ideal) A.x A.dy A.wIn A.lnG A.w (ix3 0 r (col g e))
    = geluBack (A.v r (col g e)) (normChain (fun c => gelu (A.v r (col g c))) (dGain A r g) e) := by
  have he := e.isLt
  have hc : (col g e).val = g.val * 256 + e.val := rfl
  have h1 (h) : (⟨(col g e).val / 256, h⟩ : Fin 4) = g := Fin.ext (by show (col g e).val / 256 = g.val; omega)
  have h2 (h) : (⟨(col g e).val % 256, h⟩ : Fin 256) = e := Fin.ext (by show (col g e).val % 256 = e.val; omega)
  have h3 : val_main_v237 (F := Ideal) A.x A.dy A.wIn A.lnG A.w (ix3 0 r (col g e)) = normChain (fun c => gelu (A.v r (col g c))) (dGain A r g) e := by
    unfold val_main_v237
    pointwise
    rw [h1, h2]
    exact normChain_at A r g e
  unfold val_main_v249 val_main_v248 val_main_v247 val_main_v246 val_main_cst_52 val_main_v245 val_main_v244 val_main_v243 val_main_cst_51 val_main_v242 val_main_v241 val_main_v240 val_main_cst_50 val_main_v239 val_main_v238
    val_main_v131 val_main_v130 val_main_cst_27 val_main_v129 val_main_v128 val_main_cst_26 val_main_v127 val_main_v126 val_main_v125 val_main_cst_25 val_main_v124 val_main_v123 val_main_cst_24 val_main_v122 val_main_v121 val_main_v120 val_main_cst_23 val_main_v119 val_main_v118 val_main_v117 val_main_cst_22 val_main_v116 val_main_v115 val_main_cst_21 val_main_v114 val_main_v113 val_main_v112
  pointwise [v_eq, h3]
  rfl

/-! ### The two gates -/

theorem dGated (j : Fin 2048) (z q : EReal) (hz : val_main_v5 (F := Ideal) A.x A.wIn (ix3 0 r j) = z)
    (hq : val_main_v179 (F := Ideal) A.x A.wIn A.pool A.scale A.lnG A.lnB A.w b (ix3 0 r j) = q) :
    val_main_v184 (F := Ideal) A.x A.dy A.wIn A.pool A.scale A.lnG A.lnB A.w b (ix3 0 r j) = siluBack z (q * A.dy (ix3 0 r j)) := by
  unfold val_main_v184 val_main_call4_v2 val_main_call4_v1 val_main_call4_v0 val_main_v182 val_main_v180_1 val_main_call3_v7 val_main_call3_v6 val_main_call3_cst_1 val_main_v180_2 val_main_call3_v4 val_main_call3_cst_0 val_main_call3_v3 val_main_call3_v2 val_main_call3_cst val_main_call3_v1 val_main_call3_v0
  pointwise [hz, hq]
  rfl

theorem gated_low (hp : ∀ r g e, val_main_v80 (F := Ideal) A.x A.wIn (ix4 0 r g e) = A.pooled r g e) :
    val_main_v179 (F := Ideal) A.x A.wIn A.pool A.scale A.lnG A.lnB A.w b (ix3 0 r ⟨(col g e).val, by omega⟩) = A.mixed r g e * A.scale (ix2 0 (col g e)) := by
  unfold val_main_v179 val_main_v86 val_main_v85 val_main_v84 val_main_v7
  pointwise
  exact congrArg (· * _) (mixed_eq A r hp g e)

theorem gated_high :
    val_main_v179 (F := Ideal) A.x A.wIn A.pool A.scale A.lnG A.lnB A.w b (ix3 0 r ⟨1024 + (col g e).val, by omega⟩)
      = gelu (A.u r (col g e)) * A.sv b (upper r) (lower r) g e := by
  unfold val_main_v179 val_main_v178
  pointwise
  exact congrArg₂ (· * ·) (gelu_u_eq A r (col g e)) (sv_eq A b r g e)

/-! ### The pool mixer -/

/-- The entries a window of all rows from `r` on takes. -/
theorem sum_window_down (x : S1x8192x4x256.Idx → EReal)
    (h : S1x8192x4x256.ReduceWindows ![1, 8192, 1, 1] ![1, 1, 1, 1] ![0, 0, 0, 0] ![0, 8191, 0, 0] S1x8192x4x256) (r : Fin 8192) (g : Fin 4) (e : Fin 256) :
    Ideal.hostReduceWindowAdd ![1, 8192, 1, 1] ![1, 1, 1, 1] ![0, 0, 0, 0] ![0, 8191, 0, 0] h x 0 (ix4 0 r g e)
      = ∑ k ∈ Finset.range 8192, onward (fun s => x (ix4 0 s g e)) (r.val + k) := by
  have p0 : 0 < 4 := by decide
  have p1 : 1 < 4 := by decide
  have p2 : 2 < 4 := by decide
  have p3 : 3 < 4 := by decide
  unfold Ideal.hostReduceWindowAdd Host.reduceWindow
  refine (foldl_sum _ _ _).trans ((zero_add _).trans ((Fin.sum_univ_def _).symm.trans ?_))
  rw [← Fin.sum_univ_eq_sum_range (fun k => onward (fun s => x (ix4 0 s g e)) (r.val + k)) 8192]
  refine (Equiv.sum_comp (⟨4, ![1, 8192, 1, 1]⟩ : Shape).rowMajor _).symm.trans ?_
  refine Fintype.sum_equiv (⟨fun w => (w ⟨1, p1⟩ : Fin 8192), fun k a => match a with
    | ⟨0, _⟩ => (0 : Fin 1)
    | ⟨1, _⟩ => k
    | ⟨2, _⟩ => (0 : Fin 1)
    | ⟨3, _⟩ => (0 : Fin 1), fun w => ?_, fun k => rfl⟩ : (⟨4, ![1, 8192, 1, 1]⟩ : Shape).Idx ≃ Fin 8192) _ _ fun w => ?_
  · funext a
    match a with
    | ⟨0, _⟩ => exact (Fin.ext (Nat.lt_one_iff.mp (w ⟨0, p0⟩).isLt).symm)
    | ⟨1, _⟩ => rfl
    | ⟨2, _⟩ => exact (Fin.ext (Nat.lt_one_iff.mp (w ⟨2, p2⟩).isLt).symm)
    | ⟨3, _⟩ => exact (Fin.ext (Nat.lt_one_iff.mp (w ⟨3, p3⟩).isLt).symm)
  · have w0 : (w ⟨0, p0⟩).val = 0 := Nat.lt_one_iff.mp (w ⟨0, p0⟩).isLt
    have w1 : (w ⟨1, p1⟩).val < 8192 := (w ⟨1, p1⟩).isLt
    have w2 : (w ⟨2, p2⟩).val = 0 := Nat.lt_one_iff.mp (w ⟨2, p2⟩).isLt
    have w3 : (w ⟨3, p3⟩).val = 0 := Nat.lt_one_iff.mp (w ⟨3, p3⟩).isLt
    have hr := r.isLt
    have hg := g.isLt
    have he := e.isLt
    simp only [Equiv.symm_apply_apply]
    split
    · next hin =>
      have h1 : r.val * 1 + (w ⟨1, p1⟩).val - 0 < 8192 := (hin ⟨1, p1⟩).2
      refine Eq.trans (congrArg x (funext fun a => Fin.ext ?_)) (onward_below (fun s => x (ix4 0 s g e)) _ (show r.val + (w ⟨1, p1⟩).val < 8192 by omega)).symm
      match a with
      | ⟨0, _⟩ => show 0 * 1 + (w ⟨0, p0⟩).val - 0 = 0; omega
      | ⟨1, _⟩ => show r.val * 1 + (w ⟨1, p1⟩).val - 0 = r.val + (w ⟨1, p1⟩).val; omega
      | ⟨2, _⟩ => show g.val * 1 + (w ⟨2, p2⟩).val - 0 = g.val; omega
      | ⟨3, _⟩ => show e.val * 1 + (w ⟨3, p3⟩).val - 0 = e.val; omega
    · next hin =>
      refine Eq.symm (?_ : onward (fun s => x (ix4 0 s g e)) (r.val + (w ⟨1, p1⟩).val) = 0)
      refine dif_neg fun hle => ?_
      refine hin fun a => ?_
      match a with
      | ⟨0, _⟩ => show 0 ≤ 0 * 1 + (w ⟨0, p0⟩).val ∧ 0 * 1 + (w ⟨0, p0⟩).val - 0 < 1; omega
      | ⟨1, _⟩ => show 0 ≤ r.val * 1 + (w ⟨1, p1⟩).val ∧ r.val * 1 + (w ⟨1, p1⟩).val - 0 < 8192; omega
      | ⟨2, _⟩ => show 0 ≤ g.val * 1 + (w ⟨2, p2⟩).val ∧ g.val * 1 + (w ⟨2, p2⟩).val - 0 < 4; omega
      | ⟨3, _⟩ => show 0 ≤ e.val * 1 + (w ⟨3, p3⟩).val ∧ e.val * 1 + (w ⟨3, p3⟩).val - 0 < 256; omega

theorem dMean_eq : val_main_v275 (F := Ideal) A.x A.dy A.wIn A.pool A.scale (ix4 0 r g e) = A.dMean r g e := by
  unfold val_main_v275 val_main_v274 val_main_v273 val_main_v272 val_main_v270 val_main_v269 val_main_v84 val_main_v7 val_main_v6
  pointwise [dyp_eq]
  rfl

/-- A token's share, less that of the token a window further on. -/
def drop (A : Inputs) (g : Fin 4) (e : Fin 256) (r : Fin 8192) : EReal :=
  A.each g e r + if h : r.val + span g < 8192 then -A.each g e ⟨r.val + span g, h⟩ else 0

theorem drop0 : val_main_v322 (F := Ideal) A.x A.dy A.wIn A.pool A.scale (ix3 0 r e) = drop A 0 e r := by
  have h (r) : val_main_v317 (F := Ideal) A.x A.dy A.wIn A.pool A.scale (ix3 0 r e) = A.each 0 e r := by
    unfold val_main_v317 val_main_v280 val_main_v279 val_main_v316
    pointwise [dMean_eq]
    unfold Inputs.each
    rw [mul_inverse]
    exact congrArg (Ideal.div _) (count0 r e)
  have hs : span 0 = 2 := rfl
  unfold val_main_v322 val_main_v321 val_main_v320 val_main_v318 val_main_cst_64
  pointwise [h]
  refine congrArg (A.each 0 e r + ·) ?_
  by_cases hr : r.val < 8190
  · rw [dif_pos hr, dif_pos (by omega)]
    exact congrArg (fun s => -A.each 0 e s) (Fin.ext (by show 2 + r.val = r.val + span 0; omega))
  · rw [dif_neg hr, dif_neg (by omega)]

theorem drop1 : val_main_v312 (F := Ideal) A.x A.dy A.wIn A.pool A.scale (ix3 0 r e) = drop A 1 e r := by
  have h (r) : val_main_v307 (F := Ideal) A.x A.dy A.wIn A.pool A.scale (ix3 0 r e) = A.each 1 e r := by
    unfold val_main_v307 val_main_v282 val_main_v281 val_main_v306
    pointwise [dMean_eq]
    unfold Inputs.each
    rw [mul_inverse]
    exact congrArg (Ideal.div _) (count1 r e)
  have hs : span 1 = 4 := rfl
  unfold val_main_v312 val_main_v311 val_main_v310 val_main_v308 val_main_cst_62
  pointwise [h]
  refine congrArg (A.each 1 e r + ·) ?_
  by_cases hr : r.val < 8188
  · rw [dif_pos hr, dif_pos (by omega)]
    exact congrArg (fun s => -A.each 1 e s) (Fin.ext (by show 4 + r.val = r.val + span 1; omega))
  · rw [dif_neg hr, dif_neg (by omega)]

theorem drop2 : val_main_v302 (F := Ideal) A.x A.dy A.wIn A.pool A.scale (ix3 0 r e) = drop A 2 e r := by
  have h (r) : val_main_v297 (F := Ideal) A.x A.dy A.wIn A.pool A.scale (ix3 0 r e) = A.each 2 e r := by
    unfold val_main_v297 val_main_v284 val_main_v283 val_main_v296
    pointwise [dMean_eq]
    unfold Inputs.each
    rw [mul_inverse]
    exact congrArg (Ideal.div _) (count2 r e)
  have hs : span 2 = 8 := rfl
  unfold val_main_v302 val_main_v301 val_main_v300 val_main_v298 val_main_cst_60
  pointwise [h]
  refine congrArg (A.each 2 e r + ·) ?_
  by_cases hr : r.val < 8184
  · rw [dif_pos hr, dif_pos (by omega)]
    exact congrArg (fun s => -A.each 2 e s) (Fin.ext (by show 8 + r.val = r.val + span 2; omega))
  · rw [dif_neg hr, dif_neg (by omega)]

theorem drop3 : val_main_v293 (F := Ideal) A.x A.dy A.wIn A.pool A.scale (ix3 0 r e) = drop A 3 e r := by
  have h (r) : val_main_v288 (F := Ideal) A.x A.dy A.wIn A.pool A.scale (ix3 0 r e) = A.each 3 e r := by
    unfold val_main_v288 val_main_v286 val_main_v285 val_main_v287
    pointwise [dMean_eq]
    unfold Inputs.each
    rw [mul_inverse]
    exact congrArg (Ideal.div _) (count3 r e)
  have hs : span 3 = 16 := rfl
  unfold val_main_v293 val_main_v292 val_main_v291 val_main_v289 val_main_cst_58
  pointwise [h]
  refine congrArg (A.each 3 e r + ·) ?_
  by_cases hr : r.val < 8176
  · rw [dif_pos hr, dif_pos (by omega)]
    exact congrArg (fun s => -A.each 3 e s) (Fin.ext (by show 16 + r.val = r.val + span 3; omega))
  · rw [dif_neg hr, dif_neg (by omega)]

theorem drop_eq : val_main_v325 (F := Ideal) A.x A.dy A.wIn A.pool A.scale (ix4 0 r g e) = drop A g e r := by
  unfold val_main_v325 val_main_v324 val_main_v323 val_main_v315 val_main_v314 val_main_v313 val_main_v305 val_main_v304 val_main_v303 val_main_v295 val_main_v294 val_main_cst_59 val_main_cst_61 val_main_cst_63 val_main_cst_65
  match g with
  | 0 => pointwise; exact drop0 A r e
  | 1 => pointwise; exact drop1 A r e
  | 2 => pointwise; exact drop2 A r e
  | 3 => pointwise; exact drop3 A r e

theorem dA_at :
    val_main_v328 (F := Ideal) A.x A.dy A.wIn A.pool A.scale (ix3 0 r (col g e))
    = -A.dMean r g e + ∑ k ∈ Finset.range 8192, onward (drop A g e) (r.val + k) := by
  have he := e.isLt
  have hc : (col g e).val = g.val * 256 + e.val := rfl
  have h1 (h) : (⟨(col g e).val / 256, h⟩ : Fin 4) = g := Fin.ext (by show (col g e).val / 256 = g.val; omega)
  have h2 (h) : (⟨(col g e).val % 256, h⟩ : Fin 256) = e := Fin.ext (by show (col g e).val % 256 = e.val; omega)
  have h0 (i) : val_main_call6_call0_v0 (F := Ideal) i = 0 := by
    unfold val_main_call6_call0_v0 val_main_call6_call0_cst
    pointwise
  have h := sum_window_down (val_main_v325 (F := Ideal) A.x A.dy A.wIn A.pool A.scale) reduceWindows_S1x8192x4x256_S1x8192x4x256_w1s1p0_0_w8192s1p0_8191_w1s1p0_0_w1s1p0_0 r g e
  have h3 : val_main_v326 (F := Ideal) A.x A.dy A.wIn A.pool A.scale (ix4 0 r g e) = ∑ k ∈ Finset.range 8192, onward (drop A g e) (r.val + k) := by
    unfold val_main_v326
    rw [show drop A g e = fun s => val_main_v325 (F := Ideal) A.x A.dy A.wIn A.pool A.scale (ix4 0 s g e) from funext fun s => (drop_eq A s g e).symm]
    generalize val_main_v325 (F := Ideal) A.x A.dy A.wIn A.pool A.scale = x at *
    unfold Host.reduceWindowAdd
    rw [h0]
    exact Eq.trans h rfl
  unfold val_main_v328 val_main_v327 val_main_v278
  pointwise
  rw [h1, h2, dMean_eq, h3]

/-! ### The results -/

section Results

variable (H : RealAll A b)

include H in
theorem group_eq (k : Fin 5) (j : Fin 5120) (h : j.val = 1024 * k.val + (g.val * 256 + e.val)) :
    val_main_v331 (F := Ideal) A.x A.dy A.wIn A.pool A.scale A.lnG A.lnB A.w b (ix3 0 r j) = A.group b k r g e := by
  have hp := fun r g e => pooled_eq H.args r g e
  have hc : (col g e).val = g.val * 256 + e.val := rfl
  have hl := (col g e).isLt
  unfold val_main_v331
  match k with
  | 0 =>
    rw [show j = ⟨(col g e).val, by omega⟩ from Fin.ext (by simp only at h ⊢; omega)]
    pointwise
    exact (dA_at A r g e).trans (H.dA r g e)
  | 1 =>
    rw [show j = ⟨1024 + (col g e).val, by omega⟩ from Fin.ext (by simp only at h ⊢; omega)]
    pointwise
    exact (dU_chain A b r g e).trans (H.dU r g e)
  | 2 =>
    rw [show j = ⟨2048 + (col g e).val, by omega⟩ from Fin.ext (by simp only at h ⊢; omega)]
    pointwise
    rw [dif_neg (by omega), dif_neg (by omega), dif_pos (by omega)]
    refine Eq.trans (congrArg (fun j => val_main_v249 (F := Ideal) A.x A.dy A.wIn A.lnG A.w (ix3 0 r j)) (Fin.ext (by show 2048 + (col g e).val - 1024 - 1024 = (col g e).val; omega) :
      (⟨2048 + (col g e).val - 1024 - 1024, by omega⟩ : Fin 1024) = col g e)) ?_
    exact (dV_chain A r g e).trans (H.dV r g e)
  | 3 =>
    rw [show j = ⟨3072 + (col g e).val, by omega⟩ from Fin.ext (by simp only at h ⊢; omega)]
    pointwise
    rw [dif_neg (by omega), dif_neg (by omega), dif_neg (by omega)]
    refine Eq.trans (congrArg (fun j => val_main_v184 (F := Ideal) A.x A.dy A.wIn A.pool A.scale A.lnG A.lnB A.w b (ix3 0 r j)) (Fin.ext (by show 3072 + (col g e).val - 1024 - 1024 - 1024 = (col g e).val; omega) :
      (⟨3072 + (col g e).val - 1024 - 1024 - 1024, by omega⟩ : Fin 2048) = ⟨(col g e).val, by omega⟩)) ?_
    exact (dGated A b r ⟨(col g e).val, by omega⟩ _ _ (zp_eq A r (col g e)) (gated_low A b r g e hp)).trans (H.dZp r g e)
  | 4 =>
    rw [show j = ⟨4096 + (col g e).val, by omega⟩ from Fin.ext (by simp only at h ⊢; omega)]
    pointwise
    rw [dif_neg (by omega), dif_neg (by omega), dif_neg (by omega)]
    refine Eq.trans (congrArg (fun j => val_main_v184 (F := Ideal) A.x A.dy A.wIn A.pool A.scale A.lnG A.lnB A.w b (ix3 0 r j)) (Fin.ext (by show 4096 + (col g e).val - 1024 - 1024 - 1024 = 1024 + (col g e).val; omega) :
      (⟨4096 + (col g e).val - 1024 - 1024 - 1024, by omega⟩ : Fin 2048) = ⟨1024 + (col g e).val, by omega⟩)) ?_
    exact (dGated A b r ⟨1024 + (col g e).val, by omega⟩ _ _ (z_eq A r (col g e)) (gated_high A b r g e)).trans (H.dZ r g e)

include H in
theorem dH_row (j : Fin 5120) : val_main_v331 (F := Ideal) A.x A.dy A.wIn A.pool A.scale A.lnG A.lnB A.w b (ix3 0 r j) = A.dH b r j :=
  group_eq A b r ⟨j.val % 1024 / 256, by omega⟩ ⟨j.val % 256, by omega⟩ H ⟨j.val / 1024, by omega⟩ j (by simp only; omega)

include H in
theorem dH_eq (j : Fin 5120) : val_main_v335 (F := Ideal) A.x A.dy A.wIn A.pool A.scale A.lnG A.lnB A.w b (ix2 r j) = A.dH b r j := by
  unfold val_main_v335 val_main_v334
  pointwise
  exact dH_row A b r H j

include H in
theorem dX_eq (p : S1x8192x1024.Idx → EReal) (k : Fin 1024) :
    val_main_v336 (F := Ideal) A.x A.dy p A.wIn A.pool A.scale A.lnG A.lnB A.w b (ix2 r k) = A.dX b p r k := by
  unfold val_main_v336 val_main_v333 val_main_v332 val_main_v0
  pointwise [dH_row A b _ H]
  rfl

end Results

end Cert.Front.Ref

end
-- ==== Proof.Front.RefFrame.lean ====
/-
The run of the front's reference leaves its ten arguments unchanged.
-/
module

public import proofs.«01_k».proof.Proof.Gen.Reference2Ideal.Run
public import Idealize.ShloMosaic.Lib.Pointwise

@[expose] public section

noncomputable section

namespace Cert.Front.Ref

open Cert.Reference2Ideal Cert.Reference2Ideal.Gen
open Idealize.ShloMosaic Idealize.ShloMosaic.TcCoe Idealize.SL.Sem Idealize.ShloMosaic.StableHlo

/-- The arguments end as launched and the counters at zero: the program has no semaphore. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2.2.2.2.2.2.2.2, sem_eq_zero_of_no_sems (by decide) r.2⟩) (Value.run m ρ)

end Cert.Front.Ref

end
-- ==== Proof.Front.RefRun.lean ====
/-
The run of the front's reference on real arguments: its eight results in closed form, ten arguments unchanged.
-/
module

public import proofs.«01_k».proof.Proof.Front.Ref
public import proofs.«01_k».proof.Proof.Front.PoolRef
public import proofs.«01_k».proof.Proof.Front.AdjointRef
public import proofs.«01_k».proof.Proof.Front.RefFrame

@[expose] public section

set_option maxRecDepth 16384

noncomputable section

namespace Cert.Front

/-- A row of the four heads' columns. -/
def byHead (f : Fin 4 → Fin 256 → EReal) (j : Fin 1024) : EReal := f ⟨j.val / 256, by omega⟩ ⟨j.val % 256, by omega⟩

theorem col_split (j : Fin 1024) : j = col ⟨j.val / 256, by omega⟩ ⟨j.val % 256, by omega⟩ :=
  Fin.ext (by show j.val = j.val / 256 * 256 + j.val % 256; omega)

namespace Ref

open Cert.Reference2Ideal Cert.Reference2Ideal.Gen Cert.Reference2Ideal.Read
open Idealize.ShloMosaic Idealize.ShloMosaic.TcCoe Idealize.SL.Sem Idealize.ShloMosaic.StableHlo

section Whole

variable (A : Inputs)

theorem dLnG_whole : val_main_v265 (F := Ideal) A.x A.dy A.wIn A.w = fun y : S1x1024.Idx => byHead A.dLnG (y 1) :=
  funext fun y => by
    rw [eq_ix2 y, Fin.fin_one_eq_zero (y 0)]
    exact (congrArg (fun j => val_main_v265 (F := Ideal) A.x A.dy A.wIn A.w (ix2 0 j)) (col_split (y 1))).trans (dLnG_eq A _ _)

theorem dLnB_whole : val_main_v264 (F := Ideal) A.x A.dy A.wIn A.w = fun y : S1x1024.Idx => byHead A.dLnB (y 1) :=
  funext fun y => by
    rw [eq_ix2 y, Fin.fin_one_eq_zero (y 0)]
    exact (congrArg (fun j => val_main_v264 (F := Ideal) A.x A.dy A.wIn A.w (ix2 0 j)) (col_split (y 1))).trans (dLnB_eq A _ _)

theorem dW_whole : val_main_v338 (F := Ideal) A.x A.dy A.wIn A.lnG A.lnB = fun y : S4x128x128.Idx => A.dW (y 0) (y 1) (y 2) :=
  funext fun y => by rw [eq_ix3 y]; exact dW_eq A _ _ _

theorem dBias_whole : val_main_v340 (F := Ideal) A.x A.dy A.wIn = fun y : S128x4.Idx => A.dBias (y 0) (y 1) :=
  funext fun y => by rw [eq_ix2 y]; exact dBias_eq A _ _

theorem dScale_whole (H : RealArgs A) : val_main_v329 (F := Ideal) A.x A.dy A.wIn A.pool = fun y : S1x1024.Idx => byHead A.dScale (y 1) :=
  funext fun y => by
    rw [eq_ix2 y, Fin.fin_one_eq_zero (y 0)]
    exact (congrArg (fun j => val_main_v329 (F := Ideal) A.x A.dy A.wIn A.pool (ix2 0 j)) (col_split (y 1))).trans (dScale_eq A (pooled_eq H) _ _)

theorem dPool_whole (H : RealArgs A) : val_main_v337 (F := Ideal) A.x A.dy A.wIn A.scale = fun y : S4x256x256.Idx => A.dPool (y 0) (y 1) (y 2) :=
  funext fun y => by rw [eq_ix3 y]; exact dPool_eq A (pooled_eq H) _ _ _

section All

variable (b : S1x4x128.Idx → EReal) (H : RealAll A b)

include H

theorem dH_whole : val_main_v335 (F := Ideal) A.x A.dy A.wIn A.pool A.scale A.lnG A.lnB A.w b = fun y : S8192x5120.Idx => A.dH b (y 0) (y 1) :=
  funext fun y => by rw [eq_ix2 y]; exact dH_eq A b _ H _

theorem dX_whole (p : S1x8192x1024.Idx → EReal) :
    val_main_v336 (F := Ideal) A.x A.dy p A.wIn A.pool A.scale A.lnG A.lnB A.w b = fun y : S8192x1024.Idx => A.dX b p (y 0) (y 1) :=
  funext fun y => by rw [eq_ix2 y]; exact dX_eq A b _ H p _

end All

end Whole

variable (m : (ℓ : Loc nD τ sig) → Buf (Elt Ideal) ℓ) (ρ : Dev nD → PrngReg) (c : Dev nD)

/-- The argument arrays in the reference's launch memory. -/
def inputs : Inputs where
  x := m (c, main_arg0)
  dy := m (c, main_arg1)
  wIn := m (c, main_arg3)
  lnG := m (c, main_arg6)
  lnB := m (c, main_arg7)
  w := m (c, main_arg8)
  pool := m (c, main_arg4)
  scale := m (c, main_arg5)

/-- The gating unit's bias there, -/
def biasIn : S1x4x128.Idx → EReal := m (c, main_arg9)

/-- and the part of the input gradient that is passed. -/
def passedIn : S1x8192x1024.Idx → EReal := m (c, main_arg2)

/-- The run leaves every result at the gradient it stands for, and the arguments as launched. -/
theorem run_closed (H : ∀ c, RealAll (inputs m c) (biasIn m c)) :
    θ_run defs (onTc (τ := τ) (main (F := Ideal))) ⟨m, fun _ => 0, ρ⟩ (fun r => ∀ c : Dev nD,
      r.2.mem ((c.tc : Thread nD τ).loc main_v335) = (fun y : S8192x5120.Idx => (inputs m c).dH (biasIn m c) (y 0) (y 1))
      ∧ r.2.mem ((c.tc : Thread nD τ).loc main_v336) = (fun y : S8192x1024.Idx => (inputs m c).dX (biasIn m c) (passedIn m c) (y 0) (y 1))
      ∧ r.2.mem ((c.tc : Thread nD τ).loc main_v337) = (fun y : S4x256x256.Idx => (inputs m c).dPool (y 0) (y 1) (y 2))
      ∧ r.2.mem ((c.tc : Thread nD τ).loc main_v329) = (fun y : S1x1024.Idx => byHead (inputs m c).dScale (y 1))
      ∧ r.2.mem ((c.tc : Thread nD τ).loc main_v265) = (fun y : S1x1024.Idx => byHead (inputs m c).dLnG (y 1))
      ∧ r.2.mem ((c.tc : Thread nD τ).loc main_v264) = (fun y : S1x1024.Idx => byHead (inputs m c).dLnB (y 1))
      ∧ r.2.mem ((c.tc : Thread nD τ).loc main_v338) = (fun y : S4x128x128.Idx => (inputs m c).dW (y 0) (y 1) (y 2))
      ∧ r.2.mem ((c.tc : Thread nD τ).loc main_v340) = (fun y : S128x4.Idx => (inputs m c).dBias (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨hh, hx, hp, hs, h0, h1, h2, h3, hk⟩ := h c
    exact ⟨hh.trans ((val_main_v335_eq (launchContents m c)).trans (dH_whole (inputs m c) (biasIn m c) (H c))),
      hx.trans ((val_main_v336_eq (launchContents m c)).trans (dX_whole (inputs m c) (biasIn m c) (H c) (passedIn m c))),
      hp.trans ((val_main_v337_eq (launchContents m c)).trans (dPool_whole (inputs m c) (H c).args)),
      hs.trans ((val_main_v329_eq (launchContents m c)).trans (dScale_whole (inputs m c) (H c).args)),
      h0.trans ((val_main_v265_eq (launchContents m c)).trans (dLnG_whole (inputs m c))),
      h1.trans ((val_main_v264_eq (launchContents m c)).trans (dLnB_whole (inputs m c))),
      h2.trans ((val_main_v338_eq (launchContents m c)).trans (dW_whole (inputs m c))),
      h3.trans ((val_main_v340_eq (launchContents m c)).trans (dBias_whole (inputs m c))), hk⟩)
    (Value.run m ρ)

end Ref

end Cert.Front

end
-- ==== Proof.Front.Closed.lean ====
/-
The front kernel's run on real tokens and a real projection: its eight results in closed form, ten arguments unchanged.
-/
module

public import proofs.«01_k».proof.Proof.Front.Arrays
public import proofs.«01_k».proof.Proof.Front.PoolTotal
public import proofs.«01_k».proof.Proof.Front.AdjointTotal
public import proofs.«01_k».proof.Proof.Front.Law
public import proofs.«01_k».proof.Proof.Front.RefRun

@[expose] public section

set_option maxRecDepth 16384

noncomputable section

namespace Cert.Kernel2Ideal.Front

open Cert.Front Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- On real arguments the two spellings of gelu agree on the projection. -/
theorem agrees (c : Dev nD) (H : RealArgs (inputs m c)) : Agrees m c := ⟨fun r _ => H.gelu r _, fun r _ => H.gelu r _⟩

/-- The weights' gradient under the mask. -/
theorem masked (A : Inputs) : maskArr lowerArr (mixes A) = fun y : S4x128x128.Idx => A.dW (y 0) (y 1) (y 2) :=
  funext fun y => by rw [eq_ix3 y]; exact maskArr_at (mixes A) _ _ _

theorem run_closed (H : ∀ c, RealArgs (inputs m c)) : θ_run defs (onTc (τ := τ) (main (F := Ideal))) ⟨m, fun _ => 0, ρ⟩ (fun r => ∀ c : Dev nD,
      r.2.mem ((c.tc : Thread nD τ).loc main_v192_0) = (fun y : S8192x5120.Idx => (inputs m c).dH (biasIn m c) (y 0) (y 1))
      ∧ r.2.mem ((c.tc : Thread nD τ).loc main_v192_1) = (fun y : S8192x1024.Idx => (inputs m c).dX (biasIn m c) (passedIn m c) (y 0) (y 1))
      ∧ r.2.mem ((c.tc : Thread nD τ).loc main_v192_2) = (fun y : S4x256x256.Idx => (inputs m c).dPool (y 0) (y 1) (y 2))
      ∧ r.2.mem ((c.tc : Thread nD τ).loc main_v192_3) = (fun y : S1x1024.Idx => byHead (inputs m c).dScale (y 1))
      ∧ r.2.mem ((c.tc : Thread nD τ).loc main_v192_4) = (fun y : S1x1024.Idx => byHead (inputs m c).dLnG (y 1))
      ∧ r.2.mem ((c.tc : Thread nD τ).loc main_v192_5) = (fun y : S1x1024.Idx => byHead (inputs m c).dLnB (y 1))
      ∧ r.2.mem ((c.tc : Thread nD τ).loc main_v194) = (fun y : S4x128x128.Idx => (inputs m c).dW (y 0) (y 1) (y 2))
      ∧ r.2.mem ((c.tc : Thread nD τ).loc main_v192_7) = (fun y : S128x4.Idx => (inputs m c).dBias (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h => fun c => ⟨((h.1 c).1 9).trans (array_dh (agrees m c (H c))), ((h.1 c).1 10).trans (array_dx (agrees m c (H c))),
      ((h.1 c).1 11).trans (array_pool m c), ((h.1 c).1 12).trans (array_scale m c),
      ((h.1 c).1 13).trans (array_g (agrees m c (H c))),
      ((h.1 c).1 14).trans (array_b (agrees m c (H c))),
      ((h.1 c).2 main_v194 (Pipeline.mem_restRefs_of main_v194 (by decide) (by decide))).trans ((found_mask m c).trans
        ((congrArg (maskArr lowerArr) (array_w (agrees m c (H c)))).trans (masked (inputs m c)))),
      ((h.1 c).1 16).trans (array_bias (agrees m c (H c))), h.2.1 c⟩)
    (θ_run_and (run_main m ρ) (frame m ρ))

end Cert.Kernel2Ideal.Front

end
-- ==== Proof.Front.Finite.lean ====
/-
The front's precondition, read: every entry of the nine arrays it names is a real number.
-/
module

public import proofs.«01_k».proof.Pre_finite_front
public import proofs.«01_k».proof.Proof.Front.AdjointLaw
public import proofs.«01_k».proof.Proof.Tail.Finite

@[expose] public section

set_option maxRecDepth 16384

noncomputable section

namespace Cert.Front.Finite

open Idealize.ShloMosaic Cert.Pre_finite_front

theorem facts : Cert.Pre_finite_front.Facts where
  bcast_S_S1x8192x1024 := by decide
  bcast_S_S1x8192x2048 := by decide
  bcast_S_S1x1024x5120 := by decide
  bcast_S_S1x4x256x256 := by decide
  bcast_S_S1x1024 := by decide
  bcast_S_S1x4x128x128 := by decide
  bcast_S_S1x4x128 := by decide

section Arguments

variable [Cert.Pre_finite_front.Facts] (A : Inputs) (dxPart : FVec Ideal S1x8192x1024 .f32) (b : FVec Ideal S1x4x128 .f32)

/-- The predicate's nine arrays of comparisons. -/
def tests := Cert.Pre_finite_front.fn (F := Ideal) A.x A.dy dxPart A.wIn A.pool A.scale A.lnG A.lnB A.w b

/-- Where each comparison holds throughout, the nine arrays are real. -/
theorem realAll (h : (tests A dxPart b).1 = (fun _ => 1#1)
    ∧ (tests A dxPart b).2.1 = (fun _ => 1#1)
    ∧ (tests A dxPart b).2.2.1 = (fun _ => 1#1)
    ∧ (tests A dxPart b).2.2.2.1 = (fun _ => 1#1)
    ∧ (tests A dxPart b).2.2.2.2.1 = (fun _ => 1#1)
    ∧ (tests A dxPart b).2.2.2.2.2.1 = (fun _ => 1#1)
    ∧ (tests A dxPart b).2.2.2.2.2.2.1 = (fun _ => 1#1)
    ∧ (tests A dxPart b).2.2.2.2.2.2.2.1 = (fun _ => 1#1)
    ∧ (tests A dxPart b).2.2.2.2.2.2.2.2 = (fun _ => 1#1)) : RealAll A b where
  args := ⟨Cert.Tail.Finite.real_of Facts.bcast_S_S1x8192x1024 A.x h.1, Cert.Tail.Finite.real_of Facts.bcast_S_S1x1024x5120 A.wIn h.2.2.1⟩
  dy := Cert.Tail.Finite.real_of Facts.bcast_S_S1x8192x2048 A.dy h.2.1
  pool := Cert.Tail.Finite.real_of Facts.bcast_S_S1x4x256x256 A.pool h.2.2.2.1
  scale := Cert.Tail.Finite.real_of Facts.bcast_S_S1x1024 A.scale h.2.2.2.2.1
  lnG := Cert.Tail.Finite.real_of Facts.bcast_S_S1x1024 A.lnG h.2.2.2.2.2.1
  lnB := Cert.Tail.Finite.real_of Facts.bcast_S_S1x1024 A.lnB h.2.2.2.2.2.2.1
  w := Cert.Tail.Finite.real_of Facts.bcast_S_S1x4x128x128 A.w h.2.2.2.2.2.2.2.1
  bias := Cert.Tail.Finite.real_of Facts.bcast_S_S1x4x128 b h.2.2.2.2.2.2.2.2

end Arguments

end Cert.Front.Finite

end
-- ==== Proof.lean ====
/-
The proof of `Cert.Claim`: the backward pass of the layer's tail leaves, at the ideal, the nine arrays its reference leaves,
the backward pass of its front the eight, and all run to the end with their arguments unchanged.
-/
module

public import proofs.«01_k».proof.Defs
public import proofs.«01_k».proof.Proof.Gen.Kernel
public import proofs.«01_k».proof.Proof.Tail.Run
public import proofs.«01_k».proof.Proof.Tail.RefRun
public import proofs.«01_k».proof.Proof.Tail.Finite
public import proofs.«01_k».proof.Proof.Gen.Kernel2
public import proofs.«01_k».proof.Proof.Front.Closed
public import proofs.«01_k».proof.Proof.Front.Finite
public import Idealize.ShloMosaic.Lib.Ring

@[expose] public section

noncomputable section

namespace Cert.Proof

open Idealize.ShloMosaic Idealize.SL.Sem Idealize.ShloMosaic.Tactic

theorem algebraic_tail : Cert.algebraic_KernelIdeal_ReferenceIdeal_pre_finite (hKernelIdeal := Cert.KernelIdeal.Gen.facts)
    (hReferenceIdeal := Cert.ReferenceIdeal.Gen.facts) (hPre_finite := Cert.Tail.Finite.facts) := by
  intro m ρ m' ρ' hpre hargs
  have same : ∀ c : Dev Cert.KernelIdeal.nD, Cert.Tail.Ref.inputs m' c = Cert.KernelIdeal.Tail.inputs m c := fun c => by
    obtain ⟨h0, h1, h2, h3, h4, h5, h6, h7, h8, h9⟩ := hargs c
    unfold Cert.Tail.Ref.inputs Cert.KernelIdeal.Tail.inputs
    exact congr (congr (congr (congr (congr (congr (congr (congr (congr (congrArg Cert.Tail.Inputs.mk h0) h1) h2) h3) h4) h5) h6) h7) h8) h9
  have real : ∀ (c : Dev Cert.KernelIdeal.nD) r, Cert.Tail.RealArgs (Cert.KernelIdeal.Tail.inputs m c).weights
      ((Cert.KernelIdeal.Tail.inputs m c).token r) := fun c r =>
    letI := Cert.Tail.Finite.facts
    Cert.Tail.Finite.realArgs (Cert.KernelIdeal.Tail.inputs m c) (hpre c) r
  refine ⟨_, _, _, _, _, _, _, _, _, Cert.KernelIdeal.Tail.run_closed m ρ, ?_⟩
  refine (θ_run Cert.ReferenceIdeal.defs _ _).mono (fun r h c => ?_)
    (Cert.Tail.Ref.run_closed m' ρ' fun c r => (same c).symm ▸ real c r)
  have h := h c
  rw [same c] at h
  exact h

theorem algebraic_front : Cert.algebraic_Kernel2Ideal_Reference2Ideal_pre_finite_front (hKernel2Ideal := Cert.Kernel2Ideal.Gen.facts)
    (hReference2Ideal := Cert.Reference2Ideal.Gen.facts) (hPre_finite_front := Cert.Front.Finite.facts) := by
  intro m ρ m' ρ' hpre hargs
  have same : ∀ c : Dev Cert.Kernel2Ideal.nD, Cert.Front.Ref.inputs m' c = Cert.Kernel2Ideal.Front.inputs m c := fun c => by
    obtain ⟨h0, h1, -, h3, h4, h5, h6, h7, h8, -⟩ := hargs c
    unfold Cert.Front.Ref.inputs Cert.Kernel2Ideal.Front.inputs
    exact congr (congr (congr (congr (congr (congr (congr (congrArg Cert.Front.Inputs.mk h0) h1) h3) h6) h7) h8) h4) h5
  have bias : ∀ c : Dev Cert.Kernel2Ideal.nD, Cert.Front.Ref.biasIn m' c = Cert.Kernel2Ideal.Front.biasIn m c := fun c =>
    (hargs c).2.2.2.2.2.2.2.2.2
  have passed : ∀ c : Dev Cert.Kernel2Ideal.nD, Cert.Front.Ref.passedIn m' c = Cert.Kernel2Ideal.Front.passedIn m c := fun c => (hargs c).2.2.1
  have real : ∀ c : Dev Cert.Kernel2Ideal.nD, Cert.Front.RealAll (Cert.Kernel2Ideal.Front.inputs m c) (Cert.Kernel2Ideal.Front.biasIn m c) := fun c =>
    letI := Cert.Front.Finite.facts
    Cert.Front.Finite.realAll (Cert.Kernel2Ideal.Front.inputs m c) (Cert.Kernel2Ideal.Front.passedIn m c) (Cert.Kernel2Ideal.Front.biasIn m c) (hpre c)
  refine ⟨_, _, _, _, _, _, _, _, Cert.Kernel2Ideal.Front.run_closed m ρ fun c => (real c).args, ?_⟩
  refine (θ_run Cert.Reference2Ideal.defs _ _).mono (fun r h c => ?_)
    (Cert.Front.Ref.run_closed m' ρ' fun c => (same c).symm ▸ (bias c).symm ▸ real c)
  have h := h c
  rw [same c, bias c, passed c] at h
  exact h

/-- The printed kernel and its idealised text are one program, so one run gives both frames. -/
theorem frame_kernel : Cert.quiescent_Kernel (hKernel := Cert.Kernel.Gen.facts) := fun m ρ _ =>
  cast (by sl_kernel_rfl) (Cert.KernelIdeal.Tail.frame (F := Bits) m ρ)

theorem frame_kernel_front : Cert.quiescent_Kernel2 (hKernel2 := Cert.Kernel2.Gen.facts) := fun m ρ _ =>
  cast (by sl_kernel_rfl) (Cert.Kernel2Ideal.Front.frame (F := Bits) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Tail.Finite.facts, Cert.Front.Finite.facts,
  frame_kernel,
  fun m ρ _ => Cert.KernelIdeal.Tail.frame m ρ,
  fun m ρ _ => Cert.KernelIdeal.Tail.frame m ρ,
  fun m ρ _ => Cert.Tail.Ref.frame m ρ,
  fun m ρ _ => Cert.Tail.Ref.frame m ρ,
  frame_kernel_front,
  fun m ρ _ => Cert.Kernel2Ideal.Front.frame m ρ,
  fun m ρ _ => Cert.Kernel2Ideal.Front.frame m ρ,
  fun m ρ _ => Cert.Front.Ref.frame m ρ,
  fun m ρ _ => Cert.Front.Ref.frame m ρ,
  trivial,
  algebraic_tail,
  trivial,
  algebraic_front⟩

end Cert.Proof

end
